-- ==== Defs.lean ====
def Pre_ScoresKernel (m : (ℓ : Loc Cert.ScoresKernel.nD Cert.ScoresKernel.τ Cert.ScoresKernel.sig) → Buf (Elt Bits) ℓ) : Prop :=
  True

def Pre_ScoresKernelIdeal (m : (ℓ : Loc Cert.ScoresKernelIdeal.nD Cert.ScoresKernelIdeal.τ Cert.ScoresKernelIdeal.sig) → Buf (Elt Ideal) ℓ) : Prop :=
  True

def Pre_ScoresReferenceIdeal (m : (ℓ : Loc Cert.ScoresReferenceIdeal.nD Cert.ScoresReferenceIdeal.τ Cert.ScoresReferenceIdeal.sig) → Buf (Elt Ideal) ℓ) : Prop :=
  True

def Pre_Kernel [hPre_candidates_fit : Cert.Pre_candidates_fit.Facts] (m : (ℓ : Loc Cert.Kernel.nD Cert.Kernel.τ Cert.Kernel.sig) → Buf (Elt Bits) ℓ) : Prop :=
  ∀ c : Dev Cert.Kernel.nD,
    (Cert.Pre_candidates_fit.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_candidates_fit : Cert.Pre_candidates_fit.Facts] (m : (ℓ : Loc Cert.KernelIdeal.nD Cert.KernelIdeal.τ Cert.KernelIdeal.sig) → Buf (Elt Ideal) ℓ) : Prop :=
  ∀ c : Dev Cert.KernelIdeal.nD,
    (Cert.Pre_candidates_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_candidates_fit : Cert.Pre_candidates_fit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_candidates_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_RowsKernel [hPre_rows_fit : Cert.Pre_rows_fit.Facts] (m : (ℓ : Loc Cert.RowsKernel.nD Cert.RowsKernel.τ Cert.RowsKernel.sig) → Buf (Elt Bits) ℓ) : Prop :=
  ∀ c : Dev Cert.RowsKernel.nD,
    (Cert.Pre_rows_fit.fn (F := Bits) (m ((c.tc : Thread Cert.RowsKernel.nD Cert.RowsKernel.τ).loc Cert.RowsKernel.main_arg0)) (m ((c.tc : Thread Cert.RowsKernel.nD Cert.RowsKernel.τ).loc Cert.RowsKernel.main_arg1)) (m ((c.tc : Thread Cert.RowsKernel.nD Cert.RowsKernel.τ).loc Cert.RowsKernel.main_arg2)) (m ((c.tc : Thread Cert.RowsKernel.nD Cert.RowsKernel.τ).loc Cert.RowsKernel.main_arg3)) (m ((c.tc : Thread Cert.RowsKernel.nD Cert.RowsKernel.τ).loc Cert.RowsKernel.main_arg4))) = (fun _ => 1#1)

def Pre_RowsKernelIdeal [hPre_rows_fit : Cert.Pre_rows_fit.Facts] (m : (ℓ : Loc Cert.RowsKernelIdeal.nD Cert.RowsKernelIdeal.τ Cert.RowsKernelIdeal.sig) → Buf (Elt Ideal) ℓ) : Prop :=
  ∀ c : Dev Cert.RowsKernelIdeal.nD,
    (Cert.Pre_rows_fit.fn (F := Ideal) (m ((c.tc : Thread Cert.RowsKernelIdeal.nD Cert.RowsKernelIdeal.τ).loc Cert.RowsKernelIdeal.main_arg0)) (m ((c.tc : Thread Cert.RowsKernelIdeal.nD Cert.RowsKernelIdeal.τ).loc Cert.RowsKernelIdeal.main_arg1)) (m ((c.tc : Thread Cert.RowsKernelIdeal.nD Cert.RowsKernelIdeal.τ).loc Cert.RowsKernelIdeal.main_arg2)) (m ((c.tc : Thread Cert.RowsKernelIdeal.nD Cert.RowsKernelIdeal.τ).loc Cert.RowsKernelIdeal.main_arg3)) (m ((c.tc : Thread Cert.RowsKernelIdeal.nD Cert.RowsKernelIdeal.τ).loc Cert.RowsKernelIdeal.main_arg4))) = (fun _ => 1#1)

def Pre_RowsReferenceIdeal [hPre_rows_fit : Cert.Pre_rows_fit.Facts] (m : (ℓ : Loc Cert.RowsReferenceIdeal.nD Cert.RowsReferenceIdeal.τ Cert.RowsReferenceIdeal.sig) → Buf (Elt Ideal) ℓ) : Prop :=
  ∀ c : Dev Cert.RowsReferenceIdeal.nD,
    (Cert.Pre_rows_fit.fn (F := Ideal) (m ((c.tc : Thread Cert.RowsReferenceIdeal.nD Cert.RowsReferenceIdeal.τ).loc Cert.RowsReferenceIdeal.main_arg0)) (m ((c.tc : Thread Cert.RowsReferenceIdeal.nD Cert.RowsReferenceIdeal.τ).loc Cert.RowsReferenceIdeal.main_arg1)) (m ((c.tc : Thread Cert.RowsReferenceIdeal.nD Cert.RowsReferenceIdeal.τ).loc Cert.RowsReferenceIdeal.main_arg2)) (m ((c.tc : Thread Cert.RowsReferenceIdeal.nD Cert.RowsReferenceIdeal.τ).loc Cert.RowsReferenceIdeal.main_arg3)) (m ((c.tc : Thread Cert.RowsReferenceIdeal.nD Cert.RowsReferenceIdeal.τ).loc Cert.RowsReferenceIdeal.main_arg4))) = (fun _ => 1#1)

def Pre_SortKernel [hPre_ids_differ : Cert.Pre_ids_differ.Facts] (m : (ℓ : Loc Cert.SortKernel.nD Cert.SortKernel.τ Cert.SortKernel.sig) → Buf (Elt Bits) ℓ) : Prop :=
  ∀ c : Dev Cert.SortKernel.nD,
    (Cert.Pre_ids_differ.fn (F := Bits) (m ((c.tc : Thread Cert.SortKernel.nD Cert.SortKernel.τ).loc Cert.SortKernel.main_arg0)) (m ((c.tc : Thread Cert.SortKernel.nD Cert.SortKernel.τ).loc Cert.SortKernel.main_arg1)) (m ((c.tc : Thread Cert.SortKernel.nD Cert.SortKernel.τ).loc Cert.SortKernel.main_arg2)) (m ((c.tc : Thread Cert.SortKernel.nD Cert.SortKernel.τ).loc Cert.SortKernel.main_arg3))) = (fun _ => 1#1)

def Pre_SortKernelIdeal [hPre_ids_differ : Cert.Pre_ids_differ.Facts] (m : (ℓ : Loc Cert.SortKernelIdeal.nD Cert.SortKernelIdeal.τ Cert.SortKernelIdeal.sig) → Buf (Elt Ideal) ℓ) : Prop :=
  ∀ c : Dev Cert.SortKernelIdeal.nD,
    (Cert.Pre_ids_differ.fn (F := Ideal) (m ((c.tc : Thread Cert.SortKernelIdeal.nD Cert.SortKernelIdeal.τ).loc Cert.SortKernelIdeal.main_arg0)) (m ((c.tc : Thread Cert.SortKernelIdeal.nD Cert.SortKernelIdeal.τ).loc Cert.SortKernelIdeal.main_arg1)) (m ((c.tc : Thread Cert.SortKernelIdeal.nD Cert.SortKernelIdeal.τ).loc Cert.SortKernelIdeal.main_arg2)) (m ((c.tc : Thread Cert.SortKernelIdeal.nD Cert.SortKernelIdeal.τ).loc Cert.SortKernelIdeal.main_arg3))) = (fun _ => 1#1)

def Pre_SortReferenceIdeal [hPre_ids_differ : Cert.Pre_ids_differ.Facts] (m : (ℓ : Loc Cert.SortReferenceIdeal.nD Cert.SortReferenceIdeal.τ Cert.SortReferenceIdeal.sig) → Buf (Elt Ideal) ℓ) : Prop :=
  ∀ c : Dev Cert.SortReferenceIdeal.nD,
    (Cert.Pre_ids_differ.fn (F := Ideal) (m ((c.tc : Thread Cert.SortReferenceIdeal.nD Cert.SortReferenceIdeal.τ).loc Cert.SortReferenceIdeal.main_arg0)) (m ((c.tc : Thread Cert.SortReferenceIdeal.nD Cert.SortReferenceIdeal.τ).loc Cert.SortReferenceIdeal.main_arg1)) (m ((c.tc : Thread Cert.SortReferenceIdeal.nD Cert.SortReferenceIdeal.τ).loc Cert.SortReferenceIdeal.main_arg2)) (m ((c.tc : Thread Cert.SortReferenceIdeal.nD Cert.SortReferenceIdeal.τ).loc Cert.SortReferenceIdeal.main_arg3))) = (fun _ => 1#1)

def Pre_CutKernel (m : (ℓ : Loc Cert.CutKernel.nD Cert.CutKernel.τ Cert.CutKernel.sig) → Buf (Elt Bits) ℓ) : Prop :=
  True

def Pre_CutKernel_scores_fit [hPre_scores_fit : Cert.Pre_scores_fit.Facts] (m : (ℓ : Loc Cert.CutKernel.nD Cert.CutKernel.τ Cert.CutKernel.sig) → Buf (Elt Bits) ℓ) : Prop :=
  ∀ c : Dev Cert.CutKernel.nD,
    (Cert.Pre_scores_fit.fn (F := Bits) (m ((c.tc : Thread Cert.CutKernel.nD Cert.CutKernel.τ).loc Cert.CutKernel.main_arg0)) (m ((c.tc : Thread Cert.CutKernel.nD Cert.CutKernel.τ).loc Cert.CutKernel.main_arg1))) = (fun _ => 1#1)

def Pre_CutReference (m : (ℓ : Loc Cert.CutReference.nD Cert.CutReference.τ Cert.CutReference.sig) → Buf (Elt Bits) ℓ) : Prop :=
  True

def Pre_CutReference_scores_fit [hPre_scores_fit : Cert.Pre_scores_fit.Facts] (m : (ℓ : Loc Cert.CutReference.nD Cert.CutReference.τ Cert.CutReference.sig) → Buf (Elt Bits) ℓ) : Prop :=
  ∀ c : Dev Cert.CutReference.nD,
    (Cert.Pre_scores_fit.fn (F := Bits) (m ((c.tc : Thread Cert.CutReference.nD Cert.CutReference.τ).loc Cert.CutReference.main_arg0)) (m ((c.tc : Thread Cert.CutReference.nD Cert.CutReference.τ).loc Cert.CutReference.main_arg1))) = (fun _ => 1#1)

def quiescent_ScoresKernel [hScoresKernel : Cert.ScoresKernel.Facts] : Prop :=
  ∀ (m : (ℓ : Loc Cert.ScoresKernel.nD Cert.ScoresKernel.τ Cert.ScoresKernel.sig) → Buf (Elt Bits) ℓ) (g : Dev Cert.ScoresKernel.nD → PrngReg), Pre_ScoresKernel m →
    θ_run (Cert.ScoresKernel.defs (F := Bits)) (onTc (τ := Cert.ScoresKernel.τ) (Cert.ScoresKernel.main (F := Bits))) ⟨m, fun _ => 0, g⟩ (fun r => (∀ c : Dev Cert.ScoresKernel.nD,
      r.2.mem ((c.tc : Thread Cert.ScoresKernel.nD Cert.ScoresKernel.τ).loc Cert.ScoresKernel.main_arg0) = m ((c.tc : Thread Cert.ScoresKernel.nD Cert.ScoresKernel.τ).loc Cert.ScoresKernel.main_arg0))
      ∧ r.2.sem = fun _ => 0)

def quiescent_ScoresKernelIdeal [hScoresKernelIdeal : Cert.ScoresKernelIdeal.Facts] : Prop :=
  ∀ (m : (ℓ : Loc Cert.ScoresKernelIdeal.nD Cert.ScoresKernelIdeal.τ Cert.ScoresKernelIdeal.sig) → Buf (Elt Ideal) ℓ) (g : Dev Cert.ScoresKernelIdeal.nD → PrngReg), Pre_ScoresKernelIdeal m →
    θ_run (Cert.ScoresKernelIdeal.defs (F := Ideal)) (onTc (τ := Cert.ScoresKernelIdeal.τ) (Cert.ScoresKernelIdeal.main (F := Ideal))) ⟨m, fun _ => 0, g⟩ (fun r => (∀ c : Dev Cert.ScoresKernelIdeal.nD,
      r.2.mem ((c.tc : Thread Cert.ScoresKernelIdeal.nD Cert.ScoresKernelIdeal.τ).loc Cert.ScoresKernelIdeal.main_arg0) = m ((c.tc : Thread Cert.ScoresKernelIdeal.nD Cert.ScoresKernelIdeal.τ).loc Cert.ScoresKernelIdeal.main_arg0))
      ∧ r.2.sem = fun _ => 0)

def quiescent_ScoresReferenceIdeal [hScoresReferenceIdeal : Cert.ScoresReferenceIdeal.Facts] : Prop :=
  ∀ (m : (ℓ : Loc Cert.ScoresReferenceIdeal.nD Cert.ScoresReferenceIdeal.τ Cert.ScoresReferenceIdeal.sig) → Buf (Elt Ideal) ℓ) (g : Dev Cert.ScoresReferenceIdeal.nD → PrngReg), Pre_ScoresReferenceIdeal m →
    θ_run (Cert.ScoresReferenceIdeal.defs (F := Ideal)) (onTc (τ := Cert.ScoresReferenceIdeal.τ) (Cert.ScoresReferenceIdeal.main (F := Ideal))) ⟨m, fun _ => 0, g⟩ (fun r => (∀ c : Dev Cert.ScoresReferenceIdeal.nD,
      r.2.mem ((c.tc : Thread Cert.ScoresReferenceIdeal.nD Cert.ScoresReferenceIdeal.τ).loc Cert.ScoresReferenceIdeal.main_arg0) = m ((c.tc : Thread Cert.ScoresReferenceIdeal.nD Cert.ScoresReferenceIdeal.τ).loc Cert.ScoresReferenceIdeal.main_arg0))
      ∧ r.2.sem = fun _ => 0)

def quiescent_Kernel [hKernel : Cert.Kernel.Facts] [hPre_candidates_fit : Cert.Pre_candidates_fit.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_candidates_fit : Cert.Pre_candidates_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] [hPre_candidates_fit : Cert.Pre_candidates_fit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_RowsKernel [hRowsKernel : Cert.RowsKernel.Facts] [hPre_rows_fit : Cert.Pre_rows_fit.Facts] : Prop :=
  ∀ (m : (ℓ : Loc Cert.RowsKernel.nD Cert.RowsKernel.τ Cert.RowsKernel.sig) → Buf (Elt Bits) ℓ) (g : Dev Cert.RowsKernel.nD → PrngReg), Pre_RowsKernel m →
    θ_run (Cert.RowsKernel.defs (F := Bits)) (Cert.RowsKernel.threads (F := Bits)) ⟨m, fun _ => 0, g⟩ (fun r => (∀ c : Dev Cert.RowsKernel.nD,
      r.2.mem ((c.tc : Thread Cert.RowsKernel.nD Cert.RowsKernel.τ).loc Cert.RowsKernel.main_arg0) = m ((c.tc : Thread Cert.RowsKernel.nD Cert.RowsKernel.τ).loc Cert.RowsKernel.main_arg0)
      ∧ r.2.mem ((c.tc : Thread Cert.RowsKernel.nD Cert.RowsKernel.τ).loc Cert.RowsKernel.main_arg1) = m ((c.tc : Thread Cert.RowsKernel.nD Cert.RowsKernel.τ).loc Cert.RowsKernel.main_arg1)
      ∧ r.2.mem ((c.tc : Thread Cert.RowsKernel.nD Cert.RowsKernel.τ).loc Cert.RowsKernel.main_arg2) = m ((c.tc : Thread Cert.RowsKernel.nD Cert.RowsKernel.τ).loc Cert.RowsKernel.main_arg2)
      ∧ r.2.mem ((c.tc : Thread Cert.RowsKernel.nD Cert.RowsKernel.τ).loc Cert.RowsKernel.main_arg3) = m ((c.tc : Thread Cert.RowsKernel.nD Cert.RowsKernel.τ).loc Cert.RowsKernel.main_arg3)
      ∧ r.2.mem ((c.tc : Thread Cert.RowsKernel.nD Cert.RowsKernel.τ).loc Cert.RowsKernel.main_arg4) = m ((c.tc : Thread Cert.RowsKernel.nD Cert.RowsKernel.τ).loc Cert.RowsKernel.main_arg4))
      ∧ r.2.sem = fun _ => 0)

def quiescent_RowsKernelIdeal [hRowsKernelIdeal : Cert.RowsKernelIdeal.Facts] [hPre_rows_fit : Cert.Pre_rows_fit.Facts] : Prop :=
  ∀ (m : (ℓ : Loc Cert.RowsKernelIdeal.nD Cert.RowsKernelIdeal.τ Cert.RowsKernelIdeal.sig) → Buf (Elt Ideal) ℓ) (g : Dev Cert.RowsKernelIdeal.nD → PrngReg), Pre_RowsKernelIdeal m →
    θ_run (Cert.RowsKernelIdeal.defs (F := Ideal)) (Cert.RowsKernelIdeal.threads (F := Ideal)) ⟨m, fun _ => 0, g⟩ (fun r => (∀ c : Dev Cert.RowsKernelIdeal.nD,
      r.2.mem ((c.tc : Thread Cert.RowsKernelIdeal.nD Cert.RowsKernelIdeal.τ).loc Cert.RowsKernelIdeal.main_arg0) = m ((c.tc : Thread Cert.RowsKernelIdeal.nD Cert.RowsKernelIdeal.τ).loc Cert.RowsKernelIdeal.main_arg0)
      ∧ r.2.mem ((c.tc : Thread Cert.RowsKernelIdeal.nD Cert.RowsKernelIdeal.τ).loc Cert.RowsKernelIdeal.main_arg1) = m ((c.tc : Thread Cert.RowsKernelIdeal.nD Cert.RowsKernelIdeal.τ).loc Cert.RowsKernelIdeal.main_arg1)
      ∧ r.2.mem ((c.tc : Thread Cert.RowsKernelIdeal.nD Cert.RowsKernelIdeal.τ).loc Cert.RowsKernelIdeal.main_arg2) = m ((c.tc : Thread Cert.RowsKernelIdeal.nD Cert.RowsKernelIdeal.τ).loc Cert.RowsKernelIdeal.main_arg2)
      ∧ r.2.mem ((c.tc : Thread Cert.RowsKernelIdeal.nD Cert.RowsKernelIdeal.τ).loc Cert.RowsKernelIdeal.main_arg3) = m ((c.tc : Thread Cert.RowsKernelIdeal.nD Cert.RowsKernelIdeal.τ).loc Cert.RowsKernelIdeal.main_arg3)
      ∧ r.2.mem ((c.tc : Thread Cert.RowsKernelIdeal.nD Cert.RowsKernelIdeal.τ).loc Cert.RowsKernelIdeal.main_arg4) = m ((c.tc : Thread Cert.RowsKernelIdeal.nD Cert.RowsKernelIdeal.τ).loc Cert.RowsKernelIdeal.main_arg4))
      ∧ r.2.sem = fun _ => 0)

def quiescent_RowsReferenceIdeal [hRowsReferenceIdeal : Cert.RowsReferenceIdeal.Facts] [hPre_rows_fit : Cert.Pre_rows_fit.Facts] : Prop :=
  ∀ (m : (ℓ : Loc Cert.RowsReferenceIdeal.nD Cert.RowsReferenceIdeal.τ Cert.RowsReferenceIdeal.sig) → Buf (Elt Ideal) ℓ) (g : Dev Cert.RowsReferenceIdeal.nD → PrngReg), Pre_RowsReferenceIdeal m →
    θ_run (Cert.RowsReferenceIdeal.defs (F := Ideal)) (onTc (τ := Cert.RowsReferenceIdeal.τ) (Cert.RowsReferenceIdeal.main (F := Ideal))) ⟨m, fun _ => 0, g⟩ (fun r => (∀ c : Dev Cert.RowsReferenceIdeal.nD,
      r.2.mem ((c.tc : Thread Cert.RowsReferenceIdeal.nD Cert.RowsReferenceIdeal.τ).loc Cert.RowsReferenceIdeal.main_arg0) = m ((c.tc : Thread Cert.RowsReferenceIdeal.nD Cert.RowsReferenceIdeal.τ).loc Cert.RowsReferenceIdeal.main_arg0)
      ∧ r.2.mem ((c.tc : Thread Cert.RowsReferenceIdeal.nD Cert.RowsReferenceIdeal.τ).loc Cert.RowsReferenceIdeal.main_arg1) = m ((c.tc : Thread Cert.RowsReferenceIdeal.nD Cert.RowsReferenceIdeal.τ).loc Cert.RowsReferenceIdeal.main_arg1)
      ∧ r.2.mem ((c.tc : Thread Cert.RowsReferenceIdeal.nD Cert.RowsReferenceIdeal.τ).loc Cert.RowsReferenceIdeal.main_arg2) = m ((c.tc : Thread Cert.RowsReferenceIdeal.nD Cert.RowsReferenceIdeal.τ).loc Cert.RowsReferenceIdeal.main_arg2)
      ∧ r.2.mem ((c.tc : Thread Cert.RowsReferenceIdeal.nD Cert.RowsReferenceIdeal.τ).loc Cert.RowsReferenceIdeal.main_arg3) = m ((c.tc : Thread Cert.RowsReferenceIdeal.nD Cert.RowsReferenceIdeal.τ).loc Cert.RowsReferenceIdeal.main_arg3)
      ∧ r.2.mem ((c.tc : Thread Cert.RowsReferenceIdeal.nD Cert.RowsReferenceIdeal.τ).loc Cert.RowsReferenceIdeal.main_arg4) = m ((c.tc : Thread Cert.RowsReferenceIdeal.nD Cert.RowsReferenceIdeal.τ).loc Cert.RowsReferenceIdeal.main_arg4))
      ∧ r.2.sem = fun _ => 0)

def quiescent_SortKernel [hSortKernel : Cert.SortKernel.Facts] [hPre_ids_differ : Cert.Pre_ids_differ.Facts] : Prop :=
  ∀ (m : (ℓ : Loc Cert.SortKernel.nD Cert.SortKernel.τ Cert.SortKernel.sig) → Buf (Elt Bits) ℓ) (g : Dev Cert.SortKernel.nD → PrngReg), Pre_SortKernel m →
    θ_run (Cert.SortKernel.defs (F := Bits)) (onTc (τ := Cert.SortKernel.τ) (Cert.SortKernel.main (F := Bits))) ⟨m, fun _ => 0, g⟩ (fun r => (∀ c : Dev Cert.SortKernel.nD,
      r.2.mem ((c.tc : Thread Cert.SortKernel.nD Cert.SortKernel.τ).loc Cert.SortKernel.main_arg0) = m ((c.tc : Thread Cert.SortKernel.nD Cert.SortKernel.τ).loc Cert.SortKernel.main_arg0)
      ∧ r.2.mem ((c.tc : Thread Cert.SortKernel.nD Cert.SortKernel.τ).loc Cert.SortKernel.main_arg1) = m ((c.tc : Thread Cert.SortKernel.nD Cert.SortKernel.τ).loc Cert.SortKernel.main_arg1)
      ∧ r.2.mem ((c.tc : Thread Cert.SortKernel.nD Cert.SortKernel.τ).loc Cert.SortKernel.main_arg2) = m ((c.tc : Thread Cert.SortKernel.nD Cert.SortKernel.τ).loc Cert.SortKernel.main_arg2)
      ∧ r.2.mem ((c.tc : Thread Cert.SortKernel.nD Cert.SortKernel.τ).loc Cert.SortKernel.main_arg3) = m ((c.tc : Thread Cert.SortKernel.nD Cert.SortKernel.τ).loc Cert.SortKernel.main_arg3))
      ∧ r.2.sem = fun _ => 0)

def quiescent_SortKernelIdeal [hSortKernelIdeal : Cert.SortKernelIdeal.Facts] [hPre_ids_differ : Cert.Pre_ids_differ.Facts] : Prop :=
  ∀ (m : (ℓ : Loc Cert.SortKernelIdeal.nD Cert.SortKernelIdeal.τ Cert.SortKernelIdeal.sig) → Buf (Elt Ideal) ℓ) (g : Dev Cert.SortKernelIdeal.nD → PrngReg), Pre_SortKernelIdeal m →
    θ_run (Cert.SortKernelIdeal.defs (F := Ideal)) (onTc (τ := Cert.SortKernelIdeal.τ) (Cert.SortKernelIdeal.main (F := Ideal))) ⟨m, fun _ => 0, g⟩ (fun r => (∀ c : Dev Cert.SortKernelIdeal.nD,
      r.2.mem ((c.tc : Thread Cert.SortKernelIdeal.nD Cert.SortKernelIdeal.τ).loc Cert.SortKernelIdeal.main_arg0) = m ((c.tc : Thread Cert.SortKernelIdeal.nD Cert.SortKernelIdeal.τ).loc Cert.SortKernelIdeal.main_arg0)
      ∧ r.2.mem ((c.tc : Thread Cert.SortKernelIdeal.nD Cert.SortKernelIdeal.τ).loc Cert.SortKernelIdeal.main_arg1) = m ((c.tc : Thread Cert.SortKernelIdeal.nD Cert.SortKernelIdeal.τ).loc Cert.SortKernelIdeal.main_arg1)
      ∧ r.2.mem ((c.tc : Thread Cert.SortKernelIdeal.nD Cert.SortKernelIdeal.τ).loc Cert.SortKernelIdeal.main_arg2) = m ((c.tc : Thread Cert.SortKernelIdeal.nD Cert.SortKernelIdeal.τ).loc Cert.SortKernelIdeal.main_arg2)
      ∧ r.2.mem ((c.tc : Thread Cert.SortKernelIdeal.nD Cert.SortKernelIdeal.τ).loc Cert.SortKernelIdeal.main_arg3) = m ((c.tc : Thread Cert.SortKernelIdeal.nD Cert.SortKernelIdeal.τ).loc Cert.SortKernelIdeal.main_arg3))
      ∧ r.2.sem = fun _ => 0)

def quiescent_SortReferenceIdeal [hSortReferenceIdeal : Cert.SortReferenceIdeal.Facts] [hPre_ids_differ : Cert.Pre_ids_differ.Facts] : Prop :=
  ∀ (m : (ℓ : Loc Cert.SortReferenceIdeal.nD Cert.SortReferenceIdeal.τ Cert.SortReferenceIdeal.sig) → Buf (Elt Ideal) ℓ) (g : Dev Cert.SortReferenceIdeal.nD → PrngReg), Pre_SortReferenceIdeal m →
    θ_run (Cert.SortReferenceIdeal.defs (F := Ideal)) (onTc (τ := Cert.SortReferenceIdeal.τ) (Cert.SortReferenceIdeal.main (F := Ideal))) ⟨m, fun _ => 0, g⟩ (fun r => (∀ c : Dev Cert.SortReferenceIdeal.nD,
      r.2.mem ((c.tc : Thread Cert.SortReferenceIdeal.nD Cert.SortReferenceIdeal.τ).loc Cert.SortReferenceIdeal.main_arg0) = m ((c.tc : Thread Cert.SortReferenceIdeal.nD Cert.SortReferenceIdeal.τ).loc Cert.SortReferenceIdeal.main_arg0)
      ∧ r.2.mem ((c.tc : Thread Cert.SortReferenceIdeal.nD Cert.SortReferenceIdeal.τ).loc Cert.SortReferenceIdeal.main_arg1) = m ((c.tc : Thread Cert.SortReferenceIdeal.nD Cert.SortReferenceIdeal.τ).loc Cert.SortReferenceIdeal.main_arg1)
      ∧ r.2.mem ((c.tc : Thread Cert.SortReferenceIdeal.nD Cert.SortReferenceIdeal.τ).loc Cert.SortReferenceIdeal.main_arg2) = m ((c.tc : Thread Cert.SortReferenceIdeal.nD Cert.SortReferenceIdeal.τ).loc Cert.SortReferenceIdeal.main_arg2)
      ∧ r.2.mem ((c.tc : Thread Cert.SortReferenceIdeal.nD Cert.SortReferenceIdeal.τ).loc Cert.SortReferenceIdeal.main_arg3) = m ((c.tc : Thread Cert.SortReferenceIdeal.nD Cert.SortReferenceIdeal.τ).loc Cert.SortReferenceIdeal.main_arg3))
      ∧ r.2.sem = fun _ => 0)

def quiescent_CutKernel [hCutKernel : Cert.CutKernel.Facts] : Prop :=
  ∀ (m : (ℓ : Loc Cert.CutKernel.nD Cert.CutKernel.τ Cert.CutKernel.sig) → Buf (Elt Bits) ℓ) (g : Dev Cert.CutKernel.nD → PrngReg), Pre_CutKernel m →
    θ_run (Cert.CutKernel.defs (F := Bits)) (onTc (τ := Cert.CutKernel.τ) (Cert.CutKernel.main (F := Bits))) ⟨m, fun _ => 0, g⟩ (fun r => (∀ c : Dev Cert.CutKernel.nD,
      r.2.mem ((c.tc : Thread Cert.CutKernel.nD Cert.CutKernel.τ).loc Cert.CutKernel.main_arg0) = m ((c.tc : Thread Cert.CutKernel.nD Cert.CutKernel.τ).loc Cert.CutKernel.main_arg0)
      ∧ r.2.mem ((c.tc : Thread Cert.CutKernel.nD Cert.CutKernel.τ).loc Cert.CutKernel.main_arg1) = m ((c.tc : Thread Cert.CutKernel.nD Cert.CutKernel.τ).loc Cert.CutKernel.main_arg1))
      ∧ r.2.sem = fun _ => 0)

def quiescent_CutKernel_pre_scores_fit [hCutKernel : Cert.CutKernel.Facts] [hPre_scores_fit : Cert.Pre_scores_fit.Facts] : Prop :=
  ∀ (m : (ℓ : Loc Cert.CutKernel.nD Cert.CutKernel.τ Cert.CutKernel.sig) → Buf (Elt Bits) ℓ) (g : Dev Cert.CutKernel.nD → PrngReg), Pre_CutKernel_scores_fit m →
    θ_run (Cert.CutKernel.defs (F := Bits)) (onTc (τ := Cert.CutKernel.τ) (Cert.CutKernel.main (F := Bits))) ⟨m, fun _ => 0, g⟩ (fun r => (∀ c : Dev Cert.CutKernel.nD,
      r.2.mem ((c.tc : Thread Cert.CutKernel.nD Cert.CutKernel.τ).loc Cert.CutKernel.main_arg0) = m ((c.tc : Thread Cert.CutKernel.nD Cert.CutKernel.τ).loc Cert.CutKernel.main_arg0)
      ∧ r.2.mem ((c.tc : Thread Cert.CutKernel.nD Cert.CutKernel.τ).loc Cert.CutKernel.main_arg1) = m ((c.tc : Thread Cert.CutKernel.nD Cert.CutKernel.τ).loc Cert.CutKernel.main_arg1))
      ∧ r.2.sem = fun _ => 0)

def quiescent_CutReference [hCutReference : Cert.CutReference.Facts] : Prop :=
  ∀ (m : (ℓ : Loc Cert.CutReference.nD Cert.CutReference.τ Cert.CutReference.sig) → Buf (Elt Bits) ℓ) (g : Dev Cert.CutReference.nD → PrngReg), Pre_CutReference m →
    θ_run (Cert.CutReference.defs (F := Bits)) (onTc (τ := Cert.CutReference.τ) (Cert.CutReference.main (F := Bits))) ⟨m, fun _ => 0, g⟩ (fun r => (∀ c : Dev Cert.CutReference.nD,
      r.2.mem ((c.tc : Thread Cert.CutReference.nD Cert.CutReference.τ).loc Cert.CutReference.main_arg0) = m ((c.tc : Thread Cert.CutReference.nD Cert.CutReference.τ).loc Cert.CutReference.main_arg0)
      ∧ r.2.mem ((c.tc : Thread Cert.CutReference.nD Cert.CutReference.τ).loc Cert.CutReference.main_arg1) = m ((c.tc : Thread Cert.CutReference.nD Cert.CutReference.τ).loc Cert.CutReference.main_arg1))
      ∧ r.2.sem = fun _ => 0)

def quiescent_CutReference_pre_scores_fit [hCutReference : Cert.CutReference.Facts] [hPre_scores_fit : Cert.Pre_scores_fit.Facts] : Prop :=
  ∀ (m : (ℓ : Loc Cert.CutReference.nD Cert.CutReference.τ Cert.CutReference.sig) → Buf (Elt Bits) ℓ) (g : Dev Cert.CutReference.nD → PrngReg), Pre_CutReference_scores_fit m →
    θ_run (Cert.CutReference.defs (F := Bits)) (onTc (τ := Cert.CutReference.τ) (Cert.CutReference.main (F := Bits))) ⟨m, fun _ => 0, g⟩ (fun r => (∀ c : Dev Cert.CutReference.nD,
      r.2.mem ((c.tc : Thread Cert.CutReference.nD Cert.CutReference.τ).loc Cert.CutReference.main_arg0) = m ((c.tc : Thread Cert.CutReference.nD Cert.CutReference.τ).loc Cert.CutReference.main_arg0)
      ∧ r.2.mem ((c.tc : Thread Cert.CutReference.nD Cert.CutReference.τ).loc Cert.CutReference.main_arg1) = m ((c.tc : Thread Cert.CutReference.nD Cert.CutReference.τ).loc Cert.CutReference.main_arg1))
      ∧ r.2.sem = fun _ => 0)

def preserves_ScoresKernel_ScoresKernelIdeal : Prop :=
  True

def algebraic_ScoresKernelIdeal_ScoresReferenceIdeal [hScoresKernelIdeal : Cert.ScoresKernelIdeal.Facts] [hScoresReferenceIdeal : Cert.ScoresReferenceIdeal.Facts] : Prop :=
  ∀ (m : (ℓ : Loc Cert.ScoresKernelIdeal.nD Cert.ScoresKernelIdeal.τ Cert.ScoresKernelIdeal.sig) → Buf (Elt Ideal) ℓ) (g : Dev Cert.ScoresKernelIdeal.nD → PrngReg)
    (m' : (ℓ : Loc Cert.ScoresReferenceIdeal.nD Cert.ScoresReferenceIdeal.τ Cert.ScoresReferenceIdeal.sig) → Buf (Elt Ideal) ℓ) (g' : Dev Cert.ScoresReferenceIdeal.nD → PrngReg), Pre_ScoresKernelIdeal m →
    (∀ c : Dev Cert.ScoresKernelIdeal.nD,
      m' ((c.tc : Thread Cert.ScoresReferenceIdeal.nD Cert.ScoresReferenceIdeal.τ).loc Cert.ScoresReferenceIdeal.main_arg0) = m ((c.tc : Thread Cert.ScoresKernelIdeal.nD Cert.ScoresKernelIdeal.τ).loc Cert.ScoresKernelIdeal.main_arg0)) →
    ∃ (v0 : (c : Dev Cert.ScoresKernelIdeal.nD) → Buf (Elt Ideal) ((c.tc : Thread Cert.ScoresKernelIdeal.nD Cert.ScoresKernelIdeal.τ).loc Cert.ScoresKernelIdeal.main_v0_0)),
      θ_run (Cert.ScoresKernelIdeal.defs (F := Ideal)) (onTc (τ := Cert.ScoresKernelIdeal.τ) (Cert.ScoresKernelIdeal.main (F := Ideal))) ⟨m, fun _ => 0, g⟩ (fun r => ∀ c : Dev Cert.ScoresKernelIdeal.nD,
          r.2.mem ((c.tc : Thread Cert.ScoresKernelIdeal.nD Cert.ScoresKernelIdeal.τ).loc Cert.ScoresKernelIdeal.main_v0_0) = v0 c
          ∧ r.2.mem ((c.tc : Thread Cert.ScoresKernelIdeal.nD Cert.ScoresKernelIdeal.τ).loc Cert.ScoresKernelIdeal.main_arg0) = m ((c.tc : Thread Cert.ScoresKernelIdeal.nD Cert.ScoresKernelIdeal.τ).loc Cert.ScoresKernelIdeal.main_arg0))
      ∧ θ_run (Cert.ScoresReferenceIdeal.defs (F := Ideal)) (onTc (τ := Cert.ScoresReferenceIdeal.τ) (Cert.ScoresReferenceIdeal.main (F := Ideal))) ⟨m', fun _ => 0, g'⟩ (fun r => ∀ c : Dev Cert.ScoresReferenceIdeal.nD,
          r.2.mem ((c.tc : Thread Cert.ScoresReferenceIdeal.nD Cert.ScoresReferenceIdeal.τ).loc Cert.ScoresReferenceIdeal.main_v5) = v0 c
          ∧ r.2.mem ((c.tc : Thread Cert.ScoresReferenceIdeal.nD Cert.ScoresReferenceIdeal.τ).loc Cert.ScoresReferenceIdeal.main_arg0) = m' ((c.tc : Thread Cert.ScoresReferenceIdeal.nD Cert.ScoresReferenceIdeal.τ).loc Cert.ScoresReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_candidates_fit : Cert.Pre_candidates_fit.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_v37) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_RowsKernel_RowsKernelIdeal : Prop :=
  True

def algebraic_RowsKernelIdeal_RowsReferenceIdeal [hRowsKernelIdeal : Cert.RowsKernelIdeal.Facts] [hRowsReferenceIdeal : Cert.RowsReferenceIdeal.Facts] [hPre_rows_fit : Cert.Pre_rows_fit.Facts] : Prop :=
  ∀ (m : (ℓ : Loc Cert.RowsKernelIdeal.nD Cert.RowsKernelIdeal.τ Cert.RowsKernelIdeal.sig) → Buf (Elt Ideal) ℓ) (g : Dev Cert.RowsKernelIdeal.nD → PrngReg)
    (m' : (ℓ : Loc Cert.RowsReferenceIdeal.nD Cert.RowsReferenceIdeal.τ Cert.RowsReferenceIdeal.sig) → Buf (Elt Ideal) ℓ) (g' : Dev Cert.RowsReferenceIdeal.nD → PrngReg), Pre_RowsKernelIdeal m →
    (∀ c : Dev Cert.RowsKernelIdeal.nD,
      m' ((c.tc : Thread Cert.RowsReferenceIdeal.nD Cert.RowsReferenceIdeal.τ).loc Cert.RowsReferenceIdeal.main_arg0) = m ((c.tc : Thread Cert.RowsKernelIdeal.nD Cert.RowsKernelIdeal.τ).loc Cert.RowsKernelIdeal.main_arg0)
      ∧ m' ((c.tc : Thread Cert.RowsReferenceIdeal.nD Cert.RowsReferenceIdeal.τ).loc Cert.RowsReferenceIdeal.main_arg1) = m ((c.tc : Thread Cert.RowsKernelIdeal.nD Cert.RowsKernelIdeal.τ).loc Cert.RowsKernelIdeal.main_arg1)
      ∧ m' ((c.tc : Thread Cert.RowsReferenceIdeal.nD Cert.RowsReferenceIdeal.τ).loc Cert.RowsReferenceIdeal.main_arg2) = m ((c.tc : Thread Cert.RowsKernelIdeal.nD Cert.RowsKernelIdeal.τ).loc Cert.RowsKernelIdeal.main_arg2)
      ∧ m' ((c.tc : Thread Cert.RowsReferenceIdeal.nD Cert.RowsReferenceIdeal.τ).loc Cert.RowsReferenceIdeal.main_arg3) = m ((c.tc : Thread Cert.RowsKernelIdeal.nD Cert.RowsKernelIdeal.τ).loc Cert.RowsKernelIdeal.main_arg3)
      ∧ m' ((c.tc : Thread Cert.RowsReferenceIdeal.nD Cert.RowsReferenceIdeal.τ).loc Cert.RowsReferenceIdeal.main_arg4) = m ((c.tc : Thread Cert.RowsKernelIdeal.nD Cert.RowsKernelIdeal.τ).loc Cert.RowsKernelIdeal.main_arg4)) →
    ∃ (v0 : (c : Dev Cert.RowsKernelIdeal.nD) → Buf (Elt Ideal) ((c.tc : Thread Cert.RowsKernelIdeal.nD Cert.RowsKernelIdeal.τ).loc Cert.RowsKernelIdeal.main_v3)) (v1 : (c : Dev Cert.RowsKernelIdeal.nD) → Buf (Elt Ideal) ((c.tc : Thread Cert.RowsKernelIdeal.nD Cert.RowsKernelIdeal.τ).loc Cert.RowsKernelIdeal.main_v4)),
      θ_run (Cert.RowsKernelIdeal.defs (F := Ideal)) (Cert.RowsKernelIdeal.threads (F := Ideal)) ⟨m, fun _ => 0, g⟩ (fun r => ∀ c : Dev Cert.RowsKernelIdeal.nD,
          r.2.mem ((c.tc : Thread Cert.RowsKernelIdeal.nD Cert.RowsKernelIdeal.τ).loc Cert.RowsKernelIdeal.main_v3) = v0 c
          ∧ r.2.mem ((c.tc : Thread Cert.RowsKernelIdeal.nD Cert.RowsKernelIdeal.τ).loc Cert.RowsKernelIdeal.main_v4) = v1 c
          ∧ r.2.mem ((c.tc : Thread Cert.RowsKernelIdeal.nD Cert.RowsKernelIdeal.τ).loc Cert.RowsKernelIdeal.main_arg0) = m ((c.tc : Thread Cert.RowsKernelIdeal.nD Cert.RowsKernelIdeal.τ).loc Cert.RowsKernelIdeal.main_arg0)
          ∧ r.2.mem ((c.tc : Thread Cert.RowsKernelIdeal.nD Cert.RowsKernelIdeal.τ).loc Cert.RowsKernelIdeal.main_arg1) = m ((c.tc : Thread Cert.RowsKernelIdeal.nD Cert.RowsKernelIdeal.τ).loc Cert.RowsKernelIdeal.main_arg1)
          ∧ r.2.mem ((c.tc : Thread Cert.RowsKernelIdeal.nD Cert.RowsKernelIdeal.τ).loc Cert.RowsKernelIdeal.main_arg2) = m ((c.tc : Thread Cert.RowsKernelIdeal.nD Cert.RowsKernelIdeal.τ).loc Cert.RowsKernelIdeal.main_arg2)
          ∧ r.2.mem ((c.tc : Thread Cert.RowsKernelIdeal.nD Cert.RowsKernelIdeal.τ).loc Cert.RowsKernelIdeal.main_arg3) = m ((c.tc : Thread Cert.RowsKernelIdeal.nD Cert.RowsKernelIdeal.τ).loc Cert.RowsKernelIdeal.main_arg3)
          ∧ r.2.mem ((c.tc : Thread Cert.RowsKernelIdeal.nD Cert.RowsKernelIdeal.τ).loc Cert.RowsKernelIdeal.main_arg4) = m ((c.tc : Thread Cert.RowsKernelIdeal.nD Cert.RowsKernelIdeal.τ).loc Cert.RowsKernelIdeal.main_arg4))
      ∧ θ_run (Cert.RowsReferenceIdeal.defs (F := Ideal)) (onTc (τ := Cert.RowsReferenceIdeal.τ) (Cert.RowsReferenceIdeal.main (F := Ideal))) ⟨m', fun _ => 0, g'⟩ (fun r => ∀ c : Dev Cert.RowsReferenceIdeal.nD,
          r.2.mem ((c.tc : Thread Cert.RowsReferenceIdeal.nD Cert.RowsReferenceIdeal.τ).loc Cert.RowsReferenceIdeal.main_v19) = v0 c
          ∧ r.2.mem ((c.tc : Thread Cert.RowsReferenceIdeal.nD Cert.RowsReferenceIdeal.τ).loc Cert.RowsReferenceIdeal.main_v17) = v1 c
          ∧ r.2.mem ((c.tc : Thread Cert.RowsReferenceIdeal.nD Cert.RowsReferenceIdeal.τ).loc Cert.RowsReferenceIdeal.main_arg0) = m' ((c.tc : Thread Cert.RowsReferenceIdeal.nD Cert.RowsReferenceIdeal.τ).loc Cert.RowsReferenceIdeal.main_arg0)
          ∧ r.2.mem ((c.tc : Thread Cert.RowsReferenceIdeal.nD Cert.RowsReferenceIdeal.τ).loc Cert.RowsReferenceIdeal.main_arg1) = m' ((c.tc : Thread Cert.RowsReferenceIdeal.nD Cert.RowsReferenceIdeal.τ).loc Cert.RowsReferenceIdeal.main_arg1)
          ∧ r.2.mem ((c.tc : Thread Cert.RowsReferenceIdeal.nD Cert.RowsReferenceIdeal.τ).loc Cert.RowsReferenceIdeal.main_arg2) = m' ((c.tc : Thread Cert.RowsReferenceIdeal.nD Cert.RowsReferenceIdeal.τ).loc Cert.RowsReferenceIdeal.main_arg2)
          ∧ r.2.mem ((c.tc : Thread Cert.RowsReferenceIdeal.nD Cert.RowsReferenceIdeal.τ).loc Cert.RowsReferenceIdeal.main_arg3) = m' ((c.tc : Thread Cert.RowsReferenceIdeal.nD Cert.RowsReferenceIdeal.τ).loc Cert.RowsReferenceIdeal.main_arg3)
          ∧ r.2.mem ((c.tc : Thread Cert.RowsReferenceIdeal.nD Cert.RowsReferenceIdeal.τ).loc Cert.RowsReferenceIdeal.main_arg4) = m' ((c.tc : Thread Cert.RowsReferenceIdeal.nD Cert.RowsReferenceIdeal.τ).loc Cert.RowsReferenceIdeal.main_arg4))

def preserves_SortKernel_SortKernelIdeal : Prop :=
  True

def algebraic_SortKernelIdeal_SortReferenceIdeal [hSortKernelIdeal : Cert.SortKernelIdeal.Facts] [hSortReferenceIdeal : Cert.SortReferenceIdeal.Facts] [hPre_ids_differ : Cert.Pre_ids_differ.Facts] : Prop :=
  ∀ (m : (ℓ : Loc Cert.SortKernelIdeal.nD Cert.SortKernelIdeal.τ Cert.SortKernelIdeal.sig) → Buf (Elt Ideal) ℓ) (g : Dev Cert.SortKernelIdeal.nD → PrngReg)
    (m' : (ℓ : Loc Cert.SortReferenceIdeal.nD Cert.SortReferenceIdeal.τ Cert.SortReferenceIdeal.sig) → Buf (Elt Ideal) ℓ) (g' : Dev Cert.SortReferenceIdeal.nD → PrngReg), Pre_SortKernelIdeal m →
    (∀ c : Dev Cert.SortKernelIdeal.nD,
      m' ((c.tc : Thread Cert.SortReferenceIdeal.nD Cert.SortReferenceIdeal.τ).loc Cert.SortReferenceIdeal.main_arg0) = m ((c.tc : Thread Cert.SortKernelIdeal.nD Cert.SortKernelIdeal.τ).loc Cert.SortKernelIdeal.main_arg0)
      ∧ m' ((c.tc : Thread Cert.SortReferenceIdeal.nD Cert.SortReferenceIdeal.τ).loc Cert.SortReferenceIdeal.main_arg1) = m ((c.tc : Thread Cert.SortKernelIdeal.nD Cert.SortKernelIdeal.τ).loc Cert.SortKernelIdeal.main_arg1)
      ∧ m' ((c.tc : Thread Cert.SortReferenceIdeal.nD Cert.SortReferenceIdeal.τ).loc Cert.SortReferenceIdeal.main_arg2) = m ((c.tc : Thread Cert.SortKernelIdeal.nD Cert.SortKernelIdeal.τ).loc Cert.SortKernelIdeal.main_arg2)
      ∧ m' ((c.tc : Thread Cert.SortReferenceIdeal.nD Cert.SortReferenceIdeal.τ).loc Cert.SortReferenceIdeal.main_arg3) = m ((c.tc : Thread Cert.SortKernelIdeal.nD Cert.SortKernelIdeal.τ).loc Cert.SortKernelIdeal.main_arg3)) →
    ∃ (v0 : (c : Dev Cert.SortKernelIdeal.nD) → Buf (Elt Ideal) ((c.tc : Thread Cert.SortKernelIdeal.nD Cert.SortKernelIdeal.τ).loc Cert.SortKernelIdeal.main_v6_0)) (v1 : (c : Dev Cert.SortKernelIdeal.nD) → Buf (Elt Ideal) ((c.tc : Thread Cert.SortKernelIdeal.nD Cert.SortKernelIdeal.τ).loc Cert.SortKernelIdeal.main_v6_1)) (v2 : (c : Dev Cert.SortKernelIdeal.nD) → Buf (Elt Ideal) ((c.tc : Thread Cert.SortKernelIdeal.nD Cert.SortKernelIdeal.τ).loc Cert.SortKernelIdeal.main_v6_2)),
      θ_run (Cert.SortKernelIdeal.defs (F := Ideal)) (onTc (τ := Cert.SortKernelIdeal.τ) (Cert.SortKernelIdeal.main (F := Ideal))) ⟨m, fun _ => 0, g⟩ (fun r => ∀ c : Dev Cert.SortKernelIdeal.nD,
          r.2.mem ((c.tc : Thread Cert.SortKernelIdeal.nD Cert.SortKernelIdeal.τ).loc Cert.SortKernelIdeal.main_v6_0) = v0 c
          ∧ r.2.mem ((c.tc : Thread Cert.SortKernelIdeal.nD Cert.SortKernelIdeal.τ).loc Cert.SortKernelIdeal.main_v6_1) = v1 c
          ∧ r.2.mem ((c.tc : Thread Cert.SortKernelIdeal.nD Cert.SortKernelIdeal.τ).loc Cert.SortKernelIdeal.main_v6_2) = v2 c
          ∧ r.2.mem ((c.tc : Thread Cert.SortKernelIdeal.nD Cert.SortKernelIdeal.τ).loc Cert.SortKernelIdeal.main_arg0) = m ((c.tc : Thread Cert.SortKernelIdeal.nD Cert.SortKernelIdeal.τ).loc Cert.SortKernelIdeal.main_arg0)
          ∧ r.2.mem ((c.tc : Thread Cert.SortKernelIdeal.nD Cert.SortKernelIdeal.τ).loc Cert.SortKernelIdeal.main_arg1) = m ((c.tc : Thread Cert.SortKernelIdeal.nD Cert.SortKernelIdeal.τ).loc Cert.SortKernelIdeal.main_arg1)
          ∧ r.2.mem ((c.tc : Thread Cert.SortKernelIdeal.nD Cert.SortKernelIdeal.τ).loc Cert.SortKernelIdeal.main_arg2) = m ((c.tc : Thread Cert.SortKernelIdeal.nD Cert.SortKernelIdeal.τ).loc Cert.SortKernelIdeal.main_arg2)
          ∧ r.2.mem ((c.tc : Thread Cert.SortKernelIdeal.nD Cert.SortKernelIdeal.τ).loc Cert.SortKernelIdeal.main_arg3) = m ((c.tc : Thread Cert.SortKernelIdeal.nD Cert.SortKernelIdeal.τ).loc Cert.SortKernelIdeal.main_arg3))
      ∧ θ_run (Cert.SortReferenceIdeal.defs (F := Ideal)) (onTc (τ := Cert.SortReferenceIdeal.τ) (Cert.SortReferenceIdeal.main (F := Ideal))) ⟨m', fun _ => 0, g'⟩ (fun r => ∀ c : Dev Cert.SortReferenceIdeal.nD,
          r.2.mem ((c.tc : Thread Cert.SortReferenceIdeal.nD Cert.SortReferenceIdeal.τ).loc Cert.SortReferenceIdeal.main_v40) = v0 c
          ∧ r.2.mem ((c.tc : Thread Cert.SortReferenceIdeal.nD Cert.SortReferenceIdeal.τ).loc Cert.SortReferenceIdeal.main_v39) = v1 c
          ∧ r.2.mem ((c.tc : Thread Cert.SortReferenceIdeal.nD Cert.SortReferenceIdeal.τ).loc Cert.SortReferenceIdeal.main_v41) = v2 c
          ∧ r.2.mem ((c.tc : Thread Cert.SortReferenceIdeal.nD Cert.SortReferenceIdeal.τ).loc Cert.SortReferenceIdeal.main_arg0) = m' ((c.tc : Thread Cert.SortReferenceIdeal.nD Cert.SortReferenceIdeal.τ).loc Cert.SortReferenceIdeal.main_arg0)
          ∧ r.2.mem ((c.tc : Thread Cert.SortReferenceIdeal.nD Cert.SortReferenceIdeal.τ).loc Cert.SortReferenceIdeal.main_arg1) = m' ((c.tc : Thread Cert.SortReferenceIdeal.nD Cert.SortReferenceIdeal.τ).loc Cert.SortReferenceIdeal.main_arg1)
          ∧ r.2.mem ((c.tc : Thread Cert.SortReferenceIdeal.nD Cert.SortReferenceIdeal.τ).loc Cert.SortReferenceIdeal.main_arg2) = m' ((c.tc : Thread Cert.SortReferenceIdeal.nD Cert.SortReferenceIdeal.τ).loc Cert.SortReferenceIdeal.main_arg2)
          ∧ r.2.mem ((c.tc : Thread Cert.SortReferenceIdeal.nD Cert.SortReferenceIdeal.τ).loc Cert.SortReferenceIdeal.main_arg3) = m' ((c.tc : Thread Cert.SortReferenceIdeal.nD Cert.SortReferenceIdeal.τ).loc Cert.SortReferenceIdeal.main_arg3))

def bitexact_CutKernel_CutReference_pre_scores_fit [hCutKernel : Cert.CutKernel.Facts] [hCutReference : Cert.CutReference.Facts] [hPre_scores_fit : Cert.Pre_scores_fit.Facts] : Prop :=
  ∀ (m : (ℓ : Loc Cert.CutKernel.nD Cert.CutKernel.τ Cert.CutKernel.sig) → Buf (Elt Bits) ℓ) (g : Dev Cert.CutKernel.nD → PrngReg)
    (m' : (ℓ : Loc Cert.CutReference.nD Cert.CutReference.τ Cert.CutReference.sig) → Buf (Elt Bits) ℓ) (g' : Dev Cert.CutReference.nD → PrngReg), Pre_CutKernel_scores_fit m →
    (∀ c : Dev Cert.CutKernel.nD,
      m' ((c.tc : Thread Cert.CutReference.nD Cert.CutReference.τ).loc Cert.CutReference.main_arg0) = m ((c.tc : Thread Cert.CutKernel.nD Cert.CutKernel.τ).loc Cert.CutKernel.main_arg0)
      ∧ m' ((c.tc : Thread Cert.CutReference.nD Cert.CutReference.τ).loc Cert.CutReference.main_arg1) = m ((c.tc : Thread Cert.CutKernel.nD Cert.CutKernel.τ).loc Cert.CutKernel.main_arg1)) →
    ∃ (v0 : (c : Dev Cert.CutKernel.nD) → Buf (Elt Bits) ((c.tc : Thread Cert.CutKernel.nD Cert.CutKernel.τ).loc Cert.CutKernel.main_v1_0)) (v1 : (c : Dev Cert.CutKernel.nD) → Buf (Elt Bits) ((c.tc : Thread Cert.CutKernel.nD Cert.CutKernel.τ).loc Cert.CutKernel.main_v1_1)),
      θ_run (Cert.CutKernel.defs (F := Bits)) (onTc (τ := Cert.CutKernel.τ) (Cert.CutKernel.main (F := Bits))) ⟨m, fun _ => 0, g⟩ (fun r => ∀ c : Dev Cert.CutKernel.nD,
          r.2.mem ((c.tc : Thread Cert.CutKernel.nD Cert.CutKernel.τ).loc Cert.CutKernel.main_v1_0) = v0 c
          ∧ r.2.mem ((c.tc : Thread Cert.CutKernel.nD Cert.CutKernel.τ).loc Cert.CutKernel.main_v1_1) = v1 c
          ∧ r.2.mem ((c.tc : Thread Cert.CutKernel.nD Cert.CutKernel.τ).loc Cert.CutKernel.main_arg0) = m ((c.tc : Thread Cert.CutKernel.nD Cert.CutKernel.τ).loc Cert.CutKernel.main_arg0)
          ∧ r.2.mem ((c.tc : Thread Cert.CutKernel.nD Cert.CutKernel.τ).loc Cert.CutKernel.main_arg1) = m ((c.tc : Thread Cert.CutKernel.nD Cert.CutKernel.τ).loc Cert.CutKernel.main_arg1))
      ∧ θ_run (Cert.CutReference.defs (F := Bits)) (onTc (τ := Cert.CutReference.τ) (Cert.CutReference.main (F := Bits))) ⟨m', fun _ => 0, g'⟩ (fun r => ∀ c : Dev Cert.CutReference.nD,
          r.2.mem ((c.tc : Thread Cert.CutReference.nD Cert.CutReference.τ).loc Cert.CutReference.main_v20) = v0 c
          ∧ r.2.mem ((c.tc : Thread Cert.CutReference.nD Cert.CutReference.τ).loc Cert.CutReference.main_v24) = v1 c
          ∧ r.2.mem ((c.tc : Thread Cert.CutReference.nD Cert.CutReference.τ).loc Cert.CutReference.main_arg0) = m' ((c.tc : Thread Cert.CutReference.nD Cert.CutReference.τ).loc Cert.CutReference.main_arg0)
          ∧ r.2.mem ((c.tc : Thread Cert.CutReference.nD Cert.CutReference.τ).loc Cert.CutReference.main_arg1) = m' ((c.tc : Thread Cert.CutReference.nD Cert.CutReference.τ).loc Cert.CutReference.main_arg1))

def Claim : Prop :=
  ∃ (hScoresKernel : Cert.ScoresKernel.Facts) (hScoresKernelIdeal : Cert.ScoresKernelIdeal.Facts) (hScoresReferenceIdeal : Cert.ScoresReferenceIdeal.Facts) (hKernel : Cert.Kernel.Facts) (hKernelIdeal : Cert.KernelIdeal.Facts) (hReferenceIdeal : Cert.ReferenceIdeal.Facts) (hRowsKernel : Cert.RowsKernel.Facts) (hRowsKernelIdeal : Cert.RowsKernelIdeal.Facts) (hRowsReferenceIdeal : Cert.RowsReferenceIdeal.Facts) (hSortKernel : Cert.SortKernel.Facts) (hSortKernelIdeal : Cert.SortKernelIdeal.Facts) (hSortReferenceIdeal : Cert.SortReferenceIdeal.Facts) (hCutKernel : Cert.CutKernel.Facts) (hCutReference : Cert.CutReference.Facts) (hPre_candidates_fit : Cert.Pre_candidates_fit.Facts) (hPre_rows_fit : Cert.Pre_rows_fit.Facts) (hPre_ids_differ : Cert.Pre_ids_differ.Facts) (hPre_scores_fit : Cert.Pre_scores_fit.Facts),
    quiescent_ScoresKernel (hScoresKernel := hScoresKernel)
    ∧ quiescent_ScoresKernelIdeal (hScoresKernelIdeal := hScoresKernelIdeal)
    ∧ quiescent_ScoresReferenceIdeal (hScoresReferenceIdeal := hScoresReferenceIdeal)
    ∧ quiescent_Kernel (hKernel := hKernel) (hPre_candidates_fit := hPre_candidates_fit)
    ∧ quiescent_KernelIdeal (hKernelIdeal := hKernelIdeal) (hPre_candidates_fit := hPre_candidates_fit)
    ∧ quiescent_ReferenceIdeal (hReferenceIdeal := hReferenceIdeal) (hPre_candidates_fit := hPre_candidates_fit)
    ∧ quiescent_RowsKernel (hRowsKernel := hRowsKernel) (hPre_rows_fit := hPre_rows_fit)
    ∧ quiescent_RowsKernelIdeal (hRowsKernelIdeal := hRowsKernelIdeal) (hPre_rows_fit := hPre_rows_fit)
    ∧ quiescent_RowsReferenceIdeal (hRowsReferenceIdeal := hRowsReferenceIdeal) (hPre_rows_fit := hPre_rows_fit)
    ∧ quiescent_SortKernel (hSortKernel := hSortKernel) (hPre_ids_differ := hPre_ids_differ)
    ∧ quiescent_SortKernelIdeal (hSortKernelIdeal := hSortKernelIdeal) (hPre_ids_differ := hPre_ids_differ)
    ∧ quiescent_SortReferenceIdeal (hSortReferenceIdeal := hSortReferenceIdeal) (hPre_ids_differ := hPre_ids_differ)
    ∧ quiescent_CutKernel (hCutKernel := hCutKernel)
    ∧ quiescent_CutKernel_pre_scores_fit (hCutKernel := hCutKernel) (hPre_scores_fit := hPre_scores_fit)
    ∧ quiescent_CutReference (hCutReference := hCutReference)
    ∧ quiescent_CutReference_pre_scores_fit (hCutReference := hCutReference) (hPre_scores_fit := hPre_scores_fit)
    ∧ preserves_ScoresKernel_ScoresKernelIdeal
    ∧ algebraic_ScoresKernelIdeal_ScoresReferenceIdeal (hScoresKernelIdeal := hScoresKernelIdeal) (hScoresReferenceIdeal := hScoresReferenceIdeal)
    ∧ preserves_Kernel_KernelIdeal
    ∧ algebraic_KernelIdeal_ReferenceIdeal (hKernelIdeal := hKernelIdeal) (hReferenceIdeal := hReferenceIdeal) (hPre_candidates_fit := hPre_candidates_fit)
    ∧ preserves_RowsKernel_RowsKernelIdeal
    ∧ algebraic_RowsKernelIdeal_RowsReferenceIdeal (hRowsKernelIdeal := hRowsKernelIdeal) (hRowsReferenceIdeal := hRowsReferenceIdeal) (hPre_rows_fit := hPre_rows_fit)
    ∧ preserves_SortKernel_SortKernelIdeal
    ∧ algebraic_SortKernelIdeal_SortReferenceIdeal (hSortKernelIdeal := hSortKernelIdeal) (hSortReferenceIdeal := hSortReferenceIdeal) (hPre_ids_differ := hPre_ids_differ)
    ∧ bitexact_CutKernel_CutReference_pre_scores_fit (hCutKernel := hCutKernel) (hCutReference := hCutReference) (hPre_scores_fit := hPre_scores_fit)
-- ==== Pre_candidates_fit.lean ====
abbrev S16x384x80 : Shape := ⟨3, ![16, 384, 80]⟩
abbrev S16x384 : Shape := ⟨2, ![16, 384]⟩
abbrev S16x1x16 : Shape := ⟨3, ![16, 1, 16]⟩
abbrev S16x20000x4 : Shape := ⟨3, ![16, 20000, 4]⟩
abbrev S16x300x80 : Shape := ⟨3, ![16, 300, 80]⟩
abbrev S16x300 : Shape := ⟨2, ![16, 300]⟩
abbrev S16x300x1 : Shape := ⟨3, ![16, 300, 1]⟩
abbrev S_ : Shape := ⟨0, ![]⟩
abbrev S80 : Shape := ⟨1, ![80]⟩
abbrev S1x1x80 : Shape := ⟨3, ![1, 1, 80]⟩
abbrev S1x16x1x1x1x16 : Shape := ⟨6, ![1, 16, 1, 1, 1, 16]⟩
abbrev S1x16x1x1x5x16 : Shape := ⟨6, ![1, 16, 1, 1, 5, 16]⟩
abbrev S16x1x80 : Shape := ⟨3, ![16, 1, 80]⟩
abbrev S16x24000 : Shape := ⟨2, ![16, 24000]⟩
abbrev S16 : Shape := ⟨1, ![16]⟩

class Facts : Prop where
  slices_S16x384x80_S16x300x80_0_0_0 : S16x384x80.Slices ![0, 0, 0] S16x300x80
  slices_S16x384_S16x300_0_0 : S16x384.Slices ![0, 0] S16x300
  bcast_S16x300_S16x300x1_0_1 : S16x300.BroadcastsInDim S16x300x1 (![0, 1] : Fin 2 → Fin S16x300x1.rank)
  bcast_S_S16x300x1 : S_.BroadcastsInDim S16x300x1 (![] : Fin 0 → Fin S16x300x1.rank)
  bcast_S80_S1x1x80_2 : S80.BroadcastsInDim S1x1x80 (![2] : Fin 1 → Fin S1x1x80.rank)
  bcast_S16x300x1_S16x300x80_0_1_2 : S16x300x1.BroadcastsInDim S16x300x80 (![0, 1, 2] : Fin 3 → Fin S16x300x80.rank)
  bcast_S1x1x80_S16x300x80_0_1_2 : S1x1x80.BroadcastsInDim S16x300x80 (![0, 1, 2] : Fin 3 → Fin S16x300x80.rank)
  shapeCasts_S16x1x16_S1x16x1x1x1x16 : S16x1x16.ShapeCasts S1x16x1x1x1x16
  bcast_S1x16x1x1x1x16_S1x16x1x1x5x16_0_1_2_3_4_5 : S1x16x1x1x1x16.BroadcastsInDim S1x16x1x1x5x16 (![0, 1, 2, 3, 4, 5] : Fin 6 → Fin S1x16x1x1x5x16.rank)
  shapeCasts_S1x16x1x1x5x16_S16x1x80 : S1x16x1x1x5x16.ShapeCasts S16x1x80
  bcast_S16x1x80_S16x300x80_0_1_2 : S16x1x80.BroadcastsInDim S16x300x80 (![0, 1, 2] : Fin 3 → Fin S16x300x80.rank)
  shapeCasts_S16x300x80_S16x24000 : S16x300x80.ShapeCasts S16x24000
  bcast_S_S16x300 : S_.BroadcastsInDim S16x300 (![] : Fin 0 → Fin S16x300.rank)
  reducesTo_S16x300_S_d0_1 : S16x300.ReducesTo [0, 1] S_
  h_S_ : 0 < S_.numel
  natLt_1_32 : 1 < 32
  reducesTo_S16x24000_S16_d1 : S16x24000.ReducesTo [1] S16
  bcast_S_S16 : S_.BroadcastsInDim S16 (![] : Fin 0 → Fin S16.rank)
  reducesTo_S16_S_d0 : S16.ReducesTo [0] S_

variable [Facts]

def fn_part2 {F : FTy → Type} [FloatOps F] (main_v33 : IVec S_ 1) (main_v40 : IVec S16 1) : IVec S_ 1 :=
  let main_c_6 : IVec S_ 1 := constantI S_ 1 1#1
  let main_v41 : IVec S_ 1 := (fun x v => Host.reduce IntOp.andi x v reducesTo_S16_S_d0 h_S_) main_v40 main_c_6
  let main_v42 : IVec S_ 1 := andi main_v33 main_v41
  main_v42

def fn_part1 {F : FTy → Type} [FloatOps F] (main_arg1 : IVec S16x384 32) (main_v0 : FVec F S16x300x80 .f32) (main_v9 : IVec S16x300x80 32) (main_v17 : IVec S16x300x80 1) (main_v22 : IVec S16x300x80 1) : IVec S_ 1 :=
  let main_v23 : IVec S16x300x80 1 := ori main_v17 main_v22
  let main_v24 : FVec F S16x24000 .f32 := shapeCast S16x24000 main_v0 shapeCasts_S16x300x80_S16x24000
  let main_v25 : IVec S16x24000 32 := shapeCast S16x24000 main_v9 shapeCasts_S16x300x80_S16x24000
  let main_v26 : IVec S16x24000 1 := shapeCast S16x24000 main_v23 shapeCasts_S16x300x80_S16x24000
  let main_v27 : IVec S16x300 32 := (extractStridedSlice S16x300 ![0, 0] · slices_S16x384_S16x300_0_0) main_arg1
  let main_c_0 : IVec S_ 32 := constantI S_ 32 0#32
  let main_v28 : IVec S16x300 32 := broadcastInDim S16x300 ![] bcast_S_S16x300 main_c_0
  let main_v29 : IVec S16x300 1 := cmpi .sge main_v27 main_v28
  let main_c_1 : IVec S_ 32 := constantI S_ 32 20000#32
  let main_v30 : IVec S16x300 32 := broadcastInDim S16x300 ![] bcast_S_S16x300 main_c_1
  let main_v31 : IVec S16x300 1 := cmpi .slt main_v27 main_v30
  let main_v32 : IVec S16x300 1 := andi main_v29 main_v31
  let main_c_2 : IVec S_ 1 := constantI S_ 1 1#1
  let main_v33 : IVec S_ 1 := (fun x v => Host.reduce IntOp.andi x v reducesTo_S16x300_S_d0_1 h_S_) main_v32 main_c_2
  let main_v34 : IVec S16x24000 32 := (extui 32 · natLt_1_32) main_v26
  let main_c_3 : IVec S_ 32 := constantI S_ 32 0#32
  let main_v35 : IVec S16 32 := (fun x v => Host.reduce IntOp.addi x v reducesTo_S16x24000_S16_d1 h_S_) main_v34 main_c_3
  let main_c_4 : IVec S_ 32 := constantI S_ 32 300#32
  let main_v36 : IVec S16 32 := broadcastInDim S16 ![] bcast_S_S16 main_c_4
  let main_v37 : IVec S16 1 := cmpi .sge main_v35 main_v36
  let main_c_5 : IVec S_ 32 := constantI S_ 32 384#32
  let main_v38 : IVec S16 32 := broadcastInDim S16 ![] bcast_S_S16 main_c_5
  let main_v39 : IVec S16 1 := cmpi .slt main_v35 main_v38
  let main_v40 : IVec S16 1 := andi main_v37 main_v39
  fn_part2 (F := F) main_v33 main_v40

def fn {F : FTy → Type} [FloatOps F] (main_arg0 : FVec F S16x384x80 .f32) (main_arg1 : IVec S16x384 32) (main_arg2 : FVec F S16x1x16 .f32) (main_arg3 : IVec S16x1x16 32) (main_arg4 : FVec F S16x20000x4 .f32) : IVec S_ 1 :=
  let main_v0 : FVec F S16x300x80 .f32 := (extractStridedSlice S16x300x80 ![0, 0, 0] · slices_S16x384x80_S16x300x80_0_0_0) main_arg0
  let main_v1 : IVec S16x300 32 := (extractStridedSlice S16x300 ![0, 0] · slices_S16x384_S16x300_0_0) main_arg1
  let main_v2 : IVec S16x300x1 32 := broadcastInDim S16x300x1 ![0, 1] bcast_S16x300_S16x300x1_0_1 main_v1
  let main_c : IVec S_ 32 := constantI S_ 32 80#32
  let main_v3 : IVec S16x300x1 32 := broadcastInDim S16x300x1 ![] bcast_S_S16x300x1 main_c
  let main_v4 : IVec S16x300x1 32 := muli main_v2 main_v3
  let main_v5 : IVec S80 32 := iotaInDim S80 32 0
  let main_v6 : IVec S1x1x80 32 := broadcastInDim S1x1x80 ![2] bcast_S80_S1x1x80_2 main_v5
  let main_v7 : IVec S16x300x80 32 := broadcastInDim S16x300x80 ![0, 1, 2] bcast_S16x300x1_S16x300x80_0_1_2 main_v4
  let main_v8 : IVec S16x300x80 32 := broadcastInDim S16x300x80 ![0, 1, 2] bcast_S1x1x80_S16x300x80_0_1_2 main_v6
  let main_v9 : IVec S16x300x80 32 := addi main_v7 main_v8
  let main_v10 : FVec F S1x16x1x1x1x16 .f32 := shapeCast S1x16x1x1x1x16 main_arg2 shapeCasts_S16x1x16_S1x16x1x1x1x16
  let main_v11 : FVec F S1x16x1x1x5x16 .f32 := broadcastInDim S1x16x1x1x5x16 ![0, 1, 2, 3, 4, 5] bcast_S1x16x1x1x1x16_S1x16x1x1x5x16_0_1_2_3_4_5 main_v10
  let main_v12 : FVec F S16x1x80 .f32 := shapeCast S16x1x80 main_v11 shapeCasts_S1x16x1x1x5x16_S16x1x80
  let main_v13 : IVec S1x16x1x1x1x16 32 := shapeCast S1x16x1x1x1x16 main_arg3 shapeCasts_S16x1x16_S1x16x1x1x1x16
  let main_v14 : IVec S1x16x1x1x5x16 32 := broadcastInDim S1x16x1x1x5x16 ![0, 1, 2, 3, 4, 5] bcast_S1x16x1x1x1x16_S1x16x1x1x5x16_0_1_2_3_4_5 main_v13
  let main_v15 : IVec S16x1x80 32 := shapeCast S16x1x80 main_v14 shapeCasts_S1x16x1x1x5x16_S16x1x80
  let main_v16 : FVec F S16x300x80 .f32 := broadcastInDim S16x300x80 ![0, 1, 2] bcast_S16x1x80_S16x300x80_0_1_2 main_v12
  let main_v17 : IVec S16x300x80 1 := cmpf .ogt main_v0 main_v16
  let main_v18 : FVec F S16x300x80 .f32 := broadcastInDim S16x300x80 ![0, 1, 2] bcast_S16x1x80_S16x300x80_0_1_2 main_v12
  let main_v19 : IVec S16x300x80 1 := cmpf .oeq main_v0 main_v18
  let main_v20 : IVec S16x300x80 32 := broadcastInDim S16x300x80 ![0, 1, 2] bcast_S16x1x80_S16x300x80_0_1_2 main_v15
  let main_v21 : IVec S16x300x80 1 := cmpi .sle main_v9 main_v20
  let main_v22 : IVec S16x300x80 1 := andi main_v19 main_v21
  fn_part1 (F := F) main_arg1 main_v0 main_v9 main_v17 main_v22
-- ==== Pre_ids_differ.lean ====
abbrev S16x384 : Shape := ⟨2, ![16, 384]⟩
abbrev S16x384x4 : Shape := ⟨3, ![16, 384, 4]⟩
abbrev S16x2 : Shape := ⟨2, ![16, 2]⟩
abbrev S16x300 : Shape := ⟨2, ![16, 300]⟩
abbrev S16x300x1 : Shape := ⟨3, ![16, 300, 1]⟩
abbrev S16x1x300 : Shape := ⟨3, ![16, 1, 300]⟩
abbrev S16x300x300 : Shape := ⟨3, ![16, 300, 300]⟩
abbrev S300x300 : Shape := ⟨2, ![300, 300]⟩
abbrev S_ : Shape := ⟨0, ![]⟩
abbrev S1x300x300 : Shape := ⟨3, ![1, 300, 300]⟩

class Facts : Prop where
  slices_S16x384_S16x300_0_0 : S16x384.Slices ![0, 0] S16x300
  bcast_S16x300_S16x300x1_0_1 : S16x300.BroadcastsInDim S16x300x1 (![0, 1] : Fin 2 → Fin S16x300x1.rank)
  bcast_S16x300_S16x1x300_0_2 : S16x300.BroadcastsInDim S16x1x300 (![0, 2] : Fin 2 → Fin S16x1x300.rank)
  bcast_S16x300x1_S16x300x300_0_1_2 : S16x300x1.BroadcastsInDim S16x300x300 (![0, 1, 2] : Fin 3 → Fin S16x300x300.rank)
  bcast_S16x1x300_S16x300x300_0_1_2 : S16x1x300.BroadcastsInDim S16x300x300 (![0, 1, 2] : Fin 3 → Fin S16x300x300.rank)
  bcast_S_S300x300 : S_.BroadcastsInDim S300x300 (![] : Fin 0 → Fin S300x300.rank)
  bcast_S300x300_S1x300x300_1_2 : S300x300.BroadcastsInDim S1x300x300 (![1, 2] : Fin 2 → Fin S1x300x300.rank)
  bcast_S1x300x300_S16x300x300_0_1_2 : S1x300x300.BroadcastsInDim S16x300x300 (![0, 1, 2] : Fin 3 → Fin S16x300x300.rank)
  reducesTo_S16x300x300_S_d0_1_2 : S16x300x300.ReducesTo [0, 1, 2] S_
  h_S_ : 0 < S_.numel

variable [Facts]

def fn {F : FTy → Type} [FloatOps F] (main_arg0 : FVec F S16x384 .f32) (main_arg1 : IVec S16x384 32) (main_arg2 : FVec F S16x384x4 .f32) (main_arg3 : FVec F S16x2 .f32) : IVec S_ 1 :=
  let main_v0 : IVec S16x300 32 := (extractStridedSlice S16x300 ![0, 0] · slices_S16x384_S16x300_0_0) main_arg1
  let main_v1 : IVec S16x300x1 32 := broadcastInDim S16x300x1 ![0, 1] bcast_S16x300_S16x300x1_0_1 main_v0
  let main_v2 : IVec S16x1x300 32 := broadcastInDim S16x1x300 ![0, 2] bcast_S16x300_S16x1x300_0_2 main_v0
  let main_v3 : IVec S16x300x300 32 := broadcastInDim S16x300x300 ![0, 1, 2] bcast_S16x300x1_S16x300x300_0_1_2 main_v1
  let main_v4 : IVec S16x300x300 32 := broadcastInDim S16x300x300 ![0, 1, 2] bcast_S16x1x300_S16x300x300_0_1_2 main_v2
  let main_v5 : IVec S16x300x300 1 := cmpi .ne main_v3 main_v4
  let main_v6 : IVec S300x300 32 := iotaInDim S300x300 32 0
  let main_v7 : IVec S300x300 32 := iotaInDim S300x300 32 1
  let main_c : IVec S_ 32 := constantI S_ 32 0#32
  let main_v8 : IVec S300x300 32 := broadcastInDim S300x300 ![] bcast_S_S300x300 main_c
  let main_v9 : IVec S300x300 32 := addi main_v6 main_v8
  let main_v10 : IVec S300x300 1 := cmpi .eq main_v9 main_v7
  let main_v11 : IVec S1x300x300 1 := broadcastInDim S1x300x300 ![1, 2] bcast_S300x300_S1x300x300_1_2 main_v10
  let main_v12 : IVec S16x300x300 1 := broadcastInDim S16x300x300 ![0, 1, 2] bcast_S1x300x300_S16x300x300_0_1_2 main_v11
  let main_v13 : IVec S16x300x300 1 := ori main_v5 main_v12
  let main_c_0 : IVec S_ 1 := constantI S_ 1 1#1
  let main_v14 : IVec S_ 1 := (fun x v => Host.reduce IntOp.andi x v reducesTo_S16x300x300_S_d0_1_2 h_S_) main_v13 main_c_0
  main_v14
-- ==== Pre_rows_fit.lean ====
abbrev S16x20000x80 : Shape := ⟨3, ![16, 20000, 80]⟩
abbrev S16x20000 : Shape := ⟨2, ![16, 20000]⟩
abbrev S16x1x16 : Shape := ⟨3, ![16, 1, 16]⟩
abbrev S_ : Shape := ⟨0, ![]⟩
abbrev S1x16x1x1x1x16 : Shape := ⟨6, ![1, 16, 1, 1, 1, 16]⟩
abbrev S1x16x1x1x1250x16 : Shape := ⟨6, ![1, 16, 1, 1, 1250, 16]⟩
abbrev S16x1x20000 : Shape := ⟨3, ![16, 1, 20000]⟩
abbrev S16 : Shape := ⟨1, ![16]⟩

class Facts : Prop where
  bcast_S_S16x20000 : S_.BroadcastsInDim S16x20000 (![] : Fin 0 → Fin S16x20000.rank)
  reducesTo_S16x20000_S_d0_1 : S16x20000.ReducesTo [0, 1] S_
  h_S_ : 0 < S_.numel
  shapeCasts_S16x1x16_S1x16x1x1x1x16 : S16x1x16.ShapeCasts S1x16x1x1x1x16
  bcast_S1x16x1x1x1x16_S1x16x1x1x1250x16_0_1_2_3_4_5 : S1x16x1x1x1x16.BroadcastsInDim S1x16x1x1x1250x16 (![0, 1, 2, 3, 4, 5] : Fin 6 → Fin S1x16x1x1x1250x16.rank)
  shapeCasts_S1x16x1x1x1250x16_S16x1x20000 : S1x16x1x1x1250x16.ShapeCasts S16x1x20000
  shapeCasts_S16x1x20000_S16x20000 : S16x1x20000.ShapeCasts S16x20000
  natLt_1_32 : 1 < 32
  reducesTo_S16x20000_S16_d1 : S16x20000.ReducesTo [1] S16
  bcast_S_S16 : S_.BroadcastsInDim S16 (![] : Fin 0 → Fin S16.rank)
  reducesTo_S16_S_d0 : S16.ReducesTo [0] S_

variable [Facts]

def fn_part1 {F : FTy → Type} [FloatOps F] (main_v5 : IVec S_ 1) (main_v19 : IVec S16x20000 32) (main_c_2 : IVec S_ 32) : IVec S_ 1 :=
  let main_v20 : IVec S16 32 := (fun x v => Host.reduce IntOp.addi x v reducesTo_S16x20000_S16_d1 h_S_) main_v19 main_c_2
  let main_c_3 : IVec S_ 32 := constantI S_ 32 300#32
  let main_v21 : IVec S16 32 := broadcastInDim S16 ![] bcast_S_S16 main_c_3
  let main_v22 : IVec S16 1 := cmpi .sge main_v20 main_v21
  let main_c_4 : IVec S_ 32 := constantI S_ 32 384#32
  let main_v23 : IVec S16 32 := broadcastInDim S16 ![] bcast_S_S16 main_c_4
  let main_v24 : IVec S16 1 := cmpi .slt main_v20 main_v23
  let main_v25 : IVec S16 1 := andi main_v22 main_v24
  let main_c_5 : IVec S_ 1 := constantI S_ 1 1#1
  let main_v26 : IVec S_ 1 := (fun x v => Host.reduce IntOp.andi x v reducesTo_S16_S_d0 h_S_) main_v25 main_c_5
  let main_v27 : IVec S_ 1 := andi main_v5 main_v26
  main_v27

def fn {F : FTy → Type} [FloatOps F] (main_arg0 : FVec F S16x20000x80 .f32) (main_arg1 : FVec F S16x20000 .f32) (main_arg2 : IVec S16x20000 32) (main_arg3 : FVec F S16x1x16 .f32) (main_arg4 : IVec S16x1x16 32) : IVec S_ 1 :=
  let main_c : IVec S_ 32 := constantI S_ 32 0#32
  let main_v0 : IVec S16x20000 32 := broadcastInDim S16x20000 ![] bcast_S_S16x20000 main_c
  let main_v1 : IVec S16x20000 1 := cmpi .sge main_arg2 main_v0
  let main_c_0 : IVec S_ 32 := constantI S_ 32 1600000#32
  let main_v2 : IVec S16x20000 32 := broadcastInDim S16x20000 ![] bcast_S_S16x20000 main_c_0
  let main_v3 : IVec S16x20000 1 := cmpi .slt main_arg2 main_v2
  let main_v4 : IVec S16x20000 1 := andi main_v1 main_v3
  let main_c_1 : IVec S_ 1 := constantI S_ 1 1#1
  let main_v5 : IVec S_ 1 := (fun x v => Host.reduce IntOp.andi x v reducesTo_S16x20000_S_d0_1 h_S_) main_v4 main_c_1
  let main_v6 : FVec F S1x16x1x1x1x16 .f32 := shapeCast S1x16x1x1x1x16 main_arg3 shapeCasts_S16x1x16_S1x16x1x1x1x16
  let main_v7 : FVec F S1x16x1x1x1250x16 .f32 := broadcastInDim S1x16x1x1x1250x16 ![0, 1, 2, 3, 4, 5] bcast_S1x16x1x1x1x16_S1x16x1x1x1250x16_0_1_2_3_4_5 main_v6
  let main_v8 : FVec F S16x1x20000 .f32 := shapeCast S16x1x20000 main_v7 shapeCasts_S1x16x1x1x1250x16_S16x1x20000
  let main_v9 : FVec F S16x20000 .f32 := shapeCast S16x20000 main_v8 shapeCasts_S16x1x20000_S16x20000
  let main_v10 : IVec S1x16x1x1x1x16 32 := shapeCast S1x16x1x1x1x16 main_arg4 shapeCasts_S16x1x16_S1x16x1x1x1x16
  let main_v11 : IVec S1x16x1x1x1250x16 32 := broadcastInDim S1x16x1x1x1250x16 ![0, 1, 2, 3, 4, 5] bcast_S1x16x1x1x1x16_S1x16x1x1x1250x16_0_1_2_3_4_5 main_v10
  let main_v12 : IVec S16x1x20000 32 := shapeCast S16x1x20000 main_v11 shapeCasts_S1x16x1x1x1250x16_S16x1x20000
  let main_v13 : IVec S16x20000 32 := shapeCast S16x20000 main_v12 shapeCasts_S16x1x20000_S16x20000
  let main_v14 : IVec S16x20000 1 := cmpf .ogt main_arg1 main_v9
  let main_v15 : IVec S16x20000 1 := cmpf .oeq main_arg1 main_v9
  let main_v16 : IVec S16x20000 1 := cmpi .sle main_arg2 main_v13
  let main_v17 : IVec S16x20000 1 := andi main_v15 main_v16
  let main_v18 : IVec S16x20000 1 := ori main_v14 main_v17
  let main_v19 : IVec S16x20000 32 := (extui 32 · natLt_1_32) main_v18
  let main_c_2 : IVec S_ 32 := constantI S_ 32 0#32
  fn_part1 (F := F) main_v5 main_v19 main_c_2
-- ==== Pre_scores_fit.lean ====
abbrev S16x384x80 : Shape := ⟨3, ![16, 384, 80]⟩
abbrev S16x384 : Shape := ⟨2, ![16, 384]⟩
abbrev S16x300x80 : Shape := ⟨3, ![16, 300, 80]⟩
abbrev S16x300 : Shape := ⟨2, ![16, 300]⟩
abbrev S16x300x1 : Shape := ⟨3, ![16, 300, 1]⟩
abbrev S_ : Shape := ⟨0, ![]⟩
abbrev S80 : Shape := ⟨1, ![80]⟩
abbrev S1x1x80 : Shape := ⟨3, ![1, 1, 80]⟩
abbrev S16x24000 : Shape := ⟨2, ![16, 24000]⟩
abbrev S16 : Shape := ⟨1, ![16]⟩

class Facts : Prop where
  slices_S16x384x80_S16x300x80_0_0_0 : S16x384x80.Slices ![0, 0, 0] S16x300x80
  slices_S16x384_S16x300_0_0 : S16x384.Slices ![0, 0] S16x300
  bcast_S16x300_S16x300x1_0_1 : S16x300.BroadcastsInDim S16x300x1 (![0, 1] : Fin 2 → Fin S16x300x1.rank)
  bcast_S_S16x300x1 : S_.BroadcastsInDim S16x300x1 (![] : Fin 0 → Fin S16x300x1.rank)
  bcast_S80_S1x1x80_2 : S80.BroadcastsInDim S1x1x80 (![2] : Fin 1 → Fin S1x1x80.rank)
  bcast_S16x300x1_S16x300x80_0_1_2 : S16x300x1.BroadcastsInDim S16x300x80 (![0, 1, 2] : Fin 3 → Fin S16x300x80.rank)
  bcast_S1x1x80_S16x300x80_0_1_2 : S1x1x80.BroadcastsInDim S16x300x80 (![0, 1, 2] : Fin 3 → Fin S16x300x80.rank)
  shapeCasts_S16x300x80_S16x24000 : S16x300x80.ShapeCasts S16x24000
  bcast_S_S16x300 : S_.BroadcastsInDim S16x300 (![] : Fin 0 → Fin S16x300.rank)
  reducesTo_S16x300_S_d0_1 : S16x300.ReducesTo [0, 1] S_
  h_S_ : 0 < S_.numel
  bcast_S_S16x24000 : S_.BroadcastsInDim S16x24000 (![] : Fin 0 → Fin S16x24000.rank)
  natLt_1_32 : 1 < 32
  reducesTo_S16x24000_S16_d1 : S16x24000.ReducesTo [1] S16
  bcast_S_S16 : S_.BroadcastsInDim S16 (![] : Fin 0 → Fin S16.rank)
  reducesTo_S16_S_d0 : S16.ReducesTo [0] S_

variable [Facts]

def fn_part1 {F : FTy → Type} [BitOps F] (main_v11 : IVec S16x24000 32) (main_v19 : IVec S_ 1) : IVec S_ 1 :=
  let main_c_3 : IVec S_ 32 := constantI S_ 32 0#32
  let main_v20 : IVec S16x24000 32 := broadcastInDim S16x24000 ![] bcast_S_S16x24000 main_c_3
  let main_v21 : IVec S16x24000 1 := cmpi .sge main_v11 main_v20
  let main_v22 : IVec S16x24000 32 := (extui 32 · natLt_1_32) main_v21
  let main_c_4 : IVec S_ 32 := constantI S_ 32 0#32
  let main_v23 : IVec S16 32 := (fun x v => Host.reduce IntOp.addi x v reducesTo_S16x24000_S16_d1 h_S_) main_v22 main_c_4
  let main_c_5 : IVec S_ 32 := constantI S_ 32 300#32
  let main_v24 : IVec S16 32 := broadcastInDim S16 ![] bcast_S_S16 main_c_5
  let main_v25 : IVec S16 1 := cmpi .sge main_v23 main_v24
  let main_c_6 : IVec S_ 1 := constantI S_ 1 1#1
  let main_v26 : IVec S_ 1 := (fun x v => Host.reduce IntOp.andi x v reducesTo_S16_S_d0 h_S_) main_v25 main_c_6
  let main_v27 : IVec S_ 1 := andi main_v19 main_v26
  main_v27

def fn {F : FTy → Type} [BitOps F] (main_arg0 : FVec F S16x384x80 .f32) (main_arg1 : IVec S16x384 32) : IVec S_ 1 :=
  let main_v0 : FVec F S16x300x80 .f32 := (extractStridedSlice S16x300x80 ![0, 0, 0] · slices_S16x384x80_S16x300x80_0_0_0) main_arg0
  let main_v1 : IVec S16x300x80 32 := bitcastToInt main_v0
  let main_v2 : IVec S16x300 32 := (extractStridedSlice S16x300 ![0, 0] · slices_S16x384_S16x300_0_0) main_arg1
  let main_v3 : IVec S16x300x1 32 := broadcastInDim S16x300x1 ![0, 1] bcast_S16x300_S16x300x1_0_1 main_v2
  let main_c : IVec S_ 32 := constantI S_ 32 80#32
  let main_v4 : IVec S16x300x1 32 := broadcastInDim S16x300x1 ![] bcast_S_S16x300x1 main_c
  let main_v5 : IVec S16x300x1 32 := muli main_v3 main_v4
  let main_v6 : IVec S80 32 := iotaInDim S80 32 0
  let main_v7 : IVec S1x1x80 32 := broadcastInDim S1x1x80 ![2] bcast_S80_S1x1x80_2 main_v6
  let main_v8 : IVec S16x300x80 32 := broadcastInDim S16x300x80 ![0, 1, 2] bcast_S16x300x1_S16x300x80_0_1_2 main_v5
  let main_v9 : IVec S16x300x80 32 := broadcastInDim S16x300x80 ![0, 1, 2] bcast_S1x1x80_S16x300x80_0_1_2 main_v7
  let main_v10 : IVec S16x300x80 32 := addi main_v8 main_v9
  let main_v11 : IVec S16x24000 32 := shapeCast S16x24000 main_v1 shapeCasts_S16x300x80_S16x24000
  let main_v12 : IVec S16x24000 32 := shapeCast S16x24000 main_v10 shapeCasts_S16x300x80_S16x24000
  let main_v13 : IVec S16x300 32 := (extractStridedSlice S16x300 ![0, 0] · slices_S16x384_S16x300_0_0) main_arg1
  let main_c_0 : IVec S_ 32 := constantI S_ 32 0#32
  let main_v14 : IVec S16x300 32 := broadcastInDim S16x300 ![] bcast_S_S16x300 main_c_0
  let main_v15 : IVec S16x300 1 := cmpi .sge main_v13 main_v14
  let main_c_1 : IVec S_ 32 := constantI S_ 32 20000#32
  let main_v16 : IVec S16x300 32 := broadcastInDim S16x300 ![] bcast_S_S16x300 main_c_1
  let main_v17 : IVec S16x300 1 := cmpi .slt main_v13 main_v16
  let main_v18 : IVec S16x300 1 := andi main_v15 main_v17
  let main_c_2 : IVec S_ 1 := constantI S_ 1 1#1
  let main_v19 : IVec S_ 1 := (fun x v => Host.reduce IntOp.andi x v reducesTo_S16x300_S_d0_1 h_S_) main_v18 main_c_2
  fn_part1 (F := F) main_v11 main_v19
-- ==== ScoresKernel.lean ====
abbrev S16x20000x80 : Shape := ⟨3, ![16, 20000, 80]⟩
abbrev S16x10x1x2000 : Shape := ⟨4, ![16, 10, 1, 2000]⟩
abbrev S16x1x16 : Shape := ⟨3, ![16, 1, 16]⟩
abbrev S1x2000x80 : Shape := ⟨3, ![1, 2000, 80]⟩
abbrev S1x10x1x2000 : Shape := ⟨4, ![1, 10, 1, 2000]⟩
abbrev S1x1x16 : Shape := ⟨3, ![1, 1, 16]⟩
abbrev S10x1x2000 : Shape := ⟨3, ![10, 1, 2000]⟩
abbrev S2000x80 : Shape := ⟨2, ![2000, 80]⟩
abbrev S2000 : Shape := ⟨1, ![2000]⟩
abbrev S2000x1 : Shape := ⟨2, ![2000, 1]⟩
abbrev S1x2000 : Shape := ⟨2, ![1, 2000]⟩
abbrev S1x1x2000 : Shape := ⟨3, ![1, 1, 2000]⟩
abbrev S1 : Shape := ⟨1, ![1]⟩
abbrev S1x1x1x1 : Shape := ⟨4, ![1, 1, 1, 1]⟩
abbrev S16 : Shape := ⟨1, ![16]⟩

abbrev nBuf : Space → Nat
  | .hbm => 6
  | .vmem => 14
  | .smem => 0
  | _ => 0

abbrev bufTy : (tb : Table) → Fin (tcTables nBuf tb) → BufTy
  | .hbm, ⟨0, _⟩ => ⟨S16x20000x80, .f32⟩
  | .hbm, ⟨1, _⟩ => ⟨S16x20000x80, .f32⟩
  | .hbm, ⟨2, _⟩ => ⟨S16x10x1x2000, .f32⟩
  | .hbm, ⟨3, _⟩ => ⟨S16x10x1x2000, .i32⟩
  | .hbm, ⟨4, _⟩ => ⟨S16x1x16, .f32⟩
  | .hbm, ⟨5, _⟩ => ⟨S16x1x16, .i32⟩
  | .local _ .vmem, ⟨0, _⟩ => ⟨S1x2000x80, .f32⟩
  | .local _ .vmem, ⟨1, _⟩ => ⟨S1x2000x80, .f32⟩
  | .local _ .vmem, ⟨2, _⟩ => ⟨S1x2000x80, .f32⟩
  | .local _ .vmem, ⟨3, _⟩ => ⟨S1x2000x80, .f32⟩
  | .local _ .vmem, ⟨4, _⟩ => ⟨S1x10x1x2000, .f32⟩
  | .local _ .vmem, ⟨5, _⟩ => ⟨S1x10x1x2000, .f32⟩
  | .local _ .vmem, ⟨6, _⟩ => ⟨S1x10x1x2000, .i32⟩
  | .local _ .vmem, ⟨7, _⟩ => ⟨S1x10x1x2000, .i32⟩
  | .local _ .vmem, ⟨8, _⟩ => ⟨S1x1x16, .f32⟩
  | .local _ .vmem, ⟨9, _⟩ => ⟨S1x1x16, .f32⟩
  | .local _ .vmem, ⟨10, _⟩ => ⟨S1x1x16, .i32⟩
  | .local _ .vmem, ⟨11, _⟩ => ⟨S1x1x16, .i32⟩
  | .local _ .vmem, ⟨12, _⟩ => ⟨S10x1x2000, .f32⟩
  | .local _ .vmem, ⟨13, _⟩ => ⟨S10x1x2000, .i32⟩
  | _, _ => ⟨S16x20000x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_v0_3 : Ref sig .tc := ⟨.hbm, 4, rfl⟩
abbrev main_v0_4 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 10], ![false, false]⟩

def k0_off1 (i : grid0.Coords) : Fin 3 → Nat :=
  let arg1 : BitVec 32 := BitVec.ofNat 32 (i 1).val
  let v28 : Index := Scalar.indexCast arg1
  let c0_10 : Index := 0#32
  let c0_11 : Index := 0#32
  ![v28.toNat, 0, 0]
def k0_cond1 (i : grid0.Coords) : BitVec 1 :=
  let arg1 : BitVec 32 := BitVec.ofNat 32 (i 1).val
  let c9_i32 : BitVec 32 := 9#32
  let v36 : BitVec 1 := Scalar.cmpi .eq arg1 c9_i32
  let v37 : BitVec 32 := Scalar.extui v36
  let c0_i32 : BitVec 32 := 0#32
  let v38 : BitVec 1 := Scalar.cmpi .ne v37 c0_i32
  v38

@[reducible] def k0_t1_loop : Scf.Loop 32 :=
  let c0_i32_29 : BitVec 32 := 0#32
  let c31_i32 : BitVec 32 := 31#32
  let v47 : BitVec 32 := Scalar.addi c0_i32_29 c31_i32
  let c1_i32 : BitVec 32 := 1#32
  ⟨c0_i32_29, v47, c1_i32⟩
@[reducible] def k0_t2_loop : Scf.Loop 32 :=
  let c0_i32_33 : BitVec 32 := 0#32
  let c21_i32 : BitVec 32 := 21#32
  let v60 : BitVec 32 := Scalar.addi c0_i32_33 c21_i32
  let c1_i32_34 : BitVec 32 := 1#32
  ⟨c0_i32_33, v60, c1_i32_34⟩
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2000x80 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2000x80 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x10x1x2000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x10x1x2000 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x16 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ScoresReferenceIdeal.lean ====
abbrev S16x20000x80 : Shape := ⟨3, ![16, 20000, 80]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S16x20000x80, .f32⟩
  | .hbm, ⟨1, _⟩ => ⟨S16x20000x80, .f32⟩
  | .hbm, ⟨2, _⟩ => ⟨S16x20000x80, .f32⟩
  | .hbm, ⟨3, _⟩ => ⟨S_, .f32⟩
  | .hbm, ⟨4, _⟩ => ⟨S16x20000x80, .f32⟩
  | .hbm, ⟨5, _⟩ => ⟨S16x20000x80, .f32⟩
  | .hbm, ⟨6, _⟩ => ⟨S_, .f32⟩
  | .hbm, ⟨7, _⟩ => ⟨S16x20000x80, .f32⟩
  | .hbm, ⟨8, _⟩ => ⟨S16x20000x80, .f32⟩
  | _, _ => ⟨S16x20000x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel.lean ====
abbrev S16x384x80 : Shape := ⟨3, ![16, 384, 80]⟩
abbrev S16x384 : Shape := ⟨2, ![16, 384]⟩
abbrev S16x1x16 : Shape := ⟨3, ![16, 1, 16]⟩
abbrev S16x20000x4 : Shape := ⟨3, ![16, 20000, 4]⟩
abbrev S16x80000 : Shape := ⟨2, ![16, 80000]⟩
abbrev S16x1536 : Shape := ⟨2, ![16, 1536]⟩
abbrev S384x80 : Shape := ⟨2, ![384, 80]⟩
abbrev S384 : Shape := ⟨1, ![384]⟩
abbrev S1x16 : Shape := ⟨2, ![1, 16]⟩
abbrev S80000 : Shape := ⟨1, ![80000]⟩
abbrev S1536 : Shape := ⟨1, ![1536]⟩
abbrev S_ : Shape := ⟨0, ![]⟩
abbrev S1x384x80 : Shape := ⟨3, ![1, 384, 80]⟩
abbrev S1x384 : Shape := ⟨2, ![1, 384]⟩
abbrev S1x1x16 : Shape := ⟨3, ![1, 1, 16]⟩
abbrev S1x80000 : Shape := ⟨2, ![1, 80000]⟩
abbrev S16 : Shape := ⟨1, ![16]⟩
abbrev S1x1536 : Shape := ⟨2, ![1, 1536]⟩
abbrev S16x300 : Shape := ⟨2, ![16, 300]⟩
abbrev S16x384x4 : Shape := ⟨3, ![16, 384, 4]⟩
abbrev S16x300x4 : Shape := ⟨3, ![16, 300, 4]⟩

abbrev nBuf : Table → Nat
  | .hbm => 13
  | .local .scVector .vmem => 9
  | _ => 0

abbrev bufTy : (tb : Table) → Fin (nBuf tb) → BufTy
  | .hbm, ⟨0, _⟩ => ⟨S16x384x80, .f32⟩
  | .hbm, ⟨1, _⟩ => ⟨S16x384, .i32⟩
  | .hbm, ⟨2, _⟩ => ⟨S16x1x16, .f32⟩
  | .hbm, ⟨3, _⟩ => ⟨S16x1x16, .i32⟩
  | .hbm, ⟨4, _⟩ => ⟨S16x20000x4, .f32⟩
  | .hbm, ⟨5, _⟩ => ⟨S16x80000, .f32⟩
  | .hbm, ⟨6, _⟩ => ⟨S16x384, .f32⟩
  | .hbm, ⟨7, _⟩ => ⟨S16x384, .i32⟩
  | .hbm, ⟨8, _⟩ => ⟨S16x1536, .f32⟩
  | .hbm, ⟨9, _⟩ => ⟨S16x300, .f32⟩
  | .hbm, ⟨10, _⟩ => ⟨S16x300, .i32⟩
  | .hbm, ⟨11, _⟩ => ⟨S16x384x4, .f32⟩
  | .hbm, ⟨12, _⟩ => ⟨S16x300x4, .f32⟩
  | .local .scVector .vmem, ⟨0, _⟩ => ⟨S384x80, .f32⟩
  | .local .scVector .vmem, ⟨1, _⟩ => ⟨S384, .i32⟩
  | .local .scVector .vmem, ⟨2, _⟩ => ⟨S1x16, .f32⟩
  | .local .scVector .vmem, ⟨3, _⟩ => ⟨S1x16, .i32⟩
  | .local .scVector .vmem, ⟨4, _⟩ => ⟨S384, .f32⟩
  | .local .scVector .vmem, ⟨5, _⟩ => ⟨S384, .i32⟩
  | .local .scVector .vmem, ⟨6, _⟩ => ⟨S384, .i32⟩
  | .local .scVector .vmem, ⟨7, _⟩ => ⟨S80000, .f32⟩
  | .local .scVector .vmem, ⟨8, _⟩ => ⟨S1536, .f32⟩
  | _, _ => ⟨S16x384x80, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_arg3_scv : Ref sig .scVector := ⟨.hbm, 3, rfl⟩
abbrev main_v0_scv : Ref sig .scVector := ⟨.hbm, 5, rfl⟩
abbrev main_v1_0_scv : Ref sig .scVector := ⟨.hbm, 6, rfl⟩
abbrev main_v1_1_scv : Ref sig .scVector := ⟨.hbm, 7, rfl⟩
abbrev main_v1_2_scv : Ref sig .scVector := ⟨.hbm, 8, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let v3 : BitVec 32 := Scalar.extui v2
  let c0_i32 : BitVec 32 := 0#32
  let v4 : BitVec 1 := Scalar.cmpi .ne v3 c0_i32
  v4

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_14_r0 : BitVec 32 := 0#32
  let c0_i32_15_r0 : BitVec 32 := 0#32
  ![v1.toNat, 0, 0]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_14_r1 : BitVec 32 := 0#32
  ![v1.toNat, 0]
def k0_off3 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_14_r2 : BitVec 32 := 0#32
  let c0_i32_15_r2 : BitVec 32 := 0#32
  ![v1.toNat, 0, 0]
def k0_off4 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_14_r4 : BitVec 32 := 0#32
  ![v1.toNat, 0]
@[reducible] def k0_t1_loop : Scf.Loop 32 :=
  let c0_i32_4 : BitVec 32 := 0#32
  let c24_i32 : BitVec 32 := 24#32
  let v9 : BitVec 32 := Scalar.addi c0_i32_4 c24_i32
  let c1_i32 : BitVec 32 := 1#32
  ⟨c0_i32_4, v9, c1_i32⟩
def k0_off5 (k0_t1 : Fin k0_t1_loop.trips) : Fin 1 → Nat :=
  let c0_i32_4 : BitVec 32 := 0#32
  let c1_i32 : BitVec 32 := 1#32
  let arg19 : BitVec 32 := Scf.iv c0_i32_4 c1_i32 k0_t1
  let c16_i32_15 : BitVec 32 := 16#32
  let v15 : BitVec 32 := Scalar.muli arg19 c16_i32_15
  let v16 : Index := Scalar.indexCast v15
  ![v16.toNat]
@[reducible] def k0_t2_loop : Scf.Loop 32 :=
  let c0_i32_7 : BitVec 32 := 0#32
  let c300_i32 : BitVec 32 := 300#32
  let v11 : BitVec 32 := Scalar.addi c0_i32_7 c300_i32
  let c1_i32_8 : BitVec 32 := 1#32
  ⟨c0_i32_7, v11, c1_i32_8⟩

def k0_chk1 (i : grid0.Coords) (v14 : IVec S16 32) : Prop :=
  (∀ (k0_h1 : k0_cond1 i = 1#1), ∀ a x, ((![v14] : Fin 1 → IVec S16 32) a x).toNat < S384.size a)
theorem k0_idx1_inb : ∀ (i : grid0.Coords) (v14 : IVec S16 32) (k0_hw1 : k0_chk1 i v14), ∀ (k0_h1 : k0_cond1 i = 1#1), ∀ a x, ((![v14] : Fin 1 → IVec S16 32) a x).toNat < S384.size a := fun i v14 k0_hw1 k0_h1 => k0_hw1 k0_h1
def k0_off6 (k0_t2 : Fin k0_t2_loop.trips) : Fin 2 → Nat :=
  let c0_i32_7 : BitVec 32 := 0#32
  let c1_i32_8 : BitVec 32 := 1#32
  let arg19 : BitVec 32 := Scf.iv c0_i32_7 c1_i32_8 k0_t2
  let v16 : Index := Scalar.indexCast arg19
  let c0_14 : Index := 0#32
  ![v16.toNat, 0]

def k0_chk2 (i : grid0.Coords) (v33 : IVec S16 32) : Prop :=
  (∀ (k0_h1 : k0_cond1 i = 1#1), ∀ a x, ((![v33] : Fin 1 → IVec S16 32) a x).toNat < S384.size a) ∧
  (∀ (k0_h1 : k0_cond1 i = 1#1), ∀ a x, ((![v33] : Fin 1 → IVec S16 32) a x).toNat < S384.size a) ∧
  (∀ (k0_h1 : k0_cond1 i = 1#1), ∀ a x, ((![v33] : Fin 1 → IVec S16 32) a x).toNat < S384.size a)
theorem k0_idx2_inb : ∀ (i : grid0.Coords) (v33 : IVec S16 32) (k0_hw2 : k0_chk2 i v33), ∀ (k0_h1 : k0_cond1 i = 1#1), ∀ a x, ((![v33] : Fin 1 → IVec S16 32) a x).toNat < S384.size a := fun i v33 k0_hw2 k0_h1 => k0_hw2.1 k0_h1
theorem k0_idx3_inb : ∀ (i : grid0.Coords) (v33 : IVec S16 32) (k0_hw2 : k0_chk2 i v33), ∀ (k0_h1 : k0_cond1 i = 1#1), ∀ a x, ((![v33] : Fin 1 → IVec S16 32) a x).toNat < S384.size a := fun i v33 k0_hw2 k0_h1 => k0_hw2.2.1 k0_h1
theorem k0_idx4_inb : ∀ (i : grid0.Coords) (v33 : IVec S16 32) (k0_hw2 : k0_chk2 i v33), ∀ (k0_h1 : k0_cond1 i = 1#1), ∀ a x, ((![v33] : Fin 1 → IVec S16 32) a x).toNat < S384.size a := fun i v33 k0_hw2 k0_h1 => k0_hw2.2.2 k0_h1
def k0_off7 (k0_t2 : Fin k0_t2_loop.trips) : Fin 2 → Nat :=
  let c0_i32_7 : BitVec 32 := 0#32
  let c1_i32_8 : BitVec 32 := 1#32
  let arg19 : BitVec 32 := Scf.iv c0_i32_7 c1_i32_8 k0_t2
  let v65 : Index := Scalar.indexCast arg19
  let c16 : Index := 16#32
  ![v65.toNat, 16]

def k0_chk3 (i : grid0.Coords) (v82 : IVec S16 32) : Prop :=
  (∀ (k0_h1 : k0_cond1 i = 1#1), ∀ a x, ((![v82] : Fin 1 → IVec S16 32) a x).toNat < S384.size a) ∧
  (∀ (k0_h1 : k0_cond1 i = 1#1), ∀ a x, ((![v82] : Fin 1 → IVec S16 32) a x).toNat < S384.size a) ∧
  (∀ (k0_h1 : k0_cond1 i = 1#1), ∀ a x, ((![v82] : Fin 1 → IVec S16 32) a x).toNat < S384.size a)
theorem k0_idx5_inb : ∀ (i : grid0.Coords) (v82 : IVec S16 32) (k0_hw3 : k0_chk3 i v82), ∀ (k0_h1 : k0_cond1 i = 1#1), ∀ a x, ((![v82] : Fin 1 → IVec S16 32) a x).toNat < S384.size a := fun i v82 k0_hw3 k0_h1 => k0_hw3.1 k0_h1
theorem k0_idx6_inb : ∀ (i : grid0.Coords) (v82 : IVec S16 32) (k0_hw3 : k0_chk3 i v82), ∀ (k0_h1 : k0_cond1 i = 1#1), ∀ a x, ((![v82] : Fin 1 → IVec S16 32) a x).toNat < S384.size a := fun i v82 k0_hw3 k0_h1 => k0_hw3.2.1 k0_h1
theorem k0_idx7_inb : ∀ (i : grid0.Coords) (v82 : IVec S16 32) (k0_hw3 : k0_chk3 i v82), ∀ (k0_h1 : k0_cond1 i = 1#1), ∀ a x, ((![v82] : Fin 1 → IVec S16 32) a x).toNat < S384.size a := fun i v82 k0_hw3 k0_h1 => k0_hw3.2.2 k0_h1
def k0_off8 (k0_t2 : Fin k0_t2_loop.trips) : Fin 2 → Nat :=
  let c0_i32_7 : BitVec 32 := 0#32
  let c1_i32_8 : BitVec 32 := 1#32
  let arg19 : BitVec 32 := Scf.iv c0_i32_7 c1_i32_8 k0_t2
  let v114 : Index := Scalar.indexCast arg19
  let c32 : Index := 32#32
  ![v114.toNat, 32]

def k0_chk4 (i : grid0.Coords) (v131 : IVec S16 32) : Prop :=
  (∀ (k0_h1 : k0_cond1 i = 1#1), ∀ a x, ((![v131] : Fin 1 → IVec S16 32) a x).toNat < S384.size a) ∧
  (∀ (k0_h1 : k0_cond1 i = 1#1), ∀ a x, ((![v131] : Fin 1 → IVec S16 32) a x).toNat < S384.size a) ∧
  (∀ (k0_h1 : k0_cond1 i = 1#1), ∀ a x, ((![v131] : Fin 1 → IVec S16 32) a x).toNat < S384.size a)
theorem k0_idx8_inb : ∀ (i : grid0.Coords) (v131 : IVec S16 32) (k0_hw4 : k0_chk4 i v131), ∀ (k0_h1 : k0_cond1 i = 1#1), ∀ a x, ((![v131] : Fin 1 → IVec S16 32) a x).toNat < S384.size a := fun i v131 k0_hw4 k0_h1 => k0_hw4.1 k0_h1
theorem k0_idx9_inb : ∀ (i : grid0.Coords) (v131 : IVec S16 32) (k0_hw4 : k0_chk4 i v131), ∀ (k0_h1 : k0_cond1 i = 1#1), ∀ a x, ((![v131] : Fin 1 → IVec S16 32) a x).toNat < S384.size a := fun i v131 k0_hw4 k0_h1 => k0_hw4.2.1 k0_h1
theorem k0_idx10_inb : ∀ (i : grid0.Coords) (v131 : IVec S16 32) (k0_hw4 : k0_chk4 i v131), ∀ (k0_h1 : k0_cond1 i = 1#1), ∀ a x, ((![v131] : Fin 1 → IVec S16 32) a x).toNat < S384.size a := fun i v131 k0_hw4 k0_h1 => k0_hw4.2.2 k0_h1
def k0_off9 (k0_t2 : Fin k0_t2_loop.trips) : Fin 2 → Nat :=
  let c0_i32_7 : BitVec 32 := 0#32
  let c1_i32_8 : BitVec 32 := 1#32
  let arg19 : BitVec 32 := Scf.iv c0_i32_7 c1_i32_8 k0_t2
  let v163 : Index := Scalar.indexCast arg19
  let c48 : Index := 48#32
  ![v163.toNat, 48]

def k0_chk5 (i : grid0.Coords) (v180 : IVec S16 32) : Prop :=
  (∀ (k0_h1 : k0_cond1 i = 1#1), ∀ a x, ((![v180] : Fin 1 → IVec S16 32) a x).toNat < S384.size a) ∧
  (∀ (k0_h1 : k0_cond1 i = 1#1), ∀ a x, ((![v180] : Fin 1 → IVec S16 32) a x).toNat < S384.size a) ∧
  (∀ (k0_h1 : k0_cond1 i = 1#1), ∀ a x, ((![v180] : Fin 1 → IVec S16 32) a x).toNat < S384.size a)
theorem k0_idx11_inb : ∀ (i : grid0.Coords) (v180 : IVec S16 32) (k0_hw5 : k0_chk5 i v180), ∀ (k0_h1 : k0_cond1 i = 1#1), ∀ a x, ((![v180] : Fin 1 → IVec S16 32) a x).toNat < S384.size a := fun i v180 k0_hw5 k0_h1 => k0_hw5.1 k0_h1
theorem k0_idx12_inb : ∀ (i : grid0.Coords) (v180 : IVec S16 32) (k0_hw5 : k0_chk5 i v180), ∀ (k0_h1 : k0_cond1 i = 1#1), ∀ a x, ((![v180] : Fin 1 → IVec S16 32) a x).toNat < S384.size a := fun i v180 k0_hw5 k0_h1 => k0_hw5.2.1 k0_h1
theorem k0_idx13_inb : ∀ (i : grid0.Coords) (v180 : IVec S16 32) (k0_hw5 : k0_chk5 i v180), ∀ (k0_h1 : k0_cond1 i = 1#1), ∀ a x, ((![v180] : Fin 1 → IVec S16 32) a x).toNat < S384.size a := fun i v180 k0_hw5 k0_h1 => k0_hw5.2.2 k0_h1
def k0_off10 (k0_t2 : Fin k0_t2_loop.trips) : Fin 2 → Nat :=
  let c0_i32_7 : BitVec 32 := 0#32
  let c1_i32_8 : BitVec 32 := 1#32
  let arg19 : BitVec 32 := Scf.iv c0_i32_7 c1_i32_8 k0_t2
  let v212 : Index := Scalar.indexCast arg19
  let c64 : Index := 64#32
  ![v212.toNat, 64]

def k0_chk6 (i : grid0.Coords) (v229 : IVec S16 32) : Prop :=
  (∀ (k0_h1 : k0_cond1 i = 1#1), ∀ a x, ((![v229] : Fin 1 → IVec S16 32) a x).toNat < S384.size a) ∧
  (∀ (k0_h1 : k0_cond1 i = 1#1), ∀ a x, ((![v229] : Fin 1 → IVec S16 32) a x).toNat < S384.size a) ∧
  (∀ (k0_h1 : k0_cond1 i = 1#1), ∀ a x, ((![v229] : Fin 1 → IVec S16 32) a x).toNat < S384.size a)
theorem k0_idx14_inb : ∀ (i : grid0.Coords) (v229 : IVec S16 32) (k0_hw6 : k0_chk6 i v229), ∀ (k0_h1 : k0_cond1 i = 1#1), ∀ a x, ((![v229] : Fin 1 → IVec S16 32) a x).toNat < S384.size a := fun i v229 k0_hw6 k0_h1 => k0_hw6.1 k0_h1
theorem k0_idx15_inb : ∀ (i : grid0.Coords) (v229 : IVec S16 32) (k0_hw6 : k0_chk6 i v229), ∀ (k0_h1 : k0_cond1 i = 1#1), ∀ a x, ((![v229] : Fin 1 → IVec S16 32) a x).toNat < S384.size a := fun i v229 k0_hw6 k0_h1 => k0_hw6.2.1 k0_h1
theorem k0_idx16_inb : ∀ (i : grid0.Coords) (v229 : IVec S16 32) (k0_hw6 : k0_chk6 i v229), ∀ (k0_h1 : k0_cond1 i = 1#1), ∀ a x, ((![v229] : Fin 1 → IVec S16 32) a x).toNat < S384.size a := fun i v229 k0_hw6 k0_h1 => k0_hw6.2.2 k0_h1
@[reducible] def k0_t3_loop : Scf.Loop 32 :=
  let c0_i32_11 : BitVec 32 := 0#32
  let c96_i32 : BitVec 32 := 96#32
  let v13 : BitVec 32 := Scalar.addi c0_i32_11 c96_i32
  let c1_i32_12 : BitVec 32 := 1#32
  ⟨c0_i32_11, v13, c1_i32_12⟩

def k0_chk7 (i : grid0.Coords) (v18 : IVec S16 32) : Prop :=
  (∀ (k0_h1 : k0_cond1 i = 1#1), ∀ a x, ((![v18] : Fin 1 → IVec S16 32) a x).toNat < S384.size a)
theorem k0_idx17_inb : ∀ (i : grid0.Coords) (v18 : IVec S16 32) (k0_hw7 : k0_chk7 i v18), ∀ (k0_h1 : k0_cond1 i = 1#1), ∀ a x, ((![v18] : Fin 1 → IVec S16 32) a x).toNat < S384.size a := fun i v18 k0_hw7 k0_h1 => k0_hw7 k0_h1

def k0_chk8 (i : grid0.Coords) (v24 : IVec S16 32) : Prop :=
  (∀ (k0_h1 : k0_cond1 i = 1#1), ∀ a x, ((![v24] : Fin 1 → IVec S16 32) a x).toNat < S80000.size a)
theorem k0_idx18_inb : ∀ (i : grid0.Coords) (v24 : IVec S16 32) (k0_hw8 : k0_chk8 i v24), ∀ (k0_h1 : k0_cond1 i = 1#1), ∀ a x, ((![v24] : Fin 1 → IVec S16 32) a x).toNat < S80000.size a := fun i v24 k0_hw8 k0_h1 => k0_hw8 k0_h1
def k0_off11 (k0_t3 : Fin k0_t3_loop.trips) : Fin 1 → Nat :=
  let c0_i32_11 : BitVec 32 := 0#32
  let c1_i32_12 : BitVec 32 := 1#32
  let arg19 : BitVec 32 := Scf.iv c0_i32_11 c1_i32_12 k0_t3
  let c16_i32_16 : BitVec 32 := 16#32
  let v26 : BitVec 32 := Scalar.muli arg19 c16_i32_16
  let v27 : Index := Scalar.indexCast v26
  ![v27.toNat]
def k0_off12 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_14_r7 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x384x80 : Shape := ⟨3, ![16, 384, 80]⟩
abbrev S16x384 : Shape := ⟨2, ![16, 384]⟩
abbrev S16x1x16 : Shape := ⟨3, ![16, 1, 16]⟩
abbrev S16x20000x4 : Shape := ⟨3, ![16, 20000, 4]⟩
abbrev S16x300x80 : Shape := ⟨3, ![16, 300, 80]⟩
abbrev S16x300 : Shape := ⟨2, ![16, 300]⟩
abbrev S16x300x1 : Shape := ⟨3, ![16, 300, 1]⟩
abbrev S_ : Shape := ⟨0, ![]⟩
abbrev S80 : Shape := ⟨1, ![80]⟩
abbrev S1x1x80 : Shape := ⟨3, ![1, 1, 80]⟩
abbrev S1x16x1x1x1x16 : Shape := ⟨6, ![1, 16, 1, 1, 1, 16]⟩
abbrev S1x16x1x1x5x16 : Shape := ⟨6, ![1, 16, 1, 1, 5, 16]⟩
abbrev S16x1x80 : Shape := ⟨3, ![16, 1, 80]⟩
abbrev S16x24000 : Shape := ⟨2, ![16, 24000]⟩
abbrev S16x300x4 : Shape := ⟨3, ![16, 300, 4]⟩

abbrev nBuf : Space → Nat
  | .hbm => 81
  | .vmem => 0
  | .smem => 0
  | _ => 0

abbrev bufTy : (tb : Table) → Fin (tcTables nBuf tb) → BufTy
  | .hbm, ⟨0, _⟩ => ⟨S16x384x80, .f32⟩
  | .hbm, ⟨1, _⟩ => ⟨S16x384, .i32⟩
  | .hbm, ⟨2, _⟩ => ⟨S16x1x16, .f32⟩
  | .hbm, ⟨3, _⟩ => ⟨S16x1x16, .i32⟩
  | .hbm, ⟨4, _⟩ => ⟨S16x20000x4, .f32⟩
  | .hbm, ⟨5, _⟩ => ⟨S16x300x80, .f32⟩
  | .hbm, ⟨6, _⟩ => ⟨S16x300, .i32⟩
  | .hbm, ⟨7, _⟩ => ⟨S16x300x1, .i32⟩
  | .hbm, ⟨8, _⟩ => ⟨S_, .i32⟩
  | .hbm, ⟨9, _⟩ => ⟨S16x300x1, .i32⟩
  | .hbm, ⟨10, _⟩ => ⟨S16x300x1, .i32⟩
  | .hbm, ⟨11, _⟩ => ⟨S80, .i32⟩
  | .hbm, ⟨12, _⟩ => ⟨S1x1x80, .i32⟩
  | .hbm, ⟨13, _⟩ => ⟨S16x300x80, .i32⟩
  | .hbm, ⟨14, _⟩ => ⟨S16x300x80, .i32⟩
  | .hbm, ⟨15, _⟩ => ⟨S16x300x80, .i32⟩
  | .hbm, ⟨16, _⟩ => ⟨S1x16x1x1x1x16, .f32⟩
  | .hbm, ⟨17, _⟩ => ⟨S1x16x1x1x5x16, .f32⟩
  | .hbm, ⟨18, _⟩ => ⟨S16x1x80, .f32⟩
  | .hbm, ⟨19, _⟩ => ⟨S1x16x1x1x1x16, .i32⟩
  | .hbm, ⟨20, _⟩ => ⟨S1x16x1x1x5x16, .i32⟩
  | .hbm, ⟨21, _⟩ => ⟨S16x1x80, .i32⟩
  | .hbm, ⟨22, _⟩ => ⟨S16x300x80, .f32⟩
  | .hbm, ⟨23, _⟩ => ⟨S16x300x80, .i1⟩
  | .hbm, ⟨24, _⟩ => ⟨S16x300x80, .f32⟩
  | .hbm, ⟨25, _⟩ => ⟨S16x300x80, .i1⟩
  | .hbm, ⟨26, _⟩ => ⟨S16x300x80, .i32⟩
  | .hbm, ⟨27, _⟩ => ⟨S16x300x80, .i1⟩
  | .hbm, ⟨28, _⟩ => ⟨S16x300x80, .i1⟩
  | .hbm, ⟨29, _⟩ => ⟨S16x300x80, .i1⟩
  | .hbm, ⟨30, _⟩ => ⟨S16x24000, .f32⟩
  | .hbm, ⟨31, _⟩ => ⟨S16x24000, .i32⟩
  | .hbm, ⟨32, _⟩ => ⟨S16x24000, .i1⟩
  | .hbm, ⟨33, _⟩ => ⟨S_, .i32⟩
  | .hbm, ⟨34, _⟩ => ⟨S_, .i32⟩
  | .hbm, ⟨35, _⟩ => ⟨S16x24000, .i32⟩
  | .hbm, ⟨36, _⟩ => ⟨S16x24000, .i32⟩
  | .hbm, ⟨37, _⟩ => ⟨S16x24000, .i32⟩
  | .hbm, ⟨38, _⟩ => ⟨S16x24000, .i32⟩
  | .hbm, ⟨39, _⟩ => ⟨S16x24000, .i32⟩
  | .hbm, ⟨40, _⟩ => ⟨S16x24000, .i32⟩
  | .hbm, ⟨41, _⟩ => ⟨S16x300, .i32⟩
  | .hbm, ⟨42, _⟩ => ⟨S_, .i32⟩
  | .hbm, ⟨43, _⟩ => ⟨S16x300, .i32⟩
  | .hbm, ⟨44, _⟩ => ⟨S16x300, .i1⟩
  | .hbm, ⟨45, _⟩ => ⟨S_, .i32⟩
  | .hbm, ⟨46, _⟩ => ⟨S16x300, .i32⟩
  | .hbm, ⟨47, _⟩ => ⟨S16x300, .i32⟩
  | .hbm, ⟨48, _⟩ => ⟨S16x300, .i32⟩
  | .hbm, ⟨49, _⟩ => ⟨S16x300x1, .i32⟩
  | .hbm, ⟨50, _⟩ => ⟨S16x300, .f32⟩
  | .hbm, ⟨51, _⟩ => ⟨S_, .i32⟩
  | .hbm, ⟨52, _⟩ => ⟨S16x300, .i32⟩
  | .hbm, ⟨53, _⟩ => ⟨S16x300, .i1⟩
  | .hbm, ⟨54, _⟩ => ⟨S_, .i32⟩
  | .hbm, ⟨55, _⟩ => ⟨S16x300, .i32⟩
  | .hbm, ⟨56, _⟩ => ⟨S16x300, .i32⟩
  | .hbm, ⟨57, _⟩ => ⟨S16x300, .i32⟩
  | .hbm, ⟨58, _⟩ => ⟨S16x300x1, .i32⟩
  | .hbm, ⟨59, _⟩ => ⟨S16x300, .i32⟩
  | .hbm, ⟨60, _⟩ => ⟨S16x300, .i32⟩
  | .hbm, ⟨61, _⟩ => ⟨S16x300x80, .i32⟩
  | .hbm, ⟨62, _⟩ => ⟨S16x24000, .i32⟩
  | .hbm, ⟨63, _⟩ => ⟨S_, .i32⟩
  | .hbm, ⟨64, _⟩ => ⟨S16x300, .i32⟩
  | .hbm, ⟨65, _⟩ => ⟨S16x300, .i1⟩
  | .hbm, ⟨66, _⟩ => ⟨S_, .i32⟩
  | .hbm, ⟨67, _⟩ => ⟨S16x300, .i32⟩
  | .hbm, ⟨68, _⟩ => ⟨S16x300, .i32⟩
  | .hbm, ⟨69, _⟩ => ⟨S16x300, .i32⟩
  | .hbm, ⟨70, _⟩ => ⟨S16x300x1, .i32⟩
  | .hbm, ⟨71, _⟩ => ⟨S16x300, .i32⟩
  | .hbm, ⟨72, _⟩ => ⟨S16x300x1, .i32⟩
  | .hbm, ⟨73, _⟩ => ⟨S_, .i32⟩
  | .hbm, ⟨74, _⟩ => ⟨S16x300x1, .i32⟩
  | .hbm, ⟨75, _⟩ => ⟨S16x300x1, .i1⟩
  | .hbm, ⟨76, _⟩ => ⟨S_, .i32⟩
  | .hbm, ⟨77, _⟩ => ⟨S16x300x1, .i32⟩
  | .hbm, ⟨78, _⟩ => ⟨S16x300x1, .i32⟩
  | .hbm, ⟨79, _⟩ => ⟨S16x300x1, .i32⟩
  | .hbm, ⟨80, _⟩ => ⟨S16x300x4, .f32⟩
  | _, _ => ⟨S16x384x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_c_0 : Ref sig .tc := ⟨.hbm, 33, rfl⟩
abbrev main_c_1 : Ref sig .tc := ⟨.hbm, 34, rfl⟩
abbrev main_call0_v0 : Ref sig .tc := ⟨.hbm, 35, rfl⟩
abbrev main_call0_v1 : Ref sig .tc := ⟨.hbm, 36, rfl⟩
abbrev main_v27 : Ref sig .tc := ⟨.hbm, 37, rfl⟩
abbrev main_call1_v0 : Ref sig .tc := ⟨.hbm, 38, rfl⟩
abbrev main_call1_v1_0 : Ref sig .tc := ⟨.hbm, 39, rfl⟩
abbrev main_v28 : Ref sig .tc := ⟨.hbm, 40, rfl⟩
abbrev main_v29 : Ref sig .tc := ⟨.hbm, 41, rfl⟩
abbrev main_call2_c : Ref sig .tc := ⟨.hbm, 42, rfl⟩
abbrev main_call2_v0 : Ref sig .tc := ⟨.hbm, 43, rfl⟩
abbrev main_call2_v1 : Ref sig .tc := ⟨.hbm, 44, rfl⟩
abbrev main_call2_c_0 : Ref sig .tc := ⟨.hbm, 45, rfl⟩
abbrev main_call2_v2 : Ref sig .tc := ⟨.hbm, 46, rfl⟩
abbrev main_call2_v3 : Ref sig .tc := ⟨.hbm, 47, rfl⟩
abbrev main_call2_v4 : Ref sig .tc := ⟨.hbm, 48, rfl⟩
abbrev main_call2_v5 : Ref sig .tc := ⟨.hbm, 49, rfl⟩
abbrev main_v30 : Ref sig .tc := ⟨.hbm, 50, rfl⟩
abbrev main_call3_c : Ref sig .tc := ⟨.hbm, 51, rfl⟩
abbrev main_call3_v0 : Ref sig .tc := ⟨.hbm, 52, rfl⟩
abbrev main_call3_v1 : Ref sig .tc := ⟨.hbm, 53, rfl⟩
abbrev main_call3_c_0 : Ref sig .tc := ⟨.hbm, 54, rfl⟩
abbrev main_call3_v2 : Ref sig .tc := ⟨.hbm, 55, rfl⟩
abbrev main_call3_v3 : Ref sig .tc := ⟨.hbm, 56, rfl⟩
abbrev main_call3_v4 : Ref sig .tc := ⟨.hbm, 57, rfl⟩
abbrev main_call3_v5 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_call4_c : Ref sig .tc := ⟨.hbm, 63, rfl⟩
abbrev main_call4_v0 : Ref sig .tc := ⟨.hbm, 64, rfl⟩
abbrev main_call4_v1 : Ref sig .tc := ⟨.hbm, 65, rfl⟩
abbrev main_call4_c_0 : Ref sig .tc := ⟨.hbm, 66, rfl⟩
abbrev main_call4_v2 : Ref sig .tc := ⟨.hbm, 67, rfl⟩
abbrev main_call4_v3 : Ref sig .tc := ⟨.hbm, 68, rfl⟩
abbrev main_call4_v4 : Ref sig .tc := ⟨.hbm, 69, rfl⟩
abbrev main_call4_v5 : Ref sig .tc := ⟨.hbm, 70, rfl⟩
abbrev main_v35 : Ref sig .tc := ⟨.hbm, 71, rfl⟩
abbrev main_v36 : Ref sig .tc := ⟨.hbm, 72, rfl⟩
abbrev main_call5_c : Ref sig .tc := ⟨.hbm, 73, rfl⟩
abbrev main_call5_v0 : Ref sig .tc := ⟨.hbm, 74, rfl⟩
abbrev main_call5_v1 : Ref sig .tc := ⟨.hbm, 75, rfl⟩
abbrev main_call5_c_0 : Ref sig .tc := ⟨.hbm, 76, rfl⟩
abbrev main_call5_v2 : Ref sig .tc := ⟨.hbm, 77, rfl⟩
abbrev main_call5_v3 : Ref sig .tc := ⟨.hbm, 78, rfl⟩
abbrev main_call5_v4 : Ref sig .tc := ⟨.hbm, 79, rfl⟩
abbrev main_v37 : Ref sig .tc := ⟨.hbm, 80, rfl⟩

abbrev nD : Nat := 1
abbrev τ : Topo := Topo.v7x

variable {F : FTy → Type} [FloatOps F]
-- ==== RowsKernel.lean ====
abbrev S16x20000x80 : Shape := ⟨3, ![16, 20000, 80]⟩
abbrev S16x20000 : Shape := ⟨2, ![16, 20000]⟩
abbrev S16x1x16 : Shape := ⟨3, ![16, 1, 16]⟩
abbrev S320000x80 : Shape := ⟨2, ![320000, 80]⟩
abbrev S_ : Shape := ⟨0, ![]⟩
abbrev S320000x128 : Shape := ⟨2, ![320000, 128]⟩
abbrev S16x384x128 : Shape := ⟨3, ![16, 384, 128]⟩
abbrev S16x384 : Shape := ⟨2, ![16, 384]⟩
abbrev S20000 : Shape := ⟨1, ![20000]⟩
abbrev S1x16 : Shape := ⟨2, ![1, 16]⟩
abbrev S384 : Shape := ⟨1, ![384]⟩
abbrev S384x128 : Shape := ⟨2, ![384, 128]⟩
abbrev S1x20000 : Shape := ⟨2, ![1, 20000]⟩
abbrev S1x1x16 : Shape := ⟨3, ![1, 1, 16]⟩
abbrev S16 : Shape := ⟨1, ![16]⟩
abbrev S128x128 : Shape := ⟨2, ![128, 128]⟩
abbrev S128 : Shape := ⟨1, ![128]⟩
abbrev S1x384x128 : Shape := ⟨3, ![1, 384, 128]⟩
abbrev S1x384 : Shape := ⟨2, ![1, 384]⟩
abbrev S16x300x80 : Shape := ⟨3, ![16, 300, 80]⟩
abbrev S16x300 : Shape := ⟨2, ![16, 300]⟩

abbrev nBuf : Table → Nat
  | .hbm => 13
  | .local .scVector .vmem => 7
  | _ => 0

abbrev bufTy : (tb : Table) → Fin (nBuf tb) → BufTy
  | .hbm, ⟨0, _⟩ => ⟨S16x20000x80, .f32⟩
  | .hbm, ⟨1, _⟩ => ⟨S16x20000, .f32⟩
  | .hbm, ⟨2, _⟩ => ⟨S16x20000, .i32⟩
  | .hbm, ⟨3, _⟩ => ⟨S16x1x16, .f32⟩
  | .hbm, ⟨4, _⟩ => ⟨S16x1x16, .i32⟩
  | .hbm, ⟨5, _⟩ => ⟨S320000x80, .f32⟩
  | .hbm, ⟨6, _⟩ => ⟨S_, .i32⟩
  | .hbm, ⟨7, _⟩ => ⟨S_, .f32⟩
  | .hbm, ⟨8, _⟩ => ⟨S320000x128, .f32⟩
  | .hbm, ⟨9, _⟩ => ⟨S16x384x128, .f32⟩
  | .hbm, ⟨10, _⟩ => ⟨S16x384, .i32⟩
  | .hbm, ⟨11, _⟩ => ⟨S16x300x80, .f32⟩
  | .hbm, ⟨12, _⟩ => ⟨S16x300, .i32⟩
  | .local .scVector .vmem, ⟨0, _⟩ => ⟨S20000, .f32⟩
  | .local .scVector .vmem, ⟨1, _⟩ => ⟨S20000, .i32⟩
  | .local .scVector .vmem, ⟨2, _⟩ => ⟨S1x16, .f32⟩
  | .local .scVector .vmem, ⟨3, _⟩ => ⟨S1x16, .i32⟩
  | .local .scVector .vmem, ⟨4, _⟩ => ⟨S384, .i32⟩
  | .local .scVector .vmem, ⟨5, _⟩ => ⟨S384, .i32⟩
  | .local .scVector .vmem, ⟨6, _⟩ => ⟨S384x128, .f32⟩
  | _, _ => ⟨S16x20000x80, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => false
  | ⟨4, _⟩ => false
  | ⟨5, _⟩ => false
  | ⟨6, _⟩ => false
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v3 : Ref sig .tc := ⟨.hbm, 11, rfl⟩
abbrev main_v4 : Ref sig .tc := ⟨.hbm, 12, rfl⟩
abbrev main_v1_scv : Ref sig .scVector := ⟨.hbm, 8, rfl⟩
abbrev main_arg1_scv : Ref sig .scVector := ⟨.hbm, 1, rfl⟩
abbrev main_arg2_scv : Ref sig .scVector := ⟨.hbm, 2, rfl⟩
abbrev main_arg3_scv : Ref sig .scVector := ⟨.hbm, 3, rfl⟩
abbrev main_arg4_scv : Ref sig .scVector := ⟨.hbm, 4, rfl⟩
abbrev main_v2_0_scv : Ref sig .scVector := ⟨.hbm, 9, rfl⟩
abbrev main_v2_1_scv : Ref sig .scVector := ⟨.hbm, 10, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let v3 : BitVec 32 := Scalar.extui v2
  let c0_i32 : BitVec 32 := 0#32
  let v4 : BitVec 1 := Scalar.cmpi .ne v3 c0_i32
  v4

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_38_r0 : BitVec 32 := 0#32
  ![v1.toNat, 0]
def k0_off2 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_38_r2 : BitVec 32 := 0#32
  let c0_i32_39_r2 : BitVec 32 := 0#32
  ![v1.toNat, 0, 0]
@[reducible] def k0_t1_loop : Scf.Loop 32 :=
  let c0_i32_4 : BitVec 32 := 0#32
  let c24_i32 : BitVec 32 := 24#32
  let v9 : BitVec 32 := Scalar.addi c0_i32_4 c24_i32
  let c1_i32 : BitVec 32 := 1#32
  ⟨c0_i32_4, v9, c1_i32⟩
def k0_off3 (k0_t1 : Fin k0_t1_loop.trips) : Fin 1 → Nat :=
  let c0_i32_4 : BitVec 32 := 0#32
  let c1_i32 : BitVec 32 := 1#32
  let arg17 : BitVec 32 := Scf.iv c0_i32_4 c1_i32 k0_t1
  let c16_i32_39 : BitVec 32 := 16#32
  let v31 : BitVec 32 := Scalar.muli arg17 c16_i32_39
  let v32 : Index := Scalar.indexCast v31
  ![v32.toNat]
@[reducible] def k0_t2_loop : Scf.Loop 32 :=
  let c0_i32_7 : BitVec 32 := 0#32
  let c1250_i32 : BitVec 32 := 1250#32
  let v10 : BitVec 32 := Scalar.addi c0_i32_7 c1250_i32
  let c1_i32_8 : BitVec 32 := 1#32
  ⟨c0_i32_7, v10, c1_i32_8⟩
def k0_off4 (k0_t2 : Fin k0_t2_loop.trips) : Fin 1 → Nat :=
  let c0_i32_7 : BitVec 32 := 0#32
  let c1_i32_8 : BitVec 32 := 1#32
  let arg17 : BitVec 32 := Scf.iv c0_i32_7 c1_i32_8 k0_t2
  let c16_i32_38 : BitVec 32 := 16#32
  let v30 : BitVec 32 := Scalar.muli arg17 c16_i32_38
  let v31 : Index := Scalar.indexCast v30
  ![v31.toNat]

def k0_chk1 (i : grid0.Coords) (v46 : IVec S16 32) : Prop :=
  (∀ (k0_h1 : k0_cond1 i = 1#1), ∀ a x, ((![v46] : Fin 1 → IVec S16 32) a x).toNat < S384.size a) ∧
  (∀ (k0_h1 : k0_cond1 i = 1#1), ∀ a x, ((![v46] : Fin 1 → IVec S16 32) a x).toNat < S384.size a)
theorem k0_idx1_inb : ∀ (i : grid0.Coords) (v46 : IVec S16 32) (k0_hw1 : k0_chk1 i v46), ∀ (k0_h1 : k0_cond1 i = 1#1), ∀ a x, ((![v46] : Fin 1 → IVec S16 32) a x).toNat < S384.size a := fun i v46 k0_hw1 k0_h1 => k0_hw1.1 k0_h1
theorem k0_idx2_inb : ∀ (i : grid0.Coords) (v46 : IVec S16 32) (k0_hw1 : k0_chk1 i v46), ∀ (k0_h1 : k0_cond1 i = 1#1), ∀ a x, ((![v46] : Fin 1 → IVec S16 32) a x).toNat < S384.size a := fun i v46 k0_hw1 k0_h1 => k0_hw1.2 k0_h1
def k0_off5 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_38_r4 : BitVec 32 := 0#32
  let c0_i32_39_r4 : BitVec 32 := 0#32
  ![v1.toNat, 0, 0]
def k0_off6 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_38_r5 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== RowsReferenceIdeal.lean ====
abbrev S16x20000x80 : Shape := ⟨3, ![16, 20000, 80]⟩
abbrev S16x20000 : Shape := ⟨2, ![16, 20000]⟩
abbrev S16x1x16 : Shape := ⟨3, ![16, 1, 16]⟩
abbrev S1x16x1x1x1x16 : Shape := ⟨6, ![1, 16, 1, 1, 1, 16]⟩
abbrev S1x16x1x1x1250x16 : Shape := ⟨6, ![1, 16, 1, 1, 1250, 16]⟩
abbrev S16x1x20000 : Shape := ⟨3, ![16, 1, 20000]⟩
abbrev S_ : Shape := ⟨0, ![]⟩
abbrev S16x300 : Shape := ⟨2, ![16, 300]⟩
abbrev S16x300x1 : Shape := ⟨3, ![16, 300, 1]⟩
abbrev S16x300x80 : Shape := ⟨3, ![16, 300, 80]⟩

abbrev nBuf : Space → Nat
  | .hbm => 63
  | .vmem => 0
  | .smem => 0
  | _ => 0

abbrev bufTy : (tb : Table) → Fin (tcTables nBuf tb) → BufTy
  | .hbm, ⟨0, _⟩ => ⟨S16x20000x80, .f32⟩
  | .hbm, ⟨1, _⟩ => ⟨S16x20000, .f32⟩
  | .hbm, ⟨2, _⟩ => ⟨S16x20000, .i32⟩
  | .hbm, ⟨3, _⟩ => ⟨S16x1x16, .f32⟩
  | .hbm, ⟨4, _⟩ => ⟨S16x1x16, .i32⟩
  | .hbm, ⟨5, _⟩ => ⟨S1x16x1x1x1x16, .f32⟩
  | .hbm, ⟨6, _⟩ => ⟨S1x16x1x1x1250x16, .f32⟩
  | .hbm, ⟨7, _⟩ => ⟨S16x1x20000, .f32⟩
  | .hbm, ⟨8, _⟩ => ⟨S16x20000, .f32⟩
  | .hbm, ⟨9, _⟩ => ⟨S1x16x1x1x1x16, .i32⟩
  | .hbm, ⟨10, _⟩ => ⟨S1x16x1x1x1250x16, .i32⟩
  | .hbm, ⟨11, _⟩ => ⟨S16x1x20000, .i32⟩
  | .hbm, ⟨12, _⟩ => ⟨S16x20000, .i32⟩
  | .hbm, ⟨13, _⟩ => ⟨S16x20000, .i1⟩
  | .hbm, ⟨14, _⟩ => ⟨S16x20000, .i1⟩
  | .hbm, ⟨15, _⟩ => ⟨S16x20000, .i1⟩
  | .hbm, ⟨16, _⟩ => ⟨S16x20000, .i1⟩
  | .hbm, ⟨17, _⟩ => ⟨S16x20000, .i1⟩
  | .hbm, ⟨18, _⟩ => ⟨S_, .i32⟩
  | .hbm, ⟨19, _⟩ => ⟨S_, .i32⟩
  | .hbm, ⟨20, _⟩ => ⟨S16x20000, .i32⟩
  | .hbm, ⟨21, _⟩ => ⟨S16x20000, .i32⟩
  | .hbm, ⟨22, _⟩ => ⟨S16x20000, .i32⟩
  | .hbm, ⟨23, _⟩ => ⟨S16x20000, .i32⟩
  | .hbm, ⟨24, _⟩ => ⟨S16x20000, .i32⟩
  | .hbm, ⟨25, _⟩ => ⟨S16x20000, .i32⟩
  | .hbm, ⟨26, _⟩ => ⟨S16x300, .i32⟩
  | .hbm, ⟨27, _⟩ => ⟨S_, .i32⟩
  | .hbm, ⟨28, _⟩ => ⟨S_, .i32⟩
  | .hbm, ⟨29, _⟩ => ⟨S16x20000, .i32⟩
  | .hbm, ⟨30, _⟩ => ⟨S16x20000, .i32⟩
  | .hbm, ⟨31, _⟩ => ⟨S16x20000, .i32⟩
  | .hbm, ⟨32, _⟩ => ⟨S_, .i32⟩
  | .hbm, ⟨33, _⟩ => ⟨S16x20000, .i32⟩
  | .hbm, ⟨34, _⟩ => ⟨S16x20000, .i1⟩
  | .hbm, ⟨35, _⟩ => ⟨S16x20000, .i32⟩
  | .hbm, ⟨36, _⟩ => ⟨S16x20000, .i32⟩
  | .hbm, ⟨37, _⟩ => ⟨S_, .i32⟩
  | .hbm, ⟨38, _⟩ => ⟨S16x20000, .i32⟩
  | .hbm, ⟨39, _⟩ => ⟨S16x20000, .i1⟩
  | .hbm, ⟨40, _⟩ => ⟨S16x20000, .i1⟩
  | .hbm, ⟨41, _⟩ => ⟨S_, .i32⟩
  | .hbm, ⟨42, _⟩ => ⟨S16x20000, .i32⟩
  | .hbm, ⟨43, _⟩ => ⟨S16x20000, .i32⟩
  | .hbm, ⟨44, _⟩ => ⟨S16x20000, .i32⟩
  | .hbm, ⟨45, _⟩ => ⟨S_, .i32⟩
  | .hbm, ⟨46, _⟩ => ⟨S16x300, .i32⟩
  | .hbm, ⟨47, _⟩ => ⟨S16x300, .i1⟩
  | .hbm, ⟨48, _⟩ => ⟨S_, .i32⟩
  | .hbm, ⟨49, _⟩ => ⟨S16x300, .i32⟩
  | .hbm, ⟨50, _⟩ => ⟨S16x300, .i32⟩
  | .hbm, ⟨51, _⟩ => ⟨S16x300, .i32⟩
  | .hbm, ⟨52, _⟩ => ⟨S16x300x1, .i32⟩
  | .hbm, ⟨53, _⟩ => ⟨S16x300, .i32⟩
  | .hbm, ⟨54, _⟩ => ⟨S16x300x1, .i32⟩
  | .hbm, ⟨55, _⟩ => ⟨S_, .i32⟩
  | .hbm, ⟨56, _⟩ => ⟨S16x300x1, .i32⟩
  | .hbm, ⟨57, _⟩ => ⟨S16x300x1, .i1⟩
  | .hbm, ⟨58, _⟩ => ⟨S_, .i32⟩
  | .hbm, ⟨59, _⟩ => ⟨S16x300x1, .i32⟩
  | .hbm, ⟨60, _⟩ => ⟨S16x300x1, .i32⟩
  | .hbm, ⟨61, _⟩ => ⟨S16x300x1, .i32⟩
  | .hbm, ⟨62, _⟩ => ⟨S16x300x80, .f32⟩
  | _, _ => ⟨S16x20000x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_c_0 : Ref sig .tc := ⟨.hbm, 19, rfl⟩
abbrev main_call0_v0 : Ref sig .tc := ⟨.hbm, 20, rfl⟩
abbrev main_call0_v1 : Ref sig .tc := ⟨.hbm, 21, rfl⟩
abbrev main_v13 : Ref sig .tc := ⟨.hbm, 22, rfl⟩
abbrev main_call1_v0 : Ref sig .tc := ⟨.hbm, 23, rfl⟩
abbrev main_call1_v1_0 : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_call2_v0 : Ref sig .tc := ⟨.hbm, 28, rfl⟩
abbrev main_call2_v1 : Ref sig .tc := ⟨.hbm, 29, rfl⟩
abbrev main_call2_v2 : Ref sig .tc := ⟨.hbm, 30, rfl⟩
abbrev main_call2_v3 : Ref sig .tc := ⟨.hbm, 31, rfl⟩
abbrev main_call2_v4 : Ref sig .tc := ⟨.hbm, 32, rfl⟩
abbrev main_call2_v5 : Ref sig .tc := ⟨.hbm, 33, rfl⟩
abbrev main_call2_v6 : Ref sig .tc := ⟨.hbm, 34, rfl⟩
abbrev main_call2_v7 : Ref sig .tc := ⟨.hbm, 35, rfl⟩
abbrev main_call2_v8 : Ref sig .tc := ⟨.hbm, 36, rfl⟩
abbrev main_call2_c : Ref sig .tc := ⟨.hbm, 37, rfl⟩
abbrev main_call2_v9 : Ref sig .tc := ⟨.hbm, 38, rfl⟩
abbrev main_call2_v10 : Ref sig .tc := ⟨.hbm, 39, rfl⟩
abbrev main_call2_v11 : Ref sig .tc := ⟨.hbm, 40, rfl⟩
abbrev main_call2_c_0 : Ref sig .tc := ⟨.hbm, 41, rfl⟩
abbrev main_call2_v12 : Ref sig .tc := ⟨.hbm, 42, rfl⟩
abbrev main_call2_v13 : Ref sig .tc := ⟨.hbm, 43, rfl⟩
abbrev main_v16 : Ref sig .tc := ⟨.hbm, 44, rfl⟩
abbrev main_call3_c : Ref sig .tc := ⟨.hbm, 45, rfl⟩
abbrev main_call3_v0 : Ref sig .tc := ⟨.hbm, 46, rfl⟩
abbrev main_call3_v1 : Ref sig .tc := ⟨.hbm, 47, rfl⟩
abbrev main_call3_c_0 : Ref sig .tc := ⟨.hbm, 48, rfl⟩
abbrev main_call3_v2 : Ref sig .tc := ⟨.hbm, 49, rfl⟩
abbrev main_call3_v3 : Ref sig .tc := ⟨.hbm, 50, rfl⟩
abbrev main_call3_v4 : Ref sig .tc := ⟨.hbm, 51, rfl⟩
abbrev main_call3_v5 : Ref sig .tc := ⟨.hbm, 52, rfl⟩
abbrev main_v17 : Ref sig .tc := ⟨.hbm, 53, rfl⟩
abbrev main_v18 : Ref sig .tc := ⟨.hbm, 54, rfl⟩
abbrev main_call4_c : Ref sig .tc := ⟨.hbm, 55, rfl⟩
abbrev main_call4_v0 : Ref sig .tc := ⟨.hbm, 56, rfl⟩
abbrev main_call4_v1 : Ref sig .tc := ⟨.hbm, 57, rfl⟩
abbrev main_call4_c_0 : Ref sig .tc := ⟨.hbm, 58, rfl⟩
abbrev main_call4_v2 : Ref sig .tc := ⟨.hbm, 59, rfl⟩
abbrev main_call4_v3 : Ref sig .tc := ⟨.hbm, 60, rfl⟩
abbrev main_call4_v4 : Ref sig .tc := ⟨.hbm, 61, rfl⟩
abbrev main_v19 : Ref sig .tc := ⟨.hbm, 62, rfl⟩

abbrev nD : Nat := 1
abbrev τ : Topo := Topo.v7x

variable {F : FTy → Type} [FloatOps F]
-- ==== SortKernel.lean ====
abbrev S16x384 : Shape := ⟨2, ![16, 384]⟩
abbrev S16x384x4 : Shape := ⟨3, ![16, 384, 4]⟩
abbrev S16x2 : Shape := ⟨2, ![16, 2]⟩
abbrev S1x16x1x2 : Shape := ⟨4, ![1, 16, 1, 2]⟩
abbrev S1x16x2x2 : Shape := ⟨4, ![1, 16, 2, 2]⟩
abbrev S16x4 : Shape := ⟨2, ![16, 4]⟩
abbrev S16x1x4 : Shape := ⟨3, ![16, 1, 4]⟩
abbrev S16x1x384 : Shape := ⟨3, ![16, 1, 384]⟩
abbrev S16x1x300 : Shape := ⟨3, ![16, 1, 300]⟩
abbrev S16x300x4 : Shape := ⟨3, ![16, 300, 4]⟩
abbrev S1x1x384 : Shape := ⟨3, ![1, 1, 384]⟩
abbrev S1x384x4 : Shape := ⟨3, ![1, 384, 4]⟩
abbrev S1x1x4 : Shape := ⟨3, ![1, 1, 4]⟩
abbrev S1x1x300 : Shape := ⟨3, ![1, 1, 300]⟩
abbrev S1x300x4 : Shape := ⟨3, ![1, 300, 4]⟩
abbrev S300 : Shape := ⟨1, ![300]⟩
abbrev S300x1 : Shape := ⟨2, ![300, 1]⟩
abbrev S1x300 : Shape := ⟨2, ![1, 300]⟩
abbrev S300x300 : Shape := ⟨2, ![300, 300]⟩
abbrev S300x4 : Shape := ⟨2, ![300, 4]⟩
abbrev S4 : Shape := ⟨1, ![4]⟩
abbrev S1 : Shape := ⟨1, ![1]⟩
abbrev S300x6 : Shape := ⟨2, ![300, 6]⟩

abbrev nBuf : Space → Nat
  | .hbm => 13
  | .vmem => 14
  | .smem => 0
  | _ => 0

abbrev bufTy : (tb : Table) → Fin (tcTables nBuf tb) → BufTy
  | .hbm, ⟨0, _⟩ => ⟨S16x384, .f32⟩
  | .hbm, ⟨1, _⟩ => ⟨S16x384, .i32⟩
  | .hbm, ⟨2, _⟩ => ⟨S16x384x4, .f32⟩
  | .hbm, ⟨3, _⟩ => ⟨S16x2, .f32⟩
  | .hbm, ⟨4, _⟩ => ⟨S1x16x1x2, .f32⟩
  | .hbm, ⟨5, _⟩ => ⟨S1x16x2x2, .f32⟩
  | .hbm, ⟨6, _⟩ => ⟨S16x4, .f32⟩
  | .hbm, ⟨7, _⟩ => ⟨S16x1x4, .f32⟩
  | .hbm, ⟨8, _⟩ => ⟨S16x1x384, .f32⟩
  | .hbm, ⟨9, _⟩ => ⟨S16x1x384, .i32⟩
  | .hbm, ⟨10, _⟩ => ⟨S16x1x300, .i32⟩
  | .hbm, ⟨11, _⟩ => ⟨S16x300x4, .f32⟩
  | .hbm, ⟨12, _⟩ => ⟨S16x1x300, .f32⟩
  | .local _ .vmem, ⟨0, _⟩ => ⟨S1x1x384, .f32⟩
  | .local _ .vmem, ⟨1, _⟩ => ⟨S1x1x384, .f32⟩
  | .local _ .vmem, ⟨2, _⟩ => ⟨S1x1x384, .i32⟩
  | .local _ .vmem, ⟨3, _⟩ => ⟨S1x1x384, .i32⟩
  | .local _ .vmem, ⟨4, _⟩ => ⟨S1x384x4, .f32⟩
  | .local _ .vmem, ⟨5, _⟩ => ⟨S1x384x4, .f32⟩
  | .local _ .vmem, ⟨6, _⟩ => ⟨S1x1x4, .f32⟩
  | .local _ .vmem, ⟨7, _⟩ => ⟨S1x1x4, .f32⟩
  | .local _ .vmem, ⟨8, _⟩ => ⟨S1x1x300, .i32⟩
  | .local _ .vmem, ⟨9, _⟩ => ⟨S1x1x300, .i32⟩
  | .local _ .vmem, ⟨10, _⟩ => ⟨S1x300x4, .f32⟩
  | .local _ .vmem, ⟨11, _⟩ => ⟨S1x300x4, .f32⟩
  | .local _ .vmem, ⟨12, _⟩ => ⟨S1x1x300, .f32⟩
  | .local _ .vmem, ⟨13, _⟩ => ⟨S1x1x300, .f32⟩
  | _, _ => ⟨S16x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x384 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x384x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x300 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x300x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x300 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== SortReferenceIdeal.lean ====
abbrev S16x384 : Shape := ⟨2, ![16, 384]⟩
abbrev S16x384x4 : Shape := ⟨3, ![16, 384, 4]⟩
abbrev S16x2 : Shape := ⟨2, ![16, 2]⟩
abbrev S16x300 : Shape := ⟨2, ![16, 300]⟩
abbrev S16x300x1 : Shape := ⟨3, ![16, 300, 1]⟩
abbrev S16x1 : Shape := ⟨2, ![16, 1]⟩
abbrev S_ : Shape := ⟨0, ![]⟩
abbrev S16x300x4 : Shape := ⟨3, ![16, 300, 4]⟩
abbrev S16x1x300 : Shape := ⟨3, ![16, 1, 300]⟩

abbrev nBuf : Space → Nat
  | .hbm => 77
  | .vmem => 0
  | .smem => 0
  | _ => 0

abbrev bufTy : (tb : Table) → Fin (tcTables nBuf tb) → BufTy
  | .hbm, ⟨0, _⟩ => ⟨S16x384, .f32⟩
  | .hbm, ⟨1, _⟩ => ⟨S16x384, .i32⟩
  | .hbm, ⟨2, _⟩ => ⟨S16x384x4, .f32⟩
  | .hbm, ⟨3, _⟩ => ⟨S16x2, .f32⟩
  | .hbm, ⟨4, _⟩ => ⟨S16x300, .f32⟩
  | .hbm, ⟨5, _⟩ => ⟨S16x300, .i32⟩
  | .hbm, ⟨6, _⟩ => ⟨S16x300x1, .f32⟩
  | .hbm, ⟨7, _⟩ => ⟨S16x300, .f32⟩
  | .hbm, ⟨8, _⟩ => ⟨S16x300x1, .f32⟩
  | .hbm, ⟨9, _⟩ => ⟨S16x300, .f32⟩
  | .hbm, ⟨10, _⟩ => ⟨S16x300x1, .f32⟩
  | .hbm, ⟨11, _⟩ => ⟨S16x300, .f32⟩
  | .hbm, ⟨12, _⟩ => ⟨S16x300x1, .f32⟩
  | .hbm, ⟨13, _⟩ => ⟨S16x300, .f32⟩
  | .hbm, ⟨14, _⟩ => ⟨S16x1, .f32⟩
  | .hbm, ⟨15, _⟩ => ⟨S16x1, .f32⟩
  | .hbm, ⟨16, _⟩ => ⟨S16x300, .f32⟩
  | .hbm, ⟨17, _⟩ => ⟨S_, .f32⟩
  | .hbm, ⟨18, _⟩ => ⟨S16x300, .f32⟩
  | .hbm, ⟨19, _⟩ => ⟨S16x300, .f32⟩
  | .hbm, ⟨20, _⟩ => ⟨S16x300, .f32⟩
  | .hbm, ⟨21, _⟩ => ⟨S16x300, .f32⟩
  | .hbm, ⟨22, _⟩ => ⟨S16x300, .f32⟩
  | .hbm, ⟨23, _⟩ => ⟨S_, .f32⟩
  | .hbm, ⟨24, _⟩ => ⟨S16x300, .f32⟩
  | .hbm, ⟨25, _⟩ => ⟨S16x300, .f32⟩
  | .hbm, ⟨26, _⟩ => ⟨S16x300, .f32⟩
  | .hbm, ⟨27, _⟩ => ⟨S16x300, .f32⟩
  | .hbm, ⟨28, _⟩ => ⟨S16x300, .f32⟩
  | .hbm, ⟨29, _⟩ => ⟨S_, .f32⟩
  | .hbm, ⟨30, _⟩ => ⟨S16x300, .f32⟩
  | .hbm, ⟨31, _⟩ => ⟨S16x300, .f32⟩
  | .hbm, ⟨32, _⟩ => ⟨S16x300, .f32⟩
  | .hbm, ⟨33, _⟩ => ⟨S16x300, .f32⟩
  | .hbm, ⟨34, _⟩ => ⟨S16x300, .f32⟩
  | .hbm, ⟨35, _⟩ => ⟨S_, .f32⟩
  | .hbm, ⟨36, _⟩ => ⟨S16x300, .f32⟩
  | .hbm, ⟨37, _⟩ => ⟨S16x300, .f32⟩
  | .hbm, ⟨38, _⟩ => ⟨S16x300, .f32⟩
  | .hbm, ⟨39, _⟩ => ⟨S16x300, .f32⟩
  | .hbm, ⟨40, _⟩ => ⟨S16x300, .f32⟩
  | .hbm, ⟨41, _⟩ => ⟨S16x300, .f32⟩
  | .hbm, ⟨42, _⟩ => ⟨S16x300, .i32⟩
  | .hbm, ⟨43, _⟩ => ⟨S16x300, .f32⟩
  | .hbm, ⟨44, _⟩ => ⟨S16x300, .f32⟩
  | .hbm, ⟨45, _⟩ => ⟨S16x300, .f32⟩
  | .hbm, ⟨46, _⟩ => ⟨S16x300, .f32⟩
  | .hbm, ⟨47, _⟩ => ⟨S16x300, .f32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S_, .i1⟩
  | .hbm, ⟨52, _⟩ => ⟨S_, .i32⟩
  | .hbm, ⟨53, _⟩ => ⟨S_, .i32⟩
  | .hbm, ⟨54, _⟩ => ⟨S16x300, .i32⟩
  | .hbm, ⟨55, _⟩ => ⟨S16x300, .i32⟩
  | .hbm, ⟨56, _⟩ => ⟨S_, .i32⟩
  | .hbm, ⟨57, _⟩ => ⟨S16x300, .i32⟩
  | .hbm, ⟨58, _⟩ => ⟨S16x300, .i1⟩
  | .hbm, ⟨59, _⟩ => ⟨S_, .i32⟩
  | .hbm, ⟨60, _⟩ => ⟨S16x300, .i32⟩
  | .hbm, ⟨61, _⟩ => ⟨S16x300, .i1⟩
  | .hbm, ⟨62, _⟩ => ⟨S_, .i32⟩
  | .hbm, ⟨63, _⟩ => ⟨S_, .i1⟩
  | .hbm, ⟨64, _⟩ => ⟨S16x300, .i1⟩
  | .hbm, ⟨65, _⟩ => ⟨S16x300, .i1⟩
  | .hbm, ⟨66, _⟩ => ⟨S16x300, .i1⟩
  | .hbm, ⟨67, _⟩ => ⟨S16x300, .i32⟩
  | .hbm, ⟨68, _⟩ => ⟨S16x300, .i32⟩
  | .hbm, ⟨69, _⟩ => ⟨S16x300, .i32⟩
  | .hbm, ⟨70, _⟩ => ⟨S16x300x1, .f32⟩
  | .hbm, ⟨71, _⟩ => ⟨S16x300x1, .f32⟩
  | .hbm, ⟨72, _⟩ => ⟨S16x300x1, .f32⟩
  | .hbm, ⟨73, _⟩ => ⟨S16x300x1, .f32⟩
  | .hbm, ⟨74, _⟩ => ⟨S16x300x4, .f32⟩
  | .hbm, ⟨75, _⟩ => ⟨S16x1x300, .i32⟩
  | .hbm, ⟨76, _⟩ => ⟨S16x1x300, .f32⟩
  | _, _ => ⟨S16x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_0 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_1 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_2 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33_0 : Ref sig .tc := ⟨.hbm, 41, rfl⟩
abbrev main_v33_1 : Ref sig .tc := ⟨.hbm, 42, rfl⟩
abbrev main_v33_2 : Ref sig .tc := ⟨.hbm, 43, rfl⟩
abbrev main_v33_3 : Ref sig .tc := ⟨.hbm, 44, rfl⟩
abbrev main_v33_4 : Ref sig .tc := ⟨.hbm, 45, rfl⟩
abbrev main_v33_5 : Ref sig .tc := ⟨.hbm, 46, rfl⟩
abbrev main_v33_6 : Ref sig .tc := ⟨.hbm, 47, rfl⟩
abbrev main_c : Ref sig .tc := ⟨.hbm, 48, rfl⟩
abbrev main_call0_v0 : Ref sig .tc := ⟨.hbm, 49, rfl⟩
abbrev main_call0_c : Ref sig .tc := ⟨.hbm, 50, rfl⟩
abbrev main_call0_v1 : Ref sig .tc := ⟨.hbm, 51, rfl⟩
abbrev main_call0_c_0 : Ref sig .tc := ⟨.hbm, 52, rfl⟩
abbrev main_call0_v2 : Ref sig .tc := ⟨.hbm, 53, rfl⟩
abbrev main_call0_v3 : Ref sig .tc := ⟨.hbm, 54, rfl⟩
abbrev main_call0_v4 : Ref sig .tc := ⟨.hbm, 55, rfl⟩
abbrev main_call0_c_1 : Ref sig .tc := ⟨.hbm, 56, rfl⟩
abbrev main_call0_v5 : Ref sig .tc := ⟨.hbm, 57, rfl⟩
abbrev main_call0_v6 : Ref sig .tc := ⟨.hbm, 58, rfl⟩
abbrev main_call0_c_2 : Ref sig .tc := ⟨.hbm, 59, rfl⟩
abbrev main_call0_v7 : Ref sig .tc := ⟨.hbm, 60, rfl⟩
abbrev main_call0_v8 : Ref sig .tc := ⟨.hbm, 61, rfl⟩
abbrev main_call0_c_3 : Ref sig .tc := ⟨.hbm, 62, rfl⟩
abbrev main_call0_v9 : Ref sig .tc := ⟨.hbm, 63, rfl⟩
abbrev main_call0_v10 : Ref sig .tc := ⟨.hbm, 64, rfl⟩
abbrev main_call0_v11 : Ref sig .tc := ⟨.hbm, 65, rfl⟩
abbrev main_call0_v12 : Ref sig .tc := ⟨.hbm, 66, rfl⟩
abbrev main_call0_v13 : Ref sig .tc := ⟨.hbm, 67, rfl⟩
abbrev main_call0_v14 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩

abbrev nD : Nat := 1
abbrev τ : Topo := Topo.v7x

variable {F : FTy → Type} [FloatOps F]
-- ==== CutKernel.lean ====
abbrev S16x384x80 : Shape := ⟨3, ![16, 384, 80]⟩
abbrev S16x384 : Shape := ⟨2, ![16, 384]⟩
abbrev S16x1x384 : Shape := ⟨3, ![16, 1, 384]⟩
abbrev S16x1x16 : Shape := ⟨3, ![16, 1, 16]⟩
abbrev S1x384x80 : Shape := ⟨3, ![1, 384, 80]⟩
abbrev S1x1x384 : Shape := ⟨3, ![1, 1, 384]⟩
abbrev S1x1x16 : Shape := ⟨3, ![1, 1, 16]⟩
abbrev S384x80 : Shape := ⟨2, ![384, 80]⟩
abbrev S300x80 : Shape := ⟨2, ![300, 80]⟩
abbrev S1x1x300 : Shape := ⟨3, ![1, 1, 300]⟩
abbrev S300 : Shape := ⟨1, ![300]⟩
abbrev S300x1 : Shape := ⟨2, ![300, 1]⟩
abbrev S1x300x80 : Shape := ⟨3, ![1, 300, 80]⟩
abbrev S1 : Shape := ⟨1, ![1]⟩
abbrev S1x1x1 : Shape := ⟨3, ![1, 1, 1]⟩
abbrev S16 : Shape := ⟨1, ![16]⟩

abbrev nBuf : Space → Nat
  | .hbm => 5
  | .vmem => 8
  | .smem => 0
  | _ => 0

abbrev bufTy : (tb : Table) → Fin (tcTables nBuf tb) → BufTy
  | .hbm, ⟨0, _⟩ => ⟨S16x384x80, .f32⟩
  | .hbm, ⟨1, _⟩ => ⟨S16x384, .i32⟩
  | .hbm, ⟨2, _⟩ => ⟨S16x1x384, .i32⟩
  | .hbm, ⟨3, _⟩ => ⟨S16x1x16, .f32⟩
  | .hbm, ⟨4, _⟩ => ⟨S16x1x16, .i32⟩
  | .local _ .vmem, ⟨0, _⟩ => ⟨S1x384x80, .f32⟩
  | .local _ .vmem, ⟨1, _⟩ => ⟨S1x384x80, .f32⟩
  | .local _ .vmem, ⟨2, _⟩ => ⟨S1x1x384, .i32⟩
  | .local _ .vmem, ⟨3, _⟩ => ⟨S1x1x384, .i32⟩
  | .local _ .vmem, ⟨4, _⟩ => ⟨S1x1x16, .f32⟩
  | .local _ .vmem, ⟨5, _⟩ => ⟨S1x1x16, .f32⟩
  | .local _ .vmem, ⟨6, _⟩ => ⟨S1x1x16, .i32⟩
  | .local _ .vmem, ⟨7, _⟩ => ⟨S1x1x16, .i32⟩
  | _, _ => ⟨S16x384x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [BitOps F]

abbrev grid0 : Pipeline.Grid := ⟨1, ![16], ![false]⟩

@[reducible] def k0_t1_loop : Scf.Loop 32 :=
  let c0_i32_5 : BitVec 32 := 0#32
  let c31_i32 : BitVec 32 := 31#32
  let v12 : BitVec 32 := Scalar.addi c0_i32_5 c31_i32
  let c1_i32 : BitVec 32 := 1#32
  ⟨c0_i32_5, v12, c1_i32⟩
@[reducible] def k0_t2_loop : Scf.Loop 32 :=
  let c0_i32_8 : BitVec 32 := 0#32
  let c21_i32 : BitVec 32 := 21#32
  let v24 : BitVec 32 := Scalar.addi c0_i32_8 c21_i32
  let c1_i32_9 : BitVec 32 := 1#32
  ⟨c0_i32_8, v24, c1_i32_9⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x384x80 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x384 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x16 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== CutReference.lean ====
abbrev S16x384x80 : Shape := ⟨3, ![16, 384, 80]⟩
abbrev S16x384 : Shape := ⟨2, ![16, 384]⟩
abbrev S16x300x80 : Shape := ⟨3, ![16, 300, 80]⟩
abbrev S16x300 : Shape := ⟨2, ![16, 300]⟩
abbrev S16x300x1 : Shape := ⟨3, ![16, 300, 1]⟩
abbrev S_ : Shape := ⟨0, ![]⟩
abbrev S80 : Shape := ⟨1, ![80]⟩
abbrev S1x1x80 : Shape := ⟨3, ![1, 1, 80]⟩
abbrev S16x24000 : Shape := ⟨2, ![16, 24000]⟩
abbrev S16x1 : Shape := ⟨2, ![16, 1]⟩
abbrev S16 : Shape := ⟨1, ![16]⟩
abbrev S16x1x1 : Shape := ⟨3, ![16, 1, 1]⟩
abbrev S16x1x16 : Shape := ⟨3, ![16, 1, 16]⟩

abbrev nBuf : Space → Nat
  | .hbm => 29
  | .vmem => 0
  | .smem => 0
  | _ => 0

abbrev bufTy : (tb : Table) → Fin (tcTables nBuf tb) → BufTy
  | .hbm, ⟨0, _⟩ => ⟨S16x384x80, .f32⟩
  | .hbm, ⟨1, _⟩ => ⟨S16x384, .i32⟩
  | .hbm, ⟨2, _⟩ => ⟨S16x300x80, .f32⟩
  | .hbm, ⟨3, _⟩ => ⟨S16x300x80, .i32⟩
  | .hbm, ⟨4, _⟩ => ⟨S16x300, .i32⟩
  | .hbm, ⟨5, _⟩ => ⟨S16x300x1, .i32⟩
  | .hbm, ⟨6, _⟩ => ⟨S_, .i32⟩
  | .hbm, ⟨7, _⟩ => ⟨S16x300x1, .i32⟩
  | .hbm, ⟨8, _⟩ => ⟨S16x300x1, .i32⟩
  | .hbm, ⟨9, _⟩ => ⟨S80, .i32⟩
  | .hbm, ⟨10, _⟩ => ⟨S1x1x80, .i32⟩
  | .hbm, ⟨11, _⟩ => ⟨S16x300x80, .i32⟩
  | .hbm, ⟨12, _⟩ => ⟨S16x300x80, .i32⟩
  | .hbm, ⟨13, _⟩ => ⟨S16x300x80, .i32⟩
  | .hbm, ⟨14, _⟩ => ⟨S16x24000, .i32⟩
  | .hbm, ⟨15, _⟩ => ⟨S16x24000, .i32⟩
  | .hbm, ⟨16, _⟩ => ⟨S16x24000, .i32⟩
  | .hbm, ⟨17, _⟩ => ⟨S16x24000, .i32⟩
  | .hbm, ⟨18, _⟩ => ⟨S16x24000, .i32⟩
  | .hbm, ⟨19, _⟩ => ⟨S16x1, .i32⟩
  | .hbm, ⟨20, _⟩ => ⟨S16, .i32⟩
  | .hbm, ⟨21, _⟩ => ⟨S16, .i32⟩
  | .hbm, ⟨22, _⟩ => ⟨S16, .f32⟩
  | .hbm, ⟨23, _⟩ => ⟨S16x1x1, .f32⟩
  | .hbm, ⟨24, _⟩ => ⟨S16x1x16, .f32⟩
  | .hbm, ⟨25, _⟩ => ⟨S16x1, .i32⟩
  | .hbm, ⟨26, _⟩ => ⟨S16, .i32⟩
  | .hbm, ⟨27, _⟩ => ⟨S16x1x1, .i32⟩
  | .hbm, ⟨28, _⟩ => ⟨S16x1x16, .i32⟩
  | _, _ => ⟨S16x384x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14_0 : Ref sig .tc := ⟨.hbm, 17, rfl⟩
abbrev main_v14_1 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩

abbrev nD : Nat := 1
abbrev τ : Topo := Topo.v7x

variable {F : FTy → Type} [BitOps F]
-- ==== Proof.Compact.lean ====
module

public import Idealize.ShloMosaic.Adequacy
public import Idealize.ShloMosaic.Init
public import Idealize.ShloMosaic.Lib.ValueIdxCore
public import Idealize.ShloMosaic.Lib.WordArith
public import Mathlib.Data.Nat.Count

@[expose] public section

/-!
# Compaction of a stream by sixteen lanes at a time

A stream of elements is read sixteen at a time; the selected ones are stored, packed, into a buffer: element `i` of
the stream goes to the position that is the number of selected elements before it, `Nat.count sel i`. The lanes find
these positions by a running sum of the selection mask. The theorems here say this once, of any element type.
-/

noncomputable section

namespace Cert.Proof.Compact

open Idealize.ShloMosaic
open Idealize.ShloMosaic.ValueIdx

variable {F : FTy → Type} [FloatOps F] {e : EltTy}

/-- The shape of one vector of sixteen lanes. -/
abbrev L16 : Shape := ⟨1, ![16]⟩

/-- Lane `k` of a vector, as an index. -/
theorem ofLane_eq (k : Fin 16) : (Shape.ofLane (d := ![16]) k : L16.Idx) = ix1 k := by
  funext a
  exact Fin.ext (by rw [Fin.eq_zero a]; rfl)

/-! ## Running scans over the lanes -/

/-- A scan at lane `k`, over lanes as numbers. -/
theorem scan_apply {w : Nat} (kind : ScanKind) (v : IVec L16 w) (k : Fin 16) : scan kind v (ix1 k)
    = ((List.finRange 16).filter (fun j : Fin 16 => decide (0 < j.val ∧ j.val ≤ k.val))).foldl
      (fun r j => kind.step r (v (ix1 j))) (v (ix1 (0 : Fin 16))) := by
  have h : (fun (r : BitVec w) (j : Fin 16) => kind.step r (v (ix1 j)))
      = fun r j => kind.step r (v (Shape.ofLane (d := ![16]) j)) := by
    funext r j
    exact congrArg (fun i => kind.step r (v i)) (ofLane_eq j).symm
  rw [h, ← ofLane_eq 0]
  rfl

/-- A scan's first lane is the vector's first lane. -/
theorem scan_zero {w : Nat} (kind : ScanKind) (v : IVec L16 w) : scan kind v (ix1 (0 : Fin 16)) = v (ix1 (0 : Fin 16)) := by
  have h : (List.finRange 16).filter (fun k : Fin 16 => decide (0 < k.val ∧ k.val ≤ (0 : Fin 16).val)) = [] := by decide
  rw [scan_apply, h]
  rfl

/-- The lanes a scan at lane `k + 1` has gone through are those of lane `k` and then lane `k + 1`. -/
theorem lanes_succ : ∀ k : Fin 15, (List.finRange 16).filter (fun j : Fin 16 => decide (0 < j.val ∧ j.val ≤ k.succ.val))
    = (List.finRange 16).filter (fun j : Fin 16 => decide (0 < j.val ∧ j.val ≤ k.castSucc.val)) ++ [k.succ] := by decide

/-- A scan's next lane is one step from the lane before. -/
theorem scan_succ {w : Nat} (kind : ScanKind) (v : IVec L16 w) (k : Fin 15) :
    scan kind v (ix1 (k.succ : Fin 16)) = kind.step (scan kind v (ix1 (k.castSucc : Fin 16))) (v (ix1 (k.succ : Fin 16))) := by
  rw [scan_apply, scan_apply, lanes_succ, List.foldl_append]
  rfl

variable (sel : ℕ → Prop) [DecidablePred sel]

/-- The running sum of a selection mask at lane `k` is the number of selected lanes up to and with `k`. -/
theorem scan_sum (v : IVec L16 32) (n : ℕ) (hv : ∀ k : Fin 16, v (ix1 k) = if sel (n + k) then 1#32 else 0#32) (k : Fin 16) :
    scan .sum v (ix1 k) = BitVec.ofNat 32 (Nat.count (fun i => sel (n + i)) (k + 1)) := by
  induction k using Fin.induction with
  | zero =>
    rw [scan_zero, hv]
    simp only [Fin.val_zero, zero_add, Nat.count_succ, Nat.count_zero]
    split <;> rfl
  | succ k ih =>
    rw [scan_succ, ih, hv]
    show _ + _ = _
    simp only [Fin.val_succ, Fin.val_castSucc]
    rw [Nat.count_succ (fun i => sel (n + i)) (k.val + 1), BitVec.ofNat_add]
    congr 1
    split <;> rfl

/-- A running maximum of words that never decrease is the vector itself. -/
theorem scan_max_mono (v : IVec L16 32) (hv : ∀ k : Fin 15, (v (ix1 (k.castSucc : Fin 16))).toNat ≤ (v (ix1 (k.succ : Fin 16))).toNat)
    (k : Fin 16) : scan .max v (ix1 k) = v (ix1 k) := by
  induction k using Fin.induction with
  | zero => exact scan_zero _ _
  | succ k ih =>
    rw [scan_succ, ih]
    show IntOp.maxui _ _ = _
    have := hv k
    unfold IntOp.maxui
    split
    · rename_i h
      simp only [BitVec.ult, decide_eq_true_eq] at h
      omega
    · rfl

/-! ## An indexed store of lanes at different positions -/

/-- One lane's part of an indexed store. -/
def laneStep {s : Shape} (idxs : Fin s.rank → IVec L16 32) (v : Vec F L16 e) (mask : IVec L16 1) (g : Vec F s e)
    (k : Fin 16) : Vec F s e :=
  fun j => if mask (ix1 k) = 1#1 ∧ ∀ a, (j a).val = (idxs a (ix1 k)).toNat then v (ix1 k) else g j

/-- An indexed store is its lanes' parts, in order. -/
theorem storeIdx_fold {s : Shape} (f : Vec F s e) (idxs : Fin s.rank → IVec L16 32) (v : Vec F L16 e) (mask : IVec L16 1)
    (h : ∀ a x, (idxs a x).toNat < s.size a) :
    storeIdx f idxs v mask false h = (List.finRange 16).foldl (laneStep idxs v mask) f := by
  have hstep : (laneStep idxs v mask : Vec F s e → Fin 16 → Vec F s e) = fun g k =>
      if mask (Shape.ofLane (d := ![16]) k) = 1 then
        fun j => if ∀ a, (j a).val = (idxAt idxs h (Shape.ofLane (d := ![16]) k) a).val then v (Shape.ofLane (d := ![16]) k) else g j
      else g := by
    funext g k j
    have hk := ofLane_eq k
    unfold laneStep
    rw [← hk]
    by_cases hm : mask (Shape.ofLane (d := ![16]) k) = 1
    · have hm' : mask (Shape.ofLane (d := ![16]) k) = 1#1 := hm
      rw [if_pos hm]
      simp only [hm', true_and]
      rfl
    · have hm' : ¬ mask (Shape.ofLane (d := ![16]) k) = 1#1 := hm
      rw [if_neg hm, if_neg fun h => hm' h.1]
  rw [hstep]
  rfl

/-- What an indexed store leaves at a position that no selected lane names. -/
theorem storeIdx_of_ne {s : Shape} (f : Vec F s e) (idxs : Fin s.rank → IVec L16 32) (v : Vec F L16 e) (mask : IVec L16 1)
    (h : ∀ a x, (idxs a x).toNat < s.size a) (j : s.Idx)
    (hj : ∀ k : Fin 16, mask (ix1 k) = 1#1 → ∃ a, (j a).val ≠ (idxs a (ix1 k)).toNat) :
    storeIdx f idxs v mask false h j = f j := by
  rw [storeIdx_fold]
  generalize List.finRange 16 = l
  induction l generalizing f with
  | nil => rfl
  | cons k l ih =>
    rw [List.foldl_cons, ih]
    refine if_neg fun hk => ?_
    obtain ⟨a, ha⟩ := hj k hk.1
    exact ha (hk.2 a)

/-- What an indexed store leaves at the position a selected lane names, when no other selected lane names it. -/
theorem storeIdx_of_eq {s : Shape} (f : Vec F s e) (idxs : Fin s.rank → IVec L16 32) (v : Vec F L16 e) (mask : IVec L16 1)
    (h : ∀ a x, (idxs a x).toNat < s.size a) (j : s.Idx) (k : Fin 16) (hk : mask (ix1 k) = 1#1)
    (hkj : ∀ a, (j a).val = (idxs a (ix1 k)).toNat)
    (huniq : ∀ k' : Fin 16, mask (ix1 k') = 1#1 → (∀ a, (j a).val = (idxs a (ix1 k')).toNat) → k' = k) :
    storeIdx f idxs v mask false h j = v (ix1 k) := by
  rw [storeIdx_fold]
  suffices H : ∀ (l : List (Fin 16)) (g : Vec F s e), (k ∈ l ∨ g j = v (ix1 k)) →
      (List.foldl (laneStep idxs v mask) g l) j = v (ix1 k) from H _ f (Or.inl (List.mem_finRange k))
  intro l
  induction l with
  | nil => intro g hg; exact hg.resolve_left List.not_mem_nil
  | cons c l ih =>
    intro g hg
    rw [List.foldl_cons]
    apply ih
    by_cases hck : c = k
    · right
      subst hck
      exact if_pos ⟨hk, hkj⟩
    · rcases hg with hg | hg
      · left
        rcases List.mem_cons.mp hg with h' | h'
        · exact absurd h'.symm hck
        · exact h'
      · right
        exact (if_neg fun hall => hck (huniq c hall.1 hall.2)).trans hg

/-- An indexed store keeps any property of every element that its vector's selected lanes have. -/
theorem storeIdx_forall {s : Shape} (Q : Elt F e → Prop) (f : Vec F s e) (idxs : Fin s.rank → IVec L16 32) (v : Vec F L16 e)
    (mask : IVec L16 1) (h : ∀ a x, (idxs a x).toNat < s.size a) (hf : ∀ j, Q (f j))
    (hv : ∀ k : Fin 16, mask (ix1 k) = 1#1 → Q (v (ix1 k))) (j : s.Idx) : Q (storeIdx f idxs v mask false h j) := by
  rw [storeIdx_fold]
  generalize List.finRange 16 = l
  induction l generalizing f with
  | nil => exact hf j
  | cons k l ih =>
    rw [List.foldl_cons]
    apply ih
    intro j
    show Q (if _ then _ else _)
    split
    · rename_i hk
      exact hv k hk.1
    · exact hf j

/-! ## The packed buffer -/

/-- The selected ones among the first `n` elements of the stream `x` lie packed in `f`: element `i` where the count of
    selected elements before `i` says. -/
def Packed {N : ℕ} {α : Type} (x : ℕ → α) (n : ℕ) (f : (⟨1, ![N]⟩ : Shape).Idx → α) : Prop :=
  ∀ i < n, sel i → ∀ j : Fin N, j.val = Nat.count sel i → f (ix1 j) = x i

/-- Nothing is packed yet. -/
theorem Packed.nil {N : ℕ} {α : Type} (x : ℕ → α) (f : (⟨1, ![N]⟩ : Shape).Idx → α) : Packed sel x 0 f :=
  fun _ hi => absurd hi (Nat.not_lt_zero _)

/-- Storing the selected ones of the next sixteen elements, each where the count before it says, packs them too. -/
theorem Packed.step {N : ℕ} (x : ℕ → Elt F e) (n : ℕ) (f : Vec F (⟨1, ![N]⟩ : Shape) e) (hf : Packed sel x n f)
    (at' : IVec L16 32) (v : Vec F L16 e) (mask : IVec L16 1)
    (h : ∀ a x, ((![at'] : Fin 1 → IVec L16 32) a x).toNat < (⟨1, ![N]⟩ : Shape).size a)
    (hm : ∀ k : Fin 16, mask (ix1 k) = 1#1 ↔ sel (n + k))
    (hat : ∀ k : Fin 16, (at' (ix1 k)).toNat = Nat.count sel (n + k))
    (hv : ∀ k : Fin 16, v (ix1 k) = x (n + k)) : Packed sel x (n + 16) (storeIdx f (![at'] : Fin 1 → IVec L16 32) v mask false h) := by
  intro i hi hsel j hj
  by_cases hin : i < n
  · rw [storeIdx_of_ne (s := ⟨1, ![N]⟩)]
    · exact hf i hin hsel j hj
    · intro k _
      refine ⟨0, ?_⟩
      show j.val ≠ (at' (ix1 k)).toNat
      rw [hat k, hj]
      exact Nat.ne_of_lt (Nat.count_strict_mono hsel (by omega))
  · obtain ⟨k, rfl⟩ : ∃ k, i = n + k := ⟨i - n, by omega⟩
    have hk : k < 16 := by omega
    rw [storeIdx_of_eq (s := ⟨1, ![N]⟩) (k := ⟨k, hk⟩)]
    · exact hv ⟨k, hk⟩
    · exact (hm ⟨k, hk⟩).mpr hsel
    · intro a
      rw [Fin.eq_zero a]
      show j.val = (at' (ix1 (⟨k, hk⟩ : Fin 16))).toNat
      rw [hat ⟨k, hk⟩, hj]
    · intro k' hk' he
      have he' : j.val = (at' (ix1 k')).toNat := he 0
      rw [hat k', hj] at he'
      have := Nat.count_injective ((hm k').mp hk') hsel he'.symm
      exact Fin.ext (by show k'.val = k; omega)

/-! ## The words of the positions -/

/-- The number of selected elements among the next `k` is what the count grows by. -/
theorem count_shift (n k : ℕ) : Nat.count sel (n + k) = Nat.count sel n + Nat.count (fun i => sel (n + i)) k :=
  Nat.count_add sel n k

/-- The position word of lane `k`: the count so far, and the selected lanes before `k`. -/
theorem position (v : IVec L16 32) (n : ℕ) (pos : BitVec 32) (hv : ∀ k : Fin 16, v (ix1 k) = if sel (n + k) then 1#32 else 0#32)
    (hpos : pos = BitVec.ofNat 32 (Nat.count sel n)) (k : Fin 16) :
    addi (broadcast L16 pos) (subi (scan .sum v) v) (ix1 k) = BitVec.ofNat 32 (Nat.count sel (n + k)) := by
  show pos + (scan .sum v (ix1 k) - v (ix1 k)) = _
  rw [scan_sum sel v n hv, hv, hpos, count_shift sel n k, Nat.count_succ, BitVec.ofNat_add, BitVec.ofNat_add]
  congr 1
  split
  · exact BitVec.add_sub_cancel _ _
  · show _ + 0#32 - 0#32 = _
    rw [BitVec.add_sub_cancel]

/-- The next position word: the count so far, and the running maximum of the sums (which is the sum of them all). -/
theorem next_position (v : IVec L16 32) (n : ℕ) (hv : ∀ k : Fin 16, v (ix1 k) = if sel (n + k) then 1#32 else 0#32) :
    xori (scan .max (xori (scan .sum v) (broadcast L16 2147483648#32))) (broadcast L16 2147483648#32) (ix1 (15 : Fin 16))
      = BitVec.ofNat 32 (Nat.count (fun i => sel (n + i)) 16) := by
  have hx : ∀ k : Fin 16, (xori (scan .sum v) (broadcast L16 2147483648#32)) (ix1 k)
      = BitVec.ofNat 32 (Nat.count (fun i => sel (n + i)) (k + 1) + 2147483648) := fun k => by
    show scan .sum v (ix1 k) ^^^ 2147483648#32 = _
    rw [scan_sum sel v n hv]
    have hle : Nat.count (fun i => sel (n + i)) (k + 1) ≤ 16 := (Nat.count_le _).trans (by omega)
    revert hle
    generalize Nat.count (fun i => sel (n + i)) (k + 1) = c
    intro hle
    have : ∀ c : Fin 17, BitVec.ofNat 32 c.val ^^^ 2147483648#32 = BitVec.ofNat 32 (c.val + 2147483648) := by decide
    exact this ⟨c, by omega⟩
  show scan .max _ (ix1 (15 : Fin 16)) ^^^ 2147483648#32 = _
  rw [scan_max_mono, hx]
  · have hle : Nat.count (fun i => sel (n + i)) 16 ≤ 16 := Nat.count_le _
    show BitVec.ofNat 32 (Nat.count (fun i => sel (n + i)) 16 + 2147483648) ^^^ 2147483648#32 = _
    revert hle
    generalize Nat.count (fun i => sel (n + i)) 16 = c
    intro hle
    have : ∀ c : Fin 17, BitVec.ofNat 32 (c.val + 2147483648) ^^^ 2147483648#32 = BitVec.ofNat 32 c.val := by decide
    exact this ⟨c, by omega⟩
  · intro k
    have h1 : Nat.count (fun i => sel (n + i)) (k.castSucc.val + 1) ≤ 16 := (Nat.count_le _).trans (by omega)
    have h2 : Nat.count (fun i => sel (n + i)) (k.succ.val + 1) ≤ 16 := (Nat.count_le _).trans (by omega)
    have h3 : Nat.count (fun i => sel (n + i)) (k.castSucc.val + 1) ≤ Nat.count (fun i => sel (n + i)) (k.succ.val + 1) :=
      Nat.count_monotone _ (by simp)
    rw [hx, hx, BitVec.toNat_ofNat, BitVec.toNat_ofNat, Nat.mod_eq_of_lt (by omega), Nat.mod_eq_of_lt (by omega)]
    omega

/-- Every rank below the count of a prefix is the rank of a selected element of the prefix. -/
theorem exists_of_lt_count {k : ℕ} : ∀ {n : ℕ}, k < Nat.count sel n → ∃ i < n, sel i ∧ Nat.count sel i = k
  | 0, h => absurd h (by simp)
  | n + 1, h => by
    rw [Nat.count_succ] at h
    by_cases hk : k < Nat.count sel n
    · obtain ⟨i, hi, hs, hc⟩ := exists_of_lt_count hk
      exact ⟨i, by omega, hs, hc⟩
    · by_cases hs : sel n
      · rw [if_pos hs] at h
        exact ⟨n, by omega, hs, by omega⟩
      · rw [if_neg hs] at h
        omega

end Cert.Proof.Compact
end
-- ==== Proof.Lanes.lean ====
module

public import proofs.«01_k».proof.Proof.Compact
public import Idealize.ShloMosaic.Lib.ValueLayout
public import Idealize.ShloMosaic.Lib.Affine

@[expose] public section

/-!
# One vector of the candidate stream

An image's candidate entries are read as one stream: entry `n` is class `n % 80` of candidate row `n / 80`. The kernel
goes through it sixteen entries at a time. Here is what one such step computes, lane by lane, and what it keeps true of
the three packed buffers: the values, the flat ids and the query numbers of the selected entries.
-/

noncomputable section

namespace Cert.Proof.Lanes

open Idealize.ShloMosaic
open Idealize.ShloMosaic.ValueIdx
open Cert.Proof.Compact

variable {F : FTy → Type} [FloatOps F]

/-! ## The stream -/

section Stream

variable (cand : (⟨2, ![384, 80]⟩ : Shape).Idx → F .f32) (candq : (⟨1, ![384]⟩ : Shape).Idx → BitVec 32)
  (tv : (⟨2, ![1, 16]⟩ : Shape).Idx → F .f32) (ts : (⟨2, ![1, 16]⟩ : Shape).Idx → BitVec 32)

/-- The value of entry `n`. -/
def vS (n : ℕ) : F .f32 := cand (ix2 (Fin.ofNat 384 (n / 80)) (Fin.ofNat 80 n))

/-- The query of entry `n`. -/
def qS (n : ℕ) : BitVec 32 := candq (ix1 (Fin.ofNat 384 (n / 80)))

/-- The flat id of entry `n`: its query times 80, plus its class. -/
def gS (n : ℕ) : BitVec 32 := qS candq n * 80#32 + BitVec.ofNat 32 (n % 80)

/-- Whether entry `n` is selected, as a bit: above the threshold value, or equal to it with an id up to the threshold id. -/
def selBit (n : ℕ) : BitVec 1 :=
  IntOp.ori (FloatOps.cmpf .ogt (vS cand n) (tv (ix2 0 (Fin.ofNat 16 n))))
    (IntOp.andi (FloatOps.cmpf .oeq (vS cand n) (tv (ix2 0 (Fin.ofNat 16 n))))
      (IntOp.cmpi .sle (gS candq n) (ts (ix2 0 (Fin.ofNat 16 n)))))

/-- Entry `n` is selected. -/
def sel (n : ℕ) : Prop := selBit cand candq tv ts n = 1#1

instance : DecidablePred (sel cand candq tv ts) := fun n => inferInstanceAs (Decidable (selBit cand candq tv ts n = 1#1))

end Stream

/-! ## Lanes -/

/-- The flat ids of one vector. -/
def ids (base : BitVec 32) (lanes q : IVec L16 32) : IVec L16 32 :=
  addi (muli q (broadcast L16 80#32)) (addi (broadcast L16 base) lanes)

/-- The selection mask of one vector. -/
def mask (v : FVec F L16 .f32) (g : IVec L16 32) (tv : FVec F L16 .f32) (ts : IVec L16 32) : IVec L16 1 :=
  ori (cmpf .ogt v tv) (andi (cmpf .oeq v tv) (cmpi .sle g ts))

/-- The selection mask as numbers. -/
def ones (m : IVec L16 1) : IVec L16 32 := extui 32 m (by decide)

/-- The positions of the selected lanes. -/
def place (pos : BitVec 32) (one : IVec L16 32) : IVec L16 32 :=
  addi (broadcast L16 pos) (subi (scan .sum one) one)

/-- The running sums' running maximum. -/
def tops (cnt : IVec L16 32) : IVec L16 32 :=
  xori (scan .max (xori cnt (broadcast L16 2147483648#32))) (broadcast L16 2147483648#32)

/-- The sign of 80. -/
def sgn : BitVec 32 :=
  Scalar.subi (Scalar.extui (Scalar.cmpi .sgt 80#32 0#32)) (Scalar.extui (Scalar.cmpi .slt 80#32 0#32))

/-- Whether a rounded quotient by 80 is to be lowered. -/
def lower (g : IVec L16 32) : IVec L16 1 :=
  andi (cmpi .ne (subi (extui 32 (cmpi .sgt g (broadcast L16 0#32)) (by decide))
    (extui 32 (cmpi .slt g (broadcast L16 0#32)) (by decide))) (broadcast L16 sgn))
    (cmpi .ne (remsi g (broadcast L16 80#32)) (broadcast L16 0#32))

/-- The queries of one vector's ids. -/
def query (g : IVec L16 32) : IVec L16 32 :=
  select (lower g) (subi (divsi g (broadcast L16 80#32)) (broadcast L16 1#32)) (divsi g (broadcast L16 80#32))

/-- The id `q * 80 + c` of a query below 20000 is the number `80 * q + c`. -/
theorem id_toNat {q : BitVec 32} (hq : q.toNat < 20000) {c : ℕ} (hc : c < 80) :
    (q * 80#32 + BitVec.ofNat 32 c).toNat = q.toNat * 80 + c := by
  rw [BitVec.toNat_add, BitVec.toNat_mul, BitVec.toNat_ofNat, BitVec.toNat_ofNat]
  omega

/-- The flooring quotient by 80 of the id `q * 80 + c` is `q`. -/
theorem query_lane {g : IVec L16 32} {q : BitVec 32} (hq : q.toNat < 20000) {c : ℕ} (hc : c < 80) (k : Fin 16)
    (hg : g (ix1 k) = q * 80#32 + BitVec.ofNat 32 c) : query g (ix1 k) = q := by
  have hn := id_toNat hq hc
  rw [← hg] at hn
  have hs : 2 * (g (ix1 k)).toNat < 2 ^ 32 := by omega
  have hi : (g (ix1 k)).toInt = ((g (ix1 k)).toNat : ℤ) := BitVec.toInt_eq_toNat_of_lt hs
  have hdiv : IntOp.divsi .vector (g (ix1 k)) 80#32 = q := by
    unfold IntOp.divsi
    rw [if_neg (IntOp.not_corner_of_pos (by decide)), BitVec.sdiv_eq, BitVec.msb_eq_false_iff_two_mul_lt.mpr hs,
      show (80#32 : BitVec 32).msb = false by decide]
    apply BitVec.eq_of_toNat_eq
    show ((g (ix1 k)) / 80#32).toNat = _
    rw [BitVec.toNat_udiv, hn]
    show (q.toNat * 80 + c) / 80 = _
    omega
  have hlow : ¬ lower g (ix1 k) = 1#1 := by
    show ¬ IntOp.andi (IntOp.cmpi .ne (IntOp.subi ((IntOp.cmpi .sgt (g (ix1 k)) 0#32).setWidth 32)
      ((IntOp.cmpi .slt (g (ix1 k)) 0#32).setWidth 32)) sgn)
      (IntOp.cmpi .ne (IntOp.remsi .vector (g (ix1 k)) (BitVec.ofNat 32 80)) 0#32) = 1#1
    rw [IntOp.andi_eq_one]
    rintro ⟨h1, h2⟩
    rw [IntOp.cmpi_ne] at h1 h2
    have hr : (g (ix1 k)).toNat ≠ 0 := fun h0 => h2 (by
      rw [IntOp.remsi_eq_zero_iff .vector hs 80 (by omega) (by omega), h0]
      exact dvd_zero _)
    have hgt : IntOp.cmpi .sgt (g (ix1 k)) 0#32 = 1#1 := by
      rw [IntOp.cmpi_sgt, hi, show (0#32 : BitVec 32).toInt = 0 from by decide]
      omega
    have hlt : IntOp.cmpi .slt (g (ix1 k)) 0#32 = 0#1 := by
      have : ¬ IntOp.cmpi .slt (g (ix1 k)) 0#32 = 1#1 := by
        rw [IntOp.cmpi_slt, hi, show (0#32 : BitVec 32).toInt = 0 from by decide]
        omega
      revert this
      generalize IntOp.cmpi .slt (g (ix1 k)) 0#32 = b
      revert b
      decide
    rw [hgt, hlt] at h1
    exact h1 (by decide)
  show Scalar.select (lower g (ix1 k)) _ (IntOp.divsi .vector (g (ix1 k)) 80#32) = q
  exact (if_neg hlow).trans hdiv

/-! ## One step of the stream -/

section Step

variable (cand : (⟨2, ![384, 80]⟩ : Shape).Idx → F .f32) (candq : (⟨1, ![384]⟩ : Shape).Idx → BitVec 32)
  (tv : (⟨2, ![1, 16]⟩ : Shape).Idx → F .f32) (ts : (⟨2, ![1, 16]⟩ : Shape).Idx → BitVec 32)

/-- Every candidate row of the stream names a query, and fewer than 384 entries are selected. -/
structure Fits : Prop where
  named : ∀ r : Fin 384, r.val < 300 → (candq (ix1 r)).toNat < 20000
  few : Nat.count (sel cand candq tv ts) 24000 < 384

/-- What holds after the stream's first `n` entries: the position reached is the number of selected ones, and the three
buffers hold their values, their ids and their queries, packed; the query buffer holds queries throughout. -/
structure St (n : ℕ) (pos : BitVec 32) (fv : (⟨1, ![384]⟩ : Shape).Idx → F .f32)
    (fg fq : (⟨1, ![384]⟩ : Shape).Idx → BitVec 32) : Prop where
  pos_eq : pos = BitVec.ofNat 32 (Nat.count (sel cand candq tv ts) n)
  val : Packed (sel cand candq tv ts) (vS cand) n fv
  gid : Packed (sel cand candq tv ts) (gS candq) n fg
  qid : Packed (sel cand candq tv ts) (qS candq) n fq
  lt : ∀ j, (fq j).toNat < 20000

/-- What one vector at entry `n` is: lane `k` holds entry `n + k`'s value, query, class and thresholds. -/
structure Vec16 (n : ℕ) (base : BitVec 32) (lanes q : IVec L16 32) (v tv' : FVec F L16 .f32) (ts' : IVec L16 32) : Prop where
  inside : n + 16 ≤ 24000
  q_eq : ∀ k : Fin 16, q (ix1 k) = qS candq (n + k)
  v_eq : ∀ k : Fin 16, v (ix1 k) = vS cand (n + k)
  cls : ∀ k : Fin 16, base + lanes (ix1 k) = BitVec.ofNat 32 ((n + k) % 80)
  tv_eq : ∀ k : Fin 16, tv' (ix1 k) = tv (ix2 0 (Fin.ofNat 16 (n + k)))
  ts_eq : ∀ k : Fin 16, ts' (ix1 k) = ts (ix2 0 (Fin.ofNat 16 (n + k)))

variable {cand candq tv ts}

/-- The stream's queries are queries. -/
theorem Fits.q_lt (hF : Fits cand candq tv ts) {n : ℕ} (hn : n < 24000) : (qS candq n).toNat < 20000 := by
  refine hF.named _ ?_
  show n / 80 % 384 < 300
  omega

/-- Before any entry. -/
theorem St.nil (fv : (⟨1, ![384]⟩ : Shape).Idx → F .f32) (fg fq : (⟨1, ![384]⟩ : Shape).Idx → BitVec 32)
    (h : ∀ j, (fq j).toNat < 20000) : St cand candq tv ts 0 0#32 fv fg fq where
  pos_eq := by rw [Nat.count_zero]
  val := Packed.nil _ _ _
  gid := Packed.nil _ _ _
  qid := Packed.nil _ _ _
  lt := h

section Vector

variable {n : ℕ} {base : BitVec 32} {lanes q : IVec L16 32} {v tv' : FVec F L16 .f32} {ts' : IVec L16 32}
  (hV : Vec16 cand candq tv ts n base lanes q v tv' ts')
include hV

/-- A lane's flat id. -/
theorem Vec16.ids_eq (k : Fin 16) : ids base lanes q (ix1 k) = gS candq (n + k) := by
  show q (ix1 k) * 80#32 + (base + lanes (ix1 k)) = _
  rw [hV.q_eq, hV.cls]
  rfl

/-- A lane's selection bit. -/
theorem Vec16.mask_eq (k : Fin 16) : mask v (ids base lanes q) tv' ts' (ix1 k) = selBit cand candq tv ts (n + k) := by
  show IntOp.ori (FloatOps.cmpf .ogt (v (ix1 k)) (tv' (ix1 k))) (IntOp.andi (FloatOps.cmpf .oeq (v (ix1 k)) (tv' (ix1 k)))
    (IntOp.cmpi .sle (ids base lanes q (ix1 k)) (ts' (ix1 k)))) = _
  rw [hV.ids_eq, hV.v_eq, hV.tv_eq, hV.ts_eq]
  rfl

/-- A lane's selection bit, as a number. -/
theorem Vec16.ones_eq (k : Fin 16) : ones (mask v (ids base lanes q) tv' ts') (ix1 k)
    = if sel cand candq tv ts (n + k) then 1#32 else 0#32 := by
  show (mask v (ids base lanes q) tv' ts' (ix1 k)).setWidth 32 = if selBit cand candq tv ts (n + k) = 1#1 then 1#32 else 0#32
  rw [hV.mask_eq]
  generalize selBit cand candq tv ts (n + k) = b
  revert b
  decide

variable (hF : Fits cand candq tv ts)
include hF

/-- A lane's query. -/
theorem Vec16.query_eq (k : Fin 16) : query (ids base lanes q) (ix1 k) = qS candq (n + k) :=
  query_lane (hF.q_lt (by have := hV.inside; omega)) (Nat.mod_lt _ (by omega)) k (hV.ids_eq k)

variable {pos : BitVec 32} {fv : (⟨1, ![384]⟩ : Shape).Idx → F .f32} {fg fq : (⟨1, ![384]⟩ : Shape).Idx → BitVec 32}
  (hS : St cand candq tv ts n pos fv fg fq)
include hS

/-- A lane's position: the number of selected entries before it. -/
theorem Vec16.place_eq (k : Fin 16) : (place pos (ones (mask v (ids base lanes q) tv' ts')) (ix1 k)).toNat
    = Nat.count (sel cand candq tv ts) (n + k) := by
  unfold place
  rw [position (sel cand candq tv ts) _ n pos hV.ones_eq hS.pos_eq k, BitVec.toNat_ofNat]
  have := hF.few
  have := Nat.count_monotone (sel cand candq tv ts) (show n + k ≤ 24000 by have := hV.inside; omega)
  omega

/-- Every lane's position is one of the buffers' places. -/
theorem Vec16.place_lt (a : Fin 1) (x : L16.Idx) :
    ((![place pos (ones (mask v (ids base lanes q) tv' ts'))] : Fin 1 → IVec L16 32) a x).toNat
      < (⟨1, ![384]⟩ : Shape).size a := by
  obtain ⟨k, rfl⟩ : ∃ k : Fin 16, x = ix1 k := ⟨x 0, eq_ix1 x⟩
  rw [Fin.eq_zero a]
  have := hF.few
  have := Nat.count_monotone (sel cand candq tv ts) (show n + k.val ≤ 24000 by have := hV.inside; omega)
  have h : (place pos (ones (mask v (ids base lanes q) tv' ts')) (ix1 k)).toNat < 384 := by
    rw [hV.place_eq hF hS]
    omega
  exact h

/-- One step: the three stores and the new position keep what holds, sixteen entries on. -/
theorem Vec16.step (h₁ h₂ h₃ h15) : St cand candq tv ts (n + 16)
    (pos + extractAt ![15] (tops (scan .sum (ones (mask v (ids base lanes q) tv' ts')))) h15)
    (storeIdx (F := F) (e := .f32) fv (![place pos (ones (mask v (ids base lanes q) tv' ts'))] : Fin 1 → IVec L16 32) v
      (mask v (ids base lanes q) tv' ts') false h₁)
    (storeIdx (F := F) (e := .i32) fg (![place pos (ones (mask v (ids base lanes q) tv' ts'))] : Fin 1 → IVec L16 32)
      (ids base lanes q) (mask v (ids base lanes q) tv' ts') false h₂)
    (storeIdx (F := F) (e := .i32) fq (![place pos (ones (mask v (ids base lanes q) tv' ts'))] : Fin 1 → IVec L16 32)
      (query (ids base lanes q)) (mask v (ids base lanes q) tv' ts') false h₃) := by
  have hm : ∀ k : Fin 16, mask v (ids base lanes q) tv' ts' (ix1 k) = 1#1 ↔ sel cand candq tv ts (n + k) := fun k => by
    rw [hV.mask_eq]
    exact Iff.rfl
  refine ⟨?_, ?_, ?_, ?_, ?_⟩
  · have h := next_position (sel cand candq tv ts) (ones (mask v (ids base lanes q) tv' ts')) n hV.ones_eq
    have hx : extractAt ![15] (tops (scan .sum (ones (mask v (ids base lanes q) tv' ts')))) h15
        = tops (scan .sum (ones (mask v (ids base lanes q) tv' ts'))) (ix1 (15 : Fin 16)) := by
      unfold extractAt
      refine congrArg _ (funext fun a => ?_)
      rw [Fin.eq_zero a]
      rfl
    rw [hx, hS.pos_eq, count_shift, BitVec.ofNat_add]
    exact congrArg _ h
  · exact Packed.step (F := F) (e := .f32) _ _ n fv hS.val _ _ _ _ hm (hV.place_eq hF hS) hV.v_eq
  · exact Packed.step (F := F) (e := .i32) _ _ n fg hS.gid _ _ _ _ hm (hV.place_eq hF hS) hV.ids_eq
  · exact Packed.step (F := F) (e := .i32) _ _ n fq hS.qid _ _ _ _ hm (hV.place_eq hF hS) (hV.query_eq hF)
  · refine storeIdx_forall (F := F) (e := .i32) (fun x : BitVec 32 => x.toNat < 20000) fq _ _ _ _ hS.lt fun k _ => ?_
    rw [hV.query_eq hF]
    exact hF.q_lt (by have := hV.inside; omega)

end Vector

end Step

end Cert.Proof.Lanes
end
-- ==== Proof.Setup.lean ====
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Lanes

@[expose] public section

/-!
# The kernel's launch, set up

The names the other modules share: the program as the launch theorem reads it, the ghost state of its handshakes, the
memory cells of its arguments and results, and the tile's own buffers.
-/

noncomputable section

namespace Cert.Proof.Stage4

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem reads it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's side conditions. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

abbrev UH : Type := URounds (GSem nD τ sig) ℕ
abbrev UU : Type := UH × Counters

/-- The ghost state of a run. -/
abbrev MM (F : FTy → Type) := MT nD τ sig (HIx 1) (Elt F) ℕ UU ℕ

abbrev EH : Emb UH (MM F) := embL

/-! ## The buffers -/

variable (m : (ℓ : Loc nD τ sig) → Buf (Elt F) ℓ)

/-- The candidate rows, their queries, the two thresholds and the boxes (as the call takes them), and the three results,
as cells of device `d`. -/
abbrev candLoc (d : Dev nD) : Loc nD τ sig := (SparseCore.T d).loc main_arg0
abbrev candqLoc (d : Dev nD) : Loc nD τ sig := (SparseCore.T d).loc main_arg1
abbrev tvLoc (d : Dev nD) : Loc nD τ sig := (SparseCore.T d).loc main_arg2
abbrev tsLoc (d : Dev nD) : Loc nD τ sig := (SparseCore.T d).loc main_arg3
abbrev boxLoc (d : Dev nD) : Loc nD τ sig := (SparseCore.T d).loc main_v0
abbrev wvLoc (d : Dev nD) : Loc nD τ sig := (SparseCore.T d).loc main_v1_0
abbrev wgLoc (d : Dev nD) : Loc nD τ sig := (SparseCore.T d).loc main_v1_1
abbrev wbLoc (d : Dev nD) : Loc nD τ sig := (SparseCore.T d).loc main_v1_2

/-- The SparseCore and the tile of a grid position. -/
abbrev cV (L : grid0.Coords) : Fin τ.nSC := (L 0).castLE hcore0
abbrev jV (L : grid0.Coords) : Fin τ.nSub := (L 1).castLE hsub0

/-- The tile of a grid position, as a thread of device `d`. -/
abbrev th (d : Dev nD) (L : grid0.Coords) := V (nD := nD) (τ := τ) d (cV L) (jV L)

end Cert.Proof.Stage4
end
-- ==== Proof.Trip.lean ====
module

public import proofs.«01_k».proof.Proof.Setup

@[expose] public section

noncomputable section

namespace Cert.Proof.Stage4

open Cert.KernelIdeal Cert.KernelIdeal.Gen
open Idealize.ShloMosaic
open Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Cert.Proof.Compact Cert.Proof.Lanes

variable {F : FTy → Type} [FloatOps F]

local notation "𝕄" => MT nD τ sig (HIx 1) (Elt F) ℕ UU ℕ

/-- The tile's own buffers: a row of candidates, its queries, the thresholds, the three packed buffers, the boxes and the
gathered boxes. -/
abbrev bCand : Memref sig .scVector .vmem S384x80 .f32 := Memref.whole cc0_scratch0
abbrev bCandq : Memref sig .scVector .vmem S384 .i32 := Memref.whole cc0_scratch1
abbrev bTv : Memref sig .scVector .vmem S1x16 .f32 := Memref.whole cc0_scratch2
abbrev bTs : Memref sig .scVector .vmem S1x16 .i32 := Memref.whole cc0_scratch3
abbrev bWv : Memref sig .scVector .vmem S384 .f32 := Memref.whole cc0_scratch4
abbrev bWg : Memref sig .scVector .vmem S384 .i32 := Memref.whole cc0_scratch5
abbrev bWq : Memref sig .scVector .vmem S384 .i32 := Memref.whole cc0_scratch6
abbrev bBoxall : Memref sig .scVector .vmem S80000 .f32 := Memref.whole cc0_scratch7
abbrev bBoxes : Memref sig .scVector .vmem S1536 .f32 := Memref.whole cc0_scratch8

/-- The body of the loop over the candidate rows, at the tile's buffers. -/
abbrev rowBody (L : grid0.Coords) (h1 : k0_cond1 L = 1#1) (v6 : Vec F S1x16 .f32) (v8 : Vec F S1x16 .i32) (v10 : IVec S16 32) :=
  k0_t2_body (F := F) L (Memref.whole main_arg0_scv) (Memref.isWhole_whole _) (Memref.whole main_arg1_scv) (Memref.isWhole_whole _)
    (Memref.whole main_arg2_scv) (Memref.isWhole_whole _) (Memref.whole main_arg3_scv) (Memref.isWhole_whole _)
    (Memref.whole main_v0_scv) (Memref.isWhole_whole _) (Memref.whole main_v1_0_scv) (Memref.isWhole_whole _)
    (Memref.whole main_v1_1_scv) (Memref.isWhole_whole _) (Memref.whole main_v1_2_scv) (Memref.isWhole_whole _)
    bCand (Memref.isWhole_whole _) bCandq (Memref.isWhole_whole _) bTv (Memref.isWhole_whole _) bTs (Memref.isWhole_whole _)
    bWv (Memref.isWhole_whole _) bWg (Memref.isWhole_whole _) bWq (Memref.isWhole_whole _) bBoxall (Memref.isWhole_whole _)
    bBoxes (Memref.isWhole_whole _) cc0_scoped0 cc0_scoped1 cc0_scoped2 cc0_scoped3 cc0_scoped4 cc0_scoped5 cc0_scoped6 cc0_scoped7
    h1 v6 v8 v10

/-- The vector of class numbers within a group of sixteen. -/
abbrev lanes : IVec S16 32 := iota .scVector S16 32 [0] iota_S16_d0_w32_scVector

/-- One group of sixteen classes of a candidate row: load the values, find the selected lanes' positions, and store values,
ids and queries there; the position after the group. -/
def col (L : grid0.Coords) (off : Fin 2 → ℕ) (inb : ∀ a, off a + S1x16.size a ≤ S384x80.size a) (base : BitVec 32)
    (tv' : Vec F S16 .f32) (ts' q : IVec S16 32) (chk : IVec S16 32 → Prop) (dec : ∀ v, Decidable (chk v))
    (hchk : ∀ v, chk v → ∀ a x, ((![v] : Fin 1 → IVec S16 32) a x).toNat < S384.size a) (pos : BitVec 32) :
    Prog (TpuEff nD τ sig (Elt F) Λ₀ (.scVector ((L 0).castLE hcore0) ((L 1).castLE hsub0))) (BitVec 32) := do
  let ld : Vec F S1x16 .f32 ← Prog.lift (.load bCand (Rect.unit (s := S384x80) off S1x16.size inb).toLoadRect (View.loadsAt_vmem h_S1x16))
  let v : Vec F S16 .f32 := shapeCast S16 ld shapeCasts_S1x16_S16
  let msk : IVec S16 1 := mask v (ids base lanes q) tv' ts'
  have h : chk (place pos (ones msk)) := (← Prog.lift (TpuEff.assume (chk (place pos (ones msk))) (dec (place pos (ones msk))))).down
  SparseCore.vectorStoreIdx bWv ![place pos (ones msk)] v msk false (hchk _ h) (View.stores_vmem_bits_univ h_S384 rfl)
  SparseCore.vectorStoreIdx bWg ![place pos (ones msk)] (ids base lanes q) msk false (hchk _ h) (View.stores_vmem_bits_univ h_S384 rfl)
  SparseCore.vectorStoreIdx bWq ![place pos (ones msk)] (query (ids base lanes q)) msk false (hchk _ h) (View.stores_vmem_bits_univ h_S384 rfl)
  pure (pos + extractAt ![15] (tops (scan .sum (ones msk))) inpos_S16_p15)

/-- A trip of the loop over the candidate rows: the row's query gathered to all lanes, then its five groups. -/
def rowFlat (L : grid0.Coords) (h1 : k0_cond1 L = 1#1) (tv : Vec F S1x16 .f32) (ts : Vec F S1x16 .i32) (k : Fin k0_t2_loop.trips)
    (pos : BitVec 32) : Prog (TpuEff nD τ sig (Elt F) Λ₀ (.scVector ((L 0).castLE hcore0) ((L 1).castLE hsub0))) (BitVec 32) := do
  have h : k0_chk1 L (broadcast S16 (Scf.iv 0#32 1#32 k)) :=
    (← Prog.lift (TpuEff.assume (k0_chk1 L (broadcast S16 (Scf.iv 0#32 1#32 k))) (k0_chk1.dec L _))).down
  let q : Vec F S16 .i32 ← SparseCore.vectorLoadIdx bCandq ![broadcast S16 (Scf.iv 0#32 1#32 k)] (k0_idx1_inb L _ h h1) (View.loads_vmem h_S384)
  let pos ← col L (k0_off6 k) (k0_off6_inb L k h1) 0#32 (shapeCast S16 tv shapeCasts_S1x16_S16) (shapeCast S16 ts shapeCasts_S1x16_S16) q
    (k0_chk2 L) (k0_chk2.dec L) (fun v h => k0_idx2_inb L v h h1) pos
  let pos ← col L (k0_off7 k) (k0_off7_inb L k h1) 16#32 (shapeCast S16 tv shapeCasts_S1x16_S16) (shapeCast S16 ts shapeCasts_S1x16_S16) q
    (k0_chk3 L) (k0_chk3.dec L) (fun v h => k0_idx5_inb L v h h1) pos
  let pos ← col L (k0_off8 k) (k0_off8_inb L k h1) 32#32 (shapeCast S16 tv shapeCasts_S1x16_S16) (shapeCast S16 ts shapeCasts_S1x16_S16) q
    (k0_chk4 L) (k0_chk4.dec L) (fun v h => k0_idx8_inb L v h h1) pos
  let pos ← col L (k0_off9 k) (k0_off9_inb L k h1) 48#32 (shapeCast S16 tv shapeCasts_S1x16_S16) (shapeCast S16 ts shapeCasts_S1x16_S16) q
    (k0_chk5 L) (k0_chk5.dec L) (fun v h => k0_idx11_inb L v h h1) pos
  let pos ← col L (k0_off10 k) (k0_off10_inb L k h1) 64#32 (shapeCast S16 tv shapeCasts_S1x16_S16) (shapeCast S16 ts shapeCasts_S1x16_S16) q
    (k0_chk6 L) (k0_chk6.dec L) (fun v h => k0_idx14_inb L v h h1) pos
  pure pos

set_option maxRecDepth 65536 in
/-- The trip is its five groups. -/
theorem rowBody_eq (L : grid0.Coords) (h1 : k0_cond1 L = 1#1) (tv : Vec F S1x16 .f32) (ts : Vec F S1x16 .i32) (k : Fin k0_t2_loop.trips)
    (pos : BitVec 32) : rowBody L h1 tv ts lanes k pos = rowFlat L h1 tv ts k pos := rfl

section Row

variable (d : Dev nD) (L : grid0.Coords) (h1 : k0_cond1 L = 1#1)
  (cand : (⟨2, ![384, 80]⟩ : Shape).Idx → F .f32) (candq : (⟨1, ![384]⟩ : Shape).Idx → BitVec 32)
  (tv : (⟨2, ![1, 16]⟩ : Shape).Idx → F .f32) (ts : (⟨2, ![1, 16]⟩ : Shape).Idx → BitVec 32)

/-- A masked store to the lanes' positions of the tile's buffer `bWv`, held whole. -/
theorem scatter_wv {idxs : Fin 1 → IVec S16 32} {v : Vec F S16 .f32} {msk : IVec S16 1} {h : ∀ a x, (idxs a x).toNat < S384.size a}
    {hs : (bWv.access (.whole S384)).Stores Finset.univ} {α : Type}
    {k : PUnit → Prog (TpuEff nD τ sig (Elt F) Λ₀ (.scVector (cV L) (jV L))) α} {Q : α → sProp 𝕄} {f : Vec F S384 .f32} :
    (bWv.view.loc (th d L) ↦{fullShare} f : sProp 𝕄)
      ⊢ iprop(((bWv.view.loc (th d L) ↦{fullShare} (storeIdx f idxs v msk false h : Vec F S384 .f32))
          -∗ wp frame (wpE (defs₀ (F := F)) 𝒱₀ (th d L) none) Set.univ (k ⟨⟩) Q)
        -∗ wp frame (wpE (defs₀ (F := F)) 𝒱₀ (th d L) none) Set.univ (SparseCore.vectorStoreIdx bWv idxs v msk false h hs >>= k) Q) := by
  have hset : (bWv.access (.whole S384)).set = Finset.univ := Memref.set_access_whole cc0_scratch4
  have hr : (bWv.access (.whole S384)).read (Elt F) f = f := Memref.read_access_whole (Elt F) cc0_scratch4 f
  have hw : ∀ w, (bWv.access (.whole S384)).write (Elt F) f w Finset.univ = w := Memref.write_access_whole_univ (Elt F) cc0_scratch4 f
  have hp := SparseCore.wp_vectorStoreIdx (defs := defs₀ (F := F)) 𝒱₀ (th d L) none Set.univ (base := bWv) (idxs := idxs) (v := v)
    (mask := msk) (add := false) (h := h) (hs := hs) (k := k) (Q := Q) (f := f)
  rw [hset, hr, hw] at hp
  exact hp

/-- A masked store to the lanes' positions of the tile's buffer `bWg`, held whole. -/
theorem scatter_wg {idxs : Fin 1 → IVec S16 32} {v : Vec F S16 .i32} {msk : IVec S16 1} {h : ∀ a x, (idxs a x).toNat < S384.size a}
    {hs : (bWg.access (.whole S384)).Stores Finset.univ} {α : Type}
    {k : PUnit → Prog (TpuEff nD τ sig (Elt F) Λ₀ (.scVector (cV L) (jV L))) α} {Q : α → sProp 𝕄} {f : Vec F S384 .i32} :
    (bWg.view.loc (th d L) ↦{fullShare} f : sProp 𝕄)
      ⊢ iprop(((bWg.view.loc (th d L) ↦{fullShare} (storeIdx f idxs v msk false h : Vec F S384 .i32))
          -∗ wp frame (wpE (defs₀ (F := F)) 𝒱₀ (th d L) none) Set.univ (k ⟨⟩) Q)
        -∗ wp frame (wpE (defs₀ (F := F)) 𝒱₀ (th d L) none) Set.univ (SparseCore.vectorStoreIdx bWg idxs v msk false h hs >>= k) Q) := by
  have hset : (bWg.access (.whole S384)).set = Finset.univ := Memref.set_access_whole cc0_scratch5
  have hr : (bWg.access (.whole S384)).read (Elt F) f = f := Memref.read_access_whole (Elt F) cc0_scratch5 f
  have hw : ∀ w, (bWg.access (.whole S384)).write (Elt F) f w Finset.univ = w := Memref.write_access_whole_univ (Elt F) cc0_scratch5 f
  have hp := SparseCore.wp_vectorStoreIdx (defs := defs₀ (F := F)) 𝒱₀ (th d L) none Set.univ (base := bWg) (idxs := idxs) (v := v)
    (mask := msk) (add := false) (h := h) (hs := hs) (k := k) (Q := Q) (f := f)
  rw [hset, hr, hw] at hp
  exact hp

/-- A masked store to the lanes' positions of the tile's buffer `bWq`, held whole. -/
theorem scatter_wq {idxs : Fin 1 → IVec S16 32} {v : Vec F S16 .i32} {msk : IVec S16 1} {h : ∀ a x, (idxs a x).toNat < S384.size a}
    {hs : (bWq.access (.whole S384)).Stores Finset.univ} {α : Type}
    {k : PUnit → Prog (TpuEff nD τ sig (Elt F) Λ₀ (.scVector (cV L) (jV L))) α} {Q : α → sProp 𝕄} {f : Vec F S384 .i32} :
    (bWq.view.loc (th d L) ↦{fullShare} f : sProp 𝕄)
      ⊢ iprop(((bWq.view.loc (th d L) ↦{fullShare} (storeIdx f idxs v msk false h : Vec F S384 .i32))
          -∗ wp frame (wpE (defs₀ (F := F)) 𝒱₀ (th d L) none) Set.univ (k ⟨⟩) Q)
        -∗ wp frame (wpE (defs₀ (F := F)) 𝒱₀ (th d L) none) Set.univ (SparseCore.vectorStoreIdx bWq idxs v msk false h hs >>= k) Q) := by
  have hset : (bWq.access (.whole S384)).set = Finset.univ := Memref.set_access_whole cc0_scratch6
  have hr : (bWq.access (.whole S384)).read (Elt F) f = f := Memref.read_access_whole (Elt F) cc0_scratch6 f
  have hw : ∀ w, (bWq.access (.whole S384)).write (Elt F) f w Finset.univ = w := Memref.write_access_whole_univ (Elt F) cc0_scratch6 f
  have hp := SparseCore.wp_vectorStoreIdx (defs := defs₀ (F := F)) 𝒱₀ (th d L) none Set.univ (base := bWq) (idxs := idxs) (v := v)
    (mask := msk) (add := false) (h := h) (hs := hs) (k := k) (Q := Q) (f := f)
  rw [hset, hr, hw] at hp
  exact hp

/-- One group of sixteen classes keeps what holds of the packed buffers, sixteen entries on. -/
theorem col_trip (hF : Fits cand candq tv ts) (off : Fin 2 → ℕ) (inb : ∀ a, off a + S1x16.size a ≤ S384x80.size a) (base : BitVec 32)
    (tv' : Vec F S16 .f32) (ts' q : IVec S16 32) (chk : IVec S16 32 → Prop) (dec : ∀ v, Decidable (chk v))
    (hchk : ∀ v, chk v → ∀ a x, ((![v] : Fin 1 → IVec S16 32) a x).toNat < S384.size a)
    (hchk' : ∀ v, (∀ a x, ((![v] : Fin 1 → IVec S16 32) a x).toNat < S384.size a) → chk v) (n : ℕ)
    (hV : Vec16 cand candq tv ts n base lanes q
      (shapeCast S16 (bCand.view.readAt (Elt F) (Rect.unit (s := S384x80) off S1x16.size inb).toLoadRect (cand : Vec F S384x80 .f32)) shapeCasts_S1x16_S16)
      tv' ts') (pos : BitVec 32)
    (fv : Vec F S384 .f32) (fg fq : Vec F S384 .i32) (hS : St cand candq tv ts n pos fv fg fq) :
    iprop((bCand.view.loc (th d L) ↦{fullShare} (cand : Vec F S384x80 .f32))
        ∗ (bWv.view.loc (th d L) ↦{fullShare} fv) ∗ (bWg.view.loc (th d L) ↦{fullShare} fg) ∗ (bWq.view.loc (th d L) ↦{fullShare} fq) : sProp 𝕄)
      ⊢ wp frame (wpE (defs₀ (F := F)) 𝒱₀ (th d L) none) Set.univ
          (col L off inb base tv' ts' q chk dec hchk pos)
          fun acc' => iprop((bCand.view.loc (th d L) ↦{fullShare} (cand : Vec F S384x80 .f32))
            ∗ ∃ fv' fg' fq', (bWv.view.loc (th d L) ↦{fullShare} fv') ∗ (bWg.view.loc (th d L) ↦{fullShare} fg')
              ∗ (bWq.view.loc (th d L) ↦{fullShare} fq') ∗ ⌜St cand candq tv ts (n + 16) acc' fv' fg' fq'⌝) := by
  iintro ⟨Hc, Hwv, Hwg, Hwq⟩
  sl_unfold [col]
  iapply (wp_load 𝒱₀ (th d L) none Set.univ (m := bCand) (S := Finset.univ) (Finset.subset_univ _)) $$ Hc; iintro Hc
  iapply (wp_assume 𝒱₀ (th d L) none Set.univ (hchk' _ (hV.place_lt hF hS)))
  iapply (scatter_wv d L) $$ Hwv; iintro Hwv
  iapply (scatter_wg d L) $$ Hwg; iintro Hwg
  iapply (scatter_wq d L) $$ Hwq; iintro Hwq
  sl_step
  isplitl [Hc]; · iexact Hc
  iexists _, _, _
  isplitl [Hwv]; · iexact Hwv
  isplitl [Hwg]; · iexact Hwg
  isplitl [Hwq]; · iexact Hwq
  ipureintro
  exact hV.step hF hS _ _ _ _

/-- The same, at the head of a program. -/
theorem col_seq (hF : Fits cand candq tv ts) (off : Fin 2 → ℕ) (inb : ∀ a, off a + S1x16.size a ≤ S384x80.size a) (base : BitVec 32)
    (tv' : Vec F S16 .f32) (ts' q : IVec S16 32) (chk : IVec S16 32 → Prop) (dec : ∀ v, Decidable (chk v))
    (hchk : ∀ v, chk v → ∀ a x, ((![v] : Fin 1 → IVec S16 32) a x).toNat < S384.size a)
    (hchk' : ∀ v, (∀ a x, ((![v] : Fin 1 → IVec S16 32) a x).toNat < S384.size a) → chk v) (n : ℕ)
    (hV : Vec16 cand candq tv ts n base lanes q
      (shapeCast S16 (bCand.view.readAt (Elt F) (Rect.unit (s := S384x80) off S1x16.size inb).toLoadRect (cand : Vec F S384x80 .f32)) shapeCasts_S1x16_S16)
      tv' ts') (pos : BitVec 32)
    (fv : Vec F S384 .f32) (fg fq : Vec F S384 .i32)
    {α : Type} (kk : BitVec 32 → Prog (TpuEff nD τ sig (Elt F) Λ₀ (.scVector (cV L) (jV L))) α) (Q : α → sProp 𝕄) (hS : St cand candq tv ts n pos fv fg fq) :
    iprop((bCand.view.loc (th d L) ↦{fullShare} (cand : Vec F S384x80 .f32))
        ∗ (bWv.view.loc (th d L) ↦{fullShare} fv) ∗ (bWg.view.loc (th d L) ↦{fullShare} fg) ∗ (bWq.view.loc (th d L) ↦{fullShare} fq) : sProp 𝕄)
      ⊢ iprop((∀ acc' : BitVec 32, ((bCand.view.loc (th d L) ↦{fullShare} (cand : Vec F S384x80 .f32))
            ∗ ∃ fv' fg' fq', (bWv.view.loc (th d L) ↦{fullShare} fv') ∗ (bWg.view.loc (th d L) ↦{fullShare} fg')
              ∗ (bWq.view.loc (th d L) ↦{fullShare} fq') ∗ ⌜St cand candq tv ts (n + 16) acc' fv' fg' fq'⌝)
          -∗ wp frame (wpE (defs₀ (F := F)) 𝒱₀ (th d L) none) Set.univ (kk acc') Q)
        -∗ wp frame (wpE (defs₀ (F := F)) 𝒱₀ (th d L) none) Set.univ (col L off inb base tv' ts' q chk dec hchk pos >>= kk) Q) := by
  rw [wp_bind]
  exact (col_trip d L cand candq tv ts hF off inb base tv' ts' q chk dec hchk hchk' n hV pos fv fg fq hS).trans (wp_wand _ _ _)

/-- An indexed load of the tile's buffer `bCandq`, held whole. -/
theorem gather_candq {idxs : Fin 1 → IVec S16 32} {h : ∀ a x, (idxs a x).toNat < S384.size a}
    {hl : bCandq.view.Loads} {α : Type}
    {k : Vec F S16 .i32 → Prog (TpuEff nD τ sig (Elt F) Λ₀ (.scVector (cV L) (jV L))) α} {Q : α → sProp 𝕄} {f : Vec F S384 .i32} :
    (bCandq.view.loc (th d L) ↦{fullShare} f : sProp 𝕄)
      ⊢ iprop(((bCandq.view.loc (th d L) ↦{fullShare} f)
          -∗ wp frame (wpE (defs₀ (F := F)) 𝒱₀ (th d L) none) Set.univ (k (loadIdx f idxs h)) Q)
        -∗ wp frame (wpE (defs₀ (F := F)) 𝒱₀ (th d L) none) Set.univ (SparseCore.vectorLoadIdx bCandq idxs h hl >>= k) Q) := by
  have hr : (bCandq.access (.whole S384)).read (Elt F) f = f := Memref.read_access_whole (Elt F) cc0_scratch1 f
  have hp := SparseCore.wp_vectorLoadIdx (defs := defs₀ (F := F)) 𝒱₀ (th d L) none Set.univ (base := bCandq) (idxs := idxs) (h := h)
    (hl := hl) (k := k) (Q := Q) (S := Finset.univ) (q := fullShare) (f := f) (Finset.subset_univ _)
  rw [hr] at hp
  exact hp

/-- An indexed load of the tile's buffer `bWq`, held whole. -/
theorem gather_wq {idxs : Fin 1 → IVec S16 32} {h : ∀ a x, (idxs a x).toNat < S384.size a}
    {hl : bWq.view.Loads} {α : Type}
    {k : Vec F S16 .i32 → Prog (TpuEff nD τ sig (Elt F) Λ₀ (.scVector (cV L) (jV L))) α} {Q : α → sProp 𝕄} {f : Vec F S384 .i32} :
    (bWq.view.loc (th d L) ↦{fullShare} f : sProp 𝕄)
      ⊢ iprop(((bWq.view.loc (th d L) ↦{fullShare} f)
          -∗ wp frame (wpE (defs₀ (F := F)) 𝒱₀ (th d L) none) Set.univ (k (loadIdx f idxs h)) Q)
        -∗ wp frame (wpE (defs₀ (F := F)) 𝒱₀ (th d L) none) Set.univ (SparseCore.vectorLoadIdx bWq idxs h hl >>= k) Q) := by
  have hr : (bWq.access (.whole S384)).read (Elt F) f = f := Memref.read_access_whole (Elt F) cc0_scratch6 f
  have hp := SparseCore.wp_vectorLoadIdx (defs := defs₀ (F := F)) 𝒱₀ (th d L) none Set.univ (base := bWq) (idxs := idxs) (h := h)
    (hl := hl) (k := k) (Q := Q) (S := Finset.univ) (q := fullShare) (f := f) (Finset.subset_univ _)
  rw [hr] at hp
  exact hp

/-- An indexed load of the tile's buffer `bBoxall`, held whole. -/
theorem gather_boxall {idxs : Fin 1 → IVec S16 32} {h : ∀ a x, (idxs a x).toNat < S80000.size a}
    {hl : bBoxall.view.Loads} {α : Type}
    {k : Vec F S16 .f32 → Prog (TpuEff nD τ sig (Elt F) Λ₀ (.scVector (cV L) (jV L))) α} {Q : α → sProp 𝕄} {f : Vec F S80000 .f32} :
    (bBoxall.view.loc (th d L) ↦{fullShare} f : sProp 𝕄)
      ⊢ iprop(((bBoxall.view.loc (th d L) ↦{fullShare} f)
          -∗ wp frame (wpE (defs₀ (F := F)) 𝒱₀ (th d L) none) Set.univ (k (loadIdx f idxs h)) Q)
        -∗ wp frame (wpE (defs₀ (F := F)) 𝒱₀ (th d L) none) Set.univ (SparseCore.vectorLoadIdx bBoxall idxs h hl >>= k) Q) := by
  have hr : (bBoxall.access (.whole S80000)).read (Elt F) f = f := Memref.read_access_whole (Elt F) cc0_scratch7 f
  have hp := SparseCore.wp_vectorLoadIdx (defs := defs₀ (F := F)) 𝒱₀ (th d L) none Set.univ (base := bBoxall) (idxs := idxs) (h := h)
    (hl := hl) (k := k) (Q := Q) (S := Finset.univ) (q := fullShare) (f := f) (Finset.subset_univ _)
  rw [hr] at hp
  exact hp

/-- The class numbers, lane by lane. -/
theorem lanes_apply (k : Fin 16) : lanes (ix1 k) = BitVec.ofNat 32 k.val := by
  revert k
  decide

/-- A load of sixteen values of a candidate row, lane by lane. -/
theorem load_cand (off : Fin 2 → ℕ) (inb : ∀ a, off a + S1x16.size a ≤ S384x80.size a) (r : Fin 384) (c : Fin 80) (k : Fin 16)
    (h0 : off 0 = r.val) (h1 : off 1 + k.val = c.val) :
    shapeCast S16 (bCand.view.readAt (Elt F) (Rect.unit (s := S384x80) off S1x16.size inb).toLoadRect (cand : Vec F S384x80 .f32)) shapeCasts_S1x16_S16 (ix1 k)
      = cand (ix2 r c) := by
  refine (shapeCast_1a_a_apply _ _ k).trans ?_
  show cand _ = cand _
  refine congrArg cand (funext fun a => Fin.ext ?_)
  match a with
  | 0 =>
    show off 0 + 1 * 0 = r.val
    omega
  | 1 =>
    show off 1 + 1 * k.val = c.val
    omega

/-- The group of classes `16 * j …` of candidate row `k` is sixteen entries of the stream. -/
theorem vec16_col (k : ℕ) (hk : k < 300) (j : ℕ) (hj : j < 5) (off : Fin 2 → ℕ) (inb : ∀ a, off a + S1x16.size a ≤ S384x80.size a)
    (hoff : off = ![k, 16 * j]) (base : BitVec 32) (hbase : base = BitVec.ofNat 32 (16 * j)) (q : IVec S16 32)
    (hq : ∀ l : Fin 16, q (ix1 l) = candq (ix1 (Fin.ofNat 384 k))) :
    Vec16 cand candq tv ts (80 * k + 16 * j) base lanes q
      (shapeCast S16 (bCand.view.readAt (Elt F) (Rect.unit (s := S384x80) off S1x16.size inb).toLoadRect (cand : Vec F S384x80 .f32)) shapeCasts_S1x16_S16)
      (shapeCast S16 (tv : Vec F S1x16 .f32) shapeCasts_S1x16_S16) (shapeCast S16 (ts : Vec F S1x16 .i32) shapeCasts_S1x16_S16) where
  inside := by omega
  q_eq l := by
    rw [hq]
    unfold qS
    congr 3
    omega
  v_eq l := by
    refine load_cand cand off inb _ _ l ?_ ?_
    · rw [hoff]
      show k = (80 * k + 16 * j + l.val) / 80 % 384
      omega
    · rw [hoff]
      show 16 * j + l.val = (80 * k + 16 * j + l.val) % 80
      omega
  cls l := by
    rw [hbase, lanes_apply, ← BitVec.ofNat_add]
    congr 1
    omega
  tv_eq l := by
    refine (shapeCast_1a_a_apply _ _ l).trans ?_
    congr 2
    apply Fin.ext
    show l.val = (80 * k + 16 * j + l.val) % 16
    omega
  ts_eq l := by
    refine (shapeCast_1a_a_apply _ _ l).trans ?_
    congr 2
    apply Fin.ext
    show l.val = (80 * k + 16 * j + l.val) % 16
    omega

/-- The row number of trip `k`, on every lane. -/
theorem row_word (k : Fin k0_t2_loop.trips) : (Scf.iv 0#32 1#32 k : BitVec 32).toNat = k.val := by
  have hk : k.val < 300 := k.isLt.trans_le k0_t2_abs.2.1
  have h : (Scf.iv 0#32 1#32 k : BitVec 32) = BitVec.ofNat 32 k.val := by
    unfold Scf.iv
    simp
  rw [h, BitVec.toNat_ofNat]
  omega

/-- One trip of the loop over the candidate rows keeps what holds of the packed buffers, eighty entries on. -/
theorem row_trip (hF : Fits cand candq tv ts) (k : Fin k0_t2_loop.trips) (acc : BitVec 32)
    (fv : Vec F S384 .f32) (fg fq : Vec F S384 .i32) (hS : St cand candq tv ts (80 * k.val) acc fv fg fq) :
    iprop((bCand.view.loc (th d L) ↦{fullShare} (cand : Vec F S384x80 .f32)) ∗ (bCandq.view.loc (th d L) ↦{fullShare} (candq : Vec F S384 .i32))
        ∗ (bWv.view.loc (th d L) ↦{fullShare} fv) ∗ (bWg.view.loc (th d L) ↦{fullShare} fg) ∗ (bWq.view.loc (th d L) ↦{fullShare} fq) : sProp 𝕄)
      ⊢ wp frame (wpE (defs₀ (F := F)) 𝒱₀ (th d L) none) Set.univ
          (rowBody L h1 tv ts lanes k acc)
          fun acc' => iprop((bCand.view.loc (th d L) ↦{fullShare} (cand : Vec F S384x80 .f32))
            ∗ (bCandq.view.loc (th d L) ↦{fullShare} (candq : Vec F S384 .i32))
            ∗ ∃ fv' fg' fq', (bWv.view.loc (th d L) ↦{fullShare} fv') ∗ (bWg.view.loc (th d L) ↦{fullShare} fg')
              ∗ (bWq.view.loc (th d L) ↦{fullShare} fq') ∗ ⌜St cand candq tv ts (80 * (k.val + 1)) acc' fv' fg' fq'⌝) := by
  have hk : k.val < 300 := k.isLt.trans_le k0_t2_abs.2.1
  have hw : ∀ a x, ((![broadcast S16 (Scf.iv 0#32 1#32 k)] : Fin 1 → IVec S16 32) a x).toNat < S384.size a := fun a x => by
    rw [Fin.eq_zero a]
    show (Scf.iv 0#32 1#32 k : BitVec 32).toNat < 384
    rw [row_word]
    omega
  have hq : ∀ (h : ∀ a x, ((![broadcast S16 (Scf.iv 0#32 1#32 k)] : Fin 1 → IVec S16 32) a x).toNat < S384.size a) (l : Fin 16),
      loadIdx (F := F) (e := .i32) (candq : Vec F S384 .i32) ![broadcast S16 (Scf.iv 0#32 1#32 k)] h (ix1 l) = candq (ix1 (Fin.ofNat 384 k.val)) := fun h l => by
    show candq _ = candq _
    refine congrArg candq (funext fun a => Fin.ext ?_)
    rw [Fin.eq_zero a]
    show (Scf.iv 0#32 1#32 k : BitVec 32).toNat = k.val % 384
    rw [row_word]
    omega
  rw [rowBody_eq]
  iintro ⟨Hc, Hq, Hwv, Hwg, Hwq⟩
  sl_unfold [rowFlat]
  iapply (wp_assume 𝒱₀ (th d L) none Set.univ (show k0_chk1 L (broadcast S16 (Scf.iv 0#32 1#32 k)) from fun _ => hw))
  iapply (gather_candq d L (hl := View.loads_vmem h_S384)) $$ Hq; iintro Hq
  iapply (col_seq d L cand candq tv ts hF _ (k0_off6_inb L k h1) 0#32 _ _ _ (k0_chk2 L) (k0_chk2.dec L)
    (fun v h => k0_idx2_inb L v h h1) (fun _ h => ⟨fun _ => h, fun _ => h, fun _ => h⟩) _
    (vec16_col cand candq tv ts k.val hk 0 (by omega) _ _ (k0_off6_eq k) _ rfl _ (hq hw)) _ _ _ _ _ _ hS) $$ [Hc Hwv Hwg Hwq]
  · isplitl [Hc]; · iexact Hc
    isplitl [Hwv]; · iexact Hwv
    isplitl [Hwg]; · iexact Hwg
    iexact Hwq
  iintro %acc0 ⟨Hc, %fv0, %fg0, %fq0, Hwv, Hwg, Hwq, %hS⟩
  iapply (col_seq d L cand candq tv ts hF _ (k0_off7_inb L k h1) 16#32 _ _ _ (k0_chk3 L) (k0_chk3.dec L)
    (fun v h => k0_idx5_inb L v h h1) (fun _ h => ⟨fun _ => h, fun _ => h, fun _ => h⟩) _
    (vec16_col cand candq tv ts k.val hk 1 (by omega) _ _ (k0_off7_eq k) _ rfl _ (hq hw)) _ _ _ _ _ _ hS) $$ [Hc Hwv Hwg Hwq]
  · isplitl [Hc]; · iexact Hc
    isplitl [Hwv]; · iexact Hwv
    isplitl [Hwg]; · iexact Hwg
    iexact Hwq
  iintro %acc1 ⟨Hc, %fv1, %fg1, %fq1, Hwv, Hwg, Hwq, %hS⟩
  iapply (col_seq d L cand candq tv ts hF _ (k0_off8_inb L k h1) 32#32 _ _ _ (k0_chk4 L) (k0_chk4.dec L)
    (fun v h => k0_idx8_inb L v h h1) (fun _ h => ⟨fun _ => h, fun _ => h, fun _ => h⟩) _
    (vec16_col cand candq tv ts k.val hk 2 (by omega) _ _ (k0_off8_eq k) _ rfl _ (hq hw)) _ _ _ _ _ _ hS) $$ [Hc Hwv Hwg Hwq]
  · isplitl [Hc]; · iexact Hc
    isplitl [Hwv]; · iexact Hwv
    isplitl [Hwg]; · iexact Hwg
    iexact Hwq
  iintro %acc2 ⟨Hc, %fv2, %fg2, %fq2, Hwv, Hwg, Hwq, %hS⟩
  iapply (col_seq d L cand candq tv ts hF _ (k0_off9_inb L k h1) 48#32 _ _ _ (k0_chk5 L) (k0_chk5.dec L)
    (fun v h => k0_idx11_inb L v h h1) (fun _ h => ⟨fun _ => h, fun _ => h, fun _ => h⟩) _
    (vec16_col cand candq tv ts k.val hk 3 (by omega) _ _ (k0_off9_eq k) _ rfl _ (hq hw)) _ _ _ _ _ _ hS) $$ [Hc Hwv Hwg Hwq]
  · isplitl [Hc]; · iexact Hc
    isplitl [Hwv]; · iexact Hwv
    isplitl [Hwg]; · iexact Hwg
    iexact Hwq
  iintro %acc3 ⟨Hc, %fv3, %fg3, %fq3, Hwv, Hwg, Hwq, %hS⟩
  iapply (col_seq d L cand candq tv ts hF _ (k0_off10_inb L k h1) 64#32 _ _ _ (k0_chk6 L) (k0_chk6.dec L)
    (fun v h => k0_idx14_inb L v h h1) (fun _ h => ⟨fun _ => h, fun _ => h, fun _ => h⟩) _
    (vec16_col cand candq tv ts k.val hk 4 (by omega) _ _ (k0_off10_eq k) _ rfl _ (hq hw)) _ _ _ _ _ _ hS) $$ [Hc Hwv Hwg Hwq]
  · isplitl [Hc]; · iexact Hc
    isplitl [Hwv]; · iexact Hwv
    isplitl [Hwg]; · iexact Hwg
    iexact Hwq
  iintro %acc4 ⟨Hc, %fv4, %fg4, %fq4, Hwv, Hwg, Hwq, %hS⟩
  sl_step
  isplitl [Hc]; · iexact Hc
  isplitl [Hq]; · iexact Hq
  iexists _, _, _
  isplitl [Hwv]; · iexact Hwv
  isplitl [Hwg]; · iexact Hwg
  isplitl [Hwq]; · iexact Hwq
  ipureintro
  exact hS

end Row

end Cert.Proof.Stage4
end
-- ==== Proof.Loops.lean ====
module

public import proofs.«01_k».proof.Proof.Trip

@[expose] public section

noncomputable section

namespace Cert.Proof.Stage4

open Cert.KernelIdeal Cert.KernelIdeal.Gen
open Idealize.ShloMosaic
open Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Cert.Proof.Compact Cert.Proof.Lanes

variable {F : FTy → Type} [FloatOps F]

local notation "𝕄" => MT nD τ sig (HIx 1) (Elt F) ℕ UU ℕ

/-- The body of the loop that clears the query buffer. -/
abbrev zeroBody (L : grid0.Coords) (h1 : k0_cond1 L = 1#1) :=
  k0_t1_body (F := F) L (Memref.whole main_arg0_scv) (Memref.isWhole_whole _) (Memref.whole main_arg1_scv) (Memref.isWhole_whole _)
    (Memref.whole main_arg2_scv) (Memref.isWhole_whole _) (Memref.whole main_arg3_scv) (Memref.isWhole_whole _)
    (Memref.whole main_v0_scv) (Memref.isWhole_whole _) (Memref.whole main_v1_0_scv) (Memref.isWhole_whole _)
    (Memref.whole main_v1_1_scv) (Memref.isWhole_whole _) (Memref.whole main_v1_2_scv) (Memref.isWhole_whole _)
    bCand (Memref.isWhole_whole _) bCandq (Memref.isWhole_whole _) bTv (Memref.isWhole_whole _) bTs (Memref.isWhole_whole _)
    bWv (Memref.isWhole_whole _) bWg (Memref.isWhole_whole _) bWq (Memref.isWhole_whole _) bBoxall (Memref.isWhole_whole _)
    bBoxes (Memref.isWhole_whole _) cc0_scoped0 cc0_scoped1 cc0_scoped2 cc0_scoped3 cc0_scoped4 cc0_scoped5 cc0_scoped6 cc0_scoped7
    h1

/-- The body of the loop that gathers the boxes. -/
abbrev boxBody (L : grid0.Coords) (h1 : k0_cond1 L = 1#1) :=
  k0_t3_body (F := F) L (Memref.whole main_arg0_scv) (Memref.isWhole_whole _) (Memref.whole main_arg1_scv) (Memref.isWhole_whole _)
    (Memref.whole main_arg2_scv) (Memref.isWhole_whole _) (Memref.whole main_arg3_scv) (Memref.isWhole_whole _)
    (Memref.whole main_v0_scv) (Memref.isWhole_whole _) (Memref.whole main_v1_0_scv) (Memref.isWhole_whole _)
    (Memref.whole main_v1_1_scv) (Memref.isWhole_whole _) (Memref.whole main_v1_2_scv) (Memref.isWhole_whole _)
    bCand (Memref.isWhole_whole _) bCandq (Memref.isWhole_whole _) bTv (Memref.isWhole_whole _) bTs (Memref.isWhole_whole _)
    bWv (Memref.isWhole_whole _) bWg (Memref.isWhole_whole _) bWq (Memref.isWhole_whole _) bBoxall (Memref.isWhole_whole _)
    bBoxes (Memref.isWhole_whole _) cc0_scoped0 cc0_scoped1 cc0_scoped2 cc0_scoped3 cc0_scoped4 cc0_scoped5 cc0_scoped6 cc0_scoped7
    h1

/-- A return passes its value on. -/
theorem ret_bind' {E : Type → Type} {α β : Type} (a : α) (k : α → Prog E β) : (Prog.ret a).bind k = k a := rfl

section Blocks

/-- A store of sixteen elements at `off` of `bWq` puts lane `l` at `off + l`. -/
theorem store_wq_at (off : Fin 1 → ℕ) (inb : ∀ a, off a + S16.size a ≤ S384.size a) (f : Vec F S384 .i32) (v : Vec F S16 .i32)
    (j : Fin 384) (l : Fin 16) (h : j.val = off 0 + l.val) :
    ((bWq.access (Rect.unit (s := S384) off S16.size inb)).write (Elt F) f v Finset.univ : Vec F S384 .i32) (ix1 j) = v (ix1 l) := by
  have h' := View.write_emb_of_mem (Val := Elt F) (v := bWq.access (Rect.unit (s := S384) off S16.size inb)) f v
    (M := Finset.univ) (x := ix1 l) (Finset.mem_univ _)
  have he : (bWq.access (Rect.unit (s := S384) off S16.size inb)).emb (ix1 l) = ix1 j := by
    funext a
    rw [Fin.eq_zero a]
    apply Fin.ext
    show off 0 + 1 * l.val = j.val
    omega
  rw [he] at h'
  exact h'

/-- It leaves what lies before `off` as it was. -/
theorem store_wq_before (off : Fin 1 → ℕ) (inb : ∀ a, off a + S16.size a ≤ S384.size a) (f : Vec F S384 .i32) (v : Vec F S16 .i32)
    (j : Fin 384) (h : j.val < off 0) :
    ((bWq.access (Rect.unit (s := S384) off S16.size inb)).write (Elt F) f v Finset.univ : Vec F S384 .i32) (ix1 j) = f (ix1 j) := by
  refine View.write_of_not_mem _ _ _ fun hm => ?_
  obtain ⟨x, -, hx⟩ := Finset.mem_map.mp hm
  have h0 := congrArg (fun i : S384.Idx => (i 0).val) hx
  have h1 : off 0 + 1 * (x 0).val = j.val := h0
  omega

/-- A store of sixteen elements at `off` of `bBoxes` puts lane `l` at `off + l`. -/
theorem store_boxes_at (off : Fin 1 → ℕ) (inb : ∀ a, off a + S16.size a ≤ S1536.size a) (f : Vec F S1536 .f32) (v : Vec F S16 .f32)
    (j : Fin 1536) (l : Fin 16) (h : j.val = off 0 + l.val) :
    ((bBoxes.access (Rect.unit (s := S1536) off S16.size inb)).write (Elt F) f v Finset.univ : Vec F S1536 .f32) (ix1 j) = v (ix1 l) := by
  have h' := View.write_emb_of_mem (Val := Elt F) (v := bBoxes.access (Rect.unit (s := S1536) off S16.size inb)) f v
    (M := Finset.univ) (x := ix1 l) (Finset.mem_univ _)
  have he : (bBoxes.access (Rect.unit (s := S1536) off S16.size inb)).emb (ix1 l) = ix1 j := by
    funext a
    rw [Fin.eq_zero a]
    apply Fin.ext
    show off 0 + 1 * l.val = j.val
    omega
  rw [he] at h'
  exact h'

/-- It leaves what lies before `off` as it was. -/
theorem store_boxes_before (off : Fin 1 → ℕ) (inb : ∀ a, off a + S16.size a ≤ S1536.size a) (f : Vec F S1536 .f32) (v : Vec F S16 .f32)
    (j : Fin 1536) (h : j.val < off 0) :
    ((bBoxes.access (Rect.unit (s := S1536) off S16.size inb)).write (Elt F) f v Finset.univ : Vec F S1536 .f32) (ix1 j) = f (ix1 j) := by
  refine View.write_of_not_mem _ _ _ fun hm => ?_
  obtain ⟨x, -, hx⟩ := Finset.mem_map.mp hm
  have h0 := congrArg (fun i : S1536.Idx => (i 0).val) hx
  have h1 : off 0 + 1 * (x 0).val = j.val := h0
  omega

end Blocks

section Loops

variable (d : Dev nD) (L : grid0.Coords) (h1 : k0_cond1 L = 1#1)

/-- One trip of the clearing loop. -/
theorem zero_trip (k : Fin k0_t1_loop.trips) (acc : Unit) (fq : Vec F S384 .i32) (hz : ∀ j : Fin 384, j.val < 16 * k.val → fq (ix1 j) = 0#32) :
    (bWq.view.loc (th d L) ↦{fullShare} fq : sProp 𝕄)
      ⊢ wp frame (wpE (defs₀ (F := F)) 𝒱₀ (th d L) none) Set.univ (zeroBody L h1 k acc)
          fun _ => iprop(∃ fq' : Vec F S384 .i32, (bWq.view.loc (th d L) ↦{fullShare} fq')
            ∗ ⌜∀ j : Fin 384, j.val < 16 * (k.val + 1) → fq' (ix1 j) = 0#32⌝) := by
  iintro Hq
  sl_unfold [zeroBody, k0_t1_body]
  iapply (wp_load 𝒱₀ (th d L) none Set.univ (m := bWq) (S := Finset.univ) (Finset.subset_univ _)) $$ Hq; iintro Hq
  iapply (wp_store 𝒱₀ (th d L) none Set.univ (m := bWq) (r := Rect.unit (s := S384) (k0_off5 k) S16.size (k0_off5_inb L k h1))
    (Mk := Finset.univ) (S := Finset.univ) (Finset.subset_univ _)) $$ Hq; iintro Hq
  simp only [ret_bind']
  sl_step
  iexists _
  isplitl [Hq]; · iexact Hq
  ipureintro
  intro j hj
  have hoff : k0_off5 k 0 = 16 * k.val := by rw [k0_off5_eq]; rfl
  by_cases h : j.val < 16 * k.val
  · exact (store_wq_before _ _ _ _ j (by omega)).trans (hz j h)
  · exact store_wq_at _ _ _ _ j ⟨j.val - 16 * k.val, by omega⟩ (by show _ = _ + (j.val - 16 * k.val); omega)

/-- Element `e` of the gathered boxes: coordinate `e % 4` of the box of the query at place `e / 4`. -/
def boxAt (boxall : Vec F S80000 .f32) (fq : Vec F S384 .i32) (e : ℕ) : F .f32 :=
  boxall (ix1 (Fin.ofNat 80000 ((fq (ix1 (Fin.ofNat 384 (e / 4)))).toNat * 4 + e % 4)))

/-- The element numbers of trip `k` of the gathering loop. -/
theorem elt_word (k : Fin k0_t3_loop.trips) (l : Fin 16) : k0_pay56 k (ix1 l) = BitVec.ofNat 32 (16 * k.val + l.val) := by
  have h : (Scf.iv 0#32 1#32 k : BitVec 32) = BitVec.ofNat 32 k.val := by
    unfold Scf.iv
    simp
  show (Scf.iv 0#32 1#32 k : BitVec 32) * 16#32 + lanes (ix1 l) = _
  rw [h, lanes_apply, BitVec.ofNat_add, Nat.mul_comm, BitVec.ofNat_mul]

/-- Their places. -/
theorem place_word (k : Fin k0_t3_loop.trips) (l : Fin 16) : (k0_pay57 k (ix1 l)).toNat = (16 * k.val + l.val) / 4 := by
  have hk : k.val < 96 := k.isLt.trans_le k0_t3_abs.2.1
  show (IntOp.shrsi .vector (k0_pay56 k (ix1 l)) 2#32).toNat = _
  rw [elt_word]
  have hs : 2 * (BitVec.ofNat 32 (16 * k.val + l.val)).toNat < 2 ^ 32 := by rw [BitVec.toNat_ofNat]; omega
  show ((BitVec.ofNat 32 (16 * k.val + l.val)).sshiftRight 2).toNat = _
  rw [BitVec.sshiftRight_eq_of_msb_false (BitVec.msb_eq_false_iff_two_mul_lt.mpr hs), BitVec.toNat_ushiftRight, BitVec.toNat_ofNat,
    Nat.shiftRight_eq_div_pow]
  omega

/-- Their places in the boxes, the queries being `q`. -/
theorem box_word (k : Fin k0_t3_loop.trips) (q : IVec S16 32) (l : Fin 16) (hq : (q (ix1 l)).toNat < 20000) :
    (k0_pay58 (F := F) k q (ix1 l)).toNat = (q (ix1 l)).toNat * 4 + (16 * k.val + l.val) % 4 := by
  have hk : k.val < 96 := k.isLt.trans_le k0_t3_abs.2.1
  show (q (ix1 l) * 4#32 + (k0_pay56 k (ix1 l) &&& 3#32)).toNat = _
  rw [elt_word, BitVec.toNat_add, BitVec.toNat_mul, BitVec.toNat_and, BitVec.toNat_ofNat]
  have h3 : ∀ x : ℕ, x &&& 3 = x % 4 := fun x => Nat.and_two_pow_sub_one_eq_mod x 2
  show ((q (ix1 l)).toNat * 4 % 2 ^ 32 + ((16 * k.val + l.val) % 2 ^ 32 &&& 3)) % 2 ^ 32 = _
  rw [h3]
  omega

/-- One trip of the gathering loop. -/
theorem box_trip (boxall : Vec F S80000 .f32) (fq : Vec F S384 .i32) (hlt : ∀ j, (fq j).toNat < 20000)
    (k : Fin k0_t3_loop.trips) (acc : Unit) (fb : Vec F S1536 .f32)
    (hb : ∀ e : Fin 1536, e.val < 16 * k.val → fb (ix1 e) = boxAt boxall fq e.val) :
    iprop((bWq.view.loc (th d L) ↦{fullShare} fq) ∗ (bBoxall.view.loc (th d L) ↦{fullShare} boxall)
        ∗ (bBoxes.view.loc (th d L) ↦{fullShare} fb) : sProp 𝕄)
      ⊢ wp frame (wpE (defs₀ (F := F)) 𝒱₀ (th d L) none) Set.univ (boxBody L h1 k acc)
          fun _ => iprop((bWq.view.loc (th d L) ↦{fullShare} fq) ∗ (bBoxall.view.loc (th d L) ↦{fullShare} boxall)
            ∗ ∃ fb' : Vec F S1536 .f32, (bBoxes.view.loc (th d L) ↦{fullShare} fb')
              ∗ ⌜∀ e : Fin 1536, e.val < 16 * (k.val + 1) → fb' (ix1 e) = boxAt boxall fq e.val⌝) := by
  have hk : k.val < 96 := k.isLt.trans_le k0_t3_abs.2.1
  have hp : ∀ a x, ((![k0_pay57 k] : Fin 1 → IVec S16 32) a x).toNat < S384.size a := fun a x => by
    obtain ⟨l, rfl⟩ : ∃ l : Fin 16, x = ix1 l := ⟨x 0, eq_ix1 x⟩
    rw [Fin.eq_zero a]
    have h : (k0_pay57 k (ix1 l)).toNat < 384 := by rw [place_word]; omega
    exact h
  have hq : ∀ l : Fin 16, loadIdx (F := F) (e := .i32) fq ![k0_pay57 k] hp (ix1 l) = fq (ix1 (Fin.ofNat 384 ((16 * k.val + l.val) / 4))) := fun l => by
    show fq _ = fq _
    refine congrArg fq (funext fun a => Fin.ext ?_)
    rw [Fin.eq_zero a]
    show (k0_pay57 k (ix1 l)).toNat = (16 * k.val + l.val) / 4 % 384
    rw [place_word]
    omega
  have hlane : ∀ l : Fin 16, (k0_pay58 (F := F) k (loadIdx (F := F) (e := .i32) fq ![k0_pay57 k] hp) (ix1 l)).toNat
      = (fq (ix1 (Fin.ofNat 384 ((16 * k.val + l.val) / 4)))).toNat * 4 + (16 * k.val + l.val) % 4 := fun l => by
    rw [box_word _ _ _ (by rw [hq]; exact hlt _), hq]
  have hp' : ∀ a x, ((![k0_pay58 (F := F) k (loadIdx (F := F) (e := .i32) fq ![k0_pay57 k] hp)] : Fin 1 → IVec S16 32) a x).toNat < S80000.size a :=
      fun a x => by
    obtain ⟨l, rfl⟩ : ∃ l : Fin 16, x = ix1 l := ⟨x 0, eq_ix1 x⟩
    rw [Fin.eq_zero a]
    have h : (k0_pay58 (F := F) k (loadIdx (F := F) (e := .i32) fq ![k0_pay57 k] hp) (ix1 l)).toNat < 80000 := by
      rw [hlane]
      have := hlt (ix1 (Fin.ofNat 384 ((16 * k.val + l.val) / 4)))
      omega
    exact h
  have hv : ∀ l : Fin 16, loadIdx (F := F) (e := .f32) boxall ![k0_pay58 (F := F) k (loadIdx (F := F) (e := .i32) fq ![k0_pay57 k] hp)] hp' (ix1 l)
      = boxAt boxall fq (16 * k.val + l.val) := fun l => by
    show boxall _ = boxall _
    refine congrArg boxall (funext fun a => Fin.ext ?_)
    rw [Fin.eq_zero a]
    show (k0_pay58 (F := F) k (loadIdx (F := F) (e := .i32) fq ![k0_pay57 k] hp) (ix1 l)).toNat
      = ((fq (ix1 (Fin.ofNat 384 ((16 * k.val + l.val) / 4)))).toNat * 4 + (16 * k.val + l.val) % 4) % 80000
    rw [hlane]
    have := hlt (ix1 (Fin.ofNat 384 ((16 * k.val + l.val) / 4)))
    omega
  iintro ⟨Hq, Ha, Hb⟩
  sl_unfold [boxBody, k0_t3_body]
  iapply (wp_assume 𝒱₀ (th d L) none Set.univ (show k0_chk7 L (k0_pay57 k) from fun _ => hp))
  iapply (gather_wq d L (h := hp) (hl := View.loads_vmem h_S384)) $$ Hq; iintro Hq
  iapply (wp_assume 𝒱₀ (th d L) none Set.univ (show k0_chk8 L (k0_pay58 (F := F) k (loadIdx (F := F) (e := .i32) fq ![k0_pay57 k] hp)) from fun _ => hp'))
  iapply (gather_boxall d L (h := hp') (hl := View.loads_vmem h_S80000)) $$ Ha; iintro Ha
  iapply (wp_load 𝒱₀ (th d L) none Set.univ (m := bBoxes) (S := Finset.univ) (Finset.subset_univ _)) $$ Hb; iintro Hb
  iapply (wp_store 𝒱₀ (th d L) none Set.univ (m := bBoxes) (r := Rect.unit (s := S1536) (k0_off11 k) S16.size (k0_off11_inb L k h1))
    (Mk := Finset.univ) (S := Finset.univ) (Finset.subset_univ _)) $$ Hb; iintro Hb
  simp only [ret_bind']
  sl_step
  isplitl [Hq]; · iexact Hq
  isplitl [Ha]; · iexact Ha
  iexists _
  isplitl [Hb]; · iexact Hb
  ipureintro
  intro e he
  have hoff : k0_off11 k 0 = 16 * k.val := by rw [k0_off11_eq]; rfl
  by_cases h : e.val < 16 * k.val
  · exact (store_boxes_before _ _ _ _ e (by omega)).trans (hb e h)
  · refine (store_boxes_at _ _ _ _ e ⟨e.val - 16 * k.val, by omega⟩ (by show _ = _ + (e.val - 16 * k.val); omega)).trans ((hv _).trans ?_)
    congr 1
    show 16 * k.val + (e.val - 16 * k.val) = e.val
    omega

end Loops

end Cert.Proof.Stage4
end
-- ==== Proof.Work.lean ====
module

public import proofs.«01_k».proof.Proof.Loops

@[expose] public section

noncomputable section

namespace Cert.Proof.Stage4

open Cert.KernelIdeal Cert.KernelIdeal.Gen
open Idealize.ShloMosaic
open Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Cert.Proof.Compact Cert.Proof.Lanes

variable {F : FTy → Type} [FloatOps F]

local notation "𝕄" => MT nD τ sig (HIx 1) (Elt F) ℕ UU ℕ

theorem t1_trips : k0_t1_loop.trips = 24 := by decide
theorem t2_trips : k0_t2_loop.trips = 300 := by decide
theorem t3_trips : k0_t3_loop.trips = 96 := by decide

/-- What a tile does between its copies in and its copies out: it reads the thresholds, clears the query buffer, packs the
selected candidates of the 300 rows, and gathers their boxes. -/
def work (L : grid0.Coords) (h1 : k0_cond1 L = 1#1) :
    Prog (TpuEff nD τ sig (Elt F) Λ₀ (.scVector ((L 0).castLE hcore0) ((L 1).castLE hsub0))) PUnit := do
  let tv : Vec F S1x16 .f32 ← Prog.lift (.load bTv (Rect.unit (s := S1x16) ![0, 0] S1x16.size inb_S1x16_S1x16_0_0).toLoadRect (View.loadsAt_vmem h_S1x16))
  let ts : Vec F S1x16 .i32 ← Prog.lift (.load bTs (Rect.unit (s := S1x16) ![0, 0] S1x16.size inb_S1x16_S1x16_0_0).toLoadRect (View.loadsAt_vmem h_S1x16))
  Scf.Loop.for k0_t1_loop (k0_t1_ok L h1) ⟨⟩ (zeroBody L h1)
  let _ ← Scf.Loop.for k0_t2_loop (k0_t2_ok L h1) 0#32 (rowBody L h1 tv ts lanes)
  Scf.Loop.for k0_t3_loop (k0_t3_ok L h1) ⟨⟩ (boxBody L h1)
  pure ⟨⟩

variable (d : Dev nD) (L : grid0.Coords) (h1 : k0_cond1 L = 1#1)
  (cand : (⟨2, ![384, 80]⟩ : Shape).Idx → F .f32) (candq : (⟨1, ![384]⟩ : Shape).Idx → BitVec 32)
  (tv : (⟨2, ![1, 16]⟩ : Shape).Idx → F .f32) (ts : (⟨2, ![1, 16]⟩ : Shape).Idx → BitVec 32)

theorem read_tv (f : Vec F S1x16 .f32) :
    bTv.view.readAt (Elt F) (Rect.unit (s := S1x16) ![0, 0] S1x16.size inb_S1x16_S1x16_0_0).toLoadRect f = f := by
  exact Memref.readAt_unit_zero (Elt F) cc0_scratch2 (off := ![0, 0]) (by funext a; match a with | 0 => rfl | 1 => rfl) _ f

theorem read_ts (f : Vec F S1x16 .i32) :
    bTs.view.readAt (Elt F) (Rect.unit (s := S1x16) ![0, 0] S1x16.size inb_S1x16_S1x16_0_0).toLoadRect f = f := by
  exact Memref.readAt_unit_zero (Elt F) cc0_scratch3 (off := ![0, 0]) (by funext a; match a with | 0 => rfl | 1 => rfl) _ f

/-- What the work leaves: the input buffers as they were, the packed candidates, and the boxes of their queries. -/
theorem work_spec (hF : Fits cand candq tv ts) (boxall : Vec F S80000 .f32) (fv : Vec F S384 .f32) (fg fq : Vec F S384 .i32)
    (fb : Vec F S1536 .f32) :
    iprop((bCand.view.loc (th d L) ↦{fullShare} (cand : Vec F S384x80 .f32)) ∗ (bCandq.view.loc (th d L) ↦{fullShare} (candq : Vec F S384 .i32))
        ∗ (bTv.view.loc (th d L) ↦{fullShare} (tv : Vec F S1x16 .f32)) ∗ (bTs.view.loc (th d L) ↦{fullShare} (ts : Vec F S1x16 .i32))
        ∗ (bWv.view.loc (th d L) ↦{fullShare} fv) ∗ (bWg.view.loc (th d L) ↦{fullShare} fg) ∗ (bWq.view.loc (th d L) ↦{fullShare} fq)
        ∗ (bBoxall.view.loc (th d L) ↦{fullShare} boxall) ∗ (bBoxes.view.loc (th d L) ↦{fullShare} fb) : sProp 𝕄)
      ⊢ wp frame (wpE (defs₀ (F := F)) 𝒱₀ (th d L) none) Set.univ (work L h1)
          fun _ => iprop((bCand.view.loc (th d L) ↦{fullShare} (cand : Vec F S384x80 .f32)) ∗ (bCandq.view.loc (th d L) ↦{fullShare} (candq : Vec F S384 .i32))
            ∗ (bTv.view.loc (th d L) ↦{fullShare} (tv : Vec F S1x16 .f32)) ∗ (bTs.view.loc (th d L) ↦{fullShare} (ts : Vec F S1x16 .i32))
            ∗ (bBoxall.view.loc (th d L) ↦{fullShare} boxall)
            ∗ ∃ fv' : Vec F S384 .f32, ∃ fg' : Vec F S384 .i32, ∃ fq' : Vec F S384 .i32, ∃ fb' : Vec F S1536 .f32,
              (bWv.view.loc (th d L) ↦{fullShare} fv') ∗ (bWg.view.loc (th d L) ↦{fullShare} fg') ∗ (bWq.view.loc (th d L) ↦{fullShare} fq')
              ∗ (bBoxes.view.loc (th d L) ↦{fullShare} fb')
              ∗ ⌜(∃ acc, St cand candq tv ts 24000 acc fv' fg' fq') ∧ ∀ e : Fin 1536, fb' (ix1 e) = boxAt boxall fq' e.val⌝) := by
  iintro ⟨Hc, Hcq, Htv, Hts, Hv, Hg, Hq, Ha, Hb⟩
  sl_unfold [work]
  iapply (wp_load 𝒱₀ (th d L) none Set.univ (m := bTv) (S := Finset.univ) (Finset.subset_univ _)) $$ Htv; iintro Htv
  iapply (wp_load 𝒱₀ (th d L) none Set.univ (m := bTs) (S := Finset.univ) (Finset.subset_univ _)) $$ Hts; iintro Hts
  rw [read_tv, read_ts]
  iapply (Scf.wp_for_bind frame (wpE (defs₀ (F := F)) 𝒱₀ (th d L) none) Set.univ _ _ _ (k0_t1_ok L h1) ⟨⟩ (zeroBody L h1)
    (fun n _ => iprop(∃ fq' : Vec F S384 .i32, (bWq.view.loc (th d L) ↦{fullShare} fq')
            ∗ ⌜∀ j : Fin 384, j.val < 16 * n → fq' (ix1 j) = 0#32⌝)) (fun k acc => by
      iintro ⟨%fq', Hq, %hz⟩
      iapply (zero_trip d L h1 k acc fq' hz) $$ Hq)) $$ [Hq]
  · iexists fq
    isplitl [Hq]; · iexact Hq
    ipureintro
    intro j hj
    omega
  iintro %acc ⟨%fq1, Hq, %hz⟩
  have hz' : ∀ j, (fq1 j).toNat < 20000 := fun j => by
    obtain ⟨k, rfl⟩ : ∃ k : Fin 384, j = ix1 k := ⟨j 0, eq_ix1 j⟩
    rw [hz k (by
      have h3 : Scf.trips k0_t1_loop.lb k0_t1_loop.ub k0_t1_loop.st = 24 := t1_trips
      omega)]
    decide
  iapply (Scf.wp_for_bind frame (wpE (defs₀ (F := F)) 𝒱₀ (th d L) none) Set.univ _ _ _ (k0_t2_ok L h1) 0#32 (rowBody L h1 tv ts lanes)
    (fun n acc => iprop((bCand.view.loc (th d L) ↦{fullShare} (cand : Vec F S384x80 .f32))
            ∗ (bCandq.view.loc (th d L) ↦{fullShare} (candq : Vec F S384 .i32))
            ∗ ∃ fv' fg' fq', (bWv.view.loc (th d L) ↦{fullShare} fv') ∗ (bWg.view.loc (th d L) ↦{fullShare} fg')
              ∗ (bWq.view.loc (th d L) ↦{fullShare} fq') ∗ ⌜St cand candq tv ts (80 * n) acc fv' fg' fq'⌝)) (fun k acc => by
      iintro ⟨Hc, Hcq, %fv', %fg', %fq', Hv, Hg, Hq, %hS⟩
      iapply (row_trip d L h1 cand candq tv ts hF k acc fv' fg' fq' hS) $$ [Hc Hcq Hv Hg Hq]
      isplitl [Hc]; · iexact Hc
      isplitl [Hcq]; · iexact Hcq
      isplitl [Hv]; · iexact Hv
      isplitl [Hg]; · iexact Hg
      iexact Hq)) $$ [Hc Hcq Hv Hg Hq]
  · isplitl [Hc]; · iexact Hc
    isplitl [Hcq]; · iexact Hcq
    iexists fv, fg, fq1
    isplitl [Hv]; · iexact Hv
    isplitl [Hg]; · iexact Hg
    isplitl [Hq]; · iexact Hq
    ipureintro
    exact St.nil fv fg fq1 hz'
  iintro %acc2 ⟨Hc, Hcq, %fv2, %fg2, %fq2, Hv, Hg, Hq, %hS⟩
  have hS' : St cand candq tv ts 24000 acc2 fv2 fg2 fq2 := by
    have h := hS
    have e : 80 * Scf.trips k0_t2_loop.lb k0_t2_loop.ub k0_t2_loop.st = 24000 := by have := t2_trips; exact congrArg (80 * ·) this
    rw [e] at h
    exact h
  iapply (Scf.wp_for_bind frame (wpE (defs₀ (F := F)) 𝒱₀ (th d L) none) Set.univ _ _ _ (k0_t3_ok L h1) ⟨⟩ (boxBody L h1)
    (fun n _ => iprop((bWq.view.loc (th d L) ↦{fullShare} fq2) ∗ (bBoxall.view.loc (th d L) ↦{fullShare} boxall)
            ∗ ∃ fb' : Vec F S1536 .f32, (bBoxes.view.loc (th d L) ↦{fullShare} fb')
              ∗ ⌜∀ e : Fin 1536, e.val < 16 * n → fb' (ix1 e) = boxAt boxall fq2 e.val⌝)) (fun k acc => by
      iintro ⟨Hq, Ha, %fb', Hb, %hb⟩
      iapply (box_trip d L h1 boxall fq2 hS'.lt k acc fb' hb) $$ [Hq Ha Hb]
      isplitl [Hq]; · iexact Hq
      isplitl [Ha]; · iexact Ha
      iexact Hb)) $$ [Hq Ha Hb]
  · isplitl [Hq]; · iexact Hq
    isplitl [Ha]; · iexact Ha
    iexists fb
    isplitl [Hb]; · iexact Hb
    ipureintro
    intro e he
    omega
  iintro %acc3 ⟨Hq, Ha, %fb', Hb, %hb⟩
  sl_step
  isplitl [Hc]; · iexact Hc
  isplitl [Hcq]; · iexact Hcq
  isplitl [Htv]; · iexact Htv
  isplitl [Hts]; · iexact Hts
  isplitl [Ha]; · iexact Ha
  iexists fv2, fg2, fq2, fb'
  isplitl [Hv]; · iexact Hv
  isplitl [Hg]; · iexact Hg
  isplitl [Hq]; · iexact Hq
  isplitl [Hb]; · iexact Hb
  ipureintro
  exact ⟨⟨acc2, hS'⟩, fun e => hb e (by have := t3_trips; have h3 : Scf.trips k0_t3_loop.lb k0_t3_loop.ub k0_t3_loop.st = 96 := this; omega)⟩

end Cert.Proof.Stage4
end
-- ==== Proof.Rows.lean ====
module

public import proofs.«01_k».proof.Proof.Work

@[expose] public section

noncomputable section

namespace Cert.Proof.Stage4

open Cert.KernelIdeal Cert.KernelIdeal.Gen
open Idealize.ShloMosaic
open Idealize.ShloMosaic.ValueIdx
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic
open Cert.Proof.Compact Cert.Proof.Lanes

variable {F : FTy → Type} [FloatOps F]

local notation "𝕄" => MT nD τ sig (HIx 1) (Elt F) ℕ UU ℕ

/-! ## A tile's part of an array

Tile `(c, s)` works on row `2 s + c` of every array, if there is such a row. -/

/-- Row `n` of an array: the elements whose first coordinate is `n`. -/
def rowOf (s : Shape) (h : 0 < s.rank) (n : ℕ) : Finset s.Idx := Finset.univ.filter fun i => (i ⟨0, h⟩).val = n

/-- The row a grid position works on. -/
abbrev rowNo (L : grid0.Coords) : ℕ := 2 * (L 1).val + (L 0).val

section Rows

variable (d : Dev nD) (L : grid0.Coords) (h1 : k0_cond1 L = 1#1)

/-- The tile's row of `cand`, as the body names it. -/
abbrev candRow (L : grid0.Coords) (h1 : k0_cond1 L = 1#1) : Memref sig .scVector .hbm S384x80 .f32 :=
  ((Memref.whole main_arg0_scv : Memref sig .scVector .hbm S16x384x80 .f32).slice (Rect.unit (s := S16x384x80) (k0_off1 L) S1x384x80.size (k0_off1_inb L h1)) (fun _ => rfl)).squeeze S384x80 squeezes_S1x384x80_S384x80

theorem set_candRow : (candRow L h1).view.set = rowOf S16x384x80 (by decide) (rowNo L) := by
  show (((View.whole main_arg0_scv).slice (Rect.unit (s := S16x384x80) (k0_off1 L) S1x384x80.size (k0_off1_inb L h1))).reshape S384x80 squeezes_S1x384x80_S384x80.numel_eq).set = _
  rw [View.set_reshape]
  ext i
  rw [View.set_slice_whole]
  refine Rect.mem_set_unit.trans ?_
  refine Iff.trans ?_ (Finset.mem_filter.trans (and_iff_right (Finset.mem_univ i))).symm
  constructor
  · intro h
    have h0 := h 0
    have h0' : k0_off1 L 0 ≤ (i 0).val ∧ (i 0).val < k0_off1 L 0 + 1 := h0
    have e0 : k0_off1 L 0 = rowNo L := congrFun (k0_off1_eq L) 0
    show (i 0).val = rowNo L
    omega
  · intro h a
    have h' : (i 0).val = rowNo L := h
    match a with
    | 0 =>
      have e0 : k0_off1 L 0 = rowNo L := congrFun (k0_off1_eq L) 0
      show k0_off1 L 0 ≤ (i 0).val ∧ (i 0).val < k0_off1 L 0 + 1
      omega
    | 1 =>
      have e0 : k0_off1 L 1 = 0 := congrFun (k0_off1_eq L) 1
      have hl : (i 1).val < 384 := (i 1).isLt
      show k0_off1 L 1 ≤ (i 1).val ∧ (i 1).val < k0_off1 L 1 + 384
      omega
    | 2 =>
      have e0 : k0_off1 L 2 = 0 := congrFun (k0_off1_eq L) 2
      have hl : (i 2).val < 80 := (i 2).isLt
      show k0_off1 L 2 ≤ (i 2).val ∧ (i 2).val < k0_off1 L 2 + 80
      omega

theorem pts_candRow (f : Buf (Elt F) (candLoc d)) :
    ((candRow L h1).view.loc (th d L) ↦[(candRow L h1).view.set]{fullShare} f : sProp 𝕄) = candLoc d ↦[rowOf S16x384x80 (by decide) (rowNo L)]{fullShare} f := by
  rw [set_candRow]

/-- The tile's row of `candq`, as the body names it. -/
abbrev candqRow (L : grid0.Coords) (h1 : k0_cond1 L = 1#1) : Memref sig .scVector .hbm S384 .i32 :=
  ((Memref.whole main_arg1_scv : Memref sig .scVector .hbm S16x384 .i32).slice (Rect.unit (s := S16x384) (k0_off2 L) S1x384.size (k0_off2_inb L h1)) (fun _ => rfl)).squeeze S384 squeezes_S1x384_S384

theorem set_candqRow : (candqRow L h1).view.set = rowOf S16x384 (by decide) (rowNo L) := by
  show (((View.whole main_arg1_scv).slice (Rect.unit (s := S16x384) (k0_off2 L) S1x384.size (k0_off2_inb L h1))).reshape S384 squeezes_S1x384_S384.numel_eq).set = _
  rw [View.set_reshape]
  ext i
  rw [View.set_slice_whole]
  refine Rect.mem_set_unit.trans ?_
  refine Iff.trans ?_ (Finset.mem_filter.trans (and_iff_right (Finset.mem_univ i))).symm
  constructor
  · intro h
    have h0 := h 0
    have h0' : k0_off2 L 0 ≤ (i 0).val ∧ (i 0).val < k0_off2 L 0 + 1 := h0
    have e0 : k0_off2 L 0 = rowNo L := congrFun (k0_off2_eq L) 0
    show (i 0).val = rowNo L
    omega
  · intro h a
    have h' : (i 0).val = rowNo L := h
    match a with
    | 0 =>
      have e0 : k0_off2 L 0 = rowNo L := congrFun (k0_off2_eq L) 0
      show k0_off2 L 0 ≤ (i 0).val ∧ (i 0).val < k0_off2 L 0 + 1
      omega
    | 1 =>
      have e0 : k0_off2 L 1 = 0 := congrFun (k0_off2_eq L) 1
      have hl : (i 1).val < 384 := (i 1).isLt
      show k0_off2 L 1 ≤ (i 1).val ∧ (i 1).val < k0_off2 L 1 + 384
      omega

theorem pts_candqRow (f : Buf (Elt F) (candqLoc d)) :
    ((candqRow L h1).view.loc (th d L) ↦[(candqRow L h1).view.set]{fullShare} f : sProp 𝕄) = candqLoc d ↦[rowOf S16x384 (by decide) (rowNo L)]{fullShare} f := by
  rw [set_candqRow]

/-- The tile's row of `tv`, as the body names it. -/
abbrev tvRow (L : grid0.Coords) (h1 : k0_cond1 L = 1#1) : Memref sig .scVector .hbm S1x16 .f32 :=
  ((Memref.whole main_arg2_scv : Memref sig .scVector .hbm S16x1x16 .f32).slice (Rect.unit (s := S16x1x16) (k0_off3 L) S1x1x16.size (k0_off3_inb L h1)) (fun _ => rfl)).squeeze S1x16 squeezes_S1x1x16_S1x16

theorem set_tvRow : (tvRow L h1).view.set = rowOf S16x1x16 (by decide) (rowNo L) := by
  show (((View.whole main_arg2_scv).slice (Rect.unit (s := S16x1x16) (k0_off3 L) S1x1x16.size (k0_off3_inb L h1))).reshape S1x16 squeezes_S1x1x16_S1x16.numel_eq).set = _
  rw [View.set_reshape]
  ext i
  rw [View.set_slice_whole]
  refine Rect.mem_set_unit.trans ?_
  refine Iff.trans ?_ (Finset.mem_filter.trans (and_iff_right (Finset.mem_univ i))).symm
  constructor
  · intro h
    have h0 := h 0
    have h0' : k0_off3 L 0 ≤ (i 0).val ∧ (i 0).val < k0_off3 L 0 + 1 := h0
    have e0 : k0_off3 L 0 = rowNo L := congrFun (k0_off3_eq L) 0
    show (i 0).val = rowNo L
    omega
  · intro h a
    have h' : (i 0).val = rowNo L := h
    match a with
    | 0 =>
      have e0 : k0_off3 L 0 = rowNo L := congrFun (k0_off3_eq L) 0
      show k0_off3 L 0 ≤ (i 0).val ∧ (i 0).val < k0_off3 L 0 + 1
      omega
    | 1 =>
      have e0 : k0_off3 L 1 = 0 := congrFun (k0_off3_eq L) 1
      have hl : (i 1).val < 1 := (i 1).isLt
      show k0_off3 L 1 ≤ (i 1).val ∧ (i 1).val < k0_off3 L 1 + 1
      omega
    | 2 =>
      have e0 : k0_off3 L 2 = 0 := congrFun (k0_off3_eq L) 2
      have hl : (i 2).val < 16 := (i 2).isLt
      show k0_off3 L 2 ≤ (i 2).val ∧ (i 2).val < k0_off3 L 2 + 16
      omega

theorem pts_tvRow (f : Buf (Elt F) (tvLoc d)) :
    ((tvRow L h1).view.loc (th d L) ↦[(tvRow L h1).view.set]{fullShare} f : sProp 𝕄) = tvLoc d ↦[rowOf S16x1x16 (by decide) (rowNo L)]{fullShare} f := by
  rw [set_tvRow]

/-- The tile's row of `ts`, as the body names it. -/
abbrev tsRow (L : grid0.Coords) (h1 : k0_cond1 L = 1#1) : Memref sig .scVector .hbm S1x16 .i32 :=
  ((Memref.whole main_arg3_scv : Memref sig .scVector .hbm S16x1x16 .i32).slice (Rect.unit (s := S16x1x16) (k0_off3 L) S1x1x16.size (k0_off3_inb L h1)) (fun _ => rfl)).squeeze S1x16 squeezes_S1x1x16_S1x16

theorem set_tsRow : (tsRow L h1).view.set = rowOf S16x1x16 (by decide) (rowNo L) := by
  show (((View.whole main_arg3_scv).slice (Rect.unit (s := S16x1x16) (k0_off3 L) S1x1x16.size (k0_off3_inb L h1))).reshape S1x16 squeezes_S1x1x16_S1x16.numel_eq).set = _
  rw [View.set_reshape]
  ext i
  rw [View.set_slice_whole]
  refine Rect.mem_set_unit.trans ?_
  refine Iff.trans ?_ (Finset.mem_filter.trans (and_iff_right (Finset.mem_univ i))).symm
  constructor
  · intro h
    have h0 := h 0
    have h0' : k0_off3 L 0 ≤ (i 0).val ∧ (i 0).val < k0_off3 L 0 + 1 := h0
    have e0 : k0_off3 L 0 = rowNo L := congrFun (k0_off3_eq L) 0
    show (i 0).val = rowNo L
    omega
  · intro h a
    have h' : (i 0).val = rowNo L := h
    match a with
    | 0 =>
      have e0 : k0_off3 L 0 = rowNo L := congrFun (k0_off3_eq L) 0
      show k0_off3 L 0 ≤ (i 0).val ∧ (i 0).val < k0_off3 L 0 + 1
      omega
    | 1 =>
      have e0 : k0_off3 L 1 = 0 := congrFun (k0_off3_eq L) 1
      have hl : (i 1).val < 1 := (i 1).isLt
      show k0_off3 L 1 ≤ (i 1).val ∧ (i 1).val < k0_off3 L 1 + 1
      omega
    | 2 =>
      have e0 : k0_off3 L 2 = 0 := congrFun (k0_off3_eq L) 2
      have hl : (i 2).val < 16 := (i 2).isLt
      show k0_off3 L 2 ≤ (i 2).val ∧ (i 2).val < k0_off3 L 2 + 16
      omega

theorem pts_tsRow (f : Buf (Elt F) (tsLoc d)) :
    ((tsRow L h1).view.loc (th d L) ↦[(tsRow L h1).view.set]{fullShare} f : sProp 𝕄) = tsLoc d ↦[rowOf S16x1x16 (by decide) (rowNo L)]{fullShare} f := by
  rw [set_tsRow]

/-- The tile's row of `box`, as the body names it. -/
abbrev boxRow (L : grid0.Coords) (h1 : k0_cond1 L = 1#1) : Memref sig .scVector .hbm S80000 .f32 :=
  ((Memref.whole main_v0_scv : Memref sig .scVector .hbm S16x80000 .f32).slice (Rect.unit (s := S16x80000) (k0_off4 L) S1x80000.size (k0_off4_inb L h1)) (fun _ => rfl)).squeeze S80000 squeezes_S1x80000_S80000

theorem set_boxRow : (boxRow L h1).view.set = rowOf S16x80000 (by decide) (rowNo L) := by
  show (((View.whole main_v0_scv).slice (Rect.unit (s := S16x80000) (k0_off4 L) S1x80000.size (k0_off4_inb L h1))).reshape S80000 squeezes_S1x80000_S80000.numel_eq).set = _
  rw [View.set_reshape]
  ext i
  rw [View.set_slice_whole]
  refine Rect.mem_set_unit.trans ?_
  refine Iff.trans ?_ (Finset.mem_filter.trans (and_iff_right (Finset.mem_univ i))).symm
  constructor
  · intro h
    have h0 := h 0
    have h0' : k0_off4 L 0 ≤ (i 0).val ∧ (i 0).val < k0_off4 L 0 + 1 := h0
    have e0 : k0_off4 L 0 = rowNo L := congrFun (k0_off4_eq L) 0
    show (i 0).val = rowNo L
    omega
  · intro h a
    have h' : (i 0).val = rowNo L := h
    match a with
    | 0 =>
      have e0 : k0_off4 L 0 = rowNo L := congrFun (k0_off4_eq L) 0
      show k0_off4 L 0 ≤ (i 0).val ∧ (i 0).val < k0_off4 L 0 + 1
      omega
    | 1 =>
      have e0 : k0_off4 L 1 = 0 := congrFun (k0_off4_eq L) 1
      have hl : (i 1).val < 80000 := (i 1).isLt
      show k0_off4 L 1 ≤ (i 1).val ∧ (i 1).val < k0_off4 L 1 + 80000
      omega

theorem pts_boxRow (f : Buf (Elt F) (boxLoc d)) :
    ((boxRow L h1).view.loc (th d L) ↦[(boxRow L h1).view.set]{fullShare} f : sProp 𝕄) = boxLoc d ↦[rowOf S16x80000 (by decide) (rowNo L)]{fullShare} f := by
  rw [set_boxRow]

/-- The tile's row of `wv`, as the body names it. -/
abbrev wvRow (L : grid0.Coords) (h1 : k0_cond1 L = 1#1) : Memref sig .scVector .hbm S384 .f32 :=
  ((Memref.whole main_v1_0_scv : Memref sig .scVector .hbm S16x384 .f32).slice (Rect.unit (s := S16x384) (k0_off2 L) S1x384.size (k0_off2_inb L h1)) (fun _ => rfl)).squeeze S384 squeezes_S1x384_S384

theorem set_wvRow : (wvRow L h1).view.set = rowOf S16x384 (by decide) (rowNo L) := by
  show (((View.whole main_v1_0_scv).slice (Rect.unit (s := S16x384) (k0_off2 L) S1x384.size (k0_off2_inb L h1))).reshape S384 squeezes_S1x384_S384.numel_eq).set = _
  rw [View.set_reshape]
  ext i
  rw [View.set_slice_whole]
  refine Rect.mem_set_unit.trans ?_
  refine Iff.trans ?_ (Finset.mem_filter.trans (and_iff_right (Finset.mem_univ i))).symm
  constructor
  · intro h
    have h0 := h 0
    have h0' : k0_off2 L 0 ≤ (i 0).val ∧ (i 0).val < k0_off2 L 0 + 1 := h0
    have e0 : k0_off2 L 0 = rowNo L := congrFun (k0_off2_eq L) 0
    show (i 0).val = rowNo L
    omega
  · intro h a
    have h' : (i 0).val = rowNo L := h
    match a with
    | 0 =>
      have e0 : k0_off2 L 0 = rowNo L := congrFun (k0_off2_eq L) 0
      show k0_off2 L 0 ≤ (i 0).val ∧ (i 0).val < k0_off2 L 0 + 1
      omega
    | 1 =>
      have e0 : k0_off2 L 1 = 0 := congrFun (k0_off2_eq L) 1
      have hl : (i 1).val < 384 := (i 1).isLt
      show k0_off2 L 1 ≤ (i 1).val ∧ (i 1).val < k0_off2 L 1 + 384
      omega

theorem pts_wvRow (f : Buf (Elt F) (wvLoc d)) :
    ((wvRow L h1).view.loc (th d L) ↦[(wvRow L h1).view.set]{fullShare} f : sProp 𝕄) = wvLoc d ↦[rowOf S16x384 (by decide) (rowNo L)]{fullShare} f := by
  rw [set_wvRow]

/-- The tile's row of `wg`, as the body names it. -/
abbrev wgRow (L : grid0.Coords) (h1 : k0_cond1 L = 1#1) : Memref sig .scVector .hbm S384 .i32 :=
  ((Memref.whole main_v1_1_scv : Memref sig .scVector .hbm S16x384 .i32).slice (Rect.unit (s := S16x384) (k0_off2 L) S1x384.size (k0_off2_inb L h1)) (fun _ => rfl)).squeeze S384 squeezes_S1x384_S384

theorem set_wgRow : (wgRow L h1).view.set = rowOf S16x384 (by decide) (rowNo L) := by
  show (((View.whole main_v1_1_scv).slice (Rect.unit (s := S16x384) (k0_off2 L) S1x384.size (k0_off2_inb L h1))).reshape S384 squeezes_S1x384_S384.numel_eq).set = _
  rw [View.set_reshape]
  ext i
  rw [View.set_slice_whole]
  refine Rect.mem_set_unit.trans ?_
  refine Iff.trans ?_ (Finset.mem_filter.trans (and_iff_right (Finset.mem_univ i))).symm
  constructor
  · intro h
    have h0 := h 0
    have h0' : k0_off2 L 0 ≤ (i 0).val ∧ (i 0).val < k0_off2 L 0 + 1 := h0
    have e0 : k0_off2 L 0 = rowNo L := congrFun (k0_off2_eq L) 0
    show (i 0).val = rowNo L
    omega
  · intro h a
    have h' : (i 0).val = rowNo L := h
    match a with
    | 0 =>
      have e0 : k0_off2 L 0 = rowNo L := congrFun (k0_off2_eq L) 0
      show k0_off2 L 0 ≤ (i 0).val ∧ (i 0).val < k0_off2 L 0 + 1
      omega
    | 1 =>
      have e0 : k0_off2 L 1 = 0 := congrFun (k0_off2_eq L) 1
      have hl : (i 1).val < 384 := (i 1).isLt
      show k0_off2 L 1 ≤ (i 1).val ∧ (i 1).val < k0_off2 L 1 + 384
      omega

theorem pts_wgRow (f : Buf (Elt F) (wgLoc d)) :
    ((wgRow L h1).view.loc (th d L) ↦[(wgRow L h1).view.set]{fullShare} f : sProp 𝕄) = wgLoc d ↦[rowOf S16x384 (by decide) (rowNo L)]{fullShare} f := by
  rw [set_wgRow]

/-- The tile's row of `wb`, as the body names it. -/
abbrev wbRow (L : grid0.Coords) (h1 : k0_cond1 L = 1#1) : Memref sig .scVector .hbm S1536 .f32 :=
  ((Memref.whole main_v1_2_scv : Memref sig .scVector .hbm S16x1536 .f32).slice (Rect.unit (s := S16x1536) (k0_off12 L) S1x1536.size (k0_off12_inb L h1)) (fun _ => rfl)).squeeze S1536 squeezes_S1x1536_S1536

theorem set_wbRow : (wbRow L h1).view.set = rowOf S16x1536 (by decide) (rowNo L) := by
  show (((View.whole main_v1_2_scv).slice (Rect.unit (s := S16x1536) (k0_off12 L) S1x1536.size (k0_off12_inb L h1))).reshape S1536 squeezes_S1x1536_S1536.numel_eq).set = _
  rw [View.set_reshape]
  ext i
  rw [View.set_slice_whole]
  refine Rect.mem_set_unit.trans ?_
  refine Iff.trans ?_ (Finset.mem_filter.trans (and_iff_right (Finset.mem_univ i))).symm
  constructor
  · intro h
    have h0 := h 0
    have h0' : k0_off12 L 0 ≤ (i 0).val ∧ (i 0).val < k0_off12 L 0 + 1 := h0
    have e0 : k0_off12 L 0 = rowNo L := congrFun (k0_off12_eq L) 0
    show (i 0).val = rowNo L
    omega
  · intro h a
    have h' : (i 0).val = rowNo L := h
    match a with
    | 0 =>
      have e0 : k0_off12 L 0 = rowNo L := congrFun (k0_off12_eq L) 0
      show k0_off12 L 0 ≤ (i 0).val ∧ (i 0).val < k0_off12 L 0 + 1
      omega
    | 1 =>
      have e0 : k0_off12 L 1 = 0 := congrFun (k0_off12_eq L) 1
      have hl : (i 1).val < 1536 := (i 1).isLt
      show k0_off12 L 1 ≤ (i 1).val ∧ (i 1).val < k0_off12 L 1 + 1536
      omega

theorem pts_wbRow (f : Buf (Elt F) (wbLoc d)) :
    ((wbRow L h1).view.loc (th d L) ↦[(wbRow L h1).view.set]{fullShare} f : sProp 𝕄) = wbLoc d ↦[rowOf S16x1536 (by decide) (rowNo L)]{fullShare} f := by
  rw [set_wbRow]

end Rows

/-- The tile's own cells of the eight copies. -/
abbrev cell0 (d : Dev nD) (L : grid0.Coords) : GSem nD τ sig := (th d L, .dma cc0_scoped0.sem)
abbrev cell1 (d : Dev nD) (L : grid0.Coords) : GSem nD τ sig := (th d L, .dma cc0_scoped1.sem)
abbrev cell2 (d : Dev nD) (L : grid0.Coords) : GSem nD τ sig := (th d L, .dma cc0_scoped2.sem)
abbrev cell3 (d : Dev nD) (L : grid0.Coords) : GSem nD τ sig := (th d L, .dma cc0_scoped3.sem)
abbrev cell4 (d : Dev nD) (L : grid0.Coords) : GSem nD τ sig := (th d L, .dma cc0_scoped4.sem)
abbrev cell5 (d : Dev nD) (L : grid0.Coords) : GSem nD τ sig := (th d L, .dma cc0_scoped5.sem)
abbrev cell6 (d : Dev nD) (L : grid0.Coords) : GSem nD τ sig := (th d L, .dma cc0_scoped6.sem)
abbrev cell7 (d : Dev nD) (L : grid0.Coords) : GSem nD τ sig := (th d L, .dma cc0_scoped7.sem)

section Own

variable (d : Dev nD) (L : grid0.Coords)

theorem cell_ne {a b : SemLoc sig} (h : a ≠ b) : ((th d L, a) : GSem nD τ sig) ≠ (th d L, b) :=
  fun e => h (congrArg Prod.snd e)

theorem ownSems0_V :
    (ownSems0 (th d L) : sProp 𝕄)
      = iprop(semVal (cell0 d L) 0 ∗ semVal (cell1 d L) 0 ∗ semVal (cell2 d L) 0 ∗ semVal (cell3 d L) 0 ∗ semVal (cell4 d L) 0 ∗ semVal (cell5 d L) 0 ∗ semVal (cell6 d L) 0 ∗ semVal (cell7 d L) 0 ∗ bigSep (((((((((ownCells (th d L)).erase (cell0 d L)).erase (cell1 d L)).erase (cell2 d L)).erase (cell3 d L)).erase (cell4 d L)).erase (cell5 d L)).erase (cell6 d L)).erase (cell7 d L)) fun g => semVal g 0) := by
  unfold SparseCore.Cfg.ownSems0
  rw [
    SparseCore.bigSep_erase' ((mem_ownCells (g := cell0 d L)).mpr ⟨rfl, by show (SemLoc.dma cc0_scoped0.sem : SemLoc sig).isScoped .scVector = true; decide⟩),
    SparseCore.bigSep_erase' (Finset.mem_erase.mpr ⟨cell_ne d L (by decide), (mem_ownCells (g := cell1 d L)).mpr ⟨rfl, by show (SemLoc.dma cc0_scoped1.sem : SemLoc sig).isScoped .scVector = true; decide⟩⟩),
    SparseCore.bigSep_erase' (Finset.mem_erase.mpr ⟨cell_ne d L (by decide), Finset.mem_erase.mpr ⟨cell_ne d L (by decide), (mem_ownCells (g := cell2 d L)).mpr ⟨rfl, by show (SemLoc.dma cc0_scoped2.sem : SemLoc sig).isScoped .scVector = true; decide⟩⟩⟩),
    SparseCore.bigSep_erase' (Finset.mem_erase.mpr ⟨cell_ne d L (by decide), Finset.mem_erase.mpr ⟨cell_ne d L (by decide), Finset.mem_erase.mpr ⟨cell_ne d L (by decide), (mem_ownCells (g := cell3 d L)).mpr ⟨rfl, by show (SemLoc.dma cc0_scoped3.sem : SemLoc sig).isScoped .scVector = true; decide⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), (mem_ownCells (g := cell4 d L)).mpr ⟨rfl, by show (SemLoc.dma cc0_scoped4.sem : SemLoc sig).isScoped .scVector = true; decide⟩⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), (mem_ownCells (g := cell5 d L)).mpr ⟨rfl, by show (SemLoc.dma cc0_scoped5.sem : SemLoc sig).isScoped .scVector = true; decide⟩⟩⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), (mem_ownCells (g := cell6 d L)).mpr ⟨rfl, by show (SemLoc.dma cc0_scoped6.sem : SemLoc sig).isScoped .scVector = true; decide⟩⟩⟩⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), (mem_ownCells (g := cell7 d L)).mpr ⟨rfl, by show (SemLoc.dma cc0_scoped7.sem : SemLoc sig).isScoped .scVector = true; decide⟩⟩⟩⟩⟩⟩⟩⟩)]

/-- The tile's own buffers are its nine, each at some contents, together with the rest. -/
theorem ownBufs_V :
    (ownBufs (th d L) : sProp 𝕄)
      = iprop((∃ f, (th d L).loc cc0_scratch0 ↦{fullShare} f) ∗ (∃ f, (th d L).loc cc0_scratch1 ↦{fullShare} f) ∗ (∃ f, (th d L).loc cc0_scratch2 ↦{fullShare} f) ∗ (∃ f, (th d L).loc cc0_scratch3 ↦{fullShare} f) ∗ (∃ f, (th d L).loc cc0_scratch4 ↦{fullShare} f) ∗ (∃ f, (th d L).loc cc0_scratch5 ↦{fullShare} f) ∗ (∃ f, (th d L).loc cc0_scratch6 ↦{fullShare} f) ∗ (∃ f, (th d L).loc cc0_scratch7 ↦{fullShare} f) ∗ (∃ f, (th d L).loc cc0_scratch8 ↦{fullShare} f) ∗ bigSep ((((((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5)).erase ((Proc.scVector (cV L) (jV L)).devRef cc0_scratch6)).erase ((Proc.scVector (cV L) (jV L)).devRef cc0_scratch7)).erase ((Proc.scVector (cV L) (jV L)).devRef cc0_scratch8))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [
    SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := (Proc.scVector (cV L) (jV L)).devRef cc0_scratch3) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := (Proc.scVector (cV L) (jV L)).devRef cc0_scratch4) rfl⟩⟩⟩⟩),
    SparseCore.bigSep_erase' (Finset.mem_erase.mpr ⟨fun e => absurd (Proc.devRef_injective _ e) (show (cc0_scratch5 : Ref sig .scVector) ≠ cc0_scratch4 by decide), Finset.mem_erase.mpr ⟨fun e => absurd (Proc.devRef_injective _ e) (show (cc0_scratch5 : Ref sig .scVector) ≠ cc0_scratch3 by decide), Finset.mem_erase.mpr ⟨fun e => absurd (Proc.devRef_injective _ e) (show (cc0_scratch5 : Ref sig .scVector) ≠ cc0_scratch2 by decide), Finset.mem_erase.mpr ⟨fun e => absurd (Proc.devRef_injective _ e) (show (cc0_scratch5 : Ref sig .scVector) ≠ cc0_scratch1 by decide), Finset.mem_erase.mpr ⟨fun e => absurd (Proc.devRef_injective _ e) (show (cc0_scratch5 : Ref sig .scVector) ≠ cc0_scratch0 by decide), SparseCore.Cfg.mem_ownRefs_of_owner (p := Proc.scVector (cV L) (jV L)) (b := (Proc.scVector (cV L) (jV L)).devRef cc0_scratch5) rfl⟩⟩⟩⟩⟩),
    SparseCore.bigSep_erase' (Finset.mem_erase.mpr ⟨fun e => absurd (Proc.devRef_injective _ e) (show (cc0_scratch6 : Ref sig .scVector) ≠ cc0_scratch5 by decide), Finset.mem_erase.mpr ⟨fun e => absurd (Proc.devRef_injective _ e) (show (cc0_scratch6 : Ref sig .scVector) ≠ cc0_scratch4 by decide), Finset.mem_erase.mpr ⟨fun e => absurd (Proc.devRef_injective _ e) (show (cc0_scratch6 : Ref sig .scVector) ≠ cc0_scratch3 by decide), Finset.mem_erase.mpr ⟨fun e => absurd (Proc.devRef_injective _ e) (show (cc0_scratch6 : Ref sig .scVector) ≠ cc0_scratch2 by decide), Finset.mem_erase.mpr ⟨fun e => absurd (Proc.devRef_injective _ e) (show (cc0_scratch6 : Ref sig .scVector) ≠ cc0_scratch1 by decide), Finset.mem_erase.mpr ⟨fun e => absurd (Proc.devRef_injective _ e) (show (cc0_scratch6 : Ref sig .scVector) ≠ cc0_scratch0 by decide), SparseCore.Cfg.mem_ownRefs_of_owner (p := Proc.scVector (cV L) (jV L)) (b := (Proc.scVector (cV L) (jV L)).devRef cc0_scratch6) rfl⟩⟩⟩⟩⟩⟩),
    SparseCore.bigSep_erase' (Finset.mem_erase.mpr ⟨fun e => absurd (Proc.devRef_injective _ e) (show (cc0_scratch7 : Ref sig .scVector) ≠ cc0_scratch6 by decide), Finset.mem_erase.mpr ⟨fun e => absurd (Proc.devRef_injective _ e) (show (cc0_scratch7 : Ref sig .scVector) ≠ cc0_scratch5 by decide), Finset.mem_erase.mpr ⟨fun e => absurd (Proc.devRef_injective _ e) (show (cc0_scratch7 : Ref sig .scVector) ≠ cc0_scratch4 by decide), Finset.mem_erase.mpr ⟨fun e => absurd (Proc.devRef_injective _ e) (show (cc0_scratch7 : Ref sig .scVector) ≠ cc0_scratch3 by decide), Finset.mem_erase.mpr ⟨fun e => absurd (Proc.devRef_injective _ e) (show (cc0_scratch7 : Ref sig .scVector) ≠ cc0_scratch2 by decide), Finset.mem_erase.mpr ⟨fun e => absurd (Proc.devRef_injective _ e) (show (cc0_scratch7 : Ref sig .scVector) ≠ cc0_scratch1 by decide), Finset.mem_erase.mpr ⟨fun e => absurd (Proc.devRef_injective _ e) (show (cc0_scratch7 : Ref sig .scVector) ≠ cc0_scratch0 by decide), SparseCore.Cfg.mem_ownRefs_of_owner (p := Proc.scVector (cV L) (jV L)) (b := (Proc.scVector (cV L) (jV L)).devRef cc0_scratch7) rfl⟩⟩⟩⟩⟩⟩⟩),
    SparseCore.bigSep_erase' (Finset.mem_erase.mpr ⟨fun e => absurd (Proc.devRef_injective _ e) (show (cc0_scratch8 : Ref sig .scVector) ≠ cc0_scratch7 by decide), Finset.mem_erase.mpr ⟨fun e => absurd (Proc.devRef_injective _ e) (show (cc0_scratch8 : Ref sig .scVector) ≠ cc0_scratch6 by decide), Finset.mem_erase.mpr ⟨fun e => absurd (Proc.devRef_injective _ e) (show (cc0_scratch8 : Ref sig .scVector) ≠ cc0_scratch5 by decide), Finset.mem_erase.mpr ⟨fun e => absurd (Proc.devRef_injective _ e) (show (cc0_scratch8 : Ref sig .scVector) ≠ cc0_scratch4 by decide), Finset.mem_erase.mpr ⟨fun e => absurd (Proc.devRef_injective _ e) (show (cc0_scratch8 : Ref sig .scVector) ≠ cc0_scratch3 by decide), Finset.mem_erase.mpr ⟨fun e => absurd (Proc.devRef_injective _ e) (show (cc0_scratch8 : Ref sig .scVector) ≠ cc0_scratch2 by decide), Finset.mem_erase.mpr ⟨fun e => absurd (Proc.devRef_injective _ e) (show (cc0_scratch8 : Ref sig .scVector) ≠ cc0_scratch1 by decide), Finset.mem_erase.mpr ⟨fun e => absurd (Proc.devRef_injective _ e) (show (cc0_scratch8 : Ref sig .scVector) ≠ cc0_scratch0 by decide), SparseCore.Cfg.mem_ownRefs_of_owner (p := Proc.scVector (cV L) (jV L)) (b := (Proc.scVector (cV L) (jV L)).devRef cc0_scratch8) rfl⟩⟩⟩⟩⟩⟩⟩⟩)
    ]

end Own

end Cert.Proof.Stage4
end
-- ==== Proof.RowVal.lean ====
module

public import proofs.«01_k».proof.Proof.Rows
public import Idealize.ShloMosaic.Lib.ValueLayout

@[expose] public section

noncomputable section

namespace Cert.Proof.Stage4

open Cert.KernelIdeal Cert.KernelIdeal.Gen
open Idealize.ShloMosaic
open Idealize.ShloMosaic.ValueIdx
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic
open Cert.Proof.Compact Cert.Proof.Lanes

variable {F : FTy → Type} [FloatOps F]

local notation "𝕄" => MT nD τ sig (HIx 1) (Elt F) ℕ UU ℕ

/-- An index of a vector matched with shape `[1, a]` is in row `0`. -/
theorem reshapeEquiv_ix1_1a {a : ℕ} (h : (⟨1, ![a]⟩ : Shape).numel = (⟨2, ![1, a]⟩ : Shape).numel) (x : Fin a) :
    Shape.reshapeEquiv h (ix1 x) = ix2 (⟨0, Nat.one_pos⟩ : Fin 1) x :=
  Shape.reshapeEquiv_eq_of_rowMajor h (by
    rw [Shape.rowMajor_val_two, Shape.rowMajor_val_one]
    show 0 * a + x.val = x.val
    rw [Nat.zero_mul, Nat.zero_add])

/-- A tile has a row to work on exactly when its row number is below sixteen. -/
theorem cond_iff : ∀ L : grid0.Coords, k0_cond1 L = 1#1 ↔ rowNo L < 16 := by decide +kernel

/-- Row `b` of the candidates, of their queries, of the thresholds and of the boxes. -/
def candOf (Cand : Vec F S16x384x80 .f32) (b : Fin 16) : (⟨2, ![384, 80]⟩ : Shape).Idx → F .f32 := fun x => Cand (ix3 b (x 0) (x 1))
def candqOf (Candq : Vec F S16x384 .i32) (b : Fin 16) : (⟨1, ![384]⟩ : Shape).Idx → BitVec 32 := fun x => Candq (ix2 b (x 0))
def tvOf (Tv : Vec F S16x1x16 .f32) (b : Fin 16) : (⟨2, ![1, 16]⟩ : Shape).Idx → F .f32 := fun x => Tv (ix3 b (x 0) (x 1))
def tsOf (Ts : Vec F S16x1x16 .i32) (b : Fin 16) : (⟨2, ![1, 16]⟩ : Shape).Idx → BitVec 32 := fun x => Ts (ix3 b (x 0) (x 1))
def boxOf (Box : Vec F S16x80000 .f32) (b : Fin 16) : (⟨1, ![80000]⟩ : Shape).Idx → F .f32 := fun x => Box (ix2 b (x 0))

/-- The row of a tile that has one. -/
abbrev rowFin (L : grid0.Coords) (h1 : k0_cond1 L = 1#1) : Fin 16 := ⟨rowNo L, (cond_iff L).mp h1⟩

section Values

variable (d : Dev nD) (L : grid0.Coords) (h1 : k0_cond1 L = 1#1)

theorem emb_candRow (i : Fin 384) (j : Fin 80) : (candRow L h1).view.emb (ix2 i j) = (ix3 (rowFin L h1) i j : S16x384x80.Idx) := by
  show (Rect.unit (s := S16x384x80) (k0_off1 L) S1x384x80.size (k0_off1_inb L h1)).emb (Shape.reshapeEquiv _ (ix2 i j)) = _
  rw [reshapeEquiv_ix2_1ab]
  funext a
  apply Fin.ext
  match a with
  | 0 =>
    have e0 : k0_off1 L 0 = rowNo L := congrFun (k0_off1_eq L) 0
    show k0_off1 L 0 + 1 * 0 = rowNo L
    omega
  | 1 =>
    have e0 : k0_off1 L 1 = 0 := congrFun (k0_off1_eq L) 1
    show k0_off1 L 1 + 1 * i.val = i.val
    omega
  | 2 =>
    have e0 : k0_off1 L 2 = 0 := congrFun (k0_off1_eq L) 2
    show k0_off1 L 2 + 1 * j.val = j.val
    omega

/-- The tile's buffer after the copy in: its row of `cand`. -/
theorem fetch_cand (Cand : Vec F S16x384x80 .f32) (f : Vec F S384x80 .f32) :
    bCand.view.write (Elt F) f ((candRow L h1).view.read (Elt F) Cand) Finset.univ = (candOf Cand (rowFin L h1) : Vec F S384x80 .f32) := by
  refine (View.write_whole_univ (Val := Elt F) cc0_scratch0 f _).trans (funext fun x => ?_)
  show Cand ((candRow L h1).view.emb x) = Cand (ix3 (rowFin L h1) (x 0) (x 1))
  refine congrArg Cand ?_
  refine (congrArg (candRow L h1).view.emb (eq_ix2 x)).trans ?_
  exact emb_candRow L h1 (x 0) (x 1)

theorem emb_candqRow (i : Fin 384) : (candqRow L h1).view.emb (ix1 i) = (ix2 (rowFin L h1) i : S16x384.Idx) := by
  show (Rect.unit (s := S16x384) (k0_off2 L) S1x384.size (k0_off2_inb L h1)).emb (Shape.reshapeEquiv _ (ix1 i)) = _
  rw [reshapeEquiv_ix1_1a]
  funext a
  apply Fin.ext
  match a with
  | 0 =>
    have e0 : k0_off2 L 0 = rowNo L := congrFun (k0_off2_eq L) 0
    show k0_off2 L 0 + 1 * 0 = rowNo L
    omega
  | 1 =>
    have e0 : k0_off2 L 1 = 0 := congrFun (k0_off2_eq L) 1
    show k0_off2 L 1 + 1 * i.val = i.val
    omega

/-- The tile's buffer after the copy in: its row of `candq`. -/
theorem fetch_candq (Candq : Vec F S16x384 .i32) (f : Vec F S384 .i32) :
    bCandq.view.write (Elt F) f ((candqRow L h1).view.read (Elt F) Candq) Finset.univ = (candqOf Candq (rowFin L h1) : Vec F S384 .i32) := by
  refine (View.write_whole_univ (Val := Elt F) cc0_scratch1 f _).trans (funext fun x => ?_)
  show Candq ((candqRow L h1).view.emb x) = Candq (ix2 (rowFin L h1) (x 0))
  refine congrArg Candq ?_
  refine (congrArg (candqRow L h1).view.emb (eq_ix1 x)).trans ?_
  exact emb_candqRow L h1 (x 0)

theorem emb_tvRow (i : Fin 1) (j : Fin 16) : (tvRow L h1).view.emb (ix2 i j) = (ix3 (rowFin L h1) i j : S16x1x16.Idx) := by
  show (Rect.unit (s := S16x1x16) (k0_off3 L) S1x1x16.size (k0_off3_inb L h1)).emb (Shape.reshapeEquiv _ (ix2 i j)) = _
  rw [reshapeEquiv_ix2_1ab]
  funext a
  apply Fin.ext
  match a with
  | 0 =>
    have e0 : k0_off3 L 0 = rowNo L := congrFun (k0_off3_eq L) 0
    show k0_off3 L 0 + 1 * 0 = rowNo L
    omega
  | 1 =>
    have e0 : k0_off3 L 1 = 0 := congrFun (k0_off3_eq L) 1
    show k0_off3 L 1 + 1 * i.val = i.val
    omega
  | 2 =>
    have e0 : k0_off3 L 2 = 0 := congrFun (k0_off3_eq L) 2
    show k0_off3 L 2 + 1 * j.val = j.val
    omega

/-- The tile's buffer after the copy in: its row of `tv`. -/
theorem fetch_tv (Tv : Vec F S16x1x16 .f32) (f : Vec F S1x16 .f32) :
    bTv.view.write (Elt F) f ((tvRow L h1).view.read (Elt F) Tv) Finset.univ = (tvOf Tv (rowFin L h1) : Vec F S1x16 .f32) := by
  refine (View.write_whole_univ (Val := Elt F) cc0_scratch2 f _).trans (funext fun x => ?_)
  show Tv ((tvRow L h1).view.emb x) = Tv (ix3 (rowFin L h1) (x 0) (x 1))
  refine congrArg Tv ?_
  refine (congrArg (tvRow L h1).view.emb (eq_ix2 x)).trans ?_
  exact emb_tvRow L h1 (x 0) (x 1)

theorem emb_tsRow (i : Fin 1) (j : Fin 16) : (tsRow L h1).view.emb (ix2 i j) = (ix3 (rowFin L h1) i j : S16x1x16.Idx) := by
  show (Rect.unit (s := S16x1x16) (k0_off3 L) S1x1x16.size (k0_off3_inb L h1)).emb (Shape.reshapeEquiv _ (ix2 i j)) = _
  rw [reshapeEquiv_ix2_1ab]
  funext a
  apply Fin.ext
  match a with
  | 0 =>
    have e0 : k0_off3 L 0 = rowNo L := congrFun (k0_off3_eq L) 0
    show k0_off3 L 0 + 1 * 0 = rowNo L
    omega
  | 1 =>
    have e0 : k0_off3 L 1 = 0 := congrFun (k0_off3_eq L) 1
    show k0_off3 L 1 + 1 * i.val = i.val
    omega
  | 2 =>
    have e0 : k0_off3 L 2 = 0 := congrFun (k0_off3_eq L) 2
    show k0_off3 L 2 + 1 * j.val = j.val
    omega

/-- The tile's buffer after the copy in: its row of `ts`. -/
theorem fetch_ts (Ts : Vec F S16x1x16 .i32) (f : Vec F S1x16 .i32) :
    bTs.view.write (Elt F) f ((tsRow L h1).view.read (Elt F) Ts) Finset.univ = (tsOf Ts (rowFin L h1) : Vec F S1x16 .i32) := by
  refine (View.write_whole_univ (Val := Elt F) cc0_scratch3 f _).trans (funext fun x => ?_)
  show Ts ((tsRow L h1).view.emb x) = Ts (ix3 (rowFin L h1) (x 0) (x 1))
  refine congrArg Ts ?_
  refine (congrArg (tsRow L h1).view.emb (eq_ix2 x)).trans ?_
  exact emb_tsRow L h1 (x 0) (x 1)

theorem emb_boxRow (i : Fin 80000) : (boxRow L h1).view.emb (ix1 i) = (ix2 (rowFin L h1) i : S16x80000.Idx) := by
  show (Rect.unit (s := S16x80000) (k0_off4 L) S1x80000.size (k0_off4_inb L h1)).emb (Shape.reshapeEquiv _ (ix1 i)) = _
  rw [reshapeEquiv_ix1_1a]
  funext a
  apply Fin.ext
  match a with
  | 0 =>
    have e0 : k0_off4 L 0 = rowNo L := congrFun (k0_off4_eq L) 0
    show k0_off4 L 0 + 1 * 0 = rowNo L
    omega
  | 1 =>
    have e0 : k0_off4 L 1 = 0 := congrFun (k0_off4_eq L) 1
    show k0_off4 L 1 + 1 * i.val = i.val
    omega

/-- The tile's buffer after the copy in: its row of `box`. -/
theorem fetch_box (Box : Vec F S16x80000 .f32) (f : Vec F S80000 .f32) :
    bBoxall.view.write (Elt F) f ((boxRow L h1).view.read (Elt F) Box) Finset.univ = (boxOf Box (rowFin L h1) : Vec F S80000 .f32) := by
  refine (View.write_whole_univ (Val := Elt F) cc0_scratch7 f _).trans (funext fun x => ?_)
  show Box ((boxRow L h1).view.emb x) = Box (ix2 (rowFin L h1) (x 0))
  refine congrArg Box ?_
  refine (congrArg (boxRow L h1).view.emb (eq_ix1 x)).trans ?_
  exact emb_boxRow L h1 (x 0)

theorem emb_wvRow (i : Fin 384) : (wvRow L h1).view.emb (ix1 i) = (ix2 (rowFin L h1) i : S16x384.Idx) := by
  show (Rect.unit (s := S16x384) (k0_off2 L) S1x384.size (k0_off2_inb L h1)).emb (Shape.reshapeEquiv _ (ix1 i)) = _
  rw [reshapeEquiv_ix1_1a]
  funext a
  apply Fin.ext
  match a with
  | 0 =>
    have e0 : k0_off2 L 0 = rowNo L := congrFun (k0_off2_eq L) 0
    show k0_off2 L 0 + 1 * 0 = rowNo L
    omega
  | 1 =>
    have e0 : k0_off2 L 1 = 0 := congrFun (k0_off2_eq L) 1
    show k0_off2 L 1 + 1 * i.val = i.val
    omega

/-- The array after the copy out, at an element of the tile's row. -/
theorem flush_wv (f : Vec F S16x384 .f32) (v : Vec F S384 .f32) (i : Fin 384) :
    ((wvRow L h1).view.write (Elt F) f v Finset.univ : Vec F S16x384 .f32) (ix2 (rowFin L h1) i) = v (ix1 i) := by
  have h := View.write_emb_of_mem (Val := Elt F) (v := (wvRow L h1).view) f v (M := Finset.univ) (x := (ix1 i)) (Finset.mem_univ _)
  rw [emb_wvRow] at h
  exact h

theorem emb_wgRow (i : Fin 384) : (wgRow L h1).view.emb (ix1 i) = (ix2 (rowFin L h1) i : S16x384.Idx) := by
  show (Rect.unit (s := S16x384) (k0_off2 L) S1x384.size (k0_off2_inb L h1)).emb (Shape.reshapeEquiv _ (ix1 i)) = _
  rw [reshapeEquiv_ix1_1a]
  funext a
  apply Fin.ext
  match a with
  | 0 =>
    have e0 : k0_off2 L 0 = rowNo L := congrFun (k0_off2_eq L) 0
    show k0_off2 L 0 + 1 * 0 = rowNo L
    omega
  | 1 =>
    have e0 : k0_off2 L 1 = 0 := congrFun (k0_off2_eq L) 1
    show k0_off2 L 1 + 1 * i.val = i.val
    omega

/-- The array after the copy out, at an element of the tile's row. -/
theorem flush_wg (f : Vec F S16x384 .i32) (v : Vec F S384 .i32) (i : Fin 384) :
    ((wgRow L h1).view.write (Elt F) f v Finset.univ : Vec F S16x384 .i32) (ix2 (rowFin L h1) i) = v (ix1 i) := by
  have h := View.write_emb_of_mem (Val := Elt F) (v := (wgRow L h1).view) f v (M := Finset.univ) (x := (ix1 i)) (Finset.mem_univ _)
  rw [emb_wgRow] at h
  exact h

theorem emb_wbRow (i : Fin 1536) : (wbRow L h1).view.emb (ix1 i) = (ix2 (rowFin L h1) i : S16x1536.Idx) := by
  show (Rect.unit (s := S16x1536) (k0_off12 L) S1x1536.size (k0_off12_inb L h1)).emb (Shape.reshapeEquiv _ (ix1 i)) = _
  rw [reshapeEquiv_ix1_1a]
  funext a
  apply Fin.ext
  match a with
  | 0 =>
    have e0 : k0_off12 L 0 = rowNo L := congrFun (k0_off12_eq L) 0
    show k0_off12 L 0 + 1 * 0 = rowNo L
    omega
  | 1 =>
    have e0 : k0_off12 L 1 = 0 := congrFun (k0_off12_eq L) 1
    show k0_off12 L 1 + 1 * i.val = i.val
    omega

/-- The array after the copy out, at an element of the tile's row. -/
theorem flush_wb (f : Vec F S16x1536 .f32) (v : Vec F S1536 .f32) (i : Fin 1536) :
    ((wbRow L h1).view.write (Elt F) f v Finset.univ : Vec F S16x1536 .f32) (ix2 (rowFin L h1) i) = v (ix1 i) := by
  have h := View.write_emb_of_mem (Val := Elt F) (v := (wbRow L h1).view) f v (M := Finset.univ) (x := (ix1 i)) (Finset.mem_univ _)
  rw [emb_wbRow] at h
  exact h

end Values

/-- What a row of the results holds: for every selected entry `n` of the row, with `k` the number of selected entries before
it, its value, its flat id and the box of its query, all at place `k`. -/
structure RowOK (Cand : Vec F S16x384x80 .f32) (Candq : Vec F S16x384 .i32) (Tv : Vec F S16x1x16 .f32) (Ts : Vec F S16x1x16 .i32)
    (Box : Vec F S16x80000 .f32) (b : Fin 16) (Wv : Vec F S16x384 .f32) (Wg : Vec F S16x384 .i32) (Wb : Vec F S16x1536 .f32) : Prop where
  val : ∀ n < 24000, sel (candOf Cand b) (candqOf Candq b) (tvOf Tv b) (tsOf Ts b) n → ∀ k : Fin 384,
    k.val = Nat.count (sel (candOf Cand b) (candqOf Candq b) (tvOf Tv b) (tsOf Ts b)) n → Wv (ix2 b k) = vS (candOf Cand b) n
  gid : ∀ n < 24000, sel (candOf Cand b) (candqOf Candq b) (tvOf Tv b) (tsOf Ts b) n → ∀ k : Fin 384,
    k.val = Nat.count (sel (candOf Cand b) (candqOf Candq b) (tvOf Tv b) (tsOf Ts b)) n → Wg (ix2 b k) = gS (candqOf Candq b) n
  box : ∀ n < 24000, sel (candOf Cand b) (candqOf Candq b) (tvOf Tv b) (tsOf Ts b) n → ∀ k : Fin 384,
    k.val = Nat.count (sel (candOf Cand b) (candqOf Candq b) (tvOf Tv b) (tsOf Ts b)) n → ∀ (c : Fin 4) (e : Fin 1536),
    e.val = 4 * k.val + c.val → Wb (ix2 b e) = Box (ix2 b (Fin.ofNat 80000 ((qS (candqOf Candq b) n).toNat * 4 + c.val)))

/-- The packed buffers and gathered boxes of a row, copied out, are that row of the results. -/
theorem rowOK_of (L : grid0.Coords) (h1 : k0_cond1 L = 1#1) (Cand : Vec F S16x384x80 .f32) (Candq : Vec F S16x384 .i32)
    (Tv : Vec F S16x1x16 .f32) (Ts : Vec F S16x1x16 .i32) (Box : Vec F S16x80000 .f32) (acc : BitVec 32)
    (fv : Vec F S384 .f32) (fg fq : Vec F S384 .i32) (fb : Vec F S1536 .f32)
    (hS : St (candOf Cand (rowFin L h1)) (candqOf Candq (rowFin L h1)) (tvOf Tv (rowFin L h1)) (tsOf Ts (rowFin L h1)) 24000 acc fv fg fq)
    (hb : ∀ e : Fin 1536, fb (ix1 e) = boxAt (boxOf Box (rowFin L h1)) fq e.val)
    (Wv : Vec F S16x384 .f32) (Wg : Vec F S16x384 .i32) (Wb : Vec F S16x1536 .f32) :
    RowOK Cand Candq Tv Ts Box (rowFin L h1) ((wvRow L h1).view.write (Elt F) Wv fv Finset.univ)
      ((wgRow L h1).view.write (Elt F) Wg fg Finset.univ) ((wbRow L h1).view.write (Elt F) Wb fb Finset.univ) where
  val n hn hs k hk := (flush_wv L h1 Wv fv k).trans (hS.val n hn hs k hk)
  gid n hn hs k hk := (flush_wg L h1 Wg fg k).trans (hS.gid n hn hs k hk)
  box n hn hs k hk c e he := by
    refine (flush_wb L h1 Wb fb e).trans ((hb e).trans ?_)
    have hk' := k.isLt
    have hc := c.isLt
    have h1' : (Fin.ofNat 384 (e.val / 4)) = k := Fin.ext (by show e.val / 4 % 384 = k.val; omega)
    have h2 : e.val % 4 = c.val := by omega
    unfold boxAt boxOf
    rw [h1', h2, hS.qid n hn hs k hk]

end Cert.Proof.Stage4
end
-- ==== Proof.Tile.lean ====
module

public import proofs.«01_k».proof.Proof.RowVal

@[expose] public section

noncomputable section

namespace Cert.Proof.Stage4

open Cert.KernelIdeal Cert.KernelIdeal.Gen
open Idealize.ShloMosaic
open Idealize.ShloMosaic.ValueIdx
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic
open Cert.Proof.Compact Cert.Proof.Lanes

variable {F : FTy → Type} [FloatOps F]

local notation "𝕄" => MT nD τ sig (HIx 1) (Elt F) ℕ UU ℕ

/-- The tile's program, at its buffers. -/
abbrev tileProg (L : grid0.Coords) :=
  cc0__stage4_sc_body (F := F) L (Memref.whole main_arg0_scv) (Memref.isWhole_whole _) (Memref.whole main_arg1_scv) (Memref.isWhole_whole _)
    (Memref.whole main_arg2_scv) (Memref.isWhole_whole _) (Memref.whole main_arg3_scv) (Memref.isWhole_whole _)
    (Memref.whole main_v0_scv) (Memref.isWhole_whole _) (Memref.whole main_v1_0_scv) (Memref.isWhole_whole _)
    (Memref.whole main_v1_1_scv) (Memref.isWhole_whole _) (Memref.whole main_v1_2_scv) (Memref.isWhole_whole _)
    bCand (Memref.isWhole_whole _) bCandq (Memref.isWhole_whole _) bTv (Memref.isWhole_whole _) bTs (Memref.isWhole_whole _)
    bWv (Memref.isWhole_whole _) bWg (Memref.isWhole_whole _) bWq (Memref.isWhole_whole _) bBoxall (Memref.isWhole_whole _)
    bBoxes (Memref.isWhole_whole _) cc0_scoped0 cc0_scoped1 cc0_scoped2 cc0_scoped3 cc0_scoped4 cc0_scoped5 cc0_scoped6 cc0_scoped7

/-- The last of its copies in, and then `w`. -/
def fetchThen (L : grid0.Coords) (h1 : k0_cond1 L = 1#1)
    (w : Prog (TpuEff nD τ sig (Elt F) Λ₀ (.scVector ((L 0).castLE hcore0) ((L 1).castLE hsub0))) PUnit) :
    Prog (TpuEff nD τ sig (Elt F) Λ₀ (.scVector ((L 0).castLE hcore0) ((L 1).castLE hsub0))) PUnit := do
  Prog.lift (.waitDma2 cc0_scoped3.sem (tsRow L h1) bTs ((View.wordExact_bits rfl).reshape _ _) (Memref.isWhole_whole _).wordExact)
  Prog.lift (.enqueueDma (boxRow L h1) (.here bBoxall) (.dma cc0_scoped4.sem) ((View.wordExact_bits rfl).reshape _ _) (Memref.isWhole_whole _).wordExact ⟨Or.inl rfl, trivial⟩)
  Prog.lift (.waitDma2 cc0_scoped4.sem (boxRow L h1) bBoxall ((View.wordExact_bits rfl).reshape _ _) (Memref.isWhole_whole _).wordExact)
  w

/-- Its copies out. -/
def flush (L : grid0.Coords) (h1 : k0_cond1 L = 1#1) :
    Prog (TpuEff nD τ sig (Elt F) Λ₀ (.scVector ((L 0).castLE hcore0) ((L 1).castLE hsub0))) PUnit := do
  Prog.lift (.enqueueDma bWv (.here (wvRow L h1)) (.dma cc0_scoped5.sem) (Memref.isWhole_whole _).wordExact ((View.wordExact_bits rfl).reshape _ _) ⟨Or.inl rfl, trivial⟩)
  Prog.lift (.waitDma2 cc0_scoped5.sem bWv (wvRow L h1) (Memref.isWhole_whole _).wordExact ((View.wordExact_bits rfl).reshape _ _))
  Prog.lift (.enqueueDma bWg (.here (wgRow L h1)) (.dma cc0_scoped6.sem) (Memref.isWhole_whole _).wordExact ((View.wordExact_bits rfl).reshape _ _) ⟨Or.inl rfl, trivial⟩)
  Prog.lift (.waitDma2 cc0_scoped6.sem bWg (wgRow L h1) (Memref.isWhole_whole _).wordExact ((View.wordExact_bits rfl).reshape _ _))
  Prog.lift (.enqueueDma bBoxes (.here (wbRow L h1)) (.dma cc0_scoped7.sem) (Memref.isWhole_whole _).wordExact ((View.wordExact_bits rfl).reshape _ _) ⟨Or.inl rfl, trivial⟩)
  Prog.lift (.waitDma2 cc0_scoped7.sem bBoxes (wbRow L h1) (Memref.isWhole_whole _).wordExact ((View.wordExact_bits rfl).reshape _ _))
  pure ⟨⟩

set_option maxRecDepth 65536 in
/-- A tile with a row copies it in, does its work and copies the results out. -/
theorem tileProg_pos (L : grid0.Coords) (h1 : k0_cond1 L = 1#1) :
    tileProg (F := F) L = (k0_part6 (F := F) L (Memref.whole main_arg0_scv) (Memref.isWhole_whole _) (Memref.whole main_arg1_scv) (Memref.isWhole_whole _)
    (Memref.whole main_arg2_scv) (Memref.isWhole_whole _) (Memref.whole main_arg3_scv) (Memref.isWhole_whole _)
    (Memref.whole main_v0_scv) (Memref.isWhole_whole _) (Memref.whole main_v1_0_scv) (Memref.isWhole_whole _)
    (Memref.whole main_v1_1_scv) (Memref.isWhole_whole _) (Memref.whole main_v1_2_scv) (Memref.isWhole_whole _)
    bCand (Memref.isWhole_whole _) bCandq (Memref.isWhole_whole _) bTv (Memref.isWhole_whole _) bTs (Memref.isWhole_whole _)
    bWv (Memref.isWhole_whole _) bWg (Memref.isWhole_whole _) bWq (Memref.isWhole_whole _) bBoxall (Memref.isWhole_whole _)
    bBoxes (Memref.isWhole_whole _) cc0_scoped0 cc0_scoped1 cc0_scoped2 cc0_scoped3 cc0_scoped4 cc0_scoped5 cc0_scoped6 cc0_scoped7
 h1 >>= fun _ => fetchThen L h1 (work L h1) >>= fun _ => flush L h1) :=
  dif_pos h1

/-- A tile without a row does nothing. -/
theorem tileProg_neg (L : grid0.Coords) (h1 : ¬k0_cond1 L = 1#1) : tileProg (F := F) L = pure ⟨⟩ :=
  dif_neg h1

section Tile

variable (d : Dev nD) (L : grid0.Coords) (h1 : k0_cond1 L = 1#1)

/-- The work at the head of a program. -/
theorem work_bind (cand : (⟨2, ![384, 80]⟩ : Shape).Idx → F .f32) (candq : (⟨1, ![384]⟩ : Shape).Idx → BitVec 32)
    (tv : (⟨2, ![1, 16]⟩ : Shape).Idx → F .f32) (ts : (⟨2, ![1, 16]⟩ : Shape).Idx → BitVec 32)
    (hF : Fits cand candq tv ts) (boxall : Vec F S80000 .f32) (fv : Vec F S384 .f32) (fg fq : Vec F S384 .i32)
    (fb : Vec F S1536 .f32) {α : Type} {k : PUnit → Prog (TpuEff nD τ sig (Elt F) Λ₀ (.scVector (cV L) (jV L))) α} {Q : α → sProp 𝕄} :
    iprop((bCand.view.loc (th d L) ↦{fullShare} (cand : Vec F S384x80 .f32)) ∗ (bCandq.view.loc (th d L) ↦{fullShare} (candq : Vec F S384 .i32))
        ∗ (bTv.view.loc (th d L) ↦{fullShare} (tv : Vec F S1x16 .f32)) ∗ (bTs.view.loc (th d L) ↦{fullShare} (ts : Vec F S1x16 .i32))
        ∗ (bWv.view.loc (th d L) ↦{fullShare} fv) ∗ (bWg.view.loc (th d L) ↦{fullShare} fg) ∗ (bWq.view.loc (th d L) ↦{fullShare} fq)
        ∗ (bBoxall.view.loc (th d L) ↦{fullShare} boxall) ∗ (bBoxes.view.loc (th d L) ↦{fullShare} fb) : sProp 𝕄)
      ⊢ iprop((∀ x : PUnit, (((bCand.view.loc (th d L) ↦{fullShare} (cand : Vec F S384x80 .f32)) ∗ (bCandq.view.loc (th d L) ↦{fullShare} (candq : Vec F S384 .i32))
        ∗ (bTv.view.loc (th d L) ↦{fullShare} (tv : Vec F S1x16 .f32)) ∗ (bTs.view.loc (th d L) ↦{fullShare} (ts : Vec F S1x16 .i32))
            ∗ (bBoxall.view.loc (th d L) ↦{fullShare} boxall)
            ∗ ∃ fv' : Vec F S384 .f32, ∃ fg' : Vec F S384 .i32, ∃ fq' : Vec F S384 .i32, ∃ fb' : Vec F S1536 .f32,
              (bWv.view.loc (th d L) ↦{fullShare} fv') ∗ (bWg.view.loc (th d L) ↦{fullShare} fg') ∗ (bWq.view.loc (th d L) ↦{fullShare} fq')
              ∗ (bBoxes.view.loc (th d L) ↦{fullShare} fb')
              ∗ ⌜(∃ acc, St cand candq tv ts 24000 acc fv' fg' fq') ∧ ∀ e : Fin 1536, fb' (ix1 e) = boxAt boxall fq' e.val⌝ : sProp 𝕄))
            -∗ wp frame (wpE (defs₀ (F := F)) 𝒱₀ (th d L) none) Set.univ (k x) Q)
          -∗ wp frame (wpE (defs₀ (F := F)) 𝒱₀ (th d L) none) Set.univ (work L h1 >>= k) Q) := by
  rw [wp_bind]
  exact (work_spec d L h1 cand candq tv ts hF boxall fv fg fq fb).trans (wp_wand _ _ _)

set_option maxRecDepth 65536 in
theorem tile_run (hF : (K (F := F)).Facts) (O : CellTallies nD τ sig (HIx 1)) (W : Waits sig (HIx 1)) (hO : ∀ g, O g none = 0)
    (Cand : Vec F S16x384x80 .f32) (Candq : Vec F S16x384 .i32) (Tv : Vec F S16x1x16 .f32) (Ts : Vec F S16x1x16 .i32) (Box : Vec F S16x80000 .f32)
    (Wv : Vec F S16x384 .f32) (Wg : Vec F S16x384 .i32) (Wb : Vec F S16x1536 .f32)
    (hFit : Fits (candOf Cand (rowFin L h1)) (candqOf Candq (rowFin L h1)) (tvOf Tv (rowFin L h1)) (tsOf Ts (rowFin L h1))) :
    iprop(levAts (K (F := F)).L (K (F := F)).lev
        ∗ ((candRow L h1).view.loc (th d L) ↦[(candRow L h1).view.set]{fullShare} Cand)
        ∗ ((candqRow L h1).view.loc (th d L) ↦[(candqRow L h1).view.set]{fullShare} Candq)
        ∗ ((tvRow L h1).view.loc (th d L) ↦[(tvRow L h1).view.set]{fullShare} Tv)
        ∗ ((tsRow L h1).view.loc (th d L) ↦[(tsRow L h1).view.set]{fullShare} Ts)
        ∗ ((boxRow L h1).view.loc (th d L) ↦[(boxRow L h1).view.set]{fullShare} Box)
        ∗ ((wvRow L h1).view.loc (th d L) ↦[(wvRow L h1).view.set]{fullShare} Wv)
        ∗ ((wgRow L h1).view.loc (th d L) ↦[(wgRow L h1).view.set]{fullShare} Wg)
        ∗ ((wbRow L h1).view.loc (th d L) ↦[(wbRow L h1).view.set]{fullShare} Wb)
        ∗ ownBufs (th d L) ∗ ownSems0 (th d L) ∗ owes (th d L) O W : sProp 𝕄)
      ⊢ wp frame (wpE (defs₀ (F := F)) 𝒱₀ (th d L) none) Set.univ (tileProg (F := F) L)
          fun _ => iprop(((candRow L h1).view.loc (th d L) ↦[(candRow L h1).view.set]{fullShare} Cand)
            ∗ ((candqRow L h1).view.loc (th d L) ↦[(candqRow L h1).view.set]{fullShare} Candq)
            ∗ ((tvRow L h1).view.loc (th d L) ↦[(tvRow L h1).view.set]{fullShare} Tv)
            ∗ ((tsRow L h1).view.loc (th d L) ↦[(tsRow L h1).view.set]{fullShare} Ts)
            ∗ ((boxRow L h1).view.loc (th d L) ↦[(boxRow L h1).view.set]{fullShare} Box)
            ∗ (∃ Wv' : Vec F S16x384 .f32, ∃ Wg' : Vec F S16x384 .i32, ∃ Wb' : Vec F S16x1536 .f32,
              ((wvRow L h1).view.loc (th d L) ↦[(wvRow L h1).view.set]{fullShare} Wv')
              ∗ ((wgRow L h1).view.loc (th d L) ↦[(wgRow L h1).view.set]{fullShare} Wg')
              ∗ ((wbRow L h1).view.loc (th d L) ↦[(wbRow L h1).view.set]{fullShare} Wb')
              ∗ ⌜RowOK Cand Candq Tv Ts Box (rowFin L h1) Wv' Wg' Wb'⌝)
            ∗ ownBufs (th d L) ∗ ownSems0 (th d L)
            ∗ ∃ W', ⌜∀ p ∈ W', p ∈ W ∨ p.2 = none ∨ p.2 = some (0 : Fin 1)⌝ ∗ owes (th d L) O W') := by
  rw [ownSems0_V, ownBufs_V]
  iintro ⟨#Hlv, Hc, Hcq, Htv, Hts, Hbx, Hwv, Hwg, Hwb,
    ⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, Hbufs⟩,
    ⟨S0, S1, S2, S3, S4, S5, S6, S7, Hsems⟩, HO⟩
  ihave Hmw := (show levAts (K (F := F)).L (K (F := F)).lev ⊢ Transfers.MayWaits (th d L) (default : HIx 1) O from
    (K (F := F)).mayWaits_none (thr := th d L) hO) $$ Hlv
  ihave H0 := (Entails.of_eq (show (_ : sProp 𝕄) = (bCand.view.loc (th d L) ↦{fullShare} f0) from rfl)) $$ H0
  ihave H1 := (Entails.of_eq (show (_ : sProp 𝕄) = (bCandq.view.loc (th d L) ↦{fullShare} f1) from rfl)) $$ H1
  ihave H2 := (Entails.of_eq (show (_ : sProp 𝕄) = (bTv.view.loc (th d L) ↦{fullShare} f2) from rfl)) $$ H2
  ihave H3 := (Entails.of_eq (show (_ : sProp 𝕄) = (bTs.view.loc (th d L) ↦{fullShare} f3) from rfl)) $$ H3
  ihave H4 := (Entails.of_eq (show (_ : sProp 𝕄) = (bWv.view.loc (th d L) ↦{fullShare} f4) from rfl)) $$ H4
  ihave H5 := (Entails.of_eq (show (_ : sProp 𝕄) = (bWg.view.loc (th d L) ↦{fullShare} f5) from rfl)) $$ H5
  ihave H6 := (Entails.of_eq (show (_ : sProp 𝕄) = (bWq.view.loc (th d L) ↦{fullShare} f6) from rfl)) $$ H6
  ihave H7 := (Entails.of_eq (show (_ : sProp 𝕄) = (bBoxall.view.loc (th d L) ↦{fullShare} f7) from rfl)) $$ H7
  ihave H8 := (Entails.of_eq (show (_ : sProp 𝕄) = (bBoxes.view.loc (th d L) ↦{fullShare} f8) from rfl)) $$ H8
  rw [tileProg_pos L h1]
  generalize hw : work (F := F) L h1 = w
  sl_unfold [k0_part6, fetchThen]
  sl_exec (disch := exact View.amount_pos _ _ (by decide))
  ihave H0 := (Entails.of_eq (congrArg (fun v => (bCand.view.loc (th d L) ↦{fullShare} v : sProp 𝕄))
    (show View.write (Elt F) bCand.view f0 (tile_run.sl.dma0 L h1 Cand) Finset.univ = candOf Cand (rowFin L h1) from fetch_cand L h1 Cand f0))) $$ H0
  ihave H1 := (Entails.of_eq (congrArg (fun v => (bCandq.view.loc (th d L) ↦{fullShare} v : sProp 𝕄))
    (show View.write (Elt F) bCandq.view f1 (tile_run.sl.dma0_1 L h1 Candq) Finset.univ = candqOf Candq (rowFin L h1) from fetch_candq L h1 Candq f1))) $$ H1
  ihave H2 := (Entails.of_eq (congrArg (fun v => (bTv.view.loc (th d L) ↦{fullShare} v : sProp 𝕄))
    (show View.write (Elt F) bTv.view f2 (tile_run.sl.dma0_2 L h1 Tv) Finset.univ = tvOf Tv (rowFin L h1) from fetch_tv L h1 Tv f2))) $$ H2
  ihave H3 := (Entails.of_eq (congrArg (fun v => (bTs.view.loc (th d L) ↦{fullShare} v : sProp 𝕄))
    (show View.write (Elt F) bTs.view f3 (tile_run.sl.dma0_3 L h1 Ts) Finset.univ = tsOf Ts (rowFin L h1) from fetch_ts L h1 Ts f3))) $$ H3
  ihave H7 := (Entails.of_eq (congrArg (fun v => (bBoxall.view.loc (th d L) ↦{fullShare} v : sProp 𝕄))
    (show View.write (Elt F) bBoxall.view f7 (tile_run.sl.dma0_4 L h1 Box) Finset.univ = boxOf Box (rowFin L h1) from fetch_box L h1 Box f7))) $$ H7
  rw [← hw]
  iapply (work_bind d L h1 (candOf Cand (rowFin L h1)) (candqOf Candq (rowFin L h1)) (tvOf Tv (rowFin L h1)) (tsOf Ts (rowFin L h1)) hFit (boxOf Box (rowFin L h1)) f4 f5 f6 f8) $$ [H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iintro %x ⟨H0, H1, H2, H3, H7, %fv, %fg, %fq, %fb, H4, H5, H6, H8, %hpost⟩
  sl_unfold [flush]
  sl_exec (disch := exact View.amount_pos _ _ (by decide))
  ihave Hwv := (Entails.of_eq (congrArg (fun v => ((wvRow L h1).view.loc (th d L) ↦[(wvRow L h1).view.set]{fullShare} v : sProp 𝕄))
    (show (wvRow L h1).view.writes (Elt F) Wv [⟨Rect.whole S384, tile_run.sl.dma0_5 fv⟩] = (wvRow L h1).view.write (Elt F) Wv fv Finset.univ
      from (View.write_univ_eq_writes_whole (Val := Elt F) (wvRow L h1).view Wv [] fv).symm))) $$ Hwv
  ihave Hwg := (Entails.of_eq (congrArg (fun v => ((wgRow L h1).view.loc (th d L) ↦[(wgRow L h1).view.set]{fullShare} v : sProp 𝕄))
    (show (wgRow L h1).view.writes (Elt F) Wg [⟨Rect.whole S384, tile_run.sl.dma0_6 fg⟩] = (wgRow L h1).view.write (Elt F) Wg fg Finset.univ
      from (View.write_univ_eq_writes_whole (Val := Elt F) (wgRow L h1).view Wg [] fg).symm))) $$ Hwg
  ihave Hwb := (Entails.of_eq (congrArg (fun v => ((wbRow L h1).view.loc (th d L) ↦[(wbRow L h1).view.set]{fullShare} v : sProp 𝕄))
    (show (wbRow L h1).view.writes (Elt F) Wb [⟨Rect.whole S1536, tile_run.sl.dma0_7 fb⟩] = (wbRow L h1).view.write (Elt F) Wb fb Finset.univ
      from (View.write_univ_eq_writes_whole (Val := Elt F) (wbRow L h1).view Wb [] fb).symm))) $$ Hwb
  obtain ⟨⟨acc, hS⟩, hb⟩ := hpost
  sl_step
  isplitl [Hc]; · iexact Hc
  isplitl [Hcq]; · iexact Hcq
  isplitl [Htv]; · iexact Htv
  isplitl [Hts]; · iexact Hts
  isplitl [Hbx]; · iexact Hbx
  isplitl [Hwv Hwg Hwb]
  · iexists _, _, _
    isplitl [Hwv]; · iexact Hwv
    isplitl [Hwg]; · iexact Hwg
    isplitl [Hwb]; · iexact Hwb
    ipureintro
    exact rowOK_of L h1 Cand Candq Tv Ts Box acc fv fg fq fb hS hb Wv Wg Wb
  isplitl [H0 H1 H2 H3 H4 H5 H6 H7 H8 Hbufs]
  · isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    iexact Hbufs
  isplitl [S0 S1 S2 S3 S4 S5 S6 S7 Hsems]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    iexact Hsems
  iexists _
  isplitr
  swap; · iexact HO
  ipureintro; intro p _
  rcases p.2 with _ | q
  · exact .inr (.inl rfl)
  · exact .inr (.inr (congrArg some (Subsingleton.elim q 0)))

end Tile

end Cert.Proof.Stage4
end
-- ==== Proof.Split.lean ====
module

public import proofs.«01_k».proof.Proof.Tile

@[expose] public section

noncomputable section

namespace Cert.Proof.Stage4

open Cert.KernelIdeal Cert.KernelIdeal.Gen
open Idealize.ShloMosaic
open Idealize.ShloMosaic.ValueIdx
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic
open Cert.Proof.Compact Cert.Proof.Lanes

variable {F : FTy → Type} [FloatOps F]

local notation "𝕄" => MT nD τ sig (HIx 1) (Elt F) ℕ UU ℕ

/-! ## Rows of the arrays, shared out

The rows a processor is handed are named by a test `p` on the row's number: a tile's are the one row it works on, a
SparseCore's are those of its parity, and all rows are the whole of every array. -/

/-- The elements of the rows `p` holds of. -/
def rowsOf (s : Shape) (h : 0 < s.rank) (p : ℕ → Bool) : Finset s.Idx := Finset.univ.filter fun i => p (i ⟨0, h⟩).val = true

/-- The row test of one row. -/
def isRow (n : ℕ) : ℕ → Bool := fun k => decide (k = n)
/-- The row test of a SparseCore: every other row. -/
def isCore (c : ℕ) : ℕ → Bool := fun k => decide (k % 2 = c)
/-- The row test of the whole. -/
def isAny : ℕ → Bool := fun _ => true

theorem rowsOf_isRow (s : Shape) (h : 0 < s.rank) (n : ℕ) : rowsOf s h (isRow n) = rowOf s h n := by
  unfold rowsOf rowOf isRow
  ext i
  simp

theorem rowsOf_isAny (s : Shape) (h : 0 < s.rank) : rowsOf s h isAny = Finset.univ := by
  unfold rowsOf isAny
  simp

/-- `q` deals the sixteen rows of `p` out among `T`. -/
structure Deals {T : Type} (p : ℕ → Bool) (q : T → ℕ → Bool) : Prop where
  apart : ∀ t t', t ≠ t' → ∀ n, q t n = true → q t' n = true → False
  cover : ∀ n < 16, p n = true ↔ ∃ t, q t n = true

theorem rowsOf_disjoint {T : Type} {p : ℕ → Bool} {q : T → ℕ → Bool} (hd : Deals p q) (s : Shape) (h : 0 < s.rank) (S : Finset T) :
    ∀ t ∈ S, ∀ t' ∈ S, t ≠ t' → Disjoint (rowsOf s h (q t)) (rowsOf s h (q t')) := by
  intro t _ t' _ hne
  rw [Finset.disjoint_left]
  intro i hi hi'
  exact hd.apart t t' hne _ (Finset.mem_filter.mp hi).2 (Finset.mem_filter.mp hi').2

theorem rowsOf_cover {T : Type} [Fintype T] {p : ℕ → Bool} {q : T → ℕ → Bool} (hd : Deals p q) (s : Shape) (h : 0 < s.rank)
    (hs : ∀ i : s.Idx, (i ⟨0, h⟩).val < 16) : (Finset.univ : Finset T).biUnion (fun t => rowsOf s h (q t)) = rowsOf s h p := by
  ext i
  rw [Finset.mem_biUnion]
  unfold rowsOf
  simp only [Finset.mem_filter, Finset.mem_univ, true_and]
  exact (hd.cover _ (hs i)).symm

/-- The sixteen rows are dealt to the two SparseCores by parity. -/
theorem deals_cores : Deals isAny (fun c : Fin 2 => isCore c.val) where
  apart t t' hne n h h' := by
    have h := of_decide_eq_true h
    have h' := of_decide_eq_true h'
    exact hne (Fin.ext (by omega))
  cover n _ := by
    refine ⟨fun _ => ⟨⟨n % 2, by omega⟩, decide_eq_true rfl⟩, fun _ => rfl⟩

/-- A SparseCore's rows are dealt to its sixteen tiles, one each and none to the last eight. -/
theorem deals_tiles (c : ℕ) (hc : c < 2) : Deals (isCore c) (fun i : Fin 16 => isRow (2 * i.val + c)) where
  apart t t' hne n h h' := by
    have h := of_decide_eq_true h
    have h' := of_decide_eq_true h'
    exact hne (Fin.ext (by omega))
  cover n hn := by
    constructor
    · intro h
      have h := of_decide_eq_true h
      exact ⟨⟨n / 2, by omega⟩, decide_eq_true (by show n = 2 * (n / 2) + c; omega)⟩
    · rintro ⟨t, h⟩
      have h := of_decide_eq_true h
      exact decide_eq_true (by omega)

section Pieces

variable (Cand : Vec F S16x384x80 .f32) (Candq : Vec F S16x384 .i32) (Tv : Vec F S16x1x16 .f32) (Ts : Vec F S16x1x16 .i32)
  (Box : Vec F S16x80000 .f32)

/-- The three results' contents. -/
abbrev Outs (F : FTy → Type) : Type := Vec F S16x384 .f32 × Vec F S16x384 .i32 × Vec F S16x1536 .f32

/-- The rows of `p` of the five operands. -/
def inPts (d : Dev nD) (p : ℕ → Bool) : sProp 𝕄 :=
  iprop((candLoc d ↦[rowsOf S16x384x80 (by decide) p]{fullShare} Cand) ∗ (candqLoc d ↦[rowsOf S16x384 (by decide) p]{fullShare} Candq)
    ∗ (tvLoc d ↦[rowsOf S16x1x16 (by decide) p]{fullShare} Tv) ∗ (tsLoc d ↦[rowsOf S16x1x16 (by decide) p]{fullShare} Ts)
    ∗ (boxLoc d ↦[rowsOf S16x80000 (by decide) p]{fullShare} Box))

/-- The rows of `p` of the three results. -/
def outPts (d : Dev nD) (p : ℕ → Bool) (fs : Outs F) : sProp 𝕄 :=
  iprop((wvLoc d ↦[rowsOf S16x384 (by decide) p]{fullShare} fs.1) ∗ (wgLoc d ↦[rowsOf S16x384 (by decide) p]{fullShare} fs.2.1)
    ∗ (wbLoc d ↦[rowsOf S16x1536 (by decide) p]{fullShare} fs.2.2))

/-- The rows of `p` of the results are what the work leaves. -/
def Done (p : ℕ → Bool) (fs : Outs F) : Prop :=
  ∀ b : Fin 16, p b.val = true → RowOK Cand Candq Tv Ts Box b fs.1 fs.2.1 fs.2.2

/-- The rows of `p` of the three results, as the work leaves them. -/
def donePts (d : Dev nD) (p : ℕ → Bool) : sProp 𝕄 :=
  iprop(∃ fs : Outs F, ⌜Done Cand Candq Tv Ts Box p fs⌝ ∗ outPts d p fs)

variable {T : Type} [Fintype T] {p : ℕ → Bool} {q : T → ℕ → Bool} (hd : Deals p q)
include hd

omit hd [FloatOps F] [Fintype T] in
theorem sep_eq {A A' B B' : sProp 𝕄} (h : A = A') (h' : B = B') : (iprop(A ∗ B) : sProp 𝕄) = iprop(A' ∗ B') := by
  rw [h, h']

/-- One array's rows are the rows dealt out. -/
theorem rows_split {ℓ : Loc nD τ sig} (h : 0 < ℓ.2.ty.shape.rank) (hs : ∀ i : ℓ.2.ty.shape.Idx, (i ⟨0, h⟩).val < 16) (f : Buf (Elt F) ℓ) :
    (ℓ ↦[rowsOf ℓ.2.ty.shape h p]{fullShare} f : sProp 𝕄)
      = bigSep (Finset.univ : Finset T) fun t => ℓ ↦[rowsOf ℓ.2.ty.shape h (q t)]{fullShare} f := by
  rw [← pointsTo_biUnion (Finset.univ : Finset T) (ℓ := ℓ) (fun t => rowsOf ℓ.2.ty.shape h (q t)) (rowsOf_disjoint hd _ _ _),
    rowsOf_cover hd _ _ hs]

/-- Rows dealt out, each at contents of its own, are the rows at contents agreeing with each. -/
theorem rows_join {ℓ : Loc nD τ sig} (h : 0 < ℓ.2.ty.shape.rank) (hs : ∀ i : ℓ.2.ty.shape.Idx, (i ⟨0, h⟩).val < 16)
    (fs : T → Buf (Elt F) ℓ) (f₀ : Buf (Elt F) ℓ) :
    (bigSep (Finset.univ : Finset T) fun t => ℓ ↦[rowsOf ℓ.2.ty.shape h (q t)]{fullShare} fs t : sProp 𝕄)
      ⊢ iprop(∃ g : Buf (Elt F) ℓ, ⌜∀ t, ∀ i ∈ rowsOf ℓ.2.ty.shape h (q t), g i = fs t i⌝ ∗ ℓ ↦[rowsOf ℓ.2.ty.shape h p]{fullShare} g) := by
  iintro H
  ihave H' := (pointsTo_biUnion_join (ℓ := ℓ) (q := fullShare) (Val := Elt F) (Finset.univ : Finset T)
    (fun t => rowsOf ℓ.2.ty.shape h (q t)) fs f₀ (rowsOf_disjoint hd _ _ _)) $$ H
  icases H' with ⟨%g, %hg, Hg⟩
  rw [rowsOf_cover hd _ _ hs]
  iexists g
  isplitr
  · ipureintro; exact fun t => hg t (Finset.mem_univ t)
  · iexact Hg

/-- The operands' rows are the rows dealt out. -/
theorem inPts_split (d : Dev nD) :
    (inPts Cand Candq Tv Ts Box d p : sProp 𝕄) = bigSep (Finset.univ : Finset T) fun t => inPts Cand Candq Tv Ts Box d (q t) := by
  unfold inPts
  rw [bigSep_sep', bigSep_sep', bigSep_sep', bigSep_sep']
  exact sep_eq (rows_split (ℓ := candLoc d) hd (Nat.succ_pos _) (fun i => (i 0).isLt) Cand)
    (sep_eq (rows_split (ℓ := candqLoc d) hd (Nat.succ_pos _) (fun i => (i 0).isLt) Candq)
    (sep_eq (rows_split (ℓ := tvLoc d) hd (Nat.succ_pos _) (fun i => (i 0).isLt) Tv)
    (sep_eq (rows_split (ℓ := tsLoc d) hd (Nat.succ_pos _) (fun i => (i 0).isLt) Ts)
    (rows_split (ℓ := boxLoc d) hd (Nat.succ_pos _) (fun i => (i 0).isLt) Box))))

/-- The results' rows are the rows dealt out. -/
theorem outPts_split (d : Dev nD) (fs : Outs F) :
    (outPts d p fs : sProp 𝕄) = bigSep (Finset.univ : Finset T) fun t => outPts d (q t) fs := by
  unfold outPts
  rw [bigSep_sep', bigSep_sep']
  exact sep_eq (rows_split (ℓ := wvLoc d) hd (Nat.succ_pos _) (fun i => (i 0).isLt) fs.1)
    (sep_eq (rows_split (ℓ := wgLoc d) hd (Nat.succ_pos _) (fun i => (i 0).isLt) fs.2.1)
    (rows_split (ℓ := wbLoc d) hd (Nat.succ_pos _) (fun i => (i 0).isLt) fs.2.2))

omit hd in
/-- The results' rows, each at contents of its own, array by array. -/
theorem outPts_arrays (d : Dev nD) (fs : T → Outs F) :
    (bigSep (Finset.univ : Finset T) fun t => outPts d (q t) (fs t) : sProp 𝕄)
      = iprop((bigSep (Finset.univ : Finset T) fun t => wvLoc d ↦[rowsOf S16x384 (by decide) (q t)]{fullShare} (fs t).1)
        ∗ (bigSep (Finset.univ : Finset T) fun t => wgLoc d ↦[rowsOf S16x384 (by decide) (q t)]{fullShare} (fs t).2.1)
        ∗ (bigSep (Finset.univ : Finset T) fun t => wbLoc d ↦[rowsOf S16x1536 (by decide) (q t)]{fullShare} (fs t).2.2)) := by
  unfold outPts
  rw [bigSep_sep', bigSep_sep']

omit hd in
theorem RowOK.congr {b : Fin 16} {Wv Wv' : Vec F S16x384 .f32} {Wg Wg' : Vec F S16x384 .i32} {Wb Wb' : Vec F S16x1536 .f32}
    (h : RowOK Cand Candq Tv Ts Box b Wv Wg Wb) (hv : ∀ k, Wv' (ix2 b k) = Wv (ix2 b k)) (hg : ∀ k, Wg' (ix2 b k) = Wg (ix2 b k))
    (hb : ∀ e, Wb' (ix2 b e) = Wb (ix2 b e)) : RowOK Cand Candq Tv Ts Box b Wv' Wg' Wb' :=
  ⟨fun n hn hs k hk => (hv k).trans (h.val n hn hs k hk), fun n hn hs k hk => (hg k).trans (h.gid n hn hs k hk),
    fun n hn hs k hk c e he => (hb e).trans (h.box n hn hs k hk c e he)⟩

/-- The results' rows, dealt out and each left as the work leaves it, are so together. -/
theorem donePts_join [∀ e, Nonempty (Elt F e)] (t₀ : T) (d : Dev nD) :
    (bigSep (Finset.univ : Finset T) fun t => donePts Cand Candq Tv Ts Box d (q t) : sProp 𝕄) ⊢ donePts Cand Candq Tv Ts Box d p := by
  classical
  refine (bigSep_exists_pi (Finset.univ : Finset T) fun t (fs : Outs F) => iprop(⌜Done Cand Candq Tv Ts Box (q t) fs⌝ ∗ outPts d (q t) fs)).trans ?_
  iintro ⟨%fs, H⟩
  ihave H := (bigSep_pure_sep (Finset.univ : Finset T) _ _) $$ H
  icases H with ⟨%hok, H⟩
  ihave H := (Entails.of_eq (outPts_arrays d fs)) $$ H
  icases H with ⟨Hv, Hg, Hb⟩
  ihave Hv := (rows_join (ℓ := wvLoc d) hd (Nat.succ_pos _) (fun i => (i 0).isLt) (fun t => (fs t).1) (fs t₀).1) $$ Hv
  ihave Hg := (rows_join (ℓ := wgLoc d) hd (Nat.succ_pos _) (fun i => (i 0).isLt) (fun t => (fs t).2.1) (fs t₀).2.1) $$ Hg
  ihave Hb := (rows_join (ℓ := wbLoc d) hd (Nat.succ_pos _) (fun i => (i 0).isLt) (fun t => (fs t).2.2) (fs t₀).2.2) $$ Hb
  icases Hv with ⟨%gv, %hv, Hv⟩
  icases Hg with ⟨%gg, %hg, Hg⟩
  icases Hb with ⟨%gb, %hb, Hb⟩
  unfold donePts outPts
  iexists (gv, gg, gb)
  isplitr
  · ipureintro
    intro b hb'
    obtain ⟨t, ht⟩ := (hd.cover b.val b.isLt).mp hb'
    exact (hok t (Finset.mem_univ t) b ht).congr _ _ _ _ _ (fun k => hv t _ (Finset.mem_filter.mpr ⟨Finset.mem_univ _, ht⟩))
      (fun k => hg t _ (Finset.mem_filter.mpr ⟨Finset.mem_univ _, ht⟩)) (fun k => hb t _ (Finset.mem_filter.mpr ⟨Finset.mem_univ _, ht⟩))
  isplitl [Hv]; · iexact Hv
  isplitl [Hg]; · iexact Hg
  iexact Hb

end Pieces

end Cert.Proof.Stage4
end
-- ==== Proof.Launch.lean ====
module

public import proofs.«01_k».proof.Proof.Split

@[expose] public section

noncomputable section

namespace Cert.Proof.Stage4

open Cert.KernelIdeal Cert.KernelIdeal.Gen
open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)
open Cert.Proof.Compact Cert.Proof.Lanes

variable {F : FTy → Type} [FloatOps F]

local notation "𝕄" => MT nD τ sig (HIx 1) (Elt F) ℕ UU ℕ

/-! ## A tile's obligation -/

section Tile

variable (d : Dev nD) (Cand : Vec F S16x384x80 .f32) (Candq : Vec F S16x384 .i32) (Tv : Vec F S16x1x16 .f32) (Ts : Vec F S16x1x16 .i32)
  (Box : Vec F S16x80000 .f32) (fs : Outs F)

/-- A tile's operands, in the body's spelling. -/
theorem inPts_row (L : grid0.Coords) (h1 : k0_cond1 L = 1#1) :
    (inPts Cand Candq Tv Ts Box d (isRow (rowNo L)) : sProp 𝕄)
      = iprop(((candRow L h1).view.loc (th d L) ↦[(candRow L h1).view.set]{fullShare} Cand)
        ∗ ((candqRow L h1).view.loc (th d L) ↦[(candqRow L h1).view.set]{fullShare} Candq)
        ∗ ((tvRow L h1).view.loc (th d L) ↦[(tvRow L h1).view.set]{fullShare} Tv)
        ∗ ((tsRow L h1).view.loc (th d L) ↦[(tsRow L h1).view.set]{fullShare} Ts)
        ∗ ((boxRow L h1).view.loc (th d L) ↦[(boxRow L h1).view.set]{fullShare} Box)) := by
  unfold inPts
  simp only [rowsOf_isRow]
  rw [pts_candRow d L h1, pts_candqRow d L h1, pts_tvRow d L h1, pts_tsRow d L h1, pts_boxRow d L h1]

/-- A tile's results, in the body's spelling. -/
theorem outPts_row (L : grid0.Coords) (h1 : k0_cond1 L = 1#1) :
    (outPts d (isRow (rowNo L)) fs : sProp 𝕄)
      = iprop(((wvRow L h1).view.loc (th d L) ↦[(wvRow L h1).view.set]{fullShare} fs.1)
        ∗ ((wgRow L h1).view.loc (th d L) ↦[(wgRow L h1).view.set]{fullShare} fs.2.1)
        ∗ ((wbRow L h1).view.loc (th d L) ↦[(wbRow L h1).view.set]{fullShare} fs.2.2)) := by
  unfold outPts
  simp only [rowsOf_isRow]
  rw [pts_wvRow d L h1, pts_wgRow d L h1, pts_wbRow d L h1]

/-- A tile does its row's work; a tile without a row does nothing. -/
theorem tile_body (hFit : ∀ b : Fin 16, Fits (candOf Cand b) (candqOf Candq b) (tvOf Tv b) (tsOf Ts b)) (L : grid0.Coords)
    (hF : (K (F := F)).Facts) (O : CellTallies nD τ sig (HIx 1)) (W : Waits sig (HIx 1)) (hO : ∀ g, O g none = 0) :
    iprop(levAts (K (F := F)).L (K (F := F)).lev ∗ emp
        ∗ (inPts Cand Candq Tv Ts Box d (isRow (rowNo L)) ∗ outPts d (isRow (rowNo L)) fs)
        ∗ scopedBufs (th d L) ∗ scopedSems0 (th d L) ∗ owes (th d L) O W : sProp 𝕄)
      ⊢ wp frame (wpE (defs₀ (F := F)) 𝒱₀ (th d L) none) Set.univ (tileProg (F := F) L)
          fun _ => iprop((inPts Cand Candq Tv Ts Box d (isRow (rowNo L)) ∗ donePts Cand Candq Tv Ts Box d (isRow (rowNo L)))
            ∗ scopedBufs (th d L) ∗ scopedSems0 (th d L)
            ∗ ∃ W', ⌜∀ p ∈ W', p ∈ W ∨ p.2 = none ∨ p.2 = some (0 : Fin 1)⌝ ∗ owes (th d L) O W') := by
  rw [(K (F := F)).scopedBufs_V hF d (cV L) (jV L), SparseCore.Cfg.scopedSems0_V (Val := Elt F) d (cV L) (jV L)]
  by_cases h1 : k0_cond1 L = 1#1
  · rw [inPts_row d Cand Candq Tv Ts Box L h1, outPts_row d fs L h1]
    refine BIBase.Entails.trans ?_ ((tile_run d L h1 hF O W hO Cand Candq Tv Ts Box fs.1 fs.2.1 fs.2.2 (hFit _)).trans (wp_mono frame _ _ fun _ => ?_))
    · iintro ⟨Hlev, -, ⟨⟨Hc, Hq, Hv, Hs, Hb⟩, Hwv, Hwg, Hwb⟩, Hbuf, Hsem, HO⟩
      isplitl [Hlev]; · iexact Hlev
      isplitl [Hc]; · iexact Hc
      isplitl [Hq]; · iexact Hq
      isplitl [Hv]; · iexact Hv
      isplitl [Hs]; · iexact Hs
      isplitl [Hb]; · iexact Hb
      isplitl [Hwv]; · iexact Hwv
      isplitl [Hwg]; · iexact Hwg
      isplitl [Hwb]; · iexact Hwb
      isplitl [Hbuf]; · iexact Hbuf
      isplitl [Hsem]; · iexact Hsem
      iexact HO
    · iintro ⟨Hc, Hq, Hv, Hs, Hb, ⟨%Wv, %Wg, %Wb, Hwv, Hwg, Hwb, %hok⟩, Hbuf, Hsem, HO⟩
      isplitl [Hc Hq Hv Hs Hb Hwv Hwg Hwb]
      · isplitl [Hc Hq Hv Hs Hb]
        · isplitl [Hc]; · iexact Hc
          isplitl [Hq]; · iexact Hq
          isplitl [Hv]; · iexact Hv
          isplitl [Hs]; · iexact Hs
          iexact Hb
        unfold donePts
        iexists (Wv, Wg, Wb)
        isplitr
        · ipureintro
          intro b hb
          have hb : b = rowFin L h1 := Fin.ext (of_decide_eq_true hb)
          rw [hb]; exact hok
        rw [outPts_row d (Wv, Wg, Wb) L h1]
        isplitl [Hwv]; · iexact Hwv
        isplitl [Hwg]; · iexact Hwg
        iexact Hwb
      isplitl [Hbuf]; · iexact Hbuf
      isplitl [Hsem]; · iexact Hsem
      iexact HO
  · rw [tileProg_neg L h1]
    iintro ⟨-, -, ⟨Hin, Hout⟩, Hbuf, Hsem, HO⟩
    sl_step
    isplitl [Hin Hout]
    · isplitl [Hin]; · iexact Hin
      unfold donePts
      iexists fs
      isplitr
      · ipureintro
        intro b hb
        have hb : b.val = rowNo L := of_decide_eq_true hb
        exact absurd ((cond_iff L).mpr (hb ▸ b.isLt)) h1
      · iexact Hout
    isplitl [Hbuf]; · iexact Hbuf
    isplitl [Hsem]; · iexact Hsem
    iexists W; isplitr
    · ipureintro; exact fun p hp => .inl hp
    · iexact HO

end Tile

/-! ## What the handshakes carry -/

section Launch

variable (m : (ℓ : Loc nD τ sig) → Buf (Elt F) ℓ) (ρ : Dev nD → PrngReg)

/-- The call's operands: four arguments, and the boxes with their rows flattened. -/
abbrev aCand (d : Dev nD) : Vec F S16x384x80 .f32 := m (candLoc d)
abbrev aCandq (d : Dev nD) : Vec F S16x384 .i32 := m (candqLoc d)
abbrev aTv (d : Dev nD) : Vec F S16x1x16 .f32 := m (tvLoc d)
abbrev aTs (d : Dev nD) : Vec F S16x1x16 .i32 := m (tsLoc d)
abbrev aBoxes (d : Dev nD) : Vec F S16x20000x4 .f32 := m ((SparseCore.T d).loc main_arg4)
abbrev aBox (d : Dev nD) : Vec F S16x80000 .f32 := shapeCast S16x80000 (aBoxes m d) shapeCasts_S16x20000x4_S16x80000

/-- The results' arrays at the launch. -/
abbrev outs₀ (d : Dev nD) : Outs F := (m (wvLoc d), m (wgLoc d), m (wbLoc d))

/-- A part of the operands, of the results, and of the results as the work leaves them. -/
abbrev inM (d : Dev nD) (p : ℕ → Bool) : sProp 𝕄 := inPts (aCand m d) (aCandq m d) (aTv m d) (aTs m d) (aBox m d) d p
abbrev outM (d : Dev nD) (p : ℕ → Bool) : sProp 𝕄 := outPts d p (outs₀ m d)
abbrev doneM (d : Dev nD) (p : ℕ → Bool) : sProp 𝕄 := donePts (aCand m d) (aCandq m d) (aTv m d) (aTs m d) (aBox m d) d p

instance inPts_storable (Cand : Vec F S16x384x80 .f32) (Candq : Vec F S16x384 .i32) (Tv : Vec F S16x1x16 .f32) (Ts : Vec F S16x1x16 .i32)
    (Box : Vec F S16x80000 .f32) (d : Dev nD) (p : ℕ → Bool) : BI.Storable (upEmb : UEmb _ 𝕄) (inPts Cand Candq Tv Ts Box d p) := by
  unfold inPts; infer_instance
instance outPts_storable (d : Dev nD) (p : ℕ → Bool) (fs : Outs F) : BI.Storable (upEmb : UEmb _ 𝕄) (outPts d p fs) := by
  unfold outPts; infer_instance
instance donePts_storable (Cand : Vec F S16x384x80 .f32) (Candq : Vec F S16x384 .i32) (Tv : Vec F S16x1x16 .f32) (Ts : Vec F S16x1x16 .i32)
    (Box : Vec F S16x80000 .f32) (d : Dev nD) (p : ℕ → Bool) : BI.Storable (upEmb : UEmb _ 𝕄) (donePts Cand Candq Tv Ts Box d p) := by
  unfold donePts; infer_instance

/-- A SparseCore is handed its rows of every array and hands them back, the results' done; so is each of its tiles. -/
def P : (K (F := F)).Pay (nD := nD) (Val := Elt F) (Name := ℕ) (U := UU) where
  st := fun q d c => match q with | 0 => iprop(inM m d (isCore c.val) ∗ outM m d (isCore c.val))
  dn := fun q d c => match q with | 0 => iprop(inM m d (isCore c.val) ∗ doneM m d (isCore c.val))
  go := fun q d c i => match q with | 0 => iprop(inM m d (isRow (2 * i.val + c.val)) ∗ outM m d (isRow (2 * i.val + c.val)))
  td := fun q d c i => match q with | 0 => iprop(inM m d (isRow (2 * i.val + c.val)) ∗ doneM m d (isRow (2 * i.val + c.val)))
  x := fun _ _ => iprop(emp)

instance P_storable : (P (F := F) m).IsStorable where
  st q d c := match q with
    | 0 => (inferInstance : BI.Storable (upEmb : UEmb _ 𝕄) iprop(inM m d (isCore c.val) ∗ outM m d (isCore c.val)))
  dn q d c := match q with
    | 0 => (inferInstance : BI.Storable (upEmb : UEmb _ 𝕄) iprop(inM m d (isCore c.val) ∗ doneM m d (isCore c.val)))
  go q d c i := match q with
    | 0 => (inferInstance : BI.Storable (upEmb : UEmb _ 𝕄) iprop(inM m d (isRow (2 * i.val + c.val)) ∗ outM m d (isRow (2 * i.val + c.val))))
  td q d c i := match q with
    | 0 => (inferInstance : BI.Storable (upEmb : UEmb _ 𝕄) iprop(inM m d (isRow (2 * i.val + c.val)) ∗ doneM m d (isRow (2 * i.val + c.val))))

/-- A grid position, from its two coordinates. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => tileProg (F := F) (coordsV c s)) ⟨⟩ c s := rfl

/-- Every candidate row fits its buffers. -/
abbrev AllFit : Prop := ∀ (d : Dev nD) (b : Fin 16),
  Fits (candOf (aCand m d) b) (candqOf (aCandq m d) b) (tvOf (aTv m d) b) (tsOf (aTs m d) b)

/-- Each tile meets its obligation. -/
theorem tileObl (hFit : AllFit m) (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d _ _ _ _ _ (outs₀ m d) (hFit d) (coordsV ⟨_, hci.1⟩ ⟨_, hci.2⟩) hF O W hO

/-- A SparseCore's rows go out to its tiles and come back. -/
theorem vecSplit [∀ e, Nonempty (Elt F e)] : (K (F := F)).VecSplit' (P m) 0 := by
  intro d c
  have hd := deals_tiles c.val c.isLt
  show iprop(inM m d (isCore c.val) ∗ outM m d (isCore c.val)) ⊢ |={Set.univ}=> iprop(
      (bigSep (Finset.univ : Finset (Fin 16)) fun i => iprop(inM m d (isRow (2 * i.val + c.val)) ∗ outM m d (isRow (2 * i.val + c.val))))
      ∗ ((bigSep (Finset.univ : Finset (Fin 16)) fun i => iprop(inM m d (isRow (2 * i.val + c.val)) ∗ doneM m d (isRow (2 * i.val + c.val))))
          -∗ iprop(inM m d (isCore c.val) ∗ doneM m d (isCore c.val))))
  rw [bigSep_sep', bigSep_sep', ← inPts_split _ _ _ _ _ hd, ← outPts_split hd]
  iintro H; imodintro
  isplitl [H]; · iexact H
  iintro ⟨Hin, Hout⟩
  isplitl [Hin]; · iexact Hin
  iapply (donePts_join _ _ _ _ _ hd 0 d); iexact Hout

/-! ## The launch's ghost state: the handshakes' rounds -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

end Launch

end Cert.Proof.Stage4
end
-- ==== Proof.Main.lean ====
module

public import proofs.«01_k».proof.Proof.Launch

@[expose] public section

noncomputable section

namespace Cert.Proof.Stage4

open Cert.KernelIdeal Cert.KernelIdeal.Gen
open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)
open Cert.Proof.Compact Cert.Proof.Lanes

variable {F : FTy → Type} [FloatOps F]

local notation "𝕄" => MT nD τ sig (HIx 1) (Elt F) ℕ UU ℕ

/-! ## The host's operations

Each reads one array and writes another. -/

/-- The two arrays of such an operation, as points-tos. -/
theorem held_pair (d : Dev nD) {x y : Ref sig .tc} (h : x ≠ y) (V : Valuation τ sig (Elt F)) :
    (held (SparseCore.T d) {Proc.devRef .tc x, Proc.devRef .tc y} V : sProp 𝕄)
      = iprop(((SparseCore.T d : Thread nD τ).loc x ↦{fullShare} V (Proc.devRef .tc x)) ∗ (SparseCore.T d : Thread nD τ).loc y ↦{fullShare} V (Proc.devRef .tc y)) := by
  unfold held
  rw [SparseCore.bigSep_insert' (by rw [Finset.mem_singleton]; exact StableHlo.devRef_ne_of_ne h), bigSep_singleton]

section Launch

variable (m : (ℓ : Loc nD τ sig) → Buf (Elt F) ℓ) (ρ : Dev nD → PrngReg)

include m in
/-- An operation from `x` to `y`: `x` is kept, `y` ends at the operation's value. -/
theorem wp_pair (d : Dev nD) {x y : Ref sig .tc} (h : x ≠ y) (op : HloOp τ sig (Elt F))
    (hb : op.bufs ⊆ {Proc.devRef .tc x, Proc.devRef .tc y}) (hw : op.writes = {Proc.devRef .tc y}) (hf : op.fresh = ∅)
    (fx : Buf (Elt F) ((SparseCore.T d : Thread nD τ).loc x)) (fy g : Buf (Elt F) ((SparseCore.T d : Thread nD τ).loc y))
    (hg : ∀ V : Valuation τ sig (Elt F), V (Proc.devRef .tc x) = fx → op.result V (Proc.devRef .tc y) = g)
    {Q : PUnit → sProp 𝕄} :
    iprop(boundary (SparseCore.T d) ∗ ((SparseCore.T d : Thread nD τ).loc x ↦{fullShare} fx) ∗ ((SparseCore.T d : Thread nD τ).loc y ↦{fullShare} fy) : sProp 𝕄)
      ⊢ iprop(((boundary (SparseCore.T d) ∗ ((SparseCore.T d : Thread nD τ).loc x ↦{fullShare} fx) ∗ ((SparseCore.T d : Thread nD τ).loc y ↦{fullShare} g)) -∗ Q ⟨⟩)
        -∗ wp frame (wpE ((K (F := F)).defs (D (F := F))) 𝒱 (SparseCore.T d) none) Set.univ (hlo rfl op fun _ => .ret ⟨⟩) Q) := by
  have hne : (Proc.devRef (τ := τ) .tc x : DevRef τ sig) ≠ Proc.devRef .tc y := StableHlo.devRef_ne_of_ne h
  obtain ⟨V, hV⟩ : ∃ V : Valuation τ sig (Elt F),
    V = Function.update (Function.update (fun b => m (d, b)) (Proc.devRef .tc x) fx) (Proc.devRef .tc y) fy := ⟨_, rfl⟩
  have hx : V (Proc.devRef .tc x) = fx := by rw [hV, Function.update_of_ne hne, Function.update_self]
  have hy : V (Proc.devRef .tc y) = fy := by rw [hV, Function.update_self]
  have hx' : op.result V (Proc.devRef .tc x) = fx := by
    rw [op.result_of_not_mem V (by rw [hw, Finset.mem_singleton]; exact hne), hx]
  iintro ⟨Hb, Hx, Hy⟩ Hk
  iapply (wp_hlo_within 𝒱 (SparseCore.T d) none Set.univ (op := op) (S := {Proc.devRef .tc x, Proc.devRef .tc y}) hb (V := V) hf) $$ [Hb Hx Hy]
  · isplitl [Hb]; · iexact Hb
    rw [held_pair d h, hx, hy]
    isplitl [Hx]; · iexact Hx
    iexact Hy
  iintro ⟨Hb, Hheld⟩
  ihave Hh := (Entails.of_eq (held_pair (F := F) d h _)) $$ Hheld
  rw [hx', hg V hx]
  icases Hh with ⟨Hx, Hy⟩
  rw [wp_ret]; imodintro
  iapply Hk
  isplitl [Hb]; · iexact Hb
  isplitl [Hx]; · iexact Hx
  iexact Hy

/-! ## @main on the TensorCore -/

abbrev arg4Loc (d : Dev nD) : Loc nD τ sig := (SparseCore.T d).loc main_arg4
abbrev r0Loc (d : Dev nD) : Loc nD τ sig := (SparseCore.T d).loc main_v2
abbrev r1Loc (d : Dev nD) : Loc nD τ sig := (SparseCore.T d).loc main_v3
abbrev r2aLoc (d : Dev nD) : Loc nD τ sig := (SparseCore.T d).loc main_v4
abbrev r2Loc (d : Dev nD) : Loc nD τ sig := (SparseCore.T d).loc main_v5

/-- The TensorCore's arrays: the arguments, the call's last operand and its results, and what the host makes of those. -/
theorem unscopedBufs_eq (d : Dev nD) (W : (b : Ref sig .tc) → Buf (Elt F) ((d.tc : Thread nD τ).loc b)) :
    (unscopedBufs d W : sProp 𝕄)
      = iprop((candLoc d ↦{fullShare} W main_arg0) ∗ (candqLoc d ↦{fullShare} W main_arg1) ∗ (tvLoc d ↦{fullShare} W main_arg2)
        ∗ (tsLoc d ↦{fullShare} W main_arg3) ∗ (arg4Loc d ↦{fullShare} W main_arg4) ∗ (boxLoc d ↦{fullShare} W main_v0)
        ∗ (wvLoc d ↦{fullShare} W main_v1_0) ∗ (wgLoc d ↦{fullShare} W main_v1_1) ∗ (wbLoc d ↦{fullShare} W main_v1_2)
        ∗ (r0Loc d ↦{fullShare} W main_v2) ∗ (r1Loc d ↦{fullShare} W main_v3) ∗ (r2aLoc d ↦{fullShare} W main_v4)
        ∗ (r2Loc d ↦{fullShare} W main_v5)) := by
  unfold unscopedBufs
  rw [show (Finset.univ.filter fun b : Ref sig .tc => ¬ b.isScoped) = {main_arg0, main_arg1, main_arg2, main_arg3, main_arg4, main_v0,
      main_v1_0, main_v1_1, main_v1_2, main_v2, main_v3, main_v4, main_v5} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The call takes every row of every array, by SparseCore, -/
theorem st0_eq (d : Dev nD) :
    (bigSep Finset.univ fun c : Fin ((K (F := F)).nCore 0) => (P m).st 0 d c) = iprop(inM m d isAny ∗ outM m d isAny) := by
  show (bigSep (Finset.univ : Finset (Fin 2)) fun c => iprop(inM m d (isCore c.val) ∗ outM m d (isCore c.val))) = _
  rw [bigSep_sep', ← inPts_split _ _ _ _ _ deals_cores, ← outPts_split deals_cores]

/-- and hands them back, the results' done. -/
theorem dn0_ent [∀ e, Nonempty (Elt F e)] (d : Dev nD) :
    (bigSep Finset.univ fun c : Fin ((K (F := F)).nCore 0) => (P m).dn 0 d c) ⊢ (iprop(inM m d isAny ∗ doneM m d isAny) : sProp 𝕄) := by
  show (bigSep (Finset.univ : Finset (Fin 2)) fun c => iprop(inM m d (isCore c.val) ∗ doneM m d (isCore c.val))) ⊢ _
  rw [bigSep_sep', ← inPts_split _ _ _ _ _ deals_cores]
  iintro ⟨Hin, Hout⟩
  isplitl [Hin]; · iexact Hin
  iapply (donePts_join _ _ _ _ _ deals_cores 0 d); iexact Hout

/-- All rows of the operands are the operands. -/
theorem inPts_any (Cand : Vec F S16x384x80 .f32) (Candq : Vec F S16x384 .i32) (Tv : Vec F S16x1x16 .f32) (Ts : Vec F S16x1x16 .i32)
    (Box : Vec F S16x80000 .f32) (d : Dev nD) :
    (inPts Cand Candq Tv Ts Box d isAny : sProp 𝕄) = iprop((candLoc d ↦{fullShare} Cand) ∗ (candqLoc d ↦{fullShare} Candq)
      ∗ (tvLoc d ↦{fullShare} Tv) ∗ (tsLoc d ↦{fullShare} Ts) ∗ (boxLoc d ↦{fullShare} Box)) := by
  unfold inPts
  simp only [rowsOf_isAny]

/-- All rows of the results are the results. -/
theorem outPts_any (d : Dev nD) (fs : Outs F) :
    (outPts d isAny fs : sProp 𝕄) = iprop((wvLoc d ↦{fullShare} fs.1) ∗ (wgLoc d ↦{fullShare} fs.2.1) ∗ (wbLoc d ↦{fullShare} fs.2.2)) := by
  unfold outPts
  simp only [rowsOf_isAny]

/-- The program's results, from what the call leaves. -/
abbrev out0 (fs : Outs F) : Vec F S16x300 .f32 := extractStridedSlice S16x300 ![0, 0] fs.1 slices_S16x384_S16x300_0_0
abbrev out1 (fs : Outs F) : Vec F S16x300 .i32 := extractStridedSlice S16x300 ![0, 0] fs.2.1 slices_S16x384_S16x300_0_0
abbrev out2a (fs : Outs F) : Vec F S16x384x4 .f32 := shapeCast S16x384x4 fs.2.2 shapeCasts_S16x1536_S16x384x4
abbrev out2 (fs : Outs F) : Vec F S16x300x4 .f32 := extractStridedSlice S16x300x4 ![0, 0, 0] (out2a fs) slices_S16x384x4_S16x300x4_0_0_0

/-- What @main leaves: the arguments as they were, and the results cut out of what the call left. -/
abbrev FIN (d : Dev nD) : sProp 𝕄 := iprop((candLoc d ↦{fullShare} m (candLoc d)) ∗ (candqLoc d ↦{fullShare} m (candqLoc d))
  ∗ (tvLoc d ↦{fullShare} m (tvLoc d)) ∗ (tsLoc d ↦{fullShare} m (tsLoc d)) ∗ (arg4Loc d ↦{fullShare} m (arg4Loc d))
  ∗ ∃ fs : Outs F, ⌜Done (aCand m d) (aCandq m d) (aTv m d) (aTs m d) (aBox m d) isAny fs⌝
    ∗ (r0Loc d ↦{fullShare} out0 fs) ∗ (r1Loc d ↦{fullShare} out1 fs) ∗ (r2Loc d ↦{fullShare} out2 fs))

/-- @main: the boxes flattened, the call, the results cut. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨H0, H1, H2, H3, H4, Hv0, Hw0, Hw1, Hw2, Hr0, Hr1, Hra, Hr2⟩, Hts, -⟩, -⟩
  iapply (wp_pair m d (x := main_arg4) (y := main_v0) (by decide) _ (Finset.Subset.refl _) rfl rfl (m (arg4Loc d)) _ (aBox m d)
    (fun V hV => (StableHlo.reshape_result _ _ _ _ _ _ V).trans (by rw [hV]; rfl))) $$ [Hb H4 Hv0]
  · isplitl [Hb]; · iexact Hb
    isplitl [H4]; · iexact H4
    iexact Hv0
  iintro ⟨Hb, H4, Hv0⟩
  iapply ((K (F := F)).wp_run (D (F := F)) 𝒱 (EH := EH) (P := P m) κ d 0) $$ [Hst H0 H1 H2 H3 H4 Hv0 Hw0 Hw1 Hw2 Hr0 Hr1 Hra Hr2 Hb Hts]
  isplitr; · iexact Hctx
  isplitl [Hst]; · iexact Hst
  isplitl [H0 H1 H2 H3 Hv0 Hw0 Hw1 Hw2]
  · rw [st0_eq]
    unfold inM outM
    rw [inPts_any, outPts_any]
    isplitl [H0 H1 H2 H3 Hv0]
    · isplitl [H0]; · iexact H0
      isplitl [H1]; · iexact H1
      isplitl [H2]; · iexact H2
      isplitl [H3]; · iexact H3
      iexact Hv0
    isplitl [Hw0]; · iexact Hw0
    isplitl [Hw1]; · iexact Hw1
    iexact Hw2
  iintro ⟨Hst, Hdn⟩
  ihave Hdn' := (dn0_ent m d) $$ Hdn
  icases Hdn' with ⟨Hin, Hout⟩
  ihave Hin := (Entails.of_eq (inPts_any (F := F) _ _ _ _ _ d)) $$ Hin
  icases Hin with ⟨H0, H1, H2, H3, -⟩
  unfold doneM donePts
  icases Hout with ⟨%fs, %hdone, Hout⟩
  ihave Hout := (Entails.of_eq (outPts_any (F := F) d fs)) $$ Hout
  icases Hout with ⟨Hw0, Hw1, Hw2⟩
  iapply (wp_pair m d (x := main_v1_0) (y := main_v2) (by decide) _ (Finset.Subset.refl _) rfl rfl fs.1 _ (out0 fs)
    (fun V hV => (StableHlo.unary_result _ _ _ _ _ V).trans (by rw [hV]))) $$ [Hb Hw0 Hr0]
  · isplitl [Hb]; · iexact Hb
    isplitl [Hw0]; · iexact Hw0
    iexact Hr0
  iintro ⟨Hb, -, Hr0⟩
  iapply (wp_pair m d (x := main_v1_1) (y := main_v3) (by decide) _ (Finset.Subset.refl _) rfl rfl fs.2.1 _ (out1 fs)
    (fun V hV => (StableHlo.unary_result _ _ _ _ _ V).trans (by rw [hV]))) $$ [Hb Hw1 Hr1]
  · isplitl [Hb]; · iexact Hb
    isplitl [Hw1]; · iexact Hw1
    iexact Hr1
  iintro ⟨Hb, -, Hr1⟩
  iapply (wp_pair m d (x := main_v1_2) (y := main_v4) (by decide) _ (Finset.Subset.refl _) rfl rfl fs.2.2 _ (out2a fs)
    (fun V hV => (StableHlo.reshape_result _ _ _ _ _ _ V).trans (by rw [hV]; rfl))) $$ [Hb Hw2 Hra]
  · isplitl [Hb]; · iexact Hb
    isplitl [Hw2]; · iexact Hw2
    iexact Hra
  iintro ⟨Hb, -, Hra⟩
  iapply (wp_pair m d (x := main_v4) (y := main_v5) (by decide) _ (Finset.Subset.refl _) rfl rfl (out2a fs) _ (out2 fs)
    (fun V hV => (StableHlo.unary_result _ _ _ _ _ V).trans (by rw [hV]))) $$ [Hb Hra Hr2]
  · isplitl [Hb]; · iexact Hb
    isplitl [Hra]; · iexact Hra
    iexact Hr2
  iintro ⟨Hb, -, Hr2⟩
  imodintro
  isplitl [Hst]; · iexact Hst
  isplitr [Hb Hts]
  · isplitl [H0]; · iexact H0
    isplitl [H1]; · iexact H1
    isplitl [H2]; · iexact H2
    isplitl [H3]; · iexact H3
    isplitl [H4]; · iexact H4
    iexists fs
    isplitr; · ipureintro; exact hdone
    isplitl [Hr0]; · iexact Hr0
    isplitl [Hr1]; · iexact Hr1
    iexact Hr2
  isplitl [Hb] <;> iassumption

/-- What device `d`'s memory holds at the end. -/
def fq (d : Dev nD) (s' : Phys nD τ sig (Elt F)) : Prop :=
  (s'.mem.mem (candLoc d) = m (candLoc d) ∧ s'.mem.mem (candqLoc d) = m (candqLoc d) ∧ s'.mem.mem (tvLoc d) = m (tvLoc d)
    ∧ s'.mem.mem (tsLoc d) = m (tsLoc d) ∧ s'.mem.mem (arg4Loc d) = m (arg4Loc d))
  ∧ ∃ fs : Outs F, Done (aCand m d) (aCandq m d) (aTv m d) (aTs m d) (aBox m d) isAny fs
    ∧ s'.mem.mem (r0Loc d) = out0 fs ∧ s'.mem.mem (r1Loc d) = out1 fs ∧ s'.mem.mem (r2Loc d) = out2 fs

/-- A whole array's points-to fixes the array, and is kept. -/
theorem whole_agree {ℓ : Loc nD τ sig} (f : Buf (Elt F) ℓ) (s' : Phys nD τ sig (Elt F)) :
    iprop((ℓ ↦{fullShare} f) ∗ SI s' : sProp 𝕄) ⊢ iprop(⌜s'.mem.mem ℓ = f⌝ ∗ SI s') := by
  iintro ⟨Hx, HSI⟩
  ihave H := (persistent_entails_right (SI_pointsTo_agree (st := s') (ℓ := ℓ) (I := Finset.univ) (q := fullShare) (f := f))) $$ [HSI Hx]
  · isplitl [HSI] <;> iassumption
  icases H with ⟨%hx, HSI, -⟩
  isplitr
  · ipureintro; exact funext fun i => hx i (Finset.mem_univ i)
  · iexact HSI

theorem hfin (d : Dev nD) (s' : Phys nD τ sig (Elt F)) : iprop(FIN m d ∗ SI s') ⊢ (⌜fq m d s'⌝ : sProp 𝕄) := by
  iintro ⟨⟨H0, H1, H2, H3, H4, %fs, %hdone, Hr0, Hr1, Hr2⟩, HSI⟩
  ihave H := (whole_agree _ s') $$ [H0 HSI]
  · isplitl [H0] <;> iassumption
  icases H with ⟨%h0, HSI⟩
  ihave H := (whole_agree _ s') $$ [H1 HSI]
  · isplitl [H1] <;> iassumption
  icases H with ⟨%h1, HSI⟩
  ihave H := (whole_agree _ s') $$ [H2 HSI]
  · isplitl [H2] <;> iassumption
  icases H with ⟨%h2, HSI⟩
  ihave H := (whole_agree _ s') $$ [H3 HSI]
  · isplitl [H3] <;> iassumption
  icases H with ⟨%h3, HSI⟩
  ihave H := (whole_agree _ s') $$ [H4 HSI]
  · isplitl [H4] <;> iassumption
  icases H with ⟨%h4, HSI⟩
  ihave H := (whole_agree _ s') $$ [Hr0 HSI]
  · isplitl [Hr0] <;> iassumption
  icases H with ⟨%h5, HSI⟩
  ihave H := (whole_agree _ s') $$ [Hr1 HSI]
  · isplitl [Hr1] <;> iassumption
  icases H with ⟨%h6, HSI⟩
  ihave H := (whole_agree _ s') $$ [Hr2 HSI]
  · isplitl [Hr2] <;> iassumption
  icases H with ⟨%h7, -⟩
  ipureintro; exact ⟨⟨h0, h1, h2, h3, h4⟩, fs, hdone, h5, h6, h7⟩

/-! ## The program's run -/

/-- What is known when the program ends. -/
def QC : PUnit × MemSt nD τ sig (Elt F) → Prop := fun r =>
  (∀ d : Dev nD, (r.2.mem (candLoc d) = m (candLoc d) ∧ r.2.mem (candqLoc d) = m (candqLoc d) ∧ r.2.mem (tvLoc d) = m (tvLoc d)
    ∧ r.2.mem (tsLoc d) = m (tsLoc d) ∧ r.2.mem (arg4Loc d) = m (arg4Loc d))
  ∧ ∃ fs : Outs F, Done (aCand m d) (aCandq m d) (aTv m d) (aTs m d) (aBox m d) isAny fs
    ∧ r.2.mem (r0Loc d) = out0 fs ∧ r.2.mem (r1Loc d) = out1 fs ∧ r.2.mem (r2Loc d) = out2 fs) ∧ r.2.sem = fun _ => 0

/-- The program runs, every semaphore at zero at the end, the arguments unchanged, the results as the work leaves them. -/
theorem run_main [∀ e, Nonempty (Elt F e)] (hFit : AllFit m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hFit facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Launch

end Cert.Proof.Stage4
end
-- ==== Proof.Host.lean ====
module

public import proofs.«01_k».proof.Proof.RowVal
public import proofs.«01_k».proof.Proof.Gen.ReferenceIdeal.Run
public import Idealize.ShloMosaic.Lib.ValueIdxRank6
public import Idealize.ShloMosaic.Lib.Pipeline.Value

@[expose] public section

noncomputable section

/-!
# The host's arrays, read entry by entry

The reference and the precondition both lay the 300 x 80 candidates of a row out flat. Here are those flat arrays, and
what entry `n` of each is in the terms the kernel's proof uses: candidate `n`'s value, its identifier, its query, and
whether it is kept.
-/

namespace Cert.Proof.Stage4

open Cert.ReferenceIdeal Cert.ReferenceIdeal.Gen
open Idealize.ShloMosaic
open Idealize.ShloMosaic.ValueIdx
open Cert.Proof.Lanes

variable {F : FTy → Type} [FloatOps F]

variable (Cand : Vec F S16x384x80 .f32) (Candq : Vec F S16x384 .i32) (Tv : Vec F S16x1x16 .f32) (Ts : Vec F S16x1x16 .i32)

/-- The queries of the first 300 rows. -/
def hQ : Vec F S16x300 .i32 := extractStridedSlice S16x300 ![0, 0] Candq slices_S16x384_S16x300_0_0
/-- The first 300 rows of candidates. -/
def hV : Vec F S16x300x80 .f32 := extractStridedSlice S16x300x80 ![0, 0, 0] Cand slices_S16x384x80_S16x300x80_0_0_0
/-- The candidates' identifiers. -/
def hG : Vec F S16x300x80 .i32 :=
  addi (broadcastInDim S16x300x80 ![0, 1, 2] bcast_S16x300x1_S16x300x80_0_1_2 (muli (broadcastInDim S16x300x1 ![0, 1] bcast_S16x300_S16x300x1_0_1 (hQ (F := F) Candq)) (broadcastInDim S16x300x1 ![] bcast_S_S16x300x1 (constantI S_ 32 80#32)))) (broadcastInDim S16x300x80 ![0, 1, 2] bcast_S1x1x80_S16x300x80_0_1_2 (broadcastInDim S1x1x80 ![2] bcast_S80_S1x1x80_2 (iotaInDim S80 32 0)))
/-- Sixteen threshold lanes, repeated along the eighty columns and down the rows. -/
def hT {α : Type} (x : S16x1x16.Idx → α) : S16x300x80.Idx → α :=
  broadcastInDim S16x300x80 ![0, 1, 2] bcast_S16x1x80_S16x300x80_0_1_2 (shapeCast S16x1x80 (broadcastInDim S1x16x1x1x5x16 ![0, 1, 2, 3, 4, 5] bcast_S1x16x1x1x1x16_S1x16x1x1x5x16_0_1_2_3_4_5 (shapeCast S1x16x1x1x1x16 x shapeCasts_S16x1x16_S1x16x1x1x1x16)) shapeCasts_S1x16x1x1x5x16_S16x1x80)
/-- Which candidates are kept. -/
def hK : IVec S16x300x80 1 :=
  ori (cmpf .ogt (hV Cand) (hT Tv)) (andi (cmpf .oeq (hV Cand) (hT Tv)) (cmpi .sle (hG (F := F) Candq) (hT Ts)))

/-- The same laid out flat. -/
def hVf : S16x24000.Idx → F .f32 := shapeCast S16x24000 (hV Cand) shapeCasts_S16x300x80_S16x24000
def hGf : S16x24000.Idx → BitVec 32 := shapeCast S16x24000 (hG (F := F) Candq) shapeCasts_S16x300x80_S16x24000
def hQf : S16x24000.Idx → BitVec 32 :=
  shapeCast S16x24000 (broadcastInDim S16x300x80 ![0, 1] bcast_S16x300_S16x300x80_0_1 (hQ (F := F) Candq)) shapeCasts_S16x300x80_S16x24000
def hKf : IVec S16x24000 1 := shapeCast S16x24000 (hK Cand Candq Tv Ts) shapeCasts_S16x300x80_S16x24000

/-- Row `r` of the 300 as one of the 384. -/
abbrev up (r : Fin 300) : Fin 384 := ⟨r.val, by omega⟩

theorem hQ_at (b : Fin 16) (r : Fin 300) : hQ (F := F) Candq (ix2 b r) = Candq (ix2 b (up r)) := by
  unfold hQ
  refine extractStridedSlice_apply _ _ _ _ _ fun a => ?_
  match a with
  | ⟨0, _⟩ => exact (Nat.zero_add _).symm
  | ⟨1, _⟩ => exact (Nat.zero_add _).symm

theorem hV_at (b : Fin 16) (r : Fin 300) (c : Fin 80) : hV Cand (ix3 b r c) = Cand (ix3 b (up r) c) := by
  unfold hV
  refine extractStridedSlice_apply _ _ _ _ _ fun a => ?_
  match a with
  | ⟨0, _⟩ => exact (Nat.zero_add _).symm
  | ⟨1, _⟩ => exact (Nat.zero_add _).symm
  | ⟨2, _⟩ => exact (Nat.zero_add _).symm

theorem hG_at (b : Fin 16) (r : Fin 300) (c : Fin 80) :
    hG (F := F) Candq (ix3 b r c) = Candq (ix2 b (up r)) * 80#32 + BitVec.ofNat 32 c.val := by
  unfold hG
  show IntOp.addi _ _ = _
  rw [broadcastInDim_apply _ _ _ (ix3 b r c) (ix3 b r (0 : Fin 1)) (fun a => by
      match a with
      | ⟨0, _⟩ => rfl
      | ⟨1, _⟩ => rfl
      | ⟨2, _⟩ => rfl),
    broadcastInDim_apply _ bcast_S1x1x80_S16x300x80_0_1_2 _ (ix3 b r c) (ix3 (0 : Fin 1) (0 : Fin 1) c) (fun a => by
      match a with
      | ⟨0, _⟩ => rfl
      | ⟨1, _⟩ => rfl
      | ⟨2, _⟩ => rfl),
    broadcastInDim_apply _ bcast_S80_S1x1x80_2 _ (ix3 (0 : Fin 1) (0 : Fin 1) c) (ix1 c) (fun a => by
      match a with
      | ⟨0, _⟩ => rfl)]
  show IntOp.addi (IntOp.muli _ _) _ = _
  rw [broadcastInDim_apply _ bcast_S16x300_S16x300x1_0_1 _ (ix3 b r (0 : Fin 1)) (ix2 b r) (fun a => by
      match a with
      | ⟨0, _⟩ => rfl
      | ⟨1, _⟩ => rfl), hQ_at]
  rfl

theorem hT_at {α : Type} (x : S16x1x16.Idx → α) (b : Fin 16) (r : Fin 300) (c : Fin 80) :
    hT x (ix3 b r c) = x (ix3 b (0 : Fin 1) (⟨c.val % 16, Nat.mod_lt _ (by decide)⟩ : Fin 16)) := by
  unfold hT
  rw [broadcastInDim_apply _ bcast_S16x1x80_S16x300x80_0_1_2 _ (ix3 b r c) (ix3 b (0 : Fin 1) c) (fun a => by
      match a with
      | ⟨0, _⟩ => rfl
      | ⟨1, _⟩ => rfl
      | ⟨2, _⟩ => rfl),
    shapeCast_apply _ _ (ix3 b (0 : Fin 1) c)
      (ix6 (0 : Fin 1) b (0 : Fin 1) (0 : Fin 1) (⟨c.val / 16, by omega⟩ : Fin 5) (⟨c.val % 16, Nat.mod_lt _ (by decide)⟩ : Fin 16)) (by
        rw [Shape.rowMajor_val_six, Shape.rowMajor_val_three]
        show ((((0 * 16 + b.val) * 1 + 0) * 1 + 0) * 5 + c.val / 16) * 16 + c.val % 16 = (b.val * 1 + 0) * 80 + c.val
        omega),
    broadcastInDim_apply _ bcast_S1x16x1x1x1x16_S1x16x1x1x5x16_0_1_2_3_4_5 _ _
      (ix6 (0 : Fin 1) b (0 : Fin 1) (0 : Fin 1) (0 : Fin 1) (⟨c.val % 16, Nat.mod_lt _ (by decide)⟩ : Fin 16)) (fun a => by
      match a with
      | ⟨0, _⟩ => rfl
      | ⟨1, _⟩ => rfl
      | ⟨2, _⟩ => rfl
      | ⟨3, _⟩ => rfl
      | ⟨4, _⟩ => rfl
      | ⟨5, _⟩ => rfl)]
  refine shapeCast_apply _ _ _ _ ?_
  rw [Shape.rowMajor_val_six, Shape.rowMajor_val_three]
  show (b.val * 1 + 0) * 16 + c.val % 16 = ((((0 * 16 + b.val) * 1 + 0) * 1 + 0) * 1 + 0) * 16 + c.val % 16
  omega

/-- A flat array of a row's candidates at `n` is the array at row `n / 80`, column `n % 80`. -/
theorem flat_at {α : Type} (x : S16x300x80.Idx → α) (b : Fin 16) (n : Fin 24000) :
    shapeCast S16x24000 x shapeCasts_S16x300x80_S16x24000 (ix2 b n)
      = x (ix3 b (⟨n.val / 80, by omega⟩ : Fin 300) (⟨n.val % 80, Nat.mod_lt _ (by decide)⟩ : Fin 80)) := by
  refine shapeCast_apply _ _ _ _ ?_
  rw [Shape.rowMajor_val_two, Shape.rowMajor_val_three]
  show (b.val * 300 + n.val / 80) * 80 + n.val % 80 = b.val * 24000 + n.val
  omega

theorem row_eq (n : Fin 24000) : Fin.ofNat 384 (n.val / 80) = up (⟨n.val / 80, by omega⟩ : Fin 300) :=
  Fin.ext (Nat.mod_eq_of_lt (by omega))

theorem hQf_at (b : Fin 16) (n : Fin 24000) : hQf (F := F) Candq (ix2 b n) = qS (candqOf (F := F) Candq b) n.val := by
  unfold hQf qS candqOf
  rw [flat_at, row_eq, broadcastInDim_apply _ _ _ _ (ix2 b (⟨n.val / 80, by omega⟩ : Fin 300)) (fun a => by
      match a with
      | ⟨0, _⟩ => rfl
      | ⟨1, _⟩ => rfl), hQ_at]

theorem hVf_at (b : Fin 16) (n : Fin 24000) : hVf Cand (ix2 b n) = vS (candOf Cand b) n.val := by
  unfold hVf vS candOf
  rw [flat_at, row_eq, hV_at]
  rfl

theorem hGf_at (b : Fin 16) (n : Fin 24000) : hGf (F := F) Candq (ix2 b n) = gS (candqOf (F := F) Candq b) n.val := by
  unfold hGf gS qS candqOf
  rw [flat_at, row_eq, hG_at]

theorem hKf_at (b : Fin 16) (n : Fin 24000) :
    hKf Cand Candq Tv Ts (ix2 b n) = selBit (candOf Cand b) (candqOf (F := F) Candq b) (tvOf Tv b) (tsOf (F := F) Ts b) n.val := by
  have hl : (⟨n.val % 80 % 16, Nat.mod_lt _ (by decide)⟩ : Fin 16) = Fin.ofNat 16 n.val := Fin.ext (Nat.mod_mod_of_dvd _ (by decide))
  have h2 : hGf (F := F) Candq (ix2 b n) = _ := hGf_at (F := F) Candq b n
  have h1 : hVf Cand (ix2 b n) = _ := hVf_at Cand b n
  unfold hKf hK
  rw [flat_at]
  unfold hVf at h1
  unfold hGf at h2
  rw [flat_at] at h1 h2
  show IntOp.ori (FloatOps.cmpf .ogt _ _) (IntOp.andi (FloatOps.cmpf .oeq _ _) (IntOp.cmpi .sle _ _)) = _
  rw [h1, h2, hT_at, hT_at, hl]
  rfl

end Cert.Proof.Stage4
-- ==== Proof.Sorted.lean ====
module

public import proofs.«01_k».proof.Proof.Compact
public import Idealize.ShloMosaic.Lib.PlanTiles.StableSort
public import Idealize.ShloMosaic.Lib.SortPrefix

@[expose] public section

/-!
# A stable sort that puts the kept positions first

Sorting by "kept, or not" and leaving ties in order lists the kept positions in ascending order, so entry `i` of the
sorted list is the kept position with `i` kept positions before it.
-/

namespace Cert.Proof.Compact

open Idealize.ShloMosaic

variable (p : ℕ → Prop) [DecidablePred p]

/-- One for a kept position and zero for the others. -/
def weight (n : ℕ) : ℕ := if p n then 1 else 0

/-- Kept before not kept, and then by position: a strict total order. -/
theorem keptFirst_total (n : ℕ) :
    StrictTotalBefore fun a b : Fin n =>
      (decide (weight p b.val < weight p a.val)) || (decide (weight p a.val = weight p b.val) && decide (a < b)) :=
  StrictTotalBefore.of_key_then_position (fun a b : ℕ => decide (b < a)) (fun a : Fin n => weight p a.val)
    (fun a => by simp) (fun a b c h1 h2 => by simp only [decide_eq_true_eq] at *; omega)
    (fun a b => by simp only [decide_eq_true_eq]; omega)

/-- Sorting by the weight alone is sorting by the weight and then the position. -/
theorem sortedFrom_kept (n : ℕ) (k : Fin n) :
    sortedFrom (fun a b : Fin n => decide (weight p b.val < weight p a.val)) k
      = sortedFrom (fun a b : Fin n =>
          (decide (weight p b.val < weight p a.val)) || (decide (weight p a.val = weight p b.val) && decide (a < b))) k := by
  have h := PlanTiles.pairwise_stableSort_lex (fun a : Fin n => weight p a.val) (· < ·) (List.finRange n) (List.pairwise_lt_finRange n)
  have e := (keptFirst_total p n).eq_stableSort_of_sorted
    (perm_stableSort (fun x y : Fin n => decide (weight p y.val < weight p x.val)) (List.finRange n))
    (h.imp fun {a b} hab => by
      beta_reduce
      simp only [Bool.or_eq_false_iff, Bool.and_eq_false_iff, decide_eq_false_iff_not, Fin.not_lt]
      have hab' : weight p b.val < weight p a.val ∨ (weight p a.val = weight p b.val ∧ a < b) := hab
      rcases hab' with hab | ⟨hab, hl⟩
      · exact ⟨by omega, Or.inl (by omega)⟩
      · exact ⟨by omega, Or.inr hl.le⟩)
  unfold sortedFrom sortPositions
  simp only [List.get_eq_getElem]
  exact List.getElem_of_eq e _

/-- Entry `i` of a stable sort that puts the kept positions first is the kept position with `i` kept ones before it. -/
theorem sortedFrom_eq_kept {n k : ℕ} (hk : k ≤ n) (before : Fin n → Fin n → Bool)
    (hb : ∀ a b, before a b = decide (weight p b.val < weight p a.val)) (σ : Fin k → Fin n) (hp : ∀ i, p (σ i).val)
    (hc : ∀ i, Nat.count p (σ i).val = i.val) (i : Fin k) : sortedFrom before (i.castLE hk) = σ i := by
  obtain rfl : before = fun a b : Fin n => decide (weight p b.val < weight p a.val) := funext fun a => funext fun b => hb a b
  have hw : ∀ i, weight p (σ i).val = 1 := fun i => if_pos (hp i)
  have hlt : ∀ i j, i < j → σ i < σ j := fun i j h => by
    by_contra hle
    have := Nat.count_monotone p (show (σ j).val ≤ (σ i).val from Fin.not_lt.mp hle)
    rw [hc, hc] at this
    exact absurd h (Fin.not_lt.mpr this)
  rw [sortedFrom_kept]
  refine (keptFirst_total p n).sortedFrom_eq_of_prefix hk σ (fun i j h => Fin.ext ?_) (fun i j h => ?_) (fun i q hq => ?_) i
  · rw [← hc i, ← hc j, h]
  · simp only [hw, lt_irrefl, decide_false, decide_true, Bool.true_and, Bool.false_or, decide_eq_false_iff_not, Fin.not_lt]
    exact (hlt i j h).le
  · by_cases hpq : p q.val
    · have hq1 : weight p q.val = 1 := if_pos hpq
      simp only [hw, hq1, lt_irrefl, decide_false, decide_true, Bool.true_and, Bool.false_or, decide_eq_false_iff_not, Fin.not_lt]
      by_contra hlt'
      have hlt2 : q.val < (σ i).val := Fin.not_le.mp hlt'
      have hcq : Nat.count p q.val < i.val := by
        rw [← hc i]; exact Nat.count_strict_mono hpq hlt2
      refine hq ⟨Nat.count p q.val, by omega⟩ (Fin.ext (Nat.count_injective (hp _) hpq ?_))
      rw [hc]
    · have hq0 : weight p q.val = 0 := if_neg hpq
      rw [hw, hq0]
      exact Bool.or_eq_false_iff.mpr ⟨rfl, Bool.and_eq_false_iff.mpr (Or.inl rfl)⟩

end Cert.Proof.Compact
-- ==== Proof.Take.lean ====
module

public import proofs.«01_k».proof.Proof.Host
public import proofs.«01_k».proof.Proof.Sorted

@[expose] public section

noncomputable section

/-!
# The reference's gathers and its sort, read entry by entry

Each gather picks, in every row, the entries (or the boxes) at 300 positions. The sort puts the kept candidates first,
in order.
-/

namespace Cert.Proof.Stage4

open Cert.ReferenceIdeal Cert.ReferenceIdeal.Gen
open Idealize.ShloMosaic
open Idealize.ShloMosaic.ValueIdx
open Cert.Proof.Lanes Cert.Proof.Compact

variable {F : FTy → Type} [FloatOps F]

/-- Picking single entries of a row: result `(b, k)` is entry `(b, i)`, `i` the start index at `(b, k)`, clamped. -/
theorem pick_entry {α : Type} (x : S16x24000.Idx → α) (idx : IVec S16x300x1 32) (b : Fin 16) (k : Fin 300) :
    Host.gather gather_S16x24000_S16x300x1_S16x300_n_1_0_0_1_2_11 x idx (ix2 b k)
      = x (ix2 b (⟨min (idx (ix3 b k (0 : Fin 1))).toInt.toNat 23999, by omega⟩ : Fin 24000)) := by
  unfold Host.gather
  refine congrArg x (funext fun a => Fin.ext ?_)
  show gather_S16x24000_S16x300x1_S16x300_n_1_0_0_1_2_11.start (ix2 b k) idx a
      + gather_S16x24000_S16x300x1_S16x300_n_1_0_0_1_2_11.batchCoord (ix2 b k) a
      + gather_S16x24000_S16x300x1_S16x300_n_1_0_0_1_2_11.offCoord (ix2 b k) a = _
  have ha : a = 0 ∨ a = 1 := by
    match a with
    | ⟨0, _⟩ => exact Or.inl rfl
    | ⟨1, _⟩ => exact Or.inr rfl
  rcases ha with rfl | rfl
  · rw [GatherDims.start_batching _ _ _ _ (List.mem_singleton.mpr rfl),
      GatherDims.offCoord_eq_zero _ _ _ (fun h => ((GatherDims.mem_sKept _ _).mp h).2 (List.mem_singleton.mpr rfl))]
    unfold GatherDims.batchCoord
    rw [dif_pos (show (0 : Fin 2) ∈ gather_S16x24000_S16x300x1_S16x300_n_1_0_0_1_2_11.operandBatchingDims from List.mem_singleton.mpr rfl)]
    show 0 + b.val + 0 = b.val
    omega
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    unfold GatherDims.start
    rw [dif_pos (show (1 : Fin 2) ∈ gather_S16x24000_S16x300x1_S16x300_n_1_0_0_1_2_11.startIndexMap from List.mem_singleton.mpr rfl)]
    have hs : gather_S16x24000_S16x300x1_S16x300_n_1_0_0_1_2_11.siIdx (ix2 b k)
        ⟨List.idxOf (1 : Fin 2) gather_S16x24000_S16x300x1_S16x300_n_1_0_0_1_2_11.startIndexMap,
          List.idxOf_lt_length_iff.2 (List.mem_singleton.mpr rfl)⟩ = ix3 b k (0 : Fin 1) := by
      funext c
      refine Fin.ext ?_
      match c with
      | ⟨0, _⟩ => rfl
      | ⟨1, _⟩ => rfl
      | ⟨2, _⟩ => rfl
    rw [hs]
    rfl

/-- Picking boxes of a row: result `(b, k, c)` is coordinate `c` of box `i`, `i` the start index at `(b, k)`, clamped. -/
theorem pick_box {α : Type} (x : S16x20000x4.Idx → α) (idx : IVec S16x300x1 32) (b : Fin 16) (k : Fin 300) (c : Fin 4) :
    Host.gather gather_S16x20000x4_S16x300x1_S16x300x4_2_1_0_0_1_2_114 x idx (ix3 b k c)
      = x (ix3 b (⟨min (idx (ix3 b k (0 : Fin 1))).toInt.toNat 19999, by omega⟩ : Fin 20000) c) := by
  unfold Host.gather
  refine congrArg x (funext fun a => Fin.ext ?_)
  show gather_S16x20000x4_S16x300x1_S16x300x4_2_1_0_0_1_2_114.start (ix3 b k c) idx a
      + gather_S16x20000x4_S16x300x1_S16x300x4_2_1_0_0_1_2_114.batchCoord (ix3 b k c) a
      + gather_S16x20000x4_S16x300x1_S16x300x4_2_1_0_0_1_2_114.offCoord (ix3 b k c) a = _
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    unfold GatherDims.batchCoord
    rw [dif_pos (show (0 : Fin 3) ∈ gather_S16x20000x4_S16x300x1_S16x300x4_2_1_0_0_1_2_114.operandBatchingDims from List.mem_singleton.mpr rfl)]
    show 0 + b.val + 0 = b.val
    omega
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    unfold GatherDims.start
    rw [dif_pos (show (1 : Fin 3) ∈ gather_S16x20000x4_S16x300x1_S16x300x4_2_1_0_0_1_2_114.startIndexMap from List.mem_singleton.mpr rfl)]
    have hs : gather_S16x20000x4_S16x300x1_S16x300x4_2_1_0_0_1_2_114.siIdx (ix3 b k c)
        ⟨List.idxOf (1 : Fin 3) gather_S16x20000x4_S16x300x1_S16x300x4_2_1_0_0_1_2_114.startIndexMap,
          List.idxOf_lt_length_iff.2 (List.mem_singleton.mpr rfl)⟩ = ix3 b k (0 : Fin 1) := by
      funext e
      refine Fin.ext ?_
      match e with
      | ⟨0, _⟩ => rfl
      | ⟨1, _⟩ => rfl
      | ⟨2, _⟩ => rfl
    rw [hs]
    rfl
  · rw [GatherDims.batchCoord_eq_zero _ _ _ (fun h => absurd (List.mem_singleton.mp h) (by decide))]
    unfold GatherDims.start
    rw [dif_neg (show (2 : Fin 3) ∉ gather_S16x20000x4_S16x300x1_S16x300x4_2_1_0_0_1_2_114.startIndexMap from fun h => absurd (List.mem_singleton.mp h) (by decide))]
    unfold GatherDims.offCoord
    rw [dif_pos (show (2 : Fin 3) ∈ gather_S16x20000x4_S16x300x1_S16x300x4_2_1_0_0_1_2_114.sKept from (GatherDims.mem_sKept _ _).mpr ⟨fun h => absurd (List.mem_singleton.mp h) (by decide),
      fun h => absurd (List.mem_singleton.mp h) (by decide)⟩)]
    show 0 + 0 + c.val = c.val
    omega

variable (Cand : Vec F S16x384x80 .f32) (Candq : Vec F S16x384 .i32) (Tv : Vec F S16x1x16 .f32) (Ts : Vec F S16x1x16 .i32)

/-- The sort's key: zero for a kept candidate, one for the others. -/
def hKey : IVec S16x24000 32 :=
  select (hKf Cand Candq Tv Ts) (broadcastInDim S16x24000 ![] bcast_S_S16x24000 (constantI S_ 32 0#32)) (broadcastInDim S16x24000 ![] bcast_S_S16x24000 (constantI S_ 32 1#32))

/-- The positions in the order the sort leaves them. -/
def hOrd : IVec S16x24000 32 :=
  (Host.sort2 S16x24000 1 comparator_i32_i32_d1 (hKey Cand Candq Tv Ts) (iotaInDim S16x24000 32 1)).2

/-- The first 300 of them. -/
def hPos : IVec S16x300 32 := extractStridedSlice S16x300 ![0, 0] (hOrd Cand Candq Tv Ts) slices_S16x24000_S16x300_0_0

/-- The same as start indices, a negative one counted from the end. -/
def hIdx : IVec S16x300x1 32 :=
  shapeCast S16x300x1 (select (cmpi .slt (hPos Cand Candq Tv Ts) (broadcastInDim S16x300 ![] bcast_S_S16x300 (constantI S_ 32 0#32))) (addi (hPos Cand Candq Tv Ts) (broadcastInDim S16x300 ![] bcast_S_S16x300 (constantI S_ 32 24000#32))) (hPos Cand Candq Tv Ts)) shapeCasts_S16x300_S16x300x1

/-- The queries at those positions. -/
def hPicked : IVec S16x300x1 32 :=
  broadcastInDim S16x300x1 ![0, 1] bcast_S16x300_S16x300x1_0_1 (Host.gather gather_S16x24000_S16x300x1_S16x300_n_1_0_0_1_2_11 (hQf (F := F) Candq) (hIdx Cand Candq Tv Ts))

/-- The same as start indices, a negative one counted from the end. -/
def hBoxIdx : IVec S16x300x1 32 :=
  select (cmpi .slt (hPicked Cand Candq Tv Ts) (broadcastInDim S16x300x1 ![] bcast_S_S16x300x1 (constantI S_ 32 0#32))) (addi (hPicked Cand Candq Tv Ts) (broadcastInDim S16x300x1 ![] bcast_S_S16x300x1 (constantI S_ 32 20000#32))) (hPicked Cand Candq Tv Ts)

/-- The key at candidate `n`. -/
theorem hKey_at (b : Fin 16) (n : Fin 24000) :
    hKey Cand Candq Tv Ts (ix2 b n)
      = if sel (candOf Cand b) (candqOf (F := F) Candq b) (tvOf Tv b) (tsOf (F := F) Ts b) n.val then 0#32 else 1#32 := by
  have h := hKf_at Cand Candq Tv Ts b n
  unfold hKey
  show Scalar.select (hKf Cand Candq Tv Ts (ix2 b n)) 0#32 1#32 = _
  rw [h]
  rfl

/-- A position below 24000 is its own start index. -/
theorem start_word {n N : ℕ} (hn : n < N) (hN : N < 2 ^ 31) (w : BitVec 32) (hw : w.toNat = n) :
    (Scalar.select (IntOp.cmpi .slt w 0#32) (IntOp.addi w (BitVec.ofNat 32 N)) w).toInt.toNat = n
      ∧ Scalar.select (IntOp.cmpi .slt w 0#32) (IntOp.addi w (BitVec.ofNat 32 N)) w = w := by
  have hi : w.toInt = (n : ℤ) := by
    rw [BitVec.toInt_eq_toNat_of_lt (by omega), hw]
  have hneg : ¬ IntOp.cmpi .slt w 0#32 = 1#1 := by
    rw [IntOp.cmpi_slt]
    rw [hi]
    simp
  have e : Scalar.select (IntOp.cmpi .slt w 0#32) (IntOp.addi w (BitVec.ofNat 32 N)) w = w := if_neg hneg
  exact ⟨by rw [e, hi]; simp, e⟩

end Cert.Proof.Stage4
-- ==== Proof.RefVal.lean ====
module

public import proofs.«01_k».proof.Proof.Take

@[expose] public section

noncomputable section

/-!
# The reference's results, entry by entry

In a row with at least 300 kept candidates, entry `k` of each result is read off the kept candidate with `k` kept ones
before it.
-/

namespace Cert.Proof.Stage4

open Cert.ReferenceIdeal Cert.ReferenceIdeal.Gen
open Idealize.ShloMosaic
open Idealize.ShloMosaic.ValueIdx
open Cert.Proof.Lanes Cert.Proof.Compact

variable {F : FTy → Type} [FloatOps F]
variable (Cand : Vec F S16x384x80 .f32) (Candq : Vec F S16x384 .i32) (Tv : Vec F S16x1x16 .f32) (Ts : Vec F S16x1x16 .i32)
variable (b : Fin 16)

/-- Candidate `n` of row `b` is kept. -/
abbrev selAt : ℕ → Prop := sel (candOf Cand b) (candqOf (F := F) Candq b) (tvOf Tv b) (tsOf (F := F) Ts b)

/-- Comparing two of the sort's keys compares the candidates' weights. -/
theorem keyBefore_eq (x y : Fin 24000) :
    (comparator_i32_i32_d1 (hKey Cand Candq Tv Ts (ix2 b x), iotaInDim S16x24000 32 1 (ix2 b x))
        (hKey Cand Candq Tv Ts (ix2 b y), iotaInDim S16x24000 32 1 (ix2 b y)) == 1#1)
      = decide (weight (selAt Cand Candq Tv Ts b) y.val < weight (selAt Cand Candq Tv Ts b) x.val) := by
  show (IntOp.cmpi .slt (hKey Cand Candq Tv Ts (ix2 b x)) (hKey Cand Candq Tv Ts (ix2 b y)) == 1#1) = _
  rw [hKey_at, hKey_at]
  unfold weight
  split <;> split <;> rfl

/-- Moving along the second axis of a two-dimensional index. -/
theorem along_one (n x : Fin 24000) : (ix2 b n : S16x24000.Idx).along 1 x = ix2 b x := by
  funext a
  match a with
  | ⟨0, _⟩ => exact Function.update_of_ne (show (0 : Fin 2) ≠ 1 by decide) _ _
  | ⟨1, _⟩ => exact Function.update_self _ _ _

/-- The sort's entry `k` is the kept candidate with `k` kept ones before it. -/
theorem hOrd_at (h300 : 300 ≤ Nat.count (selAt Cand Candq Tv Ts b) 24000) (k : Fin 300) (n : Fin 24000)
    (hs : selAt Cand Candq Tv Ts b n.val) (hc : Nat.count (selAt Cand Candq Tv Ts b) n.val = k.val) :
    hOrd Cand Candq Tv Ts (ix2 b (k.castLE (by decide) : Fin 24000)) = BitVec.ofNat 32 n.val := by
  have hex : ∀ i : Fin 300, ∃ q : Fin 24000, selAt Cand Candq Tv Ts b q.val ∧ Nat.count (selAt Cand Candq Tv Ts b) q.val = i.val := fun i => by
    obtain ⟨q, hq, h1, h2⟩ := exists_of_lt_count (selAt Cand Candq Tv Ts b) (n := 24000) (k := i.val) (by omega)
    exact ⟨⟨q, hq⟩, h1, h2⟩
  choose σ hσ hσc using hex
  have hσk : σ k = n := Fin.ext (Nat.count_injective (hσ k) hs ((hσc k).trans hc.symm))
  have hsort := sortedFrom_eq_kept (selAt Cand Candq Tv Ts b) (n := 24000) (k := 300) (by decide)
    (fun x y => comparator_i32_i32_d1 (hKey Cand Candq Tv Ts (ix2 b x), iotaInDim S16x24000 32 1 (ix2 b x))
        (hKey Cand Candq Tv Ts (ix2 b y), iotaInDim S16x24000 32 1 (ix2 b y)) == 1#1)
    (fun x y => keyBefore_eq Cand Candq Tv Ts b x y) σ hσ hσc k
  rw [hσk] at hsort
  unfold hOrd Host.sort2
  rw [dif_pos (by decide : 1 < S16x24000.rank)]
  refine (congrArg (fun z : S16x24000.Idx => BitVec.ofNat 32 (z 1).val) (along_one b _ _)).trans ?_
  refine congrArg (fun q : Fin 24000 => BitVec.ofNat 32 q.val) (Eq.trans ?_ hsort)
  refine congrArg (fun B => sortedFrom B (k.castLE _ : Fin 24000)) (funext fun x => funext fun y => ?_)
  exact congrArg₂ (fun z w : S16x24000.Idx =>
    (comparator_i32_i32_d1 (hKey Cand Candq Tv Ts z, iotaInDim S16x24000 32 1 z) (hKey Cand Candq Tv Ts w, iotaInDim S16x24000 32 1 w) == 1#1))
    (along_one b _ x) (along_one b _ y)

variable (h300 : 300 ≤ Nat.count (selAt Cand Candq Tv Ts b) 24000) (k : Fin 300) (n : Fin 24000)
    (hs : selAt Cand Candq Tv Ts b n.val) (hc : Nat.count (selAt Cand Candq Tv Ts b) n.val = k.val)
include h300 hs hc

/-- Start index `(b, k)` is that candidate's position. -/
theorem hIdx_at : (hIdx Cand Candq Tv Ts (ix3 b k (0 : Fin 1))).toInt.toNat = n.val := by
  have hp : hPos Cand Candq Tv Ts (ix2 b k) = BitVec.ofNat 32 n.val := by
    refine Eq.trans ?_ (hOrd_at Cand Candq Tv Ts b h300 k n hs hc)
    unfold hPos
    refine extractStridedSlice_apply _ _ _ _ _ fun a => ?_
    match a with
    | ⟨0, _⟩ => exact (Nat.zero_add _).symm
    | ⟨1, _⟩ => exact (Nat.zero_add _).symm
  unfold hIdx
  rw [shapeCast_apply _ _ (ix3 b k (0 : Fin 1)) (ix2 b k) (by
    rw [Shape.rowMajor_val_two, Shape.rowMajor_val_three]
    show b.val * 300 + k.val = (b.val * 300 + k.val) * 1 + 0
    omega)]
  show (Scalar.select (IntOp.cmpi .slt (hPos Cand Candq Tv Ts (ix2 b k)) 0#32) (IntOp.addi (hPos Cand Candq Tv Ts (ix2 b k)) (BitVec.ofNat 32 24000)) (hPos Cand Candq Tv Ts (ix2 b k))).toInt.toNat = _
  refine (start_word n.isLt (by decide) _ ?_).1
  rw [hp, BitVec.toNat_ofNat, Nat.mod_eq_of_lt (by omega)]

/-- An array of the row's candidates, picked at the start indices. -/
theorem picked_at {α : Type} (x : S16x24000.Idx → α) :
    Host.gather gather_S16x24000_S16x300x1_S16x300_n_1_0_0_1_2_11 x (hIdx Cand Candq Tv Ts) (ix2 b k) = x (ix2 b n) := by
  rw [pick_entry]
  refine congrArg (fun q : Fin 24000 => x (ix2 b q)) (Fin.ext ?_)
  show min (hIdx Cand Candq Tv Ts (ix3 b k (0 : Fin 1))).toInt.toNat 23999 = n.val
  rw [hIdx_at Cand Candq Tv Ts b h300 k n hs hc]
  omega

/-- The boxes, picked at the queries of the kept candidates. -/
theorem box_at (Boxes : Vec F S16x20000x4 .f32) (hq : (qS (candqOf (F := F) Candq b) n.val).toNat < 20000) (c : Fin 4) :
    Host.gather gather_S16x20000x4_S16x300x1_S16x300x4_2_1_0_0_1_2_114 Boxes (hBoxIdx Cand Candq Tv Ts) (ix3 b k c)
      = Boxes (ix3 b (⟨(qS (candqOf (F := F) Candq b) n.val).toNat, hq⟩ : Fin 20000) c) := by
  have hp : hPicked Cand Candq Tv Ts (ix3 b k (0 : Fin 1)) = qS (candqOf (F := F) Candq b) n.val := by
    unfold hPicked
    rw [broadcastInDim_apply _ _ _ _ (ix2 b k) (fun a => by
      match a with
      | ⟨0, _⟩ => rfl
      | ⟨1, _⟩ => rfl), picked_at Cand Candq Tv Ts b h300 k n hs hc, hQf_at]
  rw [pick_box]
  refine congrArg (fun q : Fin 20000 => Boxes (ix3 b q c)) (Fin.ext ?_)
  show min (Scalar.select (IntOp.cmpi .slt (hPicked Cand Candq Tv Ts (ix3 b k (0 : Fin 1))) 0#32) (IntOp.addi (hPicked Cand Candq Tv Ts (ix3 b k (0 : Fin 1))) (BitVec.ofNat 32 20000)) (hPicked Cand Candq Tv Ts (ix3 b k (0 : Fin 1)))).toInt.toNat 19999 = (qS (candqOf (F := F) Candq b) n.val).toNat
  rw [hp, (start_word hq (by decide) _ rfl).1]
  omega

end Cert.Proof.Stage4
-- ==== Proof.Pre.lean ====
module

public import proofs.«01_k».proof.Proof.RefVal
public import proofs.«01_k».proof.Proof.Gen.Pre_candidates_fit
public import Idealize.ShloMosaic.Lib.StableHlo.Predicate
public import Idealize.ShloMosaic.Lib.ReduceAll
public import Idealize.ShloMosaic.Lib.Affine

@[expose] public section

noncomputable section

/-!
# What the precondition says

Every query of the first 300 rows names a box, and every row keeps at least 300 and fewer than 384 candidates.
-/

namespace Cert.Proof.Stage4

open Cert.ReferenceIdeal Cert.ReferenceIdeal.Gen
open Idealize.ShloMosaic
open Idealize.ShloMosaic.ValueIdx
open Idealize.ShloMosaic.StableHlo.Predicate (toNat_reduce_count_cols toInt_ofNat_small)
open Cert.Proof.Lanes Cert.Proof.Compact

variable {F : FTy → Type} [FloatOps F]
variable (Cand : Vec F S16x384x80 .f32) (Candq : Vec F S16x384 .i32) (Tv : Vec F S16x1x16 .f32) (Ts : Vec F S16x1x16 .i32)
  (Boxes : Vec F S16x20000x4 .f32)

/-- A count below `n` is the number of the first `n` positions that satisfy the predicate. -/
theorem card_eq_count (p : ℕ → Prop) [DecidablePred p] (n : ℕ) :
    (Finset.univ.filter fun q : Fin n => p q.val).card = Nat.count p n := by
  rw [Nat.count_eq_card_filter_range, ← Finset.card_map Fin.valEmbedding]
  congr 1
  ext x
  simp only [Finset.mem_map, Finset.mem_filter, Finset.mem_univ, true_and, Fin.valEmbedding_apply, Finset.mem_range]
  exact ⟨fun ⟨a, ha, hx⟩ => hx ▸ ⟨a.isLt, ha⟩, fun ⟨hx, hp⟩ => ⟨⟨x, hx⟩, hp, rfl⟩⟩

/-- A word that is at least zero and below `N`, read signed, is below `N` read unsigned. -/
theorem below_of_signed {w : BitVec 32} {N : ℕ} (hN : N < 2 ^ 31) (h0 : IntOp.cmpi .sge w 0#32 = 1#1)
    (h1 : IntOp.cmpi .slt w (BitVec.ofNat 32 N) = 1#1) : w.toNat < N := by
  rw [IntOp.cmpi_sge, show (0#32 : BitVec 32).toInt = 0 from rfl] at h0
  rw [IntOp.cmpi_slt, toInt_ofNat_small N hN] at h1
  have hw := w.isLt
  have hi := BitVec.toInt_eq_toNat_cond w
  split at hi <;> omega

/-- The number of kept candidates of row `b`, as the precondition counts them. -/
theorem kept_count (b : Fin 16) (hw : 1 < 32) (h : S16x24000.ReducesTo [1] (⟨1, ![16]⟩ : Shape)) (hu : 0 < S_.numel) :
    (Host.reduce IntOp.addi (extui 32 (hKf Cand Candq Tv Ts) hw) (constantI S_ 32 0#32) h hu (ix1 b)).toNat
      = Nat.count (selAt Cand Candq Tv Ts b) 24000 := by
  rw [toNat_reduce_count_cols (by decide), ← card_eq_count]
  refine congrArg Finset.card (Finset.filter_congr fun q _ => ?_)
  show hKf Cand Candq Tv Ts (ix2 b q) = 1#1 ↔ _
  rw [hKf_at]
  rfl

/-- The precondition holds: row by row, the queries are in range and the count is as said. -/
theorem fits_of_pre (hpre : Cert.Pre_candidates_fit.fn (F := F) Cand Candq Tv Ts Boxes = fun _ => 1#1) (b : Fin 16) :
    Fits (candOf Cand b) (candqOf (F := F) Candq b) (tvOf Tv b) (tsOf (F := F) Ts b)
      ∧ 300 ≤ Nat.count (selAt Cand Candq Tv Ts b) 24000 := by
  have e := congrFun hpre (fun a => a.elim0)
  unfold Cert.Pre_candidates_fit.fn Cert.Pre_candidates_fit.fn_part1 Cert.Pre_candidates_fit.fn_part2 at e
  obtain ⟨e1, e2⟩ := IntOp.andi_eq_one.1 e
  have hcount := Host.reduce_andi_eq_one _ _ _ _ _ e2 (ix1 b) (Subsingleton.elim _ _)
  obtain ⟨c1, c2⟩ := IntOp.andi_eq_one.1 hcount
  have hk := kept_count Cand Candq Tv Ts b Cert.Pre_candidates_fit.Gen.natLt_1_32 Cert.Pre_candidates_fit.Gen.reducesTo_S16x24000_S16_d1 Cert.Pre_candidates_fit.Gen.h_S_
  generalize hw : Host.reduce IntOp.addi (extui 32 (hKf Cand Candq Tv Ts) Cert.Pre_candidates_fit.Gen.natLt_1_32) (constantI S_ 32 0#32) Cert.Pre_candidates_fit.Gen.reducesTo_S16x24000_S16_d1 Cert.Pre_candidates_fit.Gen.h_S_ (ix1 b) = w at hk
  have c1' : IntOp.cmpi .sge w 300#32 = 1#1 := hw ▸ c1
  have c2' : IntOp.cmpi .slt w 384#32 = 1#1 := hw ▸ c2
  have c0 : IntOp.cmpi .sge w 0#32 = 1#1 := by
    rw [IntOp.cmpi_sge] at c1' ⊢
    exact le_trans (by decide) c1'
  have hlt : w.toNat < 384 := below_of_signed (by decide) c0 c2'
  refine ⟨⟨fun r hr => ?_, by rw [← hk]; exact hlt⟩, ?_⟩
  · have hq := Host.reduce_andi_eq_one _ _ _ _ _ e1 (ix2 b (⟨r.val, hr⟩ : Fin 300)) (Subsingleton.elim _ _)
    obtain ⟨q1, q2⟩ := IntOp.andi_eq_one.1 hq
    have hc : (hQ (F := F) Candq (ix2 b (⟨r.val, hr⟩ : Fin 300))).toNat < 20000 := below_of_signed (by decide) q1 q2
    rw [hQ_at] at hc
    exact hc
  · rw [← hk]
    rw [IntOp.cmpi_sge, BitVec.toInt_eq_toNat_of_lt (x := w) (by omega)] at c1'
    have h3 : (300#32 : BitVec 32).toInt = 300 := by decide
    rw [h3] at c1'
    exact_mod_cast c1'

end Cert.Proof.Stage4
-- ==== Proof.Value.lean ====
module

public import proofs.«01_k».proof.Proof.Main
public import proofs.«01_k».proof.Proof.Pre

@[expose] public section

noncomputable section

/-!
# The kernel's results are the reference's

Both list, row by row, the kept candidates in order; the boxes are read at the same queries.
-/

namespace Cert.Proof.Stage4

open Idealize.ShloMosaic
open Idealize.ShloMosaic.ValueIdx
open Cert.Proof.Lanes Cert.Proof.Compact

variable {F : FTy → Type} [FloatOps F]

section Rows

open Cert.KernelIdeal Cert.KernelIdeal.Gen

variable (Cand : Vec F S16x384x80 .f32) (Candq : Vec F S16x384 .i32) (Tv : Vec F S16x1x16 .f32) (Ts : Vec F S16x1x16 .i32)
  (Boxes : Vec F S16x20000x4 .f32) (fs : Outs F)

/-- The flat boxes at `4 q + c` are coordinate `c` of box `q`. -/
theorem flatBoxes_at (b : Fin 16) (q : ℕ) (hq : q < 20000) (c : Fin 4) :
    shapeCast S16x80000 Boxes shapeCasts_S16x20000x4_S16x80000 (ix2 b (Fin.ofNat 80000 (q * 4 + c.val)))
      = Boxes (ix3 b (⟨q, hq⟩ : Fin 20000) c) := by
  refine shapeCast_apply _ _ _ _ ?_
  rw [Shape.rowMajor_val_two, Shape.rowMajor_val_three]
  show (b.val * 20000 + q) * 4 + c.val = b.val * 80000 + (q * 4 + c.val) % 80000
  rw [Nat.mod_eq_of_lt (by omega)]
  omega

variable (b : Fin 16) (k : Fin 300)

theorem out0_at : out0 fs (ix2 b k) = fs.1 (ix2 b (up k)) := by
  unfold out0
  refine extractStridedSlice_apply _ _ _ _ _ fun a => ?_
  match a with
  | ⟨0, _⟩ => exact (Nat.zero_add _).symm
  | ⟨1, _⟩ => exact (Nat.zero_add _).symm

theorem out1_at : out1 fs (ix2 b k) = fs.2.1 (ix2 b (up k)) := by
  unfold out1
  refine extractStridedSlice_apply _ _ _ _ _ fun a => ?_
  match a with
  | ⟨0, _⟩ => exact (Nat.zero_add _).symm
  | ⟨1, _⟩ => exact (Nat.zero_add _).symm

theorem out2_at (c : Fin 4) : out2 fs (ix3 b k c) = fs.2.2 (ix2 b (⟨4 * k.val + c.val, by omega⟩ : Fin 1536)) := by
  unfold out2
  rw [extractStridedSlice_apply _ _ _ (ix3 b k c) (ix3 b (up k) c) fun a => by
    match a with
    | ⟨0, _⟩ => exact (Nat.zero_add _).symm
    | ⟨1, _⟩ => exact (Nat.zero_add _).symm
    | ⟨2, _⟩ => exact (Nat.zero_add _).symm]
  unfold out2a
  refine shapeCast_apply _ _ _ _ ?_
  rw [Shape.rowMajor_val_two, Shape.rowMajor_val_three]
  show b.val * 1536 + (4 * k.val + c.val) = (b.val * 384 + k.val) * 4 + c.val
  omega

variable (hdone : Done Cand Candq Tv Ts (shapeCast S16x80000 Boxes shapeCasts_S16x20000x4_S16x80000) isAny fs)
  (hpre : Cert.Pre_candidates_fit.fn (F := F) Cand Candq Tv Ts Boxes = fun _ => 1#1)
include hdone hpre

/-- The kept candidate with `k` kept ones before it, with what the kernel left at `k`. -/
theorem exists_kept : ∃ n : Fin 24000, selAt Cand Candq Tv Ts b n.val ∧ Nat.count (selAt Cand Candq Tv Ts b) n.val = k.val := by
  obtain ⟨n, hn, h1, h2⟩ := exists_of_lt_count (selAt Cand Candq Tv Ts b) (n := 24000) (k := k.val)
    (lt_of_lt_of_le k.isLt (fits_of_pre Cand Candq Tv Ts Boxes hpre b).2)
  exact ⟨⟨n, hn⟩, h1, h2⟩

/-- The kept values. -/
theorem values_eq : out0 fs = Host.gather Cert.ReferenceIdeal.gather_S16x24000_S16x300x1_S16x300_n_1_0_0_1_2_11 (hVf Cand) (hIdx Cand Candq Tv Ts) := by
  funext j
  obtain ⟨b, k, rfl⟩ : ∃ (b : Fin 16) (k : Fin 300), j = ix2 b k := ⟨j 0, j 1, eq_ix2 j⟩
  obtain ⟨n, hs, hc⟩ := exists_kept Cand Candq Tv Ts Boxes fs b k hdone hpre
  rw [picked_at Cand Candq Tv Ts b (fits_of_pre Cand Candq Tv Ts Boxes hpre b).2 k n hs hc, hVf_at, out0_at]
  exact (hdone b rfl).val n.val n.isLt hs (up k) hc.symm

/-- The kept identifiers. -/
theorem ids_eq : out1 fs = Host.gather Cert.ReferenceIdeal.gather_S16x24000_S16x300x1_S16x300_n_1_0_0_1_2_11 (hGf (F := F) Candq) (hIdx Cand Candq Tv Ts) := by
  funext j
  obtain ⟨b, k, rfl⟩ : ∃ (b : Fin 16) (k : Fin 300), j = ix2 b k := ⟨j 0, j 1, eq_ix2 j⟩
  obtain ⟨n, hs, hc⟩ := exists_kept Cand Candq Tv Ts Boxes fs b k hdone hpre
  rw [picked_at Cand Candq Tv Ts b (fits_of_pre Cand Candq Tv Ts Boxes hpre b).2 k n hs hc, hGf_at, out1_at]
  exact (hdone b rfl).gid n.val n.isLt hs (up k) hc.symm

/-- The kept boxes. -/
theorem boxes_eq : out2 fs = Host.gather Cert.ReferenceIdeal.gather_S16x20000x4_S16x300x1_S16x300x4_2_1_0_0_1_2_114 Boxes (hBoxIdx Cand Candq Tv Ts) := by
  funext j
  obtain ⟨b, k, c, rfl⟩ : ∃ (b : Fin 16) (k : Fin 300) (c : Fin 4), j = ix3 b k c := ⟨j 0, j 1, j 2, eq_ix3 j⟩
  obtain ⟨n, hs, hc⟩ := exists_kept Cand Candq Tv Ts Boxes fs b k hdone hpre
  have hf := fits_of_pre Cand Candq Tv Ts Boxes hpre b
  have hq := hf.1.q_lt n.isLt
  rw [box_at Cand Candq Tv Ts b hf.2 k n hs hc Boxes hq, out2_at,
    (hdone b rfl).box n.val n.isLt hs (up k) hc.symm c ⟨4 * k.val + c.val, by omega⟩ rfl, flatBoxes_at Boxes b _ hq]

end Rows

end Cert.Proof.Stage4
-- ==== Proof.RowLanes.lean ====
module

public import proofs.«01_k».proof.Proof.Lanes

@[expose] public section

/-!
# One vector of the row stream

An image's candidate rows are read as one stream: entry `n` is query `n`, with its largest value and the flat id of that
value. The kernel goes through it sixteen entries at a time. Here is what one such step computes, lane by lane, and what
it keeps true of the two packed buffers: the query numbers of the kept entries and their row numbers in the table.
-/

noncomputable section

namespace Cert.Proof.RowLanes

open Idealize.ShloMosaic
open Idealize.ShloMosaic.ValueIdx
open Cert.Proof.Compact Cert.Proof.Lanes

variable {F : FTy → Type} [FloatOps F]

section Stream

variable (big : (⟨1, ![20000]⟩ : Shape).Idx → F .f32) (at' : (⟨1, ![20000]⟩ : Shape).Idx → BitVec 32)
  (tv : (⟨2, ![1, 16]⟩ : Shape).Idx → F .f32) (ts : (⟨2, ![1, 16]⟩ : Shape).Idx → BitVec 32) (w : BitVec 32)

/-- The largest value of query `n`. -/
def bigS (n : ℕ) : F .f32 := big (ix1 (Fin.ofNat 20000 n))

/-- The flat id of the largest value of query `n`. -/
def atS (n : ℕ) : BitVec 32 := at' (ix1 (Fin.ofNat 20000 n))

/-- The query the flat id of entry `n` names. -/
def qryS (n : ℕ) : BitVec 32 := BitVec.ofNat 32 ((atS at' n).toNat / 80)

/-- That query's row of the table, the image's rows starting at row `w`. -/
def tabS (n : ℕ) : BitVec 32 := qryS at' n + w

/-- Whether entry `n` is kept, as a bit: above the threshold value, or equal to it with an id up to the threshold id. -/
def keepBit (n : ℕ) : BitVec 1 :=
  IntOp.ori (FloatOps.cmpf .ogt (bigS big n) (tv (ix2 0 (Fin.ofNat 16 n))))
    (IntOp.andi (FloatOps.cmpf .oeq (bigS big n) (tv (ix2 0 (Fin.ofNat 16 n))))
      (IntOp.cmpi .sle (atS at' n) (ts (ix2 0 (Fin.ofNat 16 n)))))

/-- Entry `n` is kept. -/
def keep (n : ℕ) : Prop := keepBit big at' tv ts n = 1#1

instance : DecidablePred (keep big at' tv ts) := fun n => inferInstanceAs (Decidable (keepBit big at' tv ts n = 1#1))

/-- Every flat id is one, fewer than 384 entries are kept, and the image's rows are rows of the table. -/
structure Fits : Prop where
  named : ∀ n : Fin 20000, (at' (ix1 n)).toNat < 1600000
  few : Nat.count (keep big at' tv ts) 20000 < 384
  room : w.toNat ≤ 300000

/-- What holds after the stream's first `n` entries: the position reached is the number of kept ones, and the two buffers
hold their queries and their rows of the table, packed; the second holds rows of the table throughout. -/
structure St (n : ℕ) (pos : BitVec 32) (fq fg : (⟨1, ![384]⟩ : Shape).Idx → BitVec 32) : Prop where
  pos_eq : pos = BitVec.ofNat 32 (Nat.count (keep big at' tv ts) n)
  qid : Packed (keep big at' tv ts) (qryS at') n fq
  tid : Packed (keep big at' tv ts) (tabS at' w) n fg
  lt : ∀ j, (fg j).toNat < 320000

/-- What one vector at entry `n` is: lane `k` holds entry `n + k`'s value, id and thresholds. -/
structure Vec16 (n : ℕ) (v : FVec F L16 .f32) (g : IVec L16 32) (tv' : FVec F L16 .f32) (ts' : IVec L16 32) : Prop where
  inside : n + 16 ≤ 20000
  v_eq : ∀ k : Fin 16, v (ix1 k) = bigS big (n + k)
  g_eq : ∀ k : Fin 16, g (ix1 k) = atS at' (n + k)
  tv_eq : ∀ k : Fin 16, tv' (ix1 k) = tv (ix2 0 (Fin.ofNat 16 (n + k)))
  ts_eq : ∀ k : Fin 16, ts' (ix1 k) = ts (ix2 0 (Fin.ofNat 16 (n + k)))

variable {big at' tv ts w}

/-- The ids are ids. -/
theorem Fits.at_lt (hF : Fits big at' tv ts w) (n : ℕ) : (atS at' n).toNat < 1600000 := hF.named _

/-- The queries they name are queries. -/
theorem Fits.qry_toNat (hF : Fits big at' tv ts w) (n : ℕ) : (qryS at' n).toNat = (atS at' n).toNat / 80 := by
  have := hF.at_lt n
  unfold qryS
  rw [BitVec.toNat_ofNat]
  omega

/-- The rows they name are rows of the table. -/
theorem Fits.tab_toNat (hF : Fits big at' tv ts w) (n : ℕ) : (tabS at' w n).toNat = (atS at' n).toNat / 80 + w.toNat := by
  have := hF.at_lt n
  have := hF.room
  unfold tabS
  rw [BitVec.toNat_add, hF.qry_toNat]
  omega

/-- Before any entry. -/
theorem St.nil (fq fg : (⟨1, ![384]⟩ : Shape).Idx → BitVec 32) (h : ∀ j, (fg j).toNat < 320000) :
    St big at' tv ts w 0 0#32 fq fg where
  pos_eq := by rw [Nat.count_zero]
  qid := Packed.nil _ _ _
  tid := Packed.nil _ _ _
  lt := h

section Vector

variable {n : ℕ} {v : FVec F L16 .f32} {g : IVec L16 32} {tv' : FVec F L16 .f32} {ts' : IVec L16 32}
  (hV : Vec16 big at' tv ts n v g tv' ts')
include hV

/-- A lane's bit. -/
theorem Vec16.mask_eq (k : Fin 16) : mask v g tv' ts' (ix1 k) = keepBit big at' tv ts (n + k) := by
  show IntOp.ori (FloatOps.cmpf .ogt (v (ix1 k)) (tv' (ix1 k))) (IntOp.andi (FloatOps.cmpf .oeq (v (ix1 k)) (tv' (ix1 k)))
    (IntOp.cmpi .sle (g (ix1 k)) (ts' (ix1 k)))) = _
  rw [hV.g_eq, hV.v_eq, hV.tv_eq, hV.ts_eq]
  rfl

/-- A lane's bit, as a number. -/
theorem Vec16.ones_eq (k : Fin 16) : ones (mask v g tv' ts') (ix1 k)
    = if keep big at' tv ts (n + k) then 1#32 else 0#32 := by
  show (mask v g tv' ts' (ix1 k)).setWidth 32 = if keepBit big at' tv ts (n + k) = 1#1 then 1#32 else 0#32
  rw [hV.mask_eq]
  generalize keepBit big at' tv ts (n + k) = b
  revert b
  decide

variable (hF : Fits big at' tv ts w)
include hF

/-- A lane's query. -/
theorem Vec16.query_eq (k : Fin 16) : query g (ix1 k) = qryS at' (n + k) := by
  have hlt := hF.at_lt (n + k)
  refine query_lane (c := (atS at' (n + k)).toNat % 80) ?_ (Nat.mod_lt _ (by omega)) k ?_
  · rw [hF.qry_toNat]
    omega
  · rw [hV.g_eq]
    apply BitVec.eq_of_toNat_eq
    rw [id_toNat (by rw [hF.qry_toNat]; omega) (Nat.mod_lt _ (by omega)), hF.qry_toNat]
    omega

/-- A lane's row of the table. -/
theorem Vec16.row_eq (k : Fin 16) : addi (query g) (broadcast L16 w) (ix1 k) = tabS at' w (n + k) := by
  show query g (ix1 k) + w = _
  rw [hV.query_eq hF]
  rfl

variable {pos : BitVec 32} {fq fg : (⟨1, ![384]⟩ : Shape).Idx → BitVec 32} (hS : St big at' tv ts w n pos fq fg)
include hS

/-- A lane's position: the number of kept entries before it. -/
theorem Vec16.place_eq (k : Fin 16) : (place pos (ones (mask v g tv' ts')) (ix1 k)).toNat
    = Nat.count (keep big at' tv ts) (n + k) := by
  unfold place
  rw [position (keep big at' tv ts) _ n pos hV.ones_eq hS.pos_eq k, BitVec.toNat_ofNat]
  have := hF.few
  have := Nat.count_monotone (keep big at' tv ts) (show n + k ≤ 20000 by have := hV.inside; omega)
  omega

/-- Every lane's position is one of the buffers' places. -/
theorem Vec16.place_lt (a : Fin 1) (x : L16.Idx) :
    ((![place pos (ones (mask v g tv' ts'))] : Fin 1 → IVec L16 32) a x).toNat < (⟨1, ![384]⟩ : Shape).size a := by
  obtain ⟨k, rfl⟩ : ∃ k : Fin 16, x = ix1 k := ⟨x 0, eq_ix1 x⟩
  rw [Fin.eq_zero a]
  have := hF.few
  have := Nat.count_monotone (keep big at' tv ts) (show n + k.val ≤ 20000 by have := hV.inside; omega)
  have h : (place pos (ones (mask v g tv' ts')) (ix1 k)).toNat < 384 := by
    rw [hV.place_eq hF hS]
    omega
  exact h

/-- One step: the two stores and the new position keep what holds, sixteen entries on. -/
theorem Vec16.step (h₁ h₂ h15) : St big at' tv ts w (n + 16)
    (pos + extractAt ![15] (tops (scan .sum (ones (mask v g tv' ts')))) h15)
    (storeIdx (F := F) (e := .i32) fq (![place pos (ones (mask v g tv' ts'))] : Fin 1 → IVec L16 32) (query g)
      (mask v g tv' ts') false h₁)
    (storeIdx (F := F) (e := .i32) fg (![place pos (ones (mask v g tv' ts'))] : Fin 1 → IVec L16 32)
      (addi (query g) (broadcast L16 w)) (mask v g tv' ts') false h₂) := by
  have hm : ∀ k : Fin 16, mask v g tv' ts' (ix1 k) = 1#1 ↔ keep big at' tv ts (n + k) := fun k => by
    rw [hV.mask_eq]
    exact Iff.rfl
  refine ⟨?_, ?_, ?_, ?_⟩
  · have h := next_position (keep big at' tv ts) (ones (mask v g tv' ts')) n hV.ones_eq
    have hx : extractAt ![15] (tops (scan .sum (ones (mask v g tv' ts')))) h15
        = tops (scan .sum (ones (mask v g tv' ts'))) (ix1 (15 : Fin 16)) := by
      unfold extractAt
      refine congrArg _ (funext fun a => ?_)
      rw [Fin.eq_zero a]
      rfl
    rw [hx, hS.pos_eq, count_shift, BitVec.ofNat_add]
    exact congrArg _ h
  · exact Packed.step (F := F) (e := .i32) _ _ n fq hS.qid _ _ _ _ hm (hV.place_eq hF hS) (hV.query_eq hF)
  · exact Packed.step (F := F) (e := .i32) _ _ n fg hS.tid _ _ _ _ hm (hV.place_eq hF hS) (hV.row_eq hF)
  · refine storeIdx_forall (F := F) (e := .i32) (fun x : BitVec 32 => x.toNat < 320000) fg _ _ _ _ hS.lt fun k _ => ?_
    rw [hV.row_eq hF, hF.tab_toNat]
    have := hF.at_lt (n + k)
    have := hF.room
    omega

end Vector

end Stream

end Cert.Proof.RowLanes
end
-- ==== Proof.RowSetup.lean ====
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.RowsKernelIdeal
public import proofs.«01_k».proof.Proof.Gen.RowsKernelIdeal.Skeleton
public import proofs.«01_k».proof.Proof.RowLanes

@[expose] public section

/-!
# The row kernel's launch, set up

The names the other modules share: the program as the launch theorem reads it, the ghost state of its handshakes, the
memory cells of its arguments and results, and the tile's own buffers.
-/

noncomputable section

namespace Cert.Proof.Stage2

open Cert.RowsKernelIdeal Cert.RowsKernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem reads it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's side conditions. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

abbrev UH : Type := URounds (GSem nD τ sig) ℕ
abbrev UU : Type := UH × Counters

/-- The ghost state of a run. -/
abbrev MM (F : FTy → Type) := MT nD τ sig (HIx 1) (Elt F) ℕ UU ℕ

abbrev EH : Emb UH (MM F) := embL

/-! ## The buffers -/

variable (m : (ℓ : Loc nD τ sig) → Buf (Elt F) ℓ)

/-- The scores as the call takes them (its table of rows), the largest values of the queries and their flat ids, the two
thresholds, and the two results, as cells of device `d`. -/
abbrev tabLoc (d : Dev nD) : Loc nD τ sig := (SparseCore.T d).loc main_v1
abbrev bigLoc (d : Dev nD) : Loc nD τ sig := (SparseCore.T d).loc main_arg1
abbrev atLoc (d : Dev nD) : Loc nD τ sig := (SparseCore.T d).loc main_arg2
abbrev tvLoc (d : Dev nD) : Loc nD τ sig := (SparseCore.T d).loc main_arg3
abbrev tsLoc (d : Dev nD) : Loc nD τ sig := (SparseCore.T d).loc main_arg4
abbrev candLoc (d : Dev nD) : Loc nD τ sig := (SparseCore.T d).loc main_v2_0
abbrev qryLoc (d : Dev nD) : Loc nD τ sig := (SparseCore.T d).loc main_v2_1

/-- The SparseCore and the tile of a grid position. -/
abbrev cV (L : grid0.Coords) : Fin τ.nSC := (L 0).castLE hcore0
abbrev jV (L : grid0.Coords) : Fin τ.nSub := (L 1).castLE hsub0

/-- The tile of a grid position, as a thread of device `d`. -/
abbrev th (d : Dev nD) (L : grid0.Coords) := V (nD := nD) (τ := τ) d (cV L) (jV L)

end Cert.Proof.Stage2
end
-- ==== Proof.RowPack.lean ====
module

public import proofs.«01_k».proof.Proof.RowSetup

@[expose] public section

/-!
# The row kernel's loops

A tile clears its two packed buffers, then goes through the image's queries sixteen at a time and packs the kept ones.
-/

noncomputable section

namespace Cert.Proof.Stage2

open Cert.RowsKernelIdeal Cert.RowsKernelIdeal.Gen
open Idealize.ShloMosaic
open Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Cert.Proof.Compact Cert.Proof.Lanes Cert.Proof.RowLanes

variable {F : FTy → Type} [FloatOps F]

local notation "𝕄" => MT nD τ sig (HIx 1) (Elt F) ℕ UU ℕ

/-- The tile's own buffers: the largest values of an image's queries and their flat ids, the two thresholds, the kept queries
and their rows of the table, and the rows gathered. -/
abbrev bBig : Memref sig .scVector .vmem S20000 .f32 := Memref.whole cc0_scratch0
abbrev bAt : Memref sig .scVector .vmem S20000 .i32 := Memref.whole cc0_scratch1
abbrev bTv : Memref sig .scVector .vmem S1x16 .f32 := Memref.whole cc0_scratch2
abbrev bTs : Memref sig .scVector .vmem S1x16 .i32 := Memref.whole cc0_scratch3
abbrev bQry : Memref sig .scVector .vmem S384 .i32 := Memref.whole cc0_scratch4
abbrev bTab : Memref sig .scVector .vmem S384 .i32 := Memref.whole cc0_scratch5
abbrev bRows : Memref sig .scVector .vmem S384x128 .f32 := Memref.whole cc0_scratch6

/-- The body of the clearing loop, at the tile's buffers. -/
abbrev zeroBody (L : grid0.Coords) (r : BitVec 32) (h1 : k0_cond1 L = 1#1) :=
  k0_t1_body (F := F) L (Memref.whole main_v1_scv) (Memref.isWhole_whole _)
    (Memref.whole main_arg1_scv) (Memref.isWhole_whole _)
    (Memref.whole main_arg2_scv) (Memref.isWhole_whole _)
    (Memref.whole main_arg3_scv) (Memref.isWhole_whole _)
    (Memref.whole main_arg4_scv) (Memref.isWhole_whole _)
    (Memref.whole main_v2_0_scv) (Memref.isWhole_whole _)
    (Memref.whole main_v2_1_scv) (Memref.isWhole_whole _)
    bBig (Memref.isWhole_whole _) bAt (Memref.isWhole_whole _) bTv (Memref.isWhole_whole _) bTs (Memref.isWhole_whole _) bQry (Memref.isWhole_whole _) bTab (Memref.isWhole_whole _) bRows (Memref.isWhole_whole _)
    cc0_scratch7 cc0_scoped0 cc0_scoped1 cc0_scoped2 cc0_scoped3 cc0_scoped4 cc0_scoped5
    r h1

/-- The body of the loop over the queries, at the tile's buffers. -/
abbrev packBody (L : grid0.Coords) (r : BitVec 32) (h1 : k0_cond1 L = 1#1) (v6 : Vec F S1x16 .f32) (v8 : Vec F S1x16 .i32) :=
  k0_t2_body (F := F) L (Memref.whole main_v1_scv) (Memref.isWhole_whole _)
    (Memref.whole main_arg1_scv) (Memref.isWhole_whole _)
    (Memref.whole main_arg2_scv) (Memref.isWhole_whole _)
    (Memref.whole main_arg3_scv) (Memref.isWhole_whole _)
    (Memref.whole main_arg4_scv) (Memref.isWhole_whole _)
    (Memref.whole main_v2_0_scv) (Memref.isWhole_whole _)
    (Memref.whole main_v2_1_scv) (Memref.isWhole_whole _)
    bBig (Memref.isWhole_whole _) bAt (Memref.isWhole_whole _) bTv (Memref.isWhole_whole _) bTs (Memref.isWhole_whole _) bQry (Memref.isWhole_whole _) bTab (Memref.isWhole_whole _) bRows (Memref.isWhole_whole _)
    cc0_scratch7 cc0_scoped0 cc0_scoped1 cc0_scoped2 cc0_scoped3 cc0_scoped4 cc0_scoped5
    r h1 v6 v8

/-- Sixteen queries: load their values and ids, find the kept lanes' positions, and store queries and rows of the table there;
the position after them. -/
def packFlat (L : grid0.Coords) (r : BitVec 32) (h1 : k0_cond1 L = 1#1) (tv : Vec F S1x16 .f32) (ts : Vec F S1x16 .i32)
    (k : Fin k0_t2_loop.trips) (pos : BitVec 32) : Prog (TpuEff nD τ sig (Elt F) Λ₀ (.scVector ((L 0).castLE hcore0) ((L 1).castLE hsub0))) (BitVec 32) := do
  let v : Vec F S16 .f32 ← Prog.lift (.load bBig (Rect.unit (s := S20000) (k0_off4 k) S16.size (k0_off4_inb L k h1)).toLoadRect (View.loadsAt_vmem h_S16))
  let g : Vec F S16 .i32 ← Prog.lift (.load bAt (Rect.unit (s := S20000) (k0_off4 k) S16.size (k0_off4_inb L k h1)).toLoadRect (View.loadsAt_vmem h_S16))
  let msk : IVec S16 1 := mask v g (shapeCast S16 tv shapeCasts_S1x16_S16) (shapeCast S16 ts shapeCasts_S1x16_S16)
  have h : k0_chk1 L (place pos (ones msk)) := (← Prog.lift (TpuEff.assume (k0_chk1 L (place pos (ones msk))) (k0_chk1.dec L (place pos (ones msk))))).down
  SparseCore.vectorStoreIdx bQry ![place pos (ones msk)] (query g) msk false (k0_idx1_inb L _ h h1) (View.stores_vmem_bits_univ h_S384 rfl)
  SparseCore.vectorStoreIdx bTab ![place pos (ones msk)] (addi (query g) (broadcast S16 (Scalar.muli r 20000#32))) msk false (k0_idx2_inb L _ h h1) (View.stores_vmem_bits_univ h_S384 rfl)
  pure (pos + extractAt ![15] (tops (scan .sum (ones msk))) inpos_S16_p15)

set_option maxRecDepth 65536 in
/-- A trip of the loop over the queries is that. -/
theorem packBody_eq (L : grid0.Coords) (r : BitVec 32) (h1 : k0_cond1 L = 1#1) (tv : Vec F S1x16 .f32) (ts : Vec F S1x16 .i32)
    (k : Fin k0_t2_loop.trips) (pos : BitVec 32) : packBody L r h1 tv ts k pos = packFlat L r h1 tv ts k pos := rfl

section Blocks

/-- A store of sixteen elements at `off` of `bQry` puts lane `l` at `off + l`. -/
theorem store_qry_at (off : Fin 1 → ℕ) (inb : ∀ a, off a + S16.size a ≤ S384.size a) (f : Vec F S384 .i32) (v : Vec F S16 .i32)
    (j : Fin 384) (l : Fin 16) (h : j.val = off 0 + l.val) :
    ((bQry.access (Rect.unit (s := S384) off S16.size inb)).write (Elt F) f v Finset.univ : Vec F S384 .i32) (ix1 j) = v (ix1 l) := by
  have h' := View.write_emb_of_mem (Val := Elt F) (v := bQry.access (Rect.unit (s := S384) off S16.size inb)) f v
    (M := Finset.univ) (x := ix1 l) (Finset.mem_univ _)
  have he : (bQry.access (Rect.unit (s := S384) off S16.size inb)).emb (ix1 l) = ix1 j := by
    funext a
    rw [Fin.eq_zero a]
    apply Fin.ext
    show off 0 + 1 * l.val = j.val
    omega
  rw [he] at h'
  exact h'

/-- It leaves what lies before `off` as it was. -/
theorem store_qry_before (off : Fin 1 → ℕ) (inb : ∀ a, off a + S16.size a ≤ S384.size a) (f : Vec F S384 .i32) (v : Vec F S16 .i32)
    (j : Fin 384) (h : j.val < off 0) :
    ((bQry.access (Rect.unit (s := S384) off S16.size inb)).write (Elt F) f v Finset.univ : Vec F S384 .i32) (ix1 j) = f (ix1 j) := by
  refine View.write_of_not_mem _ _ _ fun hm => ?_
  obtain ⟨x, -, hx⟩ := Finset.mem_map.mp hm
  have h0 := congrArg (fun i : S384.Idx => (i 0).val) hx
  have h1 : off 0 + 1 * (x 0).val = j.val := h0
  omega

/-- A store of sixteen elements at `off` of `bTab` puts lane `l` at `off + l`. -/
theorem store_tab_at (off : Fin 1 → ℕ) (inb : ∀ a, off a + S16.size a ≤ S384.size a) (f : Vec F S384 .i32) (v : Vec F S16 .i32)
    (j : Fin 384) (l : Fin 16) (h : j.val = off 0 + l.val) :
    ((bTab.access (Rect.unit (s := S384) off S16.size inb)).write (Elt F) f v Finset.univ : Vec F S384 .i32) (ix1 j) = v (ix1 l) := by
  have h' := View.write_emb_of_mem (Val := Elt F) (v := bTab.access (Rect.unit (s := S384) off S16.size inb)) f v
    (M := Finset.univ) (x := ix1 l) (Finset.mem_univ _)
  have he : (bTab.access (Rect.unit (s := S384) off S16.size inb)).emb (ix1 l) = ix1 j := by
    funext a
    rw [Fin.eq_zero a]
    apply Fin.ext
    show off 0 + 1 * l.val = j.val
    omega
  rw [he] at h'
  exact h'

/-- It leaves what lies before `off` as it was. -/
theorem store_tab_before (off : Fin 1 → ℕ) (inb : ∀ a, off a + S16.size a ≤ S384.size a) (f : Vec F S384 .i32) (v : Vec F S16 .i32)
    (j : Fin 384) (h : j.val < off 0) :
    ((bTab.access (Rect.unit (s := S384) off S16.size inb)).write (Elt F) f v Finset.univ : Vec F S384 .i32) (ix1 j) = f (ix1 j) := by
  refine View.write_of_not_mem _ _ _ fun hm => ?_
  obtain ⟨x, -, hx⟩ := Finset.mem_map.mp hm
  have h0 := congrArg (fun i : S384.Idx => (i 0).val) hx
  have h1 : off 0 + 1 * (x 0).val = j.val := h0
  omega

end Blocks

section Row

variable (d : Dev nD) (L : grid0.Coords) (r : BitVec 32) (h1 : k0_cond1 L = 1#1)
  (big : (⟨1, ![20000]⟩ : Shape).Idx → F .f32) (at' : (⟨1, ![20000]⟩ : Shape).Idx → BitVec 32)
  (tv : (⟨2, ![1, 16]⟩ : Shape).Idx → F .f32) (ts : (⟨2, ![1, 16]⟩ : Shape).Idx → BitVec 32)

/-- A masked store to the lanes' positions of the tile's buffer `bQry`, held whole. -/
theorem scatter_qry {idxs : Fin 1 → IVec S16 32} {v : Vec F S16 .i32} {msk : IVec S16 1} {h : ∀ a x, (idxs a x).toNat < S384.size a}
    {hs : (bQry.access (.whole S384)).Stores Finset.univ} {α : Type}
    {k : PUnit → Prog (TpuEff nD τ sig (Elt F) Λ₀ (.scVector (cV L) (jV L))) α} {Q : α → sProp 𝕄} {f : Vec F S384 .i32} :
    (bQry.view.loc (th d L) ↦{fullShare} f : sProp 𝕄)
      ⊢ iprop(((bQry.view.loc (th d L) ↦{fullShare} (storeIdx f idxs v msk false h : Vec F S384 .i32))
          -∗ wp frame (wpE (defs₀ (F := F)) 𝒱₀ (th d L) none) Set.univ (k ⟨⟩) Q)
        -∗ wp frame (wpE (defs₀ (F := F)) 𝒱₀ (th d L) none) Set.univ (SparseCore.vectorStoreIdx bQry idxs v msk false h hs >>= k) Q) := by
  have hset : (bQry.access (.whole S384)).set = Finset.univ := Memref.set_access_whole cc0_scratch4
  have hr : (bQry.access (.whole S384)).read (Elt F) f = f := Memref.read_access_whole (Elt F) cc0_scratch4 f
  have hw : ∀ w, (bQry.access (.whole S384)).write (Elt F) f w Finset.univ = w := Memref.write_access_whole_univ (Elt F) cc0_scratch4 f
  have hp := SparseCore.wp_vectorStoreIdx (defs := defs₀ (F := F)) 𝒱₀ (th d L) none Set.univ (base := bQry) (idxs := idxs) (v := v)
    (mask := msk) (add := false) (h := h) (hs := hs) (k := k) (Q := Q) (f := f)
  rw [hset, hr, hw] at hp
  exact hp

/-- A masked store to the lanes' positions of the tile's buffer `bTab`, held whole. -/
theorem scatter_tab {idxs : Fin 1 → IVec S16 32} {v : Vec F S16 .i32} {msk : IVec S16 1} {h : ∀ a x, (idxs a x).toNat < S384.size a}
    {hs : (bTab.access (.whole S384)).Stores Finset.univ} {α : Type}
    {k : PUnit → Prog (TpuEff nD τ sig (Elt F) Λ₀ (.scVector (cV L) (jV L))) α} {Q : α → sProp 𝕄} {f : Vec F S384 .i32} :
    (bTab.view.loc (th d L) ↦{fullShare} f : sProp 𝕄)
      ⊢ iprop(((bTab.view.loc (th d L) ↦{fullShare} (storeIdx f idxs v msk false h : Vec F S384 .i32))
          -∗ wp frame (wpE (defs₀ (F := F)) 𝒱₀ (th d L) none) Set.univ (k ⟨⟩) Q)
        -∗ wp frame (wpE (defs₀ (F := F)) 𝒱₀ (th d L) none) Set.univ (SparseCore.vectorStoreIdx bTab idxs v msk false h hs >>= k) Q) := by
  have hset : (bTab.access (.whole S384)).set = Finset.univ := Memref.set_access_whole cc0_scratch5
  have hr : (bTab.access (.whole S384)).read (Elt F) f = f := Memref.read_access_whole (Elt F) cc0_scratch5 f
  have hw : ∀ w, (bTab.access (.whole S384)).write (Elt F) f w Finset.univ = w := Memref.write_access_whole_univ (Elt F) cc0_scratch5 f
  have hp := SparseCore.wp_vectorStoreIdx (defs := defs₀ (F := F)) 𝒱₀ (th d L) none Set.univ (base := bTab) (idxs := idxs) (v := v)
    (mask := msk) (add := false) (h := h) (hs := hs) (k := k) (Q := Q) (f := f)
  rw [hset, hr, hw] at hp
  exact hp

/-- A load of sixteen values, lane by lane. -/
theorem load_big (off : Fin 1 → ℕ) (inb : ∀ a, off a + S16.size a ≤ S20000.size a) (n : ℕ) (h0 : off 0 = n) (k : Fin 16) (hn : n + k.val < 20000) :
    bBig.view.readAt (Elt F) (Rect.unit (s := S20000) off S16.size inb).toLoadRect (big : Vec F S20000 .f32) (ix1 k) = bigS big (n + k) := by
  show big _ = big _
  refine congrArg big (funext fun a => Fin.ext ?_)
  rw [Fin.eq_zero a]
  show off 0 + 1 * k.val = (n + k.val) % 20000
  omega

/-- A load of sixteen ids, lane by lane. -/
theorem load_at (off : Fin 1 → ℕ) (inb : ∀ a, off a + S16.size a ≤ S20000.size a) (n : ℕ) (h0 : off 0 = n) (k : Fin 16) (hn : n + k.val < 20000) :
    bAt.view.readAt (Elt F) (Rect.unit (s := S20000) off S16.size inb).toLoadRect (at' : Vec F S20000 .i32) (ix1 k) = atS at' (n + k) := by
  show at' _ = at' _
  refine congrArg at' (funext fun a => Fin.ext ?_)
  rw [Fin.eq_zero a]
  show off 0 + 1 * k.val = (n + k.val) % 20000
  omega

/-- Trip `k`'s vectors are sixteen entries of the stream. -/
theorem vec16_trip (k : ℕ) (hk : k < 1250) (off : Fin 1 → ℕ) (inb : ∀ a, off a + S16.size a ≤ S20000.size a) (hoff : off = ![16 * k]) :
    Vec16 big at' tv ts (16 * k)
      (bBig.view.readAt (Elt F) (Rect.unit (s := S20000) off S16.size inb).toLoadRect (big : Vec F S20000 .f32))
      (bAt.view.readAt (Elt F) (Rect.unit (s := S20000) off S16.size inb).toLoadRect (at' : Vec F S20000 .i32))
      (shapeCast S16 (tv : Vec F S1x16 .f32) shapeCasts_S1x16_S16) (shapeCast S16 (ts : Vec F S1x16 .i32) shapeCasts_S1x16_S16) where
  inside := by omega
  v_eq l := load_big big off inb _ (by rw [hoff]; rfl) l (by omega)
  g_eq l := load_at at' off inb _ (by rw [hoff]; rfl) l (by omega)
  tv_eq l := by
    refine (shapeCast_1a_a_apply _ _ l).trans ?_
    congr 2
    apply Fin.ext
    show l.val = (16 * k + l.val) % 16
    omega
  ts_eq l := by
    refine (shapeCast_1a_a_apply _ _ l).trans ?_
    congr 2
    apply Fin.ext
    show l.val = (16 * k + l.val) % 16
    omega

/-- A program that returns at once, followed by another, is the other. -/
theorem ret_then {E : Type → Type} {α β : Type} (a : α) (k : α → Prog E β) : (Prog.ret a).bind k = k a := rfl

/-- One trip of the clearing loop. -/
theorem zero_trip (k : Fin k0_t1_loop.trips) (acc : Unit) (fq fg : Vec F S384 .i32)
    (hz : ∀ j : Fin 384, j.val < 16 * k.val → fg (ix1 j) = 0#32) :
    iprop((bQry.view.loc (th d L) ↦{fullShare} fq) ∗ (bTab.view.loc (th d L) ↦{fullShare} fg) : sProp 𝕄)
      ⊢ wp frame (wpE (defs₀ (F := F)) 𝒱₀ (th d L) none) Set.univ (zeroBody L r h1 k acc)
          fun _ => iprop(∃ fq' fg' : Vec F S384 .i32, (bQry.view.loc (th d L) ↦{fullShare} fq') ∗ (bTab.view.loc (th d L) ↦{fullShare} fg')
            ∗ ⌜∀ j : Fin 384, j.val < 16 * (k.val + 1) → fg' (ix1 j) = 0#32⌝) := by
  iintro ⟨Hq, Hg⟩
  sl_unfold [zeroBody, k0_t1_body]
  iapply (wp_load 𝒱₀ (th d L) none Set.univ (m := bQry) (S := Finset.univ) (Finset.subset_univ _)) $$ Hq; iintro Hq
  iapply (wp_store 𝒱₀ (th d L) none Set.univ (m := bQry) (r := Rect.unit (s := S384) (k0_off3 k) S16.size (k0_off3_inb L k h1))
    (Mk := Finset.univ) (S := Finset.univ) (Finset.subset_univ _)) $$ Hq; iintro Hq
  iapply (wp_load 𝒱₀ (th d L) none Set.univ (m := bTab) (S := Finset.univ) (Finset.subset_univ _)) $$ Hg; iintro Hg
  iapply (wp_store 𝒱₀ (th d L) none Set.univ (m := bTab) (r := Rect.unit (s := S384) (k0_off3 k) S16.size (k0_off3_inb L k h1))
    (Mk := Finset.univ) (S := Finset.univ) (Finset.subset_univ _)) $$ Hg; iintro Hg
  simp only [ret_then]
  sl_step
  iexists _, _
  isplitl [Hq]; · iexact Hq
  isplitl [Hg]; · iexact Hg
  ipureintro
  intro j hj
  have hoff : k0_off3 k 0 = 16 * k.val := by rw [k0_off3_eq]; rfl
  by_cases h : j.val < 16 * k.val
  · exact (store_tab_before _ _ _ _ j (by omega)).trans (hz j h)
  · exact store_tab_at _ _ _ _ j ⟨j.val - 16 * k.val, by omega⟩ (by show _ = _ + (j.val - 16 * k.val); omega)

/-- One trip of the loop over the queries keeps what holds of the packed buffers, sixteen entries on. -/
theorem pack_trip (hF : Fits big at' tv ts (Scalar.muli r 20000#32)) (k : Fin k0_t2_loop.trips) (acc : BitVec 32)
    (fq fg : Vec F S384 .i32) (hS : St big at' tv ts (Scalar.muli r 20000#32) (16 * k.val) acc fq fg) :
    iprop((bBig.view.loc (th d L) ↦{fullShare} (big : Vec F S20000 .f32)) ∗ (bAt.view.loc (th d L) ↦{fullShare} (at' : Vec F S20000 .i32))
        ∗ (bQry.view.loc (th d L) ↦{fullShare} fq) ∗ (bTab.view.loc (th d L) ↦{fullShare} fg) : sProp 𝕄)
      ⊢ wp frame (wpE (defs₀ (F := F)) 𝒱₀ (th d L) none) Set.univ (packBody L r h1 tv ts k acc)
          fun acc' => iprop((bBig.view.loc (th d L) ↦{fullShare} (big : Vec F S20000 .f32)) ∗ (bAt.view.loc (th d L) ↦{fullShare} (at' : Vec F S20000 .i32))
            ∗ ∃ fq' fg', (bQry.view.loc (th d L) ↦{fullShare} fq') ∗ (bTab.view.loc (th d L) ↦{fullShare} fg')
              ∗ ⌜St big at' tv ts (Scalar.muli r 20000#32) (16 * (k.val + 1)) acc' fq' fg'⌝) := by
  have hk : k.val < 1250 := k.isLt.trans_le k0_t2_abs.2.1
  have hV := vec16_trip big at' tv ts k.val hk _ (k0_off4_inb L k h1) (k0_off4_eq k)
  rw [packBody_eq]
  iintro ⟨Hb, Ha, Hq, Hg⟩
  sl_unfold [packFlat]
  iapply (wp_load 𝒱₀ (th d L) none Set.univ (m := bBig) (S := Finset.univ) (Finset.subset_univ _)) $$ Hb; iintro Hb
  iapply (wp_load 𝒱₀ (th d L) none Set.univ (m := bAt) (S := Finset.univ) (Finset.subset_univ _)) $$ Ha; iintro Ha
  iapply (wp_assume 𝒱₀ (th d L) none Set.univ (show k0_chk1 L _ from ⟨fun _ => hV.place_lt hF hS, fun _ => hV.place_lt hF hS⟩))
  iapply (scatter_qry d L) $$ Hq; iintro Hq
  iapply (scatter_tab d L) $$ Hg; iintro Hg
  sl_step
  isplitl [Hb]; · iexact Hb
  isplitl [Ha]; · iexact Ha
  iexists _, _
  isplitl [Hq]; · iexact Hq
  isplitl [Hg]; · iexact Hg
  ipureintro
  exact hV.step hF hS _ _ _

theorem t1_trips : k0_t1_loop.trips = 24 := by decide
theorem t2_trips : k0_t2_loop.trips = 1250 := by decide

/-- What a tile does between its copies in and its gathers `k`: it reads the thresholds, clears the packed buffers, and packs
the kept queries. -/
def pack (L : grid0.Coords) (r : BitVec 32) (h1 : k0_cond1 L = 1#1) (k : Prog (TpuEff nD τ sig (Elt F) Λ₀ (.scVector ((L 0).castLE hcore0) ((L 1).castLE hsub0))) PUnit) : Prog (TpuEff nD τ sig (Elt F) Λ₀ (.scVector ((L 0).castLE hcore0) ((L 1).castLE hsub0))) PUnit := do
  let tv : Vec F S1x16 .f32 ← Prog.lift (.load bTv (Rect.unit (s := S1x16) ![0, 0] S1x16.size inb_S1x16_S1x16_0_0).toLoadRect (View.loadsAt_vmem h_S1x16))
  let ts : Vec F S1x16 .i32 ← Prog.lift (.load bTs (Rect.unit (s := S1x16) ![0, 0] S1x16.size inb_S1x16_S1x16_0_0).toLoadRect (View.loadsAt_vmem h_S1x16))
  Scf.Loop.for k0_t1_loop (k0_t1_ok L h1) ⟨⟩ (zeroBody L r h1)
  let _ ← Scf.Loop.for k0_t2_loop (k0_t2_ok L h1) 0#32 (packBody L r h1 tv ts)
  k

theorem read_tv (f : Vec F S1x16 .f32) :
    bTv.view.readAt (Elt F) (Rect.unit (s := S1x16) ![0, 0] S1x16.size inb_S1x16_S1x16_0_0).toLoadRect f = f := by
  exact Memref.readAt_unit_zero (Elt F) cc0_scratch2 (off := ![0, 0]) (by funext a; match a with | 0 => rfl | 1 => rfl) _ f

theorem read_ts (f : Vec F S1x16 .i32) :
    bTs.view.readAt (Elt F) (Rect.unit (s := S1x16) ![0, 0] S1x16.size inb_S1x16_S1x16_0_0).toLoadRect f = f := by
  exact Memref.readAt_unit_zero (Elt F) cc0_scratch3 (off := ![0, 0]) (by funext a; match a with | 0 => rfl | 1 => rfl) _ f

/-- What packing leaves: the input buffers as they were, and the kept queries packed. -/
theorem pack_spec (hF : Fits big at' tv ts (Scalar.muli r 20000#32)) (fq fg : Vec F S384 .i32)
    (kk : Prog (TpuEff nD τ sig (Elt F) Λ₀ (.scVector (cV L) (jV L))) PUnit) (Q : PUnit → sProp 𝕄) :
    iprop((bBig.view.loc (th d L) ↦{fullShare} (big : Vec F S20000 .f32)) ∗ (bAt.view.loc (th d L) ↦{fullShare} (at' : Vec F S20000 .i32))
        ∗ (bTv.view.loc (th d L) ↦{fullShare} (tv : Vec F S1x16 .f32)) ∗ (bTs.view.loc (th d L) ↦{fullShare} (ts : Vec F S1x16 .i32))
        ∗ (bQry.view.loc (th d L) ↦{fullShare} fq) ∗ (bTab.view.loc (th d L) ↦{fullShare} fg) : sProp 𝕄)
      ⊢ iprop((∀ fq' : Vec F S384 .i32, ∀ fg' : Vec F S384 .i32, ((bBig.view.loc (th d L) ↦{fullShare} (big : Vec F S20000 .f32)) ∗ (bAt.view.loc (th d L) ↦{fullShare} (at' : Vec F S20000 .i32))
            ∗ (bTv.view.loc (th d L) ↦{fullShare} (tv : Vec F S1x16 .f32)) ∗ (bTs.view.loc (th d L) ↦{fullShare} (ts : Vec F S1x16 .i32))
            ∗ (bQry.view.loc (th d L) ↦{fullShare} fq') ∗ (bTab.view.loc (th d L) ↦{fullShare} fg')
            ∗ ⌜∃ acc, St big at' tv ts (Scalar.muli r 20000#32) 20000 acc fq' fg'⌝) -∗ wp frame (wpE (defs₀ (F := F)) 𝒱₀ (th d L) none) Set.univ kk Q)
        -∗ wp frame (wpE (defs₀ (F := F)) 𝒱₀ (th d L) none) Set.univ (pack L r h1 kk) Q) := by
  iintro ⟨Hb, Ha, Htv, Hts, Hq, Hg⟩ Hk
  sl_unfold [pack]
  iapply (wp_load 𝒱₀ (th d L) none Set.univ (m := bTv) (S := Finset.univ) (Finset.subset_univ _)) $$ Htv; iintro Htv
  iapply (wp_load 𝒱₀ (th d L) none Set.univ (m := bTs) (S := Finset.univ) (Finset.subset_univ _)) $$ Hts; iintro Hts
  rw [read_tv, read_ts]
  iapply (Scf.wp_for_bind frame (wpE (defs₀ (F := F)) 𝒱₀ (th d L) none) Set.univ _ _ _ (k0_t1_ok L h1) ⟨⟩ (zeroBody L r h1)
    (fun n _ => iprop(∃ fq' fg' : Vec F S384 .i32, (bQry.view.loc (th d L) ↦{fullShare} fq') ∗ (bTab.view.loc (th d L) ↦{fullShare} fg')
            ∗ ⌜∀ j : Fin 384, j.val < 16 * n → fg' (ix1 j) = 0#32⌝)) (fun k acc => by
      iintro ⟨%fq', %fg', Hq, Hg, %hz⟩
      iapply (zero_trip d L r h1 k acc fq' fg' hz) $$ [Hq Hg]
      isplitl [Hq]; · iexact Hq
      iexact Hg)) $$ [Hq Hg]
  · iexists fq, fg
    isplitl [Hq]; · iexact Hq
    isplitl [Hg]; · iexact Hg
    ipureintro
    intro j hj
    omega
  iintro %acc ⟨%fq1, %fg1, Hq, Hg, %hz⟩
  have hz' : ∀ j, (fg1 j).toNat < 320000 := fun j => by
    obtain ⟨k, rfl⟩ : ∃ k : Fin 384, j = ix1 k := ⟨j 0, eq_ix1 j⟩
    rw [hz k (by
      have h3 : Scf.trips k0_t1_loop.lb k0_t1_loop.ub k0_t1_loop.st = 24 := t1_trips
      omega)]
    decide
  iapply (Scf.wp_for_bind frame (wpE (defs₀ (F := F)) 𝒱₀ (th d L) none) Set.univ _ _ _ (k0_t2_ok L h1) 0#32 (packBody L r h1 tv ts)
    (fun n acc => iprop((bBig.view.loc (th d L) ↦{fullShare} (big : Vec F S20000 .f32)) ∗ (bAt.view.loc (th d L) ↦{fullShare} (at' : Vec F S20000 .i32))
            ∗ ∃ fq' fg', (bQry.view.loc (th d L) ↦{fullShare} fq') ∗ (bTab.view.loc (th d L) ↦{fullShare} fg')
              ∗ ⌜St big at' tv ts (Scalar.muli r 20000#32) (16 * n) acc fq' fg'⌝)) (fun k acc => by
      iintro ⟨Hb, Ha, %fq', %fg', Hq, Hg, %hS⟩
      iapply (pack_trip d L r h1 big at' tv ts hF k acc fq' fg' hS) $$ [Hb Ha Hq Hg]
      isplitl [Hb]; · iexact Hb
      isplitl [Ha]; · iexact Ha
      isplitl [Hq]; · iexact Hq
      iexact Hg)) $$ [Hb Ha Hq Hg]
  · isplitl [Hb]; · iexact Hb
    isplitl [Ha]; · iexact Ha
    iexists fq1, fg1
    isplitl [Hq]; · iexact Hq
    isplitl [Hg]; · iexact Hg
    ipureintro
    exact St.nil fq1 fg1 hz'
  iintro %acc2 ⟨Hb, Ha, %fq2, %fg2, Hq, Hg, %hS⟩
  have hS' : St big at' tv ts (Scalar.muli r 20000#32) 20000 acc2 fq2 fg2 := by
    have h := hS
    have e : 16 * Scf.trips k0_t2_loop.lb k0_t2_loop.ub k0_t2_loop.st = 20000 := by have := t2_trips; exact congrArg (16 * ·) this
    rw [e] at h
    exact h
  iapply Hk $$ [Hb Ha Htv Hts Hq Hg]
  isplitl [Hb]; · iexact Hb
  isplitl [Ha]; · iexact Ha
  isplitl [Htv]; · iexact Htv
  isplitl [Hts]; · iexact Hts
  isplitl [Hq]; · iexact Hq
  isplitl [Hg]; · iexact Hg
  ipureintro
  exact ⟨acc2, hS'⟩

end Row

end Cert.Proof.Stage2
end
-- ==== Proof.RowGather.lean ====
module

public import proofs.«01_k».proof.Proof.RowPack
public import Idealize.ShloMosaic.Lib.SparseCore.FromWhole

@[expose] public section

/-!
# The row kernel's gathers

A tile copies, a block of 128 kept queries at a time, the rows of the table that its list names into its buffer of rows.
-/

noncomputable section

namespace Cert.Proof.Stage2

open Cert.RowsKernelIdeal Cert.RowsKernelIdeal.Gen
open Idealize.ShloMosaic
open Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Cert.Proof.Compact Cert.Proof.Lanes Cert.Proof.RowLanes

variable {F : FTy → Type} [FloatOps F]

local notation "𝕄" => MT nD τ sig (HIx 1) (Elt F) ℕ UU ℕ

/-- All of the table. -/
abbrev tabAll : Memref sig .scVector .hbm S320000x128 .f32 :=
  (Memref.whole main_v1_scv).slice (Rect.unit (s := S320000x128) ![0, 0] S320000x128.size inb_S320000x128_S320000x128_0_0) (fun _ => rfl)

/-- 128 rows of the buffer of rows. -/
abbrev rowsAt (off : Fin 2 → ℕ) (inb : ∀ a, off a + S128x128.size a ≤ S384x128.size a) : Memref sig .scVector .vmem S128x128 .f32 :=
  bRows.slice (Rect.unit (s := S384x128) off S128x128.size inb) (fun _ => rfl)

/-- 128 entries of the list. -/
abbrev listAt (off : Fin 1 → ℕ) (inb : ∀ a, off a + S128.size a ≤ S384.size a) : Memref sig .scVector .vmem S128 .i32 :=
  bTab.slice (Rect.unit (s := S384) off S128.size inb) (fun _ => rfl)

section Gather

variable (d : Dev nD) (L : grid0.Coords)
  (off : Fin 2 → ℕ) (inb : ∀ a, off a + S128x128.size a ≤ S384x128.size a)
  (off' : Fin 1 → ℕ) (inb' : ∀ a, off' a + S128.size a ≤ S384.size a)
  (q : PosShare TreeShare) (T : Vec F S320000x128 .f32) (fr : Vec F S384x128 .f32) (fg : Vec F S384 .i32)

/-- The list's entries are rows of the table. -/
theorem list_lt (hg : ∀ j, (fg j).toNat < 320000) (x : S128.Idx) :
    ((listAt off' inb').view.read (Elt F) fg x).toNat < S320000x128.size gathers_S320000x128_S128x128.axis := hg _

/-- The buffer of rows once a block of the list has been gathered. -/
def gathered (hg : ∀ j, (fg j).toNat < 320000) : Vec F S384x128 .f32 :=
  (rowsAt off inb).view.write (Elt F) fr
    (SparseCore.gatherPayload gathers_S320000x128_S128x128 (tabAll.view.read (Elt F) T)
      (SparseCore.rows ((listAt off' inb').view.read (Elt F) fg) rfl (list_lt off' inb' fg hg))) Finset.univ

/-- A block's gather under way: when it lands, the buffer of rows with the block gathered, and the table and the list back. -/
abbrev Fetching (hg : ∀ j, (fg j).toNat < 320000) : sProp 𝕄 :=
  Transfers.Flight countersEmb (th d L) (.dma cc0_scratch7.sem) (default : HIx 1) (rowsAt off inb).view.dmaCredit
    iprop(((rowsAt off inb).view.loc (th d L) ↦{fullShare} (gathered off inb off' inb' T fr fg hg : Vec F S384x128 .f32))
      ∗ (tabAll.view.loc (th d L) ↦{q} T) ∗ ((listAt off' inb').view.loc (th d L) ↦{fullShare} fg))

/-- A block's rows' credits make up the block's. -/
theorem credit_eq (hg : S320000x128.Gathers 0 S128x128) :
    ∑ j, ((rowsAt off inb).slice (S128x128.rowRect hg.axis' j) (S128x128.stride_rowRect hg.axis' j)).view.dmaCredit = (rowsAt off inb).view.dmaCredit := by
  show ∑ _j : Fin (S128x128.size hg.axis'), sig.dmaCredit .scVector (Kind.scVector.table .vmem) bRows.view.buf (S128x128.rowShape hg.axis') .f32
    = sig.dmaCredit .scVector (Kind.scVector.table .vmem) bRows.view.buf S128x128 .f32
  revert hg
  decide

/-- Starting a block's gather. -/
theorem gather_issue (hg : ∀ j, (fg j).toNat < 320000) {α : Type}
    {k : PUnit → Prog (TpuEff nD τ sig (Elt F) Λ₀ (.scVector (cV L) (jV L))) α} {Q : α → sProp 𝕄} :
    iprop((tabAll.view.loc (th d L) ↦{q} T) ∗ (bRows.view.loc (th d L) ↦{fullShare} fr) ∗ (bTab.view.loc (th d L) ↦{fullShare} fg)
        ∗ semVal (th d L, SemLoc.dma cc0_scratch7.sem) 0 : sProp 𝕄)
      ⊢ iprop((Fetching d L off inb off' inb' q T fr fg hg -∗ wp frame (wpE (defs₀ (F := F)) 𝒱₀ (th d L) none) Set.univ (k ⟨⟩) Q)
        -∗ wp frame (wpE (defs₀ (F := F)) 𝒱₀ (th d L) none) Set.univ (SparseCore.enqueueIndirectGather rfl tabAll (rowsAt off inb) gathers_S320000x128_S128x128
            (listAt off' inb') rfl cc0_scratch7.sem (View.wordExact_bits rfl) rfl (Or.inl rfl) >>= k) Q) :=
  SparseCore.wp_gatherFromWhole countersEmb 𝒱₀ (th d L) none (default : HIx 1) _ (credit_eq off inb _) (by decide) (list_lt off' inb' fg hg)

/-- Waiting for it. -/
theorem gather_wait (hg : ∀ j, (fg j).toNat < 320000) {α : Type} {O : CellTallies nD τ sig (HIx 1)} {W : Waits sig (HIx 1)}
    {k : PUnit → Prog (TpuEff nD τ sig (Elt F) Λ₀ (.scVector (cV L) (jV L))) α} {Q : α → sProp 𝕄} :
    iprop(Fetching d L off inb off' inb' q T fr fg hg ∗ owes (th d L) O W ∗ MayWait (th d L) (.dma cc0_scratch7.sem) (default : HIx 1) O : sProp 𝕄)
      ⊢ iprop(((bRows.view.loc (th d L) ↦{fullShare} (gathered off inb off' inb' T fr fg hg : Vec F S384x128 .f32))
            ∗ (tabAll.view.loc (th d L) ↦{q} T) ∗ (bTab.view.loc (th d L) ↦{fullShare} fg)
            ∗ semVal (th d L, SemLoc.dma cc0_scratch7.sem) 0 ∗ owes (th d L) O (insert (SemLoc.dma cc0_scratch7.sem, (default : HIx 1)) W)
          -∗ wp frame (wpE (defs₀ (F := F)) 𝒱₀ (th d L) none) Set.univ (k ⟨⟩) Q)
        -∗ wp frame (wpE (defs₀ (F := F)) 𝒱₀ (th d L) none) Set.univ (SparseCore.waitIndirectGather cc0_scratch7.sem tabAll (rowsAt off inb) (View.wordExact_bits rfl) (View.wordExact_bits rfl) >>= k) Q) := by
  iintro ⟨Hf, HO, Hm⟩ Hk
  iapply (Transfers.wp_waitLocalO countersEmb 𝒱₀ (th d L) none (default : HIx 1) (rfl : (rowsAt off inb).view.dmaCredit = _)) $$ [Hf HO Hm]
  · isplitl [Hf]; · iexact Hf
    isplitl [HO]; · iexact HO
    iexact Hm
  iintro ⟨⟨Hr, Ht, Hl⟩, Hs, HO⟩
  iapply Hk
  isplitl [Hr]; · iexact Hr
  isplitl [Ht]; · iexact Ht
  isplitl [Hl]; · iexact Hl
  isplitl [Hs]; · iexact Hs
  iexact HO

/-- A read of all of the table is the table. -/
theorem read_all : tabAll.view.read (Elt F) T = T := by
  funext z
  show T _ = T z
  refine congrArg T (funext fun a => Fin.ext ?_)
  match a with
  | 0 =>
    show 0 + 1 * (z 0).val = (z 0).val
    omega
  | 1 =>
    show 0 + 1 * (z 1).val = (z 1).val
    omega

/-- Entry `k` of a block is at place `k`. -/
theorem place_val (k : Fin 128) : (S128.rowMajor.symm k 0).val = k.val := by
  have h := Shape.rowMajor_val_one (S128.rowMajor.symm k)
  exact h.symm.trans (congrArg Fin.val (Equiv.apply_symm_apply S128.rowMajor k))

variable (n : ℕ)

/-- In the block gathered, row `j` of the buffer is the row of the table that entry `j` of the list names. -/
theorem gathered_in (hg : ∀ j, (fg j).toNat < 320000) (hoff : off = ![n, 0]) (hoff' : off' = ![n]) (j : Fin 384) (c : Fin 128)
    (h : n ≤ j.val) (h' : j.val < n + 128) :
    gathered off inb off' inb' T fr fg hg (ix2 j c) = T (ix2 ⟨(fg (ix1 j)).toNat, hg _⟩ c) := by
  subst hoff hoff'
  have hw := View.write_emb_of_mem (Val := Elt F) (v := (rowsAt ![n, 0] inb).view) fr
    (SparseCore.gatherPayload gathers_S320000x128_S128x128 (tabAll.view.read (Elt F) T)
      (SparseCore.rows ((listAt ![n] inb').view.read (Elt F) fg) rfl (list_lt ![n] inb' fg hg)))
    (M := Finset.univ) (x := ix2 (⟨j.val - n, by omega⟩ : Fin 128) c) (Finset.mem_univ _)
  have he : (rowsAt ![n, 0] inb).view.emb (ix2 (⟨j.val - n, by omega⟩ : Fin 128) c) = ix2 j c := by
    funext a
    apply Fin.ext
    match a with
    | 0 =>
      show n + 1 * (j.val - n) = j.val
      omega
    | 1 =>
      show 0 + 1 * c.val = c.val
      omega
  rw [he] at hw
  refine hw.trans ?_
  rw [read_all]
  show T (Shape.Gathers.idx gathers_S320000x128_S128x128 _ _) = T _
  refine congrArg T (funext fun a => Fin.ext ?_)
  match a with
  | 0 =>
    refine (congrArg Fin.val (Shape.Gathers.idx_axis gathers_S320000x128_S128x128
        (SparseCore.rows ((listAt ![n] inb').view.read (Elt F) fg) rfl (list_lt ![n] inb' fg hg)) (ix2 (⟨j.val - n, by omega⟩ : Fin 128) c))).trans ?_
    show (fg _).toNat = (fg _).toNat
    refine congrArg (fun z => (fg z).toNat) (funext fun a => Fin.ext ?_)
    rw [Fin.eq_zero a]
    have h3 := place_val (⟨j.val - n, by omega⟩ : Fin 128)
    show n + 1 * _ = j.val
    exact (congrArg (fun z => n + 1 * z) h3).trans (by show n + 1 * (j.val - n) = j.val; omega)
  | 1 =>
    exact Shape.Gathers.idx_of_ne gathers_S320000x128_S128x128
        (SparseCore.rows ((listAt ![n] inb').view.read (Elt F) fg) rfl (list_lt ![n] inb' fg hg)) (ix2 (⟨j.val - n, by omega⟩ : Fin 128) c) 1 (by decide)

/-- Outside it the buffer is as it was. -/
theorem gathered_out (hg : ∀ j, (fg j).toNat < 320000) (hoff : off = ![n, 0]) (j : Fin 384) (c : Fin 128)
    (h : j.val < n ∨ n + 128 ≤ j.val) : gathered off inb off' inb' T fr fg hg (ix2 j c) = fr (ix2 j c) := by
  subst hoff
  refine View.write_of_not_mem _ _ _ fun hm => ?_
  obtain ⟨x, -, hx⟩ := Finset.mem_map.mp hm
  have h0 := congrArg (fun i : S384x128.Idx => (i 0).val) hx
  have h1 : n + 1 * (x 0).val = j.val := h0
  have h2 : (x 0).val < 128 := (x 0).isLt
  omega

end Gather

end Cert.Proof.Stage2
end
-- ==== Proof.RowRows.lean ====
module

public import proofs.«01_k».proof.Proof.RowGather
public import proofs.«01_k».proof.Proof.Rows

@[expose] public section

/-!
# A tile's parts of the arrays, in the row kernel

Tile `(c, s)` works on row `2 s + c` of every array but the table, if there is such a row.
-/

noncomputable section

namespace Cert.Proof.Stage2

open Cert.RowsKernelIdeal Cert.RowsKernelIdeal.Gen
open Idealize.ShloMosaic
open Idealize.ShloMosaic.ValueIdx
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic
open Cert.Proof.Compact Cert.Proof.Lanes Cert.Proof.RowLanes

variable {F : FTy → Type} [FloatOps F]

local notation "𝕄" => MT nD τ sig (HIx 1) (Elt F) ℕ UU ℕ

open Cert.Proof.Stage4 (rowOf)

/-- The row a grid position works on. -/
abbrev rowNo (L : grid0.Coords) : ℕ := 2 * (L 1).val + (L 0).val

section Rows

variable (d : Dev nD) (L : grid0.Coords) (h1 : k0_cond1 L = 1#1)

/-- The tile's row of the largest values, as the body names it. -/
abbrev bigRow (L : grid0.Coords) (h1 : k0_cond1 L = 1#1) : Memref sig .scVector .hbm S20000 .f32 :=
  ((Memref.whole main_arg1_scv : Memref sig .scVector .hbm S16x20000 .f32).slice (Rect.unit (s := S16x20000) (k0_off1 L) S1x20000.size (k0_off1_inb L h1)) (fun _ => rfl)).squeeze S20000 squeezes_S1x20000_S20000

/-- It is that row. -/
theorem set_bigRow : (bigRow L h1).view.set = rowOf S16x20000 (by decide) (rowNo L) := by
  show (((View.whole main_arg1_scv).slice (Rect.unit (s := S16x20000) (k0_off1 L) S1x20000.size (k0_off1_inb L h1))).reshape S20000 squeezes_S1x20000_S20000.numel_eq).set = _
  rw [View.set_reshape]
  ext i
  rw [View.set_slice_whole]
  refine Rect.mem_set_unit.trans ?_
  refine Iff.trans ?_ (Finset.mem_filter.trans (and_iff_right (Finset.mem_univ i))).symm
  constructor
  · intro h
    have h0 := h 0
    have h0' : k0_off1 L 0 ≤ (i 0).val ∧ (i 0).val < k0_off1 L 0 + 1 := h0
    have e0 : k0_off1 L 0 = rowNo L := congrFun (k0_off1_eq L) 0
    show (i 0).val = rowNo L
    omega
  · intro h a
    have h' : (i 0).val = rowNo L := h
    match a with
    | 0 =>
      have e0 : k0_off1 L 0 = rowNo L := congrFun (k0_off1_eq L) 0
      show k0_off1 L 0 ≤ (i 0).val ∧ (i 0).val < k0_off1 L 0 + 1
      omega
    | 1 =>
      have e0 : k0_off1 L 1 = 0 := congrFun (k0_off1_eq L) 1
      have hl : (i 1).val < 20000 := (i 1).isLt
      show k0_off1 L 1 ≤ (i 1).val ∧ (i 1).val < k0_off1 L 1 + 20000
      omega

/-- Owning it is owning that row of the array. -/
theorem pts_bigRow (f : Buf (Elt F) (bigLoc d)) :
    (((bigRow L h1).view.loc (th d L) ↦[(bigRow L h1).view.set]{fullShare} f : sProp 𝕄))
      = (bigLoc d ↦[rowOf S16x20000 (by decide) (rowNo L)]{fullShare} f) := by
  rw [set_bigRow]

/-- The tile's row of the flat ids, as the body names it. -/
abbrev atRow (L : grid0.Coords) (h1 : k0_cond1 L = 1#1) : Memref sig .scVector .hbm S20000 .i32 :=
  ((Memref.whole main_arg2_scv : Memref sig .scVector .hbm S16x20000 .i32).slice (Rect.unit (s := S16x20000) (k0_off1 L) S1x20000.size (k0_off1_inb L h1)) (fun _ => rfl)).squeeze S20000 squeezes_S1x20000_S20000

/-- It is that row. -/
theorem set_atRow : (atRow L h1).view.set = rowOf S16x20000 (by decide) (rowNo L) := by
  show (((View.whole main_arg2_scv).slice (Rect.unit (s := S16x20000) (k0_off1 L) S1x20000.size (k0_off1_inb L h1))).reshape S20000 squeezes_S1x20000_S20000.numel_eq).set = _
  rw [View.set_reshape]
  ext i
  rw [View.set_slice_whole]
  refine Rect.mem_set_unit.trans ?_
  refine Iff.trans ?_ (Finset.mem_filter.trans (and_iff_right (Finset.mem_univ i))).symm
  constructor
  · intro h
    have h0 := h 0
    have h0' : k0_off1 L 0 ≤ (i 0).val ∧ (i 0).val < k0_off1 L 0 + 1 := h0
    have e0 : k0_off1 L 0 = rowNo L := congrFun (k0_off1_eq L) 0
    show (i 0).val = rowNo L
    omega
  · intro h a
    have h' : (i 0).val = rowNo L := h
    match a with
    | 0 =>
      have e0 : k0_off1 L 0 = rowNo L := congrFun (k0_off1_eq L) 0
      show k0_off1 L 0 ≤ (i 0).val ∧ (i 0).val < k0_off1 L 0 + 1
      omega
    | 1 =>
      have e0 : k0_off1 L 1 = 0 := congrFun (k0_off1_eq L) 1
      have hl : (i 1).val < 20000 := (i 1).isLt
      show k0_off1 L 1 ≤ (i 1).val ∧ (i 1).val < k0_off1 L 1 + 20000
      omega

/-- Owning it is owning that row of the array. -/
theorem pts_atRow (f : Buf (Elt F) (atLoc d)) :
    (((atRow L h1).view.loc (th d L) ↦[(atRow L h1).view.set]{fullShare} f : sProp 𝕄))
      = (atLoc d ↦[rowOf S16x20000 (by decide) (rowNo L)]{fullShare} f) := by
  rw [set_atRow]

/-- The tile's row of the threshold values, as the body names it. -/
abbrev tvRow (L : grid0.Coords) (h1 : k0_cond1 L = 1#1) : Memref sig .scVector .hbm S1x16 .f32 :=
  ((Memref.whole main_arg3_scv : Memref sig .scVector .hbm S16x1x16 .f32).slice (Rect.unit (s := S16x1x16) (k0_off2 L) S1x1x16.size (k0_off2_inb L h1)) (fun _ => rfl)).squeeze S1x16 squeezes_S1x1x16_S1x16

/-- It is that row. -/
theorem set_tvRow : (tvRow L h1).view.set = rowOf S16x1x16 (by decide) (rowNo L) := by
  show (((View.whole main_arg3_scv).slice (Rect.unit (s := S16x1x16) (k0_off2 L) S1x1x16.size (k0_off2_inb L h1))).reshape S1x16 squeezes_S1x1x16_S1x16.numel_eq).set = _
  rw [View.set_reshape]
  ext i
  rw [View.set_slice_whole]
  refine Rect.mem_set_unit.trans ?_
  refine Iff.trans ?_ (Finset.mem_filter.trans (and_iff_right (Finset.mem_univ i))).symm
  constructor
  · intro h
    have h0 := h 0
    have h0' : k0_off2 L 0 ≤ (i 0).val ∧ (i 0).val < k0_off2 L 0 + 1 := h0
    have e0 : k0_off2 L 0 = rowNo L := congrFun (k0_off2_eq L) 0
    show (i 0).val = rowNo L
    omega
  · intro h a
    have h' : (i 0).val = rowNo L := h
    match a with
    | 0 =>
      have e0 : k0_off2 L 0 = rowNo L := congrFun (k0_off2_eq L) 0
      show k0_off2 L 0 ≤ (i 0).val ∧ (i 0).val < k0_off2 L 0 + 1
      omega
    | 1 =>
      have e0 : k0_off2 L 1 = 0 := congrFun (k0_off2_eq L) 1
      have hl : (i 1).val < 1 := (i 1).isLt
      show k0_off2 L 1 ≤ (i 1).val ∧ (i 1).val < k0_off2 L 1 + 1
      omega
    | 2 =>
      have e0 : k0_off2 L 2 = 0 := congrFun (k0_off2_eq L) 2
      have hl : (i 2).val < 16 := (i 2).isLt
      show k0_off2 L 2 ≤ (i 2).val ∧ (i 2).val < k0_off2 L 2 + 16
      omega

/-- Owning it is owning that row of the array. -/
theorem pts_tvRow (f : Buf (Elt F) (tvLoc d)) :
    (((tvRow L h1).view.loc (th d L) ↦[(tvRow L h1).view.set]{fullShare} f : sProp 𝕄))
      = (tvLoc d ↦[rowOf S16x1x16 (by decide) (rowNo L)]{fullShare} f) := by
  rw [set_tvRow]

/-- The tile's row of the threshold ids, as the body names it. -/
abbrev tsRow (L : grid0.Coords) (h1 : k0_cond1 L = 1#1) : Memref sig .scVector .hbm S1x16 .i32 :=
  ((Memref.whole main_arg4_scv : Memref sig .scVector .hbm S16x1x16 .i32).slice (Rect.unit (s := S16x1x16) (k0_off2 L) S1x1x16.size (k0_off2_inb L h1)) (fun _ => rfl)).squeeze S1x16 squeezes_S1x1x16_S1x16

/-- It is that row. -/
theorem set_tsRow : (tsRow L h1).view.set = rowOf S16x1x16 (by decide) (rowNo L) := by
  show (((View.whole main_arg4_scv).slice (Rect.unit (s := S16x1x16) (k0_off2 L) S1x1x16.size (k0_off2_inb L h1))).reshape S1x16 squeezes_S1x1x16_S1x16.numel_eq).set = _
  rw [View.set_reshape]
  ext i
  rw [View.set_slice_whole]
  refine Rect.mem_set_unit.trans ?_
  refine Iff.trans ?_ (Finset.mem_filter.trans (and_iff_right (Finset.mem_univ i))).symm
  constructor
  · intro h
    have h0 := h 0
    have h0' : k0_off2 L 0 ≤ (i 0).val ∧ (i 0).val < k0_off2 L 0 + 1 := h0
    have e0 : k0_off2 L 0 = rowNo L := congrFun (k0_off2_eq L) 0
    show (i 0).val = rowNo L
    omega
  · intro h a
    have h' : (i 0).val = rowNo L := h
    match a with
    | 0 =>
      have e0 : k0_off2 L 0 = rowNo L := congrFun (k0_off2_eq L) 0
      show k0_off2 L 0 ≤ (i 0).val ∧ (i 0).val < k0_off2 L 0 + 1
      omega
    | 1 =>
      have e0 : k0_off2 L 1 = 0 := congrFun (k0_off2_eq L) 1
      have hl : (i 1).val < 1 := (i 1).isLt
      show k0_off2 L 1 ≤ (i 1).val ∧ (i 1).val < k0_off2 L 1 + 1
      omega
    | 2 =>
      have e0 : k0_off2 L 2 = 0 := congrFun (k0_off2_eq L) 2
      have hl : (i 2).val < 16 := (i 2).isLt
      show k0_off2 L 2 ≤ (i 2).val ∧ (i 2).val < k0_off2 L 2 + 16
      omega

/-- Owning it is owning that row of the array. -/
theorem pts_tsRow (f : Buf (Elt F) (tsLoc d)) :
    (((tsRow L h1).view.loc (th d L) ↦[(tsRow L h1).view.set]{fullShare} f : sProp 𝕄))
      = (tsLoc d ↦[rowOf S16x1x16 (by decide) (rowNo L)]{fullShare} f) := by
  rw [set_tsRow]

/-- The tile's row of the rows found, as the body names it. -/
abbrev candRow (L : grid0.Coords) (h1 : k0_cond1 L = 1#1) : Memref sig .scVector .hbm S384x128 .f32 :=
  ((Memref.whole main_v2_0_scv : Memref sig .scVector .hbm S16x384x128 .f32).slice (Rect.unit (s := S16x384x128) (k0_off5 L) S1x384x128.size (k0_off5_inb L h1)) (fun _ => rfl)).squeeze S384x128 squeezes_S1x384x128_S384x128

/-- It is that row. -/
theorem set_candRow : (candRow L h1).view.set = rowOf S16x384x128 (by decide) (rowNo L) := by
  show (((View.whole main_v2_0_scv).slice (Rect.unit (s := S16x384x128) (k0_off5 L) S1x384x128.size (k0_off5_inb L h1))).reshape S384x128 squeezes_S1x384x128_S384x128.numel_eq).set = _
  rw [View.set_reshape]
  ext i
  rw [View.set_slice_whole]
  refine Rect.mem_set_unit.trans ?_
  refine Iff.trans ?_ (Finset.mem_filter.trans (and_iff_right (Finset.mem_univ i))).symm
  constructor
  · intro h
    have h0 := h 0
    have h0' : k0_off5 L 0 ≤ (i 0).val ∧ (i 0).val < k0_off5 L 0 + 1 := h0
    have e0 : k0_off5 L 0 = rowNo L := congrFun (k0_off5_eq L) 0
    show (i 0).val = rowNo L
    omega
  · intro h a
    have h' : (i 0).val = rowNo L := h
    match a with
    | 0 =>
      have e0 : k0_off5 L 0 = rowNo L := congrFun (k0_off5_eq L) 0
      show k0_off5 L 0 ≤ (i 0).val ∧ (i 0).val < k0_off5 L 0 + 1
      omega
    | 1 =>
      have e0 : k0_off5 L 1 = 0 := congrFun (k0_off5_eq L) 1
      have hl : (i 1).val < 384 := (i 1).isLt
      show k0_off5 L 1 ≤ (i 1).val ∧ (i 1).val < k0_off5 L 1 + 384
      omega
    | 2 =>
      have e0 : k0_off5 L 2 = 0 := congrFun (k0_off5_eq L) 2
      have hl : (i 2).val < 128 := (i 2).isLt
      show k0_off5 L 2 ≤ (i 2).val ∧ (i 2).val < k0_off5 L 2 + 128
      omega

/-- Owning it is owning that row of the array. -/
theorem pts_candRow (f : Buf (Elt F) (candLoc d)) :
    (((candRow L h1).view.loc (th d L) ↦[(candRow L h1).view.set]{fullShare} f : sProp 𝕄))
      = (candLoc d ↦[rowOf S16x384x128 (by decide) (rowNo L)]{fullShare} f) := by
  rw [set_candRow]

/-- The tile's row of the queries found, as the body names it. -/
abbrev qryRow (L : grid0.Coords) (h1 : k0_cond1 L = 1#1) : Memref sig .scVector .hbm S384 .i32 :=
  ((Memref.whole main_v2_1_scv : Memref sig .scVector .hbm S16x384 .i32).slice (Rect.unit (s := S16x384) (k0_off6 L) S1x384.size (k0_off6_inb L h1)) (fun _ => rfl)).squeeze S384 squeezes_S1x384_S384

/-- It is that row. -/
theorem set_qryRow : (qryRow L h1).view.set = rowOf S16x384 (by decide) (rowNo L) := by
  show (((View.whole main_v2_1_scv).slice (Rect.unit (s := S16x384) (k0_off6 L) S1x384.size (k0_off6_inb L h1))).reshape S384 squeezes_S1x384_S384.numel_eq).set = _
  rw [View.set_reshape]
  ext i
  rw [View.set_slice_whole]
  refine Rect.mem_set_unit.trans ?_
  refine Iff.trans ?_ (Finset.mem_filter.trans (and_iff_right (Finset.mem_univ i))).symm
  constructor
  · intro h
    have h0 := h 0
    have h0' : k0_off6 L 0 ≤ (i 0).val ∧ (i 0).val < k0_off6 L 0 + 1 := h0
    have e0 : k0_off6 L 0 = rowNo L := congrFun (k0_off6_eq L) 0
    show (i 0).val = rowNo L
    omega
  · intro h a
    have h' : (i 0).val = rowNo L := h
    match a with
    | 0 =>
      have e0 : k0_off6 L 0 = rowNo L := congrFun (k0_off6_eq L) 0
      show k0_off6 L 0 ≤ (i 0).val ∧ (i 0).val < k0_off6 L 0 + 1
      omega
    | 1 =>
      have e0 : k0_off6 L 1 = 0 := congrFun (k0_off6_eq L) 1
      have hl : (i 1).val < 384 := (i 1).isLt
      show k0_off6 L 1 ≤ (i 1).val ∧ (i 1).val < k0_off6 L 1 + 384
      omega

/-- Owning it is owning that row of the array. -/
theorem pts_qryRow (f : Buf (Elt F) (qryLoc d)) :
    (((qryRow L h1).view.loc (th d L) ↦[(qryRow L h1).view.set]{fullShare} f : sProp 𝕄))
      = (qryLoc d ↦[rowOf S16x384 (by decide) (rowNo L)]{fullShare} f) := by
  rw [set_qryRow]

end Rows

/-! ## The tile's own semaphores and buffers -/

section Own

variable (d : Dev nD) (L : grid0.Coords)

abbrev cell0 (d : Dev nD) (L : grid0.Coords) : GSem nD τ sig := (th d L, .dma cc0_scoped0.sem)
abbrev cell1 (d : Dev nD) (L : grid0.Coords) : GSem nD τ sig := (th d L, .dma cc0_scoped1.sem)
abbrev cell2 (d : Dev nD) (L : grid0.Coords) : GSem nD τ sig := (th d L, .dma cc0_scoped2.sem)
abbrev cell3 (d : Dev nD) (L : grid0.Coords) : GSem nD τ sig := (th d L, .dma cc0_scoped3.sem)
abbrev cell4 (d : Dev nD) (L : grid0.Coords) : GSem nD τ sig := (th d L, .dma cc0_scoped4.sem)
abbrev cell5 (d : Dev nD) (L : grid0.Coords) : GSem nD τ sig := (th d L, .dma cc0_scoped5.sem)
abbrev cell6 (d : Dev nD) (L : grid0.Coords) : GSem nD τ sig := (th d L, .dma cc0_scratch7.sem)

theorem cell_ne {a b : SemLoc sig} (h : a ≠ b) : ((th d L, a) : GSem nD τ sig) ≠ (th d L, b) :=
  fun e => h (congrArg Prod.snd e)

/-- The tile's own semaphores at rest are its seven at rest, together with the others. -/
theorem ownSems0_V :
    (ownSems0 (th d L) : sProp 𝕄)
      = iprop(semVal (cell0 d L) 0 ∗ semVal (cell1 d L) 0 ∗ semVal (cell2 d L) 0 ∗ semVal (cell3 d L) 0 ∗ semVal (cell4 d L) 0 ∗ semVal (cell5 d L) 0 ∗ semVal (cell6 d L) 0 ∗ bigSep ((((((((ownCells (th d L)).erase (cell0 d L)).erase (cell1 d L)).erase (cell2 d L)).erase (cell3 d L)).erase (cell4 d L)).erase (cell5 d L)).erase (cell6 d L)) fun g => semVal g 0) := by
  unfold SparseCore.Cfg.ownSems0
  rw [
    SparseCore.bigSep_erase' ((mem_ownCells (g := cell0 d L)).mpr ⟨rfl, by show (SemLoc.dma cc0_scoped0.sem : SemLoc sig).isScoped .scVector = true; decide⟩),
    SparseCore.bigSep_erase' (Finset.mem_erase.mpr ⟨cell_ne d L (by decide), (mem_ownCells (g := cell1 d L)).mpr ⟨rfl, by show (SemLoc.dma cc0_scoped1.sem : SemLoc sig).isScoped .scVector = true; decide⟩⟩),
    SparseCore.bigSep_erase' (Finset.mem_erase.mpr ⟨cell_ne d L (by decide), Finset.mem_erase.mpr ⟨cell_ne d L (by decide), (mem_ownCells (g := cell2 d L)).mpr ⟨rfl, by show (SemLoc.dma cc0_scoped2.sem : SemLoc sig).isScoped .scVector = true; decide⟩⟩⟩),
    SparseCore.bigSep_erase' (Finset.mem_erase.mpr ⟨cell_ne d L (by decide), Finset.mem_erase.mpr ⟨cell_ne d L (by decide), Finset.mem_erase.mpr ⟨cell_ne d L (by decide), (mem_ownCells (g := cell3 d L)).mpr ⟨rfl, by show (SemLoc.dma cc0_scoped3.sem : SemLoc sig).isScoped .scVector = true; decide⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), (mem_ownCells (g := cell4 d L)).mpr ⟨rfl, by show (SemLoc.dma cc0_scoped4.sem : SemLoc sig).isScoped .scVector = true; decide⟩⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), (mem_ownCells (g := cell5 d L)).mpr ⟨rfl, by show (SemLoc.dma cc0_scoped5.sem : SemLoc sig).isScoped .scVector = true; decide⟩⟩⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), (mem_ownCells (g := cell6 d L)).mpr ⟨rfl, by show (SemLoc.dma cc0_scratch7.sem : SemLoc sig).isScoped .scVector = true; decide⟩⟩⟩⟩⟩⟩⟩)]

/-- The tile's own buffers are its seven, each at some contents, together with the rest. -/
theorem ownBufs_V :
    (ownBufs (th d L) : sProp 𝕄)
      = iprop((∃ f, (th d L).loc cc0_scratch0 ↦{fullShare} f) ∗ (∃ f, (th d L).loc cc0_scratch1 ↦{fullShare} f) ∗ (∃ f, (th d L).loc cc0_scratch2 ↦{fullShare} f) ∗ (∃ f, (th d L).loc cc0_scratch3 ↦{fullShare} f) ∗ (∃ f, (th d L).loc cc0_scratch4 ↦{fullShare} f) ∗ (∃ f, (th d L).loc cc0_scratch5 ↦{fullShare} f) ∗ (∃ f, (th d L).loc cc0_scratch6 ↦{fullShare} f) ∗ bigSep ((((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5)).erase ((Proc.scVector (cV L) (jV L)).devRef cc0_scratch6))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [
    SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := (Proc.scVector (cV L) (jV L)).devRef cc0_scratch3) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := (Proc.scVector (cV L) (jV L)).devRef cc0_scratch4) rfl⟩⟩⟩⟩),
    SparseCore.bigSep_erase' (Finset.mem_erase.mpr ⟨fun e => absurd (Proc.devRef_injective _ e) (show (cc0_scratch5 : Ref sig .scVector) ≠ cc0_scratch4 by decide), Finset.mem_erase.mpr ⟨fun e => absurd (Proc.devRef_injective _ e) (show (cc0_scratch5 : Ref sig .scVector) ≠ cc0_scratch3 by decide), Finset.mem_erase.mpr ⟨fun e => absurd (Proc.devRef_injective _ e) (show (cc0_scratch5 : Ref sig .scVector) ≠ cc0_scratch2 by decide), Finset.mem_erase.mpr ⟨fun e => absurd (Proc.devRef_injective _ e) (show (cc0_scratch5 : Ref sig .scVector) ≠ cc0_scratch1 by decide), Finset.mem_erase.mpr ⟨fun e => absurd (Proc.devRef_injective _ e) (show (cc0_scratch5 : Ref sig .scVector) ≠ cc0_scratch0 by decide), SparseCore.Cfg.mem_ownRefs_of_owner (p := Proc.scVector (cV L) (jV L)) (b := (Proc.scVector (cV L) (jV L)).devRef cc0_scratch5) rfl⟩⟩⟩⟩⟩),
    SparseCore.bigSep_erase' (Finset.mem_erase.mpr ⟨fun e => absurd (Proc.devRef_injective _ e) (show (cc0_scratch6 : Ref sig .scVector) ≠ cc0_scratch5 by decide), Finset.mem_erase.mpr ⟨fun e => absurd (Proc.devRef_injective _ e) (show (cc0_scratch6 : Ref sig .scVector) ≠ cc0_scratch4 by decide), Finset.mem_erase.mpr ⟨fun e => absurd (Proc.devRef_injective _ e) (show (cc0_scratch6 : Ref sig .scVector) ≠ cc0_scratch3 by decide), Finset.mem_erase.mpr ⟨fun e => absurd (Proc.devRef_injective _ e) (show (cc0_scratch6 : Ref sig .scVector) ≠ cc0_scratch2 by decide), Finset.mem_erase.mpr ⟨fun e => absurd (Proc.devRef_injective _ e) (show (cc0_scratch6 : Ref sig .scVector) ≠ cc0_scratch1 by decide), Finset.mem_erase.mpr ⟨fun e => absurd (Proc.devRef_injective _ e) (show (cc0_scratch6 : Ref sig .scVector) ≠ cc0_scratch0 by decide), SparseCore.Cfg.mem_ownRefs_of_owner (p := Proc.scVector (cV L) (jV L)) (b := (Proc.scVector (cV L) (jV L)).devRef cc0_scratch6) rfl⟩⟩⟩⟩⟩⟩)]

end Own

end Cert.Proof.Stage2
end
-- ==== Proof.RowRowVal.lean ====
module

public import proofs.«01_k».proof.Proof.RowRows
public import proofs.«01_k».proof.Proof.RowVal

@[expose] public section

/-!
# The values of a tile's row, in the row kernel

What the copies in bring, what the copies out leave, and what a row of the results holds.
-/

noncomputable section

namespace Cert.Proof.Stage2

open Cert.RowsKernelIdeal Cert.RowsKernelIdeal.Gen
open Idealize.ShloMosaic
open Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Cert.Proof.Compact Cert.Proof.Lanes Cert.Proof.RowLanes

variable {F : FTy → Type} [FloatOps F]

local notation "𝕄" => MT nD τ sig (HIx 1) (Elt F) ℕ UU ℕ

open Cert.Proof.Stage4 (rowOf reshapeEquiv_ix1_1a)

/-- A tile has a row to work on exactly when its row number is below sixteen. -/
theorem cond_iff : ∀ L : grid0.Coords, k0_cond1 L = 1#1 ↔ rowNo L < 16 := by decide +kernel

/-- Row `b` of the largest values, of their flat ids and of the thresholds. -/
def bigOf (Big : Vec F S16x20000 .f32) (b : Fin 16) : (⟨1, ![20000]⟩ : Shape).Idx → F .f32 := fun x => Big (ix2 b (x 0))
def atOf (At : Vec F S16x20000 .i32) (b : Fin 16) : (⟨1, ![20000]⟩ : Shape).Idx → BitVec 32 := fun x => At (ix2 b (x 0))
def tvOf (Tv : Vec F S16x1x16 .f32) (b : Fin 16) : (⟨2, ![1, 16]⟩ : Shape).Idx → F .f32 := fun x => Tv (ix3 b (x 0) (x 1))
def tsOf (Ts : Vec F S16x1x16 .i32) (b : Fin 16) : (⟨2, ![1, 16]⟩ : Shape).Idx → BitVec 32 := fun x => Ts (ix3 b (x 0) (x 1))

/-- The row of the table at which an image's rows start. -/
def startOf (b : Fin 16) : BitVec 32 := BitVec.ofNat 32 (b.val * 20000)

/-- The row of a tile that has one. -/
abbrev rowFin (L : grid0.Coords) (h1 : k0_cond1 L = 1#1) : Fin 16 := ⟨rowNo L, (cond_iff L).mp h1⟩

section Values

variable (d : Dev nD) (L : grid0.Coords) (h1 : k0_cond1 L = 1#1)

/-- Where an element of the tile's row is. -/
theorem emb_bigRow (i : Fin 20000) : (bigRow L h1).view.emb (ix1 i) = (ix2 (rowFin L h1) i : S16x20000.Idx) := by
  show (Rect.unit (s := S16x20000) (k0_off1 L) S1x20000.size (k0_off1_inb L h1)).emb (Shape.reshapeEquiv _ (ix1 i)) = _
  rw [reshapeEquiv_ix1_1a]
  funext a
  apply Fin.ext
  match a with
  | 0 =>
    have e0 : k0_off1 L 0 = rowNo L := congrFun (k0_off1_eq L) 0
    show k0_off1 L 0 + 1 * 0 = rowNo L
    omega
  | 1 =>
    have e0 : k0_off1 L 1 = 0 := congrFun (k0_off1_eq L) 1
    show k0_off1 L 1 + 1 * i.val = i.val
    omega

/-- The tile's buffer after the copy in: its row of the array. -/
theorem fetch_big (Big : Vec F S16x20000 .f32) (f : Vec F S20000 .f32) :
    bBig.view.write (Elt F) f ((bigRow L h1).view.read (Elt F) Big) Finset.univ = (bigOf Big (rowFin L h1) : Vec F S20000 .f32) := by
  refine (View.write_whole_univ (Val := Elt F) cc0_scratch0 f _).trans (funext fun x => ?_)
  show Big ((bigRow L h1).view.emb x) = Big (ix2 (rowFin L h1) (x 0))
  refine congrArg Big ?_
  refine (congrArg (bigRow L h1).view.emb (eq_ix1 x)).trans ?_
  exact emb_bigRow L h1 (x 0)

/-- Where an element of the tile's row is. -/
theorem emb_atRow (i : Fin 20000) : (atRow L h1).view.emb (ix1 i) = (ix2 (rowFin L h1) i : S16x20000.Idx) := by
  show (Rect.unit (s := S16x20000) (k0_off1 L) S1x20000.size (k0_off1_inb L h1)).emb (Shape.reshapeEquiv _ (ix1 i)) = _
  rw [reshapeEquiv_ix1_1a]
  funext a
  apply Fin.ext
  match a with
  | 0 =>
    have e0 : k0_off1 L 0 = rowNo L := congrFun (k0_off1_eq L) 0
    show k0_off1 L 0 + 1 * 0 = rowNo L
    omega
  | 1 =>
    have e0 : k0_off1 L 1 = 0 := congrFun (k0_off1_eq L) 1
    show k0_off1 L 1 + 1 * i.val = i.val
    omega

/-- The tile's buffer after the copy in: its row of the array. -/
theorem fetch_at (At : Vec F S16x20000 .i32) (f : Vec F S20000 .i32) :
    bAt.view.write (Elt F) f ((atRow L h1).view.read (Elt F) At) Finset.univ = (atOf At (rowFin L h1) : Vec F S20000 .i32) := by
  refine (View.write_whole_univ (Val := Elt F) cc0_scratch1 f _).trans (funext fun x => ?_)
  show At ((atRow L h1).view.emb x) = At (ix2 (rowFin L h1) (x 0))
  refine congrArg At ?_
  refine (congrArg (atRow L h1).view.emb (eq_ix1 x)).trans ?_
  exact emb_atRow L h1 (x 0)

/-- Where an element of the tile's row is. -/
theorem emb_tvRow (i : Fin 1) (j : Fin 16) : (tvRow L h1).view.emb (ix2 i j) = (ix3 (rowFin L h1) i j : S16x1x16.Idx) := by
  show (Rect.unit (s := S16x1x16) (k0_off2 L) S1x1x16.size (k0_off2_inb L h1)).emb (Shape.reshapeEquiv _ (ix2 i j)) = _
  rw [reshapeEquiv_ix2_1ab]
  funext a
  apply Fin.ext
  match a with
  | 0 =>
    have e0 : k0_off2 L 0 = rowNo L := congrFun (k0_off2_eq L) 0
    show k0_off2 L 0 + 1 * 0 = rowNo L
    omega
  | 1 =>
    have e0 : k0_off2 L 1 = 0 := congrFun (k0_off2_eq L) 1
    show k0_off2 L 1 + 1 * i.val = i.val
    omega
  | 2 =>
    have e0 : k0_off2 L 2 = 0 := congrFun (k0_off2_eq L) 2
    show k0_off2 L 2 + 1 * j.val = j.val
    omega

/-- The tile's buffer after the copy in: its row of the array. -/
theorem fetch_tv (Tv : Vec F S16x1x16 .f32) (f : Vec F S1x16 .f32) :
    bTv.view.write (Elt F) f ((tvRow L h1).view.read (Elt F) Tv) Finset.univ = (tvOf Tv (rowFin L h1) : Vec F S1x16 .f32) := by
  refine (View.write_whole_univ (Val := Elt F) cc0_scratch2 f _).trans (funext fun x => ?_)
  show Tv ((tvRow L h1).view.emb x) = Tv (ix3 (rowFin L h1) (x 0) (x 1))
  refine congrArg Tv ?_
  refine (congrArg (tvRow L h1).view.emb (eq_ix2 x)).trans ?_
  exact emb_tvRow L h1 (x 0) (x 1)

/-- Where an element of the tile's row is. -/
theorem emb_tsRow (i : Fin 1) (j : Fin 16) : (tsRow L h1).view.emb (ix2 i j) = (ix3 (rowFin L h1) i j : S16x1x16.Idx) := by
  show (Rect.unit (s := S16x1x16) (k0_off2 L) S1x1x16.size (k0_off2_inb L h1)).emb (Shape.reshapeEquiv _ (ix2 i j)) = _
  rw [reshapeEquiv_ix2_1ab]
  funext a
  apply Fin.ext
  match a with
  | 0 =>
    have e0 : k0_off2 L 0 = rowNo L := congrFun (k0_off2_eq L) 0
    show k0_off2 L 0 + 1 * 0 = rowNo L
    omega
  | 1 =>
    have e0 : k0_off2 L 1 = 0 := congrFun (k0_off2_eq L) 1
    show k0_off2 L 1 + 1 * i.val = i.val
    omega
  | 2 =>
    have e0 : k0_off2 L 2 = 0 := congrFun (k0_off2_eq L) 2
    show k0_off2 L 2 + 1 * j.val = j.val
    omega

/-- The tile's buffer after the copy in: its row of the array. -/
theorem fetch_ts (Ts : Vec F S16x1x16 .i32) (f : Vec F S1x16 .i32) :
    bTs.view.write (Elt F) f ((tsRow L h1).view.read (Elt F) Ts) Finset.univ = (tsOf Ts (rowFin L h1) : Vec F S1x16 .i32) := by
  refine (View.write_whole_univ (Val := Elt F) cc0_scratch3 f _).trans (funext fun x => ?_)
  show Ts ((tsRow L h1).view.emb x) = Ts (ix3 (rowFin L h1) (x 0) (x 1))
  refine congrArg Ts ?_
  refine (congrArg (tsRow L h1).view.emb (eq_ix2 x)).trans ?_
  exact emb_tsRow L h1 (x 0) (x 1)

/-- Where an element of the tile's row is. -/
theorem emb_candRow (i : Fin 384) (j : Fin 128) : (candRow L h1).view.emb (ix2 i j) = (ix3 (rowFin L h1) i j : S16x384x128.Idx) := by
  show (Rect.unit (s := S16x384x128) (k0_off5 L) S1x384x128.size (k0_off5_inb L h1)).emb (Shape.reshapeEquiv _ (ix2 i j)) = _
  rw [reshapeEquiv_ix2_1ab]
  funext a
  apply Fin.ext
  match a with
  | 0 =>
    have e0 : k0_off5 L 0 = rowNo L := congrFun (k0_off5_eq L) 0
    show k0_off5 L 0 + 1 * 0 = rowNo L
    omega
  | 1 =>
    have e0 : k0_off5 L 1 = 0 := congrFun (k0_off5_eq L) 1
    show k0_off5 L 1 + 1 * i.val = i.val
    omega
  | 2 =>
    have e0 : k0_off5 L 2 = 0 := congrFun (k0_off5_eq L) 2
    show k0_off5 L 2 + 1 * j.val = j.val
    omega

/-- The array after the copy out, at an element of the tile's row. -/
theorem flush_cand (f : Vec F S16x384x128 .f32) (v : Vec F S384x128 .f32) (i : Fin 384) (j : Fin 128) :
    ((candRow L h1).view.write (Elt F) f v Finset.univ : Vec F S16x384x128 .f32) (ix3 (rowFin L h1) i j) = v (ix2 i j) := by
  have h := View.write_emb_of_mem (Val := Elt F) (v := (candRow L h1).view) f v (M := Finset.univ) (x := (ix2 i j)) (Finset.mem_univ _)
  rw [emb_candRow] at h
  exact h

/-- Where an element of the tile's row is. -/
theorem emb_qryRow (i : Fin 384) : (qryRow L h1).view.emb (ix1 i) = (ix2 (rowFin L h1) i : S16x384.Idx) := by
  show (Rect.unit (s := S16x384) (k0_off6 L) S1x384.size (k0_off6_inb L h1)).emb (Shape.reshapeEquiv _ (ix1 i)) = _
  rw [reshapeEquiv_ix1_1a]
  funext a
  apply Fin.ext
  match a with
  | 0 =>
    have e0 : k0_off6 L 0 = rowNo L := congrFun (k0_off6_eq L) 0
    show k0_off6 L 0 + 1 * 0 = rowNo L
    omega
  | 1 =>
    have e0 : k0_off6 L 1 = 0 := congrFun (k0_off6_eq L) 1
    show k0_off6 L 1 + 1 * i.val = i.val
    omega

/-- The array after the copy out, at an element of the tile's row. -/
theorem flush_qry (f : Vec F S16x384 .i32) (v : Vec F S384 .i32) (i : Fin 384) :
    ((qryRow L h1).view.write (Elt F) f v Finset.univ : Vec F S16x384 .i32) (ix2 (rowFin L h1) i) = v (ix1 i) := by
  have h := View.write_emb_of_mem (Val := Elt F) (v := (qryRow L h1).view) f v (M := Finset.univ) (x := (ix1 i)) (Finset.mem_univ _)
  rw [emb_qryRow] at h
  exact h

end Values

/-- What a row of the results holds: for every kept query `n` of the row, with `k` the number of kept queries before it, the
query its flat id names, and that query's row of the table, both at place `k`. -/
structure RowOK (Tab : Vec F S320000x128 .f32) (Big : Vec F S16x20000 .f32) (At : Vec F S16x20000 .i32) (Tv : Vec F S16x1x16 .f32)
    (Ts : Vec F S16x1x16 .i32) (b : Fin 16) (Cand : Vec F S16x384x128 .f32) (Qry : Vec F S16x384 .i32) : Prop where
  qry : ∀ n < 20000, keep (bigOf Big b) (atOf At b) (tvOf Tv b) (tsOf Ts b) n → ∀ k : Fin 384,
    k.val = Nat.count (keep (bigOf Big b) (atOf At b) (tvOf Tv b) (tsOf Ts b)) n → Qry (ix2 b k) = qryS (atOf At b) n
  row : ∀ n < 20000, keep (bigOf Big b) (atOf At b) (tvOf Tv b) (tsOf Ts b) n → ∀ k : Fin 384,
    k.val = Nat.count (keep (bigOf Big b) (atOf At b) (tvOf Tv b) (tsOf Ts b)) n → ∀ (c : Fin 128) (p : Fin 320000),
    p.val = (atS (atOf At b) n).toNat / 80 + b.val * 20000 → Cand (ix3 b k c) = Tab (ix2 p c)

/-- The packed queries and the rows gathered for them, copied out, are that row of the results. -/
theorem rowOK_of (L : grid0.Coords) (h1 : k0_cond1 L = 1#1) (Tab : Vec F S320000x128 .f32) (Big : Vec F S16x20000 .f32)
    (At : Vec F S16x20000 .i32) (Tv : Vec F S16x1x16 .f32) (Ts : Vec F S16x1x16 .i32) (w acc : BitVec 32)
    (hw : w.toNat = (rowFin L h1).val * 20000)
    (hF : Fits (bigOf Big (rowFin L h1)) (atOf At (rowFin L h1)) (tvOf Tv (rowFin L h1)) (tsOf Ts (rowFin L h1)) w)
    (fq fg : Vec F S384 .i32) (fr : Vec F S384x128 .f32)
    (hS : St (bigOf Big (rowFin L h1)) (atOf At (rowFin L h1)) (tvOf Tv (rowFin L h1)) (tsOf Ts (rowFin L h1)) w 20000 acc fq fg)
    (hr : ∀ (j : Fin 384) (c : Fin 128), fr (ix2 j c) = Tab (ix2 ⟨(fg (ix1 j)).toNat, hS.lt _⟩ c))
    (Cand : Vec F S16x384x128 .f32) (Qry : Vec F S16x384 .i32) :
    RowOK Tab Big At Tv Ts (rowFin L h1) ((candRow L h1).view.write (Elt F) Cand fr Finset.univ)
      ((qryRow L h1).view.write (Elt F) Qry fq Finset.univ) where
  qry n hn hs k hk := (flush_qry L h1 Qry fq k).trans (hS.qid n hn hs k hk)
  row n hn hs k hk c p hp := by
    refine (flush_cand L h1 Cand fr k c).trans ((hr k c).trans ?_)
    refine congrArg (fun z => Tab (ix2 z c)) (Fin.ext ?_)
    show (fg (ix1 k)).toNat = p.val
    rw [hS.tid n hn hs k hk, hF.tab_toNat, hp, hw]

end Cert.Proof.Stage2
end
-- ==== Proof.RowTile.lean ====
module

public import proofs.«01_k».proof.Proof.RowRowVal

@[expose] public section

/-!
# A tile's whole program, in the row kernel

A tile with a row copies it in, packs the kept queries, gathers their rows of the table in three blocks, and copies the
queries and the rows out.
-/

noncomputable section

namespace Cert.Proof.Stage2

open Cert.RowsKernelIdeal Cert.RowsKernelIdeal.Gen
open Idealize.ShloMosaic
open Idealize.ShloMosaic.ValueIdx
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic
open Cert.Proof.Compact Cert.Proof.Lanes Cert.Proof.RowLanes

variable {F : FTy → Type} [FloatOps F]

local notation "𝕄" => MT nD τ sig (HIx 1) (Elt F) ℕ UU ℕ

/-- The tile's program, at its buffers. -/
abbrev tileProg (L : grid0.Coords) :=
  cc0__stage2_sc_body (F := F) L (Memref.whole main_v1_scv) (Memref.isWhole_whole _) (Memref.whole main_arg1_scv) (Memref.isWhole_whole _) (Memref.whole main_arg2_scv) (Memref.isWhole_whole _) (Memref.whole main_arg3_scv) (Memref.isWhole_whole _) (Memref.whole main_arg4_scv) (Memref.isWhole_whole _) (Memref.whole main_v2_0_scv) (Memref.isWhole_whole _) (Memref.whole main_v2_1_scv) (Memref.isWhole_whole _)
    bBig (Memref.isWhole_whole _) bAt (Memref.isWhole_whole _) bTv (Memref.isWhole_whole _) bTs (Memref.isWhole_whole _) bQry (Memref.isWhole_whole _) bTab (Memref.isWhole_whole _) bRows (Memref.isWhole_whole _)
    cc0_scratch7 cc0_scoped0 cc0_scoped1 cc0_scoped2 cc0_scoped3 cc0_scoped4 cc0_scoped5

/-- The word of the row a grid position works on. -/
abbrev rowWord (L : grid0.Coords) : BitVec 32 := Scalar.addi (Scalar.muli (BitVec.ofNat 32 (L 1).val) 2#32) (BitVec.ofNat 32 (L 0).val)

/-- The row of the table at which the tile's image starts. -/
theorem start_eq : ∀ L : grid0.Coords, k0_cond1 L = 1#1 → (Scalar.muli (rowWord L) 20000#32).toNat = rowNo L * 20000 := by decide +kernel

/-- The first block's gather, and the start of the second's. -/
def firstGathers (L : grid0.Coords) : Prog (TpuEff nD τ sig (Elt F) Λ₀ (.scVector ((L 0).castLE hcore0) ((L 1).castLE hsub0))) PUnit := do
  SparseCore.enqueueIndirectGather rfl tabAll (rowsAt ![0, 0] inb_S384x128_S128x128_0_0) gathers_S320000x128_S128x128 (listAt ![0] inb_S384_S128_0) rfl cc0_scratch7.sem (View.wordExact_bits rfl) rfl (Or.inl rfl)
  SparseCore.waitIndirectGather cc0_scratch7.sem tabAll (rowsAt ![0, 0] inb_S384x128_S128x128_0_0) (View.wordExact_bits rfl) (View.wordExact_bits rfl)
  SparseCore.enqueueIndirectGather rfl tabAll (rowsAt ![128, 0] inb_S384x128_S128x128_128_0) gathers_S320000x128_S128x128 (listAt ![128] inb_S384_S128_128) rfl cc0_scratch7.sem (View.wordExact_bits rfl) rfl (Or.inl rfl)
  pure ⟨⟩

/-- Packing the kept queries, and the first gathers. -/
def packed (L : grid0.Coords) (h1 : k0_cond1 L = 1#1) : Prog (TpuEff nD τ sig (Elt F) Λ₀ (.scVector ((L 0).castLE hcore0) ((L 1).castLE hsub0))) PUnit :=
  pack L (rowWord L) h1 (firstGathers L)

/-- The last of its copies in, and then `w`. -/
def fetchThen (L : grid0.Coords) (h1 : k0_cond1 L = 1#1)
    (w : Prog (TpuEff nD τ sig (Elt F) Λ₀ (.scVector ((L 0).castLE hcore0) ((L 1).castLE hsub0))) PUnit) :
    Prog (TpuEff nD τ sig (Elt F) Λ₀ (.scVector ((L 0).castLE hcore0) ((L 1).castLE hsub0))) PUnit := do
  Prog.lift (.waitDma2 cc0_scoped3.sem (tsRow L h1) bTs ((View.wordExact_bits rfl).reshape _ _) (Memref.isWhole_whole _).wordExact)
  w

/-- Its copies out. -/
def flush (L : grid0.Coords) (h1 : k0_cond1 L = 1#1) : Prog (TpuEff nD τ sig (Elt F) Λ₀ (.scVector ((L 0).castLE hcore0) ((L 1).castLE hsub0))) PUnit := do
  Prog.lift (.enqueueDma bRows (.here (candRow L h1)) (.dma cc0_scoped4.sem) (Memref.isWhole_whole _).wordExact ((View.wordExact_bits rfl).reshape _ _) ⟨Or.inl rfl, trivial⟩)
  Prog.lift (.waitDma2 cc0_scoped4.sem bRows (candRow L h1) (Memref.isWhole_whole _).wordExact ((View.wordExact_bits rfl).reshape _ _))
  Prog.lift (.enqueueDma bQry (.here (qryRow L h1)) (.dma cc0_scoped5.sem) (Memref.isWhole_whole _).wordExact ((View.wordExact_bits rfl).reshape _ _) ⟨Or.inl rfl, trivial⟩)
  Prog.lift (.waitDma2 cc0_scoped5.sem bQry (qryRow L h1) (Memref.isWhole_whole _).wordExact ((View.wordExact_bits rfl).reshape _ _))
  pure ⟨⟩

/-- The end of the second block's gather, the third's, and then `w`. -/
def lastGathers (L : grid0.Coords)
    (w : Prog (TpuEff nD τ sig (Elt F) Λ₀ (.scVector ((L 0).castLE hcore0) ((L 1).castLE hsub0))) PUnit) :
    Prog (TpuEff nD τ sig (Elt F) Λ₀ (.scVector ((L 0).castLE hcore0) ((L 1).castLE hsub0))) PUnit := do
  SparseCore.waitIndirectGather cc0_scratch7.sem tabAll (rowsAt ![128, 0] inb_S384x128_S128x128_128_0) (View.wordExact_bits rfl) (View.wordExact_bits rfl)
  SparseCore.enqueueIndirectGather rfl tabAll (rowsAt ![256, 0] inb_S384x128_S128x128_256_0) gathers_S320000x128_S128x128 (listAt ![256] inb_S384_S128_256) rfl cc0_scratch7.sem (View.wordExact_bits rfl) rfl (Or.inl rfl)
  SparseCore.waitIndirectGather cc0_scratch7.sem tabAll (rowsAt ![256, 0] inb_S384x128_S128x128_256_0) (View.wordExact_bits rfl) (View.wordExact_bits rfl)
  w

set_option maxRecDepth 65536 in
/-- A tile with a row copies it in, packs and gathers, and copies the results out. -/
theorem tileProg_pos (L : grid0.Coords) (h1 : k0_cond1 L = 1#1) :
    tileProg (F := F) L = (k0_part2 (F := F) L (Memref.whole main_v1_scv) (Memref.isWhole_whole _) (Memref.whole main_arg1_scv) (Memref.isWhole_whole _) (Memref.whole main_arg2_scv) (Memref.isWhole_whole _) (Memref.whole main_arg3_scv) (Memref.isWhole_whole _) (Memref.whole main_arg4_scv) (Memref.isWhole_whole _) (Memref.whole main_v2_0_scv) (Memref.isWhole_whole _) (Memref.whole main_v2_1_scv) (Memref.isWhole_whole _)
    bBig (Memref.isWhole_whole _) bAt (Memref.isWhole_whole _) bTv (Memref.isWhole_whole _) bTs (Memref.isWhole_whole _) bQry (Memref.isWhole_whole _) bTab (Memref.isWhole_whole _) bRows (Memref.isWhole_whole _)
    cc0_scratch7 cc0_scoped0 cc0_scoped1 cc0_scoped2 cc0_scoped3 cc0_scoped4 cc0_scoped5 h1 >>= fun _ => fetchThen L h1 (packed L h1) >>= fun _ => lastGathers L (flush L h1)) :=
  dif_pos h1

/-- A tile without a row does nothing. -/
theorem tileProg_neg (L : grid0.Coords) (h1 : ¬k0_cond1 L = 1#1) : tileProg (F := F) L = pure ⟨⟩ :=
  dif_neg h1

/-- Lists of rows of the table. -/
abbrev RowList (F : FTy → Type) : Type := {fg : Vec F S384 .i32 // ∀ j, (fg j).toNat < 320000}

section Tile

variable (d : Dev nD) (L : grid0.Coords) (h1 : k0_cond1 L = 1#1)

/-- The buffer of rows after the first block, the second, and the third. -/
abbrev rows1 (T : Vec F S320000x128 .f32) (fr : Vec F S384x128 .f32) (fg : RowList F) : Vec F S384x128 .f32 :=
  gathered ![0, 0] inb_S384x128_S128x128_0_0 ![0] inb_S384_S128_0 T fr fg.1 fg.2
abbrev rows2 (T : Vec F S320000x128 .f32) (fr : Vec F S384x128 .f32) (fg : RowList F) : Vec F S384x128 .f32 :=
  gathered ![128, 0] inb_S384x128_S128x128_128_0 ![128] inb_S384_S128_128 T (rows1 T fr fg) fg.1 fg.2
abbrev rows3 (T : Vec F S320000x128 .f32) (fr : Vec F S384x128 .f32) (fg : RowList F) : Vec F S384x128 .f32 :=
  gathered ![256, 0] inb_S384x128_S128x128_256_0 ![256] inb_S384_S128_256 T (rows2 T fr fg) fg.1 fg.2

/-- The three blocks together: row `j` of the buffer is the row of the table that entry `j` of the list names. -/
theorem rows3_at (T : Vec F S320000x128 .f32) (fr : Vec F S384x128 .f32) (fg : RowList F) (j : Fin 384) (c : Fin 128) :
    rows3 T fr fg (ix2 j c) = T (ix2 ⟨(fg.1 (ix1 j)).toNat, fg.2 _⟩ c) := by
  have hj := j.isLt
  by_cases h : 256 ≤ j.val
  · exact gathered_in ![256, 0] inb_S384x128_S128x128_256_0 ![256] inb_S384_S128_256 T (rows2 T fr fg) fg.1 256 fg.2 rfl rfl j c h (by omega)
  refine (gathered_out ![256, 0] inb_S384x128_S128x128_256_0 ![256] inb_S384_S128_256 T (rows2 T fr fg) fg.1 256 fg.2 rfl j c (by omega)).trans ?_
  by_cases h' : 128 ≤ j.val
  · exact gathered_in ![128, 0] inb_S384x128_S128x128_128_0 ![128] inb_S384_S128_128 T (rows1 T fr fg) fg.1 128 fg.2 rfl rfl j c h' (by omega)
  refine (gathered_out ![128, 0] inb_S384x128_S128x128_128_0 ![128] inb_S384_S128_128 T (rows1 T fr fg) fg.1 128 fg.2 rfl j c (by omega)).trans ?_
  exact gathered_in ![0, 0] inb_S384x128_S128x128_0_0 ![0] inb_S384_S128_0 T fr fg.1 0 fg.2 rfl rfl j c (by omega) (by omega)

/-- Packing and the first gathers, at the head of a program. -/
theorem packed_bind (big : (⟨1, ![20000]⟩ : Shape).Idx → F .f32) (at' : (⟨1, ![20000]⟩ : Shape).Idx → BitVec 32)
    (tv : (⟨2, ![1, 16]⟩ : Shape).Idx → F .f32) (ts : (⟨2, ![1, 16]⟩ : Shape).Idx → BitVec 32)
    (hF : Fits big at' tv ts (Scalar.muli (rowWord L) 20000#32)) (q : PosShare TreeShare) (T : Vec F S320000x128 .f32)
    (fq fg : Vec F S384 .i32) (fr : Vec F S384x128 .f32) (O : CellTallies nD τ sig (HIx 1)) (W : Waits sig (HIx 1))
    {α : Type} {k : PUnit → Prog (TpuEff nD τ sig (Elt F) Λ₀ (.scVector (cV L) (jV L))) α} {Q : α → sProp 𝕄} :
    iprop(Transfers.MayWaits (th d L) (default : HIx 1) O
        ∗ (bBig.view.loc (th d L) ↦{fullShare} (big : Vec F S20000 .f32)) ∗ (bAt.view.loc (th d L) ↦{fullShare} (at' : Vec F S20000 .i32))
        ∗ (bTv.view.loc (th d L) ↦{fullShare} (tv : Vec F S1x16 .f32)) ∗ (bTs.view.loc (th d L) ↦{fullShare} (ts : Vec F S1x16 .i32))
        ∗ (bQry.view.loc (th d L) ↦{fullShare} fq) ∗ (bTab.view.loc (th d L) ↦{fullShare} fg)
        ∗ (tabAll.view.loc (th d L) ↦{q} T) ∗ (bRows.view.loc (th d L) ↦{fullShare} fr)
        ∗ semVal (th d L, SemLoc.dma cc0_scratch7.sem) 0 ∗ owes (th d L) O W : sProp 𝕄)
      ⊢ iprop((∀ fq' : Vec F S384 .i32, ∀ fg' : RowList F, ((bBig.view.loc (th d L) ↦{fullShare} (big : Vec F S20000 .f32)) ∗ (bAt.view.loc (th d L) ↦{fullShare} (at' : Vec F S20000 .i32))
        ∗ (bTv.view.loc (th d L) ↦{fullShare} (tv : Vec F S1x16 .f32)) ∗ (bTs.view.loc (th d L) ↦{fullShare} (ts : Vec F S1x16 .i32))
            ∗ (bQry.view.loc (th d L) ↦{fullShare} fq')
            ∗ Fetching d L ![128, 0] inb_S384x128_S128x128_128_0 ![128] inb_S384_S128_128 q T (rows1 T fr fg') fg'.1 fg'.2
            ∗ owes (th d L) O (insert (SemLoc.dma cc0_scratch7.sem, (default : HIx 1)) W)
            ∗ ⌜∃ acc, St big at' tv ts (Scalar.muli (rowWord L) 20000#32) 20000 acc fq' fg'.1⌝)
            -∗ wp frame (wpE (defs₀ (F := F)) 𝒱₀ (th d L) none) Set.univ (k ⟨⟩) Q)
          -∗ wp frame (wpE (defs₀ (F := F)) 𝒱₀ (th d L) none) Set.univ (packed L h1 >>= k) Q) := by
  rw [wp_bind]
  unfold packed
  iintro ⟨#Hmw, Hb, Ha, Htv, Hts, Hq, Hg, Ht, Hr, Hs, HO⟩ Hk
  iapply (pack_spec d L (rowWord L) h1 big at' tv ts hF fq fg (firstGathers L) _) $$ [Hb Ha Htv Hts Hq Hg]
  · isplitl [Hb]; · iexact Hb
    isplitl [Ha]; · iexact Ha
    isplitl [Htv]; · iexact Htv
    isplitl [Hts]; · iexact Hts
    isplitl [Hq]; · iexact Hq
    iexact Hg
  iintro %fq' %fg' ⟨Hb, Ha, Htv, Hts, Hq, Hg, %hS⟩
  obtain ⟨acc, hS⟩ := hS
  unfold firstGathers
  iapply (gather_issue d L ![0, 0] inb_S384x128_S128x128_0_0 ![0] inb_S384_S128_0 q T fr fg' hS.lt) $$ [Ht Hr Hg Hs]
  · isplitl [Ht]; · iexact Ht
    isplitl [Hr]; · iexact Hr
    isplitl [Hg]; · iexact Hg
    iexact Hs
  iintro Hf
  iapply (gather_wait d L ![0, 0] inb_S384x128_S128x128_0_0 ![0] inb_S384_S128_0 q T fr fg' hS.lt) $$ [Hf HO]
  · isplitl [Hf]; · iexact Hf
    isplitl [HO]; · iexact HO
    iapply (Transfers.MayWaits.elim (SemLoc.dma cc0_scratch7.sem)) $$ Hmw
  iintro ⟨Hr, Ht, Hg, Hs, HO⟩
  iapply (gather_issue d L ![128, 0] inb_S384x128_S128x128_128_0 ![128] inb_S384_S128_128 q T (rows1 T fr ⟨fg', hS.lt⟩) fg' hS.lt) $$ [Ht Hr Hg Hs]
  · isplitl [Ht]; · iexact Ht
    isplitl [Hr]; · iexact Hr
    isplitl [Hg]; · iexact Hg
    iexact Hs
  iintro Hf
  sl_step
  iapply Hk $$ %fq' %(⟨fg', hS.lt⟩ : RowList F)
  isplitl [Hb]; · iexact Hb
  isplitl [Ha]; · iexact Ha
  isplitl [Htv]; · iexact Htv
  isplitl [Hts]; · iexact Hts
  isplitl [Hq]; · iexact Hq
  isplitl [Hf]; · iexact Hf
  isplitl [HO]; · iexact HO
  ipureintro
  exact ⟨acc, hS⟩

set_option maxRecDepth 65536 in
/-- What a tile with a row leaves: the operands as they were, and its row of the results done. -/
theorem tile_run (hF : (K (F := F)).Facts) (O : CellTallies nD τ sig (HIx 1)) (W : Waits sig (HIx 1)) (hO : ∀ g, O g none = 0)
    (q : PosShare TreeShare) (T : Vec F S320000x128 .f32) (Big : Vec F S16x20000 .f32) (At : Vec F S16x20000 .i32) (Tv : Vec F S16x1x16 .f32)
    (Ts : Vec F S16x1x16 .i32) (Cand : Vec F S16x384x128 .f32) (Qry : Vec F S16x384 .i32)
    (hFit : Fits (bigOf Big (rowFin L h1)) (atOf At (rowFin L h1)) (tvOf Tv (rowFin L h1)) (tsOf Ts (rowFin L h1)) (Scalar.muli (rowWord L) 20000#32)) :
    iprop(levAts (K (F := F)).L (K (F := F)).lev
        ∗ (tabAll.view.loc (th d L) ↦{q} T)
        ∗ ((bigRow L h1).view.loc (th d L) ↦[(bigRow L h1).view.set]{fullShare} Big)
        ∗ ((atRow L h1).view.loc (th d L) ↦[(atRow L h1).view.set]{fullShare} At)
        ∗ ((tvRow L h1).view.loc (th d L) ↦[(tvRow L h1).view.set]{fullShare} Tv)
        ∗ ((tsRow L h1).view.loc (th d L) ↦[(tsRow L h1).view.set]{fullShare} Ts)
        ∗ ((candRow L h1).view.loc (th d L) ↦[(candRow L h1).view.set]{fullShare} Cand)
        ∗ ((qryRow L h1).view.loc (th d L) ↦[(qryRow L h1).view.set]{fullShare} Qry)
        ∗ ownBufs (th d L) ∗ ownSems0 (th d L) ∗ owes (th d L) O W : sProp 𝕄)
      ⊢ wp frame (wpE (defs₀ (F := F)) 𝒱₀ (th d L) none) Set.univ (tileProg (F := F) L)
          fun _ => iprop((tabAll.view.loc (th d L) ↦{q} T)
        ∗ ((bigRow L h1).view.loc (th d L) ↦[(bigRow L h1).view.set]{fullShare} Big)
        ∗ ((atRow L h1).view.loc (th d L) ↦[(atRow L h1).view.set]{fullShare} At)
        ∗ ((tvRow L h1).view.loc (th d L) ↦[(tvRow L h1).view.set]{fullShare} Tv)
        ∗ ((tsRow L h1).view.loc (th d L) ↦[(tsRow L h1).view.set]{fullShare} Ts)
            ∗ (∃ Cand' : Vec F S16x384x128 .f32, ∃ Qry' : Vec F S16x384 .i32,
              ((candRow L h1).view.loc (th d L) ↦[(candRow L h1).view.set]{fullShare} Cand')
              ∗ ((qryRow L h1).view.loc (th d L) ↦[(qryRow L h1).view.set]{fullShare} Qry')
              ∗ ⌜RowOK T Big At Tv Ts (rowFin L h1) Cand' Qry'⌝)
            ∗ ownBufs (th d L) ∗ ownSems0 (th d L)
            ∗ ∃ W', ⌜∀ p ∈ W', p ∈ W ∨ p.2 = none ∨ p.2 = some (0 : Fin 1)⌝ ∗ owes (th d L) O W') := by
  rw [ownSems0_V, ownBufs_V]
  iintro ⟨#Hlv, Ht, Hbig, Hat, Htv, Hts, Hcand, Hqry,
    ⟨⟨%f0, H0⟩, ⟨%f1, H1⟩, ⟨%f2, H2⟩, ⟨%f3, H3⟩, ⟨%f4, H4⟩, ⟨%f5, H5⟩, ⟨%f6, H6⟩, Hbufs⟩,
    ⟨S0, S1, S2, S3, S4, S5, S6, Hsems⟩, HO⟩
  ihave #Hmw := (show levAts (K (F := F)).L (K (F := F)).lev ⊢ Transfers.MayWaits (th d L) (default : HIx 1) O from
    (K (F := F)).mayWaits_none (thr := th d L) hO) $$ Hlv
  ihave H0 := (Entails.of_eq (show (_ : sProp 𝕄) = (bBig.view.loc (th d L) ↦{fullShare} f0) from rfl)) $$ H0
  ihave H1 := (Entails.of_eq (show (_ : sProp 𝕄) = (bAt.view.loc (th d L) ↦{fullShare} f1) from rfl)) $$ H1
  ihave H2 := (Entails.of_eq (show (_ : sProp 𝕄) = (bTv.view.loc (th d L) ↦{fullShare} f2) from rfl)) $$ H2
  ihave H3 := (Entails.of_eq (show (_ : sProp 𝕄) = (bTs.view.loc (th d L) ↦{fullShare} f3) from rfl)) $$ H3
  ihave H4 := (Entails.of_eq (show (_ : sProp 𝕄) = (bQry.view.loc (th d L) ↦{fullShare} f4) from rfl)) $$ H4
  ihave H5 := (Entails.of_eq (show (_ : sProp 𝕄) = (bTab.view.loc (th d L) ↦{fullShare} f5) from rfl)) $$ H5
  ihave H6 := (Entails.of_eq (show (_ : sProp 𝕄) = (bRows.view.loc (th d L) ↦{fullShare} f6) from rfl)) $$ H6
  rw [tileProg_pos L h1]
  generalize hw : packed (F := F) L h1 = w
  sl_unfold [k0_part2, fetchThen]
  sl_exec (disch := exact View.amount_pos _ _ (by decide))
  ihave H0 := (Entails.of_eq (congrArg (fun v => (bBig.view.loc (th d L) ↦{fullShare} v : sProp 𝕄))
    (show View.write (Elt F) bBig.view f0 (tile_run.sl.dma0 L h1 Big) Finset.univ = bigOf Big (rowFin L h1) from fetch_big L h1 Big f0))) $$ H0
  ihave H1 := (Entails.of_eq (congrArg (fun v => (bAt.view.loc (th d L) ↦{fullShare} v : sProp 𝕄))
    (show View.write (Elt F) bAt.view f1 (tile_run.sl.dma0_1 L h1 At) Finset.univ = atOf At (rowFin L h1) from fetch_at L h1 At f1))) $$ H1
  ihave H2 := (Entails.of_eq (congrArg (fun v => (bTv.view.loc (th d L) ↦{fullShare} v : sProp 𝕄))
    (show View.write (Elt F) bTv.view f2 (tile_run.sl.dma0_2 L h1 Tv) Finset.univ = tvOf Tv (rowFin L h1) from fetch_tv L h1 Tv f2))) $$ H2
  ihave H3 := (Entails.of_eq (congrArg (fun v => (bTs.view.loc (th d L) ↦{fullShare} v : sProp 𝕄))
    (show View.write (Elt F) bTs.view f3 (tile_run.sl.dma0_3 L h1 Ts) Finset.univ = tsOf Ts (rowFin L h1) from fetch_ts L h1 Ts f3))) $$ H3
  rw [← hw]
  iapply (packed_bind d L h1 (bigOf Big (rowFin L h1)) (atOf At (rowFin L h1)) (tvOf Tv (rowFin L h1)) (tsOf Ts (rowFin L h1)) hFit q T f4 f5 f6 O _) $$ [H0 H1 H2 H3 H4 H5 H6 Ht S6 HO]
  · isplitr; · iexact Hmw
    isplitl [H0]; · iexact H0
    isplitl [H1]; · iexact H1
    isplitl [H2]; · iexact H2
    isplitl [H3]; · iexact H3
    isplitl [H4]; · iexact H4
    isplitl [H5]; · iexact H5
    isplitl [Ht]; · iexact Ht
    isplitl [H6]; · iexact H6
    isplitl [S6]; · iexact S6
    iexact HO
  iintro %fq %fg ⟨H0, H1, H2, H3, H4, Hf, HO, %hpost⟩
  obtain ⟨acc, hS⟩ := hpost
  unfold lastGathers
  iapply (gather_wait d L ![128, 0] inb_S384x128_S128x128_128_0 ![128] inb_S384_S128_128 q T (rows1 T f6 fg) fg.1 fg.2) $$ [Hf HO]
  · isplitl [Hf]; · iexact Hf
    isplitl [HO]; · iexact HO
    iapply (Transfers.MayWaits.elim (SemLoc.dma cc0_scratch7.sem)) $$ Hmw
  iintro ⟨H6, Ht, H5, S6, HO⟩
  iapply (gather_issue d L ![256, 0] inb_S384x128_S128x128_256_0 ![256] inb_S384_S128_256 q T (rows2 T f6 fg) fg.1 fg.2) $$ [Ht H6 H5 S6]
  · isplitl [Ht]; · iexact Ht
    isplitl [H6]; · iexact H6
    isplitl [H5]; · iexact H5
    iexact S6
  iintro Hf
  iapply (gather_wait d L ![256, 0] inb_S384x128_S128x128_256_0 ![256] inb_S384_S128_256 q T (rows2 T f6 fg) fg.1 fg.2) $$ [Hf HO]
  · isplitl [Hf]; · iexact Hf
    isplitl [HO]; · iexact HO
    iapply (Transfers.MayWaits.elim (SemLoc.dma cc0_scratch7.sem)) $$ Hmw
  iintro ⟨H6, Ht, H5, S6, HO⟩
  ihave H6 := (Entails.of_eq (show (_ : sProp 𝕄) = (bRows.view.loc (th d L) ↦{fullShare} rows3 T f6 fg) from rfl)) $$ H6
  generalize hr : rows3 T f6 fg = fr
  sl_unfold [flush]
  sl_exec (disch := exact View.amount_pos _ _ (by decide))
  ihave Hcand := (Entails.of_eq (congrArg (fun v => ((candRow L h1).view.loc (th d L) ↦[(candRow L h1).view.set]{fullShare} v : sProp 𝕄))
    (show (candRow L h1).view.writes (Elt F) Cand [⟨Rect.whole S384x128, tile_run.sl.dma0_4 fr⟩] = (candRow L h1).view.write (Elt F) Cand fr Finset.univ
      from (View.write_univ_eq_writes_whole (Val := Elt F) (candRow L h1).view Cand [] fr).symm))) $$ Hcand
  ihave Hqry := (Entails.of_eq (congrArg (fun v => ((qryRow L h1).view.loc (th d L) ↦[(qryRow L h1).view.set]{fullShare} v : sProp 𝕄))
    (show (qryRow L h1).view.writes (Elt F) Qry [⟨Rect.whole S384, tile_run.sl.dma0_5 fq⟩] = (qryRow L h1).view.write (Elt F) Qry fq Finset.univ
      from (View.write_univ_eq_writes_whole (Val := Elt F) (qryRow L h1).view Qry [] fq).symm))) $$ Hqry
  sl_step
  isplitl [Ht]; · iexact Ht
  isplitl [Hbig]; · iexact Hbig
  isplitl [Hat]; · iexact Hat
  isplitl [Htv]; · iexact Htv
  isplitl [Hts]; · iexact Hts
  isplitl [Hcand Hqry]
  · iexists _, _
    isplitl [Hcand]; · iexact Hcand
    isplitl [Hqry]; · iexact Hqry
    ipureintro
    exact rowOK_of L h1 T Big At Tv Ts _ acc (start_eq L h1) hFit fq fg.1 fr hS (fun j c => hr ▸ rows3_at T f6 fg j c) Cand Qry
  isplitl [H0 H1 H2 H3 H4 H5 H6 Hbufs]
  · isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    iexact Hbufs
  isplitl [S0 S1 S2 S3 S4 S5 S6 Hsems]
  · isplitl [S0]; · iexact S0
    isplitl [S1]; · iexact S1
    isplitl [S2]; · iexact S2
    isplitl [S3]; · iexact S3
    isplitl [S4]; · iexact S4
    isplitl [S5]; · iexact S5
    isplitl [S6]; · iexact S6
    iexact Hsems
  iexists _
  isplitr
  swap; · iexact HO
  ipureintro; intro p _
  rcases p.2 with _ | q
  · exact .inr (.inl rfl)
  · exact .inr (.inr (congrArg some (Subsingleton.elim q 0)))

end Tile

end Cert.Proof.Stage2
end
-- ==== Proof.RowSplit.lean ====
module

public import proofs.«01_k».proof.Proof.RowTile
public import proofs.«01_k».proof.Proof.Split
public import Idealize.ShloMosaic.Lib.ShareLeaves

@[expose] public section

/-!
# The arrays shared out, in the row kernel

The rows of the four operands and of the two results are dealt to the SparseCores and on to their tiles; every tile also
holds a share of the whole table.
-/

noncomputable section

namespace Cert.Proof.Stage2

open Cert.RowsKernelIdeal Cert.RowsKernelIdeal.Gen
open Idealize.ShloMosaic
open Idealize.ShloMosaic.ValueIdx
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic
open Cert.Proof.Compact Cert.Proof.Lanes Cert.Proof.RowLanes

variable {F : FTy → Type} [FloatOps F]

local notation "𝕄" => MT nD τ sig (HIx 1) (Elt F) ℕ UU ℕ

open Cert.Proof.Stage4 (rowOf rowsOf isRow isCore isAny rowsOf_isRow rowsOf_isAny Deals rowsOf_disjoint rowsOf_cover deals_cores deals_tiles)

/-! ## Shares of the table -/

/-- A SparseCore's share of the table. -/
def coreShare (c : ℕ) : PosShare TreeShare := ShareLeaves.leaf 1 fullShare (Fin.ofNat (2 ^ 1) c)
/-- A tile's share of the table. -/
def tileShare (c i : ℕ) : PosShare TreeShare := ShareLeaves.leaf 4 (coreShare c) (Fin.ofNat (2 ^ 4) i)

/-- A share of the table. -/
def tabPts (T : Vec F S320000x128 .f32) (d : Dev nD) (q : PosShare TreeShare) : sProp 𝕄 := tabLoc d ↦{q} T

/-- All of the table is the SparseCores' shares of it. -/
theorem tabPts_cores (T : Vec F S320000x128 .f32) (d : Dev nD) :
    (tabPts T d fullShare : sProp 𝕄) = bigSep (Finset.univ : Finset (Fin 2)) fun c => tabPts T d (coreShare c.val) := by
  unfold tabPts coreShare
  refine (ShareLeaves.pointsTo_leaves (ℓ := tabLoc d) Finset.univ T 1 fullShare).trans (bigSep_congr fun c _ => ?_)
  rw [show Fin.ofNat (2 ^ 1) c.val = c from Fin.ext (Nat.mod_eq_of_lt c.isLt)]

/-- A SparseCore's share of the table is its tiles' shares of it. -/
theorem tabPts_tiles (T : Vec F S320000x128 .f32) (d : Dev nD) (c : ℕ) :
    (tabPts T d (coreShare c) : sProp 𝕄) = bigSep (Finset.univ : Finset (Fin 16)) fun i => tabPts T d (tileShare c i.val) := by
  unfold tabPts tileShare
  refine (ShareLeaves.pointsTo_leaves (ℓ := tabLoc d) Finset.univ T 4 (coreShare c)).trans (bigSep_congr fun i _ => ?_)
  rw [show Fin.ofNat (2 ^ 4) i.val = i from Fin.ext (Nat.mod_eq_of_lt i.isLt)]

/-! ## Rows of the other arrays -/

section Pieces

variable (Tab : Vec F S320000x128 .f32) (Big : Vec F S16x20000 .f32) (At : Vec F S16x20000 .i32) (Tv : Vec F S16x1x16 .f32) (Ts : Vec F S16x1x16 .i32)

/-- The two results' contents. -/
abbrev Outs (F : FTy → Type) : Type := Vec F S16x384x128 .f32 × Vec F S16x384 .i32

/-- The rows of `p` of the four operands. -/
def inPts (d : Dev nD) (p : ℕ → Bool) : sProp 𝕄 :=
  iprop((bigLoc d ↦[rowsOf S16x20000 (by decide) p]{fullShare} Big) ∗ (atLoc d ↦[rowsOf S16x20000 (by decide) p]{fullShare} At)
    ∗ (tvLoc d ↦[rowsOf S16x1x16 (by decide) p]{fullShare} Tv) ∗ (tsLoc d ↦[rowsOf S16x1x16 (by decide) p]{fullShare} Ts))

/-- The rows of `p` of the two results. -/
def outPts (d : Dev nD) (p : ℕ → Bool) (fs : Outs F) : sProp 𝕄 :=
  iprop((candLoc d ↦[rowsOf S16x384x128 (by decide) p]{fullShare} fs.1) ∗ (qryLoc d ↦[rowsOf S16x384 (by decide) p]{fullShare} fs.2))

/-- The rows of `p` of the results are what the work leaves. -/
def Done (p : ℕ → Bool) (fs : Outs F) : Prop :=
  ∀ b : Fin 16, p b.val = true → RowOK Tab Big At Tv Ts b fs.1 fs.2

/-- The rows of `p` of the two results, as the work leaves them. -/
def donePts (d : Dev nD) (p : ℕ → Bool) : sProp 𝕄 :=
  iprop(∃ fs : Outs F, ⌜Done Tab Big At Tv Ts p fs⌝ ∗ outPts d p fs)

variable {T : Type} [Fintype T] {p : ℕ → Bool} {q : T → ℕ → Bool} (hd : Deals p q)
include hd

omit hd [FloatOps F] [Fintype T] in
theorem sep_eq {A A' B B' : sProp 𝕄} (h : A = A') (h' : B = B') : (iprop(A ∗ B) : sProp 𝕄) = iprop(A' ∗ B') := by
  rw [h, h']

/-- One array's rows are the rows dealt out. -/
theorem rows_split {ℓ : Loc nD τ sig} (h : 0 < ℓ.2.ty.shape.rank) (hs : ∀ i : ℓ.2.ty.shape.Idx, (i ⟨0, h⟩).val < 16) (f : Buf (Elt F) ℓ) :
    (ℓ ↦[rowsOf ℓ.2.ty.shape h p]{fullShare} f : sProp 𝕄)
      = bigSep (Finset.univ : Finset T) fun t => ℓ ↦[rowsOf ℓ.2.ty.shape h (q t)]{fullShare} f := by
  rw [← pointsTo_biUnion (Finset.univ : Finset T) (ℓ := ℓ) (fun t => rowsOf ℓ.2.ty.shape h (q t)) (rowsOf_disjoint hd _ _ _),
    rowsOf_cover hd _ _ hs]

/-- Rows dealt out, each at contents of its own, are the rows at contents agreeing with each. -/
theorem rows_join {ℓ : Loc nD τ sig} (h : 0 < ℓ.2.ty.shape.rank) (hs : ∀ i : ℓ.2.ty.shape.Idx, (i ⟨0, h⟩).val < 16)
    (fs : T → Buf (Elt F) ℓ) (f₀ : Buf (Elt F) ℓ) :
    (bigSep (Finset.univ : Finset T) fun t => ℓ ↦[rowsOf ℓ.2.ty.shape h (q t)]{fullShare} fs t : sProp 𝕄)
      ⊢ iprop(∃ g : Buf (Elt F) ℓ, ⌜∀ t, ∀ i ∈ rowsOf ℓ.2.ty.shape h (q t), g i = fs t i⌝ ∗ ℓ ↦[rowsOf ℓ.2.ty.shape h p]{fullShare} g) := by
  iintro H
  ihave H' := (pointsTo_biUnion_join (ℓ := ℓ) (q := fullShare) (Val := Elt F) (Finset.univ : Finset T)
    (fun t => rowsOf ℓ.2.ty.shape h (q t)) fs f₀ (rowsOf_disjoint hd _ _ _)) $$ H
  icases H' with ⟨%g, %hg, Hg⟩
  rw [rowsOf_cover hd _ _ hs]
  iexists g
  isplitr
  · ipureintro; exact fun t => hg t (Finset.mem_univ t)
  · iexact Hg

/-- The operands' rows are the rows dealt out. -/
theorem inPts_split (d : Dev nD) :
    (inPts Big At Tv Ts d p : sProp 𝕄) = bigSep (Finset.univ : Finset T) fun t => inPts Big At Tv Ts d (q t) := by
  unfold inPts
  rw [bigSep_sep', bigSep_sep', bigSep_sep']
  exact sep_eq (rows_split (ℓ := bigLoc d) hd (Nat.succ_pos _) (fun i => (i 0).isLt) Big)
    (sep_eq (rows_split (ℓ := atLoc d) hd (Nat.succ_pos _) (fun i => (i 0).isLt) At)
    (sep_eq (rows_split (ℓ := tvLoc d) hd (Nat.succ_pos _) (fun i => (i 0).isLt) Tv)
    (rows_split (ℓ := tsLoc d) hd (Nat.succ_pos _) (fun i => (i 0).isLt) Ts)))

/-- The results' rows are the rows dealt out. -/
theorem outPts_split (d : Dev nD) (fs : Outs F) :
    (outPts d p fs : sProp 𝕄) = bigSep (Finset.univ : Finset T) fun t => outPts d (q t) fs := by
  unfold outPts
  rw [bigSep_sep']
  exact sep_eq (rows_split (ℓ := candLoc d) hd (Nat.succ_pos _) (fun i => (i 0).isLt) fs.1)
    (rows_split (ℓ := qryLoc d) hd (Nat.succ_pos _) (fun i => (i 0).isLt) fs.2)

omit hd in
/-- The results' rows, each at contents of its own, array by array. -/
theorem outPts_arrays (d : Dev nD) (fs : T → Outs F) :
    (bigSep (Finset.univ : Finset T) fun t => outPts d (q t) (fs t) : sProp 𝕄)
      = iprop((bigSep (Finset.univ : Finset T) fun t => candLoc d ↦[rowsOf S16x384x128 (by decide) (q t)]{fullShare} (fs t).1)
        ∗ (bigSep (Finset.univ : Finset T) fun t => qryLoc d ↦[rowsOf S16x384 (by decide) (q t)]{fullShare} (fs t).2)) := by
  unfold outPts
  rw [bigSep_sep']

omit hd in
/-- It is the row's own elements that count. -/
theorem RowOK.congr {b : Fin 16} {Cand Cand' : Vec F S16x384x128 .f32} {Qry Qry' : Vec F S16x384 .i32}
    (h : RowOK Tab Big At Tv Ts b Cand Qry) (hc : ∀ k c, Cand' (ix3 b k c) = Cand (ix3 b k c)) (hq : ∀ k, Qry' (ix2 b k) = Qry (ix2 b k)) :
    RowOK Tab Big At Tv Ts b Cand' Qry' :=
  ⟨fun n hn hs k hk => (hq k).trans (h.qry n hn hs k hk), fun n hn hs k hk c e he => (hc k c).trans (h.row n hn hs k hk c e he)⟩

/-- The results' rows, dealt out and each left as the work leaves it, are so together. -/
theorem donePts_join [∀ e, Nonempty (Elt F e)] (t₀ : T) (d : Dev nD) :
    (bigSep (Finset.univ : Finset T) fun t => donePts Tab Big At Tv Ts d (q t) : sProp 𝕄) ⊢ donePts Tab Big At Tv Ts d p := by
  classical
  refine (bigSep_exists_pi (Finset.univ : Finset T) fun t (fs : Outs F) => iprop(⌜Done Tab Big At Tv Ts (q t) fs⌝ ∗ outPts d (q t) fs)).trans ?_
  iintro ⟨%fs, H⟩
  ihave H := (bigSep_pure_sep (Finset.univ : Finset T) _ _) $$ H
  icases H with ⟨%hok, H⟩
  ihave H := (Entails.of_eq (outPts_arrays d fs)) $$ H
  icases H with ⟨Hc, Hq⟩
  ihave Hc := (rows_join (ℓ := candLoc d) hd (Nat.succ_pos _) (fun i => (i 0).isLt) (fun t => (fs t).1) (fs t₀).1) $$ Hc
  ihave Hq := (rows_join (ℓ := qryLoc d) hd (Nat.succ_pos _) (fun i => (i 0).isLt) (fun t => (fs t).2) (fs t₀).2) $$ Hq
  icases Hc with ⟨%gc, %hc, Hc⟩
  icases Hq with ⟨%gq, %hq, Hq⟩
  unfold donePts outPts
  iexists (gc, gq)
  isplitr
  · ipureintro
    intro b hb'
    obtain ⟨t, ht⟩ := (hd.cover b.val b.isLt).mp hb'
    exact (hok t (Finset.mem_univ t) b ht).congr _ _ _ _ _ (fun k c => hc t _ (Finset.mem_filter.mpr ⟨Finset.mem_univ _, ht⟩))
      (fun k => hq t _ (Finset.mem_filter.mpr ⟨Finset.mem_univ _, ht⟩))
  isplitl [Hc]; · iexact Hc
  iexact Hq

end Pieces

end Cert.Proof.Stage2
end
-- ==== Proof.RowLaunch.lean ====
module

public import proofs.«01_k».proof.Proof.RowSplit

@[expose] public section

/-!
# What the row kernel's launch carries

Each tile's obligation, what the handshakes carry, and the rounds' ghost state.
-/

noncomputable section

namespace Cert.Proof.Stage2

open Cert.RowsKernelIdeal Cert.RowsKernelIdeal.Gen
open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)
open Cert.Proof.Compact Cert.Proof.Lanes Cert.Proof.RowLanes

variable {F : FTy → Type} [FloatOps F]

local notation "𝕄" => MT nD τ sig (HIx 1) (Elt F) ℕ UU ℕ

open Cert.Proof.Stage4 (rowOf rowsOf isRow isCore isAny rowsOf_isRow rowsOf_isAny Deals deals_cores deals_tiles)

/-! ## A tile's obligation -/

section Tile

variable (d : Dev nD) (Tab : Vec F S320000x128 .f32) (Big : Vec F S16x20000 .f32) (At : Vec F S16x20000 .i32) (Tv : Vec F S16x1x16 .f32) (Ts : Vec F S16x1x16 .i32)
  (fs : Outs F)

/-- A tile's operands, in the body's spelling. -/
theorem inPts_row (L : grid0.Coords) (h1 : k0_cond1 L = 1#1) :
    (inPts Big At Tv Ts d (isRow (rowNo L)) : sProp 𝕄)
      = iprop(((bigRow L h1).view.loc (th d L) ↦[(bigRow L h1).view.set]{fullShare} Big)
        ∗ ((atRow L h1).view.loc (th d L) ↦[(atRow L h1).view.set]{fullShare} At)
        ∗ ((tvRow L h1).view.loc (th d L) ↦[(tvRow L h1).view.set]{fullShare} Tv)
        ∗ ((tsRow L h1).view.loc (th d L) ↦[(tsRow L h1).view.set]{fullShare} Ts)) := by
  unfold inPts
  simp only [rowsOf_isRow]
  rw [pts_bigRow d L h1, pts_atRow d L h1, pts_tvRow d L h1, pts_tsRow d L h1]

/-- A tile's results, in the body's spelling. -/
theorem outPts_row (L : grid0.Coords) (h1 : k0_cond1 L = 1#1) :
    (outPts d (isRow (rowNo L)) fs : sProp 𝕄)
      = iprop(((candRow L h1).view.loc (th d L) ↦[(candRow L h1).view.set]{fullShare} fs.1)
        ∗ ((qryRow L h1).view.loc (th d L) ↦[(qryRow L h1).view.set]{fullShare} fs.2)) := by
  unfold outPts
  simp only [rowsOf_isRow]
  rw [pts_candRow d L h1, pts_qryRow d L h1]

/-- The word a tile starts its rows at is its image's. -/
theorem word_start (L : grid0.Coords) (h1 : k0_cond1 L = 1#1) : Scalar.muli (rowWord L) 20000#32 = startOf (rowFin L h1) := by
  apply BitVec.eq_of_toNat_eq
  have h := start_eq L h1
  have hb := (rowFin L h1).isLt
  unfold startOf
  rw [h, BitVec.toNat_ofNat]
  show rowNo L * 20000 = rowNo L * 20000 % _
  have hb' : rowNo L < 16 := hb
  omega

/-- A tile does its row's work; a tile without a row does nothing. -/
theorem tile_body (hFit : ∀ b : Fin 16, Fits (bigOf Big b) (atOf At b) (tvOf Tv b) (tsOf Ts b) (startOf b)) (q : PosShare TreeShare) (L : grid0.Coords)
    (hF : (K (F := F)).Facts) (O : CellTallies nD τ sig (HIx 1)) (W : Waits sig (HIx 1)) (hO : ∀ g, O g none = 0) :
    iprop(levAts (K (F := F)).L (K (F := F)).lev ∗ emp
        ∗ (tabPts Tab d q ∗ inPts Big At Tv Ts d (isRow (rowNo L)) ∗ outPts d (isRow (rowNo L)) fs)
        ∗ scopedBufs (th d L) ∗ scopedSems0 (th d L) ∗ owes (th d L) O W : sProp 𝕄)
      ⊢ wp frame (wpE (defs₀ (F := F)) 𝒱₀ (th d L) none) Set.univ (tileProg (F := F) L)
          fun _ => iprop((tabPts Tab d q ∗ inPts Big At Tv Ts d (isRow (rowNo L)) ∗ donePts Tab Big At Tv Ts d (isRow (rowNo L)))
            ∗ scopedBufs (th d L) ∗ scopedSems0 (th d L)
            ∗ ∃ W', ⌜∀ p ∈ W', p ∈ W ∨ p.2 = none ∨ p.2 = some (0 : Fin 1)⌝ ∗ owes (th d L) O W') := by
  rw [(K (F := F)).scopedBufs_V hF d (cV L) (jV L), SparseCore.Cfg.scopedSems0_V (Val := Elt F) d (cV L) (jV L)]
  by_cases h1 : k0_cond1 L = 1#1
  · rw [inPts_row d Big At Tv Ts L h1, outPts_row d fs L h1, show (tabPts Tab d q : sProp 𝕄) = (tabAll.view.loc (th d L) ↦{q} Tab) from rfl]
    refine BIBase.Entails.trans ?_ ((tile_run d L h1 hF O W hO q Tab Big At Tv Ts fs.1 fs.2 (word_start L h1 ▸ hFit _)).trans (wp_mono frame _ _ fun _ => ?_))
    · iintro ⟨Hlev, -, ⟨Ht, ⟨Hb, Ha, Hv, Hs⟩, Hc, Hq⟩, Hbuf, Hsem, HO⟩
      isplitl [Hlev]; · iexact Hlev
      isplitl [Ht]; · iexact Ht
      isplitl [Hb]; · iexact Hb
      isplitl [Ha]; · iexact Ha
      isplitl [Hv]; · iexact Hv
      isplitl [Hs]; · iexact Hs
      isplitl [Hc]; · iexact Hc
      isplitl [Hq]; · iexact Hq
      isplitl [Hbuf]; · iexact Hbuf
      isplitl [Hsem]; · iexact Hsem
      iexact HO
    · iintro ⟨Ht, Hb, Ha, Hv, Hs, ⟨%Cand, %Qry, Hc, Hq, %hok⟩, Hbuf, Hsem, HO⟩
      isplitl [Ht Hb Ha Hv Hs Hc Hq]
      · isplitl [Ht]; · iexact Ht
        isplitl [Hb Ha Hv Hs]
        · isplitl [Hb]; · iexact Hb
          isplitl [Ha]; · iexact Ha
          isplitl [Hv]; · iexact Hv
          iexact Hs
        unfold donePts
        iexists (Cand, Qry)
        isplitr
        · ipureintro
          intro b hb
          have hb : b = rowFin L h1 := Fin.ext (of_decide_eq_true hb)
          rw [hb]; exact hok
        rw [outPts_row d (Cand, Qry) L h1]
        isplitl [Hc]; · iexact Hc
        iexact Hq
      isplitl [Hbuf]; · iexact Hbuf
      isplitl [Hsem]; · iexact Hsem
      iexact HO
  · rw [tileProg_neg L h1]
    iintro ⟨-, -, ⟨Ht, Hin, Hout⟩, Hbuf, Hsem, HO⟩
    sl_step
    isplitl [Ht Hin Hout]
    · isplitl [Ht]; · iexact Ht
      isplitl [Hin]; · iexact Hin
      unfold donePts
      iexists fs
      isplitr
      · ipureintro
        intro b hb
        have hb : b.val = rowNo L := of_decide_eq_true hb
        exact absurd ((cond_iff L).mpr (hb ▸ b.isLt)) h1
      · iexact Hout
    isplitl [Hbuf]; · iexact Hbuf
    isplitl [Hsem]; · iexact Hsem
    iexists W; isplitr
    · ipureintro; exact fun p hp => .inl hp
    · iexact HO

end Tile

/-! ## What the handshakes carry -/

section Launch

variable (m : (ℓ : Loc nD τ sig) → Buf (Elt F) ℓ) (ρ : Dev nD → PrngReg)

/-- The call's operands: the scores as a table of rows, padded, and four arguments. -/
abbrev sigLoc (d : Dev nD) : Loc nD τ sig := (SparseCore.T d).loc main_arg0
abbrev aSig (d : Dev nD) : Vec F S16x20000x80 .f32 := m (sigLoc d)
abbrev aBig (d : Dev nD) : Vec F S16x20000 .f32 := m (bigLoc d)
abbrev aAt (d : Dev nD) : Vec F S16x20000 .i32 := m (atLoc d)
abbrev aTv (d : Dev nD) : Vec F S16x1x16 .f32 := m (tvLoc d)
abbrev aTs (d : Dev nD) : Vec F S16x1x16 .i32 := m (tsLoc d)
abbrev hFlat (sg : Vec F S16x20000x80 .f32) : Vec F S320000x80 .f32 := shapeCast S320000x80 sg shapeCasts_S16x20000x80_S320000x80
abbrev hZero : Vec F S_ .i32 := constantI S_ 32 0#32
abbrev hFill : Vec F S_ .f32 := sitofp .f32 (hZero (F := F))
abbrev hTab (sg : Vec F S16x20000x80 .f32) : Vec F S320000x128 .f32 :=
  pad S320000x128 ![0, 0] ![0, 48] ![0, 0] (hFlat sg) (hFill (F := F)) pads_S320000x80_S320000x128_000_0480 h_S_
abbrev aTab (d : Dev nD) : Vec F S320000x128 .f32 := hTab (aSig m d)

/-- The results' arrays at the launch. -/
abbrev outs₀ (d : Dev nD) : Outs F := (m (candLoc d), m (qryLoc d))

/-- A share of the table, a part of the other operands, of the results, and of the results as the work leaves them. -/
abbrev tabM (d : Dev nD) (q : PosShare TreeShare) : sProp 𝕄 := tabPts (aTab m d) d q
abbrev inM (d : Dev nD) (p : ℕ → Bool) : sProp 𝕄 := inPts (aBig m d) (aAt m d) (aTv m d) (aTs m d) d p
abbrev outM (d : Dev nD) (p : ℕ → Bool) : sProp 𝕄 := outPts d p (outs₀ m d)
abbrev doneM (d : Dev nD) (p : ℕ → Bool) : sProp 𝕄 := donePts (aTab m d) (aBig m d) (aAt m d) (aTv m d) (aTs m d) d p

instance tabPts_storable (Tab : Vec F S320000x128 .f32) (d : Dev nD) (q : PosShare TreeShare) : BI.Storable (upEmb : UEmb _ 𝕄) (tabPts Tab d q) := by
  unfold tabPts; infer_instance
instance inPts_storable (Big : Vec F S16x20000 .f32) (At : Vec F S16x20000 .i32) (Tv : Vec F S16x1x16 .f32) (Ts : Vec F S16x1x16 .i32)
    (d : Dev nD) (p : ℕ → Bool) : BI.Storable (upEmb : UEmb _ 𝕄) (inPts Big At Tv Ts d p) := by
  unfold inPts; infer_instance
instance outPts_storable (d : Dev nD) (p : ℕ → Bool) (fs : Outs F) : BI.Storable (upEmb : UEmb _ 𝕄) (outPts d p fs) := by
  unfold outPts; infer_instance
instance donePts_storable (Tab : Vec F S320000x128 .f32) (Big : Vec F S16x20000 .f32) (At : Vec F S16x20000 .i32) (Tv : Vec F S16x1x16 .f32)
    (Ts : Vec F S16x1x16 .i32) (d : Dev nD) (p : ℕ → Bool) : BI.Storable (upEmb : UEmb _ 𝕄) (donePts Tab Big At Tv Ts d p) := by
  unfold donePts; infer_instance

/-- What a SparseCore and a tile are handed, and what they hand back. -/
abbrev goM (d : Dev nD) (q : PosShare TreeShare) (p : ℕ → Bool) : sProp 𝕄 := iprop(tabM m d q ∗ inM m d p ∗ outM m d p)
abbrev tdM (d : Dev nD) (q : PosShare TreeShare) (p : ℕ → Bool) : sProp 𝕄 := iprop(tabM m d q ∗ inM m d p ∗ doneM m d p)

/-- A SparseCore is handed its share of the table and its rows of the other arrays and hands them back, the results' done;
so is each of its tiles. -/
def P : (K (F := F)).Pay (nD := nD) (Val := Elt F) (Name := ℕ) (U := UU) where
  st := fun q d c => match q with | 0 => goM m d (coreShare c.val) (isCore c.val)
  dn := fun q d c => match q with | 0 => tdM m d (coreShare c.val) (isCore c.val)
  go := fun q d c i => match q with | 0 => goM m d (tileShare c.val i.val) (isRow (2 * i.val + c.val))
  td := fun q d c i => match q with | 0 => tdM m d (tileShare c.val i.val) (isRow (2 * i.val + c.val))
  x := fun _ _ => iprop(emp)

instance P_storable : (P (F := F) m).IsStorable where
  st q d c := match q with
    | 0 => (inferInstance : BI.Storable (upEmb : UEmb _ 𝕄) (goM m d (coreShare c.val) (isCore c.val)))
  dn q d c := match q with
    | 0 => (inferInstance : BI.Storable (upEmb : UEmb _ 𝕄) (tdM m d (coreShare c.val) (isCore c.val)))
  go q d c i := match q with
    | 0 => (inferInstance : BI.Storable (upEmb : UEmb _ 𝕄) (goM m d (tileShare c.val i.val) (isRow (2 * i.val + c.val))))
  td q d c i := match q with
    | 0 => (inferInstance : BI.Storable (upEmb : UEmb _ 𝕄) (tdM m d (tileShare c.val i.val) (isRow (2 * i.val + c.val))))

/-- A grid position, from its two coordinates. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => tileProg (F := F) (coordsV c s)) ⟨⟩ c s := rfl

/-- Every image's kept queries fit their buffers. -/
abbrev AllFit : Prop := ∀ (d : Dev nD) (b : Fin 16),
  Fits (bigOf (aBig m d) b) (atOf (aAt m d) b) (tvOf (aTv m d) b) (tsOf (aTs m d) b) (startOf b)

/-- Each tile meets its obligation. -/
theorem tileObl (hFit : AllFit m) (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d _ _ _ _ _ (outs₀ m d) (hFit d) _ (coordsV ⟨_, hci.1⟩ ⟨_, hci.2⟩) hF O W hO

/-- A SparseCore's rows and its share of the table go out to its tiles and come back. -/
theorem vecSplit [∀ e, Nonempty (Elt F e)] : (K (F := F)).VecSplit' (P m) 0 := by
  intro d c
  have hd := deals_tiles c.val c.isLt
  show goM m d (coreShare c.val) (isCore c.val) ⊢ |={Set.univ}=> iprop(
      (bigSep (Finset.univ : Finset (Fin 16)) fun i => goM m d (tileShare c.val i.val) (isRow (2 * i.val + c.val)))
      ∗ ((bigSep (Finset.univ : Finset (Fin 16)) fun i => tdM m d (tileShare c.val i.val) (isRow (2 * i.val + c.val)))
          -∗ tdM m d (coreShare c.val) (isCore c.val)))
  unfold goM tdM
  rw [bigSep_sep', bigSep_sep', bigSep_sep', bigSep_sep', ← tabPts_tiles, ← inPts_split _ _ _ _ hd, ← outPts_split hd]
  iintro H; imodintro
  isplitl [H]; · iexact H
  iintro ⟨Ht, Hin, Hout⟩
  isplitl [Ht]; · iexact Ht
  isplitl [Hin]; · iexact Hin
  iapply (donePts_join _ _ _ _ _ hd 0 d); iexact Hout

/-! ## The launch's ghost state: the handshakes' rounds -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

end Launch

end Cert.Proof.Stage2
end
-- ==== Proof.RowMain.lean ====
module

public import proofs.«01_k».proof.Proof.RowLaunch

@[expose] public section

/-!
# The row kernel's run

The host's operations before and after the call, and the whole program's run.
-/

noncomputable section

namespace Cert.Proof.Stage2

open Cert.RowsKernelIdeal Cert.RowsKernelIdeal.Gen
open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)
open Cert.Proof.Compact Cert.Proof.Lanes Cert.Proof.RowLanes

variable {F : FTy → Type} [FloatOps F]

local notation "𝕄" => MT nD τ sig (HIx 1) (Elt F) ℕ UU ℕ

open Cert.Proof.Stage4 (isCore isAny rowsOf_isAny deals_cores)

/-! ## The host's operations

Each reads one array and writes another. -/

/-- The two arrays of such an operation, as points-tos. -/
theorem held_pair (d : Dev nD) {x y : Ref sig .tc} (h : x ≠ y) (V : Valuation τ sig (Elt F)) :
    (held (SparseCore.T d) {Proc.devRef .tc x, Proc.devRef .tc y} V : sProp 𝕄)
      = iprop(((SparseCore.T d : Thread nD τ).loc x ↦{fullShare} V (Proc.devRef .tc x)) ∗ (SparseCore.T d : Thread nD τ).loc y ↦{fullShare} V (Proc.devRef .tc y)) := by
  unfold held
  rw [SparseCore.bigSep_insert' (by rw [Finset.mem_singleton]; exact StableHlo.devRef_ne_of_ne h), bigSep_singleton]

section Launch

variable (m : (ℓ : Loc nD τ sig) → Buf (Elt F) ℓ) (ρ : Dev nD → PrngReg)

include m in
/-- An operation from `x` to `y`: `x` is kept, `y` ends at the operation's value. -/
theorem wp_pair (d : Dev nD) {x y : Ref sig .tc} (h : x ≠ y) (op : HloOp τ sig (Elt F))
    (hb : op.bufs ⊆ {Proc.devRef .tc x, Proc.devRef .tc y}) (hw : op.writes = {Proc.devRef .tc y}) (hf : op.fresh = ∅)
    (fx : Buf (Elt F) ((SparseCore.T d : Thread nD τ).loc x)) (fy g : Buf (Elt F) ((SparseCore.T d : Thread nD τ).loc y))
    (hg : ∀ V : Valuation τ sig (Elt F), V (Proc.devRef .tc x) = fx → op.result V (Proc.devRef .tc y) = g)
    {Q : PUnit → sProp 𝕄} :
    iprop(boundary (SparseCore.T d) ∗ ((SparseCore.T d : Thread nD τ).loc x ↦{fullShare} fx) ∗ ((SparseCore.T d : Thread nD τ).loc y ↦{fullShare} fy) : sProp 𝕄)
      ⊢ iprop(((boundary (SparseCore.T d) ∗ ((SparseCore.T d : Thread nD τ).loc x ↦{fullShare} fx) ∗ ((SparseCore.T d : Thread nD τ).loc y ↦{fullShare} g)) -∗ Q ⟨⟩)
        -∗ wp frame (wpE ((K (F := F)).defs (D (F := F))) 𝒱 (SparseCore.T d) none) Set.univ (hlo rfl op fun _ => .ret ⟨⟩) Q) := by
  have hne : (Proc.devRef (τ := τ) .tc x : DevRef τ sig) ≠ Proc.devRef .tc y := StableHlo.devRef_ne_of_ne h
  obtain ⟨V, hV⟩ : ∃ V : Valuation τ sig (Elt F),
    V = Function.update (Function.update (fun b => m (d, b)) (Proc.devRef .tc x) fx) (Proc.devRef .tc y) fy := ⟨_, rfl⟩
  have hx : V (Proc.devRef .tc x) = fx := by rw [hV, Function.update_of_ne hne, Function.update_self]
  have hy : V (Proc.devRef .tc y) = fy := by rw [hV, Function.update_self]
  have hx' : op.result V (Proc.devRef .tc x) = fx := by
    rw [op.result_of_not_mem V (by rw [hw, Finset.mem_singleton]; exact hne), hx]
  iintro ⟨Hb, Hx, Hy⟩ Hk
  iapply (wp_hlo_within 𝒱 (SparseCore.T d) none Set.univ (op := op) (S := {Proc.devRef .tc x, Proc.devRef .tc y}) hb (V := V) hf) $$ [Hb Hx Hy]
  · isplitl [Hb]; · iexact Hb
    rw [held_pair d h, hx, hy]
    isplitl [Hx]; · iexact Hx
    iexact Hy
  iintro ⟨Hb, Hheld⟩
  ihave Hh := (Entails.of_eq (held_pair (F := F) d h _)) $$ Hheld
  rw [hx', hg V hx]
  icases Hh with ⟨Hx, Hy⟩
  rw [wp_ret]; imodintro
  iapply Hk
  isplitl [Hb]; · iexact Hb
  isplitl [Hx]; · iexact Hx
  iexact Hy

/-- The three arrays of an operation that reads two, as points-tos. -/
theorem held_three (d : Dev nD) {x z y : Ref sig .tc} (hxz : x ≠ z) (hxy : x ≠ y) (hzy : z ≠ y) (V : Valuation τ sig (Elt F)) :
    (held (SparseCore.T d) {Proc.devRef .tc x, Proc.devRef .tc z, Proc.devRef .tc y} V : sProp 𝕄)
      = iprop(((SparseCore.T d : Thread nD τ).loc x ↦{fullShare} V (Proc.devRef .tc x)) ∗ ((SparseCore.T d : Thread nD τ).loc z ↦{fullShare} V (Proc.devRef .tc z))
        ∗ (SparseCore.T d : Thread nD τ).loc y ↦{fullShare} V (Proc.devRef .tc y)) := by
  unfold held
  rw [SparseCore.bigSep_insert' (by
      rw [Finset.mem_insert, Finset.mem_singleton]
      exact fun h => h.elim (StableHlo.devRef_ne_of_ne hxz) (StableHlo.devRef_ne_of_ne hxy)),
    SparseCore.bigSep_insert' (by rw [Finset.mem_singleton]; exact StableHlo.devRef_ne_of_ne hzy), bigSep_singleton]

include m in
/-- An operation from `x` and `z` to `y`: those are kept, `y` ends at the operation's value. -/
theorem wp_three (d : Dev nD) {x z y : Ref sig .tc} (hxz : x ≠ z) (hxy : x ≠ y) (hzy : z ≠ y) (op : HloOp τ sig (Elt F))
    (hb : op.bufs ⊆ {Proc.devRef .tc x, Proc.devRef .tc z, Proc.devRef .tc y}) (hw : op.writes = {Proc.devRef .tc y}) (hf : op.fresh = ∅)
    (fx : Buf (Elt F) ((SparseCore.T d : Thread nD τ).loc x)) (fz : Buf (Elt F) ((SparseCore.T d : Thread nD τ).loc z)) (fy g : Buf (Elt F) ((SparseCore.T d : Thread nD τ).loc y))
    (hg : ∀ V : Valuation τ sig (Elt F), V (Proc.devRef .tc x) = fx → V (Proc.devRef .tc z) = fz → op.result V (Proc.devRef .tc y) = g)
    {Q : PUnit → sProp 𝕄} :
    iprop(boundary (SparseCore.T d) ∗ ((SparseCore.T d : Thread nD τ).loc x ↦{fullShare} fx) ∗ ((SparseCore.T d : Thread nD τ).loc z ↦{fullShare} fz) ∗ ((SparseCore.T d : Thread nD τ).loc y ↦{fullShare} fy) : sProp 𝕄)
      ⊢ iprop(((boundary (SparseCore.T d) ∗ ((SparseCore.T d : Thread nD τ).loc x ↦{fullShare} fx) ∗ ((SparseCore.T d : Thread nD τ).loc z ↦{fullShare} fz) ∗ ((SparseCore.T d : Thread nD τ).loc y ↦{fullShare} g)) -∗ Q ⟨⟩)
        -∗ wp frame (wpE ((K (F := F)).defs (D (F := F))) 𝒱 (SparseCore.T d) none) Set.univ (hlo rfl op fun _ => .ret ⟨⟩) Q) := by
  have nxz : (Proc.devRef (τ := τ) .tc x : DevRef τ sig) ≠ Proc.devRef .tc z := StableHlo.devRef_ne_of_ne hxz
  have nxy : (Proc.devRef (τ := τ) .tc x : DevRef τ sig) ≠ Proc.devRef .tc y := StableHlo.devRef_ne_of_ne hxy
  have nzy : (Proc.devRef (τ := τ) .tc z : DevRef τ sig) ≠ Proc.devRef .tc y := StableHlo.devRef_ne_of_ne hzy
  obtain ⟨V, hV⟩ : ∃ V : Valuation τ sig (Elt F),
    V = Function.update (Function.update (Function.update (fun b => m (d, b)) (Proc.devRef .tc x) fx) (Proc.devRef .tc z) fz) (Proc.devRef .tc y) fy := ⟨_, rfl⟩
  have hx : V (Proc.devRef .tc x) = fx := by rw [hV, Function.update_of_ne nxy, Function.update_of_ne nxz, Function.update_self]
  have hz : V (Proc.devRef .tc z) = fz := by rw [hV, Function.update_of_ne nzy, Function.update_self]
  have hy : V (Proc.devRef .tc y) = fy := by rw [hV, Function.update_self]
  have hx' : op.result V (Proc.devRef .tc x) = fx := by
    rw [op.result_of_not_mem V (by rw [hw, Finset.mem_singleton]; exact nxy), hx]
  have hz' : op.result V (Proc.devRef .tc z) = fz := by
    rw [op.result_of_not_mem V (by rw [hw, Finset.mem_singleton]; exact nzy), hz]
  iintro ⟨Hb, Hx, Hz, Hy⟩ Hk
  iapply (wp_hlo_within 𝒱 (SparseCore.T d) none Set.univ (op := op) (S := {Proc.devRef .tc x, Proc.devRef .tc z, Proc.devRef .tc y}) hb (V := V) hf) $$ [Hb Hx Hz Hy]
  · isplitl [Hb]; · iexact Hb
    rw [held_three d hxz hxy hzy, hx, hz, hy]
    isplitl [Hx]; · iexact Hx
    isplitl [Hz]; · iexact Hz
    iexact Hy
  iintro ⟨Hb, Hheld⟩
  ihave Hh := (Entails.of_eq (held_three (F := F) d hxz hxy hzy _)) $$ Hheld
  rw [hx', hz', hg V hx hz]
  icases Hh with ⟨Hx, Hz, Hy⟩
  rw [wp_ret]; imodintro
  iapply Hk
  isplitl [Hb]; · iexact Hb
  isplitl [Hx]; · iexact Hx
  isplitl [Hz]; · iexact Hz
  iexact Hy

/-! ## @main on the TensorCore -/

abbrev flatLoc (d : Dev nD) : Loc nD τ sig := (SparseCore.T d).loc main_v0
abbrev zeroLoc (d : Dev nD) : Loc nD τ sig := (SparseCore.T d).loc main_c
abbrev fillLoc (d : Dev nD) : Loc nD τ sig := (SparseCore.T d).loc main_call0_v0
abbrev r0Loc (d : Dev nD) : Loc nD τ sig := (SparseCore.T d).loc main_v3
abbrev r1Loc (d : Dev nD) : Loc nD τ sig := (SparseCore.T d).loc main_v4

/-- The TensorCore's arrays: the arguments, the table and what it is made of, the call's results, and what the host cuts out of those. -/
theorem unscopedBufs_eq (d : Dev nD) (W : (b : Ref sig .tc) → Buf (Elt F) ((d.tc : Thread nD τ).loc b)) :
    (unscopedBufs d W : sProp 𝕄)
      = iprop((sigLoc d ↦{fullShare} W main_arg0) ∗ (bigLoc d ↦{fullShare} W main_arg1) ∗ (atLoc d ↦{fullShare} W main_arg2) ∗ (tvLoc d ↦{fullShare} W main_arg3) ∗ (tsLoc d ↦{fullShare} W main_arg4) ∗ (flatLoc d ↦{fullShare} W main_v0) ∗ (zeroLoc d ↦{fullShare} W main_c) ∗ (fillLoc d ↦{fullShare} W main_call0_v0) ∗ (tabLoc d ↦{fullShare} W main_v1) ∗ (candLoc d ↦{fullShare} W main_v2_0) ∗ (qryLoc d ↦{fullShare} W main_v2_1) ∗ (r0Loc d ↦{fullShare} W main_v3) ∗ (r1Loc d ↦{fullShare} W main_v4)) := by
  unfold unscopedBufs
  rw [show (Finset.univ.filter fun b : Ref sig .tc => ¬ b.isScoped) = {main_arg0, main_arg1, main_arg2, main_arg3, main_arg4, main_v0, main_c, main_call0_v0, main_v1, main_v2_0, main_v2_1, main_v3, main_v4} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-- The call takes the table and every row of the other arrays, by SparseCore, -/
theorem st0_eq (d : Dev nD) :
    (bigSep Finset.univ fun c : Fin ((K (F := F)).nCore 0) => (P m).st 0 d c) = goM m d fullShare isAny := by
  show (bigSep (Finset.univ : Finset (Fin 2)) fun c => goM m d (coreShare c.val) (isCore c.val)) = _
  unfold goM
  rw [bigSep_sep', bigSep_sep', ← tabPts_cores, ← inPts_split _ _ _ _ deals_cores, ← outPts_split deals_cores]

/-- and hands them back, the results' done. -/
theorem dn0_ent [∀ e, Nonempty (Elt F e)] (d : Dev nD) :
    (bigSep Finset.univ fun c : Fin ((K (F := F)).nCore 0) => (P m).dn 0 d c) ⊢ (tdM m d fullShare isAny : sProp 𝕄) := by
  show (bigSep (Finset.univ : Finset (Fin 2)) fun c => tdM m d (coreShare c.val) (isCore c.val)) ⊢ _
  unfold tdM
  rw [bigSep_sep', bigSep_sep', ← tabPts_cores, ← inPts_split _ _ _ _ deals_cores]
  iintro ⟨Ht, Hin, Hout⟩
  isplitl [Ht]; · iexact Ht
  isplitl [Hin]; · iexact Hin
  iapply (donePts_join _ _ _ _ _ deals_cores 0 d); iexact Hout

/-- All rows of the operands are the operands. -/
theorem inPts_any (Big : Vec F S16x20000 .f32) (At : Vec F S16x20000 .i32) (Tv : Vec F S16x1x16 .f32) (Ts : Vec F S16x1x16 .i32) (d : Dev nD) :
    (inPts Big At Tv Ts d isAny : sProp 𝕄) = iprop((bigLoc d ↦{fullShare} Big) ∗ (atLoc d ↦{fullShare} At)
      ∗ (tvLoc d ↦{fullShare} Tv) ∗ (tsLoc d ↦{fullShare} Ts)) := by
  unfold inPts
  simp only [rowsOf_isAny]

/-- All rows of the results are the results. -/
theorem outPts_any (d : Dev nD) (fs : Outs F) :
    (outPts d isAny fs : sProp 𝕄) = iprop((candLoc d ↦{fullShare} fs.1) ∗ (qryLoc d ↦{fullShare} fs.2)) := by
  unfold outPts
  simp only [rowsOf_isAny]

/-- The program's results, from what the call leaves. -/
abbrev out0 (fs : Outs F) : Vec F S16x300x80 .f32 := extractStridedSlice S16x300x80 ![0, 0, 0] fs.1 slices_S16x384x128_S16x300x80_0_0_0
abbrev out1 (fs : Outs F) : Vec F S16x300 .i32 := extractStridedSlice S16x300 ![0, 0] fs.2 slices_S16x384_S16x300_0_0

/-- The arguments as they were. -/
abbrev argPts (d : Dev nD) : sProp 𝕄 := iprop((sigLoc d ↦{fullShare} m (sigLoc d)) ∗ (bigLoc d ↦{fullShare} m (bigLoc d))
  ∗ (atLoc d ↦{fullShare} m (atLoc d)) ∗ (tvLoc d ↦{fullShare} m (tvLoc d)) ∗ (tsLoc d ↦{fullShare} m (tsLoc d)))

/-- What @main leaves: the arguments as they were, and the results cut out of what the call left. -/
abbrev FIN (d : Dev nD) : sProp 𝕄 := iprop(argPts m d
  ∗ ∃ fs : Outs F, ⌜Done (aTab m d) (aBig m d) (aAt m d) (aTv m d) (aTs m d) isAny fs⌝
    ∗ (r0Loc d ↦{fullShare} out0 fs) ∗ (r1Loc d ↦{fullShare} out1 fs))

/-- @main: the scores made a padded table, the call, the results cut. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, fn_pad.body, main_call0, wp_bind, wp_pure]
  iintro ⟨#Hctx, Hst, ⟨Hb, ⟨H0, H1, H2, H3, H4, Hfl, Hze, Hfi, Htab, Hc, Hq, Hr0, Hr1⟩, Hts, -⟩, -⟩
  iapply (wp_pair m d (x := main_arg0) (y := main_v0) (by decide) _ (Finset.Subset.refl _) rfl rfl (m (sigLoc d)) _ (hFlat (aSig m d))
    (fun V hV => (StableHlo.reshape_result _ _ _ _ _ _ V).trans (by rw [hV]; rfl))) $$ [Hb H0 Hfl]
  · isplitl [Hb]; · iexact Hb
    isplitl [H0]; · iexact H0
    iexact Hfl
  iintro ⟨Hb, H0, Hfl⟩
  iapply (wp_pair m d (x := main_v0) (y := main_c) (by decide) _ (Finset.subset_insert _ _) rfl rfl (hFlat (aSig m d)) _ (hZero (F := F))
    (fun V _ => StableHlo.nullary_result _ _ _ V)) $$ [Hb Hfl Hze]
  · isplitl [Hb]; · iexact Hb
    isplitl [Hfl]; · iexact Hfl
    iexact Hze
  iintro ⟨Hb, Hfl, Hze⟩
  iapply (wp_pair m d (x := main_c) (y := main_call0_v0) (by decide) _ (Finset.Subset.refl _) rfl rfl (hZero (F := F)) _ (hFill (F := F))
    (fun V hV => (StableHlo.unary_result _ _ _ _ _ V).trans (by rw [hV]; rfl))) $$ [Hb Hze Hfi]
  · isplitl [Hb]; · iexact Hb
    isplitl [Hze]; · iexact Hze
    iexact Hfi
  iintro ⟨Hb, -, Hfi⟩
  iapply (wp_three m d (x := main_v0) (z := main_call0_v0) (y := main_v1) (by decide) (by decide) (by decide) _ (Finset.Subset.refl _) rfl rfl
    (hFlat (aSig m d)) (hFill (F := F)) _ (aTab m d)
    (fun V hx hz => (StableHlo.binary_result _ _ _ _ _ _ _ V).trans (by rw [hx, hz]; rfl))) $$ [Hb Hfl Hfi Htab]
  · isplitl [Hb]; · iexact Hb
    isplitl [Hfl]; · iexact Hfl
    isplitl [Hfi]; · iexact Hfi
    iexact Htab
  iintro ⟨Hb, -, -, Htab⟩
  iapply ((K (F := F)).wp_run (D (F := F)) 𝒱 (EH := EH) (P := P m) κ d 0) $$ [Hst H0 H1 H2 H3 H4 Htab Hc Hq Hr0 Hr1 Hb Hts]
  isplitr; · iexact Hctx
  isplitl [Hst]; · iexact Hst
  isplitl [H1 H2 H3 H4 Htab Hc Hq]
  · rw [st0_eq]
    unfold goM tabM inM outM tabPts
    rw [inPts_any, outPts_any]
    isplitl [Htab]; · iexact Htab
    isplitl [H1 H2 H3 H4]
    · isplitl [H1]; · iexact H1
      isplitl [H2]; · iexact H2
      isplitl [H3]; · iexact H3
      iexact H4
    isplitl [Hc]; · iexact Hc
    iexact Hq
  iintro ⟨Hst, Hdn⟩
  ihave Hdn' := (dn0_ent m d) $$ Hdn
  icases Hdn' with ⟨-, Hin, Hout⟩
  ihave Hin := (Entails.of_eq (inPts_any (F := F) _ _ _ _ d)) $$ Hin
  icases Hin with ⟨H1, H2, H3, H4⟩
  unfold doneM donePts
  icases Hout with ⟨%fs, %hdone, Hout⟩
  ihave Hout := (Entails.of_eq (outPts_any (F := F) d fs)) $$ Hout
  icases Hout with ⟨Hc, Hq⟩
  iapply (wp_pair m d (x := main_v2_0) (y := main_v3) (by decide) _ (Finset.Subset.refl _) rfl rfl fs.1 _ (out0 fs)
    (fun V hV => (StableHlo.unary_result _ _ _ _ _ V).trans (by rw [hV]))) $$ [Hb Hc Hr0]
  · isplitl [Hb]; · iexact Hb
    isplitl [Hc]; · iexact Hc
    iexact Hr0
  iintro ⟨Hb, -, Hr0⟩
  iapply (wp_pair m d (x := main_v2_1) (y := main_v4) (by decide) _ (Finset.Subset.refl _) rfl rfl fs.2 _ (out1 fs)
    (fun V hV => (StableHlo.unary_result _ _ _ _ _ V).trans (by rw [hV]))) $$ [Hb Hq Hr1]
  · isplitl [Hb]; · iexact Hb
    isplitl [Hq]; · iexact Hq
    iexact Hr1
  iintro ⟨Hb, -, Hr1⟩
  imodintro
  isplitl [Hst]; · iexact Hst
  isplitr [Hb Hts]
  · isplitl [H0 H1 H2 H3 H4]
    · isplitl [H0]; · iexact H0
      isplitl [H1]; · iexact H1
      isplitl [H2]; · iexact H2
      isplitl [H3]; · iexact H3
      iexact H4
    iexists fs
    isplitr; · ipureintro; exact hdone
    isplitl [Hr0]; · iexact Hr0
    iexact Hr1
  isplitl [Hb] <;> iassumption

/-- The arguments are as they were in a memory. -/
def Kept (d : Dev nD) (s : (ℓ : Loc nD τ sig) → Buf (Elt F) ℓ) : Prop :=
  s (sigLoc d) = m (sigLoc d) ∧ s (bigLoc d) = m (bigLoc d) ∧ s (atLoc d) = m (atLoc d) ∧ s (tvLoc d) = m (tvLoc d) ∧ s (tsLoc d) = m (tsLoc d)

/-- What device `d`'s memory holds at the end. -/
def fq (d : Dev nD) (s' : Phys nD τ sig (Elt F)) : Prop :=
  Kept m d s'.mem.mem
  ∧ ∃ fs : Outs F, Done (aTab m d) (aBig m d) (aAt m d) (aTv m d) (aTs m d) isAny fs
    ∧ s'.mem.mem (r0Loc d) = out0 fs ∧ s'.mem.mem (r1Loc d) = out1 fs

/-- A whole array's points-to fixes the array, and is kept. -/
theorem whole_agree {ℓ : Loc nD τ sig} (f : Buf (Elt F) ℓ) (s' : Phys nD τ sig (Elt F)) :
    iprop((ℓ ↦{fullShare} f) ∗ SI s' : sProp 𝕄) ⊢ iprop(⌜s'.mem.mem ℓ = f⌝ ∗ SI s') := by
  iintro ⟨Hx, HSI⟩
  ihave H := (persistent_entails_right (SI_pointsTo_agree (st := s') (ℓ := ℓ) (I := Finset.univ) (q := fullShare) (f := f))) $$ [HSI Hx]
  · isplitl [HSI] <;> iassumption
  icases H with ⟨%hx, HSI, -⟩
  isplitr
  · ipureintro; exact funext fun i => hx i (Finset.mem_univ i)
  · iexact HSI

theorem hfin (d : Dev nD) (s' : Phys nD τ sig (Elt F)) : iprop(FIN m d ∗ SI s') ⊢ (⌜fq m d s'⌝ : sProp 𝕄) := by
  iintro ⟨⟨⟨H0, H1, H2, H3, H4⟩, %fs, %hdone, Hr0, Hr1⟩, HSI⟩
  ihave H := (whole_agree _ s') $$ [H0 HSI]
  · isplitl [H0] <;> iassumption
  icases H with ⟨%h0, HSI⟩
  ihave H := (whole_agree _ s') $$ [H1 HSI]
  · isplitl [H1] <;> iassumption
  icases H with ⟨%h1, HSI⟩
  ihave H := (whole_agree _ s') $$ [H2 HSI]
  · isplitl [H2] <;> iassumption
  icases H with ⟨%h2, HSI⟩
  ihave H := (whole_agree _ s') $$ [H3 HSI]
  · isplitl [H3] <;> iassumption
  icases H with ⟨%h3, HSI⟩
  ihave H := (whole_agree _ s') $$ [H4 HSI]
  · isplitl [H4] <;> iassumption
  icases H with ⟨%h4, HSI⟩
  ihave H := (whole_agree _ s') $$ [Hr0 HSI]
  · isplitl [Hr0] <;> iassumption
  icases H with ⟨%h5, HSI⟩
  ihave H := (whole_agree _ s') $$ [Hr1 HSI]
  · isplitl [Hr1] <;> iassumption
  icases H with ⟨%h6, -⟩
  ipureintro; exact ⟨⟨h0, h1, h2, h3, h4⟩, fs, hdone, h5, h6⟩

/-! ## The program's run -/

/-- What is known when the program ends. -/
def QC : PUnit × MemSt nD τ sig (Elt F) → Prop := fun r =>
  (∀ d : Dev nD, Kept m d r.2.mem
  ∧ ∃ fs : Outs F, Done (aTab m d) (aBig m d) (aAt m d) (aTv m d) (aTs m d) isAny fs
    ∧ r.2.mem (r0Loc d) = out0 fs ∧ r.2.mem (r1Loc d) = out1 fs) ∧ r.2.sem = fun _ => 0

/-- The program runs, every semaphore at zero at the end, the arguments unchanged, the results as the work leaves them. -/
theorem run_main [∀ e, Nonempty (Elt F e)] (hFit : AllFit m) :
    θ_run (Cert.RowsKernelIdeal.defs (F := F)) (Cert.RowsKernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hFit facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Launch

end Cert.Proof.Stage2
end
-- ==== Proof.RowHost.lean ====
module

public import proofs.«01_k».proof.Proof.RowRowVal
public import proofs.«01_k».proof.Proof.Gen.RowsReferenceIdeal.Run
public import Idealize.ShloMosaic.Lib.ValueIdxRank6
public import Idealize.ShloMosaic.Lib.Pipeline.Value
public import Idealize.ShloMosaic.Lib.Routing.BitFacts

@[expose] public section

noncomputable section

/-!
# The row stage's host arrays, read entry by entry

The reference and the precondition both repeat the sixteen threshold lanes along the 20000 queries and mark the queries
that are kept. Here are those arrays, and what entry `n` of each is in the terms the kernel's proof uses.

-/

namespace Cert.Proof.Stage2

open Cert.RowsReferenceIdeal Cert.RowsReferenceIdeal.Gen
open Idealize.ShloMosaic
open Idealize.ShloMosaic.ValueIdx
open Cert.Proof.RowLanes Cert.Proof.Compact

variable {F : FTy → Type} [FloatOps F]

variable (Big : Vec F S16x20000 .f32) (At : Vec F S16x20000 .i32) (Tv : Vec F S16x1x16 .f32) (Ts : Vec F S16x1x16 .i32)

/-- Sixteen threshold lanes, repeated along the queries. -/
def hT {α : Type} (x : S16x1x16.Idx → α) : S16x20000.Idx → α :=
  shapeCast S16x20000 (shapeCast S16x1x20000 (broadcastInDim S1x16x1x1x1250x16 ![0, 1, 2, 3, 4, 5] bcast_S1x16x1x1x1x16_S1x16x1x1x1250x16_0_1_2_3_4_5 (shapeCast S1x16x1x1x1x16 x shapeCasts_S16x1x16_S1x16x1x1x1x16)) shapeCasts_S1x16x1x1x1250x16_S16x1x20000) shapeCasts_S16x1x20000_S16x20000

/-- Which queries are kept. -/
def hK : IVec S16x20000 1 :=
  ori (cmpf .ogt Big (hT Tv)) (andi (cmpf .oeq Big (hT Tv)) (cmpi .sle At (hT Ts)))

/-- Entry `n` of the repeated lanes is lane `n` modulo sixteen. -/
theorem hT_at {α : Type} (x : S16x1x16.Idx → α) (b : Fin 16) (n : Fin 20000) :
    hT x (ix2 b n) = x (ix3 b (0 : Fin 1) (⟨n.val % 16, Nat.mod_lt _ (by decide)⟩ : Fin 16)) := by
  unfold hT
  rw [shapeCast_apply _ _ (ix2 b n) (ix3 b (0 : Fin 1) n) (by
        rw [Shape.rowMajor_val_two, Shape.rowMajor_val_three]
        show (b.val * 1 + 0) * 20000 + n.val = b.val * 20000 + n.val
        omega),
    shapeCast_apply _ _ (ix3 b (0 : Fin 1) n)
      (ix6 (0 : Fin 1) b (0 : Fin 1) (0 : Fin 1) (⟨n.val / 16, by omega⟩ : Fin 1250) (⟨n.val % 16, Nat.mod_lt _ (by decide)⟩ : Fin 16)) (by
        rw [Shape.rowMajor_val_six, Shape.rowMajor_val_three]
        show ((((0 * 16 + b.val) * 1 + 0) * 1 + 0) * 1250 + n.val / 16) * 16 + n.val % 16 = (b.val * 1 + 0) * 20000 + n.val
        omega),
    broadcastInDim_apply _ bcast_S1x16x1x1x1x16_S1x16x1x1x1250x16_0_1_2_3_4_5 _ _
      (ix6 (0 : Fin 1) b (0 : Fin 1) (0 : Fin 1) (0 : Fin 1) (⟨n.val % 16, Nat.mod_lt _ (by decide)⟩ : Fin 16)) (fun a => by
      match a with
      | ⟨0, _⟩ => rfl
      | ⟨1, _⟩ => rfl
      | ⟨2, _⟩ => rfl
      | ⟨3, _⟩ => rfl
      | ⟨4, _⟩ => rfl
      | ⟨5, _⟩ => rfl)]
  refine shapeCast_apply _ _ _ _ ?_
  rw [Shape.rowMajor_val_six, Shape.rowMajor_val_three]
  show (b.val * 1 + 0) * 16 + n.val % 16 = ((((0 * 16 + b.val) * 1 + 0) * 1 + 0) * 1 + 0) * 16 + n.val % 16
  omega

theorem self_eq (n : Fin 20000) : Fin.ofNat 20000 n.val = n := Fin.ext (Nat.mod_eq_of_lt n.isLt)

/-- Entry `n` of the values is what the kernel's proof calls entry `n`'s value. -/
theorem big_at (b : Fin 16) (n : Fin 20000) : Big (ix2 b n) = bigS (bigOf Big b) n.val :=
  congrArg (fun q : Fin 20000 => Big (ix2 b q)) (self_eq n).symm

/-- The same of the ids. -/
theorem at_at (b : Fin 16) (n : Fin 20000) : At (ix2 b n) = atS (atOf (F := F) At b) n.val :=
  congrArg (fun q : Fin 20000 => At (ix2 b q)) (self_eq n).symm

/-- The marks are the kernel's bits. -/
theorem hK_at (b : Fin 16) (n : Fin 20000) :
    hK Big At Tv Ts (ix2 b n) = keepBit (bigOf Big b) (atOf (F := F) At b) (tvOf Tv b) (tsOf (F := F) Ts b) n.val := by
  unfold hK
  show IntOp.ori (FloatOps.cmpf .ogt _ _) (IntOp.andi (FloatOps.cmpf .oeq _ _) (IntOp.cmpi .sle _ _)) = _
  rw [hT_at, hT_at, big_at Big b n, at_at (F := F) At b n]
  rfl

/-- The sign of a word. -/
def sgn (w : BitVec 32) : BitVec 32 := if w = 0 then 0 else if w.msb then -1 else 1

/-- Dividing an id by eighty, rounding down, as the host does it for signed words. -/
theorem floor_eighty (w : BitVec 32) (hw : w.toNat < 1600000) :
    Scalar.select (IntOp.andi (IntOp.cmpi .ne (sgn w) (sgn 80#32)) (IntOp.cmpi .ne (IntOp.remsi .host w 80#32) 0#32))
      (IntOp.subi (IntOp.divsi .host w 80#32) 1#32) (IntOp.divsi .host w 80#32) = BitVec.ofNat 32 (w.toNat / 80) := by
  have hdiv : IntOp.divsi .host w 80#32 = BitVec.ofNat 32 (w.toNat / 80) := by
    unfold IntOp.divsi
    rw [if_neg (by simp [IntOp.SDivCorner])]
    exact (congrArg (fun z : BitVec 32 => z.sdiv 80#32) (show w = BitVec.ofNat 32 w.toNat by rw [BitVec.ofNat_toNat, BitVec.setWidth_eq])).trans (Routing.sdiv_ofNat32 (by omega) (by decide))
  have hbit : IntOp.andi (IntOp.cmpi .ne (sgn w) (sgn 80#32)) (IntOp.cmpi .ne (IntOp.remsi .host w 80#32) 0#32) ≠ 1#1 := by
    intro h
    obtain ⟨h1, h2⟩ := IntOp.andi_eq_one.1 h
    by_cases h0 : w = 0
    · subst h0
      exact absurd h2 (by decide)
    · have hm : w.msb = false := by
        rw [BitVec.msb_eq_false_iff_two_mul_lt]
        omega
      have hs : sgn w = sgn 80#32 := by
        unfold sgn
        rw [if_neg h0, hm]
        decide
      rw [hs] at h1
      exact absurd h1 (by decide)
  exact (if_neg hbit).trans hdiv

end Cert.Proof.Stage2
-- ==== Proof.RowTake.lean ====
module

public import proofs.«01_k».proof.Proof.RowHost
public import proofs.«01_k».proof.Proof.Take

@[expose] public section

noncomputable section

/-!
# The row stage's gathers and its sort, read entry by entry

Each gather picks, in every image, the queries (or the rows of scores) at 300 positions. The sort puts the kept queries
first, in order.

-/

namespace Cert.Proof.Stage2

open Cert.RowsReferenceIdeal Cert.RowsReferenceIdeal.Gen
open Idealize.ShloMosaic
open Idealize.ShloMosaic.ValueIdx
open Cert.Proof.RowLanes Cert.Proof.Compact
open Cert.Proof.Stage4 (start_word)

variable {F : FTy → Type} [FloatOps F]

/-- Picking single entries of a row: result `(b, k)` is entry `(b, i)`, `i` the start index at `(b, k)`, clamped. -/
theorem pick_entry {α : Type} (x : S16x20000.Idx → α) (idx : IVec S16x300x1 32) (b : Fin 16) (k : Fin 300) :
    Host.gather gather_S16x20000_S16x300x1_S16x300_n_1_0_0_1_2_11 x idx (ix2 b k)
      = x (ix2 b (⟨min (idx (ix3 b k (0 : Fin 1))).toInt.toNat 19999, by omega⟩ : Fin 20000)) := by
  unfold Host.gather
  refine congrArg x (funext fun a => Fin.ext ?_)
  show gather_S16x20000_S16x300x1_S16x300_n_1_0_0_1_2_11.start (ix2 b k) idx a
      + gather_S16x20000_S16x300x1_S16x300_n_1_0_0_1_2_11.batchCoord (ix2 b k) a
      + gather_S16x20000_S16x300x1_S16x300_n_1_0_0_1_2_11.offCoord (ix2 b k) a = _
  have ha : a = 0 ∨ a = 1 := by
    match a with
    | ⟨0, _⟩ => exact Or.inl rfl
    | ⟨1, _⟩ => exact Or.inr rfl
  rcases ha with rfl | rfl
  · rw [GatherDims.start_batching _ _ _ _ (List.mem_singleton.mpr rfl),
      GatherDims.offCoord_eq_zero _ _ _ (fun h => ((GatherDims.mem_sKept _ _).mp h).2 (List.mem_singleton.mpr rfl))]
    unfold GatherDims.batchCoord
    rw [dif_pos (show (0 : Fin 2) ∈ gather_S16x20000_S16x300x1_S16x300_n_1_0_0_1_2_11.operandBatchingDims from List.mem_singleton.mpr rfl)]
    show 0 + b.val + 0 = b.val
    omega
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    unfold GatherDims.start
    rw [dif_pos (show (1 : Fin 2) ∈ gather_S16x20000_S16x300x1_S16x300_n_1_0_0_1_2_11.startIndexMap from List.mem_singleton.mpr rfl)]
    have hs : gather_S16x20000_S16x300x1_S16x300_n_1_0_0_1_2_11.siIdx (ix2 b k)
        ⟨List.idxOf (1 : Fin 2) gather_S16x20000_S16x300x1_S16x300_n_1_0_0_1_2_11.startIndexMap,
          List.idxOf_lt_length_iff.2 (List.mem_singleton.mpr rfl)⟩ = ix3 b k (0 : Fin 1) := by
      funext c
      refine Fin.ext ?_
      match c with
      | ⟨0, _⟩ => rfl
      | ⟨1, _⟩ => rfl
      | ⟨2, _⟩ => rfl
    rw [hs]
    rfl

/-- Picking rows of an image: result `(b, k, c)` is score `c` of row `i`, `i` the start index at `(b, k)`, clamped. -/
theorem pick_row {α : Type} (x : S16x20000x80.Idx → α) (idx : IVec S16x300x1 32) (b : Fin 16) (k : Fin 300) (c : Fin 80) :
    Host.gather gather_S16x20000x80_S16x300x1_S16x300x80_2_1_0_0_1_2_1180 x idx (ix3 b k c)
      = x (ix3 b (⟨min (idx (ix3 b k (0 : Fin 1))).toInt.toNat 19999, by omega⟩ : Fin 20000) c) := by
  unfold Host.gather
  refine congrArg x (funext fun a => Fin.ext ?_)
  show gather_S16x20000x80_S16x300x1_S16x300x80_2_1_0_0_1_2_1180.start (ix3 b k c) idx a
      + gather_S16x20000x80_S16x300x1_S16x300x80_2_1_0_0_1_2_1180.batchCoord (ix3 b k c) a
      + gather_S16x20000x80_S16x300x1_S16x300x80_2_1_0_0_1_2_1180.offCoord (ix3 b k c) a = _
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    unfold GatherDims.batchCoord
    rw [dif_pos (show (0 : Fin 3) ∈ gather_S16x20000x80_S16x300x1_S16x300x80_2_1_0_0_1_2_1180.operandBatchingDims from List.mem_singleton.mpr rfl)]
    show 0 + b.val + 0 = b.val
    omega
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    unfold GatherDims.start
    rw [dif_pos (show (1 : Fin 3) ∈ gather_S16x20000x80_S16x300x1_S16x300x80_2_1_0_0_1_2_1180.startIndexMap from List.mem_singleton.mpr rfl)]
    have hs : gather_S16x20000x80_S16x300x1_S16x300x80_2_1_0_0_1_2_1180.siIdx (ix3 b k c)
        ⟨List.idxOf (1 : Fin 3) gather_S16x20000x80_S16x300x1_S16x300x80_2_1_0_0_1_2_1180.startIndexMap,
          List.idxOf_lt_length_iff.2 (List.mem_singleton.mpr rfl)⟩ = ix3 b k (0 : Fin 1) := by
      funext e
      refine Fin.ext ?_
      match e with
      | ⟨0, _⟩ => rfl
      | ⟨1, _⟩ => rfl
      | ⟨2, _⟩ => rfl
    rw [hs]
    rfl
  · rw [GatherDims.batchCoord_eq_zero _ _ _ (fun h => absurd (List.mem_singleton.mp h) (by decide))]
    unfold GatherDims.start
    rw [dif_neg (show (2 : Fin 3) ∉ gather_S16x20000x80_S16x300x1_S16x300x80_2_1_0_0_1_2_1180.startIndexMap from fun h => absurd (List.mem_singleton.mp h) (by decide))]
    unfold GatherDims.offCoord
    rw [dif_pos (show (2 : Fin 3) ∈ gather_S16x20000x80_S16x300x1_S16x300x80_2_1_0_0_1_2_1180.sKept from (GatherDims.mem_sKept _ _).mpr ⟨fun h => absurd (List.mem_singleton.mp h) (by decide),
      fun h => absurd (List.mem_singleton.mp h) (by decide)⟩)]
    show 0 + 0 + c.val = c.val
    omega

variable (Big : Vec F S16x20000 .f32) (At : Vec F S16x20000 .i32) (Tv : Vec F S16x1x16 .f32) (Ts : Vec F S16x1x16 .i32)

/-- The sort's key: zero for a kept query, one for the others. -/
def hKey : IVec S16x20000 32 :=
  select (hK Big At Tv Ts) (broadcastInDim S16x20000 ![] bcast_S_S16x20000 (constantI S_ 32 0#32)) (broadcastInDim S16x20000 ![] bcast_S_S16x20000 (constantI S_ 32 1#32))

/-- The positions in the order the sort leaves them. -/
def hOrd : IVec S16x20000 32 :=
  (Host.sort2 S16x20000 1 comparator_i32_i32_d1 (hKey Big At Tv Ts) (iotaInDim S16x20000 32 1)).2

/-- The first 300 of them. -/
def hPos : IVec S16x300 32 := extractStridedSlice S16x300 ![0, 0] (hOrd Big At Tv Ts) slices_S16x20000_S16x300_0_0

/-- The same as start indices, a negative one counted from the end. -/
def hIdx : IVec S16x300x1 32 :=
  shapeCast S16x300x1 (select (cmpi .slt (hPos Big At Tv Ts) (broadcastInDim S16x300 ![] bcast_S_S16x300 (constantI S_ 32 0#32))) (addi (hPos Big At Tv Ts) (broadcastInDim S16x300 ![] bcast_S_S16x300 (constantI S_ 32 20000#32))) (hPos Big At Tv Ts)) shapeCasts_S16x300_S16x300x1

/-- The queries the ids name: an id divided by eighty, rounding down. -/
def hQ : IVec S16x20000 32 :=
  select (andi (cmpi .ne (signi At) (broadcastInDim S16x20000 ![] bcast_S_S16x20000 (signi (constantI S_ 32 80#32))))
      (cmpi .ne (Host.remsi At (broadcastInDim S16x20000 ![] bcast_S_S16x20000 (constantI S_ 32 80#32))) (broadcastInDim S16x20000 ![] bcast_S_S16x20000 (constantI S_ 32 0#32))))
    (subi (Host.divsi At (broadcastInDim S16x20000 ![] bcast_S_S16x20000 (constantI S_ 32 80#32))) (broadcastInDim S16x20000 ![] bcast_S_S16x20000 (constantI S_ 32 1#32)))
    (Host.divsi At (broadcastInDim S16x20000 ![] bcast_S_S16x20000 (constantI S_ 32 80#32)))

/-- The kept queries. -/
def hQry : IVec S16x300 32 := Host.gather gather_S16x20000_S16x300x1_S16x300_n_1_0_0_1_2_11 (hQ (F := F) At) (hIdx Big At Tv Ts)

/-- The same, one axis more. -/
def hPicked : IVec S16x300x1 32 := broadcastInDim S16x300x1 ![0, 1] bcast_S16x300_S16x300x1_0_1 (hQry Big At Tv Ts)

/-- The same as start indices, a negative one counted from the end. -/
def hRowIdx : IVec S16x300x1 32 :=
  select (cmpi .slt (hPicked Big At Tv Ts) (broadcastInDim S16x300x1 ![] bcast_S_S16x300x1 (constantI S_ 32 0#32))) (addi (hPicked Big At Tv Ts) (broadcastInDim S16x300x1 ![] bcast_S_S16x300x1 (constantI S_ 32 20000#32))) (hPicked Big At Tv Ts)

/-- The key at query `n`. -/
theorem hKey_at (b : Fin 16) (n : Fin 20000) :
    hKey Big At Tv Ts (ix2 b n)
      = if keep (bigOf Big b) (atOf (F := F) At b) (tvOf Tv b) (tsOf (F := F) Ts b) n.val then 0#32 else 1#32 := by
  have h := hK_at Big At Tv Ts b n
  unfold hKey
  show Scalar.select (hK Big At Tv Ts (ix2 b n)) 0#32 1#32 = _
  rw [h]
  rfl

/-- The query entry `n`'s id names. -/
theorem hQ_at (b : Fin 16) (n : Fin 20000) (hn : (atS (atOf (F := F) At b) n.val).toNat < 1600000) :
    hQ (F := F) At (ix2 b n) = qryS (atOf (F := F) At b) n.val := by
  unfold hQ
  show Scalar.select (IntOp.andi (IntOp.cmpi .ne (sgn (At (ix2 b n))) (sgn 80#32)) (IntOp.cmpi .ne (IntOp.remsi .host (At (ix2 b n)) 80#32) 0#32))
      (IntOp.subi (IntOp.divsi .host (At (ix2 b n)) 80#32) 1#32) (IntOp.divsi .host (At (ix2 b n)) 80#32) = _
  rw [at_at (F := F) At b n]
  exact floor_eighty _ hn

end Cert.Proof.Stage2
-- ==== Proof.RowRefVal.lean ====
module

public import proofs.«01_k».proof.Proof.RowTake

@[expose] public section

noncomputable section

/-!
# The row reference's results, entry by entry

In an image with at least 300 kept queries, entry `k` of each result is read off the kept query with `k` kept ones
before it.

-/

namespace Cert.Proof.Stage2

open Cert.RowsReferenceIdeal Cert.RowsReferenceIdeal.Gen
open Idealize.ShloMosaic
open Idealize.ShloMosaic.ValueIdx
open Cert.Proof.RowLanes Cert.Proof.Compact
open Cert.Proof.Stage4 (start_word)

variable {F : FTy → Type} [FloatOps F]
variable (Big : Vec F S16x20000 .f32) (At : Vec F S16x20000 .i32) (Tv : Vec F S16x1x16 .f32) (Ts : Vec F S16x1x16 .i32)
variable (b : Fin 16)

/-- Query `n` of image `b` is kept. -/
abbrev keepAt : ℕ → Prop := keep (bigOf Big b) (atOf (F := F) At b) (tvOf Tv b) (tsOf (F := F) Ts b)

/-- Comparing two of the sort's keys compares the queries' weights. -/
theorem keyBefore_eq (x y : Fin 20000) :
    (comparator_i32_i32_d1 (hKey Big At Tv Ts (ix2 b x), iotaInDim S16x20000 32 1 (ix2 b x))
        (hKey Big At Tv Ts (ix2 b y), iotaInDim S16x20000 32 1 (ix2 b y)) == 1#1)
      = decide (weight (keepAt Big At Tv Ts b) y.val < weight (keepAt Big At Tv Ts b) x.val) := by
  show (IntOp.cmpi .slt (hKey Big At Tv Ts (ix2 b x)) (hKey Big At Tv Ts (ix2 b y)) == 1#1) = _
  rw [hKey_at, hKey_at]
  unfold weight
  split <;> split <;> rfl

/-- Moving along the second axis of a two-dimensional index. -/
theorem along_one (n x : Fin 20000) : (ix2 b n : S16x20000.Idx).along 1 x = ix2 b x := by
  funext a
  match a with
  | ⟨0, _⟩ => exact Function.update_of_ne (show (0 : Fin 2) ≠ 1 by decide) _ _
  | ⟨1, _⟩ => exact Function.update_self _ _ _

/-- The sort's entry `k` is the kept query with `k` kept ones before it. -/
theorem hOrd_at (h300 : 300 ≤ Nat.count (keepAt Big At Tv Ts b) 20000) (k : Fin 300) (n : Fin 20000)
    (hs : keepAt Big At Tv Ts b n.val) (hc : Nat.count (keepAt Big At Tv Ts b) n.val = k.val) :
    hOrd Big At Tv Ts (ix2 b (k.castLE (by decide) : Fin 20000)) = BitVec.ofNat 32 n.val := by
  have hex : ∀ i : Fin 300, ∃ q : Fin 20000, keepAt Big At Tv Ts b q.val ∧ Nat.count (keepAt Big At Tv Ts b) q.val = i.val := fun i => by
    obtain ⟨q, hq, h1, h2⟩ := exists_of_lt_count (keepAt Big At Tv Ts b) (n := 20000) (k := i.val) (by omega)
    exact ⟨⟨q, hq⟩, h1, h2⟩
  choose σ hσ hσc using hex
  have hσk : σ k = n := Fin.ext (Nat.count_injective (hσ k) hs ((hσc k).trans hc.symm))
  have hsort := sortedFrom_eq_kept (keepAt Big At Tv Ts b) (n := 20000) (k := 300) (by decide)
    (fun x y => comparator_i32_i32_d1 (hKey Big At Tv Ts (ix2 b x), iotaInDim S16x20000 32 1 (ix2 b x))
        (hKey Big At Tv Ts (ix2 b y), iotaInDim S16x20000 32 1 (ix2 b y)) == 1#1)
    (fun x y => keyBefore_eq Big At Tv Ts b x y) σ hσ hσc k
  rw [hσk] at hsort
  unfold hOrd Host.sort2
  rw [dif_pos (by decide : 1 < S16x20000.rank)]
  refine (congrArg (fun z : S16x20000.Idx => BitVec.ofNat 32 (z 1).val) (along_one b _ _)).trans ?_
  refine congrArg (fun q : Fin 20000 => BitVec.ofNat 32 q.val) (Eq.trans ?_ hsort)
  refine congrArg (fun B => sortedFrom B (k.castLE _ : Fin 20000)) (funext fun x => funext fun y => ?_)
  exact congrArg₂ (fun z w : S16x20000.Idx =>
    (comparator_i32_i32_d1 (hKey Big At Tv Ts z, iotaInDim S16x20000 32 1 z) (hKey Big At Tv Ts w, iotaInDim S16x20000 32 1 w) == 1#1))
    (along_one b _ x) (along_one b _ y)

variable (h300 : 300 ≤ Nat.count (keepAt Big At Tv Ts b) 20000) (k : Fin 300) (n : Fin 20000)
    (hs : keepAt Big At Tv Ts b n.val) (hc : Nat.count (keepAt Big At Tv Ts b) n.val = k.val)
include h300 hs hc

/-- Start index `(b, k)` is that query's position. -/
theorem hIdx_at : (hIdx Big At Tv Ts (ix3 b k (0 : Fin 1))).toInt.toNat = n.val := by
  have hp : hPos Big At Tv Ts (ix2 b k) = BitVec.ofNat 32 n.val := by
    refine Eq.trans ?_ (hOrd_at Big At Tv Ts b h300 k n hs hc)
    unfold hPos
    refine extractStridedSlice_apply _ _ _ _ _ fun a => ?_
    match a with
    | ⟨0, _⟩ => exact (Nat.zero_add _).symm
    | ⟨1, _⟩ => exact (Nat.zero_add _).symm
  unfold hIdx
  rw [shapeCast_apply _ _ (ix3 b k (0 : Fin 1)) (ix2 b k) (by
    rw [Shape.rowMajor_val_two, Shape.rowMajor_val_three]
    show b.val * 300 + k.val = (b.val * 300 + k.val) * 1 + 0
    omega)]
  show (Scalar.select (IntOp.cmpi .slt (hPos Big At Tv Ts (ix2 b k)) 0#32) (IntOp.addi (hPos Big At Tv Ts (ix2 b k)) (BitVec.ofNat 32 20000)) (hPos Big At Tv Ts (ix2 b k))).toInt.toNat = _
  refine (start_word n.isLt (by decide) _ ?_).1
  rw [hp, BitVec.toNat_ofNat, Nat.mod_eq_of_lt (by omega)]

/-- An array over the image's queries, picked at the start indices. -/
theorem picked_at {α : Type} (x : S16x20000.Idx → α) :
    Host.gather gather_S16x20000_S16x300x1_S16x300_n_1_0_0_1_2_11 x (hIdx Big At Tv Ts) (ix2 b k) = x (ix2 b n) := by
  rw [pick_entry]
  refine congrArg (fun q : Fin 20000 => x (ix2 b q)) (Fin.ext ?_)
  show min (hIdx Big At Tv Ts (ix3 b k (0 : Fin 1))).toInt.toNat 19999 = n.val
  rw [hIdx_at Big At Tv Ts b h300 k n hs hc]
  omega

/-- The kept query itself. -/
theorem qry_at (hn : (atS (atOf (F := F) At b) n.val).toNat < 1600000) :
    hQry Big At Tv Ts (ix2 b k) = qryS (atOf (F := F) At b) n.val := by
  unfold hQry
  rw [picked_at Big At Tv Ts b h300 k n hs hc, hQ_at At b n hn]

/-- The rows of scores, picked at the kept queries. -/
theorem score_at (Sig : Vec F S16x20000x80 .f32) (hn : (atS (atOf (F := F) At b) n.val).toNat < 1600000) (c : Fin 80) :
    Host.gather gather_S16x20000x80_S16x300x1_S16x300x80_2_1_0_0_1_2_1180 Sig (hRowIdx Big At Tv Ts) (ix3 b k c)
      = Sig (ix3 b (⟨(atS (atOf (F := F) At b) n.val).toNat / 80, by omega⟩ : Fin 20000) c) := by
  have hp : hPicked Big At Tv Ts (ix3 b k (0 : Fin 1)) = qryS (atOf (F := F) At b) n.val := by
    unfold hPicked
    rw [broadcastInDim_apply _ _ _ _ (ix2 b k) (fun a => by
      match a with
      | ⟨0, _⟩ => rfl
      | ⟨1, _⟩ => rfl), qry_at Big At Tv Ts b h300 k n hs hc hn]
  have hq : (qryS (atOf (F := F) At b) n.val).toNat = (atS (atOf (F := F) At b) n.val).toNat / 80 := by
    unfold qryS
    rw [BitVec.toNat_ofNat]
    omega
  rw [pick_row]
  refine congrArg (fun q : Fin 20000 => Sig (ix3 b q c)) (Fin.ext ?_)
  show min (Scalar.select (IntOp.cmpi .slt (hPicked Big At Tv Ts (ix3 b k (0 : Fin 1))) 0#32) (IntOp.addi (hPicked Big At Tv Ts (ix3 b k (0 : Fin 1))) (BitVec.ofNat 32 20000)) (hPicked Big At Tv Ts (ix3 b k (0 : Fin 1)))).toInt.toNat 19999 = (atS (atOf (F := F) At b) n.val).toNat / 80
  rw [hp, (start_word (N := 20000) (by omega) (by decide) _ hq).1]
  omega

end Cert.Proof.Stage2
-- ==== Proof.RowPre.lean ====
module

public import proofs.«01_k».proof.Proof.RowRefVal
public import proofs.«01_k».proof.Proof.Pre
public import proofs.«01_k».proof.Proof.Gen.Pre_rows_fit

@[expose] public section

noncomputable section

/-!
# What the row stage's precondition says

Every id is one, and every image keeps at least 300 and fewer than 384 queries.

-/

namespace Cert.Proof.Stage2

open Cert.RowsReferenceIdeal Cert.RowsReferenceIdeal.Gen
open Idealize.ShloMosaic
open Idealize.ShloMosaic.ValueIdx
open Cert.Proof.RowLanes Cert.Proof.Compact
open Idealize.ShloMosaic.StableHlo.Predicate (toNat_reduce_count_cols)
open Cert.Proof.Stage4 (card_eq_count below_of_signed)

variable {F : FTy → Type} [FloatOps F]
variable (Sig : Vec F S16x20000x80 .f32) (Big : Vec F S16x20000 .f32) (At : Vec F S16x20000 .i32) (Tv : Vec F S16x1x16 .f32) (Ts : Vec F S16x1x16 .i32)

/-- The number of kept queries of image `b`, as the precondition counts them. -/
theorem kept_count (b : Fin 16) (hw : 1 < 32) (h : S16x20000.ReducesTo [1] (⟨1, ![16]⟩ : Shape)) (hu : 0 < S_.numel) :
    (Host.reduce IntOp.addi (extui 32 (hK Big At Tv Ts) hw) (constantI S_ 32 0#32) h hu (ix1 b)).toNat
      = Nat.count (keepAt Big At Tv Ts b) 20000 := by
  rw [toNat_reduce_count_cols (by decide), ← card_eq_count]
  refine congrArg Finset.card (Finset.filter_congr fun q _ => ?_)
  show hK Big At Tv Ts (ix2 b q) = 1#1 ↔ _
  rw [hK_at]
  rfl

/-- The precondition holds: image by image, the ids are in range and the count is as said. -/
theorem fits_of_pre (hpre : Cert.Pre_rows_fit.fn (F := F) Sig Big At Tv Ts = fun _ => 1#1) (b : Fin 16) :
    Fits (bigOf Big b) (atOf (F := F) At b) (tvOf Tv b) (tsOf (F := F) Ts b) (startOf b)
      ∧ 300 ≤ Nat.count (keepAt Big At Tv Ts b) 20000 := by
  have e := congrFun hpre (fun a => a.elim0)
  unfold Cert.Pre_rows_fit.fn Cert.Pre_rows_fit.fn_part1 at e
  obtain ⟨e1, e2⟩ := IntOp.andi_eq_one.1 e
  have hcount := Host.reduce_andi_eq_one _ _ _ _ _ e2 (ix1 b) (Subsingleton.elim _ _)
  obtain ⟨c1, c2⟩ := IntOp.andi_eq_one.1 hcount
  have hk := kept_count Big At Tv Ts b Cert.Pre_rows_fit.Gen.natLt_1_32 Cert.Pre_rows_fit.Gen.reducesTo_S16x20000_S16_d1 Cert.Pre_rows_fit.Gen.h_S_
  generalize hw : Host.reduce IntOp.addi (extui 32 (hK Big At Tv Ts) Cert.Pre_rows_fit.Gen.natLt_1_32) (constantI S_ 32 0#32) Cert.Pre_rows_fit.Gen.reducesTo_S16x20000_S16_d1 Cert.Pre_rows_fit.Gen.h_S_ (ix1 b) = w at hk
  have c1' : IntOp.cmpi .sge w 300#32 = 1#1 := hw ▸ c1
  have c2' : IntOp.cmpi .slt w 384#32 = 1#1 := hw ▸ c2
  have c0 : IntOp.cmpi .sge w 0#32 = 1#1 := by
    rw [IntOp.cmpi_sge] at c1' ⊢
    exact le_trans (by decide) c1'
  have hlt : w.toNat < 384 := below_of_signed (by decide) c0 c2'
  refine ⟨⟨fun n => ?_, by rw [← hk]; exact hlt, ?_⟩, ?_⟩
  · have hq := Host.reduce_andi_eq_one _ _ _ _ _ e1 (ix2 b n) (Subsingleton.elim _ _)
    obtain ⟨q1, q2⟩ := IntOp.andi_eq_one.1 hq
    exact below_of_signed (by decide) q1 q2
  · unfold startOf
    rw [BitVec.toNat_ofNat]
    have := b.isLt
    exact le_trans (Nat.mod_le _ _) (by omega)
  · rw [← hk]
    rw [IntOp.cmpi_sge, BitVec.toInt_eq_toNat_of_lt (x := w) (by omega)] at c1'
    have h3 : (300#32 : BitVec 32).toInt = 300 := by decide
    rw [h3] at c1'
    exact_mod_cast c1'

end Cert.Proof.Stage2
-- ==== Proof.RowValue.lean ====
module

public import proofs.«01_k».proof.Proof.RowMain
public import proofs.«01_k».proof.Proof.RowPre
public import Idealize.ShloMosaic.Lib.KernelVsHost

@[expose] public section

noncomputable section

/-!
# The row kernel's results are its reference's

Both list, image by image, the kept queries in order and their rows of scores.

-/

namespace Cert.Proof.Stage2

open Idealize.ShloMosaic
open Idealize.ShloMosaic.ValueIdx
open Cert.Proof.RowLanes Cert.Proof.Compact
open Cert.Proof.Stage4 (up isAny)
open Cert.RowsKernelIdeal Cert.RowsKernelIdeal.Gen

variable {F : FTy → Type} [FloatOps F]
variable (Sig : Vec F S16x20000x80 .f32) (Big : Vec F S16x20000 .f32) (At : Vec F S16x20000 .i32) (Tv : Vec F S16x1x16 .f32) (Ts : Vec F S16x1x16 .i32) (fs : Outs F)

/-- Column `c` of a score row as a column of the table. -/
abbrev wide (c : Fin 80) : Fin 128 := ⟨c.val, by omega⟩

/-- Row `b * 20000 + q` of the table holds the scores of query `q` of image `b`. -/
theorem table_at (b : Fin 16) (q : Fin 20000) (c : Fin 80) (p : Fin 320000) (hp : p.val = q.val + b.val * 20000) :
    hTab Sig (ix2 p (wide c)) = Sig (ix3 b q c) := by
  unfold hTab
  rw [pad_apply_of_inside _ _ _ _ _ _ _ (ix2 p (wide c)) (ix2 p c) fun a => by
    match a with
    | ⟨0, _⟩ => show p.val = 0 + p.val * (0 + 1); omega
    | ⟨1, _⟩ => show c.val = 0 + c.val * (0 + 1); omega]
  refine shapeCast_apply _ _ _ _ ?_
  rw [Shape.rowMajor_val_two, Shape.rowMajor_val_three]
  show (b.val * 20000 + q.val) * 80 + c.val = p.val * 80 + c.val
  omega

variable (b : Fin 16) (k : Fin 300)

theorem out0_at (c : Fin 80) : out0 fs (ix3 b k c) = fs.1 (ix3 b (up k) (wide c)) := by
  unfold out0
  refine extractStridedSlice_apply _ _ _ _ _ fun a => ?_
  match a with
  | ⟨0, _⟩ => exact (Nat.zero_add _).symm
  | ⟨1, _⟩ => exact (Nat.zero_add _).symm
  | ⟨2, _⟩ => exact (Nat.zero_add _).symm

theorem out1_at : out1 fs (ix2 b k) = fs.2 (ix2 b (up k)) := by
  unfold out1
  refine extractStridedSlice_apply _ _ _ _ _ fun a => ?_
  match a with
  | ⟨0, _⟩ => exact (Nat.zero_add _).symm
  | ⟨1, _⟩ => exact (Nat.zero_add _).symm

variable (hdone : Done (hTab Sig) Big At Tv Ts isAny fs)
  (hpre : Cert.Pre_rows_fit.fn (F := F) Sig Big At Tv Ts = fun _ => 1#1)
include hdone hpre

/-- There is a kept query with `k` kept ones before it. -/
theorem exists_kept : ∃ n : Fin 20000, keepAt Big At Tv Ts b n.val ∧ Nat.count (keepAt Big At Tv Ts b) n.val = k.val := by
  obtain ⟨n, hn, h1, h2⟩ := exists_of_lt_count (keepAt Big At Tv Ts b) (n := 20000) (k := k.val)
    (lt_of_lt_of_le k.isLt (fits_of_pre Sig Big At Tv Ts hpre b).2)
  exact ⟨⟨n, hn⟩, h1, h2⟩

/-- The kept queries. -/
theorem queries_eq : out1 fs = hQry Big At Tv Ts := by
  funext j
  obtain ⟨b, k, rfl⟩ : ∃ (b : Fin 16) (k : Fin 300), j = ix2 b k := ⟨j 0, j 1, eq_ix2 j⟩
  obtain ⟨n, hs, hc⟩ := exists_kept Sig Big At Tv Ts fs b k hdone hpre
  have hf := fits_of_pre Sig Big At Tv Ts hpre b
  rw [qry_at Big At Tv Ts b hf.2 k n hs hc (hf.1.at_lt _), out1_at]
  exact (hdone b rfl).qry n.val n.isLt hs (up k) hc.symm

/-- Their rows of scores. -/
theorem scores_eq : out0 fs = Host.gather Cert.RowsReferenceIdeal.gather_S16x20000x80_S16x300x1_S16x300x80_2_1_0_0_1_2_1180 Sig (hRowIdx Big At Tv Ts) := by
  funext j
  obtain ⟨b, k, c, rfl⟩ : ∃ (b : Fin 16) (k : Fin 300) (c : Fin 80), j = ix3 b k c := ⟨j 0, j 1, j 2, eq_ix3 j⟩
  obtain ⟨n, hs, hc⟩ := exists_kept Sig Big At Tv Ts fs b k hdone hpre
  have hf := fits_of_pre Sig Big At Tv Ts hpre b
  have hn := hf.1.at_lt n.val
  rw [score_at Big At Tv Ts b hf.2 k n hs hc Sig hn c, out0_at]
  have hp : (atS (atOf (F := F) At b) n.val).toNat / 80 + b.val * 20000 < 320000 := by omega
  exact ((hdone b rfl).row n.val n.isLt hs (up k) hc.symm (wide c) ⟨_, hp⟩ rfl).trans
    (table_at Sig b ⟨(atS (atOf (F := F) At b) n.val).toNat / 80, by omega⟩ c _ rfl)

end Cert.Proof.Stage2
-- ==== Proof.SortRank.lean ====
module

public import Idealize.ShloMosaic.Lib.SortPrefix
public import Idealize.ShloMosaic.PureOps.Ideal.Laws

@[expose] public section

/-!
# An entry's rank is its place in the sorted list

Under a strict total order, the number of entries before an entry is the place where sorting puts it.
-/

namespace Cert.Proof.Stage5

open Idealize.ShloMosaic

variable {n : ℕ} {B : Fin n → Fin n → Bool}

/-- How many entries are before entry `i`. -/
def rank (B : Fin n → Fin n → Bool) (i : Fin n) : ℕ := (Finset.univ.filter fun k => B k i = true).card

/-- Sorting puts an earlier place's entry before a later place's. -/
theorem before_of_lt (hB : StrictTotalBefore B) {a b : Fin n} (h : a < b) : B (sortedFrom B a) (sortedFrom B b) = true := by
  have hs := List.pairwise_iff_getElem.mp (hB.sorted_stableSort (List.finRange n)) a.val b.val
    (by simp [length_stableSort]) (by simp [length_stableSort]) h
  have hs' : B (sortedFrom B b) (sortedFrom B a) = false := hs
  rcases hB.total (sortedFrom B a) (sortedFrom B b) (fun e => absurd (sortedFrom_injective B e) h.ne) with h1 | h1
  · exact h1
  · rw [hs'] at h1; exact absurd h1 (by decide)

/-- The entry that sorting puts at place `j` has rank `j`. -/
theorem rank_sortedFrom (hB : StrictTotalBefore B) (j : Fin n) : rank B (sortedFrom B j) = j.val := by
  have hiff : ∀ a, B (sortedFrom B a) (sortedFrom B j) = true ↔ a < j := fun a => by
    constructor
    · intro h
      by_contra hle
      rcases (not_lt.mp hle).eq_or_lt with e | hlt
      · rw [e, hB.irrefl] at h; exact absurd h (by decide)
      · rw [hB.asymm _ _ (before_of_lt hB hlt)] at h; exact absurd h (by decide)
    · exact before_of_lt hB
  have himg : (Finset.univ.filter fun k => B k (sortedFrom B j) = true) = (Finset.Iio j).image (sortedFrom B) := by
    ext k
    obtain ⟨a, rfl⟩ := sortedFrom_surjective B k
    simp only [Finset.mem_filter, Finset.mem_univ, true_and, hiff, Finset.mem_image, Finset.mem_Iio]
    constructor
    · intro h; exact ⟨a, h, rfl⟩
    · rintro ⟨b, hb, e⟩; rw [← sortedFrom_injective B e]; exact hb
  unfold rank
  rw [himg, Finset.card_image_of_injective _ (sortedFrom_injective B), Fin.card_Iio]

/-- Entry `i` has rank `j` exactly when sorting puts it at place `j`. -/
theorem rank_eq_iff (hB : StrictTotalBefore B) (i j : Fin n) : rank B i = j.val ↔ i = sortedFrom B j := by
  constructor
  · intro h
    obtain ⟨a, rfl⟩ := sortedFrom_surjective B i
    rw [rank_sortedFrom hB] at h
    rw [Fin.ext h]
  · rintro rfl; exact rank_sortedFrom hB j

/-- A rank is at most the number of entries. -/
theorem rank_le (i : Fin n) : rank B i ≤ n := by
  unfold rank
  refine (Finset.card_le_univ _).trans ?_
  rw [Fintype.card_fin]

/-- Greater value first, then lower identifier. -/
noncomputable def ahead (v : Fin n → EReal) (g : Fin n → BitVec 32) (i k : Fin n) : Bool :=
  decide (v k < v i) || (decide (v i = v k) && decide ((g i).toInt < (g k).toInt))

/-- With different identifiers that is a strict total order. -/
theorem ahead_total {v : Fin n → EReal} {g : Fin n → BitVec 32} (hg : Function.Injective g) : StrictTotalBefore (ahead v g) where
  irrefl a := by simp [ahead]
  trans a b c hab hbc := by
    simp only [ahead, Bool.or_eq_true, Bool.and_eq_true, decide_eq_true_eq] at hab hbc ⊢
    rcases hab with hab | ⟨eab, lab⟩ <;> rcases hbc with hbc | ⟨ebc, lbc⟩
    · exact Or.inl (hbc.trans hab)
    · exact Or.inl (ebc ▸ hab)
    · exact Or.inl (eab ▸ hbc)
    · exact Or.inr ⟨eab.trans ebc, lab.trans lbc⟩
  total a b hne := by
    simp only [ahead, Bool.or_eq_true, Bool.and_eq_true, decide_eq_true_eq]
    rcases lt_trichotomy (v a) (v b) with h | h | h
    · exact Or.inr (Or.inl h)
    · rcases lt_trichotomy (g a).toInt (g b).toInt with h' | h' | h'
      · exact Or.inl (Or.inr ⟨h, h'⟩)
      · exact absurd (hg (BitVec.toInt_inj.mp h')) hne
      · exact Or.inr (Or.inr ⟨h.symm, h'⟩)
    · exact Or.inl (Or.inl h)

/-- Rounding a word's value back gives the word. -/
theorem fptosi_word (g : BitVec 32) : Ideal.fptosi 32 (((g.toInt : ℤ) : ℝ) : EReal) = g := by
  have h1 := BitVec.le_toInt g
  have h2 := BitVec.toInt_lt (x := g)
  unfold Ideal.fptosi
  rw [Ideal.toIntClamped_coe, Int.floor_intCast, Int.ceil_intCast, ite_self, min_eq_right (by norm_num at h2 ⊢; omega),
    max_eq_right (by norm_num at h1 ⊢; omega), BitVec.ofInt_toInt]

end Cert.Proof.Stage5
-- ==== Proof.SortPay.lean ====
module

public import proofs.«01_k».proof.Proof.SortRank
public import proofs.«01_k».proof.Proof.Gen.SortKernelIdeal.Value
public import Idealize.ShloMosaic.Lib.Pointwise

@[expose] public section

noncomputable section

/-!
# What the sorting body computes, entry by entry

Its matrix of zeros and ones has a one in row `j` at the entry of rank `j`, so row `j` of its product holds that entry's
value, identifier and box.
-/

namespace Cert.Proof.Stage5

open Cert.SortKernelIdeal Cert.SortKernelIdeal.Gen
open Idealize.ShloMosaic

/-- Adding up ones over the entries with a property counts them. -/
theorem fold_count (p : Fin 300 → Bool) (S : Finset (Fin 300)) :
    Finset.fold IntOp.addi (0#32) (fun x => BitVec.setWidth 32 (BitVec.ofBool (p x))) S
      = BitVec.ofNat 32 (S.filter fun x => p x = true).card := by
  classical
  induction S using Finset.induction_on with
  | empty => rfl
  | insert a S ha ih =>
    rw [Finset.fold_insert ha, ih, Finset.filter_insert]
    cases hp : p a
    · rw [if_neg (by simp)]
      exact BitVec.zero_add _
    · rw [if_pos rfl, Finset.card_insert_of_notMem (fun h => ha (Finset.mem_filter.mp h).1), BitVec.ofNat_add, BitVec.add_comm]
      rfl

/-- The body's "is ahead of" bit. -/
theorem ahead_bit (a b : Bool) (x y : BitVec 32) :
    IntOp.ori (BitVec.ofBool a) (IntOp.andi (BitVec.ofBool b) (IntOp.cmpi .sgt x y)) = BitVec.ofBool (a || (b && decide (y.toInt < x.toInt))) := by
  rw [show IntOp.cmpi .sgt x y = BitVec.ofBool (decide (y.toInt < x.toInt)) from rfl]
  cases a <;> cases b <;> cases decide (y.toInt < x.toInt) <;> rfl

/-- Whether two small numbers are equal, as a float. -/
theorem one_hot (a b : ℕ) (ha : a < 2 ^ 32) (hb : b < 2 ^ 32) :
    FloatOps.sitofp (F := Ideal) .f32 (BitVec.setWidth 32 (IntOp.cmpi .eq (BitVec.ofNat 32 a) (BitVec.ofNat 32 b))) = if a = b then (1 : EReal) else 0 := by
  have h : IntOp.cmpi .eq (BitVec.ofNat 32 a) (BitVec.ofNat 32 b) = BitVec.ofBool (decide (a = b)) := by
    show BitVec.ofBool (BitVec.ofNat 32 a == BitVec.ofNat 32 b) = _
    congr 1
    rw [Bool.eq_iff_iff]
    simp only [beq_iff_eq, decide_eq_true_eq]
    constructor
    · intro e
      have := congrArg BitVec.toNat e
      rwa [BitVec.toNat_ofNat, BitVec.toNat_ofNat, Nat.mod_eq_of_lt ha, Nat.mod_eq_of_lt hb] at this
    · rintro rfl; rfl
  rw [h]
  by_cases e : a = b
  · rw [if_pos e, decide_eq_true e]
    show (((BitVec.setWidth 32 (BitVec.ofBool true)).toInt : ℝ) : EReal) = 1
    rw [show (BitVec.setWidth 32 (BitVec.ofBool true)).toInt = 1 by decide]
    norm_num
  · rw [if_neg e, decide_eq_false e]
    show (((BitVec.setWidth 32 (BitVec.ofBool false)).toInt : ℝ) : EReal) = 0
    rw [show (BitVec.setWidth 32 (BitVec.ofBool false)).toInt = 0 by decide]
    norm_num

variable (P0 : Vec Ideal S1x1x300 .f32) (P1 : Vec Ideal S1x1x300 .i32) (P2 : Vec Ideal S1x300x4 .f32) (P3 : Vec Ideal S1x1x4 .f32)

/-- The values. -/
def vOf (i : Fin 300) : EReal := P0 (ix3 (0 : Fin 1) (0 : Fin 1) i)
/-- The identifiers. -/
def gOf (i : Fin 300) : BitVec 32 := P1 (ix3 (0 : Fin 1) (0 : Fin 1) i)
/-- The boxes' coordinates. -/
def bOf (i : Fin 300) (c : Fin 4) : EReal := P2 (ix3 (0 : Fin 1) i c)
/-- The scales. -/
def sOf (c : Fin 4) : EReal := P3 (ix3 (0 : Fin 1) (0 : Fin 1) c)

/-- Entry `(j, i)` of the matrix of zeros and ones: one where entry `i` has rank `j`. -/
theorem pay5_at (j i : Fin 300) : k0_pay5 P0 P1 (ix2 j i) = if rank (ahead (vOf P0) (gOf P1)) i = j.val then (1 : EReal) else 0 := by
  unfold k0_pay5 k0_pay3 k0_pay4
  pointwise
  simp only [ahead_bit]
  rw [fold_count]
  have hr := rank_le (B := ahead (vOf P0) (gOf P1)) i
  refine (one_hot _ _ ?_ (by have := j.isLt; omega)).trans ?_
  · exact lt_of_le_of_lt (Finset.card_le_univ _) (by rw [Fintype.card_fin]; norm_num)
  have e : (Finset.univ.filter fun x : Fin 300 =>
      (decide (P0 (ix3 0 0 i) < P0 (ix3 0 0 x)) || decide (P0 (ix3 0 0 i) = P0 (ix3 0 0 x)) && decide ((P1 (ix3 0 0 x)).toInt < (P1 (ix3 0 0 i)).toInt)) = true).card
      = rank (ahead (vOf P0) (gOf P1)) i := by
    unfold rank ahead vOf gOf
    refine congrArg Finset.card (Finset.filter_congr fun x _ => ?_)
    simp only [Bool.or_eq_true, Bool.and_eq_true, decide_eq_true_eq, eq_comm]
  exact e ▸ rfl

/-- One half. -/
abbrev half : EReal := Ideal.ofBits .f32 0x3F000000#32

/-- Row `i` of what the body's product sorts: the value, the identifier, and the scaled corners. -/
def row (i : Fin 300) (c : Fin 6) : EReal :=
  match c with
  | ⟨0, _⟩ => vOf P0 i
  | ⟨1, _⟩ => (((gOf P1 i).toInt : ℝ) : EReal)
  | ⟨2, _⟩ => (bOf P2 i 0 - half * bOf P2 i 2) * sOf P3 0
  | ⟨3, _⟩ => (bOf P2 i 1 - half * bOf P2 i 3) * sOf P3 1
  | ⟨4, _⟩ => (bOf P2 i 0 + half * bOf P2 i 2) * sOf P3 2
  | ⟨5, _⟩ => (bOf P2 i 1 + half * bOf P2 i 3) * sOf P3 3

/-- The product, entry by entry, as a sum over the list. -/
theorem pay14_sum (j : Fin 300) (c : Fin 6) :
    k0_pay14 (k0_pay3 P0) (k0_pay5 P0 P1) (k0_pay7 P2) (k0_pay8 P2) (k0_pay9 P2) (k0_pay10 P2) (k0_pay11 P3) (k0_pay12 P1) (k0_pay13 P2) (ix2 j c)
      = ∑ i : Fin 300, k0_pay5 P0 P1 (ix2 j i) * row P0 P1 P2 P3 i c := by
  unfold k0_pay14
  generalize k0_pay5 P0 P1 = oh
  unfold k0_pay12 k0_pay13 k0_pay11 k0_pay7 k0_pay8 k0_pay9 k0_pay10 k0_pay6 k0_pay3 k0_pay4
  pointwise
  refine Finset.sum_congr rfl fun i _ => congrArg (oh (ix2 j i) * ·) ?_
  match c with
  | ⟨0, _⟩ => rfl
  | ⟨1, _⟩ => rfl
  | ⟨2, _⟩ => rfl
  | ⟨3, _⟩ => rfl
  | ⟨4, _⟩ => rfl
  | ⟨5, _⟩ => rfl

/-- Row `j` of the product is the row of the entry that sorting puts at place `j`. -/
theorem pay14_at (hg : Function.Injective (gOf P1)) (j : Fin 300) (c : Fin 6) :
    k0_pay14 (k0_pay3 P0) (k0_pay5 P0 P1) (k0_pay7 P2) (k0_pay8 P2) (k0_pay9 P2) (k0_pay10 P2) (k0_pay11 P3) (k0_pay12 P1) (k0_pay13 P2) (ix2 j c)
      = row P0 P1 P2 P3 (sortedFrom (ahead (vOf P0) (gOf P1)) j) c := by
  rw [pay14_sum, Finset.sum_eq_single (sortedFrom (ahead (vOf P0) (gOf P1)) j)]
  · rw [pay5_at, if_pos (rank_sortedFrom (ahead_total hg) j), one_mul]
  · intro i _ hne
    rw [pay5_at, if_neg (fun h => hne ((rank_eq_iff (ahead_total hg) i j).mp h)), zero_mul]
  · intro h; exact absurd (Finset.mem_univ _) h

end Cert.Proof.Stage5
-- ==== Proof.SortBlk.lean ====
module

public import proofs.«01_k».proof.Proof.SortPay
public import Idealize.ShloMosaic.Lib.Pipeline.ValueKit

@[expose] public section

noncomputable section

namespace Cert.Proof.Stage5

open Cert.SortKernelIdeal Cert.SortKernelIdeal.Gen
open Idealize.ShloMosaic

variable (m : (ℓ : Loc nD τ sig) → Buf (Elt Ideal) ℓ)

/-- Entry `i` of the padded list. -/
abbrev up (i : Fin 300) : Fin 384 := ⟨i.val, by omega⟩
/-- Grid point `t` works on image `t`. -/
abbrev img (t : Fin cfg0.N) : Fin 16 := ⟨t.val, t.isLt⟩

/-- The array of values that the call finds. -/
theorem V_v4 (c : Dev nD) : V m c main_v4 = shapeCast S16x1x384 (m ((c.tc : Thread nD τ).loc main_arg0)) shapeCasts_S16x384_S16x1x384 := by
  unfold_abbrev_sides
  after_results
  rfl

/-- The array of identifiers that the call finds. -/
theorem V_v5 (c : Dev nD) : V m c main_v5 = shapeCast S16x1x384 (m ((c.tc : Thread nD τ).loc main_arg1)) shapeCasts_S16x384_S16x1x384 := by
  unfold_abbrev_sides
  after_results
  rfl

/-- The array of scales that the call finds. -/
theorem V_v3 (c : Dev nD) : V m c main_v3 = shapeCast S16x1x4 (shapeCast S16x4 (broadcastInDim S1x16x2x2 ![0, 1, 2, 3] bcast_S1x16x1x2_S1x16x2x2_0_1_2_3 (shapeCast S1x16x1x2 (m ((c.tc : Thread nD τ).loc main_arg3)) shapeCasts_S16x2_S1x16x1x2)) shapeCasts_S1x16x2x2_S16x4) shapeCasts_S16x4_S16x1x4 := by
  unfold_abbrev_sides
  after_results
  rfl

/-- Which block window 0 takes along axis 0. -/
theorem idx0_0 (t : Fin cfg0.N) : win0_0.index t 0 = t.val :=
  (by decide +kernel : ∀ t : Fin cfg0.N, win0_0.index t 0 = t.val) t
/-- Which block window 0 takes along axis 1. -/
theorem idx0_1 (t : Fin cfg0.N) : win0_0.index t 1 = 0 :=
  (by decide +kernel : ∀ t : Fin cfg0.N, win0_0.index t 1 = 0) t
/-- Which block window 0 takes along axis 2. -/
theorem idx0_2 (t : Fin cfg0.N) : win0_0.index t 2 = 0 :=
  (by decide +kernel : ∀ t : Fin cfg0.N, win0_0.index t 2 = 0) t
/-- Which block window 1 takes along axis 0. -/
theorem idx1_0 (t : Fin cfg0.N) : win0_1.index t 0 = t.val :=
  (by decide +kernel : ∀ t : Fin cfg0.N, win0_1.index t 0 = t.val) t
/-- Which block window 1 takes along axis 1. -/
theorem idx1_1 (t : Fin cfg0.N) : win0_1.index t 1 = 0 :=
  (by decide +kernel : ∀ t : Fin cfg0.N, win0_1.index t 1 = 0) t
/-- Which block window 1 takes along axis 2. -/
theorem idx1_2 (t : Fin cfg0.N) : win0_1.index t 2 = 0 :=
  (by decide +kernel : ∀ t : Fin cfg0.N, win0_1.index t 2 = 0) t
/-- Which block window 2 takes along axis 0. -/
theorem idx2_0 (t : Fin cfg0.N) : win0_2.index t 0 = t.val :=
  (by decide +kernel : ∀ t : Fin cfg0.N, win0_2.index t 0 = t.val) t
/-- Which block window 2 takes along axis 1. -/
theorem idx2_1 (t : Fin cfg0.N) : win0_2.index t 1 = 0 :=
  (by decide +kernel : ∀ t : Fin cfg0.N, win0_2.index t 1 = 0) t
/-- Which block window 2 takes along axis 2. -/
theorem idx2_2 (t : Fin cfg0.N) : win0_2.index t 2 = 0 :=
  (by decide +kernel : ∀ t : Fin cfg0.N, win0_2.index t 2 = 0) t
/-- Which block window 3 takes along axis 0. -/
theorem idx3_0 (t : Fin cfg0.N) : win0_3.index t 0 = t.val :=
  (by decide +kernel : ∀ t : Fin cfg0.N, win0_3.index t 0 = t.val) t
/-- Which block window 3 takes along axis 1. -/
theorem idx3_1 (t : Fin cfg0.N) : win0_3.index t 1 = 0 :=
  (by decide +kernel : ∀ t : Fin cfg0.N, win0_3.index t 1 = 0) t
/-- Which block window 3 takes along axis 2. -/
theorem idx3_2 (t : Fin cfg0.N) : win0_3.index t 2 = 0 :=
  (by decide +kernel : ∀ t : Fin cfg0.N, win0_3.index t 2 = 0) t
/-- Which block window 4 takes along axis 0. -/
theorem idx4_0 (t : Fin cfg0.N) : win0_4.index t 0 = t.val :=
  (by decide +kernel : ∀ t : Fin cfg0.N, win0_4.index t 0 = t.val) t
/-- Which block window 4 takes along axis 1. -/
theorem idx4_1 (t : Fin cfg0.N) : win0_4.index t 1 = 0 :=
  (by decide +kernel : ∀ t : Fin cfg0.N, win0_4.index t 1 = 0) t
/-- Which block window 4 takes along axis 2. -/
theorem idx4_2 (t : Fin cfg0.N) : win0_4.index t 2 = 0 :=
  (by decide +kernel : ∀ t : Fin cfg0.N, win0_4.index t 2 = 0) t
/-- Which block window 5 takes along axis 0. -/
theorem idx5_0 (t : Fin cfg0.N) : win0_5.index t 0 = t.val :=
  (by decide +kernel : ∀ t : Fin cfg0.N, win0_5.index t 0 = t.val) t
/-- Which block window 5 takes along axis 1. -/
theorem idx5_1 (t : Fin cfg0.N) : win0_5.index t 1 = 0 :=
  (by decide +kernel : ∀ t : Fin cfg0.N, win0_5.index t 1 = 0) t
/-- Which block window 5 takes along axis 2. -/
theorem idx5_2 (t : Fin cfg0.N) : win0_5.index t 2 = 0 :=
  (by decide +kernel : ∀ t : Fin cfg0.N, win0_5.index t 2 = 0) t
/-- Which block window 6 takes along axis 0. -/
theorem idx6_0 (t : Fin cfg0.N) : win0_6.index t 0 = t.val :=
  (by decide +kernel : ∀ t : Fin cfg0.N, win0_6.index t 0 = t.val) t
/-- Which block window 6 takes along axis 1. -/
theorem idx6_1 (t : Fin cfg0.N) : win0_6.index t 1 = 0 :=
  (by decide +kernel : ∀ t : Fin cfg0.N, win0_6.index t 1 = 0) t
/-- Which block window 6 takes along axis 2. -/
theorem idx6_2 (t : Fin cfg0.N) : win0_6.index t 2 = 0 :=
  (by decide +kernel : ∀ t : Fin cfg0.N, win0_6.index t 2 = 0) t
/-- Where an entry of window 0's block lies in the array. -/
theorem emb0 (t : Fin cfg0.N) (i : Fin 300) : (((cfg0.win 0).blk t).view.emb (r0_0.idx (ix3 (0 : Fin 1) (0 : Fin 1) i)) : S16x1x384.Idx) = ix3 (img t) (0 : Fin 1) (up i) := by
  funext a
  apply Fin.ext
  match a with
  | ⟨0, _⟩ => blk_simp; exact idx0_0 t
  | ⟨1, _⟩ => blk_simp; exact idx0_1 t
  | ⟨2, _⟩ => blk_simp; show _ * 384 + (0 + 1 * i.val) = i.val; rw [idx0_2]; omega
/-- Where an entry of window 1's block lies in the array. -/
theorem emb1 (t : Fin cfg0.N) (i : Fin 300) : (((cfg0.win 1).blk t).view.emb (r0_0.idx (ix3 (0 : Fin 1) (0 : Fin 1) i)) : S16x1x384.Idx) = ix3 (img t) (0 : Fin 1) (up i) := by
  funext a
  apply Fin.ext
  match a with
  | ⟨0, _⟩ => blk_simp; exact idx1_0 t
  | ⟨1, _⟩ => blk_simp; exact idx1_1 t
  | ⟨2, _⟩ => blk_simp; show _ * 384 + (0 + 1 * i.val) = i.val; rw [idx1_2]; omega
/-- Where an entry of window 2's block lies in the array. -/
theorem emb2 (t : Fin cfg0.N) (i : Fin 300) (k : Fin 4) : (((cfg0.win 2).blk t).view.emb (r0_1.idx (ix3 (0 : Fin 1) i k)) : S16x384x4.Idx) = ix3 (img t) (up i) k := by
  funext a
  apply Fin.ext
  match a with
  | ⟨0, _⟩ => blk_simp; exact idx2_0 t
  | ⟨1, _⟩ => blk_simp; show _ * 384 + (0 + 1 * i.val) = i.val; rw [idx2_1]; omega
  | ⟨2, _⟩ => blk_simp; show _ * 4 + (0 + 1 * k.val) = k.val; rw [idx2_2]; omega
/-- Where an entry of window 3's block lies in the array. -/
theorem emb3 (t : Fin cfg0.N) (k : Fin 4) : (((cfg0.win 3).blk t).view.emb (r0_2.idx (ix3 (0 : Fin 1) (0 : Fin 1) k)) : S16x1x4.Idx) = ix3 (img t) (0 : Fin 1) k := by
  funext a
  apply Fin.ext
  match a with
  | ⟨0, _⟩ => blk_simp; exact idx3_0 t
  | ⟨1, _⟩ => blk_simp; exact idx3_1 t
  | ⟨2, _⟩ => blk_simp; show _ * 4 + (0 + 1 * k.val) = k.val; rw [idx3_2]; omega
/-- Where an entry of window 4's block lies in the array. -/
theorem emb4 (t : Fin cfg0.N) (i : Fin 300) : (((cfg0.win 4).blk t).view.emb (ix3 (0 : Fin 1) (0 : Fin 1) i) : S16x1x300.Idx) = ix3 (img t) (0 : Fin 1) i := by
  funext a
  apply Fin.ext
  match a with
  | ⟨0, _⟩ => blk_simp; exact idx4_0 t
  | ⟨1, _⟩ => blk_simp; exact idx4_1 t
  | ⟨2, _⟩ => blk_simp; show _ * 300 + i.val = i.val; rw [idx4_2]; omega
/-- Where an entry of window 5's block lies in the array. -/
theorem emb5 (t : Fin cfg0.N) (i : Fin 300) (k : Fin 4) : (((cfg0.win 5).blk t).view.emb (ix3 (0 : Fin 1) i k) : S16x300x4.Idx) = ix3 (img t) i k := by
  funext a
  apply Fin.ext
  match a with
  | ⟨0, _⟩ => blk_simp; exact idx5_0 t
  | ⟨1, _⟩ => blk_simp; show _ * 300 + i.val = i.val; rw [idx5_1]; omega
  | ⟨2, _⟩ => blk_simp; show _ * 4 + k.val = k.val; rw [idx5_2]; omega
/-- Where an entry of window 6's block lies in the array. -/
theorem emb6 (t : Fin cfg0.N) (i : Fin 300) : (((cfg0.win 6).blk t).view.emb (ix3 (0 : Fin 1) (0 : Fin 1) i) : S16x1x300.Idx) = ix3 (img t) (0 : Fin 1) i := by
  funext a
  apply Fin.ext
  match a with
  | ⟨0, _⟩ => blk_simp; exact idx6_0 t
  | ⟨1, _⟩ => blk_simp; exact idx6_1 t
  | ⟨2, _⟩ => blk_simp; show _ * 300 + i.val = i.val; rw [idx6_2]; omega

/-! ## What the four arrays say of an image -/

variable (A0 : (⟨2, ![16, 384]⟩ : Shape).Idx → EReal) (A1 : (⟨2, ![16, 384]⟩ : Shape).Idx → BitVec 32)
  (A2 : (⟨3, ![16, 384, 4]⟩ : Shape).Idx → EReal) (A3 : (⟨2, ![16, 2]⟩ : Shape).Idx → EReal)

/-- The values of image `b`. -/
def val (b : Fin 16) (i : Fin 300) : EReal := A0 (ix2 b (up i))
/-- The identifiers of image `b`. -/
def idn (b : Fin 16) (i : Fin 300) : BitVec 32 := A1 (ix2 b (up i))
/-- Which entry of image `b` sorting puts at place `j`. -/
def place (b : Fin 16) (j : Fin 300) : Fin 300 := sortedFrom (ahead (val A0 b) (idn A1 b)) j
/-- A box of image `b`: coordinate `k` of entry `i`. -/
def box (b : Fin 16) (i : Fin 300) (k : Fin 4) : EReal := A2 (ix3 b (up i) k)
/-- The corners of entry `i`'s box of image `b`, scaled. -/
def corner (b : Fin 16) (i : Fin 300) (k : Fin 4) : EReal :=
  match k with
  | ⟨0, _⟩ => (box A2 b i 0 - half * box A2 b i 2) * A3 (ix2 b 0)
  | ⟨1, _⟩ => (box A2 b i 1 - half * box A2 b i 3) * A3 (ix2 b 1)
  | ⟨2, _⟩ => (box A2 b i 0 + half * box A2 b i 2) * A3 (ix2 b 0)
  | ⟨3, _⟩ => (box A2 b i 1 + half * box A2 b i 3) * A3 (ix2 b 1)
/-- The class of an identifier: its remainder by eighty, not negative. -/
def classOf (g : BitVec 32) : BitVec 32 :=
  Scalar.select (IntOp.andi (IntOp.cmpi .slt (g.srem 80#32) 0#32) (IntOp.cmpi .ne (g.srem 80#32) 0#32))
    (IntOp.addi (g.srem 80#32) 80#32) (g.srem 80#32)

/-- The scores of all images. -/
def scores (y : S16x1x300.Idx) : EReal := val A0 (y 0) (place A0 A1 (y 0) (y 2))
/-- The classes of all images. -/
def labels (y : S16x1x300.Idx) : BitVec 32 := classOf (idn A1 (y 0) (place A0 A1 (y 0) (y 2)))
/-- The boxes of all images. -/
def boxes (y : S16x300x4.Idx) : EReal := corner A2 A3 (y 0) (place A0 A1 (y 0) (y 1)) (y 2)

/-! ## The body's blocks -/

/-- Eighty is no corner of the signed remainder, on any unit. -/
theorem rem_eighty (u : ArithUnit) (g : BitVec 32) : IntOp.remsi u g 80#32 = g.srem 80#32 :=
  if_neg (by rintro (h | ⟨-, h⟩) <;> exact absurd h (by decide))

/-- The divisor is eighty. -/
theorem eighty : Scalar.select (Scalar.cmpi .eq 80#32 0#32) 1#32 80#32 = 80#32 := by decide

/-- Eighty is not negative. -/
theorem eighty_nonneg : Scalar.cmpi .slt 80#32 0#32 = 0#1 := by decide

/-- Exclusive or with zero. -/
theorem xor_zero (a : BitVec 1) : IntOp.xori a 0#1 = a := by revert a; decide

/-- The values loaded at a grid point are those of its image. -/
theorem v_ld (c : Dev nD) (t : Fin cfg0.N) : vOf (View.ld (iblk m c 0 t) r0_0) = val (m (c.tc.loc main_arg0)) (img t) := by
  funext i
  unfold vOf
  rw [View.ld_apply]
  unfold iblk
  show V m c main_v4 (((cfg0.win 0).blk t).view.emb (r0_0.idx (ix3 (0 : Fin 1) (0 : Fin 1) i))) = _
  rw [emb0, V_v4]
  pointwise
  rfl

/-- The identifiers loaded at a grid point are those of its image. -/
theorem g_ld (c : Dev nD) (t : Fin cfg0.N) : gOf (View.ld (iblk m c 1 t) r0_0) = idn (m (c.tc.loc main_arg1)) (img t) := by
  funext i
  unfold gOf
  rw [View.ld_apply]
  unfold iblk
  show V m c main_v5 (((cfg0.win 1).blk t).view.emb (r0_0.idx (ix3 (0 : Fin 1) (0 : Fin 1) i))) = _
  rw [emb1, V_v5]
  pointwise
  rfl

/-- The boxes loaded at a grid point are those of its image. -/
theorem b_ld (c : Dev nD) (t : Fin cfg0.N) : bOf (View.ld (iblk m c 2 t) r0_1) = box (m (c.tc.loc main_arg2)) (img t) := by
  funext i k
  unfold bOf
  rw [View.ld_apply]
  unfold iblk
  show V m c main_arg2 (((cfg0.win 2).blk t).view.emb (r0_1.idx (ix3 (0 : Fin 1) i k))) = _
  rw [emb2, V_main_arg2]
  rfl

/-- The scales loaded at a grid point are those of its image, twice. -/
theorem s_ld (c : Dev nD) (t : Fin cfg0.N) (k : Fin 4) : sOf (View.ld (iblk m c 3 t) r0_2) k = m (c.tc.loc main_arg3) (ix2 (img t) (⟨k.val % 2, by omega⟩ : Fin 2)) := by
  unfold sOf
  rw [View.ld_apply]
  unfold iblk
  show V m c main_v3 (((cfg0.win 3).blk t).view.emb (r0_2.idx (ix3 (0 : Fin 1) (0 : Fin 1) k))) = _
  rw [emb3, V_v3]
  pointwise
  rfl

/-- The last four columns at a grid point are the corners. -/
theorem row_ld (c : Dev nD) (t : Fin cfg0.N) (i : Fin 300) (k : Fin 4) :
    row (View.ld (iblk m c 0 t) r0_0) (View.ld (iblk m c 1 t) r0_0) (View.ld (iblk m c 2 t) r0_1) (View.ld (iblk m c 3 t) r0_2) i (⟨k.val + 2, by omega⟩ : Fin 6)
      = corner (m (c.tc.loc main_arg2)) (m (c.tc.loc main_arg3)) (img t) i k := by
  match k with
  | ⟨0, _⟩ => show (bOf _ i 0 - half * bOf _ i 2) * sOf _ 0 = (_ - half * _) * _; rw [b_ld, s_ld]; rfl
  | ⟨1, _⟩ => show (bOf _ i 1 - half * bOf _ i 3) * sOf _ 1 = (_ - half * _) * _; rw [b_ld, s_ld]; rfl
  | ⟨2, _⟩ => show (bOf _ i 0 + half * bOf _ i 2) * sOf _ 2 = (_ + half * _) * _; rw [b_ld, s_ld]; rfl
  | ⟨3, _⟩ => show (bOf _ i 1 + half * bOf _ i 3) * sOf _ 3 = (_ + half * _) * _; rw [b_ld, s_ld]; rfl

/-- The stored boxes are the last four columns. -/
theorem pay2_at (v : FVec Ideal S300x6 .f32) (i : Fin 300) (k : Fin 4) : k0_pay2 v (ix3 (0 : Fin 1) i k) = v (ix2 i (⟨k.val + 2, by omega⟩ : Fin 6)) := by
  unfold k0_pay2
  pointwise
  exact congrArg (fun q => v (ix2 i q)) (Fin.ext (Nat.add_comm 2 k.val))

/-- The stored scores, entry by entry. -/
theorem pay15_at (P0 : Vec Ideal S1x1x300 .f32) (P1 : Vec Ideal S1x1x300 .i32) (P2 : Vec Ideal S1x300x4 .f32) (P3 : Vec Ideal S1x1x4 .f32)
    (hg : Function.Injective (gOf P1)) (j : Fin 300) :
    k0_pay15 (k0_pay3 P0) (k0_pay5 P0 P1) (k0_pay7 P2) (k0_pay8 P2) (k0_pay9 P2) (k0_pay10 P2) (k0_pay11 P3) (k0_pay12 P1) (k0_pay13 P2) (ix3 (0 : Fin 1) (0 : Fin 1) j)
      = vOf P0 (sortedFrom (ahead (vOf P0) (gOf P1)) j) := by
  unfold k0_pay15
  generalize e : k0_pay14 (k0_pay3 P0) (k0_pay5 P0 P1) (k0_pay7 P2) (k0_pay8 P2) (k0_pay9 P2) (k0_pay10 P2) (k0_pay11 P3) (k0_pay12 P1) (k0_pay13 P2) = W
  pointwise
  subst e
  exact pay14_at P0 P1 P2 P3 hg j 0

/-- The stored labels, entry by entry. -/
theorem pay1_at (P0 : Vec Ideal S1x1x300 .f32) (P1 : Vec Ideal S1x1x300 .i32) (P2 : Vec Ideal S1x300x4 .f32) (P3 : Vec Ideal S1x1x4 .f32)
    (hg : Function.Injective (gOf P1)) (j : Fin 300) :
    k0_pay1 (Scalar.select (Scalar.cmpi .eq 80#32 0#32) 1#32 80#32)
      (k0_pay16 (k0_pay3 P0) (k0_pay5 P0 P1) (k0_pay7 P2) (k0_pay8 P2) (k0_pay9 P2) (k0_pay10 P2) (k0_pay11 P3) (k0_pay12 P1) (k0_pay13 P2))
      (k0_pay17 (k0_pay3 P0) (k0_pay5 P0 P1) (k0_pay7 P2) (k0_pay8 P2) (k0_pay9 P2) (k0_pay10 P2) (k0_pay11 P3) (k0_pay12 P1) (k0_pay13 P2)) 0#32 (ix3 (0 : Fin 1) (0 : Fin 1) j)
      = classOf (gOf P1 (sortedFrom (ahead (vOf P0) (gOf P1)) j)) := by
  unfold k0_pay1 k0_pay17 k0_pay16
  generalize e : k0_pay14 (k0_pay3 P0) (k0_pay5 P0 P1) (k0_pay7 P2) (k0_pay8 P2) (k0_pay9 P2) (k0_pay10 P2) (k0_pay11 P3) (k0_pay12 P1) (k0_pay13 P2) = W
  pointwise
  rw [eighty, eighty_nonneg, xor_zero, rem_eighty]
  subst e
  rw [pay14_at P0 P1 P2 P3 hg j 1]
  exact congrArg classOf (fptosi_word _)

section Arrays

variable (c : Dev nD)

/-- The identifiers of an image differ. -/
abbrev Differ : Prop := ∀ b : Fin 16, Function.Injective (idn (m (c.tc.loc main_arg1)) b)

/-- The array of scores after the run. -/
theorem scores_eq (h : Differ m c) : (dats m 0 c).arrAt 6 cfg0.N = scores (m (c.tc.loc main_arg0)) (m (c.tc.loc main_arg1)) := by
  refine (dats m 0 c).arrAt_eq_of_covers 6 _ (by decide +kernel) fun t hf y => ?_
  blk_simp
  rw [after0_6]
  frame_out
  have hy : y = ix3 (0 : Fin 1) (0 : Fin 1) (y 2 : Fin 300) := by
    funext a
    match a with
    | ⟨0, _⟩ => exact Subsingleton.elim (α := Fin 1) _ _
    | ⟨1, _⟩ => exact Subsingleton.elim (α := Fin 1) _ _
    | ⟨2, _⟩ => rfl
  generalize hi : (y 2 : Fin 300) = i at hy
  subst hy
  unfold k0_pay18 k0_pay19 k0_pay20 k0_pay21 k0_pay22 k0_pay23 k0_pay24 k0_pay25 k0_pay26
  have hg : Function.Injective (gOf (View.ld (iblk m c 1 t) r0_0)) := by rw [g_ld]; exact h (img t)
  refine (pay15_at _ _ _ _ hg i).trans ?_
  have e : vOf (View.ld (iblk m c 0 t) r0_0) (sortedFrom (ahead (vOf (View.ld (iblk m c 0 t) r0_0)) (gOf (View.ld (iblk m c 1 t) r0_0))) i)
      = val (m (c.tc.loc main_arg0)) (img t) (sortedFrom (ahead (val (m (c.tc.loc main_arg0)) (img t)) (idn (m (c.tc.loc main_arg1)) (img t))) i) := by
    rw [v_ld, g_ld]
  exact e.trans (congrArg (scores (m (c.tc.loc main_arg0)) (m (c.tc.loc main_arg1))) (emb6 t i)).symm
/-- The array of labels after the run. -/
theorem labels_eq (h : Differ m c) : (dats m 0 c).arrAt 4 cfg0.N = labels (m (c.tc.loc main_arg0)) (m (c.tc.loc main_arg1)) := by
  refine (dats m 0 c).arrAt_eq_of_covers 4 _ (by decide +kernel) fun t hf y => ?_
  blk_simp
  rw [after0_4]
  frame_out
  have hy : y = ix3 (0 : Fin 1) (0 : Fin 1) (y 2 : Fin 300) := by
    funext a
    match a with
    | ⟨0, _⟩ => exact Subsingleton.elim (α := Fin 1) _ _
    | ⟨1, _⟩ => exact Subsingleton.elim (α := Fin 1) _ _
    | ⟨2, _⟩ => rfl
  generalize hi : (y 2 : Fin 300) = i at hy
  subst hy
  unfold k0_pay18 k0_pay19 k0_pay20 k0_pay21 k0_pay22 k0_pay23 k0_pay24 k0_pay25 k0_pay26
  have hg : Function.Injective (gOf (View.ld (iblk m c 1 t) r0_0)) := by rw [g_ld]; exact h (img t)
  refine (pay1_at _ _ _ _ hg i).trans ?_
  rw [v_ld, g_ld]
  exact (congrArg (labels (m (c.tc.loc main_arg0)) (m (c.tc.loc main_arg1))) (emb4 t i)).symm
/-- The array of boxes after the run. -/
theorem boxes_eq (h : Differ m c) : (dats m 0 c).arrAt 5 cfg0.N = boxes (m (c.tc.loc main_arg0)) (m (c.tc.loc main_arg1)) (m (c.tc.loc main_arg2)) (m (c.tc.loc main_arg3)) := by
  refine (dats m 0 c).arrAt_eq_of_covers 5 _ (by decide +kernel) fun t hf y => ?_
  blk_simp
  rw [after0_5]
  frame_out
  have hy : y = ix3 (0 : Fin 1) (y 1 : Fin 300) (y 2 : Fin 4) := by
    funext a
    match a with
    | ⟨0, _⟩ => exact Subsingleton.elim (α := Fin 1) _ _
    | ⟨1, _⟩ => rfl
    | ⟨2, _⟩ => rfl
  generalize hi : (y 1 : Fin 300) = i at hy
  generalize hk : (y 2 : Fin 4) = k at hy
  subst hy
  unfold k0_pay18 k0_pay19 k0_pay20 k0_pay21 k0_pay22 k0_pay23 k0_pay24 k0_pay25 k0_pay26
  have hg : Function.Injective (gOf (View.ld (iblk m c 1 t) r0_0)) := by rw [g_ld]; exact h (img t)
  refine (pay2_at _ i k).trans ?_
  refine (pay14_at _ _ _ _ hg i _).trans ?_
  refine (row_ld m c t _ k).trans ?_
  rw [v_ld, g_ld]
  exact (congrArg (boxes (m (c.tc.loc main_arg0)) (m (c.tc.loc main_arg1)) (m (c.tc.loc main_arg2)) (m (c.tc.loc main_arg3))) (emb5 t i k)).symm

end Arrays

end Cert.Proof.Stage5
-- ==== Proof.SortRefVal.lean ====
module

public import proofs.«01_k».proof.Proof.SortBlk
public import proofs.«01_k».proof.Proof.Gen.SortReferenceIdeal.Run

@[expose] public section

noncomputable section

/-!
# The sort reference's results, entry by entry

The reference sorts with keys the value, the greater first, and then the identifier. On extended reals its comparison of
two entries is that of `ahead`; so entry `j` of every sorted array is the array's entry at the place `place` names.
-/

namespace Cert.Proof.Stage5

open Cert.SortReferenceIdeal Cert.SortReferenceIdeal.Gen
open Idealize.ShloMosaic

variable (A0 : Vec Ideal S16x384 .f32) (A1 : Vec Ideal S16x384 .i32) (A2 : Vec Ideal S16x384x4 .f32) (A3 : Vec Ideal S16x2 .f32)

/-- The values. -/
def hV : FVec Ideal S16x300 .f32 := extractStridedSlice S16x300 ![0, 0] A0 slices_S16x384_S16x300_0_0
/-- The identifiers. -/
def hG : IVec S16x300 32 := extractStridedSlice S16x300 ![0, 0] A1 slices_S16x384_S16x300_0_0
/-- One half, everywhere. -/
def hHalf : FVec Ideal S16x300 .f32 := broadcastInDim S16x300 ![] bcast_S_S16x300 (constant S_ .f32 0x3F000000#32)
/-- The first scale. -/
def hSx : FVec Ideal S16x300 .f32 := broadcastInDim S16x300 ![0, 1] bcast_S16x1_S16x300_0_1 (extractStridedSlice S16x1 ![0, 0] A3 slices_S16x2_S16x1_0_0)
/-- The second scale. -/
def hSy : FVec Ideal S16x300 .f32 := broadcastInDim S16x300 ![0, 1] bcast_S16x1_S16x300_0_1 (extractStridedSlice S16x1 ![0, 1] A3 slices_S16x2_S16x1_0_1)
/-- The boxes' four coordinates. -/
def hB0 : FVec Ideal S16x300 .f32 := shapeCast S16x300 (extractStridedSlice S16x300x1 ![0, 0, 0] A2 slices_S16x384x4_S16x300x1_0_0_0) shapeCasts_S16x300x1_S16x300
@[inherit_doc hB0] def hB1 : FVec Ideal S16x300 .f32 := shapeCast S16x300 (extractStridedSlice S16x300x1 ![0, 0, 1] A2 slices_S16x384x4_S16x300x1_0_0_1) shapeCasts_S16x300x1_S16x300
@[inherit_doc hB0] def hB2 : FVec Ideal S16x300 .f32 := shapeCast S16x300 (extractStridedSlice S16x300x1 ![0, 0, 2] A2 slices_S16x384x4_S16x300x1_0_0_2) shapeCasts_S16x300x1_S16x300
@[inherit_doc hB0] def hB3 : FVec Ideal S16x300 .f32 := shapeCast S16x300 (extractStridedSlice S16x300x1 ![0, 0, 3] A2 slices_S16x384x4_S16x300x1_0_0_3) shapeCasts_S16x300x1_S16x300
/-- The boxes' four corner coordinates, scaled. -/
def hC0 : FVec Ideal S16x300 .f32 := mulf (subf (hB0 A2) (mulf hHalf (hB2 A2))) (hSx A3)
@[inherit_doc hC0] def hC1 : FVec Ideal S16x300 .f32 := mulf (subf (hB1 A2) (mulf hHalf (hB3 A2))) (hSy A3)
@[inherit_doc hC0] def hC2 : FVec Ideal S16x300 .f32 := mulf (addf (hB0 A2) (mulf hHalf (hB2 A2))) (hSx A3)
@[inherit_doc hC0] def hC3 : FVec Ideal S16x300 .f32 := mulf (addf (hB1 A2) (mulf hHalf (hB3 A2))) (hSy A3)

/-- What the sort compares at an index. -/
def hKeys (j : S16x300.Idx) : Ideal .f32 × BitVec 32 × Ideal .f32 × Ideal .f32 × Ideal .f32 × Ideal .f32 × Ideal .f32 :=
  (Host.negf (hV A0) j, hG A1 j, hV A0 j, hC0 A2 A3 j, hC1 A2 A3 j, hC2 A2 A3 j, hC3 A2 A3 j)

/-- An array put in the sort's order. -/
def hSort {α : Type} (X : S16x300.Idx → α) : S16x300.Idx → α :=
  Host.sortBy S16x300 1 comparator_f32_i32_f32_f32_f32_f32_f32_d1 (hKeys A0 A1 A2 A3) X

/-- Remainder by eighty, not negative. -/
def hRem (g : IVec S16x300 32) : IVec S16x300 32 :=
  Host.remsi g (broadcastInDim S16x300 ![] bcast_S_S16x300 (select (cmpi .eq (id (constantI S_ 32 80#32)) (constantI S_ 32 0#32)) (constantI S_ 32 1#32) (id (constantI S_ 32 80#32))))

variable (m : (ℓ : Loc nD τ sig) → Buf (Elt Ideal) ℓ) (c : Dev nD)

/-- Moving along the second axis of a two-dimensional index. -/
theorem along_snd (b : Fin 16) (n x : Fin 300) : (ix2 b n : S16x300.Idx).along 1 x = ix2 b x := by
  funext a
  match a with
  | ⟨0, _⟩ => exact Function.update_of_ne (show (0 : Fin 2) ≠ 1 by decide) _ _
  | ⟨1, _⟩ => exact Function.update_self _ _ _

/-- The values, entry by entry. -/
theorem hV_at (b : Fin 16) (i : Fin 300) : hV A0 (ix2 b i) = val A0 b i := by
  unfold hV
  pointwise
  rfl

/-- The identifiers, entry by entry. -/
theorem hG_at (b : Fin 16) (i : Fin 300) : hG A1 (ix2 b i) = idn A1 b i := by
  unfold hG
  pointwise
  rfl

/-- The left edge, entry by entry. -/
theorem hC0_at (b : Fin 16) (i : Fin 300) : hC0 A2 A3 (ix2 b i) = corner A2 A3 b i 0 := by
  unfold hC0 hB0 hB2 hHalf hSx
  pointwise
  rfl

/-- The upper edge, entry by entry. -/
theorem hC1_at (b : Fin 16) (i : Fin 300) : hC1 A2 A3 (ix2 b i) = corner A2 A3 b i 1 := by
  unfold hC1 hB1 hB3 hHalf hSy
  pointwise
  rfl

/-- The right edge, entry by entry. -/
theorem hC2_at (b : Fin 16) (i : Fin 300) : hC2 A2 A3 (ix2 b i) = corner A2 A3 b i 2 := by
  unfold hC2 hB0 hB2 hHalf hSx
  pointwise
  rfl

/-- The lower edge, entry by entry. -/
theorem hC3_at (b : Fin 16) (i : Fin 300) : hC3 A2 A3 (ix2 b i) = corner A2 A3 b i 3 := by
  unfold hC3 hB1 hB3 hHalf hSy
  pointwise
  rfl

/-- What the sort makes of a key before comparing it changes no extended real. -/
theorem canon_key (q a : EReal) : (if a ≠ a then q else if a = 0 then 0 else a) = a := by
  rw [if_neg (fun h => h rfl)]
  split
  · exact Eq.symm ‹_›
  · rfl

/-- The comparison as a bit and as a truth value. -/
theorem before_bit (a b : Bool) (x y : BitVec 32) :
    (IntOp.ori (BitVec.ofBool a) (IntOp.andi (BitVec.ofBool b) (IntOp.cmpi .slt x y)) == 1#1) = (a || (b && decide (x.toInt < y.toInt))) := by
  rw [show IntOp.cmpi .slt x y = BitVec.ofBool (decide (x.toInt < y.toInt)) from rfl]
  cases a <;> cases b <;> cases decide (x.toInt < y.toInt) <;> rfl

/-- The comparison of two entries is `ahead`'s. -/
theorem keys_ahead (b : Fin 16) (x y : Fin 300) :
    (comparator_f32_i32_f32_f32_f32_f32_f32_d1 (hKeys A0 A1 A2 A3 (ix2 b x)) (hKeys A0 A1 A2 A3 (ix2 b y)) == 1#1)
      = ahead (val A0 b) (idn A1 b) x y := by
  unfold comparator_f32_i32_f32_f32_f32_f32_f32_d1 hKeys
  simp only [Host.negf]
  pointwise
  rw [canon_key, canon_key, hV_at, hV_at, hG_at, hG_at]
  refine (before_bit (decide (-val A0 b x < -val A0 b y)) (decide (-val A0 b x = -val A0 b y)) _ _).trans ?_
  unfold ahead
  simp only [EReal.neg_lt_neg_iff, neg_inj]

/-- A sorted array, entry by entry. -/
theorem hSort_at {α : Type} (X : S16x300.Idx → α) (b : Fin 16) (j : Fin 300) :
    hSort A0 A1 A2 A3 X (ix2 b j) = X (ix2 b (place A0 A1 b j)) := by
  unfold hSort Host.sortBy
  rw [dif_pos (by decide : 1 < S16x300.rank)]
  refine (congrArg X (along_snd b _ _)).trans ?_
  refine congrArg (fun q : Fin 300 => X (ix2 b q)) ?_
  unfold place
  refine congrArg (fun B => sortedFrom B j) (funext fun x => funext fun y => Eq.trans ?_ (keys_ahead A0 A1 A2 A3 b x y))
  exact congrArg₂ (fun z w : S16x300.Idx =>
    (comparator_f32_i32_f32_f32_f32_f32_f32_d1 (hKeys A0 A1 A2 A3 z) (hKeys A0 A1 A2 A3 w) == 1#1))
    (along_snd b _ x) (along_snd b _ y)

/-! ## The three results -/

/-- The reference's labels. -/
def hLab : IVec S16x1x300 32 :=
  broadcastInDim S16x1x300 ![0, 2] bcast_S16x300_S16x1x300_0_2
    (select (andi (cmpi .ne (cmpi .slt (hRem (hSort A0 A1 A2 A3 (hG A1))) (broadcastInDim S16x300 ![] bcast_S_S16x300 (constantI S_ 32 0#32)))
        (broadcastInDim S16x300 ![] bcast_S_S16x300 (cmpi .slt (select (cmpi .eq (id (constantI S_ 32 80#32)) (constantI S_ 32 0#32)) (constantI S_ 32 1#32) (id (constantI S_ 32 80#32))) (constantI S_ 32 0#32))))
        (cmpi .ne (hRem (hSort A0 A1 A2 A3 (hG A1))) (broadcastInDim S16x300 ![] bcast_S_S16x300 (constantI S_ 32 0#32))))
      (addi (hRem (hSort A0 A1 A2 A3 (hG A1))) (broadcastInDim S16x300 ![] bcast_S_S16x300 (select (cmpi .eq (id (constantI S_ 32 80#32)) (constantI S_ 32 0#32)) (constantI S_ 32 1#32) (id (constantI S_ 32 80#32)))))
      (hRem (hSort A0 A1 A2 A3 (hG A1))))

/-- The labels of the run are `hLab`. -/
theorem hLab_eq : Value.res_main_v40 m c = hLab (m (c.tc.loc main_arg0)) (m (c.tc.loc main_arg1)) (m (c.tc.loc main_arg2)) (m (c.tc.loc main_arg3)) := by
  unfold Value.res_main_v40
  rfl

/-- The reference's scores. -/
def hSco : FVec Ideal S16x1x300 .f32 :=
  broadcastInDim S16x1x300 ![0, 2] bcast_S16x300_S16x1x300_0_2 (hSort A0 A1 A2 A3 (hV A0))

/-- One column of the reference's boxes. -/
def hCol (X : FVec Ideal S16x300 .f32) : FVec Ideal S16x300x1 .f32 :=
  broadcastInDim S16x300x1 ![0, 1] bcast_S16x300_S16x300x1_0_1 (hSort A0 A1 A2 A3 X)

/-- The reference's boxes. -/
def hBox : FVec Ideal S16x300x4 .f32 :=
  concatenate S16x300x4 2 [⟨S16x300x1, hCol A0 A1 A2 A3 (hC0 A2 A3)⟩, ⟨S16x300x1, hCol A0 A1 A2 A3 (hC1 A2 A3)⟩,
    ⟨S16x300x1, hCol A0 A1 A2 A3 (hC2 A2 A3)⟩, ⟨S16x300x1, hCol A0 A1 A2 A3 (hC3 A2 A3)⟩] concatenates_S16x300x1_S16x300x1_S16x300x1_S16x300x1_S16x300x4_d2

/-- The boxes of the run are `hBox`. -/
theorem hBox_eq : Value.res_main_v39 m c = hBox (m (c.tc.loc main_arg0)) (m (c.tc.loc main_arg1)) (m (c.tc.loc main_arg2)) (m (c.tc.loc main_arg3)) := by
  unfold Value.res_main_v39
  rfl

/-- The scores, entry by entry. -/
theorem hSco_at (b : Fin 16) (j : Fin 300) : hSco A0 A1 A2 A3 (ix3 b (0 : Fin 1) j) = scores A0 A1 (ix3 b (0 : Fin 1) j) := by
  unfold hSco
  pointwise
  rw [hSort_at, hV_at]
  rfl

/-- The boxes, entry by entry. -/
theorem hBox_at (b : Fin 16) (j : Fin 300) (k : Fin 4) : hBox A0 A1 A2 A3 (ix3 b j k) = boxes A0 A1 A2 A3 (ix3 b j k) := by
  unfold hBox hCol
  match k with
  | ⟨0, _⟩ => pointwise; rw [hSort_at, hC0_at]; rfl
  | ⟨1, _⟩ => pointwise; rw [hSort_at, hC1_at]; rfl
  | ⟨2, _⟩ => pointwise; rw [hSort_at, hC2_at]; rfl
  | ⟨3, _⟩ => pointwise; rw [hSort_at, hC3_at]; rfl

/-- A bit differs from zero when it is one. -/
theorem ne_zero_bit (a : BitVec 1) : IntOp.cmpi .ne a 0#1 = a := by revert a; decide

/-- The labels, entry by entry. -/
theorem hLab_at (b : Fin 16) (j : Fin 300) : hLab A0 A1 A2 A3 (ix3 b (0 : Fin 1) j) = labels A0 A1 (ix3 b (0 : Fin 1) j) := by
  unfold hLab hRem Host.remsi
  pointwise
  rw [show (id (constantI S_ 32 80#32) ix0 : BitVec 32) = 80#32 from rfl]
  rw [show Scalar.select (IntOp.cmpi .eq 80#32 0#32) 1#32 80#32 = 80#32 from eighty, show IntOp.cmpi .slt 80#32 0#32 = 0#1 from eighty_nonneg,
    ne_zero_bit, rem_eighty, hSort_at, hG_at]
  rfl

/-- The labels are `labels`. -/
theorem hLab_labels : hLab A0 A1 A2 A3 = labels A0 A1 := by
  funext y
  obtain ⟨b, u, j, rfl⟩ : ∃ (b : Fin 16) (u : Fin 1) (j : Fin 300), y = ix3 b u j := ⟨y 0, y 1, y 2, ValueIdx.eq_ix3 y⟩
  rw [Subsingleton.elim u 0]
  exact hLab_at A0 A1 A2 A3 b j

/-- The boxes are `boxes`. -/
theorem hBox_boxes : hBox A0 A1 A2 A3 = boxes A0 A1 A2 A3 := by
  funext y
  obtain ⟨b, j, k, rfl⟩ : ∃ (b : Fin 16) (j : Fin 300) (k : Fin 4), y = ix3 b j k := ⟨y 0, y 1, y 2, ValueIdx.eq_ix3 y⟩
  exact hBox_at A0 A1 A2 A3 b j k

/-- The scores are `scores`. -/
theorem hSco_scores : hSco A0 A1 A2 A3 = scores A0 A1 := by
  funext y
  obtain ⟨b, u, j, rfl⟩ : ∃ (b : Fin 16) (u : Fin 1) (j : Fin 300), y = ix3 b u j := ⟨y 0, y 1, y 2, ValueIdx.eq_ix3 y⟩
  rw [Subsingleton.elim u 0]
  exact hSco_at A0 A1 A2 A3 b j

end Cert.Proof.Stage5
-- ==== Proof.SortPre.lean ====
module

public import proofs.«01_k».proof.Proof.SortRefVal
public import proofs.«01_k».proof.Proof.Gen.Pre_ids_differ
public import Idealize.ShloMosaic.Lib.ReduceAll

@[expose] public section

noncomputable section

/-!
# What the sort's precondition says

The identifiers of an image differ.
-/

namespace Cert.Proof.Stage5

open Cert.Pre_ids_differ Cert.Pre_ids_differ.Gen
open Idealize.ShloMosaic

variable (A0 : Vec Ideal S16x384 .f32) (A1 : Vec Ideal S16x384 .i32) (A2 : Vec Ideal S16x384x4 .f32) (A3 : Vec Ideal S16x2 .f32)

/-- The precondition holds: the identifiers of every image differ. -/
theorem differ_of_pre (hpre : Cert.Pre_ids_differ.fn (F := Ideal) A0 A1 A2 A3 = fun _ => 1#1) (b : Fin 16) : Function.Injective (idn A1 b) := by
  intro i j hij
  by_contra hne
  have e := congrFun hpre (fun a => a.elim0)
  unfold Cert.Pre_ids_differ.fn at e
  have h := Host.reduce_andi_eq_one _ _ _ _ _ e (ix3 b i j) (Subsingleton.elim _ _)
  revert h
  pointwise
  intro h
  have e1 : A1 (ix2 b (⟨i.val, by omega⟩ : Fin 384)) = A1 (ix2 b (⟨j.val, by omega⟩ : Fin 384)) := hij
  have e2 : BitVec.ofNat 32 i.val ≠ BitVec.ofNat 32 j.val := fun e => hne (Fin.ext (by
    have := congrArg BitVec.toNat e
    rwa [BitVec.toNat_ofNat, BitVec.toNat_ofNat, Nat.mod_eq_of_lt (by omega), Nat.mod_eq_of_lt (by omega)] at this))
  have e3 : IntOp.addi (BitVec.ofNat 32 i.val) 0#32 = BitVec.ofNat 32 i.val := BitVec.add_zero _
  rw [e1, e3] at h
  have e4 : IntOp.cmpi .eq (BitVec.ofNat 32 i.val) (BitVec.ofNat 32 j.val) = 0#1 := by
    show BitVec.ofBool (BitVec.ofNat 32 i.val == BitVec.ofNat 32 j.val) = 0#1
    rw [beq_eq_false_iff_ne.mpr e2]
    rfl
  have e5 : ∀ w : BitVec 32, IntOp.cmpi .ne w w = 0#1 := fun w => by
    show BitVec.ofBool (w != w) = 0#1
    rw [bne_self_eq_false]
    rfl
  rw [e4, e5] at h
  exact absurd h (by decide)

end Cert.Proof.Stage5
-- ==== Proof.ScoresRun.lean ====
/-
  The run of stage 1, the TensorCore call that writes the scores. Each of its 160 grid points reads one block of the
  logits and stores the block's scores whole; that block is followed exactly. The other four arrays the call writes
  (the anchor maxima, their identifiers and the two thresholds) are written only at the last point of an image, after
  two counted loops over the scratch buffers; nothing is claimed of them, so their windows are held at any contents.
-/
module

public import proofs.«01_k».proof.Proof.Gen.ScoresKernelIdeal.Frame
public import proofs.«01_k».proof.Proof.Gen.ScoresKernelIdeal.Skeleton
public import Idealize.ShloMosaic.Lib.Pipeline.Frame
public import Idealize.ShloMosaic.Lib.Pipeline.FrameBody
public import Idealize.ShloMosaic.Lib.Tactic

@[expose] public section

set_option maxRecDepth 16384

noncomputable section

namespace Cert.Proof.Stage1

open Cert.ScoresKernelIdeal Cert.ScoresKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body -/

/-- The whole of a block of logits, or of scores. -/
abbrev whole0 : Rect S1x2000x80 := Rect.unit (s := S1x2000x80) ![0, 0, 0] S1x2000x80.size inb_S1x2000x80_S1x2000x80_0_0_0

/-- The block of scores the body stores, from the block of logits. -/
def out (x : Vec F S1x2000x80 .f32) : Vec F S1x2000x80 .f32 := View.canon [⟨whole0, k0_pay10 (View.ld x whole0)⟩]

/-- The one store covers the block. -/
theorem cover (p : Vec F S1x2000x80 .f32) (y : S1x2000x80.Idx) :
    ∃ pc ∈ ([⟨whole0, p⟩] : List (View.Piece (Elt F) S1x2000x80 .f32)), y ∈ pc.1.set :=
  View.cover_of_tiled [⟨whole0, p⟩] S1x2000x80.size (by rfl) y

/-- The first scratch buffer, which gathers the anchor maxima of an image. -/
abbrev sc8 : Memref sig .tc .vmem S10x1x2000 .f32 := Memref.whole cc0_scratch0

/-- The second scratch buffer, which gathers the identifiers of those maxima. -/
abbrev sc9 : Memref sig .tc .vmem S10x1x2000 .i32 := Memref.whole cc0_scratch1

set_option maxHeartbeats 4000000 in
/-- The body of the call, from the block of logits at `x` and every other buffer at anything: the logits stay, the block
    of scores ends at `out x`, and the others end at some contents. -/
theorem sound_kernel (c : Dev nD) (i : grid0.Coords) (arg2 : Memref sig .tc .vmem S1x2000x80 .f32) (harg2 : arg2.IsWhole) (arg3 : Memref sig .tc .vmem S1x2000x80 .f32) (harg3 : arg3.IsWhole)
    (arg4 : Memref sig .tc .vmem S1x10x1x2000 .f32) (harg4 : arg4.IsWhole) (arg5 : Memref sig .tc .vmem S1x10x1x2000 .i32) (harg5 : arg5.IsWhole)
    (arg6 : Memref sig .tc .vmem S1x1x16 .f32) (harg6 : arg6.IsWhole) (arg7 : Memref sig .tc .vmem S1x1x16 .i32) (harg7 : arg7.IsWhole)
    (x : Vec F S1x2000x80 .f32) (K : PUnit → sProp 𝕄) :
    iprop(owns (c : Thread nD τ) arg2 fullShare x ∗ (∃ d, owns (c : Thread nD τ) arg3 fullShare d) ∗ (∃ d, owns (c : Thread nD τ) arg4 fullShare d)
        ∗ (∃ d, owns (c : Thread nD τ) arg5 fullShare d) ∗ (∃ d, owns (c : Thread nD τ) arg6 fullShare d) ∗ (∃ d, owns (c : Thread nD τ) arg7 fullShare d)
        ∗ (∃ d, owns (c : Thread nD τ) sc8 fullShare d) ∗ (∃ d, owns (c : Thread nD τ) sc9 fullShare d)
        ∗ (iprop(owns (c : Thread nD τ) arg2 fullShare x ∗ owns (c : Thread nD τ) arg3 fullShare (out x) ∗ (∃ d, owns (c : Thread nD τ) arg4 fullShare d)
            ∗ (∃ d, owns (c : Thread nD τ) arg5 fullShare d) ∗ (∃ d, owns (c : Thread nD τ) arg6 fullShare d) ∗ (∃ d, owns (c : Thread nD τ) arg7 fullShare d)
            ∗ (∃ d, owns (c : Thread nD τ) sc8 fullShare d) ∗ (∃ d, owns (c : Thread nD τ) sc9 fullShare d)) -∗ K ⟨⟩))
      ⊢ wp frame (wpE (defs₀ (F := F)) Variants.none c none) Set.univ
          (cc0__stage1_body i arg2 harg2 arg3 harg3 arg4 harg4 arg5 harg5 arg6 harg6 arg7 harg7 sc8 (Memref.isWhole_whole _) sc9 (Memref.isWhole_whole _)) K := by
  simp only [cc0__stage1_body_eq_skeleton]; unfold cc0__stage1_body_skel
  simp only [k0_part1_eq_skeleton, k0_part2_eq_skeleton]
  unfold owns
  iintro ⟨⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, Hk⟩
  subst hf2
  by_cases k0_h1 : k0_cond1 i = 1#1
  all_goals
    sl_exec
    sl_step
    iapply Hk
    isplitl [H2]
    · iexists f2; isplitr; · ipureintro; rfl
      iexact H2
    isplitl [H3]
    · iexists _; isplitr
      swap; · iexact H3
      ipureintro
      refine (View.read_writes_eq_canon _ _ _ (cover _)).trans ?_
      rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    iexists _, _; isplitr; swap; · iexact H9
    ipureintro; rfl

/-! ## The pipeline's proof data -/

/-- The windows nothing is claimed of: the maxima, their identifiers and the two thresholds. -/
def forgets0 : Fin 6 → Bool := ![false, false, true, true, true, true]

/-- The proof data on core `c`: the arrays as launched; after the body at a point, the logits' buffer at its block, the
    scores' at the scores of that block, and the others unnamed; the scratch and the generator at some contents. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => out (iblk m c 0 t)
    | ⟨2, h⟩ => Pipeline.Dat.unnamed (cfg := cfg0) ⟨2, h⟩ t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
  Φ _ := Pipeline.ΦA spec0 c
  q _ := fullShare
  owed _ := 0

/-- The arrays are as launched. -/
theorem A_eq (c : Dev nD) (w : Fin cfg0.W) : (dats m 0 c).A w = V m c (Pipeline.arrRef spec0 w) := by
  dsimp only [dats]

/-- The logits' buffer after the body. -/
theorem after0_0 (c : Dev nD) (t : Fin cfg0.N) : (dats m 0 c).after 0 t = iblk m c 0 t := by dsimp only [dats]
/-- The scores' buffer after the body. -/
theorem after0_1 (c : Dev nD) (t : Fin cfg0.N) : (dats m 0 c).after 1 t = out (iblk m c 0 t) := by dsimp only [dats]

/-- The logits' buffer holds its block at every point. -/
theorem before0_0 (c : Dev nD) (t : Fin cfg0.N) (d) : (dats m 0 c).before 0 t d = iblk m c 0 t :=
  before0_0_of m (dats m 0 c) (A_eq m c 0) (after0_0 m c) t d

/-- The scratch and the generator, buffer by buffer. -/
theorem inv_eq (c : Dev nD) :
    (Pipeline.ΦA spec0 c : sProp 𝕄)
      = iprop(iprop((∃ d, owns (c : Thread nD τ) sc8 fullShare d) ∗ (∃ d, owns (c : Thread nD τ) sc9 fullShare d)) ∗ (∃ r, prngReg c r)) := by
  unfold Pipeline.ΦA
  rw [scopedRest0_eq]; simp only [sc8, sc9, owns_whole]; try rfl

/-! ## The body at a grid point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare d)
    ∗ (∃ d, owns (c : Thread nD τ) (st0_3 t) fullShare d)
    ∗ (∃ d, owns (c : Thread nD τ) (st0_4 t) fullShare d)
    ∗ (∃ d, owns (c : Thread nD τ) (st0_5 t) fullShare d))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ (∃ d, owns (c : Thread nD τ) (st0_2 t) fullShare d)
    ∗ (∃ d, owns (c : Thread nD τ) (st0_3 t) fullShare d)
    ∗ (∃ d, owns (c : Thread nD τ) (st0_4 t) fullShare d)
    ∗ (∃ d, owns (c : Thread nD τ) (st0_5 t) fullShare d))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, inv_eq, after0_0, after0_1]
  iintro ⟨⟨⟨H8, H9⟩, Hg⟩, Ho, ⟨%d0, H0⟩, ⟨%d1, H1⟩, H2, H3, H4, H5⟩
  iapply (sound_kernel c (grid0.coords t) _ _ _ _ _ _ _ _ _ _ _ _ (iblk m c 0 t) _)
  isplitl [H0]; · iexact H0
  isplitl [H1]; · iexists _; iexact H1
  isplitl [H2]; · iexact H2
  isplitl [H3]; · iexact H3
  isplitl [H4]; · iexact H4
  isplitl [H5]; · iexact H5
  isplitl [H8]; · iexact H8
  isplitl [H9]; · iexact H9
  iintro ⟨H0, H1, H2, H3, H4, H5, H8, H9⟩
  isplitl [H8 H9 Hg]
  · isplitl [H8 H9]
    · isplitl [H8]; · iexact H8
      iexact H9
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body table's row at a point is the body. -/
theorem defs₀_row (t : Fin cfg0.N) : defs₀ (F := F) .tc cfg0.body (cfg0.bodyArgs t (cfg0.slots t)) = bodyAt0 t := by
  unfold defs₀; rw [Defs.onTc_tc]

/-- The body's obligation, with the four unclaimed windows forgotten. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The launch -/

set_option backward.isDefEq.respectTransparency.types false in
set_option maxHeartbeats 800000 in
/-- The run: it ends, every counter is back at zero, and every array holds what its window leaves. -/
theorem run_frame : θ_run defs (onTc (τ := τ) (main (F := F))) (s₀ m ρ)
    (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- After the run the logits are as launched. -/
theorem final_logits {r : PUnit × MemSt nD τ sig (Elt F)}
    (h : Pipeline.RDat.FramePost (cfgs 0) (fun c => (dats (F := F) m 0 c).toRForget forgets0) (V m) r) (c : Dev nD) :
    r.2.mem ((c.tc : Thread nD τ).loc main_arg0) = m ((c.tc : Thread nD τ).loc main_arg0) :=
  (h.arr_in c 0 rfl).trans ((A_eq m c 0).trans (V_main_arg0 m c))

/-- After the run the scores are what the points wrote back. -/
theorem final_scores {r : PUnit × MemSt nD τ sig (Elt F)}
    (h : Pipeline.RDat.FramePost (cfgs 0) (fun c => (dats (F := F) m 0 c).toRForget forgets0) (V m) r) (c : Dev nD) :
    r.2.mem ((c.tc : Thread nD τ).loc main_v0_0) = (dats m 0 c).arrAt 1 cfg0.N :=
  ((dats m 0 c).toRForget_arrAt_iff (fgt := forgets0) (w := 1) rfl _ _).mp ((h c).1 1)

/-- The run's last state: the logits as launched and every counter at zero. -/
theorem run_main : θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  (θ_run defs _ _).mono (fun _ h => ⟨final_logits m h.1, h.2⟩) (run_frame m ρ)

/-- The run's last state: the scores as the points wrote them back and the logits as launched. -/
theorem run_scores : θ_run defs (onTc (τ := τ) (main (F := F))) ⟨m, fun _ => 0, ρ⟩ (fun r => ∀ c : Dev nD,
      r.2.mem ((c.tc : Thread nD τ).loc main_v0_0) = (dats m 0 c).arrAt 1 cfg0.N
      ∧ r.2.mem ((c.tc : Thread nD τ).loc main_arg0) = m ((c.tc : Thread nD τ).loc main_arg0)) :=
  (θ_run defs _ _).mono (fun _ h c => ⟨final_scores m h.1 c, final_logits m h.1 c⟩) (run_frame m ρ)

end Cert.Proof.Stage1

end
-- ==== Proof.ScoresBlk.lean ====
/-
  The scores of stage 1 at the ideal instance: the block stored at each grid point holds, entry by entry, the scores of
  the logits' block, and the 160 blocks together make the array of scores of the whole array of logits.
-/
module

public import proofs.«01_k».proof.Proof.ScoresRun
public import Idealize.ShloMosaic.Lib.Pipeline.ValueKit
public import Idealize.ShloMosaic.Lib.Pointwise
public import proofs.«01_k».proof.Proof.Gen.ScoresReferenceIdeal.Run

@[expose] public section

set_option maxRecDepth 16384

noncomputable section

namespace Cert.Proof.Stage1

open Cert.ScoresKernelIdeal Cert.ScoresKernelIdeal.Gen
open Idealize.ShloMosaic Idealize.ShloMosaic.TcCoe Idealize.SL.Sem

variable (m : (ℓ : Loc nD τ sig) → Buf (Elt Ideal) ℓ)

/-- One over one plus the exponential of minus the logit. -/
def score (x : EReal) : EReal := Ideal.div 1 (1 + Ideal.exp (-x))

/-- The scores of an array of logits. -/
def scores (x : FVec Ideal S16x20000x80 .f32) : FVec Ideal S16x20000x80 .f32 := fun i => score (x i)

/-- The stored block, entry by entry. -/
theorem pay_at (v : Vec Ideal S1x2000x80 .f32) (i : Fin 2000) (k : Fin 80) : k0_pay10 v (ix3 (0 : Fin 1) i k) = score (v (ix3 (0 : Fin 1) i k)) := by
  unfold k0_pay10 k0_pay9
  pointwise
  rw [zero_sub]
  rfl

/-- The reference's scores, from the logits. -/
def hScores (x : FVec Ideal S16x20000x80 .f32) : FVec Ideal S16x20000x80 .f32 :=
  Host.divf (broadcastInDim Cert.ScoresReferenceIdeal.S16x20000x80 ![] Cert.ScoresReferenceIdeal.Facts₀.bcast_S_S16x20000x80 (constant Cert.ScoresReferenceIdeal.S_ .f32 0x3F800000#32))
    (addf (broadcastInDim Cert.ScoresReferenceIdeal.S16x20000x80 ![] Cert.ScoresReferenceIdeal.Facts₀.bcast_S_S16x20000x80 (constant Cert.ScoresReferenceIdeal.S_ .f32 0x3F800000#32))
      (Host.exp (Host.negf x)))

/-- They are the scores. -/
theorem hScores_eq (x : FVec Ideal S16x20000x80 .f32) : hScores x = scores x := by
  funext i
  unfold hScores
  pointwise
  rfl

/-- The logits' block and the scores' block lie at the same place of their arrays. -/
theorem emb_eq (t : Fin cfg0.N) (y : S1x2000x80.Idx) : ((cfg0.win 0).blk t).view.emb y = ((cfg0.win 1).blk t).view.emb y := by
  rfl

/-- The array of scores after the run. -/
theorem scores_eq (c : Dev nD) : (dats m 0 c).arrAt 1 cfg0.N = scores (m (c.tc.loc main_arg0)) := by
  refine (dats m 0 c).arrAt_eq_of_covers 1 _ (by decide +kernel) fun t hf y => ?_
  blk_simp
  rw [after0_1]
  unfold out
  frame_out
  have hy : y = ix3 (0 : Fin 1) (y 1 : Fin 2000) (y 2 : Fin 80) := by
    funext a
    match a with
    | ⟨0, _⟩ => exact Subsingleton.elim (α := Fin 1) _ _
    | ⟨1, _⟩ => rfl
    | ⟨2, _⟩ => rfl
  generalize hi : (y 1 : Fin 2000) = i at hy
  generalize hk : (y 2 : Fin 80) = k at hy
  subst hy
  refine (pay_at _ i k).trans ?_
  rfl

end Cert.Proof.Stage1

end
-- ==== Proof.CutRun.lean ====
/-
  The run of stage 3: the body's two counted loops yield the two words of the thresholds (`top` and `last`), the body
  stores each all over its block, and the grid does so for each of the 16 images; at the end the candidates are as they
  were and every semaphore is at zero.
-/
module

public import proofs.«01_k».proof.Proof.Gen.CutKernel.Frame
public import proofs.«01_k».proof.Proof.Gen.CutKernel.Skeleton
public import Idealize.ShloMosaic.Lib.Pipeline.Frame
public import Idealize.ShloMosaic.Lib.Pipeline.FrameBody
public import Idealize.ShloMosaic.Lib.Tactic
public import Idealize.ShloMosaic.Lib.Claim

@[expose] public section

set_option maxRecDepth 16384

noncomputable section

namespace Cert.Proof.Stage3

open Cert.CutKernel Cert.CutKernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The loops -/

/-- A loop whose region only computes yields what computing trip after trip gives. -/
theorem forFrom_ret {E : Type → Type} {σ : Type} {n : ℕ} (f : Fin n → σ → σ) (l : List (Fin n)) (a : σ) :
    Scf.forFrom (E := E) (fun k acc => .ret (f k acc)) l a = .ret (l.foldl (fun acc k => f k acc) a) := by
  induction l generalizing a with
  | nil => rfl
  | cons k l ih => exact ih (f k a)

/-- One trip of the first loop: the word with one more bit set, if enough entries are not below it. -/
def step1 (v0 : Vec F S1x384x80 .f32) (k : Fin k0_t1_loop.trips) (t : BitVec 32) : BitVec 32 :=
  Scalar.select (Scalar.cmpi .sge (extractAt ![0, 0, 0] (k0_pay3 v0 k t) inpos_S1x1x1_p0_0_0) 300#32)
    (Scalar.ori t (Scalar.shli 1#32 (Scalar.subi 30#32 (Scf.iv 0#32 1#32 k)))) t

/-- The word the first loop yields. -/
def top (v0 : Vec F S1x384x80 .f32) : BitVec 32 := (List.finRange k0_t1_loop.trips).foldl (fun t k => step1 v0 k t) 0#32

/-- How many of the entries at that word are still wanted. -/
def want (v0 : Vec F S1x384x80 .f32) : BitVec 32 := Scalar.subi 300#32 (extractAt ![0, 0, 0] (k0_pay4 v0 (top v0)) inpos_S1x1x1_p0_0_0)

/-- One trip of the second loop: the identifier moved up, unless enough of those entries are below it there. -/
def step2 (v0 : Vec F S1x384x80 .f32) (v3 : Vec F S1x1x300 .i32) (k : Fin k0_t2_loop.trips) (s : BitVec 32) : BitVec 32 :=
  Scalar.select (Scalar.cmpi .sge (extractAt ![0, 0, 0] (k0_pay5 v0 v3 (top v0) k s) inpos_S1x1x1_p0_0_0) (want v0))
    s (Scalar.addi s (Scalar.shli 1#32 (Scalar.subi 20#32 (Scf.iv 0#32 1#32 k))))

/-- The word the second loop yields. -/
def last (v0 : Vec F S1x384x80 .f32) (v3 : Vec F S1x1x300 .i32) : BitVec 32 :=
  (List.finRange k0_t2_loop.trips).foldl (fun s k => step2 v0 v3 k s) 0#32

/-- The first loop. -/
theorem loop1_eq (i : grid0.Coords) (arg1 : Memref sig .tc .vmem S1x384x80 .f32) (harg1 : arg1.IsWhole) (arg2 : Memref sig .tc .vmem S1x1x384 .i32) (harg2 : arg2.IsWhole)
    (arg3 : Memref sig .tc .vmem S1x1x16 .f32) (harg3 : arg3.IsWhole) (arg4 : Memref sig .tc .vmem S1x1x16 .i32) (harg4 : arg4.IsWhole) (v0 : Vec F S1x384x80 .f32) :
    Scf.Loop.for k0_t1_loop k0_t1_ok 0#32 (k0_t1_body i arg1 harg1 arg2 harg2 arg3 harg3 arg4 harg4 v0) = .ret (top v0) :=
  (Scf.for_eq ..).trans (forFrom_ret (step1 v0) _ _)

/-- The second loop. -/
theorem loop2_eq (i : grid0.Coords) (arg1 : Memref sig .tc .vmem S1x384x80 .f32) (harg1 : arg1.IsWhole) (arg2 : Memref sig .tc .vmem S1x1x384 .i32) (harg2 : arg2.IsWhole)
    (arg3 : Memref sig .tc .vmem S1x1x16 .f32) (harg3 : arg3.IsWhole) (arg4 : Memref sig .tc .vmem S1x1x16 .i32) (harg4 : arg4.IsWhole) (v0 : Vec F S1x384x80 .f32)
    (v3 : Vec F S1x1x300 .i32) :
    Scf.Loop.for k0_t2_loop k0_t2_ok 0#32 (k0_t2_body i arg1 harg1 arg2 harg2 arg3 harg3 arg4 harg4 v0 v3 (top v0) (want v0)) = .ret (last v0 v3) :=
  (Scf.for_eq ..).trans (forFrom_ret (step2 v0 v3) _ _)

/-- The first part of the body with both loops done. -/
theorem part1_eq (i : grid0.Coords) (arg1 : Memref sig .tc .vmem S1x384x80 .f32) (harg1 : arg1.IsWhole) (arg2 : Memref sig .tc .vmem S1x1x384 .i32) (harg2 : arg2.IsWhole)
    (arg3 : Memref sig .tc .vmem S1x1x16 .f32) (harg3 : arg3.IsWhole) (arg4 : Memref sig .tc .vmem S1x1x16 .i32) (harg4 : arg4.IsWhole) :
    k0_part1 (F := F) i arg1 harg1 arg2 harg2 arg3 harg3 arg4 harg4 = (do
      let v0 : Vec F S1x384x80 .f32 ← Prog.lift (.load arg1 (Rect.unit (s := S1x384x80) ![0, 0, 0] S1x384x80.size inb_S1x384x80_S1x384x80_0_0_0).toLoadRect (View.loadsAt_vmem h_S1x384x80))
      let v3 : Vec F S1x1x300 .i32 ← Prog.lift (.load arg2 (Rect.unit (s := S1x1x384) ![0, 0, 0] S1x1x300.size inb_S1x1x384_S1x1x300_0_0_0).toLoadRect (View.loadsAt_vmem h_S1x1x300))
      let _ ← Prog.lift (.load arg3 (Rect.unit (s := S1x1x16) ![0, 0, 0] S1x1x16.size inb_S1x1x16_S1x1x16_0_0_0).toLoadRect (View.loadsAt_vmem h_S1x1x16))
      Prog.lift (.store arg3 (Rect.unit (s := S1x1x16) ![0, 0, 0] S1x1x16.size inb_S1x1x16_S1x1x16_0_0_0) (k0_pay6 (F := F) (top v0)) Finset.univ (View.stores_vmem_bits_univ h_S1x1x16 rfl) (.inl rfl))
      let v32 : Vec F S1x1x16 .i32 ← Prog.lift (.load arg4 (Rect.unit (s := S1x1x16) ![0, 0, 0] S1x1x16.size inb_S1x1x16_S1x1x16_0_0_0).toLoadRect (View.loadsAt_vmem h_S1x1x16))
      pure ⟨k0_pay7 (last v0 v3), v32⟩) := by
  rw [k0_part1_eq_skeleton]
  unfold k0_part1_skel
  simp only [loop1_eq]
  refine congrArg (Bind.bind _) (funext fun v0 => congrArg (Bind.bind _) (funext fun v3 => ?_))
  change (Scf.Loop.for k0_t2_loop k0_t2_ok 0#32 (k0_t2_body i arg1 harg1 arg2 harg2 arg3 harg3 arg4 harg4 v0 v3 (top v0) (want v0)) >>= _) = _
  rw [loop2_eq]
  rfl

/-! ## The body -/

/-- The whole of a block of candidates. -/
abbrev whole0 : Rect S1x384x80 := Rect.unit (s := S1x384x80) ![0, 0, 0] S1x384x80.size inb_S1x384x80_S1x384x80_0_0_0
/-- The first 300 of an image's identifiers. -/
abbrev first1 : Rect S1x1x384 := Rect.unit (s := S1x1x384) ![0, 0, 0] S1x1x300.size inb_S1x1x384_S1x1x300_0_0_0
/-- The whole of a block of thresholds. -/
abbrev whole2 : Rect S1x1x16 := Rect.unit (s := S1x1x16) ![0, 0, 0] S1x1x16.size inb_S1x1x16_S1x1x16_0_0_0

/-- The block of value thresholds the body stores. -/
def out2 (x : Vec F S1x384x80 .f32) : Vec F S1x1x16 .f32 := View.canon [⟨whole2, k0_pay6 (top (View.ld x whole0))⟩]

/-- The block of identifier thresholds the body stores. -/
def out3 (x : Vec F S1x384x80 .f32) (q : Vec F S1x1x384 .i32) : Vec F S1x1x16 .i32 :=
  View.canon [⟨whole2, k0_pay1 (k0_pay7 (last (View.ld x whole0) (View.ld q first1)))⟩]

/-- The one store covers the block of value thresholds. -/
theorem cover2 (p : Vec F S1x1x16 .f32) (y : S1x1x16.Idx) :
    ∃ pc ∈ ([⟨whole2, p⟩] : List (View.Piece (Elt F) S1x1x16 .f32)), y ∈ pc.1.set :=
  View.cover_of_tiled [⟨whole2, p⟩] S1x1x16.size (by rfl) y

/-- The one store covers the block of identifier thresholds. -/
theorem cover3 (p : Vec F S1x1x16 .i32) (y : S1x1x16.Idx) :
    ∃ pc ∈ ([⟨whole2, p⟩] : List (View.Piece (Elt F) S1x1x16 .i32)), y ∈ pc.1.set :=
  View.cover_of_tiled [⟨whole2, p⟩] S1x1x16.size (by rfl) y

set_option maxHeartbeats 4000000 in
/-- The body of the call: the candidates stay, and the two blocks of thresholds end at `out2` and `out3` of them. -/
theorem sound_kernel (c : Dev nD) (i : grid0.Coords) (arg1 : Memref sig .tc .vmem S1x384x80 .f32) (harg1 : arg1.IsWhole) (arg2 : Memref sig .tc .vmem S1x1x384 .i32) (harg2 : arg2.IsWhole)
    (arg3 : Memref sig .tc .vmem S1x1x16 .f32) (harg3 : arg3.IsWhole) (arg4 : Memref sig .tc .vmem S1x1x16 .i32) (harg4 : arg4.IsWhole)
    (x0 : Vec F S1x384x80 .f32) (x1 : Vec F S1x1x384 .i32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (out2 x0)
            ∗ owns (c : Thread nD τ) arg4 fullShare (out3 x0 x1)) -∗ K ⟨⟩))
      ⊢ wp frame (wpE (defs₀ (F := F)) Variants.none c none) Set.univ (cc0__stage3_body i arg1 harg1 arg2 harg2 arg3 harg3 arg4 harg4) K := by
  simp only [cc0__stage3_body_eq_skeleton]; unfold cc0__stage3_body_skel
  simp only [part1_eq]
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (cover2 _)).trans ?_
    rfl
  iexists _; isplitr
  swap; · iexact H3
  ipureintro
  refine (View.read_writes_eq_canon _ _ _ (cover3 _)).trans ?_
  unfold out3 View.ld
  dsimp only
  rfl

/-! ## The pipeline's proof data -/

/-- The proof data on core `c`: the arrays as launched; after the body at a point, the candidates' buffers at their blocks
    and the thresholds' at those of the blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out2 (iblk m c 0 t)
    | ⟨3, _⟩ => out3 (iblk m c 0 t) (iblk m c 1 t)
  Φ _ := Pipeline.ΦA spec0 c
  q _ := fullShare
  owed _ := 0

/-- The arrays are as launched. -/
theorem A_eq (c : Dev nD) (w : Fin cfg0.W) : (dats m 0 c).A w = V m c (Pipeline.arrRef spec0 w) := by
  dsimp only [dats]

/-- The candidates' buffer after the body. -/
theorem after0_0 (c : Dev nD) (t : Fin cfg0.N) : (dats m 0 c).after 0 t = iblk m c 0 t := by dsimp only [dats]
/-- The identifiers' buffer after the body. -/
theorem after0_1 (c : Dev nD) (t : Fin cfg0.N) : (dats m 0 c).after 1 t = iblk m c 1 t := by dsimp only [dats]
/-- The value thresholds' buffer after the body. -/
theorem after0_2 (c : Dev nD) (t : Fin cfg0.N) : (dats m 0 c).after 2 t = out2 (iblk m c 0 t) := by dsimp only [dats]
/-- The identifier thresholds' buffer after the body. -/
theorem after0_3 (c : Dev nD) (t : Fin cfg0.N) : (dats m 0 c).after 3 t = out3 (iblk m c 0 t) (iblk m c 1 t) := by dsimp only [dats]

/-- The candidates' buffer holds its block at every point. -/
theorem before0_0 (c : Dev nD) (t : Fin cfg0.N) (d) : (dats m 0 c).before 0 t d = iblk m c 0 t :=
  before0_0_of m (dats m 0 c) (A_eq m c 0) (after0_0 m c) t d
/-- The identifiers' buffer holds its block at every point. -/
theorem before0_1 (c : Dev nD) (t : Fin cfg0.N) (d) : (dats m 0 c).before 1 t d = iblk m c 1 t :=
  before0_1_of m (dats m 0 c) (A_eq m c 1) (after0_1 m c) t d

/-! ## The body at a grid point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c (grid0.coords t) _ _ _ _ _ _ _ _ (iblk m c 0 t) (iblk m c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body table's row at a point is the body. -/
theorem defs₀_row (t : Fin cfg0.N) : defs₀ (F := F) .tc cfg0.body (cfg0.bodyArgs t (cfg0.slots t)) = bodyAt0 t := by
  unfold defs₀; rw [Defs.onTc_tc]

/-- The body's obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

set_option backward.isDefEq.respectTransparency.types false in
set_option maxHeartbeats 800000 in
/-- The run: it ends, every counter is back at zero, and every array holds what its window leaves. -/
theorem run_frame : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run leaves the arguments as launched and every counter at zero. -/
theorem run_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  θ_run_and (frame_of m ρ (dats m) (A_eq m) ((θ_run defs _ _).mono (fun _ h => h.1) (run_frame m ρ)))
    ((θ_run defs _ _).mono (fun _ h => h.2) (run_frame m ρ))

/-- The run's two results, as the arrays the windows leave. -/
theorem run_cut : θ_run defs (onTc (τ := τ) (main (F := F))) ⟨m, fun _ => 0, ρ⟩ (fun r => ∀ c : Dev nD,
      r.2.mem ((c.tc : Thread nD τ).loc main_v1_0) = (dats m 0 c).arrAt 2 cfg0.N
      ∧ r.2.mem ((c.tc : Thread nD τ).loc main_v1_1) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h.1.1 c).1 2, (h.1.1 c).1 3, h.2.1 c⟩) (θ_run_and (run_frame m ρ) (run_main m ρ))

end Cert.Proof.Stage3

end
-- ==== Proof.CutMath.lean ====
module

public import Idealize.ShloMosaic.Lib.SortFacts
public import Idealize.ShloMosaic.PureOps.ShapeOps
public import Idealize.ShloMosaic.Lib.Pointwise
public import Mathlib.Data.Fintype.Card
public import Mathlib.Data.List.FinRange

@[expose] public section

/-!
# The 300th greatest of a list of entries

An entry is a number and an identifier; the greater number goes first, and among equal numbers the lower identifier. Two
ways to the number and identifier of the entry at place 300 are compared: building each bit by bit while counting, and
sorting. Each ends at numbers with the property `Cut`, and only one pair of numbers has it.
-/

namespace Cert.Proof.Stage3

open Idealize.ShloMosaic

/-- A property kept by every step of a fold over the first numbers holds at its end. -/
theorem fold_inv {n : ℕ} {σ : Type} (f : Fin n → σ → σ) (I : ℕ → σ → Prop) (a : σ) (h0 : I 0 a)
    (hs : ∀ (k : Fin n) (acc : σ), I k.val acc → I (k.val + 1) (f k acc)) : I n ((List.finRange n).foldl (fun acc k => f k acc) a) := by
  induction n with
  | zero => exact h0
  | succ n ih =>
    rw [List.finRange_succ_last, List.foldl_append, List.foldl_map]
    exact hs (Fin.last n) _ (ih (fun k => f k.castSucc) (fun k acc h => hs k.castSucc acc h))

section Counting

variable {ι : Type} [Fintype ι] (U G : ι → ℤ)

/-- How many entries are not below a number. -/
def notBelow (t : ℤ) : ℕ := (Finset.univ.filter fun x => t ≤ U x).card

/-- How many entries at the number `t` have an identifier below `s`. -/
def tied (t s : ℤ) : ℕ := (Finset.univ.filter fun x => U x = t ∧ G x < s).card

/-- The entry at place 300 has the number `t` and the identifier `s`. -/
structure Cut (t s : ℤ) : Prop where
  enough : 300 ≤ notBelow U t
  few : notBelow U (t + 1) < 300
  below : notBelow U (t + 1) + tied U G t s < 300
  upto : 300 ≤ notBelow U (t + 1) + tied U G t (s + 1)

/-- The fewer, the greater the number. -/
theorem notBelow_anti {a b : ℤ} (h : a ≤ b) : notBelow U b ≤ notBelow U a :=
  Finset.card_le_card fun x hx => by
    simp only [Finset.mem_filter, Finset.mem_univ, true_and] at hx ⊢
    omega

/-- The more, the greater the identifier. -/
theorem tied_mono (t : ℤ) {a b : ℤ} (h : a ≤ b) : tied U G t a ≤ tied U G t b :=
  Finset.card_le_card fun x hx => by
    simp only [Finset.mem_filter, Finset.mem_univ, true_and] at hx ⊢
    omega

/-- The entries not below a number are those above it and those at it. -/
theorem notBelow_split (t s : ℤ) (h : ∀ x, G x < s) : notBelow U t = notBelow U (t + 1) + tied U G t s := by
  classical
  unfold notBelow tied
  rw [← Finset.card_union_of_disjoint]
  · refine congrArg Finset.card (Finset.ext fun x => ?_)
    have := h x
    simp only [Finset.mem_union, Finset.mem_filter, Finset.mem_univ, true_and]
    omega
  · refine Finset.disjoint_left.mpr fun x hx hx' => ?_
    simp only [Finset.mem_filter, Finset.mem_univ, true_and] at hx hx'
    omega

variable {U G}

/-- There is one number and one identifier at place 300. -/
theorem Cut.unique {t s t' s' : ℤ} (h : Cut U G t s) (h' : Cut U G t' s') : t = t' ∧ s = s' := by
  have ht : t = t' := by
    rcases lt_trichotomy t t' with hl | e | hl
    · have h1 := h.few
      have h2 := h'.enough
      have h3 := notBelow_anti U (show t + 1 ≤ t' by omega)
      omega
    · exact e
    · have h1 := h'.few
      have h2 := h.enough
      have h3 := notBelow_anti U (show t' + 1 ≤ t by omega)
      omega
  subst ht
  refine ⟨rfl, ?_⟩
  rcases lt_trichotomy s s' with hl | e | hl
  · have h1 := h.upto
    have h2 := h'.below
    have h3 := tied_mono U G t (show s + 1 ≤ s' by omega)
    omega
  · exact e
  · have h1 := h'.upto
    have h2 := h.below
    have h3 := tied_mono U G t (show s' + 1 ≤ s by omega)
    omega

/-- The property does not depend on how the entries are listed. -/
theorem Cut.of_equiv {κ : Type} [Fintype κ] (e : κ ≃ ι) {V H : κ → ℤ} (hV : ∀ x, U (e x) = V x) (hH : ∀ x, G (e x) = H x) {t s : ℤ}
    (h : Cut V H t s) : Cut U G t s := by
  have h1 : ∀ t, notBelow U t = notBelow V t := fun t =>
    (Finset.card_equiv e fun x => by simp only [Finset.mem_filter, Finset.mem_univ, true_and, hV]).symm
  have h2 : ∀ t s, tied U G t s = tied V H t s := fun t s =>
    (Finset.card_equiv e fun x => by simp only [Finset.mem_filter, Finset.mem_univ, true_and, hV, hH]).symm
  exact ⟨by rw [h1]; exact h.enough, by rw [h1]; exact h.few, by rw [h1, h2]; exact h.below, by rw [h1, h2]; exact h.upto⟩

end Counting

section Sorting

variable {n : ℕ} (U G : Fin n → ℤ)

/-- Greater number first, then lower identifier. -/
def sooner (a b : Fin n) : Bool := decide (U b < U a) || (decide (U a = U b) && decide (G a < G b))

/-- In the sorted list no entry is sooner than one before it. -/
theorem not_sooner {a b : Fin n} (h : a < b) : sooner U G (sortedFrom (sooner U G) b) (sortedFrom (sooner U G) a) = false := by
  have hs := pairwise_stableSort (sooner U G) (sooner U G)
    (fun a b h => by simp only [sooner, Bool.or_eq_true, Bool.and_eq_true, decide_eq_true_eq, Bool.or_eq_false_iff, Bool.and_eq_false_iff, decide_eq_false_iff_not] at h ⊢; omega)
    (fun _ _ h => h)
    (fun a b c h1 h2 => by simp only [sooner, Bool.or_eq_false_iff, Bool.and_eq_false_iff, decide_eq_false_iff_not] at h1 h2 ⊢; omega)
    (List.finRange n)
  exact List.pairwise_iff_getElem.mp hs a.val b.val (by simp [length_stableSort]) (by simp [length_stableSort]) h

/-- An entry is not sooner than itself. -/
theorem sooner_irrefl (a : Fin n) : sooner U G a a = false := by
  simp [sooner]

/-- The entry that sorting puts at place 300 is the cut. -/
theorem cut_sortedFrom (j : Fin n) (hj : j.val = 299) :
    Cut U G (U (sortedFrom (sooner U G) j)) (G (sortedFrom (sooner U G) j)) := by
  classical
  have hinj := sortedFrom_injective (sooner U G)
  have hsur := sortedFrom_surjective (sooner U G)
  generalize hp : sortedFrom (sooner U G) j = p
  -- at most 299 entries are sooner
  have hlt : (Finset.univ.filter fun x => sooner U G x p = true).card < 300 := by
    have hsub : (Finset.univ.filter fun x => sooner U G x p = true) ⊆ (Finset.Iio j).image (sortedFrom (sooner U G)) := by
      intro x hx
      simp only [Finset.mem_filter, Finset.mem_univ, true_and] at hx
      obtain ⟨a, rfl⟩ := hsur x
      refine Finset.mem_image.mpr ⟨a, Finset.mem_Iio.mpr ?_, rfl⟩
      by_contra hle
      rcases (not_lt.mp hle).eq_or_lt with e | hlt
      · rw [← e, hp, sooner_irrefl] at hx; exact absurd hx (by decide)
      · have := not_sooner U G hlt
        rw [hp, hx] at this; exact absurd this (by decide)
    refine lt_of_le_of_lt ((Finset.card_le_card hsub).trans Finset.card_image_le) ?_
    rw [Fin.card_Iio]; omega
  -- at least 300 are such that it is not sooner than they are
  have hge : 300 ≤ (Finset.univ.filter fun x => sooner U G p x = false).card := by
    have hsub : (Finset.Iic j).image (sortedFrom (sooner U G)) ⊆ (Finset.univ.filter fun x => sooner U G p x = false) := by
      intro x hx
      obtain ⟨a, ha, rfl⟩ := Finset.mem_image.mp hx
      simp only [Finset.mem_filter, Finset.mem_univ, true_and]
      rcases (Finset.mem_Iic.mp ha).eq_or_lt with e | hlt
      · rw [e, hp]; exact sooner_irrefl U G p
      · rw [← hp]; exact not_sooner U G hlt
    refine le_trans ?_ (Finset.card_le_card hsub)
    rw [Finset.card_image_of_injective _ hinj, Fin.card_Iic]; omega
  have hdis : ∀ s, Disjoint (Finset.univ.filter fun x => U p + 1 ≤ U x) (Finset.univ.filter fun x => U x = U p ∧ G x < s) := fun s =>
    Finset.disjoint_left.mpr fun x hx hx' => by
      simp only [Finset.mem_filter, Finset.mem_univ, true_and] at hx hx'
      omega
  have hb : notBelow U (U p + 1) + tied U G (U p) (G p) < 300 := by
    unfold notBelow tied
    rw [← Finset.card_union_of_disjoint (hdis _)]
    refine lt_of_le_of_lt (Finset.card_le_card fun x hx => ?_) hlt
    simp only [Finset.mem_union, Finset.mem_filter, Finset.mem_univ, true_and, sooner, Bool.or_eq_true, Bool.and_eq_true, decide_eq_true_eq] at hx ⊢
    omega
  have hu : 300 ≤ notBelow U (U p + 1) + tied U G (U p) (G p + 1) := by
    unfold notBelow tied
    rw [← Finset.card_union_of_disjoint (hdis _)]
    refine hge.trans (Finset.card_le_card fun x hx => ?_)
    simp only [Finset.mem_union, Finset.mem_filter, Finset.mem_univ, true_and, sooner, Bool.or_eq_false_iff, Bool.and_eq_false_iff, decide_eq_false_iff_not] at hx ⊢
    omega
  refine ⟨?_, by omega, hb, hu⟩
  refine hge.trans (Finset.card_le_card fun x hx => ?_)
  simp only [Finset.mem_filter, Finset.mem_univ, true_and, sooner, Bool.or_eq_false_iff, Bool.and_eq_false_iff, decide_eq_false_iff_not] at hx ⊢
  omega

end Sorting

section Bits

/-- A power of two as a word. -/
theorem toNat_bit {j : ℕ} (h : j < 32) : ((1#32 : BitVec 32) <<< j).toNat = 2 ^ j := by
  rw [BitVec.toNat_shiftLeft, Nat.shiftLeft_eq]
  simp only [BitVec.toNat_ofNat]
  rw [show 1 % 2 ^ 32 = 1 by norm_num, one_mul]
  exact Nat.mod_eq_of_lt (Nat.pow_lt_pow_right (by norm_num) h)

/-- Setting a bit below the lowest set one adds its power of two. -/
theorem toNat_or_bit {t : BitVec 32} {j a : ℕ} (hj : j < 31) (h : t.toNat = 2 ^ (j + 1) * a) : (t ||| (1#32 <<< j)).toNat = t.toNat + 2 ^ j := by
  rw [BitVec.toNat_or, toNat_bit (by omega), h]
  exact (Nat.two_pow_add_eq_or_of_lt (Nat.pow_lt_pow_right (by norm_num) (by omega)) a).symm

variable {ι : Type} [Fintype ι] (U G : ι → ℤ)

/-- Before trip `i` of the first loop: the word is a multiple of `2 ^ (31 - i)`, enough entries are not below it, and too
    few are not below the next multiple. -/
def Inv1 (i : ℕ) (t : BitVec 32) : Prop :=
  (∃ a, t.toNat = 2 ^ (31 - i) * a) ∧ t.toNat + 2 ^ (31 - i) ≤ 2 ^ 31 ∧ 300 ≤ notBelow U (t.toNat : ℤ) ∧ notBelow U ((t.toNat + 2 ^ (31 - i) : ℕ) : ℤ) < 300

/-- A word below `2 ^ 31` as a signed number. -/
theorem toInt_small {t : BitVec 32} (h : t.toNat < 2 ^ 31) : t.toInt = (t.toNat : ℤ) := by
  rw [BitVec.toInt_eq_toNat_cond, if_pos (by omega)]

/-- A trip of the first loop keeps the invariant. -/
theorem inv1_step {i : ℕ} (hi : i < 31) {t t' : BitVec 32} (h : Inv1 U i t)
    (ht : t' = if 300 ≤ notBelow U (t ||| (1#32 <<< (30 - i))).toInt then t ||| (1#32 <<< (30 - i)) else t) : Inv1 U (i + 1) t' := by
  obtain ⟨⟨a, ha⟩, hle, h1, h2⟩ := h
  have e : 31 - i = (30 - i) + 1 := by omega
  have e' : 31 - (i + 1) = 30 - i := by omega
  rw [e] at ha hle h2
  have hor := toNat_or_bit (t := t) (j := 30 - i) (by omega) ha
  have hp : 2 ^ (30 - i + 1) = 2 ^ (30 - i) + 2 ^ (30 - i) := by rw [pow_succ]; omega
  have hpos : 0 < 2 ^ (30 - i) := by positivity
  rw [toInt_small (by rw [hor]; omega), hor] at ht
  unfold Inv1
  rw [e']
  by_cases hc : 300 ≤ notBelow U ((t.toNat + 2 ^ (30 - i) : ℕ) : ℤ)
  · rw [if_pos hc] at ht
    subst ht
    rw [hor]
    refine ⟨⟨2 * a + 1, ?_⟩, by omega, hc, ?_⟩
    · rw [ha, hp]; ring
    · rw [show t.toNat + 2 ^ (30 - i) + 2 ^ (30 - i) = t.toNat + 2 ^ (30 - i + 1) by omega]; exact h2
  · rw [if_neg hc] at ht
    subst ht
    refine ⟨⟨2 * a, ?_⟩, by omega, h1, by omega⟩
    rw [ha, hp]; ring

/-- At the start it holds, if there are enough entries that are not negative. -/
theorem inv1_zero (hU : ∀ x, U x < 2 ^ 31) (h : 300 ≤ notBelow U 0) : Inv1 U 0 0#32 := by
  refine ⟨⟨0, rfl⟩, by decide, h, ?_⟩
  have : notBelow U ((0#32 : BitVec 32).toNat + 2 ^ (31 - 0) : ℕ) = 0 := by
    unfold notBelow
    rw [Finset.card_eq_zero, Finset.filter_eq_empty_iff]
    intro x _ hx
    have h1 := hU x
    norm_num at hx h1
    omega
  omega

/-- At the end the word is the number at place 300. -/
theorem inv1_last {t : BitVec 32} (h : Inv1 U 31 t) : t.toInt = t.toNat ∧ 300 ≤ notBelow U t.toInt ∧ notBelow U (t.toInt + 1) < 300 := by
  obtain ⟨-, hle, h1, h2⟩ := h
  have e := toInt_small (t := t) (by omega)
  refine ⟨e, by rw [e]; exact h1, by rw [e]; simpa using h2⟩

/-- Before trip `i` of the second loop: too few entries at the number have an identifier below the word, and enough have
    one below the word and `2 ^ (21 - i)`. -/
def Inv2 (T : ℤ) (i : ℕ) (s : BitVec 32) : Prop :=
  s.toNat + 2 ^ (21 - i) ≤ 2 ^ 21 ∧ notBelow U (T + 1) + tied U G T (s.toNat : ℤ) < 300
    ∧ 300 ≤ notBelow U (T + 1) + tied U G T ((s.toNat + 2 ^ (21 - i) : ℕ) : ℤ)

/-- A trip of the second loop keeps the invariant. -/
theorem inv2_step {T : ℤ} {i : ℕ} (hi : i < 21) {s s' : BitVec 32} (h : Inv2 U G T i s)
    (hs : s' = if 300 ≤ notBelow U (T + 1) + tied U G T (s + (1#32 <<< (20 - i))).toInt then s else s + (1#32 <<< (20 - i))) : Inv2 U G T (i + 1) s' := by
  obtain ⟨hle, h1, h2⟩ := h
  have e : 21 - i = (20 - i) + 1 := by omega
  have e' : 21 - (i + 1) = 20 - i := by omega
  rw [e] at hle h2
  have hp : 2 ^ (20 - i + 1) = 2 ^ (20 - i) + 2 ^ (20 - i) := by rw [pow_succ]; omega
  have hpos : 0 < 2 ^ (20 - i) := by positivity
  have hadd : (s + (1#32 <<< (20 - i))).toNat = s.toNat + 2 ^ (20 - i) := by
    rw [BitVec.toNat_add, toNat_bit (by omega)]
    exact Nat.mod_eq_of_lt (by omega)
  rw [toInt_small (by rw [hadd]; omega), hadd] at hs
  unfold Inv2
  rw [e']
  by_cases hc : 300 ≤ notBelow U (T + 1) + tied U G T ((s.toNat + 2 ^ (20 - i) : ℕ) : ℤ)
  · rw [if_pos hc] at hs
    subst hs
    exact ⟨by omega, h1, hc⟩
  · rw [if_neg hc] at hs
    subst hs
    rw [hadd]
    refine ⟨by omega, by omega, ?_⟩
    rw [show s.toNat + 2 ^ (20 - i) + 2 ^ (20 - i) = s.toNat + 2 ^ (20 - i + 1) by omega]; exact h2

/-- At the start it holds, if the identifiers are in range. -/
theorem inv2_zero {T : ℤ} (hG : ∀ x, 0 ≤ G x ∧ G x < 2 ^ 21) (h1 : 300 ≤ notBelow U T) (h2 : notBelow U (T + 1) < 300) : Inv2 U G T 0 0#32 := by
  refine ⟨by decide, ?_, ?_⟩
  · have : tied U G T ((0#32 : BitVec 32).toNat : ℤ) = 0 := by
      unfold tied
      rw [Finset.card_eq_zero, Finset.filter_eq_empty_iff]
      rintro x _ ⟨-, hx⟩
      have h1 := (hG x).1
      norm_num at hx
      omega
    omega
  · rw [notBelow_split U G T (2 ^ 21) (fun x => (hG x).2)] at h1
    exact h1

/-- At the end both words are the cut. -/
theorem cut_of_inv {t s : BitVec 32} (h1 : Inv1 U 31 t) (h2 : Inv2 U G t.toInt 21 s) : Cut U G t.toInt s.toInt := by
  obtain ⟨-, he, hf⟩ := inv1_last U h1
  obtain ⟨hle, hb, hu⟩ := h2
  have e := toInt_small (t := s) (by omega)
  refine ⟨he, hf, by rw [e]; exact hb, by rw [e]; simpa using hu⟩

end Bits

end Cert.Proof.Stage3
-- ==== Proof.CutVal.lean ====
module

public import proofs.«01_k».proof.Proof.CutRun
public import proofs.«01_k».proof.Proof.CutMath
public import Idealize.ShloMosaic.Lib.IndicatorCount
public import Idealize.ShloMosaic.Lib.Affine
public import Idealize.ShloMosaic.Lib.StableHlo.Predicate
public import Idealize.ShloMosaic.Lib.Pointwise

@[expose] public section

set_option maxRecDepth 16384

noncomputable section

/-!
# What the two searches of the cut find

Every count the body makes is the number of entries that pass a test, so every trip of either search is a step of the
search on whole numbers; the two words found are the cut of the block's entries.
-/

namespace Cert.Proof.Stage3

open Cert.CutKernel Cert.CutKernel.Gen
open Idealize.ShloMosaic
open Idealize.ShloMosaic.StableHlo.Predicate (toInt_ofNat_small)

variable {F : FTy → Type} [BitOps F]

/-- The body's count of a test over the block's entries is the number of entries that pass. -/
theorem count_eq (p : IVec S300x80 1) :
    extractAt ![0, 0, 0] (shapeCast S1x1x1 (multiReductionI .add [1, 2] S1 (shapeCast S1x300x80 (extui 32 p natLt_1_32) shapeCasts_S300x80_S1x300x80)
        0#32 reduces_S1x300x80_S1 rfl) shapeCasts_S1_S1x1x1) inpos_S1x1x1_p0_0_0
      = BitVec.ofNat 32 (Finset.univ.filter fun y : S300x80.Idx => p y = 1#1).card := by
  unfold extractAt
  generalize hj : (fun a => _ : S1x1x1.Idx) = j0
  refine (multiReductionI_eq_fold .add _ 0#32 reduces_S1x300x80_S1 rfl (Shape.reshapeEquiv shapeCasts_S1_S1x1x1 j0)).trans ?_
  have hsub : Subsingleton S1.Idx := ⟨fun a b => funext fun d => match d with
    | ⟨0, _⟩ => Subsingleton.elim (α := Fin 1) _ _⟩
  rw [Finset.filter_true_of_mem fun i _ => Subsingleton.elim _ _]
  refine (IndicatorCount.fold_addi_setWidth_eq_card (w := 32)
    (fun i => p (Shape.reshapeEquiv shapeCasts_S300x80_S1x300x80 i)) Finset.univ).trans ?_
  congr 1
  refine Finset.card_equiv (Shape.reshapeEquiv shapeCasts_S300x80_S1x300x80) fun i => ?_
  simp only [Finset.mem_filter, Finset.mem_univ, true_and]

/-- A block has 24000 entries. -/
theorem card_entries : Fintype.card S300x80.Idx = 24000 := by
  rw [Fintype.card_congr (Shape.rowMajor S300x80), Fintype.card_fin]
  rfl

/-- A set of entries has at most 24000 of them. -/
theorem card_le (S : Finset S300x80.Idx) : S.card ≤ 24000 := by
  rw [← card_entries]
  exact Finset.card_le_univ S

/-- Testing a count against a small bound tests the number. -/
theorem sge_count {n b : ℕ} (hn : n ≤ 24000) (hb : b ≤ 24000) :
    (IntOp.cmpi .sge (BitVec.ofNat 32 n) (BitVec.ofNat 32 b) = 1#1) ↔ b ≤ n := by
  rw [IntOp.cmpi_sge, toInt_ofNat_small n (by omega), toInt_ofNat_small b (by omega)]
  exact Int.ofNat_le

/-- The number of an entry: its bits, read signed. -/
def num (v0 : Vec F S1x384x80 .f32) (y : S300x80.Idx) : ℤ := (k0_pay2 v0 y).toInt

/-- The identifiers of the block's entries, as words. -/
def idWord (v3 : Vec F S1x1x300 .i32) : IVec S300x80 32 :=
  addi (broadcastTo S300x80 (muli (shapeCast S300x1 (shapeCast S300 v3 shapeCasts_S1x1x300_S300) shapeCasts_S300_S300x1) (broadcast S300x1 80#32)) broadcasts_S300x1_S300x80)
    (iota .tc S300x80 32 [1] iota_S300x80_d1_w32)

/-- The identifier of an entry. -/
def idNum (v3 : Vec F S1x1x300 .i32) (y : S300x80.Idx) : ℤ := (idWord (F := F) v3 y).toInt

/-- The bit a trip of the first search tries. -/
theorem bit1 (k : Fin k0_t1_loop.trips) : Scalar.shli 1#32 (Scalar.subi 30#32 (Scf.iv 0#32 1#32 k)) = (1#32 : BitVec 32) <<< (30 - k.val) := by
  revert k; decide +kernel

/-- The bit a trip of the second search tries. -/
theorem bit2 (k : Fin k0_t2_loop.trips) : Scalar.shli 1#32 (Scalar.subi 20#32 (Scf.iv 0#32 1#32 k)) = (1#32 : BitVec 32) <<< (20 - k.val) := by
  revert k; decide +kernel

variable (v0 : Vec F S1x384x80 .f32) (v3 : Vec F S1x1x300 .i32)

/-- The first search's count. -/
theorem count1 (k : Fin k0_t1_loop.trips) (t : BitVec 32) :
    extractAt ![0, 0, 0] (k0_pay3 v0 k t) inpos_S1x1x1_p0_0_0 = BitVec.ofNat 32 (notBelow (num v0) (t ||| ((1#32 : BitVec 32) <<< (30 - k.val))).toInt) := by
  refine (count_eq (cmpi .sge (k0_pay2 v0) (broadcast S300x80 (Scalar.ori t (Scalar.shli 1#32 (Scalar.subi 30#32 (Scf.iv 0#32 1#32 k))))))).trans ?_
  rw [bit1]
  unfold notBelow
  refine congrArg (fun n => BitVec.ofNat 32 n) (congrArg Finset.card (Finset.filter_congr fun y _ => ?_))
  exact IntOp.cmpi_sge

/-- The count of the entries above the word found. -/
theorem count_above (t : BitVec 32) :
    extractAt ![0, 0, 0] (k0_pay4 v0 t) inpos_S1x1x1_p0_0_0 = BitVec.ofNat 32 (notBelow (num v0) (t.toInt + 1)) := by
  refine (count_eq (cmpi .sgt (k0_pay2 v0) (broadcast S300x80 t))).trans ?_
  unfold notBelow
  refine congrArg (fun n => BitVec.ofNat 32 n) (congrArg Finset.card (Finset.filter_congr fun y _ => ?_))
  exact IntOp.cmpi_sgt

/-- The second search's count. -/
theorem count2 (t : BitVec 32) (k : Fin k0_t2_loop.trips) (s : BitVec 32) :
    extractAt ![0, 0, 0] (k0_pay5 v0 v3 t k s) inpos_S1x1x1_p0_0_0
      = BitVec.ofNat 32 (tied (num v0) (idNum (F := F) v3) t.toInt (s + ((1#32 : BitVec 32) <<< (20 - k.val))).toInt) := by
  refine (count_eq (andi (cmpi .eq (k0_pay2 v0) (broadcast S300x80 t))
    (cmpi .slt (idWord (F := F) v3) (broadcast S300x80 (Scalar.addi s (Scalar.shli 1#32 (Scalar.subi 20#32 (Scf.iv 0#32 1#32 k)))))))).trans ?_
  rw [bit2]
  unfold tied
  refine congrArg (fun n => BitVec.ofNat 32 n) (congrArg Finset.card (Finset.filter_congr fun y _ => ?_))
  refine IntOp.andi_eq_one.trans (and_congr ?_ ?_)
  · refine IntOp.cmpi_eq.trans ?_
    exact BitVec.toInt_inj.symm
  · exact IntOp.cmpi_slt

/-- A trip of the first search. -/
theorem step1_eq (k : Fin k0_t1_loop.trips) (t : BitVec 32) :
    step1 v0 k t = if 300 ≤ notBelow (num v0) (t ||| ((1#32 : BitVec 32) <<< (30 - k.val))).toInt then t ||| ((1#32 : BitVec 32) <<< (30 - k.val)) else t := by
  unfold step1
  rw [count1, bit1]
  have h := sge_count (n := notBelow (num v0) (t ||| ((1#32 : BitVec 32) <<< (30 - k.val))).toInt) (b := 300) (card_le _) (by decide)
  exact if_congr h rfl rfl

/-- The first search keeps its invariant to the end. -/
theorem inv1_top (hpos : 300 ≤ notBelow (num v0) 0) : Inv1 (num v0) 31 (top v0) := by
  have hU : ∀ y, num v0 y < 2 ^ 31 := fun y => by
    have := BitVec.toInt_lt (x := k0_pay2 v0 y)
    unfold num
    simpa using this
  exact fold_inv (n := k0_t1_loop.trips) (fun k t => step1 v0 k t) (Inv1 (num v0)) 0#32 (inv1_zero _ hU hpos)
    fun k t h => inv1_step (num v0) (i := k.val) k.isLt h (step1_eq v0 k t)

/-- How many entries at the number found are still wanted. -/
theorem want_eq (h : notBelow (num v0) ((top v0).toInt + 1) < 300) : want v0 = BitVec.ofNat 32 (300 - notBelow (num v0) ((top v0).toInt + 1)) := by
  unfold want
  rw [count_above]
  generalize notBelow (num v0) ((top v0).toInt + 1) = n at h
  show (300#32 : BitVec 32) - BitVec.ofNat 32 n = _
  apply BitVec.eq_of_toNat_eq
  simp only [BitVec.toNat_sub, BitVec.toNat_ofNat]
  omega

/-- A trip of the second search. -/
theorem step2_eq (h : notBelow (num v0) ((top v0).toInt + 1) < 300) (k : Fin k0_t2_loop.trips) (s : BitVec 32) :
    step2 v0 v3 k s = if 300 ≤ notBelow (num v0) ((top v0).toInt + 1) + tied (num v0) (idNum (F := F) v3) (top v0).toInt (s + ((1#32 : BitVec 32) <<< (20 - k.val))).toInt
      then s else s + ((1#32 : BitVec 32) <<< (20 - k.val)) := by
  unfold step2
  rw [count2, bit2, want_eq v0 h]
  have hc := sge_count (n := tied (num v0) (idNum (F := F) v3) (top v0).toInt (s + ((1#32 : BitVec 32) <<< (20 - k.val))).toInt)
    (b := 300 - notBelow (num v0) ((top v0).toInt + 1)) (card_le _) (by omega)
  refine if_congr (hc.trans ?_) rfl rfl
  omega

/-- The two words found are the cut. -/
theorem cut_found (hpos : 300 ≤ notBelow (num v0) 0) (hG : ∀ y, 0 ≤ idNum (F := F) v3 y ∧ idNum (F := F) v3 y < 2 ^ 21) :
    Cut (num v0) (idNum (F := F) v3) (top v0).toInt (last v0 v3).toInt := by
  have h1 := inv1_top v0 hpos
  obtain ⟨-, he, hf⟩ := inv1_last _ h1
  refine cut_of_inv _ _ h1 ?_
  exact fold_inv (n := k0_t2_loop.trips) (fun k s => step2 v0 v3 k s) (Inv2 (num v0) (idNum (F := F) v3) (top v0).toInt) 0#32 (inv2_zero _ _ hG he hf)
    fun k s h => inv2_step (num v0) (idNum (F := F) v3) (i := k.val) k.isLt h (step2_eq v0 v3 hf k s)

end Cert.Proof.Stage3
-- ==== Proof.CutRefVal.lean ====
module

public import proofs.«01_k».proof.Proof.CutMath
public import proofs.«01_k».proof.Proof.Gen.CutReference.Run
public import Idealize.ShloMosaic.Lib.StableHlo.Predicate
public import Idealize.ShloMosaic.Lib.Pointwise

@[expose] public section

set_option maxRecDepth 16384

noncomputable section

/-!
# The cut reference's results, entry by entry

The reference sorts the 24000 entries of an image, the greater number first and then the smaller identifier, and takes
the entry at place 300. So its two results are the cut of the image's entries.
-/

namespace Cert.Proof.Stage3

open Cert.CutReference Cert.CutReference.Gen
open Idealize.ShloMosaic

variable {F : FTy → Type} [BitOps F]
variable (Cand : (⟨3, ![16, 384, 80]⟩ : Shape).Idx → F .f32) (Q : (⟨2, ![16, 384]⟩ : Shape).Idx → BitVec 32)

/-! ## The entries of an image -/

/-- A row below 300 is a row below 384. -/
def up (i : Fin 300) : Fin 384 := i.castLE (by decide)

/-- The bits of the candidate of row `i` and class `k`. -/
def wordAt (b : Fin 16) (i : Fin 300) (k : Fin 80) : BitVec 32 := BitOps.toBits (Cand (ix3 b (up i) k))

/-- The identifier of the candidate of row `i` and class `k`. -/
def idAt (b : Fin 16) (i : Fin 300) (k : Fin 80) : BitVec 32 := Q (ix2 b (up i)) * 80#32 + BitVec.ofNat 32 k.val

/-- The bits of an entry, read signed. -/
def uNum (b : Fin 16) (y : (⟨2, ![300, 80]⟩ : Shape).Idx) : ℤ := (wordAt Cand b (y 0) (y 1)).toInt

/-- The identifier of an entry, read signed. -/
def gNum (b : Fin 16) (y : (⟨2, ![300, 80]⟩ : Shape).Idx) : ℤ := (idAt Q b (y 0) (y 1)).toInt

/-- The row of an entry. -/
def rowOf (n : Fin 24000) : Fin 300 := ⟨n.val / 80, by omega⟩
/-- The class of an entry. -/
def clsOf (n : Fin 24000) : Fin 80 := ⟨n.val % 80, by omega⟩

/-- The entries in their order along an image are the entries by row and class. -/
def entry : Fin 24000 ≃ (⟨2, ![300, 80]⟩ : Shape).Idx where
  toFun n := ix2 (rowOf n) (clsOf n)
  invFun y := ⟨(y 0 : Fin 300).val * 80 + (y 1 : Fin 80).val, by
    have h0 : (y 0 : Fin 300).val < 300 := (y 0).isLt
    have h1 : (y 1 : Fin 80).val < 80 := (y 1).isLt
    omega⟩
  left_inv n := Fin.ext (by show n.val / 80 * 80 + n.val % 80 = n.val; omega)
  right_inv y := by
    have h1 : (y 1 : Fin 80).val < 80 := (y 1).isLt
    funext a
    match a with
    | ⟨0, _⟩ => exact Fin.ext (by show ((y 0 : Fin 300).val * 80 + (y 1 : Fin 80).val) / 80 = (y 0 : Fin 300).val; omega)
    | ⟨1, _⟩ => exact Fin.ext (by show ((y 0 : Fin 300).val * 80 + (y 1 : Fin 80).val) % 80 = (y 1 : Fin 80).val; omega)

/-! ## The reference's arrays -/

/-- The bits of the entries. -/
def hBits : IVec S16x24000 32 :=
  shapeCast _ (bitcastToInt (φ := .f32) (extractStridedSlice S16x300x80 ![0, 0, 0] Cand slices_S16x384x80_S16x300x80_0_0_0)) shapeCasts_S16x300x80_S16x24000

/-- The identifiers of the entries. -/
def hIds : IVec S16x24000 32 :=
  shapeCast _ (addi (broadcastInDim S16x300x80 ![0, 1, 2] bcast_S16x300x1_S16x300x80_0_1_2
      (muli (broadcastInDim S16x300x1 ![0, 1] bcast_S16x300_S16x300x1_0_1 (extractStridedSlice S16x300 ![0, 0] Q slices_S16x384_S16x300_0_0))
        (broadcastInDim S16x300x1 ![] bcast_S_S16x300x1 (constantI S_ 32 80#32))))
    (broadcastInDim S16x300x80 ![0, 1, 2] bcast_S1x1x80_S16x300x80_0_1_2 (broadcastInDim S1x1x80 ![2] bcast_S80_S1x1x80_2 (iotaInDim S80 32 0)))) shapeCasts_S16x300x80_S16x24000

/-- The entries in the sort's order. -/
def hSort : IVec S16x24000 32 × IVec S16x24000 32 := Host.sort2 S16x24000 1 comparator_i32_i32_d1 (noti (hBits Cand)) (hIds Q)

/-- The reference's number. -/
def hTv : FVec F S16x1x16 .f32 :=
  broadcastInDim S16x1x16 ![0, 1, 2] bcast_S16x1x1_S16x1x16_0_1_2 (broadcastInDim S16x1x1 ![0] bcast_S16_S16x1x1_0
    (bitcastToFloat (F := F) .f32 (noti (shapeCast _ (extractStridedSlice S16x1 ![0, 299] (hSort Cand Q).1 slices_S16x24000_S16x1_0_299) shapeCasts_S16x1_S16))))

/-- The reference's identifier. -/
def hTs : IVec S16x1x16 32 :=
  broadcastInDim S16x1x16 ![0, 1, 2] bcast_S16x1x1_S16x1x16_0_1_2 (broadcastInDim S16x1x1 ![0] bcast_S16_S16x1x1_0
    (shapeCast _ (extractStridedSlice S16x1 ![0, 299] (hSort Cand Q).2 slices_S16x24000_S16x1_0_299) shapeCasts_S16x1_S16))

/-- The bits of an entry. -/
theorem hBits_at (b : Fin 16) (n : Fin 24000) : hBits Cand (ix2 b n) = wordAt Cand b (rowOf n) (clsOf n) := by
  unfold hBits
  rw [shapeCast_apply _ _ (ix2 b n) (ix3 b (rowOf n) (clsOf n)) (by
    rw [Shape.rowMajor_val_two, Shape.rowMajor_val_three]
    show (b.val * 300 + n.val / 80) * 80 + n.val % 80 = b.val * 24000 + n.val
    omega)]
  pointwise
  rfl

/-- The identifier of an entry. -/
theorem hIds_at (b : Fin 16) (n : Fin 24000) : hIds Q (ix2 b n) = idAt Q b (rowOf n) (clsOf n) := by
  unfold hIds
  rw [shapeCast_apply _ _ (ix2 b n) (ix3 b (rowOf n) (clsOf n)) (by
    rw [Shape.rowMajor_val_two, Shape.rowMajor_val_three]
    show (b.val * 300 + n.val / 80) * 80 + n.val % 80 = b.val * 24000 + n.val
    omega)]
  pointwise
  rfl

/-! ## The sort -/

/-- Turning every bit reverses the signed order. -/
theorem toInt_not (x : BitVec 32) : (~~~x).toInt = -1 - x.toInt := by
  rw [BitVec.toInt_eq_toNat_cond, BitVec.toInt_eq_toNat_cond, BitVec.toNat_not]
  have := x.isLt
  split <;> split <;> omega

/-- The comparison as a bit and as a truth value. -/
theorem before_bit (a b c : Bool) :
    (IntOp.ori (BitVec.ofBool a) (IntOp.andi (BitVec.ofBool b) (BitVec.ofBool c)) == 1#1) = (a || (b && c)) := by
  cases a <;> cases b <;> cases c <;> rfl

/-- The entries of an image in their order, as numbers. -/
abbrev uRow (b : Fin 16) (n : Fin 24000) : ℤ := (hBits Cand (ix2 b n)).toInt
/-- Their identifiers. -/
abbrev gRow (b : Fin 16) (n : Fin 24000) : ℤ := (hIds Q (ix2 b n)).toInt

/-- The sort's comparison of two entries says which is sooner. -/
theorem before_eq (b : Fin 16) (x y : Fin 24000) :
    (comparator_i32_i32_d1 (noti (hBits Cand) (ix2 b x), hIds Q (ix2 b x)) (noti (hBits Cand) (ix2 b y), hIds Q (ix2 b y)) == 1#1)
      = sooner (uRow Cand b) (gRow Q b) x y := by
  refine (before_bit (decide ((~~~hBits Cand (ix2 b x)).toInt < (~~~hBits Cand (ix2 b y)).toInt)) (~~~hBits Cand (ix2 b x) == ~~~hBits Cand (ix2 b y))
    (decide ((hIds Q (ix2 b x)).toInt < (hIds Q (ix2 b y)).toInt))).trans ?_
  unfold sooner
  rw [toInt_not, toInt_not]
  congr 1
  · exact decide_eq_decide.2 (by show _ ↔ (hBits Cand (ix2 b y)).toInt < (hBits Cand (ix2 b x)).toInt; omega)
  · congr 1
    rw [beq_eq_decide]
    refine decide_eq_decide.2 ?_
    rw [BitVec.not_inj, BitVec.toInt_inj]

/-- Moving along the second axis of a two-dimensional index. -/
theorem along_snd (b : Fin 16) (n x : Fin 24000) : (ix2 b n : S16x24000.Idx).along 1 x = ix2 b x := by
  funext a
  match a with
  | ⟨0, _⟩ => exact Function.update_of_ne (show (0 : Fin 2) ≠ 1 by decide) _ _
  | ⟨1, _⟩ => exact Function.update_self _ _ _

/-- The entry that the sort puts at a place. -/
def placed (b : Fin 16) (j : Fin 24000) : Fin 24000 := sortedFrom (sooner (uRow Cand b) (gRow Q b)) j

/-- The sort's permutation. -/
theorem perm_eq (b : Fin 16) (j : Fin 24000) :
    sortedFrom (fun k k' : Fin 24000 => comparator_i32_i32_d1 (noti (hBits Cand) ((ix2 b j : S16x24000.Idx).along 1 k), hIds Q ((ix2 b j : S16x24000.Idx).along 1 k))
      (noti (hBits Cand) ((ix2 b j : S16x24000.Idx).along 1 k'), hIds Q ((ix2 b j : S16x24000.Idx).along 1 k')) == 1#1) j = placed Cand Q b j := by
  unfold placed
  refine congrArg (fun B => sortedFrom B j) (funext fun x => funext fun y => Eq.trans ?_ (before_eq Cand Q b x y))
  exact congrArg₂ (fun z w : S16x24000.Idx =>
    (comparator_i32_i32_d1 (noti (hBits Cand) z, hIds Q z) (noti (hBits Cand) w, hIds Q w) == 1#1)) (along_snd b _ x) (along_snd b _ y)

/-- The sorted bits. -/
theorem hSort_fst (b : Fin 16) (j : Fin 24000) : (hSort Cand Q).1 (ix2 b j) = ~~~(hBits Cand (ix2 b (placed Cand Q b j))) := by
  unfold hSort Host.sort2
  rw [dif_pos (by decide : 1 < S16x24000.rank)]
  refine (congrArg (noti (hBits Cand)) (along_snd b _ _)).trans ?_
  exact congrArg (fun q : Fin 24000 => noti (hBits Cand) (ix2 b q)) (perm_eq Cand Q b j)

/-- The sorted identifiers. -/
theorem hSort_snd (b : Fin 16) (j : Fin 24000) : (hSort Cand Q).2 (ix2 b j) = hIds Q (ix2 b (placed Cand Q b j)) := by
  unfold hSort Host.sort2
  rw [dif_pos (by decide : 1 < S16x24000.rank)]
  refine (congrArg (hIds Q) (along_snd b _ _)).trans ?_
  exact congrArg (fun q : Fin 24000 => hIds Q (ix2 b q)) (perm_eq Cand Q b j)

/-- The place of the entry that is cut at. -/
def at300 : Fin 24000 := ⟨299, by decide⟩

/-- The word of the entry that is cut at. -/
def cutWord (b : Fin 16) : BitVec 32 := hBits Cand (ix2 b (placed Cand Q b at300))
/-- The identifier of the entry that is cut at. -/
def cutId (b : Fin 16) : BitVec 32 := hIds Q (ix2 b (placed Cand Q b at300))

/-- They are the cut of the image's entries. -/
theorem cut_reference (b : Fin 16) : Cut (uNum Cand b) (gNum Q b) (cutWord Cand Q b).toInt (cutId Cand Q b).toInt :=
  Cut.of_equiv (U := uNum Cand b) (G := gNum Q b) entry (V := uRow Cand b) (H := gRow Q b)
    (fun n => (congrArg BitVec.toInt (hBits_at Cand b n)).symm) (fun n => (congrArg BitVec.toInt (hIds_at Q b n)).symm)
    (cut_sortedFrom (uRow Cand b) (gRow Q b) at300 rfl)

/-- The reference's number at an image. -/
theorem hTv_at (b : Fin 16) (l : Fin 16) : hTv Cand Q (ix3 b (0 : Fin 1) l) = FloatOps.ofBits .f32 (cutWord Cand Q b) := by
  unfold hTv
  pointwise
  refine congrArg (FloatOps.ofBits (F := F) .f32) ?_
  refine (congrArg (fun w : BitVec 32 => ~~~w) (Eq.trans ?_ (hSort_fst Cand Q b at300))).trans (BitVec.not_not)
  rfl

/-- The reference's identifier at an image. -/
theorem hTs_at (b : Fin 16) (l : Fin 16) : hTs Cand Q (ix3 b (0 : Fin 1) l) = cutId Cand Q b := by
  unfold hTs
  pointwise
  refine Eq.trans ?_ (hSort_snd Cand Q b at300)
  rfl

end Cert.Proof.Stage3
-- ==== Proof.CutPre.lean ====
module

public import proofs.«01_k».proof.Proof.CutRefVal
public import proofs.«01_k».proof.Proof.Gen.Pre_scores_fit
public import Idealize.ShloMosaic.Lib.StableHlo.Predicate
public import Idealize.ShloMosaic.Lib.ReduceAll
public import Idealize.ShloMosaic.Lib.Affine

@[expose] public section

set_option maxRecDepth 16384

noncomputable section

/-!
# What the cut's precondition says

Every identifier of the first 300 rows is that of a query, and every image has at least 300 entries whose bits, read
signed, are not negative.
-/

namespace Cert.Proof.Stage3

open Cert.CutReference Cert.CutReference.Gen
open Idealize.ShloMosaic
open Idealize.ShloMosaic.StableHlo.Predicate (toNat_reduce_count_cols toInt_ofNat_small)

variable {F : FTy → Type} [BitOps F]
variable (Cand : (⟨3, ![16, 384, 80]⟩ : Shape).Idx → F .f32) (Q : (⟨2, ![16, 384]⟩ : Shape).Idx → BitVec 32)

/-- A word that is at least zero and below `N`, read signed, is below `N` read unsigned. -/
theorem below_of_signed {w : BitVec 32} {N : ℕ} (hN : N < 2 ^ 31) (h0 : IntOp.cmpi .sge w 0#32 = 1#1)
    (h1 : IntOp.cmpi .slt w (BitVec.ofNat 32 N) = 1#1) : w.toNat < N := by
  rw [IntOp.cmpi_sge, show (0#32 : BitVec 32).toInt = 0 from rfl] at h0
  rw [IntOp.cmpi_slt, toInt_ofNat_small N hN] at h1
  have hw := w.isLt
  have hi := BitVec.toInt_eq_toNat_cond w
  split at hi <;> omega

/-- The identifiers of an image whose queries are in range are below `2 ^ 21`. -/
theorem gNum_bounds (b : Fin 16) (h : ∀ i : Fin 300, (Q (ix2 b (up i))).toNat < 20000) (y : (⟨2, ![300, 80]⟩ : Shape).Idx) :
    0 ≤ gNum Q b y ∧ gNum Q b y < 2 ^ 21 := by
  have hq := h (y 0)
  have hk : (y 1 : Fin 80).val < 80 := (y 1).isLt
  unfold gNum idAt
  generalize Q (ix2 b (up (y 0))) = q at hq ⊢
  generalize (y 1 : Fin 80).val = k at hk ⊢
  have e : (q * 80#32 + BitVec.ofNat 32 k).toNat = q.toNat * 80 + k := by
    simp only [BitVec.toNat_add, BitVec.toNat_mul, BitVec.toNat_ofNat]
    omega
  rw [toInt_small (by omega), e]
  omega

/-- The precondition holds: image by image, there are enough entries and the identifiers are in range. -/
theorem fits_of_pre (hpre : Cert.Pre_scores_fit.fn (F := F) Cand Q = fun _ => 1#1) (b : Fin 16) :
    300 ≤ notBelow (uNum Cand b) 0 ∧ ∀ y, 0 ≤ gNum Q b y ∧ gNum Q b y < 2 ^ 21 := by
  have e := congrFun hpre (fun a => a.elim0)
  unfold Cert.Pre_scores_fit.fn Cert.Pre_scores_fit.fn_part1 at e
  obtain ⟨e1, e2⟩ := IntOp.andi_eq_one.1 e
  constructor
  · have c1 := Host.reduce_andi_eq_one _ _ _ _ _ e2 (ix1 b) (Subsingleton.elim _ _)
    have hk := toNat_reduce_count_cols (n := 16) (m := 24000) (by decide)
      (cmpi .sge (hBits Cand) (broadcastInDim S16x24000 ![] Cert.Pre_scores_fit.Gen.bcast_S_S16x24000 (constantI S_ 32 0#32)))
      Cert.Pre_scores_fit.Gen.natLt_1_32 Cert.Pre_scores_fit.Gen.reducesTo_S16x24000_S16_d1 Cert.Pre_scores_fit.Gen.h_S_ (ix1 b)
    generalize hw : Host.reduce IntOp.addi (extui 32 (cmpi .sge (hBits Cand) (broadcastInDim S16x24000 ![] Cert.Pre_scores_fit.Gen.bcast_S_S16x24000 (constantI S_ 32 0#32)))
      Cert.Pre_scores_fit.Gen.natLt_1_32) (constantI S_ 32 0#32) Cert.Pre_scores_fit.Gen.reducesTo_S16x24000_S16_d1 Cert.Pre_scores_fit.Gen.h_S_ (ix1 b) = w at hk
    have c1' : IntOp.cmpi .sge w 300#32 = 1#1 := hw ▸ c1
    have hn : w.toNat = notBelow (uNum Cand b) 0 := by
      rw [hk]
      unfold notBelow
      refine Finset.card_equiv entry fun n => ?_
      simp only [Finset.mem_filter, Finset.mem_univ, true_and]
      show IntOp.cmpi .sge (hBits Cand (ix2 b n)) 0#32 = 1#1 ↔ _
      rw [IntOp.cmpi_sge, hBits_at]
      rfl
    have hle : notBelow (uNum Cand b) 0 ≤ 24000 := by
      unfold notBelow
      refine (Finset.card_le_univ _).trans (le_of_eq ?_)
      rw [← Fintype.card_congr entry, Fintype.card_fin]
    rw [← hn] at hle ⊢
    rw [IntOp.cmpi_sge, toInt_small (t := w) (by omega)] at c1'
    have h3 : (300#32 : BitVec 32).toInt = 300 := by decide
    rw [h3] at c1'
    exact_mod_cast c1'
  · refine gNum_bounds Q b fun i => ?_
    have hq := Host.reduce_andi_eq_one _ _ _ _ _ e1 (ix2 b i) (Subsingleton.elim _ _)
    obtain ⟨q1, q2⟩ := IntOp.andi_eq_one.1 hq
    have e0 : extractStridedSlice S16x300 ![0, 0] Q slices_S16x384_S16x300_0_0 (ix2 b i) = Q (ix2 b (up i)) := by
      pointwise
      rfl
    have hc : (extractStridedSlice S16x300 ![0, 0] Q slices_S16x384_S16x300_0_0 (ix2 b i)).toNat < 20000 := below_of_signed (by decide) q1 q2
    rw [e0] at hc
    exact hc

end Cert.Proof.Stage3
-- ==== Proof.CutBlk.lean ====
module

public import proofs.«01_k».proof.Proof.CutVal
public import proofs.«01_k».proof.Proof.CutPre
public import Idealize.ShloMosaic.Lib.Pipeline.ValueKit

@[expose] public section

set_option maxRecDepth 16384

noncomputable section

/-!
# The cut call's two results

The block of grid point `t` holds the entries of image `t`, so the two words the body stores there are the cut of that
image's entries; those are the reference's, for a cut is unique.
-/

namespace Cert.Proof.Stage3

open Cert.CutKernel Cert.CutKernel.Gen
open Idealize.ShloMosaic

variable {F : FTy → Type} [BitOps F]
variable (m : (ℓ : Loc nD τ sig) → Buf (Elt F) ℓ)

/-- Grid point `t` works on image `t`. -/
abbrev img (t : Fin cfg0.N) : Fin 16 := ⟨t.val, t.isLt⟩

/-- The array of identifiers that the call finds. -/
theorem V_v0 (c : Dev nD) : V m c main_v0 = shapeCast S16x1x384 (m ((c.tc : Thread nD τ).loc main_arg1)) shapeCasts_S16x384_S16x1x384 := by
  unfold_abbrev_sides
  after_results
  rfl

/-- Which block window 0 takes along axis 0. -/
theorem idx0_0 (t : Fin cfg0.N) : win0_0.index t 0 = t.val :=
  (by decide +kernel : ∀ t : Fin cfg0.N, win0_0.index t 0 = t.val) t
/-- Which block window 0 takes along axis 1. -/
theorem idx0_1 (t : Fin cfg0.N) : win0_0.index t 1 = 0 :=
  (by decide +kernel : ∀ t : Fin cfg0.N, win0_0.index t 1 = 0) t
/-- Which block window 0 takes along axis 2. -/
theorem idx0_2 (t : Fin cfg0.N) : win0_0.index t 2 = 0 :=
  (by decide +kernel : ∀ t : Fin cfg0.N, win0_0.index t 2 = 0) t
/-- Which block window 1 takes along axis 0. -/
theorem idx1_0 (t : Fin cfg0.N) : win0_1.index t 0 = t.val :=
  (by decide +kernel : ∀ t : Fin cfg0.N, win0_1.index t 0 = t.val) t
/-- Which block window 1 takes along axis 1. -/
theorem idx1_1 (t : Fin cfg0.N) : win0_1.index t 1 = 0 :=
  (by decide +kernel : ∀ t : Fin cfg0.N, win0_1.index t 1 = 0) t
/-- Which block window 1 takes along axis 2. -/
theorem idx1_2 (t : Fin cfg0.N) : win0_1.index t 2 = 0 :=
  (by decide +kernel : ∀ t : Fin cfg0.N, win0_1.index t 2 = 0) t
/-- Which block window 2 takes along axis 0. -/
theorem idx2_0 (t : Fin cfg0.N) : win0_2.index t 0 = t.val :=
  (by decide +kernel : ∀ t : Fin cfg0.N, win0_2.index t 0 = t.val) t
/-- Which block window 2 takes along axis 1. -/
theorem idx2_1 (t : Fin cfg0.N) : win0_2.index t 1 = 0 :=
  (by decide +kernel : ∀ t : Fin cfg0.N, win0_2.index t 1 = 0) t
/-- Which block window 2 takes along axis 2. -/
theorem idx2_2 (t : Fin cfg0.N) : win0_2.index t 2 = 0 :=
  (by decide +kernel : ∀ t : Fin cfg0.N, win0_2.index t 2 = 0) t
/-- Which block window 3 takes along axis 0. -/
theorem idx3_0 (t : Fin cfg0.N) : win0_3.index t 0 = t.val :=
  (by decide +kernel : ∀ t : Fin cfg0.N, win0_3.index t 0 = t.val) t
/-- Which block window 3 takes along axis 1. -/
theorem idx3_1 (t : Fin cfg0.N) : win0_3.index t 1 = 0 :=
  (by decide +kernel : ∀ t : Fin cfg0.N, win0_3.index t 1 = 0) t
/-- Which block window 3 takes along axis 2. -/
theorem idx3_2 (t : Fin cfg0.N) : win0_3.index t 2 = 0 :=
  (by decide +kernel : ∀ t : Fin cfg0.N, win0_3.index t 2 = 0) t

/-- Where an entry of window 0's block lies in the array. -/
theorem emb0 (t : Fin cfg0.N) (i : Fin 384) (k : Fin 80) :
    (((cfg0.win 0).blk t).view.emb (whole0.idx (ix3 (0 : Fin 1) i k)) : S16x384x80.Idx) = ix3 (img t) i k := by
  funext a
  apply Fin.ext
  match a with
  | ⟨0, _⟩ => blk_simp; exact idx0_0 t
  | ⟨1, _⟩ => blk_simp; show _ * 384 + (0 + 1 * i.val) = i.val; rw [idx0_1]; omega
  | ⟨2, _⟩ => blk_simp; show _ * 80 + (0 + 1 * k.val) = k.val; rw [idx0_2]; omega

/-- Where an entry of window 1's block lies in the array. -/
theorem emb1 (t : Fin cfg0.N) (i : Fin 300) :
    (((cfg0.win 1).blk t).view.emb (first1.idx (ix3 (0 : Fin 1) (0 : Fin 1) i)) : S16x1x384.Idx) = ix3 (img t) (0 : Fin 1) (up i) := by
  funext a
  apply Fin.ext
  match a with
  | ⟨0, _⟩ => blk_simp; exact idx1_0 t
  | ⟨1, _⟩ => blk_simp; exact idx1_1 t
  | ⟨2, _⟩ => blk_simp; show _ * 384 + (0 + 1 * i.val) = i.val; rw [idx1_2]; omega

/-- Where an entry of window 2's block lies in the array. -/
theorem emb2 (t : Fin cfg0.N) (l : Fin 16) : (((cfg0.win 2).blk t).view.emb (ix3 (0 : Fin 1) (0 : Fin 1) l) : S16x1x16.Idx) = ix3 (img t) (0 : Fin 1) l := by
  funext a
  apply Fin.ext
  match a with
  | ⟨0, _⟩ => blk_simp; exact idx2_0 t
  | ⟨1, _⟩ => blk_simp; exact idx2_1 t
  | ⟨2, _⟩ => blk_simp; show _ * 16 + l.val = l.val; rw [idx2_2]; omega

/-- Where an entry of window 3's block lies in the array. -/
theorem emb3 (t : Fin cfg0.N) (l : Fin 16) : (((cfg0.win 3).blk t).view.emb (ix3 (0 : Fin 1) (0 : Fin 1) l) : S16x1x16.Idx) = ix3 (img t) (0 : Fin 1) l := by
  funext a
  apply Fin.ext
  match a with
  | ⟨0, _⟩ => blk_simp; exact idx3_0 t
  | ⟨1, _⟩ => blk_simp; exact idx3_1 t
  | ⟨2, _⟩ => blk_simp; show _ * 16 + l.val = l.val; rw [idx3_2]; omega

/-! ## The entries loaded -/

/-- The bits of an entry of a block. -/
theorem pay2_at (v0 : Vec F S1x384x80 .f32) (i : Fin 300) (k : Fin 80) : k0_pay2 v0 (ix2 i k) = BitOps.toBits (v0 (ix3 (0 : Fin 1) (up i) k)) := by
  unfold k0_pay2
  pointwise
  rfl

/-- The identifier of an entry of a block. -/
theorem idWord_at (v3 : Vec F S1x1x300 .i32) (i : Fin 300) (k : Fin 80) :
    idWord (F := F) v3 (ix2 i k) = v3 (ix3 (0 : Fin 1) (0 : Fin 1) i) * 80#32 + BitVec.ofNat 32 k.val := by
  unfold idWord
  pointwise
  rfl

/-- The numbers loaded at a grid point are those of its image. -/
theorem num_ld (c : Dev nD) (t : Fin cfg0.N) : num (View.ld (iblk m c 0 t) whole0) = uNum (m (c.tc.loc main_arg0)) (img t) := by
  funext y
  obtain ⟨i, k, rfl⟩ : ∃ (i : Fin 300) (k : Fin 80), y = ix2 i k := ⟨y 0, y 1, ValueIdx.eq_ix2 y⟩
  unfold num uNum wordAt
  rw [pay2_at, View.ld_apply]
  unfold iblk
  show (BitOps.toBits (V m c main_arg0 (((cfg0.win 0).blk t).view.emb (whole0.idx (ix3 (0 : Fin 1) (up i) k)))) : BitVec 32).toInt = _
  rw [emb0, V_main_arg0]
  rfl

/-- The identifiers loaded at a grid point are those of its image. -/
theorem idNum_ld (c : Dev nD) (t : Fin cfg0.N) : idNum (F := F) (View.ld (iblk m c 1 t) first1) = gNum (m (c.tc.loc main_arg1)) (img t) := by
  funext y
  obtain ⟨i, k, rfl⟩ : ∃ (i : Fin 300) (k : Fin 80), y = ix2 i k := ⟨y 0, y 1, ValueIdx.eq_ix2 y⟩
  unfold idNum gNum idAt
  rw [idWord_at, View.ld_apply]
  unfold iblk
  refine congrArg (fun w : BitVec 32 => (w * 80#32 + BitVec.ofNat 32 k.val).toInt) ?_
  show V m c main_v0 (((cfg0.win 1).blk t).view.emb (first1.idx (ix3 (0 : Fin 1) (0 : Fin 1) i))) = _
  rw [emb1, V_v0]
  pointwise

/-- The arguments satisfy the precondition, image by image. -/
abbrev FitsAll (c : Dev nD) : Prop := ∀ b : Fin 16, 300 ≤ notBelow (uNum (m (c.tc.loc main_arg0)) b) 0
  ∧ ∀ y, 0 ≤ gNum (m (c.tc.loc main_arg1)) b y ∧ gNum (m (c.tc.loc main_arg1)) b y < 2 ^ 21

/-- The two words found at a grid point are the reference's for its image. -/
theorem words_eq (c : Dev nD) (h : FitsAll m c) (t : Fin cfg0.N) :
    top (View.ld (iblk m c 0 t) whole0) = cutWord (m (c.tc.loc main_arg0)) (m (c.tc.loc main_arg1)) (img t)
      ∧ last (View.ld (iblk m c 0 t) whole0) (View.ld (iblk m c 1 t) first1) = cutId (m (c.tc.loc main_arg0)) (m (c.tc.loc main_arg1)) (img t) := by
  have hc := cut_found (View.ld (iblk m c 0 t) whole0) (View.ld (iblk m c 1 t) first1)
    (by rw [num_ld]; exact (h (img t)).1) (by rw [idNum_ld]; exact (h (img t)).2)
  rw [num_ld, idNum_ld] at hc
  obtain ⟨h1, h2⟩ := Cut.unique (U := uNum (m (c.tc.loc main_arg0)) (img t)) (G := gNum (m (c.tc.loc main_arg1)) (img t)) hc
    (cut_reference (m (c.tc.loc main_arg0)) (m (c.tc.loc main_arg1)) (img t))
  exact ⟨BitVec.eq_of_toInt_eq h1, BitVec.eq_of_toInt_eq h2⟩

/-! ## The arrays -/

/-- The stored number, at every lane. -/
theorem pay6_at (w : BitVec 32) (l : Fin 16) : k0_pay6 (F := F) w (ix3 (0 : Fin 1) (0 : Fin 1) l) = FloatOps.ofBits .f32 w := by
  unfold k0_pay6
  pointwise

/-- The stored identifier, at every lane. -/
theorem pay1_at (w : BitVec 32) (l : Fin 16) : k0_pay1 (k0_pay7 w) (ix3 (0 : Fin 1) (0 : Fin 1) l) = w := by
  unfold k0_pay1 k0_pay7
  pointwise

/-- An index of a block of lanes. -/
theorem lane_idx (y : S1x1x16.Idx) : ∃ l : Fin 16, y = ix3 (0 : Fin 1) (0 : Fin 1) l := by
  refine ⟨y 2, funext fun a => ?_⟩
  match a with
  | ⟨0, _⟩ => exact Subsingleton.elim (α := Fin 1) _ _
  | ⟨1, _⟩ => exact Subsingleton.elim (α := Fin 1) _ _
  | ⟨2, _⟩ => rfl

/-- A block of numbers, the same at every lane. -/
def lanes2 (w : BitVec 32) : Vec F S1x1x16 .f32 := View.canon [⟨whole2, k0_pay6 w⟩]

/-- A block of identifiers, the same at every lane. -/
def lanes3 (w : BitVec 32) : Vec F S1x1x16 .i32 := View.canon [⟨whole2, k0_pay1 (k0_pay7 w)⟩]

/-- The block of numbers stored at a grid point. -/
theorem out2_eq (c : Dev nD) (h : FitsAll m c) (t : Fin cfg0.N) :
    out2 (iblk m c 0 t) = lanes2 (cutWord (m (c.tc.loc main_arg0)) (m (c.tc.loc main_arg1)) (img t)) :=
  congrArg (lanes2 (F := F)) (words_eq m c h t).1

/-- The block of identifiers stored at a grid point. -/
theorem out3_eq (c : Dev nD) (h : FitsAll m c) (t : Fin cfg0.N) :
    out3 (iblk m c 0 t) (iblk m c 1 t) = lanes3 (F := F) (cutId (m (c.tc.loc main_arg0)) (m (c.tc.loc main_arg1)) (img t)) :=
  congrArg (lanes3 (F := F)) (words_eq m c h t).2

/-- The array of numbers after the run is the reference's. -/
theorem tv_eq (c : Dev nD) (h : FitsAll m c) : (dats m 0 c).arrAt 2 cfg0.N = hTv (m (c.tc.loc main_arg0)) (m (c.tc.loc main_arg1)) := by
  refine (dats m 0 c).arrAt_eq_of_covers 2 _ (by decide +kernel) fun t hf y => ?_
  blk_simp
  rw [after0_2]
  refine (congrFun (out2_eq m c h t) y).trans ?_
  unfold lanes2
  frame_out
  obtain ⟨l, rfl⟩ := lane_idx y
  refine (pay6_at _ l).trans ?_
  exact ((congrArg (hTv (m (c.tc.loc main_arg0)) (m (c.tc.loc main_arg1))) (emb2 t l)).trans (hTv_at _ _ (img t) l)).symm

/-- The array of identifiers after the run is the reference's. -/
theorem ts_eq (c : Dev nD) (h : FitsAll m c) : (dats m 0 c).arrAt 3 cfg0.N = hTs (m (c.tc.loc main_arg0)) (m (c.tc.loc main_arg1)) := by
  refine (dats m 0 c).arrAt_eq_of_covers 3 _ (by decide +kernel) fun t hf y => ?_
  blk_simp
  rw [after0_3]
  refine (congrFun (out3_eq m c h t) y).trans ?_
  unfold lanes3
  frame_out
  obtain ⟨l, rfl⟩ := lane_idx y
  refine (pay1_at _ l).trans ?_
  exact ((congrArg (hTs (m (c.tc.loc main_arg0)) (m (c.tc.loc main_arg1))) (emb3 t l)).trans (hTs_at _ _ (img t) l)).symm

end Cert.Proof.Stage3
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_candidates_fit
public import proofs.«01_k».proof.Proof.Gen.RowsKernel
public import proofs.«01_k».proof.Proof.Gen.RowsKernelIdeal
public import proofs.«01_k».proof.Proof.Gen.RowsKernelIdeal.Skeleton
public import proofs.«01_k».proof.Proof.Gen.RowsReferenceIdeal
public import proofs.«01_k».proof.Proof.Gen.RowsReferenceIdeal.Run
public import proofs.«01_k».proof.Proof.Gen.Pre_rows_fit
public import proofs.«01_k».proof.Proof.Gen.ScoresKernel
public import proofs.«01_k».proof.Proof.Gen.ScoresKernel.Points
public import proofs.«01_k».proof.Proof.Gen.ScoresKernel.Launch
public import proofs.«01_k».proof.Proof.Gen.ScoresKernel.Skeleton
public import proofs.«01_k».proof.Proof.Gen.ScoresKernel.Frame
public import proofs.«01_k».proof.Proof.Gen.ScoresKernelIdeal
public import proofs.«01_k».proof.Proof.Gen.ScoresKernelIdeal.Points
public import proofs.«01_k».proof.Proof.Gen.ScoresKernelIdeal.Launch
public import proofs.«01_k».proof.Proof.Gen.ScoresKernelIdeal.Skeleton
public import proofs.«01_k».proof.Proof.Gen.ScoresKernelIdeal.Frame
public import proofs.«01_k».proof.Proof.Gen.ScoresReferenceIdeal
public import proofs.«01_k».proof.Proof.Gen.ScoresReferenceIdeal.Run
public import proofs.«01_k».proof.Proof.Gen.SortKernel
public import proofs.«01_k».proof.Proof.Gen.SortKernel.Frame
public import proofs.«01_k».proof.Proof.Gen.SortKernelIdeal
public import proofs.«01_k».proof.Proof.Gen.SortKernelIdeal.Value
public import proofs.«01_k».proof.Proof.Gen.SortReferenceIdeal
public import proofs.«01_k».proof.Proof.Gen.SortReferenceIdeal.Run
public import proofs.«01_k».proof.Proof.Gen.Pre_ids_differ
public import proofs.«01_k».proof.Proof.Gen.CutKernel
public import proofs.«01_k».proof.Proof.Gen.CutKernel.Points
public import proofs.«01_k».proof.Proof.Gen.CutKernel.Launch
public import proofs.«01_k».proof.Proof.Gen.CutKernel.Skeleton
public import proofs.«01_k».proof.Proof.Gen.CutKernel.Frame
public import proofs.«01_k».proof.Proof.Gen.CutReference
public import proofs.«01_k».proof.Proof.Gen.CutReference.Run
public import proofs.«01_k».proof.Proof.Gen.Pre_scores_fit
public import proofs.«01_k».proof.Proof.Value
public import proofs.«01_k».proof.Proof.RowValue
public import proofs.«01_k».proof.Proof.SortPre
public import proofs.«01_k».proof.Proof.ScoresRunWord
public import proofs.«01_k».proof.Proof.ScoresBlk
public import proofs.«01_k».proof.Proof.CutBlk
public import Idealize.ShloMosaic.Adequacy
public import Idealize.ShloMosaic.Init

@[expose] public section

set_option maxRecDepth 8192

noncomputable section

namespace Cert.Proof

open Idealize.ShloMosaic Idealize.SL.Sem Cert.Proof.Stage4

/-- The precondition gives what the kernel's run asks of its arguments. -/
theorem allFit_of_pre {F : FTy → Type} [FloatOps F] (m : (ℓ : Loc Cert.KernelIdeal.nD Cert.KernelIdeal.τ Cert.KernelIdeal.sig) → Buf (Elt F) ℓ)
    (hpre : ∀ d, Cert.Pre_candidates_fit.fn (F := F) (aCand m d) (aCandq m d) (aTv m d) (aTs m d) (aBoxes m d) = fun _ => 1#1) : AllFit m :=
  fun d b => (fits_of_pre _ _ _ _ _ (hpre d) b).1

/-- The kernel runs and leaves its arguments and semaphores alone. -/
theorem frame_kernel : Cert.quiescent_Kernel := fun m ρ hpre =>
  (θ_run Cert.KernelIdeal.defs _ _).mono (fun _ h => ⟨fun c => (h.1 c).1, h.2⟩) (run_main (F := Bits) m ρ (allFit_of_pre (F := Bits) m hpre))

/-- So does its idealization. -/
theorem frame_ideal : Cert.quiescent_KernelIdeal := fun m ρ hpre =>
  (θ_run Cert.KernelIdeal.defs _ _).mono (fun _ h => ⟨fun c => (h.1 c).1, h.2⟩) (run_main (F := Ideal) m ρ (allFit_of_pre (F := Ideal) m hpre))

/-- So does the reference. -/
theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

section Results

open Cert.ReferenceIdeal Cert.ReferenceIdeal.Gen Cert.ReferenceIdeal.Value

variable (m' : (ℓ : Loc nD τ sig) → Buf (Elt Ideal) ℓ) (c : Dev nD)
  {Cand : Vec Ideal S16x384x80 .f32} {Candq : Vec Ideal S16x384 .i32} {Tv : Vec Ideal S16x1x16 .f32} {Ts : Vec Ideal S16x1x16 .i32}
  {Boxes : Vec Ideal S16x20000x4 .f32}
  (h0 : m' ((c.tc : Thread nD τ).loc main_arg0) = Cand) (h1 : m' ((c.tc : Thread nD τ).loc main_arg1) = Candq)
  (h2 : m' ((c.tc : Thread nD τ).loc main_arg2) = Tv) (h3 : m' ((c.tc : Thread nD τ).loc main_arg3) = Ts)
  (h4 : m' ((c.tc : Thread nD τ).loc main_arg4) = Boxes)
include h0 h1 h2 h3

/-- The reference's values. -/
theorem ref_values : res_main_v30 m' c = Host.gather gather_S16x24000_S16x300x1_S16x300_n_1_0_0_1_2_11 (hVf Cand) (hIdx Cand Candq Tv Ts) := by
  subst h0 h1 h2 h3
  unfold res_main_v30
  rfl

/-- The reference's identifiers. -/
theorem ref_ids : res_main_v31 m' c = Host.gather gather_S16x24000_S16x300x1_S16x300_n_1_0_0_1_2_11 (hGf (F := Ideal) Candq) (hIdx Cand Candq Tv Ts) := by
  subst h0 h1 h2 h3
  unfold res_main_v31
  rfl

include h4

/-- The reference's boxes. -/
theorem ref_boxes : res_main_v37 m' c = Host.gather gather_S16x20000x4_S16x300x1_S16x300x4_2_1_0_0_1_2_114 Boxes (hBoxIdx Cand Candq Tv Ts) := by
  subst h0 h1 h2 h3 h4
  unfold res_main_v37
  rfl

end Results

/-- The kernel's results are the reference's. -/
theorem value : Cert.algebraic_KernelIdeal_ReferenceIdeal := by
  intro m g m' g' hpre hargs
  refine ⟨fun c => Host.gather Cert.ReferenceIdeal.gather_S16x24000_S16x300x1_S16x300_n_1_0_0_1_2_11 (hVf (aCand m c)) (hIdx (aCand m c) (aCandq m c) (aTv m c) (aTs m c)),
    fun c => Host.gather Cert.ReferenceIdeal.gather_S16x24000_S16x300x1_S16x300_n_1_0_0_1_2_11 (hGf (F := Ideal) (aCandq m c)) (hIdx (aCand m c) (aCandq m c) (aTv m c) (aTs m c)),
    fun c => Host.gather Cert.ReferenceIdeal.gather_S16x20000x4_S16x300x1_S16x300x4_2_1_0_0_1_2_114 (aBoxes m c) (hBoxIdx (aCand m c) (aCandq m c) (aTv m c) (aTs m c)), ?_, ?_⟩
  · refine (θ_run Cert.KernelIdeal.defs _ _).mono (fun r h c => ?_) (run_main (F := Ideal) m g (allFit_of_pre (F := Ideal) m hpre))
    obtain ⟨ha, fs, hd, e0, e1, e2⟩ := h.1 c
    exact ⟨e0.trans (values_eq _ _ _ _ (aBoxes m c) fs hd (hpre c)), e1.trans (ids_eq _ _ _ _ (aBoxes m c) fs hd (hpre c)),
      e2.trans (boxes_eq _ _ _ _ (aBoxes m c) fs hd (hpre c)), ha⟩
  · refine (θ_run Cert.ReferenceIdeal.defs _ _).mono (fun r h c => ?_) (Cert.ReferenceIdeal.Value.run (F := Ideal) m' g')
    obtain ⟨e0, e1, e2, ha⟩ := h c
    obtain ⟨h0, h1, h2, h3, h4⟩ := hargs c
    exact ⟨e0.trans (ref_values m' c h0 h1 h2 h3), e1.trans (ref_ids m' c h0 h1 h2 h3), e2.trans (ref_boxes m' c h0 h1 h2 h3 h4), ha⟩

namespace Rows

/-- The row stage's precondition gives what its run asks of its arguments. -/
theorem allFit_of_pre {F : FTy → Type} [FloatOps F] (m : (ℓ : Loc Cert.RowsKernelIdeal.nD Cert.RowsKernelIdeal.τ Cert.RowsKernelIdeal.sig) → Buf (Elt F) ℓ)
    (hpre : ∀ d, Cert.Pre_rows_fit.fn (F := F) (Stage2.aSig m d) (Stage2.aBig m d) (Stage2.aAt m d) (Stage2.aTv m d) (Stage2.aTs m d) = fun _ => 1#1) : Stage2.AllFit m :=
  fun d b => (Stage2.fits_of_pre _ _ _ _ _ (hpre d) b).1

/-- The row kernel runs and leaves its arguments and semaphores alone. -/
theorem frame_kernel : Cert.quiescent_RowsKernel := fun m ρ hpre =>
  (θ_run Cert.RowsKernelIdeal.defs _ _).mono (fun _ h => ⟨fun c => (h.1 c).1, h.2⟩) (Stage2.run_main (F := Bits) m ρ (allFit_of_pre (F := Bits) m hpre))

/-- So does its idealization. -/
theorem frame_ideal : Cert.quiescent_RowsKernelIdeal := fun m ρ hpre =>
  (θ_run Cert.RowsKernelIdeal.defs _ _).mono (fun _ h => ⟨fun c => (h.1 c).1, h.2⟩) (Stage2.run_main (F := Ideal) m ρ (allFit_of_pre (F := Ideal) m hpre))

/-- So does its reference. -/
theorem frame_reference : Cert.quiescent_RowsReferenceIdeal := fun m ρ _ =>
  (θ_run Cert.RowsReferenceIdeal.defs _ _).mono (fun r h => ⟨fun c => (h c).2.2, sem_eq_zero_of_no_sems (by decide) r.2⟩)
    (Cert.RowsReferenceIdeal.Value.run (F := Ideal) m ρ)

section Results

open Cert.RowsReferenceIdeal Cert.RowsReferenceIdeal.Gen Cert.RowsReferenceIdeal.Value

variable (m' : (ℓ : Loc nD τ sig) → Buf (Elt Ideal) ℓ) (c : Dev nD)
  {Sig : Vec Ideal S16x20000x80 .f32} {Big : Vec Ideal S16x20000 .f32} {At : Vec Ideal S16x20000 .i32} {Tv : Vec Ideal S16x1x16 .f32}
  {Ts : Vec Ideal S16x1x16 .i32}
  (h0 : m' ((c.tc : Thread nD τ).loc main_arg0) = Sig) (h1 : m' ((c.tc : Thread nD τ).loc main_arg1) = Big)
  (h2 : m' ((c.tc : Thread nD τ).loc main_arg2) = At) (h3 : m' ((c.tc : Thread nD τ).loc main_arg3) = Tv)
  (h4 : m' ((c.tc : Thread nD τ).loc main_arg4) = Ts)
include h1 h2 h3 h4

/-- The reference's queries. -/
theorem ref_queries : res_main_v17 m' c = Stage2.hQry Big At Tv Ts := by
  subst h1 h2 h3 h4
  unfold res_main_v17
  rfl

include h0

/-- The reference's rows of scores. -/
theorem ref_scores : res_main_v19 m' c = Host.gather gather_S16x20000x80_S16x300x1_S16x300x80_2_1_0_0_1_2_1180 Sig (Stage2.hRowIdx Big At Tv Ts) := by
  subst h0 h1 h2 h3 h4
  unfold res_main_v19
  rfl

end Results

/-- The row kernel's results are its reference's. -/
theorem value : Cert.algebraic_RowsKernelIdeal_RowsReferenceIdeal := by
  intro m g m' g' hpre hargs
  refine ⟨fun c => Host.gather Cert.RowsReferenceIdeal.gather_S16x20000x80_S16x300x1_S16x300x80_2_1_0_0_1_2_1180 (Stage2.aSig m c)
      (Stage2.hRowIdx (Stage2.aBig m c) (Stage2.aAt m c) (Stage2.aTv m c) (Stage2.aTs m c)),
    fun c => Stage2.hQry (Stage2.aBig m c) (Stage2.aAt m c) (Stage2.aTv m c) (Stage2.aTs m c), ?_, ?_⟩
  · refine (θ_run Cert.RowsKernelIdeal.defs _ _).mono (fun r h c => ?_) (Stage2.run_main (F := Ideal) m g (allFit_of_pre (F := Ideal) m hpre))
    obtain ⟨ha, fs, hd, e0, e1⟩ := h.1 c
    exact ⟨e0.trans (Stage2.scores_eq (Stage2.aSig m c) _ _ _ _ fs hd (hpre c)),
      e1.trans (Stage2.queries_eq (Stage2.aSig m c) _ _ _ _ fs hd (hpre c)), ha⟩
  · refine (θ_run Cert.RowsReferenceIdeal.defs _ _).mono (fun r h c => ?_) (Cert.RowsReferenceIdeal.Value.run (F := Ideal) m' g')
    obtain ⟨e0, e1, ha⟩ := h c
    obtain ⟨h0, h1, h2, h3, h4⟩ := hargs c
    exact ⟨e0.trans (ref_scores m' c h0 h1 h2 h3 h4), e1.trans (ref_queries m' c h1 h2 h3 h4), ha⟩

end Rows

namespace Sorting

/-- The sort kernel runs and leaves its arguments and semaphores alone. -/
theorem frame_kernel : Cert.quiescent_SortKernel := fun m ρ _ => Cert.SortKernel.Gen.frame (F := Bits) m ρ

/-- So does its idealization. -/
theorem frame_ideal : Cert.quiescent_SortKernelIdeal := fun m ρ _ => Cert.SortKernelIdeal.Gen.frame (F := Ideal) m ρ

/-- So does its reference. -/
theorem frame_reference : Cert.quiescent_SortReferenceIdeal := fun m ρ _ =>
  (θ_run Cert.SortReferenceIdeal.defs _ _).mono (fun r h => ⟨fun c => (h c).2.2.2, sem_eq_zero_of_no_sems (by decide) r.2⟩)
    (Cert.SortReferenceIdeal.Value.run (F := Ideal) m ρ)

/-- The sort kernel's results are its reference's. -/
theorem value : Cert.algebraic_SortKernelIdeal_SortReferenceIdeal := by
  intro m g m' g' hpre hargs
  have hd : ∀ c, Stage5.Differ m c := fun c => Stage5.differ_of_pre _ _ _ _ (hpre c)
  refine ⟨fun c => Stage5.labels (m (c.tc.loc Cert.SortKernelIdeal.main_arg0)) (m (c.tc.loc Cert.SortKernelIdeal.main_arg1)),
    fun c => Stage5.boxes (m (c.tc.loc Cert.SortKernelIdeal.main_arg0)) (m (c.tc.loc Cert.SortKernelIdeal.main_arg1))
      (m (c.tc.loc Cert.SortKernelIdeal.main_arg2)) (m (c.tc.loc Cert.SortKernelIdeal.main_arg3)),
    fun c => Stage5.scores (m (c.tc.loc Cert.SortKernelIdeal.main_arg0)) (m (c.tc.loc Cert.SortKernelIdeal.main_arg1)), ?_, ?_⟩
  · refine (θ_run Cert.SortKernelIdeal.defs _ _).mono (fun r h c => ?_) (Cert.SortKernelIdeal.Value.run_blocks (F := Ideal) m g)
    obtain ⟨e0, e1, e2, ha⟩ := h c
    exact ⟨e0.trans (Stage5.labels_eq m c (hd c)), e1.trans (Stage5.boxes_eq m c (hd c)), e2.trans (Stage5.scores_eq m c (hd c)), ha⟩
  · refine (θ_run Cert.SortReferenceIdeal.defs _ _).mono (fun r h c => ?_) (Cert.SortReferenceIdeal.Value.run (F := Ideal) m' g')
    obtain ⟨e0, e1, e2, ha⟩ := h c
    obtain ⟨h0, h1, h2, h3⟩ := hargs c
    refine ⟨e0.trans ?_, e1.trans ?_, e2.trans ?_, ha⟩
    · exact (Stage5.hLab_eq m' c).trans (by rw [h0, h1, h2, h3]; exact Stage5.hLab_labels _ _ _ _)
    · exact (Stage5.hBox_eq m' c).trans (by rw [h0, h1, h2, h3]; exact Stage5.hBox_boxes _ _ _ _)
    · refine (show _ = Stage5.hSco (m' (c.tc.loc Cert.SortReferenceIdeal.main_arg0)) (m' (c.tc.loc Cert.SortReferenceIdeal.main_arg1))
        (m' (c.tc.loc Cert.SortReferenceIdeal.main_arg2)) (m' (c.tc.loc Cert.SortReferenceIdeal.main_arg3)) from rfl).trans ?_
      rw [h0, h1, h2, h3]
      exact Stage5.hSco_scores _ _ _ _

end Sorting

namespace Scores

/-- The score kernel runs and leaves its argument and semaphores alone. -/
theorem frame_kernel : Cert.quiescent_ScoresKernel := fun m ρ _ => Stage1Word.run_main (F := Bits) m ρ

/-- So does its idealization. -/
theorem frame_ideal : Cert.quiescent_ScoresKernelIdeal := fun m ρ _ => Stage1.run_main (F := Ideal) m ρ

/-- So does its reference. -/
theorem frame_reference : Cert.quiescent_ScoresReferenceIdeal := fun m ρ _ =>
  (θ_run Cert.ScoresReferenceIdeal.defs _ _).mono (fun r h => ⟨fun c => (h c).2, sem_eq_zero_of_no_sems (by decide) r.2⟩)
    (Cert.ScoresReferenceIdeal.Value.run (F := Ideal) m ρ)

/-- The score kernel's result is its reference's. -/
theorem value : Cert.algebraic_ScoresKernelIdeal_ScoresReferenceIdeal := by
  intro m g m' g' _ hargs
  refine ⟨fun c => Stage1.scores (m (c.tc.loc Cert.ScoresKernelIdeal.main_arg0)), ?_, ?_⟩
  · refine (θ_run Cert.ScoresKernelIdeal.defs _ _).mono (fun r h c => ?_) (Stage1.run_scores (F := Ideal) m g)
    exact ⟨(h c).1.trans (Stage1.scores_eq m c), (h c).2⟩
  · refine (θ_run Cert.ScoresReferenceIdeal.defs _ _).mono (fun r h c => ?_) (Cert.ScoresReferenceIdeal.Value.run (F := Ideal) m' g')
    refine ⟨(h c).1.trans ?_, (h c).2⟩
    refine (show _ = Stage1.hScores (m' (c.tc.loc Cert.ScoresReferenceIdeal.main_arg0)) from rfl).trans ?_
    rw [hargs c]
    exact Stage1.hScores_eq _

end Scores

namespace Cutting

/-- The cut kernel runs and leaves its arguments and semaphores alone. -/
theorem frame_kernel : Cert.quiescent_CutKernel := fun m ρ _ => Stage3.run_main (F := Bits) m ρ

/-- So it does under its precondition. -/
theorem frame_kernel_fit : Cert.quiescent_CutKernel_pre_scores_fit := fun m ρ _ => Stage3.run_main (F := Bits) m ρ

/-- So does its reference. -/
theorem frame_reference : Cert.quiescent_CutReference := fun m ρ _ =>
  (θ_run Cert.CutReference.defs _ _).mono (fun r h => ⟨fun c => (h c).2.2, sem_eq_zero_of_no_sems (by decide) r.2⟩)
    (Cert.CutReference.Value.run (F := Bits) m ρ)

/-- So it does under the precondition. -/
theorem frame_reference_fit : Cert.quiescent_CutReference_pre_scores_fit := fun m ρ _ => frame_reference m ρ trivial

/-- The cut kernel's results are its reference's, bit for bit. -/
theorem value : Cert.bitexact_CutKernel_CutReference_pre_scores_fit := by
  intro m g m' g' hpre hargs
  have hf : ∀ c, Stage3.FitsAll m c := fun c b => Stage3.fits_of_pre _ _ (hpre c) b
  refine ⟨fun c => Stage3.hTv (F := Bits) (m (c.tc.loc Cert.CutKernel.main_arg0)) (m (c.tc.loc Cert.CutKernel.main_arg1)),
    fun c => Stage3.hTs (F := Bits) (m (c.tc.loc Cert.CutKernel.main_arg0)) (m (c.tc.loc Cert.CutKernel.main_arg1)), ?_, ?_⟩
  · refine (θ_run Cert.CutKernel.defs _ _).mono (fun r h c => ?_) (Stage3.run_cut (F := Bits) m g)
    obtain ⟨e0, e1, ha⟩ := h c
    exact ⟨e0.trans (Stage3.tv_eq m c (hf c)), e1.trans (Stage3.ts_eq m c (hf c)), ha⟩
  · refine (θ_run Cert.CutReference.defs _ _).mono (fun r h c => ?_) (Cert.CutReference.Value.run (F := Bits) m' g')
    obtain ⟨e0, e1, ha⟩ := h c
    obtain ⟨h0, h1⟩ := hargs c
    refine ⟨e0.trans ?_, e1.trans ?_, ha⟩
    · refine (show _ = Stage3.hTv (F := Bits) (m' (c.tc.loc Cert.CutReference.main_arg0)) (m' (c.tc.loc Cert.CutReference.main_arg1)) from rfl).trans ?_
      rw [h0, h1]
    · refine (show _ = Stage3.hTs (F := Bits) (m' (c.tc.loc Cert.CutReference.main_arg0)) (m' (c.tc.loc Cert.CutReference.main_arg1)) from rfl).trans ?_
      rw [h0, h1]

end Cutting

/-- Everything claimed. -/
theorem claim : Cert.Claim :=
  ⟨inferInstance, inferInstance, inferInstance, inferInstance, inferInstance, inferInstance, inferInstance, inferInstance, inferInstance,
    inferInstance, inferInstance, inferInstance, inferInstance, inferInstance, inferInstance, inferInstance, inferInstance, inferInstance,
    Scores.frame_kernel, Scores.frame_ideal, Scores.frame_reference, frame_kernel, frame_ideal, frame_reference,
    Rows.frame_kernel, Rows.frame_ideal, Rows.frame_reference, Sorting.frame_kernel, Sorting.frame_ideal, Sorting.frame_reference,
    Cutting.frame_kernel, Cutting.frame_kernel_fit, Cutting.frame_reference, Cutting.frame_reference_fit,
    trivial, Scores.value, trivial, value, trivial, Rows.value, trivial, Sorting.value,
    Cutting.value⟩

end Cert.Proof

end
